-- ==== Defs.lean ====
def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gate_finite [hPre_gate_finite : Cert.Pre_gate_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gate_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_gate_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_gate_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_gate_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gate_finite [hPre_gate_finite : Cert.Pre_gate_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gate_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_gate_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_gate_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_gate_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mla_finite [hPre_mla_finite : Cert.Pre_mla_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mla_finite [hPre_mla_finite : Cert.Pre_mla_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_dil_finite [hPre_dil_finite : Cert.Pre_dil_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_dil_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_dil_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_dil_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_dil_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_dil_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_dil_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_dil_finite [hPre_dil_finite : Cert.Pre_dil_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_dil_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_dil_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_dil_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_dil_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_dil_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_dil_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_norm_finite [hPre_norm_finite : Cert.Pre_norm_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.1 = (fun _ => 1#1)
    ∧ (Cert.Pre_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.1 = (fun _ => 1#1)
    ∧ (Cert.Pre_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_norm_finite [hPre_norm_finite : Cert.Pre_norm_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.1 = (fun _ => 1#1)
    ∧ (Cert.Pre_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.1 = (fun _ => 1#1)
    ∧ (Cert.Pre_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_rank_finite [hPre_rank_finite : Cert.Pre_rank_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_rank_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_rank_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_rank_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_rank_finite [hPre_rank_finite : Cert.Pre_rank_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_rank_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_rank_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_rank_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_rank_finite [hPre_rank_finite : Cert.Pre_rank_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_rank_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_rank_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.1 = (fun _ => 1#1)
    ∧ (Cert.Pre_rank_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_rank_finite [hPre_rank_finite : Cert.Pre_rank_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_rank_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_rank_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.1 = (fun _ => 1#1)
    ∧ (Cert.Pre_rank_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_gate_finite [hKernel3Ideal : Cert.Kernel3Ideal.Facts] [hPre_gate_finite : Cert.Pre_gate_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gate_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_gate_finite [hReference3Ideal : Cert.Reference3Ideal.Facts] [hPre_gate_finite : Cert.Pre_gate_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gate_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_mla_finite [hKernelIdeal : Cert.KernelIdeal.Facts] [hPre_mla_finite : Cert.Pre_mla_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mla_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_mla_finite [hReferenceIdeal : Cert.ReferenceIdeal.Facts] [hPre_mla_finite : Cert.Pre_mla_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mla_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_dil_finite [hKernel2Ideal : Cert.Kernel2Ideal.Facts] [hPre_dil_finite : Cert.Pre_dil_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_dil_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_dil_finite [hReference2Ideal : Cert.Reference2Ideal.Facts] [hPre_dil_finite : Cert.Pre_dil_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_dil_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_norm_finite [hKernel4Ideal : Cert.Kernel4Ideal.Facts] [hPre_norm_finite : Cert.Pre_norm_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_norm_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_norm_finite [hReference4Ideal : Cert.Reference4Ideal.Facts] [hPre_norm_finite : Cert.Pre_norm_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_norm_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_rank_finite [hKernel5Ideal : Cert.Kernel5Ideal.Facts] [hPre_rank_finite : Cert.Pre_rank_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_rank_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_rank_finite [hReference5Ideal : Cert.Reference5Ideal.Facts] [hPre_rank_finite : Cert.Pre_rank_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_rank_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_rank_finite [hKernel6Ideal : Cert.Kernel6Ideal.Facts] [hPre_rank_finite : Cert.Pre_rank_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_rank_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_rank_finite [hReference6Ideal : Cert.Reference6Ideal.Facts] [hPre_rank_finite : Cert.Pre_rank_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_rank_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def preserves_Kernel3_Kernel3Ideal : Prop :=
  True

def algebraic_Kernel3Ideal_Reference3Ideal_pre_gate_finite [hKernel3Ideal : Cert.Kernel3Ideal.Facts] [hReference3Ideal : Cert.Reference3Ideal.Facts] [hPre_gate_finite : Cert.Pre_gate_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gate_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_2)) (v1 : (c : Dev Cert.Kernel3Ideal.nD) → Buf (Elt Ideal) ((c.tc : Thread Cert.Kernel3Ideal.nD Cert.Kernel3Ideal.τ).loc Cert.Kernel3Ideal.main_v5_0)) (v2 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_2) = v0 c
          ∧ r.2.mem ((c.tc : Thread Cert.Kernel3Ideal.nD Cert.Kernel3Ideal.τ).loc Cert.Kernel3Ideal.main_v5_0) = v1 c
          ∧ r.2.mem ((c.tc : Thread Cert.Kernel3Ideal.nD Cert.Kernel3Ideal.τ).loc Cert.Kernel3Ideal.main_v5_1) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v15) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel_KernelIdeal : Prop :=
  IdealRules.named_const.Statement Cert.KernelIdeal.κ "mask" .f32 0xF149F2CA#32 ⊥

def algebraic_KernelIdeal_ReferenceIdeal_pre_mla_finite [hKernelIdeal : Cert.KernelIdeal.Facts] [hReferenceIdeal : Cert.ReferenceIdeal.Facts] [hPre_mla_finite : Cert.Pre_mla_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mla_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v61_0)) (v2 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v61_0) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥

def algebraic_Kernel2Ideal_Reference2Ideal_pre_dil_finite [hKernel2Ideal : Cert.Kernel2Ideal.Facts] [hReference2Ideal : Cert.Reference2Ideal.Facts] [hPre_dil_finite : Cert.Pre_dil_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_dil_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v41_0)) (v1 : (c : Dev Cert.Kernel2Ideal.nD) → Buf (Elt Ideal) ((c.tc : Thread Cert.Kernel2Ideal.nD Cert.Kernel2Ideal.τ).loc Cert.Kernel2Ideal.main_v79)) (v2 : (c : Dev Cert.Kernel2Ideal.nD) → Buf (Elt Ideal) ((c.tc : Thread Cert.Kernel2Ideal.nD Cert.Kernel2Ideal.τ).loc Cert.Kernel2Ideal.main_v80)) (v3 : (c : Dev Cert.Kernel2Ideal.nD) → Buf (Elt Ideal) ((c.tc : Thread Cert.Kernel2Ideal.nD Cert.Kernel2Ideal.τ).loc Cert.Kernel2Ideal.main_v81)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41_0) = v0 c
          ∧ r.2.mem ((c.tc : Thread Cert.Kernel2Ideal.nD Cert.Kernel2Ideal.τ).loc Cert.Kernel2Ideal.main_v79) = v1 c
          ∧ r.2.mem ((c.tc : Thread Cert.Kernel2Ideal.nD Cert.Kernel2Ideal.τ).loc Cert.Kernel2Ideal.main_v80) = v2 c
          ∧ r.2.mem ((c.tc : Thread Cert.Kernel2Ideal.nD Cert.Kernel2Ideal.τ).loc Cert.Kernel2Ideal.main_v81) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v209) = v0 c
          ∧ r.2.mem ((c.tc : Thread Cert.Reference2Ideal.nD Cert.Reference2Ideal.τ).loc Cert.Reference2Ideal.main_v212) = v1 c
          ∧ r.2.mem ((c.tc : Thread Cert.Reference2Ideal.nD Cert.Reference2Ideal.τ).loc Cert.Reference2Ideal.main_v215) = v2 c
          ∧ r.2.mem ((c.tc : Thread Cert.Reference2Ideal.nD Cert.Reference2Ideal.τ).loc Cert.Reference2Ideal.main_v218) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel4_Kernel4Ideal : Prop :=
  True

def algebraic_Kernel4Ideal_Reference4Ideal_pre_norm_finite [hKernel4Ideal : Cert.Kernel4Ideal.Facts] [hReference4Ideal : Cert.Reference4Ideal.Facts] [hPre_norm_finite : Cert.Pre_norm_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_norm_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v14)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v9_0)) (v3 : (c : Dev Cert.Kernel4Ideal.nD) → Buf (Elt Ideal) ((c.tc : Thread Cert.Kernel4Ideal.nD Cert.Kernel4Ideal.τ).loc Cert.Kernel4Ideal.main_v12_0)) (v4 : (c : Dev Cert.Kernel4Ideal.nD) → Buf (Elt Ideal) ((c.tc : Thread Cert.Kernel4Ideal.nD Cert.Kernel4Ideal.τ).loc Cert.Kernel4Ideal.main_v6_0)) (v5 : (c : Dev Cert.Kernel4Ideal.nD) → Buf (Elt Ideal) ((c.tc : Thread Cert.Kernel4Ideal.nD Cert.Kernel4Ideal.τ).loc Cert.Kernel4Ideal.main_v13)) (v6 : (c : Dev Cert.Kernel4Ideal.nD) → Buf (Elt Ideal) ((c.tc : Thread Cert.Kernel4Ideal.nD Cert.Kernel4Ideal.τ).loc Cert.Kernel4Ideal.main_v10)) (v7 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v9_0) = v2 c
          ∧ r.2.mem ((c.tc : Thread Cert.Kernel4Ideal.nD Cert.Kernel4Ideal.τ).loc Cert.Kernel4Ideal.main_v12_0) = v3 c
          ∧ r.2.mem ((c.tc : Thread Cert.Kernel4Ideal.nD Cert.Kernel4Ideal.τ).loc Cert.Kernel4Ideal.main_v6_0) = v4 c
          ∧ r.2.mem ((c.tc : Thread Cert.Kernel4Ideal.nD Cert.Kernel4Ideal.τ).loc Cert.Kernel4Ideal.main_v13) = v5 c
          ∧ r.2.mem ((c.tc : Thread Cert.Kernel4Ideal.nD Cert.Kernel4Ideal.τ).loc Cert.Kernel4Ideal.main_v10) = v6 c
          ∧ r.2.mem ((c.tc : Thread Cert.Kernel4Ideal.nD Cert.Kernel4Ideal.τ).loc Cert.Kernel4Ideal.main_v7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_v130) = v1 c
          ∧ r.2.mem ((c.tc : Thread Cert.Reference4Ideal.nD Cert.Reference4Ideal.τ).loc Cert.Reference4Ideal.main_v109) = v2 c
          ∧ r.2.mem ((c.tc : Thread Cert.Reference4Ideal.nD Cert.Reference4Ideal.τ).loc Cert.Reference4Ideal.main_v131) = v3 c
          ∧ r.2.mem ((c.tc : Thread Cert.Reference4Ideal.nD Cert.Reference4Ideal.τ).loc Cert.Reference4Ideal.main_v132) = v4 c
          ∧ r.2.mem ((c.tc : Thread Cert.Reference4Ideal.nD Cert.Reference4Ideal.τ).loc Cert.Reference4Ideal.main_v115) = v5 c
          ∧ r.2.mem ((c.tc : Thread Cert.Reference4Ideal.nD Cert.Reference4Ideal.τ).loc Cert.Reference4Ideal.main_v94) = v6 c
          ∧ r.2.mem ((c.tc : Thread Cert.Reference4Ideal.nD Cert.Reference4Ideal.τ).loc Cert.Reference4Ideal.main_v74) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_rank_finite [hKernel5Ideal : Cert.Kernel5Ideal.Facts] [hReference5Ideal : Cert.Reference5Ideal.Facts] [hPre_rank_finite : Cert.Pre_rank_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_rank_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_rank_finite [hKernel6Ideal : Cert.Kernel6Ideal.Facts] [hReference6Ideal : Cert.Reference6Ideal.Facts] [hPre_rank_finite : Cert.Pre_rank_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_rank_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def Claim : Prop :=
  ∃ (hKernel3 : Cert.Kernel3.Facts) (hKernel3Ideal : Cert.Kernel3Ideal.Facts) (hReference3Ideal : Cert.Reference3Ideal.Facts) (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_gate_finite : Cert.Pre_gate_finite.Facts) (hPre_mla_finite : Cert.Pre_mla_finite.Facts) (hPre_dil_finite : Cert.Pre_dil_finite.Facts) (hPre_norm_finite : Cert.Pre_norm_finite.Facts) (hPre_rank_finite : Cert.Pre_rank_finite.Facts),
    quiescent_Kernel3 (hKernel3 := hKernel3)
    ∧ quiescent_Kernel3Ideal (hKernel3Ideal := hKernel3Ideal)
    ∧ quiescent_Kernel3Ideal_pre_gate_finite (hKernel3Ideal := hKernel3Ideal) (hPre_gate_finite := hPre_gate_finite)
    ∧ quiescent_Reference3Ideal (hReference3Ideal := hReference3Ideal)
    ∧ quiescent_Reference3Ideal_pre_gate_finite (hReference3Ideal := hReference3Ideal) (hPre_gate_finite := hPre_gate_finite)
    ∧ quiescent_Kernel (hKernel := hKernel)
    ∧ quiescent_KernelIdeal (hKernelIdeal := hKernelIdeal)
    ∧ quiescent_KernelIdeal_pre_mla_finite (hKernelIdeal := hKernelIdeal) (hPre_mla_finite := hPre_mla_finite)
    ∧ quiescent_ReferenceIdeal (hReferenceIdeal := hReferenceIdeal)
    ∧ quiescent_ReferenceIdeal_pre_mla_finite (hReferenceIdeal := hReferenceIdeal) (hPre_mla_finite := hPre_mla_finite)
    ∧ quiescent_Kernel2 (hKernel2 := hKernel2)
    ∧ quiescent_Kernel2Ideal (hKernel2Ideal := hKernel2Ideal)
    ∧ quiescent_Kernel2Ideal_pre_dil_finite (hKernel2Ideal := hKernel2Ideal) (hPre_dil_finite := hPre_dil_finite)
    ∧ quiescent_Reference2Ideal (hReference2Ideal := hReference2Ideal)
    ∧ quiescent_Reference2Ideal_pre_dil_finite (hReference2Ideal := hReference2Ideal) (hPre_dil_finite := hPre_dil_finite)
    ∧ quiescent_Kernel4 (hKernel4 := hKernel4)
    ∧ quiescent_Kernel4Ideal (hKernel4Ideal := hKernel4Ideal)
    ∧ quiescent_Kernel4Ideal_pre_norm_finite (hKernel4Ideal := hKernel4Ideal) (hPre_norm_finite := hPre_norm_finite)
    ∧ quiescent_Reference4Ideal (hReference4Ideal := hReference4Ideal)
    ∧ quiescent_Reference4Ideal_pre_norm_finite (hReference4Ideal := hReference4Ideal) (hPre_norm_finite := hPre_norm_finite)
    ∧ quiescent_Kernel5 (hKernel5 := hKernel5)
    ∧ quiescent_Kernel5Ideal (hKernel5Ideal := hKernel5Ideal)
    ∧ quiescent_Kernel5Ideal_pre_rank_finite (hKernel5Ideal := hKernel5Ideal) (hPre_rank_finite := hPre_rank_finite)
    ∧ quiescent_Reference5Ideal (hReference5Ideal := hReference5Ideal)
    ∧ quiescent_Reference5Ideal_pre_rank_finite (hReference5Ideal := hReference5Ideal) (hPre_rank_finite := hPre_rank_finite)
    ∧ quiescent_Kernel6 (hKernel6 := hKernel6)
    ∧ quiescent_Kernel6Ideal (hKernel6Ideal := hKernel6Ideal)
    ∧ quiescent_Kernel6Ideal_pre_rank_finite (hKernel6Ideal := hKernel6Ideal) (hPre_rank_finite := hPre_rank_finite)
    ∧ quiescent_Reference6Ideal (hReference6Ideal := hReference6Ideal)
    ∧ quiescent_Reference6Ideal_pre_rank_finite (hReference6Ideal := hReference6Ideal) (hPre_rank_finite := hPre_rank_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel3_Kernel3Ideal
    ∧ algebraic_Kernel3Ideal_Reference3Ideal_pre_gate_finite (hKernel3Ideal := hKernel3Ideal) (hReference3Ideal := hReference3Ideal) (hPre_gate_finite := hPre_gate_finite)
    ∧ preserves_Kernel_KernelIdeal
    ∧ algebraic_KernelIdeal_ReferenceIdeal_pre_mla_finite (hKernelIdeal := hKernelIdeal) (hReferenceIdeal := hReferenceIdeal) (hPre_mla_finite := hPre_mla_finite)
    ∧ preserves_Kernel2_Kernel2Ideal
    ∧ algebraic_Kernel2Ideal_Reference2Ideal_pre_dil_finite (hKernel2Ideal := hKernel2Ideal) (hReference2Ideal := hReference2Ideal) (hPre_dil_finite := hPre_dil_finite)
    ∧ preserves_Kernel4_Kernel4Ideal
    ∧ algebraic_Kernel4Ideal_Reference4Ideal_pre_norm_finite (hKernel4Ideal := hKernel4Ideal) (hReference4Ideal := hReference4Ideal) (hPre_norm_finite := hPre_norm_finite)
    ∧ preserves_Kernel5_Kernel5Ideal
    ∧ algebraic_Kernel5Ideal_Reference5Ideal_pre_rank_finite (hKernel5Ideal := hKernel5Ideal) (hReference5Ideal := hReference5Ideal) (hPre_rank_finite := hPre_rank_finite)
    ∧ preserves_Kernel6_Kernel6Ideal
    ∧ algebraic_Kernel6Ideal_Reference6Ideal_pre_rank_finite (hKernel6Ideal := hKernel6Ideal) (hReference6Ideal := hReference6Ideal) (hPre_rank_finite := hPre_rank_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_dil_finite.lean ====
abbrev S8192x1024 : Shape := ⟨2, ![8192, 1024]⟩
abbrev S8192x16 : Shape := ⟨2, ![8192, 16]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x16 : S_.BroadcastsInDim S8192x16 (![] : Fin 0 → Fin S8192x16.rank)

variable [Facts]

def fn_part1 {F : FTy → Type} [FloatOps F] (main_v3 : IVec S8192x1024 1) (main_v7 : IVec S8192x1024 1) (main_v11 : IVec S8192x1024 1) (main_v14 : IVec S8192x16 1) (main_v17 : IVec S8192x16 1) (main_v18 : FVec F S8192x1024 .f32) : IVec S8192x1024 1 × IVec S8192x1024 1 × IVec S8192x1024 1 × IVec S8192x16 1 × IVec S8192x16 1 × IVec S8192x1024 1 :=
  let main_v19 : FVec F S8192x1024 .f32 := Host.absf main_v18
  let main_cst_4 : FVec F S_ .f32 := constant S_ .f32 0x7F800000#32
  let main_v20 : FVec F S8192x1024 .f32 := broadcastInDim S8192x1024 ![] bcast_S_S8192x1024 main_cst_4
  let main_v21 : IVec S8192x1024 1 := cmpf .olt main_v19 main_v20
  (main_v3, main_v7, main_v11, main_v14, main_v17, main_v21)

def fn {F : FTy → Type} [FloatOps F] (main_arg0 : FVec F S8192x1024 .bf16) (main_arg1 : FVec F S8192x1024 .bf16) (main_arg2 : FVec F S8192x1024 .bf16) (main_arg3 : FVec F S8192x16 .f32) (main_arg4 : FVec F S8192x16 .f32) (main_arg5 : FVec F S8192x1024 .bf16) : IVec S8192x1024 1 × IVec S8192x1024 1 × IVec S8192x1024 1 × IVec S8192x16 1 × IVec S8192x16 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x16 .f32 := Host.absf main_arg3
  let main_cst_2 : FVec F S_ .f32 := constant S_ .f32 0x7F800000#32
  let main_v13 : FVec F S8192x16 .f32 := broadcastInDim S8192x16 ![] bcast_S_S8192x16 main_cst_2
  let main_v14 : IVec S8192x16 1 := cmpf .olt main_v12 main_v13
  let main_v15 : FVec F S8192x16 .f32 := Host.absf main_arg4
  let main_cst_3 : FVec F S_ .f32 := constant S_ .f32 0x7F800000#32
  let main_v16 : FVec F S8192x16 .f32 := broadcastInDim S8192x16 ![] bcast_S_S8192x16 main_cst_3
  let main_v17 : IVec S8192x16 1 := cmpf .olt main_v15 main_v16
  let main_v18 : FVec F S8192x1024 .f32 := (extf .f32 · bitsLt_bf16_f32) main_arg5
  fn_part1 (F := F) main_v3 main_v7 main_v11 main_v14 main_v17 main_v18
-- ==== Pre_gate_finite.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S8192x2048 .bf16) (main_arg1 : FVec F S2048x5632 .bf16) (main_arg2 : FVec F S2048x5632 .bf16) (main_arg3 : FVec F S5632x2048 .bf16) (main_arg4 : FVec F S8192x2048 .bf16) : IVec S8192x2048 1 × IVec S2048x5632 1 × IVec S5632x2048 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S2048x5632 .f32 := (extf .f32 · bitsLt_bf16_f32) main_arg2
  let main_v5 : FVec F S2048x5632 .f32 := Host.absf main_v4
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  let main_v8 : FVec F S5632x2048 .f32 := (extf .f32 · bitsLt_bf16_f32) main_arg3
  let main_v9 : FVec F S5632x2048 .f32 := Host.absf main_v8
  let main_cst_1 : FVec F S_ .f32 := constant S_ .f32 0x7F800000#32
  let main_v10 : FVec F S5632x2048 .f32 := broadcastInDim S5632x2048 ![] bcast_S_S5632x2048 main_cst_1
  let main_v11 : IVec S5632x2048 1 := cmpf .olt main_v9 main_v10
  let main_v12 : FVec F S8192x2048 .f32 := (extf .f32 · bitsLt_bf16_f32) main_arg4
  let main_v13 : FVec F S8192x2048 .f32 := Host.absf main_v12
  let main_cst_2 : FVec F S_ .f32 := constant S_ .f32 0x7F800000#32
  let main_v14 : FVec F S8192x2048 .f32 := broadcastInDim S8192x2048 ![] bcast_S_S8192x2048 main_cst_2
  let main_v15 : IVec S8192x2048 1 := cmpf .olt main_v13 main_v14
  (main_v3, main_v7, main_v11, main_v15)
-- ==== Pre_mla_finite.lean ====
abbrev S8192x1536 : Shape := ⟨2, ![8192, 1536]⟩
abbrev S8192x2048 : Shape := ⟨2, ![8192, 2048]⟩
abbrev S8192x64 : Shape := ⟨2, ![8192, 64]⟩
abbrev S8192x32 : Shape := ⟨2, ![8192, 32]⟩
abbrev S8192x1024 : Shape := ⟨2, ![8192, 1024]⟩
abbrev S_ : Shape := ⟨0, ![]⟩

class Facts : Prop where
  bcast_S_S8192x1536 : S_.BroadcastsInDim S8192x1536 (![] : Fin 0 → Fin S8192x1536.rank)
  bitsLt_bf16_f32 : FTy.bits .bf16 < FTy.bits .f32
  bcast_S_S8192x2048 : S_.BroadcastsInDim S8192x2048 (![] : Fin 0 → Fin S8192x2048.rank)
  bcast_S_S8192x64 : S_.BroadcastsInDim S8192x64 (![] : Fin 0 → Fin S8192x64.rank)
  bcast_S_S8192x32 : S_.BroadcastsInDim S8192x32 (![] : Fin 0 → Fin S8192x32.rank)
  bcast_S_S8192x1024 : S_.BroadcastsInDim S8192x1024 (![] : Fin 0 → Fin S8192x1024.rank)

variable [Facts]

def fn_part1 {F : FTy → Type} [FloatOps F] (main_v2 : IVec S8192x1536 1) (main_v6 : IVec S8192x2048 1) (main_v10 : IVec S8192x64 1) (main_v13 : IVec S8192x32 1) (main_v16 : IVec S8192x32 1) (main_v18 : FVec F S8192x1024 .f32) : IVec S8192x1536 1 × IVec S8192x2048 1 × IVec S8192x64 1 × IVec S8192x32 1 × IVec S8192x32 1 × IVec S8192x1024 1 :=
  let main_cst_4 : FVec F S_ .f32 := constant S_ .f32 0x7F800000#32
  let main_v19 : FVec F S8192x1024 .f32 := broadcastInDim S8192x1024 ![] bcast_S_S8192x1024 main_cst_4
  let main_v20 : IVec S8192x1024 1 := cmpf .olt main_v18 main_v19
  (main_v2, main_v6, main_v10, main_v13, main_v16, main_v20)

def fn {F : FTy → Type} [FloatOps F] (main_arg0 : FVec F S8192x1536 .f32) (main_arg1 : FVec F S8192x2048 .bf16) (main_arg2 : FVec F S8192x64 .bf16) (main_arg3 : FVec F S8192x32 .f32) (main_arg4 : FVec F S8192x32 .f32) (main_arg5 : FVec F S8192x1024 .bf16) : IVec S8192x1536 1 × IVec S8192x2048 1 × IVec S8192x64 1 × IVec S8192x32 1 × IVec S8192x32 1 × IVec S8192x1024 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_v3 : FVec F S8192x2048 .f32 := (extf .f32 · bitsLt_bf16_f32) main_arg1
  let main_v4 : FVec F S8192x2048 .f32 := Host.absf main_v3
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_v7 : FVec F S8192x64 .f32 := (extf .f32 · bitsLt_bf16_f32) main_arg2
  let main_v8 : FVec F S8192x64 .f32 := Host.absf main_v7
  let main_cst_1 : FVec F S_ .f32 := constant S_ .f32 0x7F800000#32
  let main_v9 : FVec F S8192x64 .f32 := broadcastInDim S8192x64 ![] bcast_S_S8192x64 main_cst_1
  let main_v10 : IVec S8192x64 1 := cmpf .olt main_v8 main_v9
  let main_v11 : FVec F S8192x32 .f32 := Host.absf main_arg3
  let main_cst_2 : FVec F S_ .f32 := constant S_ .f32 0x7F800000#32
  let main_v12 : FVec F S8192x32 .f32 := broadcastInDim S8192x32 ![] bcast_S_S8192x32 main_cst_2
  let main_v13 : IVec S8192x32 1 := cmpf .olt main_v11 main_v12
  let main_v14 : FVec F S8192x32 .f32 := Host.absf main_arg4
  let main_cst_3 : FVec F S_ .f32 := constant S_ .f32 0x7F800000#32
  let main_v15 : FVec F S8192x32 .f32 := broadcastInDim S8192x32 ![] bcast_S_S8192x32 main_cst_3
  let main_v16 : IVec S8192x32 1 := cmpf .olt main_v14 main_v15
  let main_v17 : FVec F S8192x1024 .f32 := (extf .f32 · bitsLt_bf16_f32) main_arg5
  let main_v18 : FVec F S8192x1024 .f32 := Host.absf main_v17
  fn_part1 (F := F) main_v2 main_v6 main_v10 main_v13 main_v16 main_v18
-- ==== Pre_norm_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)

variable [Facts]

def fn_part1 {F : FTy → Type} [FloatOps F] (main_arg6 : FVec F S8192x2048 .f32) (main_arg7 : FVec F S8192x2048 .f32) (main_v2 : IVec S8192x2048 1) (main_v5 : IVec S8192x2048 1) (main_v8 : IVec S8192x2048 1) (main_v11 : IVec S2048 1) (main_v14 : IVec S2048 1) (main_v17 : IVec S2048 1) : IVec S8192x2048 1 × IVec S8192x2048 1 × IVec S8192x2048 1 × IVec S2048 1 × IVec S2048 1 × IVec S2048 1 × IVec S8192x2048 1 × IVec S8192x2048 1 :=
  let main_v18 : FVec F S8192x2048 .f32 := Host.absf main_arg6
  let main_cst_5 : FVec F S_ .f32 := constant S_ .f32 0x7F800000#32
  let main_v19 : FVec F S8192x2048 .f32 := broadcastInDim S8192x2048 ![] bcast_S_S8192x2048 main_cst_5
  let main_v20 : IVec S8192x2048 1 := cmpf .olt main_v18 main_v19
  let main_v21 : FVec F S8192x2048 .f32 := Host.absf main_arg7
  let main_cst_6 : FVec F S_ .f32 := constant S_ .f32 0x7F800000#32
  let main_v22 : FVec F S8192x2048 .f32 := broadcastInDim S8192x2048 ![] bcast_S_S8192x2048 main_cst_6
  let main_v23 : IVec S8192x2048 1 := cmpf .olt main_v21 main_v22
  (main_v2, main_v5, main_v8, main_v11, main_v14, main_v17, main_v20, main_v23)

def fn {F : FTy → Type} [FloatOps F] (main_arg0 : FVec F S8192x2048 .f32) (main_arg1 : FVec F S8192x2048 .f32) (main_arg2 : FVec F S8192x2048 .f32) (main_arg3 : FVec F S2048 .f32) (main_arg4 : FVec F S2048 .f32) (main_arg5 : FVec F S2048 .f32) (main_arg6 : FVec F S8192x2048 .f32) (main_arg7 : FVec F S8192x2048 .f32) : IVec S8192x2048 1 × IVec S8192x2048 1 × IVec S8192x2048 1 × IVec S2048 1 × IVec S2048 1 × IVec S2048 1 × IVec S8192x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S2048 .f32 := Host.absf main_arg5
  let main_cst_4 : FVec F S_ .f32 := constant S_ .f32 0x7F800000#32
  let main_v16 : FVec F S2048 .f32 := broadcastInDim S2048 ![] bcast_S_S2048 main_cst_4
  let main_v17 : IVec S2048 1 := cmpf .olt main_v15 main_v16
  fn_part1 (F := F) main_arg6 main_arg7 main_v2 main_v5 main_v8 main_v11 main_v14 main_v17
-- ==== Pre_rank_finite.lean ====
abbrev S8192x4224 : Shape := ⟨2, ![8192, 4224]⟩
abbrev S512 : Shape := ⟨1, ![512]⟩
abbrev S8192x512 : Shape := ⟨2, ![8192, 512]⟩
abbrev S_ : Shape := ⟨0, ![]⟩

class Facts : Prop where
  bitsLt_bf16_f32 : FTy.bits .bf16 < FTy.bits .f32
  bcast_S_S8192x4224 : S_.BroadcastsInDim S8192x4224 (![] : Fin 0 → Fin S8192x4224.rank)
  bcast_S_S512 : S_.BroadcastsInDim S512 (![] : Fin 0 → Fin S512.rank)
  bcast_S_S8192x512 : S_.BroadcastsInDim S8192x512 (![] : Fin 0 → Fin S8192x512.rank)

variable [Facts]

def fn {F : FTy → Type} [FloatOps F] (main_arg0 : FVec F S8192x4224 .bf16) (main_arg1 : FVec F S512 .f32) (main_arg2 : FVec F S8192x512 .f32) : IVec S8192x4224 1 × IVec S512 1 × IVec S8192x512 1 :=
  let main_v0 : FVec F S8192x4224 .f32 := (extf .f32 · bitsLt_bf16_f32) main_arg0
  let main_v1 : FVec F S8192x4224 .f32 := Host.absf main_v0
  let main_cst : FVec F S_ .f32 := constant S_ .f32 0x7F800000#32
  let main_v2 : FVec F S8192x4224 .f32 := broadcastInDim S8192x4224 ![] bcast_S_S8192x4224 main_cst
  let main_v3 : IVec S8192x4224 1 := cmpf .olt main_v1 main_v2
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_v7 : FVec F S8192x512 .f32 := Host.absf main_arg2
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  (main_v3, main_v6, main_v9)
-- ==== Kernel3.lean ====
abbrev S8192x2048 : Shape := ⟨2, ![8192, 2048]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S1024x2048 : Shape := ⟨2, ![1024, 2048]⟩
abbrev S1024x512 : Shape := ⟨2, ![1024, 512]⟩

abbrev nBuf : Space → Nat
  | .hbm => 14
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8192x2048, .bf16⟩
  | .hbm, ⟨5, _⟩ => ⟨S2048x4x1408, .bf16⟩
  | .hbm, ⟨6, _⟩ => ⟨S4x2048x1408, .bf16⟩
  | .hbm, ⟨7, _⟩ => ⟨S2048x4x1408, .bf16⟩
  | .hbm, ⟨8, _⟩ => ⟨S4x2048x1408, .bf16⟩
  | .hbm, ⟨9, _⟩ => ⟨S8192x5632, .bf16⟩
  | .hbm, ⟨10, _⟩ => ⟨S8192x5632, .bf16⟩
  | .hbm, ⟨11, _⟩ => ⟨S8192x5632, .bf16⟩
  | .hbm, ⟨12, _⟩ => ⟨S8192x5632, .bf16⟩
  | .hbm, ⟨13, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference3Ideal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8192x2048, .bf16⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S5632x2048, .f32⟩
  | .hbm, ⟨22, _⟩ => ⟨S8192x2048, .f32⟩
  | .hbm, ⟨23, _⟩ => ⟨S8192x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .bf16⟩
  | .hbm, ⟨42, _⟩ => ⟨S8192x5632, .bf16⟩
  | .hbm, ⟨43, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩

abbrev nD : Nat := 1
abbrev τ : Topo := Topo.v7x

variable {F : FTy → Type} [FloatOps F]
-- ==== Kernel.lean ====
abbrev S8192x1536 : Shape := ⟨2, ![8192, 1536]⟩
abbrev S8192x2048 : Shape := ⟨2, ![8192, 2048]⟩
abbrev S8192x64 : Shape := ⟨2, ![8192, 64]⟩
abbrev S8192x32 : Shape := ⟨2, ![8192, 32]⟩
abbrev S8192x1024 : Shape := ⟨2, ![8192, 1024]⟩
abbrev S_ : Shape := ⟨0, ![]⟩
abbrev S8192x128 : Shape := ⟨2, ![8192, 128]⟩
abbrev S8192x256 : Shape := ⟨2, ![8192, 256]⟩
abbrev S8192x160 : Shape := ⟨2, ![8192, 160]⟩
abbrev S8192x96 : Shape := ⟨2, ![8192, 96]⟩
abbrev S8192x224 : Shape := ⟨2, ![8192, 224]⟩
abbrev S8192x0 : Shape := ⟨2, ![8192, 0]⟩
abbrev S8192x8x192 : Shape := ⟨3, ![8192, 8, 192]⟩
abbrev S8192x8x256 : Shape := ⟨3, ![8192, 8, 256]⟩
abbrev S256x2048 : Shape := ⟨2, ![256, 2048]⟩
abbrev S256x256 : Shape := ⟨2, ![256, 256]⟩
abbrev S256x128 : Shape := ⟨2, ![256, 128]⟩
abbrev S512x512 : Shape := ⟨2, ![512, 512]⟩
abbrev S8192x512 : Shape := ⟨2, ![8192, 512]⟩
abbrev S512x256 : Shape := ⟨2, ![512, 256]⟩
abbrev S2x512x128 : Shape := ⟨3, ![2, 512, 128]⟩
abbrev S2x512x256 : Shape := ⟨3, ![2, 512, 256]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩
abbrev S256x1024 : Shape := ⟨2, ![256, 1024]⟩
abbrev S256 : Shape := ⟨1, ![256]⟩
abbrev S256x1 : Shape := ⟨2, ![256, 1]⟩
abbrev S8192x8 : Shape := ⟨2, ![8192, 8]⟩
abbrev S8x8192 : Shape := ⟨2, ![8, 8192]⟩
abbrev S8x1x8192 : Shape := ⟨3, ![8, 1, 8192]⟩
abbrev S2x1x8192 : Shape := ⟨3, ![2, 1, 8192]⟩
abbrev S1x1x512 : Shape := ⟨3, ![1, 1, 512]⟩
abbrev S1x512 : Shape := ⟨2, ![1, 512]⟩

abbrev nBuf : Space → Nat
  | .hbm => 111
  | .vmem => 100
  | .smem => 0
  | _ => 0

abbrev bufTy : (tb : Table) → Fin (tcTables nBuf tb) → BufTy
  | .hbm, ⟨0, _⟩ => ⟨S8192x1536, .f32⟩
  | .hbm, ⟨1, _⟩ => ⟨S8192x2048, .bf16⟩
  | .hbm, ⟨2, _⟩ => ⟨S8192x64, .bf16⟩
  | .hbm, ⟨3, _⟩ => ⟨S8192x32, .f32⟩
  | .hbm, ⟨4, _⟩ => ⟨S8192x32, .f32⟩
  | .hbm, ⟨5, _⟩ => ⟨S8192x1024, .bf16⟩
  | .hbm, ⟨6, _⟩ => ⟨S_, .f32⟩
  | .hbm, ⟨7, _⟩ => ⟨S8192x128, .f32⟩
  | .hbm, ⟨8, _⟩ => ⟨S_, .f32⟩
  | .hbm, ⟨9, _⟩ => ⟨S8192x64, .f32⟩
  | .hbm, ⟨10, _⟩ => ⟨S8192x256, .f32⟩
  | .hbm, ⟨11, _⟩ => ⟨S_, .f32⟩
  | .hbm, ⟨12, _⟩ => ⟨S8192x160, .f32⟩
  | .hbm, ⟨13, _⟩ => ⟨S_, .f32⟩
  | .hbm, ⟨14, _⟩ => ⟨S8192x64, .f32⟩
  | .hbm, ⟨15, _⟩ => ⟨S8192x256, .f32⟩
  | .hbm, ⟨16, _⟩ => ⟨S_, .f32⟩
  | .hbm, ⟨17, _⟩ => ⟨S8192x128, .f32⟩
  | .hbm, ⟨18, _⟩ => ⟨S8192x32, .f32⟩
  | .hbm, ⟨19, _⟩ => ⟨S_, .f32⟩
  | .hbm, ⟨20, _⟩ => ⟨S8192x96, .f32⟩
  | .hbm, ⟨21, _⟩ => ⟨S8192x256, .f32⟩
  | .hbm, ⟨22, _⟩ => ⟨S_, .f32⟩
  | .hbm, ⟨23, _⟩ => ⟨S8192x128, .f32⟩
  | .hbm, ⟨24, _⟩ => ⟨S_, .f32⟩
  | .hbm, ⟨25, _⟩ => ⟨S8192x64, .f32⟩
  | .hbm, ⟨26, _⟩ => ⟨S8192x256, .f32⟩
  | .hbm, ⟨27, _⟩ => ⟨S_, .f32⟩
  | .hbm, ⟨28, _⟩ => ⟨S8192x160, .f32⟩
  | .hbm, ⟨29, _⟩ => ⟨S_, .f32⟩
  | .hbm, ⟨30, _⟩ => ⟨S8192x64, .f32⟩
  | .hbm, ⟨31, _⟩ => ⟨S8192x256, .f32⟩
  | .hbm, ⟨32, _⟩ => ⟨S_, .f32⟩
  | .hbm, ⟨33, _⟩ => ⟨S8192x128, .f32⟩
  | .hbm, ⟨34, _⟩ => ⟨S8192x32, .f32⟩
  | .hbm, ⟨35, _⟩ => ⟨S_, .f32⟩
  | .hbm, ⟨36, _⟩ => ⟨S8192x96, .f32⟩
  | .hbm, ⟨37, _⟩ => ⟨S8192x256, .f32⟩
  | .hbm, ⟨38, _⟩ => ⟨S8192x32, .f32⟩
  | .hbm, ⟨39, _⟩ => ⟨S8192x224, .f32⟩
  | .hbm, ⟨40, _⟩ => ⟨S8192x256, .f32⟩
  | .hbm, ⟨41, _⟩ => ⟨S8192x224, .f32⟩
  | .hbm, ⟨42, _⟩ => ⟨S8192x32, .f32⟩
  | .hbm, ⟨43, _⟩ => ⟨S8192x256, .f32⟩
  | .hbm, ⟨44, _⟩ => ⟨S_, .f32⟩
  | .hbm, ⟨45, _⟩ => ⟨S8192x0, .f32⟩
  | .hbm, ⟨46, _⟩ => ⟨S_, .f32⟩
  | .hbm, ⟨47, _⟩ => ⟨S8192x64, .f32⟩
  | .hbm, ⟨48, _⟩ => ⟨S8192x128, .f32⟩
  | .hbm, ⟨49, _⟩ => ⟨S_, .f32⟩
  | .hbm, ⟨50, _⟩ => ⟨S8192x32, .f32⟩
  | .hbm, ⟨51, _⟩ => ⟨S_, .f32⟩
  | .hbm, ⟨52, _⟩ => ⟨S8192x64, .f32⟩
  | .hbm, ⟨53, _⟩ => ⟨S8192x128, .f32⟩
  | .hbm, ⟨54, _⟩ => ⟨S_, .f32⟩
  | .hbm, ⟨55, _⟩ => ⟨S8192x0, .f32⟩
  | .hbm, ⟨56, _⟩ => ⟨S8192x32, .f32⟩
  | .hbm, ⟨57, _⟩ => ⟨S_, .f32⟩
  | .hbm, ⟨58, _⟩ => ⟨S8192x96, .f32⟩
  | .hbm, ⟨59, _⟩ => ⟨S8192x128, .f32⟩
  | .hbm, ⟨60, _⟩ => ⟨S_, .f32⟩
  | .hbm, ⟨61, _⟩ => ⟨S8192x0, .f32⟩
  | .hbm, ⟨62, _⟩ => ⟨S_, .f32⟩
  | .hbm, ⟨63, _⟩ => ⟨S8192x64, .f32⟩
  | .hbm, ⟨64, _⟩ => ⟨S8192x128, .f32⟩
  | .hbm, ⟨65, _⟩ => ⟨S_, .f32⟩
  | .hbm, ⟨66, _⟩ => ⟨S8192x32, .f32⟩
  | .hbm, ⟨67, _⟩ => ⟨S_, .f32⟩
  | .hbm, ⟨68, _⟩ => ⟨S8192x64, .f32⟩
  | .hbm, ⟨69, _⟩ => ⟨S8192x128, .f32⟩
  | .hbm, ⟨70, _⟩ => ⟨S_, .f32⟩
  | .hbm, ⟨71, _⟩ => ⟨S8192x0, .f32⟩
  | .hbm, ⟨72, _⟩ => ⟨S8192x32, .f32⟩
  | .hbm, ⟨73, _⟩ => ⟨S_, .f32⟩
  | .hbm, ⟨74, _⟩ => ⟨S8192x96, .f32⟩
  | .hbm, ⟨75, _⟩ => ⟨S8192x128, .f32⟩
  | .hbm, ⟨76, _⟩ => ⟨S8192x32, .f32⟩
  | .hbm, ⟨77, _⟩ => ⟨S8192x96, .f32⟩
  | .hbm, ⟨78, _⟩ => ⟨S8192x128, .f32⟩
  | .hbm, ⟨79, _⟩ => ⟨S8192x96, .f32⟩
  | .hbm, ⟨80, _⟩ => ⟨S8192x32, .f32⟩
  | .hbm, ⟨81, _⟩ => ⟨S8192x128, .f32⟩
  | .hbm, ⟨82, _⟩ => ⟨S8192x8x192, .f32⟩
  | .hbm, ⟨83, _⟩ => ⟨S_, .i32⟩
  | .hbm, ⟨84, _⟩ => ⟨S_, .f32⟩
  | .hbm, ⟨85, _⟩ => ⟨S8192x8x256, .f32⟩
  | .hbm, ⟨86, _⟩ => ⟨S8192x2048, .f32⟩
  | .hbm, ⟨87, _⟩ => ⟨S8192x2048, .bf16⟩
  | .hbm, ⟨88, _⟩ => ⟨S_, .i32⟩
  | .hbm, ⟨89, _⟩ => ⟨S_, .bf16⟩
  | .hbm, ⟨90, _⟩ => ⟨S8192x128, .bf16⟩
  | .hbm, ⟨91, _⟩ => ⟨S8192x2048, .bf16⟩
  | .hbm, ⟨92, _⟩ => ⟨S8192x1024, .bf16⟩
  | .hbm, ⟨93, _⟩ => ⟨S8192x1024, .f32⟩
  | .hbm, ⟨94, _⟩ => ⟨S8192x1024, .f32⟩
  | .hbm, ⟨95, _⟩ => ⟨S8192x2048, .f32⟩
  | .hbm, ⟨96, _⟩ => ⟨S8192x8, .f32⟩
  | .hbm, ⟨97, _⟩ => ⟨S8x8192, .f32⟩
  | .hbm, ⟨98, _⟩ => ⟨S8x1x8192, .f32⟩
  | .hbm, ⟨99, _⟩ => ⟨S8192x8, .f32⟩
  | .hbm, ⟨100, _⟩ => ⟨S8x8192, .f32⟩
  | .hbm, ⟨101, _⟩ => ⟨S8x1x8192, .f32⟩
  | .hbm, ⟨102, _⟩ => ⟨S8192x2048, .f32⟩
  | .hbm, ⟨103, _⟩ => ⟨S8192x1024, .f32⟩
  | .hbm, ⟨104, _⟩ => ⟨S8192x2048, .bf16⟩
  | .hbm, ⟨105, _⟩ => ⟨S8192x2048, .bf16⟩
  | .hbm, ⟨106, _⟩ => ⟨S8192x128, .bf16⟩
  | .hbm, ⟨107, _⟩ => ⟨S8192x8x256, .bf16⟩
  | .hbm, ⟨108, _⟩ => ⟨S8192x8x192, .bf16⟩
  | .hbm, ⟨109, _⟩ => ⟨S8192x1536, .bf16⟩
  | .hbm, ⟨110, _⟩ => ⟨S8192x64, .bf16⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x128, .bf16⟩
  | .local _ .vmem, ⟨13, _⟩ => ⟨S256x128, .bf16⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x2048, .bf16⟩
  | .local _ .vmem, ⟨21, _⟩ => ⟨S256x2048, .bf16⟩
  | .local _ .vmem, ⟨22, _⟩ => ⟨S512x512, .bf16⟩
  | .local _ .vmem, ⟨23, _⟩ => ⟨S512x512, .bf16⟩
  | .local _ .vmem, ⟨24, _⟩ => ⟨S8192x512, .bf16⟩
  | .local _ .vmem, ⟨25, _⟩ => ⟨S8192x512, .bf16⟩
  | .local _ .vmem, ⟨26, _⟩ => ⟨S8192x128, .bf16⟩
  | .local _ .vmem, ⟨27, _⟩ => ⟨S8192x128, .bf16⟩
  | .local _ .vmem, ⟨28, _⟩ => ⟨S8192x128, .bf16⟩
  | .local _ .vmem, ⟨29, _⟩ => ⟨S8192x128, .bf16⟩
  | .local _ .vmem, ⟨30, _⟩ => ⟨S512x256, .bf16⟩
  | .local _ .vmem, ⟨31, _⟩ => ⟨S512x256, .bf16⟩
  | .local _ .vmem, ⟨32, _⟩ => ⟨S512x256, .f32⟩
  | .local _ .vmem, ⟨33, _⟩ => ⟨S512x256, .f32⟩
  | .local _ .vmem, ⟨34, _⟩ => ⟨S2x512x128, .f32⟩
  | .local _ .vmem, ⟨35, _⟩ => ⟨S2x512x256, .f32⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .f32⟩
  | .local _ .vmem, ⟨41, _⟩ => ⟨S256x1024, .f32⟩
  | .local _ .vmem, ⟨42, _⟩ => ⟨S512x512, .bf16⟩
  | .local _ .vmem, ⟨43, _⟩ => ⟨S512x512, .bf16⟩
  | .local _ .vmem, ⟨44, _⟩ => ⟨S8192x512, .bf16⟩
  | .local _ .vmem, ⟨45, _⟩ => ⟨S8192x512, .bf16⟩
  | .local _ .vmem, ⟨46, _⟩ => ⟨S8192x128, .bf16⟩
  | .local _ .vmem, ⟨47, _⟩ => ⟨S8192x128, .bf16⟩
  | .local _ .vmem, ⟨48, _⟩ => ⟨S8192x128, .bf16⟩
  | .local _ .vmem, ⟨49, _⟩ => ⟨S8192x128, .bf16⟩
  | .local _ .vmem, ⟨50, _⟩ => ⟨S512x256, .bf16⟩
  | .local _ .vmem, ⟨51, _⟩ => ⟨S512x256, .bf16⟩
  | .local _ .vmem, ⟨52, _⟩ => ⟨S512x256, .f32⟩
  | .local _ .vmem, ⟨53, _⟩ => ⟨S512x256, .f32⟩
  | .local _ .vmem, ⟨54, _⟩ => ⟨S512x256, .f32⟩
  | .local _ .vmem, ⟨55, _⟩ => ⟨S512x256, .f32⟩
  | .local _ .vmem, ⟨56, _⟩ => ⟨S512x512, .f32⟩
  | .local _ .vmem, ⟨57, _⟩ => ⟨S512x512, .f32⟩
  | .local _ .vmem, ⟨58, _⟩ => ⟨S8192x512, .bf16⟩
  | .local _ .vmem, ⟨59, _⟩ => ⟨S8192x512, .bf16⟩
  | .local _ .vmem, ⟨60, _⟩ => ⟨S512x512, .bf16⟩
  | .local _ .vmem, ⟨61, _⟩ => ⟨S512x512, .bf16⟩
  | .local _ .vmem, ⟨62, _⟩ => ⟨S512x128, .bf16⟩
  | .local _ .vmem, ⟨63, _⟩ => ⟨S512x128, .bf16⟩
  | .local _ .vmem, ⟨64, _⟩ => ⟨S512x128, .bf16⟩
  | .local _ .vmem, ⟨65, _⟩ => ⟨S512x128, .bf16⟩
  | .local _ .vmem, ⟨66, _⟩ => ⟨S8192x256, .bf16⟩
  | .local _ .vmem, ⟨67, _⟩ => ⟨S8192x256, .bf16⟩
  | .local _ .vmem, ⟨68, _⟩ => ⟨S2x1x8192, .f32⟩
  | .local _ .vmem, ⟨69, _⟩ => ⟨S2x1x8192, .f32⟩
  | .local _ .vmem, ⟨70, _⟩ => ⟨S2x1x8192, .f32⟩
  | .local _ .vmem, ⟨71, _⟩ => ⟨S2x1x8192, .f32⟩
  | .local _ .vmem, ⟨72, _⟩ => ⟨S512x512, .f32⟩
  | .local _ .vmem, ⟨73, _⟩ => ⟨S512x512, .f32⟩
  | .local _ .vmem, ⟨74, _⟩ => ⟨S512x256, .f32⟩
  | .local _ .vmem, ⟨75, _⟩ => ⟨S512x256, .f32⟩
  | .local _ .vmem, ⟨76, _⟩ => ⟨S256x2048, .f32⟩
  | .local _ .vmem, ⟨77, _⟩ => ⟨S256x2048, .f32⟩
  | .local _ .vmem, ⟨78, _⟩ => ⟨S256x256, .f32⟩
  | .local _ .vmem, ⟨79, _⟩ => ⟨S256x256, .f32⟩
  | .local _ .vmem, ⟨80, _⟩ => ⟨S256x256, .f32⟩
  | .local _ .vmem, ⟨81, _⟩ => ⟨S256x256, .f32⟩
  | .local _ .vmem, ⟨82, _⟩ => ⟨S256x256, .f32⟩
  | .local _ .vmem, ⟨83, _⟩ => ⟨S256x256, .f32⟩
  | .local _ .vmem, ⟨84, _⟩ => ⟨S256x2048, .bf16⟩
  | .local _ .vmem, ⟨85, _⟩ => ⟨S256x2048, .bf16⟩
  | .local _ .vmem, ⟨86, _⟩ => ⟨S256x2048, .f32⟩
  | .local _ .vmem, ⟨87, _⟩ => ⟨S256x2048, .f32⟩
  | .local _ .vmem, ⟨88, _⟩ => ⟨S256x1024, .f32⟩
  | .local _ .vmem, ⟨89, _⟩ => ⟨S256x1024, .f32⟩
  | .local _ .vmem, ⟨90, _⟩ => ⟨S256x128, .f32⟩
  | .local _ .vmem, ⟨91, _⟩ => ⟨S256x128, .f32⟩
  | .local _ .vmem, ⟨92, _⟩ => ⟨S256x128, .f32⟩
  | .local _ .vmem, ⟨93, _⟩ => ⟨S256x128, .f32⟩
  | .local _ .vmem, ⟨94, _⟩ => ⟨S256x128, .f32⟩
  | .local _ .vmem, ⟨95, _⟩ => ⟨S256x128, .f32⟩
  | .local _ .vmem, ⟨96, _⟩ => ⟨S256x2048, .bf16⟩
  | .local _ .vmem, ⟨97, _⟩ => ⟨S256x2048, .bf16⟩
  | .local _ .vmem, ⟨98, _⟩ => ⟨S256x128, .bf16⟩
  | .local _ .vmem, ⟨99, _⟩ => ⟨S256x128, .bf16⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_v12 : Ref sig .tc := ⟨.hbm, 26, rfl⟩
abbrev main_cst_7 : Ref sig .tc := ⟨.hbm, 27, rfl⟩
abbrev main_v13 : Ref sig .tc := ⟨.hbm, 28, rfl⟩
abbrev main_cst_8 : Ref sig .tc := ⟨.hbm, 29, rfl⟩
abbrev main_v14 : Ref sig .tc := ⟨.hbm, 30, rfl⟩
abbrev main_v15 : Ref sig .tc := ⟨.hbm, 31, rfl⟩
abbrev main_cst_9 : Ref sig .tc := ⟨.hbm, 32, rfl⟩
abbrev main_v16 : Ref sig .tc := ⟨.hbm, 33, rfl⟩
abbrev main_v17 : Ref sig .tc := ⟨.hbm, 34, rfl⟩
abbrev main_cst_10 : Ref sig .tc := ⟨.hbm, 35, rfl⟩
abbrev main_v18 : Ref sig .tc := ⟨.hbm, 36, rfl⟩
abbrev main_v19 : Ref sig .tc := ⟨.hbm, 37, rfl⟩
abbrev main_call0_v0 : Ref sig .tc := ⟨.hbm, 38, rfl⟩
abbrev main_call0_v1 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_v21 : Ref sig .tc := ⟨.hbm, 43, rfl⟩
abbrev main_cst_11 : Ref sig .tc := ⟨.hbm, 44, rfl⟩
abbrev main_v22 : Ref sig .tc := ⟨.hbm, 45, rfl⟩
abbrev main_cst_12 : Ref sig .tc := ⟨.hbm, 46, rfl⟩
abbrev main_v23 : Ref sig .tc := ⟨.hbm, 47, rfl⟩
abbrev main_v24 : Ref sig .tc := ⟨.hbm, 48, rfl⟩
abbrev main_cst_13 : Ref sig .tc := ⟨.hbm, 49, rfl⟩
abbrev main_v25 : Ref sig .tc := ⟨.hbm, 50, rfl⟩
abbrev main_cst_14 : Ref sig .tc := ⟨.hbm, 51, rfl⟩
abbrev main_v26 : Ref sig .tc := ⟨.hbm, 52, rfl⟩
abbrev main_v27 : Ref sig .tc := ⟨.hbm, 53, rfl⟩
abbrev main_cst_15 : Ref sig .tc := ⟨.hbm, 54, rfl⟩
abbrev main_v28 : Ref sig .tc := ⟨.hbm, 55, rfl⟩
abbrev main_v29 : Ref sig .tc := ⟨.hbm, 56, rfl⟩
abbrev main_cst_16 : Ref sig .tc := ⟨.hbm, 57, rfl⟩
abbrev main_v30 : Ref sig .tc := ⟨.hbm, 58, rfl⟩
abbrev main_v31 : Ref sig .tc := ⟨.hbm, 59, rfl⟩
abbrev main_cst_17 : Ref sig .tc := ⟨.hbm, 60, rfl⟩
abbrev main_v32 : Ref sig .tc := ⟨.hbm, 61, rfl⟩
abbrev main_cst_18 : Ref sig .tc := ⟨.hbm, 62, rfl⟩
abbrev main_v33 : Ref sig .tc := ⟨.hbm, 63, rfl⟩
abbrev main_v34 : Ref sig .tc := ⟨.hbm, 64, rfl⟩
abbrev main_cst_19 : Ref sig .tc := ⟨.hbm, 65, rfl⟩
abbrev main_v35 : Ref sig .tc := ⟨.hbm, 66, rfl⟩
abbrev main_cst_20 : Ref sig .tc := ⟨.hbm, 67, rfl⟩
abbrev main_v36 : Ref sig .tc := ⟨.hbm, 68, rfl⟩
abbrev main_v37 : Ref sig .tc := ⟨.hbm, 69, rfl⟩
abbrev main_cst_21 : Ref sig .tc := ⟨.hbm, 70, rfl⟩
abbrev main_v38 : Ref sig .tc := ⟨.hbm, 71, rfl⟩
abbrev main_v39 : Ref sig .tc := ⟨.hbm, 72, rfl⟩
abbrev main_cst_22 : Ref sig .tc := ⟨.hbm, 73, rfl⟩
abbrev main_v40 : Ref sig .tc := ⟨.hbm, 74, rfl⟩
abbrev main_v41 : Ref sig .tc := ⟨.hbm, 75, rfl⟩
abbrev main_call2_v0 : Ref sig .tc := ⟨.hbm, 76, rfl⟩
abbrev main_call2_v1 : Ref sig .tc := ⟨.hbm, 77, rfl⟩
abbrev main_v42 : Ref sig .tc := ⟨.hbm, 78, rfl⟩
abbrev main_call3_v0 : Ref sig .tc := ⟨.hbm, 79, rfl⟩
abbrev main_call3_v1 : Ref sig .tc := ⟨.hbm, 80, rfl⟩
abbrev main_v43 : Ref sig .tc := ⟨.hbm, 81, rfl⟩
abbrev main_v44 : Ref sig .tc := ⟨.hbm, 82, rfl⟩
abbrev main_c : Ref sig .tc := ⟨.hbm, 83, rfl⟩
abbrev main_call4_v0 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_c_23 : Ref sig .tc := ⟨.hbm, 88, rfl⟩
abbrev main_call5_v0 : Ref sig .tc := ⟨.hbm, 89, rfl⟩
abbrev main_v48 : Ref sig .tc := ⟨.hbm, 90, rfl⟩
abbrev main_v49 : Ref sig .tc := ⟨.hbm, 91, rfl⟩
abbrev main_v50_0 : Ref sig .tc := ⟨.hbm, 92, rfl⟩
abbrev main_v50_1 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59_0 : Ref sig .tc := ⟨.hbm, 102, rfl⟩
abbrev main_v59_1 : Ref sig .tc := ⟨.hbm, 103, rfl⟩
abbrev main_v60 : Ref sig .tc := ⟨.hbm, 104, rfl⟩
abbrev main_v61_0 : Ref sig .tc := ⟨.hbm, 105, rfl⟩
abbrev main_v61_1 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc4_stg6_0 : Ref sig .tc := ⟨.vmem, 54, rfl⟩
abbrev cc4_stg6_1 : Ref sig .tc := ⟨.vmem, 55, rfl⟩
abbrev cc4_stg7_0 : Ref sig .tc := ⟨.vmem, 56, rfl⟩
abbrev cc4_stg7_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg3_1 : Ref sig .tc := ⟨.vmem, 65, rfl⟩
abbrev cc5_stg4_0 : Ref sig .tc := ⟨.vmem, 66, rfl⟩
abbrev cc5_stg4_1 : Ref sig .tc := ⟨.vmem, 67, rfl⟩
abbrev cc5_stg5_0 : Ref sig .tc := ⟨.vmem, 68, rfl⟩
abbrev cc5_stg5_1 : Ref sig .tc := ⟨.vmem, 69, rfl⟩
abbrev cc5_stg6_0 : Ref sig .tc := ⟨.vmem, 70, rfl⟩
abbrev cc5_stg6_1 : Ref sig .tc := ⟨.vmem, 71, rfl⟩
abbrev cc5_stg7_0 : Ref sig .tc := ⟨.vmem, 72, rfl⟩
abbrev cc5_stg7_1 : Ref sig .tc := ⟨.vmem, 73, rfl⟩
abbrev cc5_stg8_0 : Ref sig .tc := ⟨.vmem, 74, rfl⟩
abbrev cc5_stg8_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg1_1 : Ref sig .tc := ⟨.vmem, 79, rfl⟩
abbrev cc6_stg2_0 : Ref sig .tc := ⟨.vmem, 80, rfl⟩
abbrev cc6_stg2_1 : Ref sig .tc := ⟨.vmem, 81, rfl⟩
abbrev cc6_stg3_0 : Ref sig .tc := ⟨.vmem, 82, rfl⟩
abbrev cc6_stg3_1 : Ref sig .tc := ⟨.vmem, 83, rfl⟩
abbrev cc6_stg4_0 : Ref sig .tc := ⟨.vmem, 84, rfl⟩
abbrev cc6_stg4_1 : Ref sig .tc := ⟨.vmem, 85, rfl⟩
abbrev cc7_stg0_0 : Ref sig .tc := ⟨.vmem, 86, rfl⟩
abbrev cc7_stg0_1 : Ref sig .tc := ⟨.vmem, 87, rfl⟩
abbrev cc7_stg1_0 : Ref sig .tc := ⟨.vmem, 88, rfl⟩
abbrev cc7_stg1_1 : Ref sig .tc := ⟨.vmem, 89, rfl⟩
abbrev cc7_stg2_0 : Ref sig .tc := ⟨.vmem, 90, rfl⟩
abbrev cc7_stg2_1 : Ref sig .tc := ⟨.vmem, 91, rfl⟩
abbrev cc7_stg3_0 : Ref sig .tc := ⟨.vmem, 92, rfl⟩
abbrev cc7_stg3_1 : Ref sig .tc := ⟨.vmem, 93, rfl⟩
abbrev cc7_stg4_0 : Ref sig .tc := ⟨.vmem, 94, rfl⟩
abbrev cc7_stg4_1 : Ref sig .tc := ⟨.vmem, 95, rfl⟩
abbrev cc7_stg5_0 : Ref sig .tc := ⟨.vmem, 96, rfl⟩
abbrev cc7_stg5_1 : Ref sig .tc := ⟨.vmem, 97, rfl⟩
abbrev cc7_stg6_0 : Ref sig .tc := ⟨.vmem, 98, rfl⟩
abbrev cc7_stg6_1 : Ref sig .tc := ⟨.vmem, 99, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem5_1 : DmaSem sig := 51
abbrev cc4_sem6_0 : DmaSem sig := 52
abbrev cc4_sem6_1 : DmaSem sig := 53
abbrev cc4_sem7_0 : DmaSem sig := 54
abbrev cc4_sem7_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc5_sem6_0 : DmaSem sig := 68
abbrev cc5_sem6_1 : DmaSem sig := 69
abbrev cc5_sem7_0 : DmaSem sig := 70
abbrev cc5_sem7_1 : DmaSem sig := 71
abbrev cc5_sem8_0 : DmaSem sig := 72
abbrev cc5_sem8_1 : DmaSem sig := 73
abbrev cc6_sem0_0 : DmaSem sig := 74
abbrev cc6_sem0_1 : DmaSem sig := 75
abbrev cc6_sem1_0 : DmaSem sig := 76
abbrev cc6_sem1_1 : DmaSem sig := 77
abbrev cc6_sem2_0 : DmaSem sig := 78
abbrev cc6_sem2_1 : DmaSem sig := 79
abbrev cc6_sem3_0 : DmaSem sig := 80
abbrev cc6_sem3_1 : DmaSem sig := 81
abbrev cc6_sem4_0 : DmaSem sig := 82
abbrev cc6_sem4_1 : DmaSem sig := 83
abbrev cc7_sem0_0 : DmaSem sig := 84
abbrev cc7_sem0_1 : DmaSem sig := 85
abbrev cc7_sem1_0 : DmaSem sig := 86
abbrev cc7_sem1_1 : DmaSem sig := 87
abbrev cc7_sem2_0 : DmaSem sig := 88
abbrev cc7_sem2_1 : DmaSem sig := 89
abbrev cc7_sem3_0 : DmaSem sig := 90
abbrev cc7_sem3_1 : DmaSem sig := 91
abbrev cc7_sem4_0 : DmaSem sig := 92
abbrev cc7_sem4_1 : DmaSem sig := 93
abbrev cc7_sem5_0 : DmaSem sig := 94
abbrev cc7_sem5_1 : DmaSem sig := 95
abbrev cc7_sem6_0 : DmaSem sig := 96
abbrev cc7_sem6_1 : DmaSem sig := 97

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 16], ![false, false]⟩

@[reducible] def k2_t1_loop (i : grid2.Coords) : Scf.Loop 32 :=
  let c0_i32_7 : BitVec 32 := 0#32
  let arg1 : BitVec 32 := BitVec.ofNat 32 (i 1).val
  let v9 : BitVec 32 := Scalar.subi arg1 c0_i32_7
  let c1_i32 : BitVec 32 := 1#32
  let v11 : BitVec 32 := Scalar.divsi v9 c1_i32
  let v12 : BitVec 32 := Scalar.muli v11 c1_i32
  let v13 : BitVec 32 := Scalar.addi c0_i32_7 v12
  let c1_i32_8 : BitVec 32 := 1#32
  ⟨c0_i32_7, v13, c1_i32_8⟩
def k2_mult1 (i : grid2.Coords) (k2_t1 : Fin (k2_t1_loop i).trips) : BitVec 32 :=
  let c0_i32_7 : BitVec 32 := 0#32
  let c1_i32_8 : BitVec 32 := 1#32
  let arg10 : BitVec 32 := Scf.iv c0_i32_7 c1_i32_8 k2_t1
  let c512_i32_79 : BitVec 32 := 512#32
  let v134 : BitVec 32 := Scalar.muli arg10 c512_i32_79
  v134
def k2_off1 (i : grid2.Coords) (k2_t1 : Fin (k2_t1_loop i).trips) : Fin 2 → Nat :=
  let c0_i32_7 : BitVec 32 := 0#32
  let c1_i32_8 : BitVec 32 := 1#32
  let arg10 : BitVec 32 := Scf.iv c0_i32_7 c1_i32_8 k2_t1
  let c512_i32_79 : BitVec 32 := 512#32
  let v134 : BitVec 32 := Scalar.muli arg10 c512_i32_79
  let v135 : BitVec 32 := v134
  let v138 : Index := Scalar.indexCast v135
  let c0_82 : Index := 0#32
  ![v138.toNat, 0]
def k2_off2 (i : grid2.Coords) (k2_t1 : Fin (k2_t1_loop i).trips) : Fin 2 → Nat :=
  let c0_i32_7 : BitVec 32 := 0#32
  let c1_i32_8 : BitVec 32 := 1#32
  let arg10 : BitVec 32 := Scf.iv c0_i32_7 c1_i32_8 k2_t1
  let c512_i32_79 : BitVec 32 := 512#32
  let v134 : BitVec 32 := Scalar.muli arg10 c512_i32_79
  let v135 : BitVec 32 := v134
  let v156 : Index := Scalar.indexCast v135
  let c0_89 : Index := 0#32
  ![v156.toNat, 0]
def k2_off3 (i : grid2.Coords) (k2_t1 : Fin (k2_t1_loop i).trips) : Fin 2 → Nat :=
  let c0_i32_7 : BitVec 32 := 0#32
  let c1_i32_8 : BitVec 32 := 1#32
  let arg10 : BitVec 32 := Scf.iv c0_i32_7 c1_i32_8 k2_t1
  let c512_i32_79 : BitVec 32 := 512#32
  let v134 : BitVec 32 := Scalar.muli arg10 c512_i32_79
  let v135 : BitVec 32 := v134
  let v174 : Index := Scalar.indexCast v135
  let c256_102 : Index := 256#32
  ![v174.toNat, 256]
@[reducible] def k2_t2_loop (i : grid2.Coords) : Scf.Loop 32 :=
  let c0_i32_7 : BitVec 32 := 0#32
  let arg1 : BitVec 32 := BitVec.ofNat 32 (i 1).val
  let v9 : BitVec 32 := Scalar.subi arg1 c0_i32_7
  let c1_i32 : BitVec 32 := 1#32
  let v11 : BitVec 32 := Scalar.divsi v9 c1_i32
  let v12 : BitVec 32 := Scalar.muli v11 c1_i32
  let v13 : BitVec 32 := Scalar.addi c0_i32_7 v12
  let v10 : BitVec 32 := Scalar.addi c0_i32_7 v9
  let c1_i32_9 : BitVec 32 := 1#32
  ⟨v13, v10, c1_i32_9⟩
def k2_mult2 (i : grid2.Coords) (k2_t2 : Fin (k2_t2_loop i).trips) : BitVec 32 :=
  let c0_i32_7 : BitVec 32 := 0#32
  let arg1 : BitVec 32 := BitVec.ofNat 32 (i 1).val
  let v9 : BitVec 32 := Scalar.subi arg1 c0_i32_7
  let c1_i32 : BitVec 32 := 1#32
  let v11 : BitVec 32 := Scalar.divsi v9 c1_i32
  let v12 : BitVec 32 := Scalar.muli v11 c1_i32
  let v13 : BitVec 32 := Scalar.addi c0_i32_7 v12
  let c1_i32_9 : BitVec 32 := 1#32
  let arg10 : BitVec 32 := Scf.iv v13 c1_i32_9 k2_t2
  let c512_i32_79 : BitVec 32 := 512#32
  let v134 : BitVec 32 := Scalar.muli arg10 c512_i32_79
  v134
def k2_off4 (i : grid2.Coords) (k2_t2 : Fin (k2_t2_loop i).trips) : Fin 2 → Nat :=
  let c0_i32_7 : BitVec 32 := 0#32
  let arg1 : BitVec 32 := BitVec.ofNat 32 (i 1).val
  let v9 : BitVec 32 := Scalar.subi arg1 c0_i32_7
  let c1_i32 : BitVec 32 := 1#32
  let v11 : BitVec 32 := Scalar.divsi v9 c1_i32
  let v12 : BitVec 32 := Scalar.muli v11 c1_i32
  let v13 : BitVec 32 := Scalar.addi c0_i32_7 v12
  let c1_i32_9 : BitVec 32 := 1#32
  let arg10 : BitVec 32 := Scf.iv v13 c1_i32_9 k2_t2
  let c512_i32_79 : BitVec 32 := 512#32
  let v134 : BitVec 32 := Scalar.muli arg10 c512_i32_79
  let v135 : BitVec 32 := v134
  let v138 : Index := Scalar.indexCast v135
  let c0_82 : Index := 0#32
  ![v138.toNat, 0]
def k2_off5 (i : grid2.Coords) (k2_t2 : Fin (k2_t2_loop i).trips) : Fin 2 → Nat :=
  let c0_i32_7 : BitVec 32 := 0#32
  let arg1 : BitVec 32 := BitVec.ofNat 32 (i 1).val
  let v9 : BitVec 32 := Scalar.subi arg1 c0_i32_7
  let c1_i32 : BitVec 32 := 1#32
  let v11 : BitVec 32 := Scalar.divsi v9 c1_i32
  let v12 : BitVec 32 := Scalar.muli v11 c1_i32
  let v13 : BitVec 32 := Scalar.addi c0_i32_7 v12
  let c1_i32_9 : BitVec 32 := 1#32
  let arg10 : BitVec 32 := Scf.iv v13 c1_i32_9 k2_t2
  let c512_i32_79 : BitVec 32 := 512#32
  let v134 : BitVec 32 := Scalar.muli arg10 c512_i32_79
  let v135 : BitVec 32 := v134
  let v156 : Index := Scalar.indexCast v135
  let c0_89 : Index := 0#32
  ![v156.toNat, 0]
def k2_off6 (i : grid2.Coords) (k2_t2 : Fin (k2_t2_loop i).trips) : Fin 2 → Nat :=
  let c0_i32_7 : BitVec 32 := 0#32
  let arg1 : BitVec 32 := BitVec.ofNat 32 (i 1).val
  let v9 : BitVec 32 := Scalar.subi arg1 c0_i32_7
  let c1_i32 : BitVec 32 := 1#32
  let v11 : BitVec 32 := Scalar.divsi v9 c1_i32
  let v12 : BitVec 32 := Scalar.muli v11 c1_i32
  let v13 : BitVec 32 := Scalar.addi c0_i32_7 v12
  let c1_i32_9 : BitVec 32 := 1#32
  let arg10 : BitVec 32 := Scf.iv v13 c1_i32_9 k2_t2
  let c512_i32_79 : BitVec 32 := 512#32
  let v134 : BitVec 32 := Scalar.muli arg10 c512_i32_79
  let v135 : BitVec 32 := v134
  let v174 : Index := Scalar.indexCast v135
  let c256_102 : Index := 256#32
  ![v174.toNat, 256]
def k2_mult3 (i : grid2.Coords) : BitVec 32 :=
  let arg1 : BitVec 32 := BitVec.ofNat 32 (i 1).val
  let c512_i32 : BitVec 32 := 512#32
  let v14 : BitVec 32 := Scalar.muli arg1 c512_i32
  v14
def k2_off7 (i : grid2.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v18 : Index := Scalar.indexCast v15
  let c0_12 : Index := 0#32
  ![v18.toNat, 0]
def k2_off8 (i : grid2.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v45 : Index := Scalar.indexCast v15
  let c0_22 : Index := 0#32
  ![v45.toNat, 0]
def k2_off9 (i : grid2.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v63 : Index := Scalar.indexCast v15
  let c256_34 : Index := 256#32
  ![v63.toNat, 256]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c2_i32_0 : BitVec 32 := 2#32
  let v2 : BitVec 32 := Scalar.muli c2_i32_0 v1
  let c1_i32 : BitVec 32 := 1#32
  let v3 : BitVec 32 := Scalar.addi v2 c1_i32
  let c0_i32_1 : BitVec 32 := 0#32
  let c0_i32_2 : BitVec 32 := 0#32
  ![c0_i32_1.toNat, v3.toNat]

def cc2_transform_3 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c2_i32_0 : BitVec 32 := 2#32
  let v2 : BitVec 32 := Scalar.muli c2_i32_0 v1
  let c1_i32_1 : BitVec 32 := 1#32
  let v3 : BitVec 32 := Scalar.addi v2 c1_i32_1
  let c0_i32 : BitVec 32 := 0#32
  let c0_i32_2 : BitVec 32 := 0#32
  ![c0_i32.toNat, v3.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8192x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8192x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S8192x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![4, 16], ![false, false]⟩

@[reducible] def k4_t1_loop (i : grid4.Coords) : Scf.Loop 32 :=
  let c0_i32_1 : BitVec 32 := 0#32
  let arg1 : BitVec 32 := BitVec.ofNat 32 (i 1).val
  let v2 : BitVec 32 := Scalar.subi arg1 c0_i32_1
  let c1_i32 : BitVec 32 := 1#32
  let v4 : BitVec 32 := Scalar.divsi v2 c1_i32
  let v5 : BitVec 32 := Scalar.muli v4 c1_i32
  let v6 : BitVec 32 := Scalar.addi c0_i32_1 v5
  let c1_i32_2 : BitVec 32 := 1#32
  ⟨c0_i32_1, v6, c1_i32_2⟩
def k4_mult1 (i : grid4.Coords) (k4_t1 : Fin (k4_t1_loop i).trips) : BitVec 32 :=
  let c0_i32_1 : BitVec 32 := 0#32
  let c1_i32_2 : BitVec 32 := 1#32
  let arg10 : BitVec 32 := Scf.iv c0_i32_1 c1_i32_2 k4_t1
  let c512_i32_46 : BitVec 32 := 512#32
  let v87 : BitVec 32 := Scalar.muli arg10 c512_i32_46
  v87
def k4_off1 (i : grid4.Coords) (k4_t1 : Fin (k4_t1_loop i).trips) : Fin 2 → Nat :=
  let c0_i32_1 : BitVec 32 := 0#32
  let c1_i32_2 : BitVec 32 := 1#32
  let arg10 : BitVec 32 := Scf.iv c0_i32_1 c1_i32_2 k4_t1
  let c512_i32_46 : BitVec 32 := 512#32
  let v87 : BitVec 32 := Scalar.muli arg10 c512_i32_46
  let v88 : BitVec 32 := v87
  let v89 : Index := Scalar.indexCast v88
  let c0_47 : Index := 0#32
  ![v89.toNat, 0]
def k4_off2 (i : grid4.Coords) (k4_t1 : Fin (k4_t1_loop i).trips) : Fin 2 → Nat :=
  let c0_i32_1 : BitVec 32 := 0#32
  let c1_i32_2 : BitVec 32 := 1#32
  let arg10 : BitVec 32 := Scf.iv c0_i32_1 c1_i32_2 k4_t1
  let c512_i32_46 : BitVec 32 := 512#32
  let v87 : BitVec 32 := Scalar.muli arg10 c512_i32_46
  let v88 : BitVec 32 := v87
  let v103 : Index := Scalar.indexCast v88
  let c0_56 : Index := 0#32
  ![v103.toNat, 0]
def k4_off3 (i : grid4.Coords) (k4_t1 : Fin (k4_t1_loop i).trips) : Fin 2 → Nat :=
  let c0_i32_1 : BitVec 32 := 0#32
  let c1_i32_2 : BitVec 32 := 1#32
  let arg10 : BitVec 32 := Scf.iv c0_i32_1 c1_i32_2 k4_t1
  let c512_i32_46 : BitVec 32 := 512#32
  let v87 : BitVec 32 := Scalar.muli arg10 c512_i32_46
  let v88 : BitVec 32 := v87
  let v119 : Index := Scalar.indexCast v88
  let c256_66 : Index := 256#32
  ![v119.toNat, 256]
@[reducible] def k4_t2_loop (i : grid4.Coords) : Scf.Loop 32 :=
  let c0_i32_1 : BitVec 32 := 0#32
  let arg1 : BitVec 32 := BitVec.ofNat 32 (i 1).val
  let v2 : BitVec 32 := Scalar.subi arg1 c0_i32_1
  let c1_i32 : BitVec 32 := 1#32
  let v4 : BitVec 32 := Scalar.divsi v2 c1_i32
  let v5 : BitVec 32 := Scalar.muli v4 c1_i32
  let v6 : BitVec 32 := Scalar.addi c0_i32_1 v5
  let v3 : BitVec 32 := Scalar.addi c0_i32_1 v2
  let c1_i32_3 : BitVec 32 := 1#32
  ⟨v6, v3, c1_i32_3⟩
def k4_mult2 (i : grid4.Coords) (k4_t2 : Fin (k4_t2_loop i).trips) : BitVec 32 :=
  let c0_i32_1 : BitVec 32 := 0#32
  let arg1 : BitVec 32 := BitVec.ofNat 32 (i 1).val
  let v2 : BitVec 32 := Scalar.subi arg1 c0_i32_1
  let c1_i32 : BitVec 32 := 1#32
  let v4 : BitVec 32 := Scalar.divsi v2 c1_i32
  let v5 : BitVec 32 := Scalar.muli v4 c1_i32
  let v6 : BitVec 32 := Scalar.addi c0_i32_1 v5
  let c1_i32_3 : BitVec 32 := 1#32
  let arg10 : BitVec 32 := Scf.iv v6 c1_i32_3 k4_t2
  let c512_i32_46 : BitVec 32 := 512#32
  let v87 : BitVec 32 := Scalar.muli arg10 c512_i32_46
  v87
def k4_off4 (i : grid4.Coords) (k4_t2 : Fin (k4_t2_loop i).trips) : Fin 2 → Nat :=
  let c0_i32_1 : BitVec 32 := 0#32
  let arg1 : BitVec 32 := BitVec.ofNat 32 (i 1).val
  let v2 : BitVec 32 := Scalar.subi arg1 c0_i32_1
  let c1_i32 : BitVec 32 := 1#32
  let v4 : BitVec 32 := Scalar.divsi v2 c1_i32
  let v5 : BitVec 32 := Scalar.muli v4 c1_i32
  let v6 : BitVec 32 := Scalar.addi c0_i32_1 v5
  let c1_i32_3 : BitVec 32 := 1#32
  let arg10 : BitVec 32 := Scf.iv v6 c1_i32_3 k4_t2
  let c512_i32_46 : BitVec 32 := 512#32
  let v87 : BitVec 32 := Scalar.muli arg10 c512_i32_46
  let v88 : BitVec 32 := v87
  let v89 : Index := Scalar.indexCast v88
  let c0_47 : Index := 0#32
  ![v89.toNat, 0]
def k4_off5 (i : grid4.Coords) (k4_t2 : Fin (k4_t2_loop i).trips) : Fin 2 → Nat :=
  let c0_i32_1 : BitVec 32 := 0#32
  let arg1 : BitVec 32 := BitVec.ofNat 32 (i 1).val
  let v2 : BitVec 32 := Scalar.subi arg1 c0_i32_1
  let c1_i32 : BitVec 32 := 1#32
  let v4 : BitVec 32 := Scalar.divsi v2 c1_i32
  let v5 : BitVec 32 := Scalar.muli v4 c1_i32
  let v6 : BitVec 32 := Scalar.addi c0_i32_1 v5
  let c1_i32_3 : BitVec 32 := 1#32
  let arg10 : BitVec 32 := Scf.iv v6 c1_i32_3 k4_t2
  let c512_i32_46 : BitVec 32 := 512#32
  let v87 : BitVec 32 := Scalar.muli arg10 c512_i32_46
  let v88 : BitVec 32 := v87
  let v103 : Index := Scalar.indexCast v88
  let c0_56 : Index := 0#32
  ![v103.toNat, 0]
def k4_off6 (i : grid4.Coords) (k4_t2 : Fin (k4_t2_loop i).trips) : Fin 2 → Nat :=
  let c0_i32_1 : BitVec 32 := 0#32
  let arg1 : BitVec 32 := BitVec.ofNat 32 (i 1).val
  let v2 : BitVec 32 := Scalar.subi arg1 c0_i32_1
  let c1_i32 : BitVec 32 := 1#32
  let v4 : BitVec 32 := Scalar.divsi v2 c1_i32
  let v5 : BitVec 32 := Scalar.muli v4 c1_i32
  let v6 : BitVec 32 := Scalar.addi c0_i32_1 v5
  let c1_i32_3 : BitVec 32 := 1#32
  let arg10 : BitVec 32 := Scf.iv v6 c1_i32_3 k4_t2
  let c512_i32_46 : BitVec 32 := 512#32
  let v87 : BitVec 32 := Scalar.muli arg10 c512_i32_46
  let v88 : BitVec 32 := v87
  let v119 : Index := Scalar.indexCast v88
  let c256_66 : Index := 256#32
  ![v119.toNat, 256]
def k4_mult3 (i : grid4.Coords) : BitVec 32 :=
  let arg1 : BitVec 32 := BitVec.ofNat 32 (i 1).val
  let c512_i32 : BitVec 32 := 512#32
  let v7 : BitVec 32 := Scalar.muli arg1 c512_i32
  v7
def k4_off7 (i : grid4.Coords) : Fin 2 → Nat :=
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  let c0_4 : Index := 0#32
  ![v9.toNat, 0]
def k4_off8 (i : grid4.Coords) : Fin 2 → Nat :=
  let arg1 : BitVec 32 := BitVec.ofNat 32 (i 1).val
  let c512_i32 : BitVec 32 := 512#32
  let v7 : BitVec 32 := Scalar.muli arg1 c512_i32
  let v8 : BitVec 32 := v7
  let v32 : Index := Scalar.indexCast v8
  let c0_16 : Index := 0#32
  ![v32.toNat, 0]
def k4_off9 (i : grid4.Coords) : Fin 2 → Nat :=
  let arg1 : BitVec 32 := BitVec.ofNat 32 (i 1).val
  let c512_i32 : BitVec 32 := 512#32
  let v7 : BitVec 32 := Scalar.muli arg1 c512_i32
  let v8 : BitVec 32 := v7
  let v48 : Index := Scalar.indexCast v8
  let c256 : Index := 256#32
  ![v48.toNat, 256]
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c2_i32_0 : BitVec 32 := 2#32
  let v2 : BitVec 32 := Scalar.muli c2_i32_0 v1
  let c1_i32 : BitVec 32 := 1#32
  let v3 : BitVec 32 := Scalar.addi v2 c1_i32
  let c0_i32_1 : BitVec 32 := 0#32
  let c0_i32_2 : BitVec 32 := 0#32
  ![c0_i32_1.toNat, v3.toNat]

def cc4_transform_3 (i : grid4.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c2_i32_0 : BitVec 32 := 2#32
  let v2 : BitVec 32 := Scalar.muli c2_i32_0 v1
  let c1_i32_1 : BitVec 32 := 1#32
  let v3 : BitVec 32 := Scalar.addi v2 c1_i32_1
  let c0_i32 : BitVec 32 := 0#32
  let c0_i32_2 : BitVec 32 := 0#32
  ![c0_i32.toNat, v3.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S8192x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S8192x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S8192x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S512x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S512x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S512x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S512x512 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨2, ![4, 16], ![false, false]⟩

def k5_mult1 (i : grid5.Coords) : BitVec 32 :=
  let arg1 : BitVec 32 := BitVec.ofNat 32 (i 1).val
  let c512_i32 : BitVec 32 := 512#32
  let v4 : BitVec 32 := Scalar.muli arg1 c512_i32
  v4
def k5_off1 (i : grid5.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_4 : Index := 0#32
  ![v6.toNat, 0]
def k5_off2 (i : grid5.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v9 : Index := Scalar.indexCast v5
  let c0_5 : Index := 0#32
  ![v9.toNat, 0]
def k5_off3 (i : grid5.Coords) : Fin 3 → Nat :=
  let c0_11 : Index := 0#32
  let c0_12 : Index := 0#32
  let arg1 : BitVec 32 := BitVec.ofNat 32 (i 1).val
  let c512_i32 : BitVec 32 := 512#32
  let v4 : BitVec 32 := Scalar.muli arg1 c512_i32
  let v5 : BitVec 32 := v4
  let v21 : Index := Scalar.indexCast v5
  ![0, 0, v21.toNat]
def k5_off4 (i : grid5.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v49 : Index := Scalar.indexCast v5
  let c256 : Index := 256#32
  ![v49.toNat, 256]
def k5_off5 (i : grid5.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v52 : Index := Scalar.indexCast v5
  let c128 : Index := 128#32
  ![v52.toNat, 128]
def k5_off6 (i : grid5.Coords) : Fin 3 → Nat :=
  let c1 : Index := 1#32
  let c0_34 : Index := 0#32
  let arg1 : BitVec 32 := BitVec.ofNat 32 (i 1).val
  let c512_i32 : BitVec 32 := 512#32
  let v4 : BitVec 32 := Scalar.muli arg1 c512_i32
  let v5 : BitVec 32 := v4
  let v64 : Index := Scalar.indexCast v5
  ![1, 0, v64.toNat]
@[reducible] def k5_t1_loop (i : grid5.Coords) : Scf.Loop 32 :=
  let arg1 : BitVec 32 := BitVec.ofNat 32 (i 1).val
  let c1_i32 : BitVec 32 := 1#32
  let v92 : BitVec 32 := Scalar.addi arg1 c1_i32
  let c16_i32 : BitVec 32 := 16#32
  let v93 : BitVec 32 := Scalar.subi c16_i32 v92
  let c1_i32_51 : BitVec 32 := 1#32
  let v95 : BitVec 32 := Scalar.divsi v93 c1_i32_51
  let v96 : BitVec 32 := Scalar.muli v95 c1_i32_51
  let v97 : BitVec 32 := Scalar.addi v92 v96
  let c1_i32_52 : BitVec 32 := 1#32
  ⟨v92, v97, c1_i32_52⟩
def k5_mult2 (i : grid5.Coords) (k5_t1 : Fin (k5_t1_loop i).trips) : BitVec 32 :=
  let arg1 : BitVec 32 := BitVec.ofNat 32 (i 1).val
  let c1_i32 : BitVec 32 := 1#32
  let v92 : BitVec 32 := Scalar.addi arg1 c1_i32
  let c1_i32_52 : BitVec 32 := 1#32
  let arg11 : BitVec 32 := Scf.iv v92 c1_i32_52 k5_t1
  let c512_i32_54 : BitVec 32 := 512#32
  let v98 : BitVec 32 := Scalar.muli arg11 c512_i32_54
  v98
def k5_off7 (i : grid5.Coords) (k5_t1 : Fin (k5_t1_loop i).trips) : Fin 2 → Nat :=
  let arg1 : BitVec 32 := BitVec.ofNat 32 (i 1).val
  let c1_i32 : BitVec 32 := 1#32
  let v92 : BitVec 32 := Scalar.addi arg1 c1_i32
  let c1_i32_52 : BitVec 32 := 1#32
  let arg11 : BitVec 32 := Scf.iv v92 c1_i32_52 k5_t1
  let c512_i32_54 : BitVec 32 := 512#32
  let v98 : BitVec 32 := Scalar.muli arg11 c512_i32_54
  let v99 : BitVec 32 := v98
  let v100 : Index := Scalar.indexCast v99
  let c0_55 : Index := 0#32
  ![v100.toNat, 0]
def k5_off8 (i : grid5.Coords) (k5_t1 : Fin (k5_t1_loop i).trips) : Fin 2 → Nat :=
  let arg1 : BitVec 32 := BitVec.ofNat 32 (i 1).val
  let c1_i32 : BitVec 32 := 1#32
  let v92 : BitVec 32 := Scalar.addi arg1 c1_i32
  let c1_i32_52 : BitVec 32 := 1#32
  let arg11 : BitVec 32 := Scf.iv v92 c1_i32_52 k5_t1
  let c512_i32_54 : BitVec 32 := 512#32
  let v98 : BitVec 32 := Scalar.muli arg11 c512_i32_54
  let v99 : BitVec 32 := v98
  let v103 : Index := Scalar.indexCast v99
  let c0_56 : Index := 0#32
  ![v103.toNat, 0]
def k5_off9 (i : grid5.Coords) (k5_t1 : Fin (k5_t1_loop i).trips) : Fin 3 → Nat :=
  let c0_61 : Index := 0#32
  let c0_62 : Index := 0#32
  let arg1 : BitVec 32 := BitVec.ofNat 32 (i 1).val
  let c1_i32 : BitVec 32 := 1#32
  let v92 : BitVec 32 := Scalar.addi arg1 c1_i32
  let c1_i32_52 : BitVec 32 := 1#32
  let arg11 : BitVec 32 := Scf.iv v92 c1_i32_52 k5_t1
  let c512_i32_54 : BitVec 32 := 512#32
  let v98 : BitVec 32 := Scalar.muli arg11 c512_i32_54
  let v99 : BitVec 32 := v98
  let v110 : Index := Scalar.indexCast v99
  ![0, 0, v110.toNat]
def k5_off10 (i : grid5.Coords) (k5_t1 : Fin (k5_t1_loop i).trips) : Fin 2 → Nat :=
  let arg1 : BitVec 32 := BitVec.ofNat 32 (i 1).val
  let c1_i32 : BitVec 32 := 1#32
  let v92 : BitVec 32 := Scalar.addi arg1 c1_i32
  let c1_i32_52 : BitVec 32 := 1#32
  let arg11 : BitVec 32 := Scf.iv v92 c1_i32_52 k5_t1
  let c512_i32_54 : BitVec 32 := 512#32
  let v98 : BitVec 32 := Scalar.muli arg11 c512_i32_54
  let v99 : BitVec 32 := v98
  let v138 : Index := Scalar.indexCast v99
  let c256_79 : Index := 256#32
  ![v138.toNat, 256]
def k5_off11 (i : grid5.Coords) (k5_t1 : Fin (k5_t1_loop i).trips) : Fin 2 → Nat :=
  let arg1 : BitVec 32 := BitVec.ofNat 32 (i 1).val
  let c1_i32 : BitVec 32 := 1#32
  let v92 : BitVec 32 := Scalar.addi arg1 c1_i32
  let c1_i32_52 : BitVec 32 := 1#32
  let arg11 : BitVec 32 := Scf.iv v92 c1_i32_52 k5_t1
  let c512_i32_54 : BitVec 32 := 512#32
  let v98 : BitVec 32 := Scalar.muli arg11 c512_i32_54
  let v99 : BitVec 32 := v98
  let v141 : Index := Scalar.indexCast v99
  let c128_80 : Index := 128#32
  ![v141.toNat, 128]
def k5_off12 (i : grid5.Coords) (k5_t1 : Fin (k5_t1_loop i).trips) : Fin 3 → Nat :=
  let c1_85 : Index := 1#32
  let c0_86 : Index := 0#32
  let arg1 : BitVec 32 := BitVec.ofNat 32 (i 1).val
  let c1_i32 : BitVec 32 := 1#32
  let v92 : BitVec 32 := Scalar.addi arg1 c1_i32
  let c1_i32_52 : BitVec 32 := 1#32
  let arg11 : BitVec 32 := Scf.iv v92 c1_i32_52 k5_t1
  let c512_i32_54 : BitVec 32 := 512#32
  let v98 : BitVec 32 := Scalar.muli arg11 c512_i32_54
  let v99 : BitVec 32 := v98
  let v148 : Index := Scalar.indexCast v99
  ![1, 0, v148.toNat]
@[reducible] def k5_t2_loop (i : grid5.Coords) : Scf.Loop 32 :=
  let arg1 : BitVec 32 := BitVec.ofNat 32 (i 1).val
  let c1_i32 : BitVec 32 := 1#32
  let v92 : BitVec 32 := Scalar.addi arg1 c1_i32
  let c16_i32 : BitVec 32 := 16#32
  let v93 : BitVec 32 := Scalar.subi c16_i32 v92
  let c1_i32_51 : BitVec 32 := 1#32
  let v95 : BitVec 32 := Scalar.divsi v93 c1_i32_51
  let v96 : BitVec 32 := Scalar.muli v95 c1_i32_51
  let v97 : BitVec 32 := Scalar.addi v92 v96
  let v94 : BitVec 32 := Scalar.addi v92 v93
  let c1_i32_53 : BitVec 32 := 1#32
  ⟨v97, v94, c1_i32_53⟩
def k5_mult3 (i : grid5.Coords) (k5_t2 : Fin (k5_t2_loop i).trips) : BitVec 32 :=
  let arg1 : BitVec 32 := BitVec.ofNat 32 (i 1).val
  let c1_i32 : BitVec 32 := 1#32
  let v92 : BitVec 32 := Scalar.addi arg1 c1_i32
  let c16_i32 : BitVec 32 := 16#32
  let v93 : BitVec 32 := Scalar.subi c16_i32 v92
  let c1_i32_51 : BitVec 32 := 1#32
  let v95 : BitVec 32 := Scalar.divsi v93 c1_i32_51
  let v96 : BitVec 32 := Scalar.muli v95 c1_i32_51
  let v97 : BitVec 32 := Scalar.addi v92 v96
  let c1_i32_53 : BitVec 32 := 1#32
  let arg11 : BitVec 32 := Scf.iv v97 c1_i32_53 k5_t2
  let c512_i32_54 : BitVec 32 := 512#32
  let v98 : BitVec 32 := Scalar.muli arg11 c512_i32_54
  v98
def k5_off13 (i : grid5.Coords) (k5_t2 : Fin (k5_t2_loop i).trips) : Fin 2 → Nat :=
  let arg1 : BitVec 32 := BitVec.ofNat 32 (i 1).val
  let c1_i32 : BitVec 32 := 1#32
  let v92 : BitVec 32 := Scalar.addi arg1 c1_i32
  let c16_i32 : BitVec 32 := 16#32
  let v93 : BitVec 32 := Scalar.subi c16_i32 v92
  let c1_i32_51 : BitVec 32 := 1#32
  let v95 : BitVec 32 := Scalar.divsi v93 c1_i32_51
  let v96 : BitVec 32 := Scalar.muli v95 c1_i32_51
  let v97 : BitVec 32 := Scalar.addi v92 v96
  let c1_i32_53 : BitVec 32 := 1#32
  let arg11 : BitVec 32 := Scf.iv v97 c1_i32_53 k5_t2
  let c512_i32_54 : BitVec 32 := 512#32
  let v98 : BitVec 32 := Scalar.muli arg11 c512_i32_54
  let v99 : BitVec 32 := v98
  let v100 : Index := Scalar.indexCast v99
  let c0_55 : Index := 0#32
  ![v100.toNat, 0]
def k5_off14 (i : grid5.Coords) (k5_t2 : Fin (k5_t2_loop i).trips) : Fin 2 → Nat :=
  let arg1 : BitVec 32 := BitVec.ofNat 32 (i 1).val
  let c1_i32 : BitVec 32 := 1#32
  let v92 : BitVec 32 := Scalar.addi arg1 c1_i32
  let c16_i32 : BitVec 32 := 16#32
  let v93 : BitVec 32 := Scalar.subi c16_i32 v92
  let c1_i32_51 : BitVec 32 := 1#32
  let v95 : BitVec 32 := Scalar.divsi v93 c1_i32_51
  let v96 : BitVec 32 := Scalar.muli v95 c1_i32_51
  let v97 : BitVec 32 := Scalar.addi v92 v96
  let c1_i32_53 : BitVec 32 := 1#32
  let arg11 : BitVec 32 := Scf.iv v97 c1_i32_53 k5_t2
  let c512_i32_54 : BitVec 32 := 512#32
  let v98 : BitVec 32 := Scalar.muli arg11 c512_i32_54
  let v99 : BitVec 32 := v98
  let v103 : Index := Scalar.indexCast v99
  let c0_56 : Index := 0#32
  ![v103.toNat, 0]
def k5_off15 (i : grid5.Coords) (k5_t2 : Fin (k5_t2_loop i).trips) : Fin 3 → Nat :=
  let c0_61 : Index := 0#32
  let c0_62 : Index := 0#32
  let arg1 : BitVec 32 := BitVec.ofNat 32 (i 1).val
  let c1_i32 : BitVec 32 := 1#32
  let v92 : BitVec 32 := Scalar.addi arg1 c1_i32
  let c16_i32 : BitVec 32 := 16#32
  let v93 : BitVec 32 := Scalar.subi c16_i32 v92
  let c1_i32_51 : BitVec 32 := 1#32
  let v95 : BitVec 32 := Scalar.divsi v93 c1_i32_51
  let v96 : BitVec 32 := Scalar.muli v95 c1_i32_51
  let v97 : BitVec 32 := Scalar.addi v92 v96
  let c1_i32_53 : BitVec 32 := 1#32
  let arg11 : BitVec 32 := Scf.iv v97 c1_i32_53 k5_t2
  let c512_i32_54 : BitVec 32 := 512#32
  let v98 : BitVec 32 := Scalar.muli arg11 c512_i32_54
  let v99 : BitVec 32 := v98
  let v110 : Index := Scalar.indexCast v99
  ![0, 0, v110.toNat]
def k5_off16 (i : grid5.Coords) (k5_t2 : Fin (k5_t2_loop i).trips) : Fin 2 → Nat :=
  let arg1 : BitVec 32 := BitVec.ofNat 32 (i 1).val
  let c1_i32 : BitVec 32 := 1#32
  let v92 : BitVec 32 := Scalar.addi arg1 c1_i32
  let c16_i32 : BitVec 32 := 16#32
  let v93 : BitVec 32 := Scalar.subi c16_i32 v92
  let c1_i32_51 : BitVec 32 := 1#32
  let v95 : BitVec 32 := Scalar.divsi v93 c1_i32_51
  let v96 : BitVec 32 := Scalar.muli v95 c1_i32_51
  let v97 : BitVec 32 := Scalar.addi v92 v96
  let c1_i32_53 : BitVec 32 := 1#32
  let arg11 : BitVec 32 := Scf.iv v97 c1_i32_53 k5_t2
  let c512_i32_54 : BitVec 32 := 512#32
  let v98 : BitVec 32 := Scalar.muli arg11 c512_i32_54
  let v99 : BitVec 32 := v98
  let v138 : Index := Scalar.indexCast v99
  let c256_79 : Index := 256#32
  ![v138.toNat, 256]
def k5_off17 (i : grid5.Coords) (k5_t2 : Fin (k5_t2_loop i).trips) : Fin 2 → Nat :=
  let arg1 : BitVec 32 := BitVec.ofNat 32 (i 1).val
  let c1_i32 : BitVec 32 := 1#32
  let v92 : BitVec 32 := Scalar.addi arg1 c1_i32
  let c16_i32 : BitVec 32 := 16#32
  let v93 : BitVec 32 := Scalar.subi c16_i32 v92
  let c1_i32_51 : BitVec 32 := 1#32
  let v95 : BitVec 32 := Scalar.divsi v93 c1_i32_51
  let v96 : BitVec 32 := Scalar.muli v95 c1_i32_51
  let v97 : BitVec 32 := Scalar.addi v92 v96
  let c1_i32_53 : BitVec 32 := 1#32
  let arg11 : BitVec 32 := Scf.iv v97 c1_i32_53 k5_t2
  let c512_i32_54 : BitVec 32 := 512#32
  let v98 : BitVec 32 := Scalar.muli arg11 c512_i32_54
  let v99 : BitVec 32 := v98
  let v141 : Index := Scalar.indexCast v99
  let c128_80 : Index := 128#32
  ![v141.toNat, 128]
def k5_off18 (i : grid5.Coords) (k5_t2 : Fin (k5_t2_loop i).trips) : Fin 3 → Nat :=
  let c1_85 : Index := 1#32
  let c0_86 : Index := 0#32
  let arg1 : BitVec 32 := BitVec.ofNat 32 (i 1).val
  let c1_i32 : BitVec 32 := 1#32
  let v92 : BitVec 32 := Scalar.addi arg1 c1_i32
  let c16_i32 : BitVec 32 := 16#32
  let v93 : BitVec 32 := Scalar.subi c16_i32 v92
  let c1_i32_51 : BitVec 32 := 1#32
  let v95 : BitVec 32 := Scalar.divsi v93 c1_i32_51
  let v96 : BitVec 32 := Scalar.muli v95 c1_i32_51
  let v97 : BitVec 32 := Scalar.addi v92 v96
  let c1_i32_53 : BitVec 32 := 1#32
  let arg11 : BitVec 32 := Scf.iv v97 c1_i32_53 k5_t2
  let c512_i32_54 : BitVec 32 := 512#32
  let v98 : BitVec 32 := Scalar.muli arg11 c512_i32_54
  let v99 : BitVec 32 := v98
  let v148 : Index := Scalar.indexCast v99
  ![1, 0, v148.toNat]
def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c2_i32_0 : BitVec 32 := 2#32
  let v2 : BitVec 32 := Scalar.muli c2_i32_0 v1
  let c1_i32 : BitVec 32 := 1#32
  let v3 : BitVec 32 := Scalar.addi v2 c1_i32
  let c0_i32_1 : BitVec 32 := 0#32
  ![arg1.toNat, v3.toNat]

def cc5_transform_3 (i : grid5.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c2_i32_0 : BitVec 32 := 2#32
  let v2 : BitVec 32 := Scalar.muli c2_i32_0 v1
  let c1_i32_1 : BitVec 32 := 1#32
  let v3 : BitVec 32 := Scalar.addi v2 c1_i32_1
  let c0_i32 : BitVec 32 := 0#32
  ![arg1.toNat, v3.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S8192x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S512x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S8192x256 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S2x1x8192 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S2x1x8192 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev stage5_7 : Fin 2 → Memref sig .tc .vmem S512x512 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 2 → Memref sig .tc .vmem S512x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x2048 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S256x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S256x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S256x2048 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S256x128 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]
-- ==== KernelIdeal.lean ====
variable {F : FTy → Type} [FloatOps F] [Named F]
def κ : String → Option EReal := fun
  | "mask" => some ⊥
  | _ => none
-- ==== ReferenceIdeal.lean ====
abbrev S8192x1536 : Shape := ⟨2, ![8192, 1536]⟩
abbrev S8192x2048 : Shape := ⟨2, ![8192, 2048]⟩
abbrev S8192x64 : Shape := ⟨2, ![8192, 64]⟩
abbrev S8192x32 : Shape := ⟨2, ![8192, 32]⟩
abbrev S8192x1024 : Shape := ⟨2, ![8192, 1024]⟩
abbrev S8192x8x192 : Shape := ⟨3, ![8192, 8, 192]⟩
abbrev S8192x8x256 : Shape := ⟨3, ![8192, 8, 256]⟩
abbrev S8192x8x128 : Shape := ⟨3, ![8192, 8, 128]⟩
abbrev S8192x8x64 : Shape := ⟨3, ![8192, 8, 64]⟩
abbrev S8192x1x32 : Shape := ⟨3, ![8192, 1, 32]⟩
abbrev S8192x8x32 : Shape := ⟨3, ![8192, 8, 32]⟩
abbrev S8x8192x8192 : Shape := ⟨3, ![8, 8192, 8192]⟩
abbrev S8192x8192x8 : Shape := ⟨3, ![8192, 8192, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x128 : Shape := ⟨3, ![8, 8192, 128]⟩

abbrev nBuf : Space → Nat
  | .hbm => 170
  | .vmem => 0
  | .smem => 0
  | _ => 0

abbrev hbmTy0_0 (i : Nat) : BufTy := match i % 128 with
  | 0 => ⟨S8192x1536, .f32⟩
  | 1 => ⟨S8192x2048, .bf16⟩
  | 2 => ⟨S8192x64, .bf16⟩
  | 3 => ⟨S8192x32, .f32⟩
  | 4 => ⟨S8192x32, .f32⟩
  | 5 => ⟨S8192x1024, .bf16⟩
  | 6 => ⟨S8192x2048, .f32⟩
  | 7 => ⟨S8192x64, .f32⟩
  | 8 => ⟨S8192x8x192, .f32⟩
  | 9 => ⟨S8192x8x256, .f32⟩
  | 10 => ⟨S8192x8x128, .f32⟩
  | 11 => ⟨S8192x8x64, .f32⟩
  | 12 => ⟨S8192x1x32, .f32⟩
  | 13 => ⟨S8192x1x32, .f32⟩
  | 14 => ⟨S8192x8x32, .f32⟩
  | 15 => ⟨S8192x8x32, .f32⟩
  | 16 => ⟨S8192x8x32, .f32⟩
  | 17 => ⟨S8192x8x32, .f32⟩
  | 18 => ⟨S8192x8x32, .f32⟩
  | 19 => ⟨S8192x8x32, .f32⟩
  | 20 => ⟨S8192x8x32, .f32⟩
  | 21 => ⟨S8192x8x32, .f32⟩
  | 22 => ⟨S8192x8x32, .f32⟩
  | 23 => ⟨S8192x8x32, .f32⟩
  | 24 => ⟨S8192x8x32, .f32⟩
  | 25 => ⟨S8192x8x32, .f32⟩
  | 26 => ⟨S8192x8x64, .f32⟩
  | 27 => ⟨S8192x32, .f32⟩
  | 28 => ⟨S8192x32, .f32⟩
  | 29 => ⟨S8192x32, .f32⟩
  | 30 => ⟨S8192x32, .f32⟩
  | 31 => ⟨S8192x32, .f32⟩
  | 32 => ⟨S8192x32, .f32⟩
  | 33 => ⟨S8192x32, .f32⟩
  | 34 => ⟨S8192x32, .f32⟩
  | 35 => ⟨S8192x64, .f32⟩
  | 36 => ⟨S8192x8x128, .f32⟩
  | 37 => ⟨S8192x8x128, .f32⟩
  | 38 => ⟨S8x8192x8192, .f32⟩
  | 39 => ⟨S8192x8192x8, .f32⟩
  | 40 => ⟨S8x8192x8192, .f32⟩
  | 41 => ⟨S8x8192x8192, .f32⟩
  | 42 => ⟨S_, .f32⟩
  | 43 => ⟨S8x8192x8192, .f32⟩
  | 44 => ⟨S8x8192x8192, .f32⟩
  | 45 => ⟨S8192, .i32⟩
  | 46 => ⟨S1x8192, .i32⟩
  | 47 => ⟨S8192x1, .i32⟩
  | 48 => ⟨S8192x8192, .i32⟩
  | 49 => ⟨S8192x8192, .i32⟩
  | 50 => ⟨S8192x8192, .i1⟩
  | 51 => ⟨S1x8192x8192, .i1⟩
  | 52 => ⟨S8x8192x8192, .i1⟩
  | 53 => ⟨S_, .f32⟩
  | 54 => ⟨S8x8192x8192, .f32⟩
  | 55 => ⟨S8x8192x8192, .f32⟩
  | 56 => ⟨S_, .f32⟩
  | 57 => ⟨S8x8192x8192, .f32⟩
  | 58 => ⟨S_, .f32⟩
  | 59 => ⟨S8x8192, .f32⟩
  | 60 => ⟨S8x8192x1, .f32⟩
  | 61 => ⟨S8x8192x8192, .f32⟩
  | 62 => ⟨S8x8192x8192, .i1⟩
  | 63 => ⟨S8x8192x8192, .f32⟩
  | 64 => ⟨S_, .f32⟩
  | 65 => ⟨S8x8192, .f32⟩
  | 66 => ⟨S_, .f32⟩
  | 67 => ⟨S8x8192, .f32⟩
  | 68 => ⟨S8x8192, .f32⟩
  | 69 => ⟨S_, .f32⟩
  | 70 => ⟨S8x8192, .f32⟩
  | 71 => ⟨S8x8192, .i1⟩
  | 72 => ⟨S_, .f32⟩
  | 73 => ⟨S8x8192, .f32⟩
  | 74 => ⟨S8x8192, .i1⟩
  | 75 => ⟨S_, .f32⟩
  | 76 => ⟨S8x8192, .f32⟩
  | 77 => ⟨S_, .f32⟩
  | 78 => ⟨S8x8192, .f32⟩
  | 79 => ⟨S_, .f32⟩
  | 80 => ⟨S8x8192, .f32⟩
  | 81 => ⟨S8x8192, .f32⟩
  | 82 => ⟨S8x8192, .f32⟩
  | 83 => ⟨S8x8192x1, .f32⟩
  | 84 => ⟨S8x8192x8192, .f32⟩
  | 85 => ⟨S8x8192x8192, .f32⟩
  | 86 => ⟨S8x8192x8192, .f32⟩
  | 87 => ⟨S_, .f32⟩
  | 88 => ⟨S8x8192, .f32⟩
  | 89 => ⟨S8x8192x1, .f32⟩
  | 90 => ⟨S8x8192x8192, .f32⟩
  | 91 => ⟨S8x8192x8192, .f32⟩
  | 92 => ⟨S8x8192x1, .f32⟩
  | 93 => ⟨S_, .f32⟩
  | 94 => ⟨S8x8192x1, .f32⟩
  | 95 => ⟨S8x8192x1, .f32⟩
  | 96 => ⟨S8x128x8192, .f32⟩
  | 97 => ⟨S8192x8x128, .f32⟩
  | 98 => ⟨S8192x1024, .f32⟩
  | 99 => ⟨S8192x8x128, .f32⟩
  | 100 => ⟨S8x128x8192, .f32⟩
  | 101 => ⟨S8x8192x8192, .f32⟩
  | 102 => ⟨S8x128x8192, .f32⟩
  | 103 => ⟨S8192x8x128, .f32⟩
  | 104 => ⟨S8x8192x8192, .f32⟩
  | 105 => ⟨S8x8192x8192, .f32⟩
  | 106 => ⟨S8x8192x8192, .f32⟩
  | 107 => ⟨S_, .f32⟩
  | 108 => ⟨S8x8192, .f32⟩
  | 109 => ⟨S8x8192x1, .f32⟩
  | 110 => ⟨S8x8192x1, .f32⟩
  | 111 => ⟨S8x8192x8192, .f32⟩
  | 112 => ⟨S8x8192x8192, .f32⟩
  | 113 => ⟨S_, .f32⟩
  | 114 => ⟨S8x8192, .f32⟩
  | 115 => ⟨S8x8192x8192, .f32⟩
  | 116 => ⟨S8x8192x8192, .f32⟩
  | 117 => ⟨S8x8192x8192, .f32⟩
  | 118 => ⟨S_, .f32⟩
  | 119 => ⟨S8x8192x8192, .f32⟩
  | 120 => ⟨S8x8192x8192, .f32⟩
  | 121 => ⟨S_, .f32⟩
  | 122 => ⟨S8x8192x8192, .f32⟩
  | 123 => ⟨S8x8192x8192, .f32⟩
  | 124 => ⟨S8192x8192x8, .f32⟩
  | 125 => ⟨S8192x8x64, .f32⟩
  | 126 => ⟨S8192x64, .f32⟩
  | 127 => ⟨S8x8192x128, .f32⟩
  | _ => ⟨S8192x1536, .f32⟩

abbrev hbmTy0_1 (i : Nat) : BufTy := match i % 128 with
  | 0 => ⟨S8192x8x128, .f32⟩
  | 1 => ⟨S8x8192x128, .f32⟩
  | 2 => ⟨S8192x8x128, .f32⟩
  | 3 => ⟨S_, .f32⟩
  | 4 => ⟨S8192x8x256, .f32⟩
  | 5 => ⟨S_, .f32⟩
  | 6 => ⟨S8192x8x256, .f32⟩
  | 7 => ⟨S8192x8x256, .f32⟩
  | 8 => ⟨S8192x32, .f32⟩
  | 9 => ⟨S8192x32, .f32⟩
  | 10 => ⟨S8192x32, .f32⟩
  | 11 => ⟨S8192x32, .f32⟩
  | 12 => ⟨S8192x32, .f32⟩
  | 13 => ⟨S8192x32, .f32⟩
  | 14 => ⟨S8192x32, .f32⟩
  | 15 => ⟨S8192x32, .f32⟩
  | 16 => ⟨S8192x32, .f32⟩
  | 17 => ⟨S8192x64, .f32⟩
  | 18 => ⟨S8192x8x32, .f32⟩
  | 19 => ⟨S8192x8x32, .f32⟩
  | 20 => ⟨S8192x8x32, .f32⟩
  | 21 => ⟨S8192x8x32, .f32⟩
  | 22 => ⟨S8192x8x32, .f32⟩
  | 23 => ⟨S8192x8x32, .f32⟩
  | 24 => ⟨S8192x8x32, .f32⟩
  | 25 => ⟨S8192x8x32, .f32⟩
  | 26 => ⟨S8192x8x32, .f32⟩
  | 27 => ⟨S8192x8x32, .f32⟩
  | 28 => ⟨S8192x8x32, .f32⟩
  | 29 => ⟨S8192x8x32, .f32⟩
  | 30 => ⟨S8192x8x32, .f32⟩
  | 31 => ⟨S8192x8x64, .f32⟩
  | 32 => ⟨S_, .f32⟩
  | 33 => ⟨S8192x8x192, .f32⟩
  | 34 => ⟨S_, .f32⟩
  | 35 => ⟨S8192x8x192, .f32⟩
  | 36 => ⟨S8192x8x192, .f32⟩
  | 37 => ⟨S8192x2048, .f32⟩
  | 38 => ⟨S8192x1536, .f32⟩
  | 39 => ⟨S8192x1536, .bf16⟩
  | 40 => ⟨S8192x2048, .bf16⟩
  | 41 => ⟨S8192x64, .bf16⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_0 : Ref sig .tc := ⟨.hbm, 53, rfl⟩
abbrev main_v46 : Ref sig .tc := ⟨.hbm, 54, rfl⟩
abbrev main_v47 : Ref sig .tc := ⟨.hbm, 55, rfl⟩
abbrev main_cst_1 : Ref sig .tc := ⟨.hbm, 56, rfl⟩
abbrev main_v48 : Ref sig .tc := ⟨.hbm, 57, rfl⟩
abbrev main_cst_2 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_3 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_12 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_13 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_14 : Ref sig .tc := ⟨.hbm, 118, rfl⟩
abbrev main_v97 : Ref sig .tc := ⟨.hbm, 119, rfl⟩
abbrev main_v98 : Ref sig .tc := ⟨.hbm, 120, rfl⟩
abbrev main_cst_15 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_16 : Ref sig .tc := ⟨.hbm, 131, rfl⟩
abbrev main_v108 : Ref sig .tc := ⟨.hbm, 132, rfl⟩
abbrev main_cst_17 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_18 : Ref sig .tc := ⟨.hbm, 160, rfl⟩
abbrev main_v135 : Ref sig .tc := ⟨.hbm, 161, rfl⟩
abbrev main_cst_19 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩

abbrev nD : Nat := 1
abbrev τ : Topo := Topo.v7x

variable {F : FTy → Type} [FloatOps F]
-- ==== Kernel2.lean ====
abbrev S8192x1024 : Shape := ⟨2, ![8192, 1024]⟩
abbrev S8192x16 : Shape := ⟨2, ![8192, 16]⟩
abbrev S_ : Shape := ⟨0, ![]⟩
abbrev S8192x0 : Shape := ⟨2, ![8192, 0]⟩
abbrev S8192x96 : Shape := ⟨2, ![8192, 96]⟩
abbrev S8192x128 : Shape := ⟨2, ![8192, 128]⟩
abbrev S8192x112 : Shape := ⟨2, ![8192, 112]⟩
abbrev S256x1024 : Shape := ⟨2, ![256, 1024]⟩
abbrev S256x128 : Shape := ⟨2, ![256, 128]⟩
abbrev S128x1024 : Shape := ⟨2, ![128, 1024]⟩
abbrev S128x256 : Shape := ⟨2, ![128, 256]⟩
abbrev S128x128 : Shape := ⟨2, ![128, 128]⟩
abbrev S256x256 : Shape := ⟨2, ![256, 256]⟩
abbrev S128 : Shape := ⟨1, ![128]⟩
abbrev S128x1 : Shape := ⟨2, ![128, 1]⟩
abbrev S2048x4096 : Shape := ⟨2, ![2048, 4096]⟩
abbrev S512x16384 : Shape := ⟨2, ![512, 16384]⟩
abbrev S256 : Shape := ⟨1, ![256]⟩
abbrev S256x1 : Shape := ⟨2, ![256, 1]⟩

abbrev nBuf : Space → Nat
  | .hbm => 111
  | .vmem => 246
  | .smem => 0
  | _ => 0

abbrev vmemTy0_0 (i : Nat) : BufTy := match i % 128 with
  | 0 => ⟨S256x1024, .bf16⟩
  | 1 => ⟨S256x1024, .bf16⟩
  | 2 => ⟨S256x128, .f32⟩
  | 3 => ⟨S256x128, .f32⟩
  | 4 => ⟨S256x128, .f32⟩
  | 5 => ⟨S256x128, .f32⟩
  | 6 => ⟨S256x128, .f32⟩
  | 7 => ⟨S256x128, .f32⟩
  | 8 => ⟨S256x1024, .bf16⟩
  | 9 => ⟨S256x1024, .bf16⟩
  | 10 => ⟨S256x1024, .bf16⟩
  | 11 => ⟨S256x1024, .bf16⟩
  | 12 => ⟨S256x128, .f32⟩
  | 13 => ⟨S256x128, .f32⟩
  | 14 => ⟨S256x128, .f32⟩
  | 15 => ⟨S256x128, .f32⟩
  | 16 => ⟨S256x128, .f32⟩
  | 17 => ⟨S256x128, .f32⟩
  | 18 => ⟨S256x1024, .bf16⟩
  | 19 => ⟨S256x1024, .bf16⟩
  | 20 => ⟨S128x1024, .bf16⟩
  | 21 => ⟨S128x1024, .bf16⟩
  | 22 => ⟨S128x1024, .bf16⟩
  | 23 => ⟨S128x1024, .bf16⟩
  | 24 => ⟨S128x1024, .bf16⟩
  | 25 => ⟨S128x1024, .bf16⟩
  | 26 => ⟨S128x1024, .bf16⟩
  | 27 => ⟨S128x1024, .bf16⟩
  | 28 => ⟨S128x1024, .bf16⟩
  | 29 => ⟨S128x1024, .bf16⟩
  | 30 => ⟨S128x1024, .bf16⟩
  | 31 => ⟨S128x1024, .bf16⟩
  | 32 => ⟨S128x1024, .f32⟩
  | 33 => ⟨S128x1024, .f32⟩
  | 34 => ⟨S128x1024, .bf16⟩
  | 35 => ⟨S128x1024, .bf16⟩
  | 36 => ⟨S128x1024, .bf16⟩
  | 37 => ⟨S128x1024, .bf16⟩
  | 38 => ⟨S128x1024, .bf16⟩
  | 39 => ⟨S128x1024, .bf16⟩
  | 40 => ⟨S128x1024, .bf16⟩
  | 41 => ⟨S128x1024, .bf16⟩
  | 42 => ⟨S128x1024, .bf16⟩
  | 43 => ⟨S128x1024, .bf16⟩
  | 44 => ⟨S128x1024, .bf16⟩
  | 45 => ⟨S128x1024, .bf16⟩
  | 46 => ⟨S128x1024, .f32⟩
  | 47 => ⟨S128x1024, .f32⟩
  | 48 => ⟨S128x1024, .bf16⟩
  | 49 => ⟨S128x1024, .bf16⟩
  | 50 => ⟨S128x1024, .bf16⟩
  | 51 => ⟨S128x1024, .bf16⟩
  | 52 => ⟨S128x1024, .bf16⟩
  | 53 => ⟨S128x1024, .bf16⟩
  | 54 => ⟨S128x1024, .bf16⟩
  | 55 => ⟨S128x1024, .bf16⟩
  | 56 => ⟨S128x1024, .bf16⟩
  | 57 => ⟨S128x1024, .bf16⟩
  | 58 => ⟨S128x1024, .bf16⟩
  | 59 => ⟨S128x1024, .bf16⟩
  | 60 => ⟨S128x1024, .f32⟩
  | 61 => ⟨S128x1024, .f32⟩
  | 62 => ⟨S256x1024, .bf16⟩
  | 63 => ⟨S256x1024, .bf16⟩
  | 64 => ⟨S256x1024, .bf16⟩
  | 65 => ⟨S256x1024, .bf16⟩
  | 66 => ⟨S256x1024, .bf16⟩
  | 67 => ⟨S256x1024, .bf16⟩
  | 68 => ⟨S256x1024, .f32⟩
  | 69 => ⟨S256x1024, .f32⟩
  | 70 => ⟨S256x1024, .f32⟩
  | 71 => ⟨S256x1024, .f32⟩
  | 72 => ⟨S256x1024, .f32⟩
  | 73 => ⟨S256x1024, .f32⟩
  | 74 => ⟨S256x1024, .bf16⟩
  | 75 => ⟨S256x1024, .bf16⟩
  | 76 => ⟨S256x1024, .f32⟩
  | 77 => ⟨S256x1024, .f32⟩
  | 78 => ⟨S256x1024, .bf16⟩
  | 79 => ⟨S256x1024, .bf16⟩
  | 80 => ⟨S256x1024, .bf16⟩
  | 81 => ⟨S256x1024, .bf16⟩
  | 82 => ⟨S256x1024, .f32⟩
  | 83 => ⟨S256x1024, .f32⟩
  | 84 => ⟨S128x1024, .bf16⟩
  | 85 => ⟨S128x1024, .bf16⟩
  | 86 => ⟨S128x1024, .bf16⟩
  | 87 => ⟨S128x1024, .bf16⟩
  | 88 => ⟨S128x1024, .bf16⟩
  | 89 => ⟨S128x1024, .bf16⟩
  | 90 => ⟨S128x1024, .bf16⟩
  | 91 => ⟨S128x1024, .bf16⟩
  | 92 => ⟨S128x1024, .bf16⟩
  | 93 => ⟨S128x1024, .bf16⟩
  | 94 => ⟨S128x1024, .bf16⟩
  | 95 => ⟨S128x1024, .bf16⟩
  | 96 => ⟨S128x1024, .f32⟩
  | 97 => ⟨S128x1024, .f32⟩
  | 98 => ⟨S128x1024, .f32⟩
  | 99 => ⟨S128x1024, .f32⟩
  | 100 => ⟨S128x1024, .bf16⟩
  | 101 => ⟨S128x1024, .bf16⟩
  | 102 => ⟨S128x1024, .bf16⟩
  | 103 => ⟨S128x1024, .bf16⟩
  | 104 => ⟨S128x1024, .bf16⟩
  | 105 => ⟨S128x1024, .bf16⟩
  | 106 => ⟨S128x1024, .bf16⟩
  | 107 => ⟨S128x1024, .bf16⟩
  | 108 => ⟨S128x1024, .bf16⟩
  | 109 => ⟨S128x1024, .bf16⟩
  | 110 => ⟨S128x1024, .bf16⟩
  | 111 => ⟨S128x1024, .bf16⟩
  | 112 => ⟨S128x1024, .bf16⟩
  | 113 => ⟨S128x1024, .bf16⟩
  | 114 => ⟨S128x1024, .f32⟩
  | 115 => ⟨S128x1024, .f32⟩
  | 116 => ⟨S128x1024, .f32⟩
  | 117 => ⟨S128x1024, .f32⟩
  | 118 => ⟨S128x1024, .f32⟩
  | 119 => ⟨S128x1024, .f32⟩
  | 120 => ⟨S128x1024, .f32⟩
  | 121 => ⟨S128x1024, .f32⟩
  | 122 => ⟨S128x1024, .bf16⟩
  | 123 => ⟨S128x1024, .bf16⟩
  | 124 => ⟨S128x1024, .bf16⟩
  | 125 => ⟨S128x1024, .bf16⟩
  | 126 => ⟨S128x1024, .bf16⟩
  | 127 => ⟨S128x1024, .bf16⟩
  | _ => ⟨S8192x1024, .bf16⟩

abbrev vmemTy0_1 (i : Nat) : BufTy := match i % 128 with
  | 0 => ⟨S128x1024, .bf16⟩
  | 1 => ⟨S128x1024, .bf16⟩
  | 2 => ⟨S128x1024, .bf16⟩
  | 3 => ⟨S128x1024, .bf16⟩
  | 4 => ⟨S128x1024, .bf16⟩
  | 5 => ⟨S128x1024, .bf16⟩
  | 6 => ⟨S128x1024, .bf16⟩
  | 7 => ⟨S128x1024, .bf16⟩
  | 8 => ⟨S128x1024, .bf16⟩
  | 9 => ⟨S128x1024, .bf16⟩
  | 10 => ⟨S128x1024, .f32⟩
  | 11 => ⟨S128x1024, .f32⟩
  | 12 => ⟨S128x1024, .f32⟩
  | 13 => ⟨S128x1024, .f32⟩
  | 14 => ⟨S128x1024, .bf16⟩
  | 15 => ⟨S128x1024, .bf16⟩
  | 16 => ⟨S128x1024, .bf16⟩
  | 17 => ⟨S128x1024, .bf16⟩
  | 18 => ⟨S128x1024, .bf16⟩
  | 19 => ⟨S128x1024, .bf16⟩
  | 20 => ⟨S128x1024, .bf16⟩
  | 21 => ⟨S128x1024, .bf16⟩
  | 22 => ⟨S128x1024, .bf16⟩
  | 23 => ⟨S128x1024, .bf16⟩
  | 24 => ⟨S128x1024, .bf16⟩
  | 25 => ⟨S128x1024, .bf16⟩
  | 26 => ⟨S128x1024, .bf16⟩
  | 27 => ⟨S128x1024, .bf16⟩
  | 28 => ⟨S128x1024, .f32⟩
  | 29 => ⟨S128x1024, .f32⟩
  | 30 => ⟨S128x1024, .f32⟩
  | 31 => ⟨S128x1024, .f32⟩
  | 32 => ⟨S128x1024, .f32⟩
  | 33 => ⟨S128x1024, .f32⟩
  | 34 => ⟨S128x1024, .f32⟩
  | 35 => ⟨S128x1024, .f32⟩
  | 36 => ⟨S128x1024, .bf16⟩
  | 37 => ⟨S128x1024, .bf16⟩
  | 38 => ⟨S128x1024, .bf16⟩
  | 39 => ⟨S128x1024, .bf16⟩
  | 40 => ⟨S128x1024, .bf16⟩
  | 41 => ⟨S128x1024, .bf16⟩
  | 42 => ⟨S128x1024, .bf16⟩
  | 43 => ⟨S128x1024, .bf16⟩
  | 44 => ⟨S128x1024, .bf16⟩
  | 45 => ⟨S128x1024, .bf16⟩
  | 46 => ⟨S128x1024, .bf16⟩
  | 47 => ⟨S128x1024, .bf16⟩
  | 48 => ⟨S128x1024, .bf16⟩
  | 49 => ⟨S128x1024, .bf16⟩
  | 50 => ⟨S128x1024, .bf16⟩
  | 51 => ⟨S128x1024, .bf16⟩
  | 52 => ⟨S128x1024, .f32⟩
  | 53 => ⟨S128x1024, .f32⟩
  | 54 => ⟨S128x1024, .f32⟩
  | 55 => ⟨S128x1024, .f32⟩
  | 56 => ⟨S128x1024, .bf16⟩
  | 57 => ⟨S128x1024, .bf16⟩
  | 58 => ⟨S128x1024, .bf16⟩
  | 59 => ⟨S128x1024, .bf16⟩
  | 60 => ⟨S128x1024, .bf16⟩
  | 61 => ⟨S128x1024, .bf16⟩
  | 62 => ⟨S128x1024, .bf16⟩
  | 63 => ⟨S128x1024, .bf16⟩
  | 64 => ⟨S128x1024, .bf16⟩
  | 65 => ⟨S128x1024, .bf16⟩
  | 66 => ⟨S128x1024, .bf16⟩
  | 67 => ⟨S128x1024, .bf16⟩
  | 68 => ⟨S128x1024, .bf16⟩
  | 69 => ⟨S128x1024, .bf16⟩
  | 70 => ⟨S128x1024, .f32⟩
  | 71 => ⟨S128x1024, .f32⟩
  | 72 => ⟨S128x1024, .f32⟩
  | 73 => ⟨S128x1024, .f32⟩
  | 74 => ⟨S128x1024, .f32⟩
  | 75 => ⟨S128x1024, .f32⟩
  | 76 => ⟨S128x1024, .f32⟩
  | 77 => ⟨S128x1024, .f32⟩
  | 78 => ⟨S128x1024, .bf16⟩
  | 79 => ⟨S128x1024, .bf16⟩
  | 80 => ⟨S128x1024, .bf16⟩
  | 81 => ⟨S128x1024, .bf16⟩
  | 82 => ⟨S256x1024, .bf16⟩
  | 83 => ⟨S256x1024, .bf16⟩
  | 84 => ⟨S256x1024, .bf16⟩
  | 85 => ⟨S256x1024, .bf16⟩
  | 86 => ⟨S256x1024, .bf16⟩
  | 87 => ⟨S256x1024, .bf16⟩
  | 88 => ⟨S256x128, .f32⟩
  | 89 => ⟨S256x128, .f32⟩
  | 90 => ⟨S256x128, .f32⟩
  | 91 => ⟨S256x128, .f32⟩
  | 92 => ⟨S256x128, .f32⟩
  | 93 => ⟨S256x128, .f32⟩
  | 94 => ⟨S256x1024, .bf16⟩
  | 95 => ⟨S256x1024, .bf16⟩
  | 96 => ⟨S256x1024, .bf16⟩
  | 97 => ⟨S256x1024, .bf16⟩
  | 98 => ⟨S256x1024, .bf16⟩
  | 99 => ⟨S256x1024, .bf16⟩
  | 100 => ⟨S256x1024, .bf16⟩
  | 101 => ⟨S256x1024, .bf16⟩
  | 102 => ⟨S256x128, .f32⟩
  | 103 => ⟨S256x128, .f32⟩
  | 104 => ⟨S256x128, .f32⟩
  | 105 => ⟨S256x128, .f32⟩
  | 106 => ⟨S256x128, .f32⟩
  | 107 => ⟨S256x128, .f32⟩
  | 108 => ⟨S256x1024, .bf16⟩
  | 109 => ⟨S256x1024, .bf16⟩
  | 110 => ⟨S256x1024, .bf16⟩
  | 111 => ⟨S256x1024, .bf16⟩
  | 112 => ⟨S256x1024, .bf16⟩
  | 113 => ⟨S256x1024, .bf16⟩
  | 114 => ⟨S256x1024, .bf16⟩
  | 115 => ⟨S256x1024, .bf16⟩
  | 116 => ⟨S256x1024, .bf16⟩
  | 117 => ⟨S256x1024, .bf16⟩
  | _ => ⟨S8192x1024, .bf16⟩

abbrev vmemTy (i : Nat) : BufTy := match i / 128 with
  | 0 => vmemTy0_0 i
  | 1 => vmemTy0_1 i
  | _ => ⟨S8192x1024, .bf16⟩

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x16, .f32⟩
  | .hbm, ⟨4, _⟩ => ⟨S8192x16, .f32⟩
  | .hbm, ⟨5, _⟩ => ⟨S8192x1024, .bf16⟩
  | .hbm, ⟨6, _⟩ => ⟨S_, .f32⟩
  | .hbm, ⟨7, _⟩ => ⟨S8192x0, .f32⟩
  | .hbm, ⟨8, _⟩ => ⟨S_, .f32⟩
  | .hbm, ⟨9, _⟩ => ⟨S8192x96, .f32⟩
  | .hbm, ⟨10, _⟩ => ⟨S8192x128, .f32⟩
  | .hbm, ⟨11, _⟩ => ⟨S_, .f32⟩
  | .hbm, ⟨12, _⟩ => ⟨S8192x16, .f32⟩
  | .hbm, ⟨13, _⟩ => ⟨S_, .f32⟩
  | .hbm, ⟨14, _⟩ => ⟨S8192x96, .f32⟩
  | .hbm, ⟨15, _⟩ => ⟨S8192x128, .f32⟩
  | .hbm, ⟨16, _⟩ => ⟨S_, .f32⟩
  | .hbm, ⟨17, _⟩ => ⟨S8192x0, .f32⟩
  | .hbm, ⟨18, _⟩ => ⟨S8192x16, .f32⟩
  | .hbm, ⟨19, _⟩ => ⟨S_, .f32⟩
  | .hbm, ⟨20, _⟩ => ⟨S8192x112, .f32⟩
  | .hbm, ⟨21, _⟩ => ⟨S8192x128, .f32⟩
  | .hbm, ⟨22, _⟩ => ⟨S_, .f32⟩
  | .hbm, ⟨23, _⟩ => ⟨S8192x0, .f32⟩
  | .hbm, ⟨24, _⟩ => ⟨S_, .f32⟩
  | .hbm, ⟨25, _⟩ => ⟨S8192x96, .f32⟩
  | .hbm, ⟨26, _⟩ => ⟨S8192x128, .f32⟩
  | .hbm, ⟨27, _⟩ => ⟨S_, .f32⟩
  | .hbm, ⟨28, _⟩ => ⟨S8192x16, .f32⟩
  | .hbm, ⟨29, _⟩ => ⟨S_, .f32⟩
  | .hbm, ⟨30, _⟩ => ⟨S8192x96, .f32⟩
  | .hbm, ⟨31, _⟩ => ⟨S8192x128, .f32⟩
  | .hbm, ⟨32, _⟩ => ⟨S_, .f32⟩
  | .hbm, ⟨33, _⟩ => ⟨S8192x0, .f32⟩
  | .hbm, ⟨34, _⟩ => ⟨S8192x16, .f32⟩
  | .hbm, ⟨35, _⟩ => ⟨S_, .f32⟩
  | .hbm, ⟨36, _⟩ => ⟨S8192x112, .f32⟩
  | .hbm, ⟨37, _⟩ => ⟨S8192x128, .f32⟩
  | .hbm, ⟨38, _⟩ => ⟨S8192x16, .f32⟩
  | .hbm, ⟨39, _⟩ => ⟨S8192x112, .f32⟩
  | .hbm, ⟨40, _⟩ => ⟨S8192x128, .f32⟩
  | .hbm, ⟨41, _⟩ => ⟨S8192x112, .f32⟩
  | .hbm, ⟨42, _⟩ => ⟨S8192x16, .f32⟩
  | .hbm, ⟨43, _⟩ => ⟨S8192x128, .f32⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S8192x1024, .f32⟩
  | .hbm, ⟨48, _⟩ => ⟨S2048x4096, .bf16⟩
  | .hbm, ⟨49, _⟩ => ⟨S2048x4096, .bf16⟩
  | .hbm, ⟨50, _⟩ => ⟨S2048x4096, .bf16⟩
  | .hbm, ⟨51, _⟩ => ⟨S2048x4096, .bf16⟩
  | .hbm, ⟨52, _⟩ => ⟨S2048x4096, .bf16⟩
  | .hbm, ⟨53, _⟩ => ⟨S2048x4096, .bf16⟩
  | .hbm, ⟨54, _⟩ => ⟨S2048x4096, .f32⟩
  | .hbm, ⟨55, _⟩ => ⟨S8192x1024, .bf16⟩
  | .hbm, ⟨56, _⟩ => ⟨S8192x1024, .f32⟩
  | .hbm, ⟨57, _⟩ => ⟨S512x16384, .bf16⟩
  | .hbm, ⟨58, _⟩ => ⟨S512x16384, .bf16⟩
  | .hbm, ⟨59, _⟩ => ⟨S512x16384, .bf16⟩
  | .hbm, ⟨60, _⟩ => ⟨S512x16384, .bf16⟩
  | .hbm, ⟨61, _⟩ => ⟨S512x16384, .bf16⟩
  | .hbm, ⟨62, _⟩ => ⟨S512x16384, .bf16⟩
  | .hbm, ⟨63, _⟩ => ⟨S512x16384, .f32⟩
  | .hbm, ⟨64, _⟩ => ⟨S8192x1024, .bf16⟩
  | .hbm, ⟨65, _⟩ => ⟨S8192x1024, .f32⟩
  | .hbm, ⟨66, _⟩ => ⟨S8192x1024, .bf16⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S8192x1024, .bf16⟩
  | .hbm, ⟨71, _⟩ => ⟨S8192x1024, .bf16⟩
  | .hbm, ⟨72, _⟩ => ⟨S2048x4096, .bf16⟩
  | .hbm, ⟨73, _⟩ => ⟨S2048x4096, .bf16⟩
  | .hbm, ⟨74, _⟩ => ⟨S2048x4096, .bf16⟩
  | .hbm, ⟨75, _⟩ => ⟨S2048x4096, .bf16⟩
  | .hbm, ⟨76, _⟩ => ⟨S2048x4096, .f32⟩
  | .hbm, ⟨77, _⟩ => ⟨S2048x4096, .f32⟩
  | .hbm, ⟨78, _⟩ => ⟨S2048x4096, .bf16⟩
  | .hbm, ⟨79, _⟩ => ⟨S8192x1024, .bf16⟩
  | .hbm, ⟨80, _⟩ => ⟨S2048x4096, .bf16⟩
  | .hbm, ⟨81, _⟩ => ⟨S2048x4096, .bf16⟩
  | .hbm, ⟨82, _⟩ => ⟨S2048x4096, .f32⟩
  | .hbm, ⟨83, _⟩ => ⟨S2048x4096, .f32⟩
  | .hbm, ⟨84, _⟩ => ⟨S2048x4096, .bf16⟩
  | .hbm, ⟨85, _⟩ => ⟨S2048x4096, .bf16⟩
  | .hbm, ⟨86, _⟩ => ⟨S2048x4096, .bf16⟩
  | .hbm, ⟨87, _⟩ => ⟨S2048x4096, .bf16⟩
  | .hbm, ⟨88, _⟩ => ⟨S8192x1024, .bf16⟩
  | .hbm, ⟨89, _⟩ => ⟨S8192x1024, .bf16⟩
  | .hbm, ⟨90, _⟩ => ⟨S512x16384, .bf16⟩
  | .hbm, ⟨91, _⟩ => ⟨S512x16384, .bf16⟩
  | .hbm, ⟨92, _⟩ => ⟨S512x16384, .bf16⟩
  | .hbm, ⟨93, _⟩ => ⟨S512x16384, .bf16⟩
  | .hbm, ⟨94, _⟩ => ⟨S512x16384, .f32⟩
  | .hbm, ⟨95, _⟩ => ⟨S512x16384, .f32⟩
  | .hbm, ⟨96, _⟩ => ⟨S512x16384, .bf16⟩
  | .hbm, ⟨97, _⟩ => ⟨S8192x1024, .bf16⟩
  | .hbm, ⟨98, _⟩ => ⟨S512x16384, .bf16⟩
  | .hbm, ⟨99, _⟩ => ⟨S512x16384, .bf16⟩
  | .hbm, ⟨100, _⟩ => ⟨S512x16384, .f32⟩
  | .hbm, ⟨101, _⟩ => ⟨S512x16384, .f32⟩
  | .hbm, ⟨102, _⟩ => ⟨S512x16384, .bf16⟩
  | .hbm, ⟨103, _⟩ => ⟨S512x16384, .bf16⟩
  | .hbm, ⟨104, _⟩ => ⟨S512x16384, .bf16⟩
  | .hbm, ⟨105, _⟩ => ⟨S512x16384, .bf16⟩
  | .hbm, ⟨106, _⟩ => ⟨S8192x1024, .bf16⟩
  | .hbm, ⟨107, _⟩ => ⟨S8192x1024, .bf16⟩
  | .hbm, ⟨108, _⟩ => ⟨S8192x1024, .bf16⟩
  | .hbm, ⟨109, _⟩ => ⟨S8192x1024, .bf16⟩
  | .hbm, ⟨110, _⟩ => ⟨S8192x1024, .bf16⟩
  | .local _ .vmem, ⟨i, _⟩ => vmemTy i
  | _, _ => ⟨S8192x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 246 → Bool
  | ⟨i, _⟩ => dmaSemScopedAt i

abbrev sig : RefSig :=
  ofTc nBuf bufTy 0 246 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_v12 : Ref sig .tc := ⟨.hbm, 26, rfl⟩
abbrev main_cst_7 : Ref sig .tc := ⟨.hbm, 27, rfl⟩
abbrev main_v13 : Ref sig .tc := ⟨.hbm, 28, rfl⟩
abbrev main_cst_8 : Ref sig .tc := ⟨.hbm, 29, rfl⟩
abbrev main_v14 : Ref sig .tc := ⟨.hbm, 30, rfl⟩
abbrev main_v15 : Ref sig .tc := ⟨.hbm, 31, rfl⟩
abbrev main_cst_9 : Ref sig .tc := ⟨.hbm, 32, rfl⟩
abbrev main_v16 : Ref sig .tc := ⟨.hbm, 33, rfl⟩
abbrev main_v17 : Ref sig .tc := ⟨.hbm, 34, rfl⟩
abbrev main_cst_10 : Ref sig .tc := ⟨.hbm, 35, rfl⟩
abbrev main_v18 : Ref sig .tc := ⟨.hbm, 36, rfl⟩
abbrev main_v19 : Ref sig .tc := ⟨.hbm, 37, rfl⟩
abbrev main_call0_v0 : Ref sig .tc := ⟨.hbm, 38, rfl⟩
abbrev main_call0_v1 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24_0 : Ref sig .tc := ⟨.hbm, 46, rfl⟩
abbrev main_v24_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30_0 : Ref sig .tc := ⟨.hbm, 53, rfl⟩
abbrev main_v30_1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38_0 : Ref sig .tc := ⟨.hbm, 62, rfl⟩
abbrev main_v38_1 : Ref sig .tc := ⟨.hbm, 63, rfl⟩
abbrev main_v39 : Ref sig .tc := ⟨.hbm, 64, rfl⟩
abbrev main_v40 : Ref sig .tc := ⟨.hbm, 65, rfl⟩
abbrev main_v41_0 : Ref sig .tc := ⟨.hbm, 66, rfl⟩
abbrev main_v41_1 : Ref sig .tc := ⟨.hbm, 67, rfl⟩
abbrev main_v42 : Ref sig .tc := ⟨.hbm, 68, rfl⟩
abbrev main_v43 : Ref sig .tc := ⟨.hbm, 69, rfl⟩
abbrev main_v44_0 : Ref sig .tc := ⟨.hbm, 70, rfl⟩
abbrev main_v44_1 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59_0 : Ref sig .tc := ⟨.hbm, 86, rfl⟩
abbrev main_v59_1 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76_0 : Ref sig .tc := ⟨.hbm, 104, rfl⟩
abbrev main_v76_1 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg3_1 : Ref sig .tc := ⟨.vmem, 55, rfl⟩
abbrev cc4_stg4_0 : Ref sig .tc := ⟨.vmem, 56, rfl⟩
abbrev cc4_stg4_1 : Ref sig .tc := ⟨.vmem, 57, rfl⟩
abbrev cc4_stg5_0 : Ref sig .tc := ⟨.vmem, 58, rfl⟩
abbrev cc4_stg5_1 : Ref sig .tc := ⟨.vmem, 59, rfl⟩
abbrev cc4_stg6_0 : Ref sig .tc := ⟨.vmem, 60, rfl⟩
abbrev cc4_stg6_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg2_1 : Ref sig .tc := ⟨.vmem, 67, rfl⟩
abbrev cc5_stg3_0 : Ref sig .tc := ⟨.vmem, 68, rfl⟩
abbrev cc5_stg3_1 : Ref sig .tc := ⟨.vmem, 69, rfl⟩
abbrev cc5_stg4_0 : Ref sig .tc := ⟨.vmem, 70, rfl⟩
abbrev cc5_stg4_1 : Ref sig .tc := ⟨.vmem, 71, rfl⟩
abbrev cc5_stg5_0 : Ref sig .tc := ⟨.vmem, 72, rfl⟩
abbrev cc5_stg5_1 : Ref sig .tc := ⟨.vmem, 73, rfl⟩
abbrev cc5_stg6_0 : Ref sig .tc := ⟨.vmem, 74, rfl⟩
abbrev cc5_stg6_1 : Ref sig .tc := ⟨.vmem, 75, rfl⟩
abbrev cc5_stg7_0 : Ref sig .tc := ⟨.vmem, 76, rfl⟩
abbrev cc5_stg7_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg2_1 : Ref sig .tc := ⟨.vmem, 83, rfl⟩
abbrev cc7_stg0_0 : Ref sig .tc := ⟨.vmem, 84, rfl⟩
abbrev cc7_stg0_1 : Ref sig .tc := ⟨.vmem, 85, rfl⟩
abbrev cc7_stg1_0 : Ref sig .tc := ⟨.vmem, 86, rfl⟩
abbrev cc7_stg1_1 : Ref sig .tc := ⟨.vmem, 87, rfl⟩
abbrev cc7_stg2_0 : Ref sig .tc := ⟨.vmem, 88, rfl⟩
abbrev cc7_stg2_1 : Ref sig .tc := ⟨.vmem, 89, rfl⟩
abbrev cc7_stg3_0 : Ref sig .tc := ⟨.vmem, 90, rfl⟩
abbrev cc7_stg3_1 : Ref sig .tc := ⟨.vmem, 91, rfl⟩
abbrev cc7_stg4_0 : Ref sig .tc := ⟨.vmem, 92, rfl⟩
abbrev cc7_stg4_1 : Ref sig .tc := ⟨.vmem, 93, rfl⟩
abbrev cc7_stg5_0 : Ref sig .tc := ⟨.vmem, 94, rfl⟩
abbrev cc7_stg5_1 : Ref sig .tc := ⟨.vmem, 95, rfl⟩
abbrev cc7_stg6_0 : Ref sig .tc := ⟨.vmem, 96, rfl⟩
abbrev cc7_stg6_1 : Ref sig .tc := ⟨.vmem, 97, rfl⟩
abbrev cc7_stg7_0 : Ref sig .tc := ⟨.vmem, 98, rfl⟩
abbrev cc7_stg7_1 : Ref sig .tc := ⟨.vmem, 99, rfl⟩
abbrev cc7_stg8_0 : Ref sig .tc := ⟨.vmem, 100, rfl⟩
abbrev cc7_stg8_1 : Ref sig .tc := ⟨.vmem, 101, rfl⟩
abbrev cc8_stg0_0 : Ref sig .tc := ⟨.vmem, 102, rfl⟩
abbrev cc8_stg0_1 : Ref sig .tc := ⟨.vmem, 103, rfl⟩
abbrev cc8_stg1_0 : Ref sig .tc := ⟨.vmem, 104, rfl⟩
abbrev cc8_stg1_1 : Ref sig .tc := ⟨.vmem, 105, rfl⟩
abbrev cc8_stg2_0 : Ref sig .tc := ⟨.vmem, 106, rfl⟩
abbrev cc8_stg2_1 : Ref sig .tc := ⟨.vmem, 107, rfl⟩
abbrev cc8_stg3_0 : Ref sig .tc := ⟨.vmem, 108, rfl⟩
abbrev cc8_stg3_1 : Ref sig .tc := ⟨.vmem, 109, rfl⟩
abbrev cc8_stg4_0 : Ref sig .tc := ⟨.vmem, 110, rfl⟩
abbrev cc8_stg4_1 : Ref sig .tc := ⟨.vmem, 111, rfl⟩
abbrev cc8_stg5_0 : Ref sig .tc := ⟨.vmem, 112, rfl⟩
abbrev cc8_stg5_1 : Ref sig .tc := ⟨.vmem, 113, rfl⟩
abbrev cc8_stg6_0 : Ref sig .tc := ⟨.vmem, 114, rfl⟩
abbrev cc8_stg6_1 : Ref sig .tc := ⟨.vmem, 115, rfl⟩
abbrev cc8_stg7_0 : Ref sig .tc := ⟨.vmem, 116, rfl⟩
abbrev cc8_stg7_1 : Ref sig .tc := ⟨.vmem, 117, rfl⟩
abbrev cc8_stg8_0 : Ref sig .tc := ⟨.vmem, 118, rfl⟩
abbrev cc8_stg8_1 : Ref sig .tc := ⟨.vmem, 119, rfl⟩
abbrev cc8_stg9_0 : Ref sig .tc := ⟨.vmem, 120, rfl⟩
abbrev cc8_stg9_1 : Ref sig .tc := ⟨.vmem, 121, rfl⟩
abbrev cc8_stg10_0 : Ref sig .tc := ⟨.vmem, 122, rfl⟩
abbrev cc8_stg10_1 : Ref sig .tc := ⟨.vmem, 123, rfl⟩
abbrev cc8_stg11_0 : Ref sig .tc := ⟨.vmem, 124, rfl⟩
abbrev cc8_stg11_1 : Ref sig .tc := ⟨.vmem, 125, rfl⟩
abbrev cc9_stg0_0 : Ref sig .tc := ⟨.vmem, 126, rfl⟩
abbrev cc9_stg0_1 : Ref sig .tc := ⟨.vmem, 127, rfl⟩
abbrev cc9_stg1_0 : Ref sig .tc := ⟨.vmem, 128, rfl⟩
abbrev cc9_stg1_1 : Ref sig .tc := ⟨.vmem, 129, rfl⟩
abbrev cc9_stg2_0 : Ref sig .tc := ⟨.vmem, 130, rfl⟩
abbrev cc9_stg2_1 : Ref sig .tc := ⟨.vmem, 131, rfl⟩
abbrev cc9_stg3_0 : Ref sig .tc := ⟨.vmem, 132, rfl⟩
abbrev cc9_stg3_1 : Ref sig .tc := ⟨.vmem, 133, rfl⟩
abbrev cc9_stg4_0 : Ref sig .tc := ⟨.vmem, 134, rfl⟩
abbrev cc9_stg4_1 : Ref sig .tc := ⟨.vmem, 135, rfl⟩
abbrev cc9_stg5_0 : Ref sig .tc := ⟨.vmem, 136, rfl⟩
abbrev cc9_stg5_1 : Ref sig .tc := ⟨.vmem, 137, rfl⟩
abbrev cc9_stg6_0 : Ref sig .tc := ⟨.vmem, 138, rfl⟩
abbrev cc9_stg6_1 : Ref sig .tc := ⟨.vmem, 139, rfl⟩
abbrev cc9_stg7_0 : Ref sig .tc := ⟨.vmem, 140, rfl⟩
abbrev cc9_stg7_1 : Ref sig .tc := ⟨.vmem, 141, rfl⟩
abbrev cc9_stg8_0 : Ref sig .tc := ⟨.vmem, 142, rfl⟩
abbrev cc9_stg8_1 : Ref sig .tc := ⟨.vmem, 143, rfl⟩
abbrev cc10_stg0_0 : Ref sig .tc := ⟨.vmem, 144, rfl⟩
abbrev cc10_stg0_1 : Ref sig .tc := ⟨.vmem, 145, rfl⟩
abbrev cc10_stg1_0 : Ref sig .tc := ⟨.vmem, 146, rfl⟩
abbrev cc10_stg1_1 : Ref sig .tc := ⟨.vmem, 147, rfl⟩
abbrev cc10_stg2_0 : Ref sig .tc := ⟨.vmem, 148, rfl⟩
abbrev cc10_stg2_1 : Ref sig .tc := ⟨.vmem, 149, rfl⟩
abbrev cc10_stg3_0 : Ref sig .tc := ⟨.vmem, 150, rfl⟩
abbrev cc10_stg3_1 : Ref sig .tc := ⟨.vmem, 151, rfl⟩
abbrev cc10_stg4_0 : Ref sig .tc := ⟨.vmem, 152, rfl⟩
abbrev cc10_stg4_1 : Ref sig .tc := ⟨.vmem, 153, rfl⟩
abbrev cc10_stg5_0 : Ref sig .tc := ⟨.vmem, 154, rfl⟩
abbrev cc10_stg5_1 : Ref sig .tc := ⟨.vmem, 155, rfl⟩
abbrev cc10_stg6_0 : Ref sig .tc := ⟨.vmem, 156, rfl⟩
abbrev cc10_stg6_1 : Ref sig .tc := ⟨.vmem, 157, rfl⟩
abbrev cc10_stg7_0 : Ref sig .tc := ⟨.vmem, 158, rfl⟩
abbrev cc10_stg7_1 : Ref sig .tc := ⟨.vmem, 159, rfl⟩
abbrev cc10_stg8_0 : Ref sig .tc := ⟨.vmem, 160, rfl⟩
abbrev cc10_stg8_1 : Ref sig .tc := ⟨.vmem, 161, rfl⟩
abbrev cc10_stg9_0 : Ref sig .tc := ⟨.vmem, 162, rfl⟩
abbrev cc10_stg9_1 : Ref sig .tc := ⟨.vmem, 163, rfl⟩
abbrev cc10_stg10_0 : Ref sig .tc := ⟨.vmem, 164, rfl⟩
abbrev cc10_stg10_1 : Ref sig .tc := ⟨.vmem, 165, rfl⟩
abbrev cc10_stg11_0 : Ref sig .tc := ⟨.vmem, 166, rfl⟩
abbrev cc10_stg11_1 : Ref sig .tc := ⟨.vmem, 167, rfl⟩
abbrev cc11_stg0_0 : Ref sig .tc := ⟨.vmem, 168, rfl⟩
abbrev cc11_stg0_1 : Ref sig .tc := ⟨.vmem, 169, rfl⟩
abbrev cc11_stg1_0 : Ref sig .tc := ⟨.vmem, 170, rfl⟩
abbrev cc11_stg1_1 : Ref sig .tc := ⟨.vmem, 171, rfl⟩
abbrev cc11_stg2_0 : Ref sig .tc := ⟨.vmem, 172, rfl⟩
abbrev cc11_stg2_1 : Ref sig .tc := ⟨.vmem, 173, rfl⟩
abbrev cc11_stg3_0 : Ref sig .tc := ⟨.vmem, 174, rfl⟩
abbrev cc11_stg3_1 : Ref sig .tc := ⟨.vmem, 175, rfl⟩
abbrev cc11_stg4_0 : Ref sig .tc := ⟨.vmem, 176, rfl⟩
abbrev cc11_stg4_1 : Ref sig .tc := ⟨.vmem, 177, rfl⟩
abbrev cc11_stg5_0 : Ref sig .tc := ⟨.vmem, 178, rfl⟩
abbrev cc11_stg5_1 : Ref sig .tc := ⟨.vmem, 179, rfl⟩
abbrev cc11_stg6_0 : Ref sig .tc := ⟨.vmem, 180, rfl⟩
abbrev cc11_stg6_1 : Ref sig .tc := ⟨.vmem, 181, rfl⟩
abbrev cc11_stg7_0 : Ref sig .tc := ⟨.vmem, 182, rfl⟩
abbrev cc11_stg7_1 : Ref sig .tc := ⟨.vmem, 183, rfl⟩
abbrev cc11_stg8_0 : Ref sig .tc := ⟨.vmem, 184, rfl⟩
abbrev cc11_stg8_1 : Ref sig .tc := ⟨.vmem, 185, rfl⟩
abbrev cc12_stg0_0 : Ref sig .tc := ⟨.vmem, 186, rfl⟩
abbrev cc12_stg0_1 : Ref sig .tc := ⟨.vmem, 187, rfl⟩
abbrev cc12_stg1_0 : Ref sig .tc := ⟨.vmem, 188, rfl⟩
abbrev cc12_stg1_1 : Ref sig .tc := ⟨.vmem, 189, rfl⟩
abbrev cc12_stg2_0 : Ref sig .tc := ⟨.vmem, 190, rfl⟩
abbrev cc12_stg2_1 : Ref sig .tc := ⟨.vmem, 191, rfl⟩
abbrev cc12_stg3_0 : Ref sig .tc := ⟨.vmem, 192, rfl⟩
abbrev cc12_stg3_1 : Ref sig .tc := ⟨.vmem, 193, rfl⟩
abbrev cc12_stg4_0 : Ref sig .tc := ⟨.vmem, 194, rfl⟩
abbrev cc12_stg4_1 : Ref sig .tc := ⟨.vmem, 195, rfl⟩
abbrev cc12_stg5_0 : Ref sig .tc := ⟨.vmem, 196, rfl⟩
abbrev cc12_stg5_1 : Ref sig .tc := ⟨.vmem, 197, rfl⟩
abbrev cc12_stg6_0 : Ref sig .tc := ⟨.vmem, 198, rfl⟩
abbrev cc12_stg6_1 : Ref sig .tc := ⟨.vmem, 199, rfl⟩
abbrev cc12_stg7_0 : Ref sig .tc := ⟨.vmem, 200, rfl⟩
abbrev cc12_stg7_1 : Ref sig .tc := ⟨.vmem, 201, rfl⟩
abbrev cc12_stg8_0 : Ref sig .tc := ⟨.vmem, 202, rfl⟩
abbrev cc12_stg8_1 : Ref sig .tc := ⟨.vmem, 203, rfl⟩
abbrev cc12_stg9_0 : Ref sig .tc := ⟨.vmem, 204, rfl⟩
abbrev cc12_stg9_1 : Ref sig .tc := ⟨.vmem, 205, rfl⟩
abbrev cc12_stg10_0 : Ref sig .tc := ⟨.vmem, 206, rfl⟩
abbrev cc12_stg10_1 : Ref sig .tc := ⟨.vmem, 207, rfl⟩
abbrev cc12_stg11_0 : Ref sig .tc := ⟨.vmem, 208, rfl⟩
abbrev cc12_stg11_1 : Ref sig .tc := ⟨.vmem, 209, rfl⟩
abbrev cc13_stg0_0 : Ref sig .tc := ⟨.vmem, 210, rfl⟩
abbrev cc13_stg0_1 : Ref sig .tc := ⟨.vmem, 211, rfl⟩
abbrev cc13_stg1_0 : Ref sig .tc := ⟨.vmem, 212, rfl⟩
abbrev cc13_stg1_1 : Ref sig .tc := ⟨.vmem, 213, rfl⟩
abbrev cc13_stg2_0 : Ref sig .tc := ⟨.vmem, 214, rfl⟩
abbrev cc13_stg2_1 : Ref sig .tc := ⟨.vmem, 215, rfl⟩
abbrev cc13_stg3_0 : Ref sig .tc := ⟨.vmem, 216, rfl⟩
abbrev cc13_stg3_1 : Ref sig .tc := ⟨.vmem, 217, rfl⟩
abbrev cc13_stg4_0 : Ref sig .tc := ⟨.vmem, 218, rfl⟩
abbrev cc13_stg4_1 : Ref sig .tc := ⟨.vmem, 219, rfl⟩
abbrev cc13_stg5_0 : Ref sig .tc := ⟨.vmem, 220, rfl⟩
abbrev cc13_stg5_1 : Ref sig .tc := ⟨.vmem, 221, rfl⟩
abbrev cc13_stg6_0 : Ref sig .tc := ⟨.vmem, 222, rfl⟩
abbrev cc13_stg6_1 : Ref sig .tc := ⟨.vmem, 223, rfl⟩
abbrev cc14_stg0_0 : Ref sig .tc := ⟨.vmem, 224, rfl⟩
abbrev cc14_stg0_1 : Ref sig .tc := ⟨.vmem, 225, rfl⟩
abbrev cc14_stg1_0 : Ref sig .tc := ⟨.vmem, 226, rfl⟩
abbrev cc14_stg1_1 : Ref sig .tc := ⟨.vmem, 227, rfl⟩
abbrev cc14_stg2_0 : Ref sig .tc := ⟨.vmem, 228, rfl⟩
abbrev cc14_stg2_1 : Ref sig .tc := ⟨.vmem, 229, rfl⟩
abbrev cc14_stg3_0 : Ref sig .tc := ⟨.vmem, 230, rfl⟩
abbrev cc14_stg3_1 : Ref sig .tc := ⟨.vmem, 231, rfl⟩
abbrev cc14_stg4_0 : Ref sig .tc := ⟨.vmem, 232, rfl⟩
abbrev cc14_stg4_1 : Ref sig .tc := ⟨.vmem, 233, rfl⟩
abbrev cc14_stg5_0 : Ref sig .tc := ⟨.vmem, 234, rfl⟩
abbrev cc14_stg5_1 : Ref sig .tc := ⟨.vmem, 235, rfl⟩
abbrev cc14_stg6_0 : Ref sig .tc := ⟨.vmem, 236, rfl⟩
abbrev cc14_stg6_1 : Ref sig .tc := ⟨.vmem, 237, rfl⟩
abbrev cc15_stg0_0 : Ref sig .tc := ⟨.vmem, 238, rfl⟩
abbrev cc15_stg0_1 : Ref sig .tc := ⟨.vmem, 239, rfl⟩
abbrev cc15_stg1_0 : Ref sig .tc := ⟨.vmem, 240, rfl⟩
abbrev cc15_stg1_1 : Ref sig .tc := ⟨.vmem, 241, rfl⟩
abbrev cc15_stg2_0 : Ref sig .tc := ⟨.vmem, 242, rfl⟩
abbrev cc15_stg2_1 : Ref sig .tc := ⟨.vmem, 243, rfl⟩
abbrev cc15_stg3_0 : Ref sig .tc := ⟨.vmem, 244, rfl⟩
abbrev cc15_stg3_1 : Ref sig .tc := ⟨.vmem, 245, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem3_1 : DmaSem sig := 55
abbrev cc4_sem4_0 : DmaSem sig := 56
abbrev cc4_sem4_1 : DmaSem sig := 57
abbrev cc4_sem5_0 : DmaSem sig := 58
abbrev cc4_sem5_1 : DmaSem sig := 59
abbrev cc4_sem6_0 : DmaSem sig := 60
abbrev cc4_sem6_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem2_1 : DmaSem sig := 67
abbrev cc5_sem3_0 : DmaSem sig := 68
abbrev cc5_sem3_1 : DmaSem sig := 69
abbrev cc5_sem4_0 : DmaSem sig := 70
abbrev cc5_sem4_1 : DmaSem sig := 71
abbrev cc5_sem5_0 : DmaSem sig := 72
abbrev cc5_sem5_1 : DmaSem sig := 73
abbrev cc5_sem6_0 : DmaSem sig := 74
abbrev cc5_sem6_1 : DmaSem sig := 75
abbrev cc5_sem7_0 : DmaSem sig := 76
abbrev cc5_sem7_1 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem2_1 : DmaSem sig := 83
abbrev cc7_sem0_0 : DmaSem sig := 84
abbrev cc7_sem0_1 : DmaSem sig := 85
abbrev cc7_sem1_0 : DmaSem sig := 86
abbrev cc7_sem1_1 : DmaSem sig := 87
abbrev cc7_sem2_0 : DmaSem sig := 88
abbrev cc7_sem2_1 : DmaSem sig := 89
abbrev cc7_sem3_0 : DmaSem sig := 90
abbrev cc7_sem3_1 : DmaSem sig := 91
abbrev cc7_sem4_0 : DmaSem sig := 92
abbrev cc7_sem4_1 : DmaSem sig := 93
abbrev cc7_sem5_0 : DmaSem sig := 94
abbrev cc7_sem5_1 : DmaSem sig := 95
abbrev cc7_sem6_0 : DmaSem sig := 96
abbrev cc7_sem6_1 : DmaSem sig := 97
abbrev cc7_sem7_0 : DmaSem sig := 98
abbrev cc7_sem7_1 : DmaSem sig := 99
abbrev cc7_sem8_0 : DmaSem sig := 100
abbrev cc7_sem8_1 : DmaSem sig := 101
abbrev cc8_sem0_0 : DmaSem sig := 102
abbrev cc8_sem0_1 : DmaSem sig := 103
abbrev cc8_sem1_0 : DmaSem sig := 104
abbrev cc8_sem1_1 : DmaSem sig := 105
abbrev cc8_sem2_0 : DmaSem sig := 106
abbrev cc8_sem2_1 : DmaSem sig := 107
abbrev cc8_sem3_0 : DmaSem sig := 108
abbrev cc8_sem3_1 : DmaSem sig := 109
abbrev cc8_sem4_0 : DmaSem sig := 110
abbrev cc8_sem4_1 : DmaSem sig := 111
abbrev cc8_sem5_0 : DmaSem sig := 112
abbrev cc8_sem5_1 : DmaSem sig := 113
abbrev cc8_sem6_0 : DmaSem sig := 114
abbrev cc8_sem6_1 : DmaSem sig := 115
abbrev cc8_sem7_0 : DmaSem sig := 116
abbrev cc8_sem7_1 : DmaSem sig := 117
abbrev cc8_sem8_0 : DmaSem sig := 118
abbrev cc8_sem8_1 : DmaSem sig := 119
abbrev cc8_sem9_0 : DmaSem sig := 120
abbrev cc8_sem9_1 : DmaSem sig := 121
abbrev cc8_sem10_0 : DmaSem sig := 122
abbrev cc8_sem10_1 : DmaSem sig := 123
abbrev cc8_sem11_0 : DmaSem sig := 124
abbrev cc8_sem11_1 : DmaSem sig := 125
abbrev cc9_sem0_0 : DmaSem sig := 126
abbrev cc9_sem0_1 : DmaSem sig := 127
abbrev cc9_sem1_0 : DmaSem sig := 128
abbrev cc9_sem1_1 : DmaSem sig := 129
abbrev cc9_sem2_0 : DmaSem sig := 130
abbrev cc9_sem2_1 : DmaSem sig := 131
abbrev cc9_sem3_0 : DmaSem sig := 132
abbrev cc9_sem3_1 : DmaSem sig := 133
abbrev cc9_sem4_0 : DmaSem sig := 134
abbrev cc9_sem4_1 : DmaSem sig := 135
abbrev cc9_sem5_0 : DmaSem sig := 136
abbrev cc9_sem5_1 : DmaSem sig := 137
abbrev cc9_sem6_0 : DmaSem sig := 138
abbrev cc9_sem6_1 : DmaSem sig := 139
abbrev cc9_sem7_0 : DmaSem sig := 140
abbrev cc9_sem7_1 : DmaSem sig := 141
abbrev cc9_sem8_0 : DmaSem sig := 142
abbrev cc9_sem8_1 : DmaSem sig := 143
abbrev cc10_sem0_0 : DmaSem sig := 144
abbrev cc10_sem0_1 : DmaSem sig := 145
abbrev cc10_sem1_0 : DmaSem sig := 146
abbrev cc10_sem1_1 : DmaSem sig := 147
abbrev cc10_sem2_0 : DmaSem sig := 148
abbrev cc10_sem2_1 : DmaSem sig := 149
abbrev cc10_sem3_0 : DmaSem sig := 150
abbrev cc10_sem3_1 : DmaSem sig := 151
abbrev cc10_sem4_0 : DmaSem sig := 152
abbrev cc10_sem4_1 : DmaSem sig := 153
abbrev cc10_sem5_0 : DmaSem sig := 154
abbrev cc10_sem5_1 : DmaSem sig := 155
abbrev cc10_sem6_0 : DmaSem sig := 156
abbrev cc10_sem6_1 : DmaSem sig := 157
abbrev cc10_sem7_0 : DmaSem sig := 158
abbrev cc10_sem7_1 : DmaSem sig := 159
abbrev cc10_sem8_0 : DmaSem sig := 160
abbrev cc10_sem8_1 : DmaSem sig := 161
abbrev cc10_sem9_0 : DmaSem sig := 162
abbrev cc10_sem9_1 : DmaSem sig := 163
abbrev cc10_sem10_0 : DmaSem sig := 164
abbrev cc10_sem10_1 : DmaSem sig := 165
abbrev cc10_sem11_0 : DmaSem sig := 166
abbrev cc10_sem11_1 : DmaSem sig := 167
abbrev cc11_sem0_0 : DmaSem sig := 168
abbrev cc11_sem0_1 : DmaSem sig := 169
abbrev cc11_sem1_0 : DmaSem sig := 170
abbrev cc11_sem1_1 : DmaSem sig := 171
abbrev cc11_sem2_0 : DmaSem sig := 172
abbrev cc11_sem2_1 : DmaSem sig := 173
abbrev cc11_sem3_0 : DmaSem sig := 174
abbrev cc11_sem3_1 : DmaSem sig := 175
abbrev cc11_sem4_0 : DmaSem sig := 176
abbrev cc11_sem4_1 : DmaSem sig := 177
abbrev cc11_sem5_0 : DmaSem sig := 178
abbrev cc11_sem5_1 : DmaSem sig := 179
abbrev cc11_sem6_0 : DmaSem sig := 180
abbrev cc11_sem6_1 : DmaSem sig := 181
abbrev cc11_sem7_0 : DmaSem sig := 182
abbrev cc11_sem7_1 : DmaSem sig := 183
abbrev cc11_sem8_0 : DmaSem sig := 184
abbrev cc11_sem8_1 : DmaSem sig := 185
abbrev cc12_sem0_0 : DmaSem sig := 186
abbrev cc12_sem0_1 : DmaSem sig := 187
abbrev cc12_sem1_0 : DmaSem sig := 188
abbrev cc12_sem1_1 : DmaSem sig := 189
abbrev cc12_sem2_0 : DmaSem sig := 190
abbrev cc12_sem2_1 : DmaSem sig := 191
abbrev cc12_sem3_0 : DmaSem sig := 192
abbrev cc12_sem3_1 : DmaSem sig := 193
abbrev cc12_sem4_0 : DmaSem sig := 194
abbrev cc12_sem4_1 : DmaSem sig := 195
abbrev cc12_sem5_0 : DmaSem sig := 196
abbrev cc12_sem5_1 : DmaSem sig := 197
abbrev cc12_sem6_0 : DmaSem sig := 198
abbrev cc12_sem6_1 : DmaSem sig := 199
abbrev cc12_sem7_0 : DmaSem sig := 200
abbrev cc12_sem7_1 : DmaSem sig := 201
abbrev cc12_sem8_0 : DmaSem sig := 202
abbrev cc12_sem8_1 : DmaSem sig := 203
abbrev cc12_sem9_0 : DmaSem sig := 204
abbrev cc12_sem9_1 : DmaSem sig := 205
abbrev cc12_sem10_0 : DmaSem sig := 206
abbrev cc12_sem10_1 : DmaSem sig := 207
abbrev cc12_sem11_0 : DmaSem sig := 208
abbrev cc12_sem11_1 : DmaSem sig := 209
abbrev cc13_sem0_0 : DmaSem sig := 210
abbrev cc13_sem0_1 : DmaSem sig := 211
abbrev cc13_sem1_0 : DmaSem sig := 212
abbrev cc13_sem1_1 : DmaSem sig := 213
abbrev cc13_sem2_0 : DmaSem sig := 214
abbrev cc13_sem2_1 : DmaSem sig := 215
abbrev cc13_sem3_0 : DmaSem sig := 216
abbrev cc13_sem3_1 : DmaSem sig := 217
abbrev cc13_sem4_0 : DmaSem sig := 218
abbrev cc13_sem4_1 : DmaSem sig := 219
abbrev cc13_sem5_0 : DmaSem sig := 220
abbrev cc13_sem5_1 : DmaSem sig := 221
abbrev cc13_sem6_0 : DmaSem sig := 222
abbrev cc13_sem6_1 : DmaSem sig := 223
abbrev cc14_sem0_0 : DmaSem sig := 224
abbrev cc14_sem0_1 : DmaSem sig := 225
abbrev cc14_sem1_0 : DmaSem sig := 226
abbrev cc14_sem1_1 : DmaSem sig := 227
abbrev cc14_sem2_0 : DmaSem sig := 228
abbrev cc14_sem2_1 : DmaSem sig := 229
abbrev cc14_sem3_0 : DmaSem sig := 230
abbrev cc14_sem3_1 : DmaSem sig := 231
abbrev cc14_sem4_0 : DmaSem sig := 232
abbrev cc14_sem4_1 : DmaSem sig := 233
abbrev cc14_sem5_0 : DmaSem sig := 234
abbrev cc14_sem5_1 : DmaSem sig := 235
abbrev cc14_sem6_0 : DmaSem sig := 236
abbrev cc14_sem6_1 : DmaSem sig := 237
abbrev cc15_sem0_0 : DmaSem sig := 238
abbrev cc15_sem0_1 : DmaSem sig := 239
abbrev cc15_sem1_0 : DmaSem sig := 240
abbrev cc15_sem1_1 : DmaSem sig := 241
abbrev cc15_sem2_0 : DmaSem sig := 242
abbrev cc15_sem2_1 : DmaSem sig := 243
abbrev cc15_sem3_0 : DmaSem sig := 244
abbrev cc15_sem3_1 : DmaSem sig := 245

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![1, 64], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S128x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S128x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S128x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S128x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S128x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![4, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S128x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S128x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S128x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S128x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S128x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S128x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S128x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![16, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S128x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S128x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S128x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S128x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S128x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S128x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S128x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x1024 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S256x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![1, 64], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_1 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_3 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S128x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S128x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S128x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S128x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S128x1024 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S128x1024 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S128x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev stage7_7 : Fin 2 → Memref sig .tc .vmem S128x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

abbrev stage7_8 : Fin 2 → Memref sig .tc .vmem S128x1024 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, true]

abbrev grid8 : Pipeline.Grid := ⟨2, ![1, 64], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_3 (i : grid8.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  ![v1.toNat, arg0.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_5 (i : grid8.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  ![v1.toNat, arg0.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_7 (i : grid8.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  ![v1.toNat, arg0.toNat]

def cc8_transform_8 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_9 (i : grid8.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  ![v1.toNat, arg0.toNat]

def cc8_transform_10 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_11 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage8_0 : Fin 2 → Memref sig .tc .vmem S128x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S128x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S128x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 2 → Memref sig .tc .vmem S128x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev stage8_4 : Fin 2 → Memref sig .tc .vmem S128x1024 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev stage8_5 : Fin 2 → Memref sig .tc .vmem S128x1024 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]

abbrev stage8_6 : Fin 2 → Memref sig .tc .vmem S128x1024 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, true]

abbrev stage8_7 : Fin 2 → Memref sig .tc .vmem S128x1024 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true, true]

abbrev stage8_8 : Fin 2 → Memref sig .tc .vmem S128x1024 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true, true]

abbrev stage8_9 : Fin 2 → Memref sig .tc .vmem S128x1024 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true, true]

abbrev stage8_10 : Fin 2 → Memref sig .tc .vmem S128x1024 .bf16 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true, true]

abbrev stage8_11 : Fin 2 → Memref sig .tc .vmem S128x1024 .bf16 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true, true]

abbrev grid9 : Pipeline.Grid := ⟨2, ![4, 16], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_1 (i : grid9.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_3 (i : grid9.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_6 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_7 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_8 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 2 → Memref sig .tc .vmem S128x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S128x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 2 → Memref sig .tc .vmem S128x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S128x1024 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev stage9_4 : Fin 2 → Memref sig .tc .vmem S128x1024 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

abbrev stage9_5 : Fin 2 → Memref sig .tc .vmem S128x1024 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true]

abbrev stage9_6 : Fin 2 → Memref sig .tc .vmem S128x1024 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true, true]

abbrev stage9_7 : Fin 2 → Memref sig .tc .vmem S128x1024 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true, true]

abbrev stage9_8 : Fin 2 → Memref sig .tc .vmem S128x1024 .bf16 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true, true]

abbrev grid10 : Pipeline.Grid := ⟨2, ![4, 16], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_3 (i : grid10.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  ![v1.toNat, arg0.toNat]

def cc10_transform_4 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_5 (i : grid10.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  ![v1.toNat, arg0.toNat]

def cc10_transform_6 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_7 (i : grid10.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  ![v1.toNat, arg0.toNat]

def cc10_transform_8 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_9 (i : grid10.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  ![v1.toNat, arg0.toNat]

def cc10_transform_10 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_11 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage10_0 : Fin 2 → Memref sig .tc .vmem S128x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S128x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 2 → Memref sig .tc .vmem S128x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S128x1024 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev stage10_4 : Fin 2 → Memref sig .tc .vmem S128x1024 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, true]

abbrev stage10_5 : Fin 2 → Memref sig .tc .vmem S128x1024 .bf16 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true, true]

abbrev stage10_6 : Fin 2 → Memref sig .tc .vmem S128x1024 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true, true]

abbrev stage10_7 : Fin 2 → Memref sig .tc .vmem S128x1024 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true, true]

abbrev stage10_8 : Fin 2 → Memref sig .tc .vmem S128x1024 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true, true]

abbrev stage10_9 : Fin 2 → Memref sig .tc .vmem S128x1024 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true, true]

abbrev stage10_10 : Fin 2 → Memref sig .tc .vmem S128x1024 .bf16 := fun | 0 => Memref.whole cc10_stg10_0 | 1 => Memref.whole cc10_stg10_1 | ⟨_ + 2, h⟩ => absurd h (Nat.not_lt.2 (Nat.le_add_left _ _))
abbrev sem10_10 : Fin 2 → DmaSem sig := fun | 0 => cc10_sem10_0 | 1 => cc10_sem10_1 | ⟨_ + 2, h⟩ => absurd h (Nat.not_lt.2 (Nat.le_add_left _ _))
abbrev reads10_10 : Fin grid10.rank → Bool := ![true, true]

abbrev stage10_11 : Fin 2 → Memref sig .tc .vmem S128x1024 .bf16 := fun | 0 => Memref.whole cc10_stg11_0 | 1 => Memref.whole cc10_stg11_1 | ⟨_ + 2, h⟩ => absurd h (Nat.not_lt.2 (Nat.le_add_left _ _))
abbrev sem10_11 : Fin 2 → DmaSem sig := fun | 0 => cc10_sem11_0 | 1 => cc10_sem11_1 | ⟨_ + 2, h⟩ => absurd h (Nat.not_lt.2 (Nat.le_add_left _ _))
abbrev reads10_11 : Fin grid10.rank → Bool := ![true, true]

abbrev grid11 : Pipeline.Grid := ⟨2, ![16, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_1 (i : grid11.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_3 (i : grid11.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_5 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_6 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_7 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_8 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage11_0 : Fin 2 → Memref sig .tc .vmem S128x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S128x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, true]

abbrev stage11_2 : Fin 2 → Memref sig .tc .vmem S128x1024 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev stage11_3 : Fin 2 → Memref sig .tc .vmem S128x1024 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]

abbrev stage11_4 : Fin 2 → Memref sig .tc .vmem S128x1024 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true, true]

abbrev stage11_5 : Fin 2 → Memref sig .tc .vmem S128x1024 .bf16 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true, true]

abbrev stage11_6 : Fin 2 → Memref sig .tc .vmem S128x1024 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true, true]

abbrev stage11_7 : Fin 2 → Memref sig .tc .vmem S128x1024 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true, true]

abbrev stage11_8 : Fin 2 → Memref sig .tc .vmem S128x1024 .bf16 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true, true]

abbrev grid12 : Pipeline.Grid := ⟨2, ![16, 4], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc12_transform_3 (i : grid12.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.minsi v0 c3_i32
  let c0_i32 : BitVec 32 := 0#32
  ![v1.toNat, arg0.toNat]

def cc12_transform_4 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc12_transform_5 (i : grid12.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.minsi v0 c3_i32
  let c0_i32 : BitVec 32 := 0#32
  ![v1.toNat, arg0.toNat]

def cc12_transform_6 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc12_transform_7 (i : grid12.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.minsi v0 c3_i32
  let c0_i32 : BitVec 32 := 0#32
  ![v1.toNat, arg0.toNat]

def cc12_transform_8 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc12_transform_9 (i : grid12.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.minsi v0 c3_i32
  let c0_i32 : BitVec 32 := 0#32
  ![v1.toNat, arg0.toNat]

def cc12_transform_10 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc12_transform_11 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage12_0 : Fin 2 → Memref sig .tc .vmem S128x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S128x1024 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, true]

abbrev stage12_2 : Fin 2 → Memref sig .tc .vmem S128x1024 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]

abbrev stage12_3 : Fin 2 → Memref sig .tc .vmem S128x1024 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true]

abbrev stage12_4 : Fin 2 → Memref sig .tc .vmem S128x1024 .bf16 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true, true]

abbrev stage12_5 : Fin 2 → Memref sig .tc .vmem S128x1024 .bf16 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true, true]

abbrev stage12_6 : Fin 2 → Memref sig .tc .vmem S128x1024 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true, true]

abbrev stage12_7 : Fin 2 → Memref sig .tc .vmem S128x1024 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true, true]

abbrev stage12_8 : Fin 2 → Memref sig .tc .vmem S128x1024 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true, true]

abbrev stage12_9 : Fin 2 → Memref sig .tc .vmem S128x1024 .f32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true, true]

abbrev stage12_10 : Fin 2 → Memref sig .tc .vmem S128x1024 .bf16 := fun | 0 => Memref.whole cc12_stg10_0 | 1 => Memref.whole cc12_stg10_1 | ⟨_ + 2, h⟩ => absurd h (Nat.not_lt.2 (Nat.le_add_left _ _))
abbrev sem12_10 : Fin 2 → DmaSem sig := fun | 0 => cc12_sem10_0 | 1 => cc12_sem10_1 | ⟨_ + 2, h⟩ => absurd h (Nat.not_lt.2 (Nat.le_add_left _ _))
abbrev reads12_10 : Fin grid12.rank → Bool := ![true, true]

abbrev stage12_11 : Fin 2 → Memref sig .tc .vmem S128x1024 .bf16 := fun | 0 => Memref.whole cc12_stg11_0 | 1 => Memref.whole cc12_stg11_1 | ⟨_ + 2, h⟩ => absurd h (Nat.not_lt.2 (Nat.le_add_left _ _))
abbrev sem12_11 : Fin 2 → DmaSem sig := fun | 0 => cc12_sem11_0 | 1 => cc12_sem11_1 | ⟨_ + 2, h⟩ => absurd h (Nat.not_lt.2 (Nat.le_add_left _ _))
abbrev reads12_11 : Fin grid12.rank → Bool := ![true, true]

abbrev grid13 : Pipeline.Grid := ⟨1, ![32], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S256x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S256x1024 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S256x1024 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S256x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S256x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S256x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S256x1024 .bf16 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![32], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S256x1024 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S256x1024 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S256x1024 .bf16 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S256x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S256x128 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 2 → Memref sig .tc .vmem S256x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev stage14_6 : Fin 2 → Memref sig .tc .vmem S256x1024 .bf16 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev grid15 : Pipeline.Grid := ⟨1, ![32], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S256x1024 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S256x1024 .bf16 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S256x1024 .bf16 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S256x1024 .bf16 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]
-- ==== Kernel2Ideal.lean ====
variable {F : FTy → Type} [FloatOps F] [Named F]
def κ : String → Option EReal := fun
  | "mask" => some ⊥
  | _ => none
-- ==== Reference2Ideal.lean ====
abbrev S8192x1024 : Shape := ⟨2, ![8192, 1024]⟩
abbrev S8192x16 : Shape := ⟨2, ![8192, 16]⟩
abbrev S3 : Shape := ⟨1, ![3]⟩
abbrev S8192x8x128 : Shape := ⟨3, ![8192, 8, 128]⟩
abbrev S8x8192x128 : Shape := ⟨3, ![8, 8192, 128]⟩
abbrev S1x8192x16 : Shape := ⟨3, ![1, 8192, 16]⟩
abbrev S8x8192x32 : Shape := ⟨3, ![8, 8192, 32]⟩
abbrev S8x8192x16 : Shape := ⟨3, ![8, 8192, 16]⟩
abbrev S8x8192x96 : Shape := ⟨3, ![8, 8192, 96]⟩
abbrev S8x8192x8192 : Shape := ⟨3, ![8, 8192, 8192]⟩
abbrev S_ : Shape := ⟨0, ![]⟩
abbrev S8192x8192 : Shape := ⟨2, ![8192, 8192]⟩
abbrev S3x1x1 : Shape := ⟨3, ![3, 1, 1]⟩
abbrev S1x8192x8192 : Shape := ⟨3, ![1, 8192, 8192]⟩
abbrev S3x8192x8192 : Shape := ⟨3, ![3, 8192, 8192]⟩
abbrev S1x8x8192x8192 : Shape := ⟨4, ![1, 8, 8192, 8192]⟩
abbrev S3x8x8192x8192 : Shape := ⟨4, ![3, 8, 8192, 8192]⟩
abbrev S3x1x8192x8192 : Shape := ⟨4, ![3, 1, 8192, 8192]⟩
abbrev S3x8x8192 : Shape := ⟨3, ![3, 8, 8192]⟩
abbrev S3x8x8192x1 : Shape := ⟨4, ![3, 8, 8192, 1]⟩
abbrev S1x8x8192x128 : Shape := ⟨4, ![1, 8, 8192, 128]⟩
abbrev S3x8x8192x128 : Shape := ⟨4, ![3, 8, 8192, 128]⟩
abbrev S8x8192x1 : Shape := ⟨3, ![8, 8192, 1]⟩
abbrev S1x8x8192x1 : Shape := ⟨4, ![1, 8, 8192, 1]⟩
abbrev S8x8192 : Shape := ⟨2, ![8, 8192]⟩
abbrev S3x8x128x8192 : Shape := ⟨4, ![3, 8, 128, 8192]⟩

abbrev nBuf : Space → Nat
  | .hbm => 261
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x16, .f32⟩
  | 4 => ⟨S8192x16, .f32⟩
  | 5 => ⟨S8192x1024, .bf16⟩
  | 6 => ⟨S3, .i32⟩
  | 7 => ⟨S3, .i32⟩
  | 8 => ⟨S8192x1024, .f32⟩
  | 9 => ⟨S8192x8x128, .f32⟩
  | 10 => ⟨S8x8192x128, .f32⟩
  | 11 => ⟨S8192x1024, .f32⟩
  | 12 => ⟨S8192x8x128, .f32⟩
  | 13 => ⟨S8x8192x128, .f32⟩
  | 14 => ⟨S8192x1024, .f32⟩
  | 15 => ⟨S8192x8x128, .f32⟩
  | 16 => ⟨S8x8192x128, .f32⟩
  | 17 => ⟨S1x8192x16, .f32⟩
  | 18 => ⟨S1x8192x16, .f32⟩
  | 19 => ⟨S8x8192x32, .f32⟩
  | 20 => ⟨S8x8192x16, .f32⟩
  | 21 => ⟨S8x8192x16, .f32⟩
  | 22 => ⟨S8x8192x16, .f32⟩
  | 23 => ⟨S8x8192x16, .f32⟩
  | 24 => ⟨S8x8192x16, .f32⟩
  | 25 => ⟨S8x8192x16, .f32⟩
  | 26 => ⟨S8x8192x16, .f32⟩
  | 27 => ⟨S8x8192x16, .f32⟩
  | 28 => ⟨S8x8192x16, .f32⟩
  | 29 => ⟨S8x8192x16, .f32⟩
  | 30 => ⟨S8x8192x16, .f32⟩
  | 31 => ⟨S8x8192x16, .f32⟩
  | 32 => ⟨S8x8192x96, .f32⟩
  | 33 => ⟨S8x8192x128, .f32⟩
  | 34 => ⟨S1x8192x16, .f32⟩
  | 35 => ⟨S1x8192x16, .f32⟩
  | 36 => ⟨S8x8192x32, .f32⟩
  | 37 => ⟨S8x8192x16, .f32⟩
  | 38 => ⟨S8x8192x16, .f32⟩
  | 39 => ⟨S8x8192x16, .f32⟩
  | 40 => ⟨S8x8192x16, .f32⟩
  | 41 => ⟨S8x8192x16, .f32⟩
  | 42 => ⟨S8x8192x16, .f32⟩
  | 43 => ⟨S8x8192x16, .f32⟩
  | 44 => ⟨S8x8192x16, .f32⟩
  | 45 => ⟨S8x8192x16, .f32⟩
  | 46 => ⟨S8x8192x16, .f32⟩
  | 47 => ⟨S8x8192x16, .f32⟩
  | 48 => ⟨S8x8192x16, .f32⟩
  | 49 => ⟨S8x8192x96, .f32⟩
  | 50 => ⟨S8x8192x128, .f32⟩
  | 51 => ⟨S8x8192x8192, .f32⟩
  | 52 => ⟨S_, .f32⟩
  | 53 => ⟨S8x8192x8192, .f32⟩
  | 54 => ⟨S8x8192x8192, .f32⟩
  | 55 => ⟨S8192x8192, .i32⟩
  | 56 => ⟨S8192x8192, .i32⟩
  | 57 => ⟨S8192x8192, .i32⟩
  | 58 => ⟨S3x1x1, .i32⟩
  | 59 => ⟨S3x1x1, .i32⟩
  | 60 => ⟨S_, .i32⟩
  | 61 => ⟨S8192x8192, .i32⟩
  | 62 => ⟨S8192x8192, .i1⟩
  | 63 => ⟨S1x8192x8192, .i32⟩
  | 64 => ⟨S3x8192x8192, .i32⟩
  | 65 => ⟨S3x8192x8192, .i32⟩
  | 66 => ⟨S3x8192x8192, .i1⟩
  | 67 => ⟨S1x8192x8192, .i1⟩
  | 68 => ⟨S3x8192x8192, .i1⟩
  | 69 => ⟨S3x8192x8192, .i1⟩
  | 70 => ⟨S3x8192x8192, .i32⟩
  | 71 => ⟨S3x8192x8192, .i32⟩
  | 72 => ⟨S3x8192x8192, .i32⟩
  | 73 => ⟨S_, .i32⟩
  | 74 => ⟨S3x8192x8192, .i32⟩
  | 75 => ⟨S3x8192x8192, .i1⟩
  | 76 => ⟨S3x8192x8192, .i1⟩
  | 77 => ⟨S1x8x8192x8192, .f32⟩
  | 78 => ⟨S3x8x8192x8192, .f32⟩
  | 79 => ⟨S3x1x8192x8192, .i1⟩
  | 80 => ⟨S3x8x8192x8192, .i1⟩
  | 81 => ⟨S_, .f32⟩
  | 82 => ⟨S3x8x8192x8192, .f32⟩
  | 83 => ⟨S3x8x8192x8192, .f32⟩
  | 84 => ⟨S_, .f32⟩
  | 85 => ⟨S3x8x8192x8192, .f32⟩
  | 86 => ⟨S_, .f32⟩
  | 87 => ⟨S3x8x8192, .f32⟩
  | 88 => ⟨S3x8x8192x1, .f32⟩
  | 89 => ⟨S3x8x8192x8192, .f32⟩
  | 90 => ⟨S3x8x8192x8192, .i1⟩
  | 91 => ⟨S3x8x8192x8192, .f32⟩
  | 92 => ⟨S_, .f32⟩
  | 93 => ⟨S3x8x8192, .f32⟩
  | 94 => ⟨S3x8x8192x1, .f32⟩
  | 95 => ⟨S3x8x8192x8192, .f32⟩
  | 96 => ⟨S3x8x8192x8192, .f32⟩
  | 97 => ⟨S3x8x8192x8192, .f32⟩
  | 98 => ⟨S_, .f32⟩
  | 99 => ⟨S3x8x8192, .f32⟩
  | 100 => ⟨S3x8x8192x1, .f32⟩
  | 101 => ⟨S3x8x8192x1, .f32⟩
  | 102 => ⟨S3x8x8192x1, .f32⟩
  | 103 => ⟨S3x8x8192x8192, .f32⟩
  | 104 => ⟨S3x8x8192x8192, .f32⟩
  | 105 => ⟨S3x8x8192x8192, .f32⟩
  | 106 => ⟨S1x8x8192x128, .f32⟩
  | 107 => ⟨S3x8x8192x128, .f32⟩
  | 108 => ⟨S3x8x8192x128, .f32⟩
  | 109 => ⟨S_, .f32⟩
  | 110 => ⟨S8x8192x1, .f32⟩
  | 111 => ⟨S1x8x8192x1, .f32⟩
  | 112 => ⟨S3x8x8192x1, .f32⟩
  | 113 => ⟨S3x8x8192x1, .i1⟩
  | 114 => ⟨S3x8x8192x1, .f32⟩
  | 115 => ⟨S_, .f32⟩
  | 116 => ⟨S8x8192x1, .f32⟩
  | 117 => ⟨S_, .f32⟩
  | 118 => ⟨S8x8192x1, .f32⟩
  | 119 => ⟨S8x8192x1, .f32⟩
  | 120 => ⟨S_, .f32⟩
  | 121 => ⟨S8x8192x1, .f32⟩
  | 122 => ⟨S8x8192x1, .i1⟩
  | 123 => ⟨S_, .f32⟩
  | 124 => ⟨S8x8192x1, .f32⟩
  | 125 => ⟨S8x8192x1, .i1⟩
  | 126 => ⟨S_, .f32⟩
  | 127 => ⟨S8x8192x1, .f32⟩
  | _ => ⟨S8192x1024, .bf16⟩

abbrev hbmTy0_1 (i : Nat) : BufTy := match i % 128 with
  | 0 => ⟨S_, .f32⟩
  | 1 => ⟨S8x8192x1, .f32⟩
  | 2 => ⟨S_, .f32⟩
  | 3 => ⟨S8x8192x1, .f32⟩
  | 4 => ⟨S8x8192x1, .f32⟩
  | 5 => ⟨S8x8192x1, .f32⟩
  | 6 => ⟨S1x8x8192x1, .f32⟩
  | 7 => ⟨S3x8x8192x1, .f32⟩
  | 8 => ⟨S3x8x8192x1, .f32⟩
  | 9 => ⟨S3x8x8192x1, .f32⟩
  | 10 => ⟨S_, .f32⟩
  | 11 => ⟨S8x8192x1, .f32⟩
  | 12 => ⟨S1x8x8192x1, .f32⟩
  | 13 => ⟨S3x8x8192x1, .f32⟩
  | 14 => ⟨S3x8x8192x1, .f32⟩
  | 15 => ⟨S1x8x8192x1, .f32⟩
  | 16 => ⟨S_, .f32⟩
  | 17 => ⟨S1x8x8192x1, .f32⟩
  | 18 => ⟨S1x8x8192x1, .f32⟩
  | 19 => ⟨S3x8x8192x128, .f32⟩
  | 20 => ⟨S3x8x8192x128, .f32⟩
  | 21 => ⟨S_, .f32⟩
  | 22 => ⟨S8x8192x128, .f32⟩
  | 23 => ⟨S8192x1024, .f32⟩
  | 24 => ⟨S8192x8x128, .f32⟩
  | 25 => ⟨S8x8192x128, .f32⟩
  | 26 => ⟨S3x8x8192x128, .f32⟩
  | 27 => ⟨S3x8x8192x128, .f32⟩
  | 28 => ⟨S3x8x8192x128, .f32⟩
  | 29 => ⟨S3x8x8192x128, .f32⟩
  | 30 => ⟨S_, .f32⟩
  | 31 => ⟨S3x8x8192, .f32⟩
  | 32 => ⟨S3x8x8192x1, .f32⟩
  | 33 => ⟨S3x8x8192x1, .f32⟩
  | 34 => ⟨S3x8x8192x1, .f32⟩
  | 35 => ⟨S3x8x8192x1, .f32⟩
  | 36 => ⟨S_, .f32⟩
  | 37 => ⟨S8x8192x1, .f32⟩
  | 38 => ⟨S1x8x8192x1, .f32⟩
  | 39 => ⟨S1x8x8192x1, .f32⟩
  | 40 => ⟨S3x8x8192x1, .f32⟩
  | 41 => ⟨S3x8x8192x1, .f32⟩
  | 42 => ⟨S_, .f32⟩
  | 43 => ⟨S8x8192, .f32⟩
  | 44 => ⟨S8x8192x1, .f32⟩
  | 45 => ⟨S3x8x8192x1, .f32⟩
  | 46 => ⟨S3x8x8192x1, .f32⟩
  | 47 => ⟨S3x8x8192x1, .f32⟩
  | 48 => ⟨S3x8x128x8192, .f32⟩
  | 49 => ⟨S3x8x8192x128, .f32⟩
  | 50 => ⟨S3x8x8192x8192, .f32⟩
  | 51 => ⟨S_, .f32⟩
  | 52 => ⟨S8x8192x128, .f32⟩
  | 53 => ⟨S1x8x8192x128, .f32⟩
  | 54 => ⟨S_, .f32⟩
  | 55 => ⟨S8x8192x128, .f32⟩
  | 56 => ⟨S3x8x8192x8192, .f32⟩
  | 57 => ⟨S3x8x8192x8192, .f32⟩
  | 58 => ⟨S_, .f32⟩
  | 59 => ⟨S3x8x8192, .f32⟩
  | 60 => ⟨S3x8x8192x1, .f32⟩
  | 61 => ⟨S3x8x8192x1, .f32⟩
  | 62 => ⟨S3x8x8192x1, .f32⟩
  | 63 => ⟨S_, .f32⟩
  | 64 => ⟨S3x8x8192, .f32⟩
  | 65 => ⟨S3x8x8192x8192, .f32⟩
  | 66 => ⟨S3x8x8192x8192, .f32⟩
  | 67 => ⟨S3x8x8192x8192, .f32⟩
  | 68 => ⟨S_, .f32⟩
  | 69 => ⟨S3x8x8192x8192, .f32⟩
  | 70 => ⟨S3x8x8192x8192, .f32⟩
  | 71 => ⟨S_, .f32⟩
  | 72 => ⟨S8x8192x8192, .f32⟩
  | 73 => ⟨S1x8x8192x8192, .f32⟩
  | 74 => ⟨S_, .f32⟩
  | 75 => ⟨S8x8192x8192, .f32⟩
  | 76 => ⟨S_, .f32⟩
  | 77 => ⟨S8x8192x8192, .f32⟩
  | 78 => ⟨S8x8192x8192, .f32⟩
  | 79 => ⟨S8x8192x128, .f32⟩
  | 80 => ⟨S8x8192x128, .f32⟩
  | 81 => ⟨S8x8192x16, .f32⟩
  | 82 => ⟨S8x8192x16, .f32⟩
  | 83 => ⟨S8x8192x96, .f32⟩
  | 84 => ⟨S_, .f32⟩
  | 85 => ⟨S8x8192x128, .f32⟩
  | 86 => ⟨S8x8192x16, .f32⟩
  | 87 => ⟨S8x8192x16, .f32⟩
  | 88 => ⟨S8x8192x16, .f32⟩
  | 89 => ⟨S8x8192x16, .f32⟩
  | 90 => ⟨S8x8192x16, .f32⟩
  | 91 => ⟨S8x8192x16, .f32⟩
  | 92 => ⟨S8x8192x16, .f32⟩
  | 93 => ⟨S8x8192x16, .f32⟩
  | 94 => ⟨S8x8192x16, .f32⟩
  | 95 => ⟨S8x8192x16, .f32⟩
  | 96 => ⟨S8x8192x16, .f32⟩
  | 97 => ⟨S8x8192x32, .f32⟩
  | 98 => ⟨S_, .f32⟩
  | 99 => ⟨S8x8192x128, .f32⟩
  | 100 => ⟨S8x8192x128, .f32⟩
  | 101 => ⟨S8x8192x16, .f32⟩
  | 102 => ⟨S8x8192x16, .f32⟩
  | 103 => ⟨S8x8192x96, .f32⟩
  | 104 => ⟨S_, .f32⟩
  | 105 => ⟨S8x8192x128, .f32⟩
  | 106 => ⟨S8x8192x16, .f32⟩
  | 107 => ⟨S8x8192x16, .f32⟩
  | 108 => ⟨S8x8192x16, .f32⟩
  | 109 => ⟨S8x8192x16, .f32⟩
  | 110 => ⟨S8x8192x16, .f32⟩
  | 111 => ⟨S8x8192x16, .f32⟩
  | 112 => ⟨S8x8192x16, .f32⟩
  | 113 => ⟨S8x8192x16, .f32⟩
  | 114 => ⟨S8x8192x16, .f32⟩
  | 115 => ⟨S8x8192x16, .f32⟩
  | 116 => ⟨S8x8192x16, .f32⟩
  | 117 => ⟨S8x8192x32, .f32⟩
  | 118 => ⟨S_, .f32⟩
  | 119 => ⟨S8x8192x128, .f32⟩
  | 120 => ⟨S8x8192x128, .f32⟩
  | 121 => ⟨S8192x8x128, .f32⟩
  | 122 => ⟨S8192x1024, .f32⟩
  | 123 => ⟨S8192x1024, .bf16⟩
  | 124 => ⟨S8192x8x128, .f32⟩
  | 125 => ⟨S8192x1024, .f32⟩
  | 126 => ⟨S8192x1024, .bf16⟩
  | 127 => ⟨S8192x8x128, .f32⟩
  | _ => ⟨S8192x1024, .bf16⟩

abbrev hbmTy0_2 (i : Nat) : BufTy := match i % 128 with
  | 0 => ⟨S8192x1024, .f32⟩
  | 1 => ⟨S8192x1024, .bf16⟩
  | 2 => ⟨S8192x8x128, .f32⟩
  | 3 => ⟨S8192x1024, .f32⟩
  | 4 => ⟨S8192x1024, .bf16⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_c_1 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_c_2 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_3 : Ref sig .tc := ⟨.hbm, 81, rfl⟩
abbrev main_v70 : Ref sig .tc := ⟨.hbm, 82, rfl⟩
abbrev main_v71 : Ref sig .tc := ⟨.hbm, 83, rfl⟩
abbrev main_cst_4 : Ref sig .tc := ⟨.hbm, 84, rfl⟩
abbrev main_v72 : Ref sig .tc := ⟨.hbm, 85, rfl⟩
abbrev main_cst_5 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_6 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_7 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_8 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_9 : Ref sig .tc := ⟨.hbm, 115, rfl⟩
abbrev main_v98 : Ref sig .tc := ⟨.hbm, 116, rfl⟩
abbrev main_cst_10 : Ref sig .tc := ⟨.hbm, 117, rfl⟩
abbrev main_v99 : Ref sig .tc := ⟨.hbm, 118, rfl⟩
abbrev main_v100 : Ref sig .tc := ⟨.hbm, 119, rfl⟩
abbrev main_cst_11 : Ref sig .tc := ⟨.hbm, 120, rfl⟩
abbrev main_v101 : Ref sig .tc := ⟨.hbm, 121, rfl⟩
abbrev main_v102 : Ref sig .tc := ⟨.hbm, 122, rfl⟩
abbrev main_cst_12 : Ref sig .tc := ⟨.hbm, 123, rfl⟩
abbrev main_v103 : Ref sig .tc := ⟨.hbm, 124, rfl⟩
abbrev main_v104 : Ref sig .tc := ⟨.hbm, 125, rfl⟩
abbrev main_cst_13 : Ref sig .tc := ⟨.hbm, 126, rfl⟩
abbrev main_v105 : Ref sig .tc := ⟨.hbm, 127, rfl⟩
abbrev main_cst_14 : Ref sig .tc := ⟨.hbm, 128, rfl⟩
abbrev main_v106 : Ref sig .tc := ⟨.hbm, 129, rfl⟩
abbrev main_cst_15 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_16 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_cst_17 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_18 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_19 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_20 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_21 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_cst_22 : Ref sig .tc := ⟨.hbm, 179, rfl⟩
abbrev main_v149 : Ref sig .tc := ⟨.hbm, 180, rfl⟩
abbrev main_v150 : Ref sig .tc := ⟨.hbm, 181, rfl⟩
abbrev main_cst_23 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_cst_24 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_cst_25 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_26 : Ref sig .tc := ⟨.hbm, 196, rfl⟩
abbrev main_v162 : Ref sig .tc := ⟨.hbm, 197, rfl⟩
abbrev main_v163 : Ref sig .tc := ⟨.hbm, 198, rfl⟩
abbrev main_cst_27 : Ref sig .tc := ⟨.hbm, 199, rfl⟩
abbrev main_v164 : Ref sig .tc := ⟨.hbm, 200, rfl⟩
abbrev main_v165 : Ref sig .tc := ⟨.hbm, 201, rfl⟩
abbrev main_cst_28 : Ref sig .tc := ⟨.hbm, 202, rfl⟩
abbrev main_v166 : Ref sig .tc := ⟨.hbm, 203, rfl⟩
abbrev main_cst_29 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_cst_30 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_cst_31 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_cst_32 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_cst_33 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S1x1 : Shape := ⟨2, ![1, 1]⟩
abbrev S1 : Shape := ⟨1, ![1]⟩
abbrev S_ : Shape := ⟨0, ![]⟩

abbrev nBuf : Space → Nat
  | .hbm => 28
  | .vmem => 46
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .bf16⟩
  | .hbm, ⟨12, _⟩ => ⟨S1x2048, .f32⟩
  | .hbm, ⟨13, _⟩ => ⟨S8192x2048, .f32⟩
  | .hbm, ⟨14, _⟩ => ⟨S1x1, .f32⟩
  | .hbm, ⟨15, _⟩ => ⟨S1x2048, .f32⟩
  | .hbm, ⟨16, _⟩ => ⟨S8192x2048, .bf16⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S8192x2048, .bf16⟩
  | .hbm, ⟨25, _⟩ => ⟨S1x2048, .f32⟩
  | .hbm, ⟨26, _⟩ => ⟨S2048, .f32⟩
  | .hbm, ⟨27, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S1x1, .f32⟩
  | .local _ .vmem, ⟨20, _⟩ => ⟨S256x2048, .f32⟩
  | .local _ .vmem, ⟨21, _⟩ => ⟨S256x2048, .f32⟩
  | .local _ .vmem, ⟨22, _⟩ => ⟨S1x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .bf16⟩
  | .local _ .vmem, ⟨26, _⟩ => ⟨S256x2048, .bf16⟩
  | .local _ .vmem, ⟨27, _⟩ => ⟨S1x2048, .f32⟩
  | .local _ .vmem, ⟨28, _⟩ => ⟨S256x2048, .f32⟩
  | .local _ .vmem, ⟨29, _⟩ => ⟨S256x2048, .f32⟩
  | .local _ .vmem, ⟨30, _⟩ => ⟨S1x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | .local _ .vmem, ⟨37, _⟩ => ⟨S1x2048, .f32⟩
  | .local _ .vmem, ⟨38, _⟩ => ⟨S256x2048, .f32⟩
  | .local _ .vmem, ⟨39, _⟩ => ⟨S256x2048, .f32⟩
  | .local _ .vmem, ⟨40, _⟩ => ⟨S1x2048, .f32⟩
  | .local _ .vmem, ⟨41, _⟩ => ⟨S256x2048, .f32⟩
  | .local _ .vmem, ⟨42, _⟩ => ⟨S256x2048, .f32⟩
  | .local _ .vmem, ⟨43, _⟩ => ⟨S256x2048, .bf16⟩
  | .local _ .vmem, ⟨44, _⟩ => ⟨S256x2048, .bf16⟩
  | .local _ .vmem, ⟨45, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc3_sem5_0 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem2_1 : DmaSem sig := 42
abbrev cc4_sem3_0 : DmaSem sig := 43
abbrev cc4_sem3_1 : DmaSem sig := 44
abbrev cc4_sem4_0 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]
-- ==== Reference4Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 178
  | .vmem => 0
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S2048, .f32⟩
  | 4 => ⟨S2048, .f32⟩
  | 5 => ⟨S2048, .f32⟩
  | 6 => ⟨S8192x2048, .f32⟩
  | 7 => ⟨S8192x2048, .f32⟩
  | 8 => ⟨S8192x2048, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x2048, .f32⟩
  | 24 => ⟨S8192x2048, .f32⟩
  | 25 => ⟨S1x2048, .f32⟩
  | 26 => ⟨S8192x2048, .f32⟩
  | 27 => ⟨S8192x2048, .f32⟩
  | 28 => ⟨S8192x2048, .f32⟩
  | 29 => ⟨S8192x2048, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x2048, .f32⟩
  | 45 => ⟨S8192x2048, .f32⟩
  | 46 => ⟨S1x2048, .f32⟩
  | 47 => ⟨S8192x2048, .f32⟩
  | 48 => ⟨S8192x2048, .f32⟩
  | 49 => ⟨S8192x2048, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x2048, .f32⟩
  | 65 => ⟨S8192x2048, .f32⟩
  | 66 => ⟨S1x2048, .f32⟩
  | 67 => ⟨S8192x2048, .f32⟩
  | 68 => ⟨S8192x2048, .f32⟩
  | 69 => ⟨S_, .f32⟩
  | 70 => ⟨S8192x2048, .f32⟩
  | 71 => ⟨S8192x2048, .f32⟩
  | 72 => ⟨S8192x2048, .f32⟩
  | 73 => ⟨S8192x2048, .f32⟩
  | 74 => ⟨S8192x2048, .f32⟩
  | 75 => ⟨S_, .f32⟩
  | 76 => ⟨S8192x2048, .f32⟩
  | 77 => ⟨S8192x2048, .f32⟩
  | 78 => ⟨S_, .f32⟩
  | 79 => ⟨S8192, .f32⟩
  | 80 => ⟨S_, .f32⟩
  | 81 => ⟨S8192, .f32⟩
  | 82 => ⟨S8192, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S8192, .f32⟩
  | 91 => ⟨S_, .f32⟩
  | 92 => ⟨S8192, .f32⟩
  | 93 => ⟨S8192, .f32⟩
  | 94 => ⟨S8192x2048, .f32⟩
  | 95 => ⟨S8192x2048, .f32⟩
  | 96 => ⟨S_, .f32⟩
  | 97 => ⟨S8192x2048, .f32⟩
  | 98 => ⟨S8192x2048, .f32⟩
  | 99 => ⟨S8192x2048, .f32⟩
  | 100 => ⟨S_, .f32⟩
  | 101 => ⟨S2048, .f32⟩
  | 102 => ⟨S1x2048, .f32⟩
  | 103 => ⟨S8192x2048, .f32⟩
  | 104 => ⟨S8192x2048, .f32⟩
  | 105 => ⟨S_, .f32⟩
  | 106 => ⟨S2048, .f32⟩
  | 107 => ⟨S8192x2048, .f32⟩
  | 108 => ⟨S_, .f32⟩
  | 109 => ⟨S8192, .f32⟩
  | 110 => ⟨S8192x1, .f32⟩
  | 111 => ⟨S8192x2048, .f32⟩
  | 112 => ⟨S8192x2048, .f32⟩
  | 113 => ⟨S8192x1, .f32⟩
  | 114 => ⟨S_, .f32⟩
  | 115 => ⟨S8192x1, .f32⟩
  | 116 => ⟨S8192x1, .f32⟩
  | 117 => ⟨S_, .f32⟩
  | 118 => ⟨S8192, .f32⟩
  | 119 => ⟨S8192x2048, .f32⟩
  | 120 => ⟨S8192x2048, .f32⟩
  | 121 => ⟨S8192x2048, .f32⟩
  | 122 => ⟨S8192x2048, .f32⟩
  | 123 => ⟨S8192x2048, .f32⟩
  | 124 => ⟨S8192x2048, .f32⟩
  | 125 => ⟨S_, .f32⟩
  | 126 => ⟨S2048, .f32⟩
  | 127 => ⟨S1x2048, .f32⟩
  | _ => ⟨S8192x2048, .f32⟩

abbrev hbmTy0_1 (i : Nat) : BufTy := match i % 128 with
  | 0 => ⟨S8192x2048, .f32⟩
  | 1 => ⟨S8192x2048, .f32⟩
  | 2 => ⟨S_, .f32⟩
  | 3 => ⟨S2048, .f32⟩
  | 4 => ⟨S8192x2048, .f32⟩
  | 5 => ⟨S_, .f32⟩
  | 6 => ⟨S8192, .f32⟩
  | 7 => ⟨S8192x1, .f32⟩
  | 8 => ⟨S8192x2048, .f32⟩
  | 9 => ⟨S8192x2048, .f32⟩
  | 10 => ⟨S8192x2048, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192, .f32⟩
  | 17 => ⟨S8192x2048, .f32⟩
  | 18 => ⟨S8192x2048, .f32⟩
  | 19 => ⟨S8192x2048, .f32⟩
  | 20 => ⟨S8192x2048, .f32⟩
  | 21 => ⟨S8192x2048, .f32⟩
  | 22 => ⟨S8192x2048, .f32⟩
  | 23 => ⟨S_, .f32⟩
  | 24 => ⟨S2048, .f32⟩
  | 25 => ⟨S1x2048, .f32⟩
  | 26 => ⟨S8192x2048, .f32⟩
  | 27 => ⟨S8192x2048, .f32⟩
  | 28 => ⟨S_, .f32⟩
  | 29 => ⟨S2048, .f32⟩
  | 30 => ⟨S8192x2048, .f32⟩
  | 31 => ⟨S_, .f32⟩
  | 32 => ⟨S8192, .f32⟩
  | 33 => ⟨S8192x1, .f32⟩
  | 34 => ⟨S8192x2048, .f32⟩
  | 35 => ⟨S8192x2048, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192, .f32⟩
  | 42 => ⟨S8192x2048, .f32⟩
  | 43 => ⟨S8192x2048, .f32⟩
  | 44 => ⟨S8192x2048, .f32⟩
  | 45 => ⟨S8192x2048, .f32⟩
  | 46 => ⟨S8192x2048, .f32⟩
  | 47 => ⟨S8192x2048, .bf16⟩
  | 48 => ⟨S8192x2048, .bf16⟩
  | 49 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_cst_17 : Ref sig .tc := ⟨.hbm, 87, rfl⟩
abbrev main_cst_18 : Ref sig .tc := ⟨.hbm, 88, rfl⟩
abbrev main_v61 : Ref sig .tc := ⟨.hbm, 89, rfl⟩
abbrev main_v62 : Ref sig .tc := ⟨.hbm, 90, rfl⟩
abbrev main_cst_19 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_20 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_21 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_22 : Ref sig .tc := ⟨.hbm, 105, rfl⟩
abbrev main_v74 : Ref sig .tc := ⟨.hbm, 106, rfl⟩
abbrev main_v75 : Ref sig .tc := ⟨.hbm, 107, rfl⟩
abbrev main_cst_23 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_24 : Ref sig .tc := ⟨.hbm, 114, rfl⟩
abbrev main_v81 : Ref sig .tc := ⟨.hbm, 115, rfl⟩
abbrev main_v82 : Ref sig .tc := ⟨.hbm, 116, rfl⟩
abbrev main_cst_25 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_26 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_27 : Ref sig .tc := ⟨.hbm, 130, rfl⟩
abbrev main_v94 : Ref sig .tc := ⟨.hbm, 131, rfl⟩
abbrev main_v95 : Ref sig .tc := ⟨.hbm, 132, rfl⟩
abbrev main_cst_28 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_29 : Ref sig .tc := ⟨.hbm, 140, rfl⟩
abbrev main_v102 : Ref sig .tc := ⟨.hbm, 141, rfl⟩
abbrev main_v103 : Ref sig .tc := ⟨.hbm, 142, rfl⟩
abbrev main_cst_30 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_31 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_32 : Ref sig .tc := ⟨.hbm, 156, rfl⟩
abbrev main_v115 : Ref sig .tc := ⟨.hbm, 157, rfl⟩
abbrev main_v116 : Ref sig .tc := ⟨.hbm, 158, rfl⟩
abbrev main_cst_33 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_34 : Ref sig .tc := ⟨.hbm, 165, rfl⟩
abbrev main_v122 : Ref sig .tc := ⟨.hbm, 166, rfl⟩
abbrev main_v123 : Ref sig .tc := ⟨.hbm, 167, rfl⟩
abbrev main_cst_35 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩

abbrev nD : Nat := 1
abbrev τ : Topo := Topo.v7x

variable {F : FTy → Type} [FloatOps F]
-- ==== Kernel5.lean ====
abbrev S8192x4224 : Shape := ⟨2, ![8192, 4224]⟩
abbrev S512 : Shape := ⟨1, ![512]⟩
abbrev S8192x512 : Shape := ⟨2, ![8192, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x4224, .bf16⟩
  | .hbm, ⟨1, _⟩ => ⟨S512, .f32⟩
  | .hbm, ⟨2, _⟩ => ⟨S8192x512, .f32⟩
  | .hbm, ⟨3, _⟩ => ⟨S1x512, .f32⟩
  | .hbm, ⟨4, _⟩ => ⟨S8192x512, .bf16⟩
  | .hbm, ⟨5, _⟩ => ⟨S1x512, .f32⟩
  | .hbm, ⟨6, _⟩ => ⟨S512, .f32⟩
  | .local _ .vmem, ⟨0, _⟩ => ⟨S256x512, .bf16⟩
  | .local _ .vmem, ⟨1, _⟩ => ⟨S256x512, .bf16⟩
  | .local _ .vmem, ⟨2, _⟩ => ⟨S1x512, .f32⟩
  | .local _ .vmem, ⟨3, _⟩ => ⟨S256x512, .f32⟩
  | .local _ .vmem, ⟨4, _⟩ => ⟨S256x512, .f32⟩
  | .local _ .vmem, ⟨5, _⟩ => ⟨S256x512, .bf16⟩
  | .local _ .vmem, ⟨6, _⟩ => ⟨S256x512, .bf16⟩
  | .local _ .vmem, ⟨7, _⟩ => ⟨S1x512, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference5Ideal.lean ====
abbrev S8192x4224 : Shape := ⟨2, ![8192, 4224]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S512, .f32⟩
  | .hbm, ⟨2, _⟩ => ⟨S8192x512, .f32⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x512, .f32⟩
  | .hbm, ⟨38, _⟩ => ⟨S8192x512, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .bf16⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel6.lean ====
abbrev S8192x4224 : Shape := ⟨2, ![8192, 4224]⟩
abbrev S512 : Shape := ⟨1, ![512]⟩
abbrev S8192x512 : Shape := ⟨2, ![8192, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x4224, .bf16⟩
  | .hbm, ⟨1, _⟩ => ⟨S512, .f32⟩
  | .hbm, ⟨2, _⟩ => ⟨S8192x512, .f32⟩
  | .hbm, ⟨3, _⟩ => ⟨S1x512, .f32⟩
  | .hbm, ⟨4, _⟩ => ⟨S8192x512, .bf16⟩
  | .hbm, ⟨5, _⟩ => ⟨S1x512, .f32⟩
  | .hbm, ⟨6, _⟩ => ⟨S512, .f32⟩
  | .local _ .vmem, ⟨0, _⟩ => ⟨S256x512, .bf16⟩
  | .local _ .vmem, ⟨1, _⟩ => ⟨S256x512, .bf16⟩
  | .local _ .vmem, ⟨2, _⟩ => ⟨S1x512, .f32⟩
  | .local _ .vmem, ⟨3, _⟩ => ⟨S256x512, .f32⟩
  | .local _ .vmem, ⟨4, _⟩ => ⟨S256x512, .f32⟩
  | .local _ .vmem, ⟨5, _⟩ => ⟨S256x512, .bf16⟩
  | .local _ .vmem, ⟨6, _⟩ => ⟨S256x512, .bf16⟩
  | .local _ .vmem, ⟨7, _⟩ => ⟨S1x512, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference6Ideal.lean ====
abbrev S8192x4224 : Shape := ⟨2, ![8192, 4224]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S512, .f32⟩
  | .hbm, ⟨2, _⟩ => ⟨S8192x512, .f32⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x512, .f32⟩
  | .hbm, ⟨38, _⟩ => ⟨S8192x512, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .bf16⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel7.lean ====
abbrev S8192x4224 : Shape := ⟨2, ![8192, 4224]⟩
abbrev S512 : Shape := ⟨1, ![512]⟩
abbrev S1x512 : Shape := ⟨2, ![1, 512]⟩
abbrev S8192x512 : Shape := ⟨2, ![8192, 512]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4224, .bf16⟩
  | .hbm, ⟨1, _⟩ => ⟨S512, .f32⟩
  | .hbm, ⟨2, _⟩ => ⟨S1x512, .f32⟩
  | .hbm, ⟨3, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x4224 : Shape := ⟨2, ![8192, 4224]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S512, .f32⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x512, .bf16⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel8.lean ====
abbrev S8192x4224 : Shape := ⟨2, ![8192, 4224]⟩
abbrev S512 : Shape := ⟨1, ![512]⟩
abbrev S1x512 : Shape := ⟨2, ![1, 512]⟩
abbrev S8192x512 : Shape := ⟨2, ![8192, 512]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4224, .bf16⟩
  | .hbm, ⟨1, _⟩ => ⟨S512, .f32⟩
  | .hbm, ⟨2, _⟩ => ⟨S1x512, .f32⟩
  | .hbm, ⟨3, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x4224 : Shape := ⟨2, ![8192, 4224]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S512, .f32⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x512, .bf16⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel9.lean ====
abbrev S8192x5632 : Shape := ⟨2, ![8192, 5632]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S8192x2048 : Shape := ⟨2, ![8192, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x5632, .bf16⟩
  | .hbm, ⟨3, _⟩ => ⟨S2048x5632, .bf16⟩
  | .hbm, ⟨4, _⟩ => ⟨S2048x4x1408, .bf16⟩
  | .hbm, ⟨5, _⟩ => ⟨S4x2048x1408, .bf16⟩
  | .hbm, ⟨6, _⟩ => ⟨S2048x4x1408, .bf16⟩
  | .hbm, ⟨7, _⟩ => ⟨S4x2048x1408, .bf16⟩
  | .hbm, ⟨8, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S8192x5632 : Shape := ⟨2, ![8192, 5632]⟩
abbrev S2048x5632 : Shape := ⟨2, ![2048, 5632]⟩
abbrev S5632x2048 : Shape := ⟨2, ![5632, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S8192x2048, .f32⟩
  | .hbm, ⟨6, _⟩ => ⟨S5632x2048, .bf16⟩
  | .hbm, ⟨7, _⟩ => ⟨S8192x2048, .f32⟩
  | .hbm, ⟨8, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8192x1408 : Shape := ⟨2, ![8192, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S448x1024 : Shape := ⟨2, ![448, 1024]⟩
abbrev S56x1024 : Shape := ⟨2, ![56, 1024]⟩

abbrev nBuf : Space → Nat
  | .hbm => 2
  | .vmem => 2
  | .smem => 0
  | _ => 0

abbrev bufTy : (tb : Table) → Fin (tcTables nBuf tb) → BufTy
  | .hbm, ⟨0, _⟩ => ⟨S448x1024, .f32⟩
  | .hbm, ⟨1, _⟩ => ⟨S56x1024, .f32⟩
  | .local _ .vmem, ⟨0, _⟩ => ⟨S448x1024, .f32⟩
  | .local _ .vmem, ⟨1, _⟩ => ⟨S56x1024, .f32⟩
  | _, _ => ⟨S448x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference11Ideal.lean ====
abbrev S448x1024 : Shape := ⟨2, ![448, 1024]⟩
abbrev S8x56x1024 : Shape := ⟨3, ![8, 56, 1024]⟩
abbrev S_ : Shape := ⟨0, ![]⟩
abbrev S56x1024 : Shape := ⟨2, ![56, 1024]⟩

abbrev nBuf : Space → Nat
  | .hbm => 4
  | .vmem => 0
  | .smem => 0
  | _ => 0

abbrev bufTy : (tb : Table) → Fin (tcTables nBuf tb) → BufTy
  | .hbm, ⟨0, _⟩ => ⟨S448x1024, .f32⟩
  | .hbm, ⟨1, _⟩ => ⟨S8x56x1024, .f32⟩
  | .hbm, ⟨2, _⟩ => ⟨S_, .f32⟩
  | .hbm, ⟨3, _⟩ => ⟨S56x1024, .f32⟩
  | _, _ => ⟨S448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Finite.lean ====
/- Finite extended reals: what the arrays a precondition calls finite are, and their sums, products and exponentials
   as real numbers. -/
module

public import Idealize.ShloMosaic.Lib.Pointwise

@[expose] public section

noncomputable section

open Idealize.ShloMosaic

namespace Cert.Finite

/-- A sum of real numbers is the same sum in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers is a real number. -/
theorem coe_dot {ι : Type*} [Fintype ι] (f g : ι → ℝ) : ∑ i, ((f i : ℝ) : EReal) * ((g i : ℝ) : EReal) = ((∑ i, f i * g i : ℝ) : EReal) := by
  simp only [← EReal.coe_mul]; exact coe_sum _ _

/-- An extended real whose absolute value is below `⊤` is a real number. -/
theorem real_of_abs_lt {x : EReal} (h : max x (-x) < ⊤) : ∃ r : ℝ, x = (r : EReal) := by
  induction x using EReal.rec with
  | bot => simp at h
  | top => simp at h
  | coe r => exact ⟨r, rfl⟩

theorem ofBits_inf : Ideal.ofBits .f32 0x7F800000#32 = ⊤ := by
  simp [Ideal.ofBits, Ideal.ieee]

/-- An array of bf16 the mask "absolute value below infinity" holds of everywhere is an array of real numbers. -/
theorem reals_of_mask {s : Shape} {hlt} {hb : (⟨0, ![]⟩ : Shape).BroadcastsInDim s ![]} (x : FVec Ideal s .bf16)
    (h : cmpf .olt (Host.absf (extf .f32 x hlt)) (broadcastInDim s ![] hb (constant ⟨0, ![]⟩ .f32 0x7F800000#32)) = fun _ => 1#1) :
    ∃ f : s.Idx → ℝ, x = fun i => (f i : EReal) := by
  have h1 : ∀ i, ∃ r : ℝ, x i = (r : EReal) := fun i => by
    have h2 := congrFun h i
    pointwise at h2
    rw [ofBits_inf] at h2
    refine real_of_abs_lt ?_
    by_contra h3
    replace h2 : BitVec.ofBool (decide ((max (x i) (-(x i)) : EReal) < ⊤)) = 1#1 := h2
    simp [h3] at h2
  choose f hf using h1
  exact ⟨f, funext hf⟩

/-- The same of an array of f32. -/
theorem reals_of_mask_f32 {s : Shape} {hb : (⟨0, ![]⟩ : Shape).BroadcastsInDim s ![]} (x : FVec Ideal s .f32)
    (h : cmpf .olt (Host.absf x) (broadcastInDim s ![] hb (constant ⟨0, ![]⟩ .f32 0x7F800000#32)) = fun _ => 1#1) :
    ∃ f : s.Idx → ℝ, x = fun i => (f i : EReal) := by
  have h1 : ∀ i, ∃ r : ℝ, x i = (r : EReal) := fun i => by
    have h2 := congrFun h i
    pointwise at h2
    rw [ofBits_inf] at h2
    refine real_of_abs_lt ?_
    by_contra h3
    replace h2 : BitVec.ofBool (decide ((max (x i) (-(x i)) : EReal) < ⊤)) = 1#1 := h2
    simp [h3] at h2
  choose f hf using h1
  exact ⟨f, funext hf⟩

end Cert.Finite
end
-- ==== Proof.Attn.Math.lean ====
/- Attention over the real numbers: the softmax of the scores weighted by how often a key is seen, its output, and the
   gradients of its query, key and value; with the forms the kernels and the derivative reach them in. -/
module

public import proofs.«01_k».proof.Proof.Finite
public import Mathlib.Analysis.SpecialFunctions.Log.Basic

@[expose] public section

noncomputable section

open Idealize.ShloMosaic

namespace Cert.Attn

variable {Q K E D : Type} [Fintype Q] [Fintype K] [Fintype E] [Fintype D]

/-- The scaled scores of the queries and the keys. -/
def score (σ : ℝ) (q : Q → E → ℝ) (k : K → E → ℝ) (r : Q) (t : K) : ℝ := (∑ e, q r e * k t e) * σ

/-- The sum of the exponentials a query's row of scores has, each key as often as it is seen. -/
def part (w s : Q → K → ℝ) (r : Q) : ℝ := ∑ t, w r t * Real.exp (s r t)

/-- The output of the attention. -/
def out (w s : Q → K → ℝ) (v : K → D → ℝ) (r : Q) (d : D) : ℝ := (∑ t, w r t * Real.exp (s r t) * v t d) / part w s r

/-- The logarithm of that sum. -/
def lse (w s : Q → K → ℝ) (r : Q) : ℝ := Real.log (part w s r)

/-- The row sum of the output and its cotangent. -/
def rowSum (w s : Q → K → ℝ) (v : K → D → ℝ) (g : Q → D → ℝ) (r : Q) : ℝ := ∑ d, g r d * out w s v r d

/-- The softmax, from the saved logarithm. -/
def prob (w s : Q → K → ℝ) (r : Q) (t : K) : ℝ := w r t * Real.exp (s r t - lse w s r)

/-- The gradient of the scores. -/
def dscore (σ : ℝ) (w s : Q → K → ℝ) (v : K → D → ℝ) (g : Q → D → ℝ) (r : Q) (t : K) : ℝ :=
  prob w s r t * ((∑ d, g r d * v t d) - rowSum w s v g r) * σ

variable (w s : Q → K → ℝ)

theorem prob_eq (r : Q) (hZ : 0 < part w s r) (t : K) : prob w s r t = w r t * Real.exp (s r t) / part w s r := by
  rw [prob, lse, Real.exp_sub, Real.exp_log hZ, mul_div_assoc]

/-- Exponentials taken from any reference point add up to the sum scaled. -/
theorem part_shift (m : ℝ) (r : Q) : ∑ t, w r t * Real.exp (s r t - m) = part w s r * Real.exp (-m) := by
  rw [part, Finset.sum_mul]
  refine Finset.sum_congr rfl fun t _ => ?_
  rw [sub_eq_add_neg, Real.exp_add, mul_assoc]

theorem prob_shift (m : ℝ) (r : Q) (hZ : 0 < part w s r) (t : K) :
    w r t * Real.exp (s r t - m) / (part w s r * Real.exp (-m)) = prob w s r t := by
  rw [prob_eq w s r hZ, sub_eq_add_neg, Real.exp_add, ← mul_assoc, mul_div_mul_right _ _ (Real.exp_pos _).ne']

theorem out_shift (v : K → D → ℝ) (m : ℝ) (r : Q) (d : D) :
    (∑ t, w r t * Real.exp (s r t - m) * v t d) / (part w s r * Real.exp (-m)) = out w s v r d := by
  rw [out, ← mul_div_mul_right (∑ t, w r t * Real.exp (s r t) * v t d) _ (Real.exp_pos (-m)).ne', Finset.sum_mul]
  congr 1
  refine Finset.sum_congr rfl fun t _ => ?_
  rw [sub_eq_add_neg, Real.exp_add]; ring

theorem lse_shift (m : ℝ) (r : Q) (hZ : 0 < part w s r) : m + Real.log (part w s r * Real.exp (-m)) = lse w s r := by
  rw [lse, Real.log_mul hZ.ne' (Real.exp_pos _).ne', Real.log_exp]; ring

/-- The row sum of output and cotangent is the mean of the cotangent's products with the values. -/
theorem rowSum_eq (v : K → D → ℝ) (g : Q → D → ℝ) (r : Q) (hZ : 0 < part w s r) :
    rowSum w s v g r = ∑ t, prob w s r t * ∑ d, g r d * v t d := by
  simp only [rowSum, out, prob_eq w s r hZ]
  simp only [Finset.mul_sum, Finset.sum_div]
  rw [Finset.sum_comm]
  refine Finset.sum_congr rfl fun t _ => Finset.sum_congr rfl fun d _ => ?_
  ring

/-- The derivative of the quotient, as it is taken from any reference point, is the gradient of the scores. -/
theorem dscore_quotient (σ m : ℝ) (v : K → D → ℝ) (g : Q → D → ℝ) (r : Q) (hZ : 0 < part w s r) (t : K) :
    (((∑ d, g r d * v t d) / (part w s r * Real.exp (-m))
      + -(∑ t, (∑ d, g r d * v t d) * (1 / ((part w s r * Real.exp (-m)) * (part w s r * Real.exp (-m)))) * (w r t * Real.exp (s r t - m))))
      * (w r t * Real.exp (s r t - m))) * σ = dscore σ w s v g r t := by
  have hZ' : part w s r * Real.exp (-m) ≠ 0 := (mul_pos hZ (Real.exp_pos _)).ne'
  have hs : ∑ t, (∑ d, g r d * v t d) * (1 / ((part w s r * Real.exp (-m)) * (part w s r * Real.exp (-m)))) * (w r t * Real.exp (s r t - m))
      = rowSum w s v g r / (part w s r * Real.exp (-m)) := by
    rw [rowSum_eq w s v g r hZ, Finset.sum_div]
    refine Finset.sum_congr rfl fun t _ => ?_
    rw [← prob_shift w s m r hZ t]; field_simp
  rw [hs, dscore, ← prob_shift w s m r hZ t]
  field_simp
  ring

end Cert.Attn
end
-- ==== Proof.Attn.Real.lean ====
/- Arrays of real numbers, as functions of natural row and column numbers: what a load, a store and a sum over a
   tile of them are. -/
module

public import proofs.«01_k».proof.Proof.Attn.Math
public import Idealize.ShloMosaic.Lib.Pipeline.ValueKit
public import Idealize.ShloMosaic.Lib.WritesUnit
public import Idealize.ShloMosaic.Lib.WordCmp

@[expose] public section

noncomputable section

open Idealize.ShloMosaic

namespace Cert.Attn

/-- A two-axis array holds the real numbers `A`. -/
def Holds {m n : ℕ} (X : (⟨2, ![m, n]⟩ : Shape).Idx → EReal) (A : ℕ → ℕ → ℝ) : Prop :=
  ∀ (i : Fin m) (j : Fin n), X (ix2 i j) = ((A i.val j.val : ℝ) : EReal)

theorem Holds.at {m n : ℕ} {X : (⟨2, ![m, n]⟩ : Shape).Idx → EReal} {A : ℕ → ℕ → ℝ} (h : Holds X A) (x : (⟨2, ![m, n]⟩ : Shape).Idx) :
    X x = ((A (x 0).val (x 1).val : ℝ) : EReal) := by
  have e : x = ix2 (x 0) (x 1) := by idx_ext
  exact (congrArg X e).trans (h (x 0) (x 1))

theorem Holds.of {m n : ℕ} {X : (⟨2, ![m, n]⟩ : Shape).Idx → EReal} {A : ℕ → ℕ → ℝ}
    (h : ∀ x, X x = ((A (x 0).val (x 1).val : ℝ) : EReal)) : Holds X A := fun i j => h _

/-- The entries a rectangle's offsets move to. -/
theorem Holds.window {m n k l : ℕ} {X : (⟨2, ![m, n]⟩ : Shape).Idx → EReal} {A : ℕ → ℕ → ℝ} (h : Holds X A)
    {off : Fin 2 → ℕ} (a b : ℕ) (inb : ∀ j, off j + ![k, l] j ≤ ![m, n] j) (hoff : off = ![a, b]) :
    @Holds k l (fun x => X ((Rect.unit (s := ⟨2, ![m, n]⟩) off ![k, l] inb).idx x)) (fun i j => A (a + i) (b + j)) := by
  subst hoff
  intro i j
  have := h.at ((Rect.unit (s := ⟨2, ![m, n]⟩) ![a, b] ![k, l] inb).idx (ix2 i j))
  simpa using this

theorem Holds.congr {m n : ℕ} {X : (⟨2, ![m, n]⟩ : Shape).Idx → EReal} {A B : ℕ → ℕ → ℝ} (h : Holds X A)
    (e : ∀ i < m, ∀ j < n, A i j = B i j) : Holds X B := fun i j => by rw [h i j, e i.val i.isLt j.val j.isLt]

/-- A block of 256 rows of a real array. -/
theorem blk_of {n : ℕ} {f : (⟨2, ![256, n]⟩ : Shape).Idx → EReal} {X : (⟨2, ![8192, n]⟩ : Shape).Idx → EReal} {A : ℕ → ℕ → ℝ} (h : Holds X A) (t : ℕ) (ht : t < 32)
    (e : ∀ (i : Fin 256) (j : Fin n), f (ix2 i j) = X (ix2 ⟨256 * t + i.val, by omega⟩ j)) : Holds f (fun i j => A (256 * t + i) j) :=
  fun i j => (e i j).trans (h _ _)

/-- An array of real numbers holds a function of row and column numbers. -/
theorem exists_holds {m n : ℕ} {X : (⟨2, ![m, n]⟩ : Shape).Idx → EReal} (h : ∃ f : (⟨2, ![m, n]⟩ : Shape).Idx → ℝ, X = fun i => (f i : EReal)) :
    ∃ A : ℕ → ℕ → ℝ, Holds X A := by
  obtain ⟨f, rfl⟩ := h
  refine ⟨fun a b => if h : a < m ∧ b < n then f (ix2 ⟨a, h.1⟩ ⟨b, h.2⟩) else 0, fun i j => ?_⟩
  beta_reduce
  rw [dif_pos ⟨i.isLt, j.isLt⟩]

/-- Two arrays that hold equal numbers are equal. -/
theorem holds_ext {m n : ℕ} {X Y : (⟨2, ![m, n]⟩ : Shape).Idx → EReal} {A B : ℕ → ℕ → ℝ} (hX : Holds X A) (hY : Holds Y B)
    (e : ∀ (i : Fin m) (j : Fin n), A i j = B i j) : X = Y := by
  funext x
  rw [hX.at x, hY.at x]
  exact congrArg _ (e (x 0) (x 1))

/-- A stored rectangle over an array that holds `A`: its own entries where it lies, the array's elsewhere. -/
theorem Holds.write_cons {sig : RefSig} {κ : Kind} {sp : Space} {m n k l : ℕ} (v : View sig κ sp ⟨2, ![m, n]⟩ .f32) (f : v.ty.Contents (Elt Ideal))
    (L : List (View.Piece (Elt Ideal) ⟨2, ![m, n]⟩ .f32)) {off : Fin 2 → ℕ} (a b : ℕ) (inb : ∀ j, off j + ![k, l] j ≤ ![m, n] j) (hoff : off = ![a, b])
    (w : (⟨2, ![k, l]⟩ : Shape).Idx → EReal) {A B : ℕ → ℕ → ℝ} (hw : Holds w B) (h : Holds (v.read (Elt Ideal) (v.writes (Elt Ideal) f L)) A) :
    Holds (v.read (Elt Ideal) (v.writes (Elt Ideal) f ((⟨Rect.unit (s := ⟨2, ![m, n]⟩) off ![k, l] inb, w⟩ : View.Piece (Elt Ideal) ⟨2, ![m, n]⟩ .f32) :: L)))
      (fun i j => if a ≤ i ∧ i < a + k ∧ b ≤ j ∧ j < b + l then B (i - a) (j - b) else A i j) := by
  subst hoff
  intro i j
  rw [View.read_writes_cons_unit v f inb w L _ rfl]
  beta_reduce
  by_cases hc : a ≤ i.val ∧ i.val < a + k ∧ b ≤ j.val ∧ j.val < b + l
  · rw [if_pos hc, dif_pos (by intro x; fin_cases x; exacts [⟨hc.1, hc.2.1⟩, hc.2.2])]
    refine (hw.at _).trans ?_
    simp [Rect.unitLocal_val]
  · rw [if_neg hc, dif_neg (fun hx => hc ⟨(hx 0).1, (hx 0).2, hx 1⟩)]
    exact h i j

/-- The same of an array with a middle axis of one entry. -/
def Holds3 {m n : ℕ} (X : (⟨3, ![m, 1, n]⟩ : Shape).Idx → EReal) (A : ℕ → ℕ → ℝ) : Prop :=
  ∀ (i : Fin m) (j : Fin n), X (ix3 i 0 j) = ((A i.val j.val : ℝ) : EReal)

theorem Holds3.window {m n k l : ℕ} {X : (⟨3, ![m, 1, n]⟩ : Shape).Idx → EReal} {A : ℕ → ℕ → ℝ} (h : Holds3 X A)
    {off : Fin 3 → ℕ} (a b : ℕ) (inb : ∀ j, off j + ![k, 1, l] j ≤ ![m, 1, n] j) (hoff : off = ![a, 0, b]) :
    Holds3 (m := k) (n := l) (fun x => X ((Rect.unit (s := ⟨3, ![m, 1, n]⟩) off ![k, 1, l] inb).idx x)) (fun i j => A (a + i) (b + j)) := by
  subst hoff
  intro i j
  have h0 := inb 0
  have h2 := inb 2
  simp only [Matrix.cons_val] at h0 h2
  refine (congrArg X ?_).trans (h ⟨a + i.val, by omega⟩ ⟨b + j.val, by omega⟩)
  idx_ext

theorem Holds3.congr {m n : ℕ} {X : (⟨3, ![m, 1, n]⟩ : Shape).Idx → EReal} {A B : ℕ → ℕ → ℝ} (h : Holds3 X A)
    (e : ∀ i < m, ∀ j < n, A i j = B i j) : Holds3 X B := fun i j => by rw [h i j, e i.val i.isLt j.val j.isLt]

/-- The scaling constant of the scores, as the real number it is. -/
def sigma : ℝ := 9686330 * (2 ^ 27)⁻¹

theorem sigma_real : Ideal.ofBits FTy.f32 1033096506#32 = (sigma : EReal) := by
  rw [sigma, EReal.coe_mul]; simp [Ideal.ofBits, Ideal.ieee]

/-- A weight's exponential: the score of query `a` and key `b` against the query's saved logarithm. -/
def expP (Q K : ℕ → ℕ → ℝ) (L : ℕ → ℝ) (a b : ℕ) : ℝ := Real.exp ((∑ e : Fin 256, Q a e * K b e) * sigma - L a)

/-- The gradient of a score, its weight `P` given. -/
def dsP (P G V : ℕ → ℕ → ℝ) (D : ℕ → ℝ) (a b : ℕ) : ℝ := P a b * ((∑ d : Fin 128, G a d * V b d) - D a) * sigma

/-- The gradient of the score of query `a` and key `t` at head `h` of the two a block holds, its weight `P` given. -/
def dsH (P : ℕ → ℕ → ℝ) (G : ℕ → ℕ → ℝ) (V : ℕ → ℕ → ℕ → ℝ) (D : ℕ → ℕ → ℝ) (h : ℕ) : ℕ → ℕ → ℝ :=
  dsP P (fun a d => G a (128 * h + d)) (V h) (fun a => D a h)

/-- The weight there. -/
def expH (Q K L : ℕ → ℕ → ℝ) (h : ℕ) : ℕ → ℕ → ℝ := expP (fun a e => Q a (256 * h + e)) (fun t e => K t (256 * h + e)) (fun a => L a h)

/-- The gradient of that score. -/
def dsAt (Q K G : ℕ → ℕ → ℝ) (V : ℕ → ℕ → ℕ → ℝ) (L D : ℕ → ℕ → ℝ) (h : ℕ) : ℕ → ℕ → ℝ := dsH (expH Q K L h) G V D h

/-- The causal choice of a tile on the diagonal. -/
theorem causal_select {α : Type} (a c : Fin 512) (x y : α) :
    Scalar.select (IntOp.cmpi .sle (IntOp.addi 0#32 (BitVec.ofNat 32 c.val)) (IntOp.addi 0#32 (BitVec.ofNat 32 a.val))) x y = if c.val ≤ a.val then x else y := by
  rw [show IntOp.addi 0#32 (BitVec.ofNat 32 c.val) = BitVec.ofNat 32 c.val from BitVec.zero_add _,
    show IntOp.addi 0#32 (BitVec.ofNat 32 a.val) = BitVec.ofNat 32 a.val from BitVec.zero_add _,
    WordCmp.cmpi_sle_ofNat (by omega) (by omega), WordCmp.select_ofBool]
  simp

/-- The same with no offset added. -/
theorem causal_select' {α : Type} (a c : Fin 512) (x y : α) :
    Scalar.select (IntOp.cmpi .sle (BitVec.ofNat 32 c.val) (BitVec.ofNat 32 a.val)) x y = if c.val ≤ a.val then x else y := by
  rw [WordCmp.cmpi_sle_ofNat (by omega) (by omega), WordCmp.select_ofBool]
  simp

end Cert.Attn
end
-- ==== Proof.Norm.Real.lean ====
/- The norm of a row, its gradients and the sums they meet, over arrays of real numbers. -/
module

public import proofs.«01_k».proof.Proof.Attn.Real

@[expose] public section

noncomputable section

open Idealize.ShloMosaic Cert.Attn

namespace Cert.Norm

/-- The number added to a row's mean square. -/
def eps : ℝ := 8796093 / 2 ^ 43

/-- A row's mean square, with the added number. -/
def ms (n : ℕ) (X : ℕ → ℕ → ℝ) (i : ℕ) : ℝ := (∑ k : Fin n, X i k * X i k) / n + eps

/-- One over the root of a row's mean square. -/
def ri (n : ℕ) (X : ℕ → ℕ → ℝ) (i : ℕ) : ℝ := (Real.sqrt (ms n X i))⁻¹

/-- A row over the root of its mean square. -/
def hat (n : ℕ) (X : ℕ → ℕ → ℝ) (i k : ℕ) : ℝ := X i k * ri n X i

/-- The norm: a row over the root of its mean square, times the gains. -/
def normed (n : ℕ) (X : ℕ → ℕ → ℝ) (g : ℕ → ℝ) (i k : ℕ) : ℝ := hat n X i k * g k

/-- The mean over a row of the gradient times the gains times the normed row. -/
def rowMean (n : ℕ) (X : ℕ → ℕ → ℝ) (g : ℕ → ℝ) (D : ℕ → ℕ → ℝ) (i : ℕ) : ℝ := (∑ l : Fin n, D i l * g l * hat n X i l) / n

/-- The gradient of the norm in its argument. -/
def back (n : ℕ) (X : ℕ → ℕ → ℝ) (g : ℕ → ℝ) (D : ℕ → ℕ → ℝ) (i k : ℕ) : ℝ := ri n X i * (D i k * g k - hat n X i k * rowMean n X g D i)

/-- The gradient of the norm in its gains: the sum over all rows. -/
def gain (n : ℕ) (X D : ℕ → ℕ → ℝ) (k : ℕ) : ℝ := ∑ i : Fin 8192, D i k * hat n X i k

/-- The stream after the mixing: the argument and the norm of the mixing's output. -/
def mixed (X Z : ℕ → ℕ → ℝ) (G : ℕ → ℝ) (i k : ℕ) : ℝ := X i k + normed 2048 Z G i k

/-- The step's output less its target. -/
def err (X Z : ℕ → ℕ → ℝ) (G : ℕ → ℝ) (T : ℕ → ℕ → ℝ) (i k : ℕ) : ℝ := X i k + 1 / 2 * normed 2048 Z G i k - T i k

/-- The mean square of a row. -/
def meanSq (E : ℕ → ℕ → ℝ) (i : ℕ) : ℝ := (∑ k : Fin 2048, E i k * E i k) / (2048 : ℕ)

/-- The gradient of the loss in the step's output. -/
def lossGrad (X Z : ℕ → ℕ → ℝ) (G : ℕ → ℝ) (T : ℕ → ℕ → ℝ) (i k : ℕ) : ℝ := 1 / 2048 * err X Z G T i k

/-- The loss: half the sum of the rows' mean squares. -/
def loss (X Z : ℕ → ℕ → ℝ) (G : ℕ → ℝ) (T : ℕ → ℕ → ℝ) : ℝ := ∑ i : Fin 8192, meanSq (err X Z G T) i * (1 / 2)

/-- The gradient in the stream: the loss's and the one through the norm before the last block. -/
def streamGrad (X Z : ℕ → ℕ → ℝ) (G2 G3 : ℕ → ℝ) (T D : ℕ → ℕ → ℝ) (i k : ℕ) : ℝ := lossGrad X Z G3 T i k + back 2048 X G2 D i k

/-- A one-axis array that holds a row of real numbers. -/
def Row {n : ℕ} (f : (⟨1, ![n]⟩ : Shape).Idx → EReal) (G : ℕ → ℝ) : Prop := ∀ j : Fin n, f (ix1 j) = ((G j : ℝ) : EReal)

theorem exists_row {n : ℕ} {X : (⟨1, ![n]⟩ : Shape).Idx → EReal} (h : ∃ f : (⟨1, ![n]⟩ : Shape).Idx → ℝ, X = fun i => (f i : EReal)) : ∃ G : ℕ → ℝ, Row X G := by
  obtain ⟨f, rfl⟩ := h
  exact ⟨fun a => if h : a < n then f (ix1 ⟨a, h⟩) else 0, fun j => by beta_reduce; rw [dif_pos j.isLt]⟩

theorem row_ext {n : ℕ} {X Y : (⟨1, ![n]⟩ : Shape).Idx → EReal} {G : ℕ → ℝ} (hX : Row X G) (hY : Row Y G) : X = Y := by
  funext x
  rw [show x = ix1 (x 0) by idx_ext]
  exact (hX _).trans (hY _).symm

theorem row_of_eq {n : ℕ} {X Y : (⟨1, ![n]⟩ : Shape).Idx → EReal} {G : ℕ → ℝ} (h : Row Y G) (e : X = Y) : Row X G := e ▸ h
theorem holds_of_eq {a b : ℕ} {X Y : (⟨2, ![a, b]⟩ : Shape).Idx → EReal} {A : ℕ → ℕ → ℝ} (h : Holds Y A) (e : X = Y) : Holds X A := e ▸ h

theorem eps_pos : 0 < eps := by norm_num [eps]

theorem ms_pos (n : ℕ) (X : ℕ → ℕ → ℝ) (i : ℕ) : 0 < ms n X i :=
  add_pos_of_nonneg_of_pos (div_nonneg (Finset.sum_nonneg fun k _ => mul_self_nonneg _) (Nat.cast_nonneg n)) eps_pos

theorem ri_pow (n : ℕ) (X : ℕ → ℕ → ℝ) (i : ℕ) : ri n X i / ms n X i = ri n X i * ri n X i * ri n X i := by
  have h := Real.mul_self_sqrt (ms_pos n X i).le
  have h0 := (Real.sqrt_pos.mpr (ms_pos n X i)).ne'
  have h1 := (ms_pos n X i).ne'
  rw [ri]
  generalize ms n X i = a at *
  rw [← h] at h1 ⊢
  rw [Real.sqrt_mul_self (Real.sqrt_nonneg a)]
  field_simp

/-- The gradient of the norm as the derivative of its product and of its root states it. -/
theorem back_eq (n : ℕ) (hn : 0 < n) (X : ℕ → ℕ → ℝ) (g : ℕ → ℝ) (D : ℕ → ℕ → ℝ) (i k : ℕ) :
    D i k * g k * ri n X i + X i k * ((∑ l : Fin n, X i l * (D i l * g l)) * (-(1 / 2) * (ri n X i / ms n X i)) / n)
      + ((∑ l : Fin n, X i l * (D i l * g l)) * (-(1 / 2) * (ri n X i / ms n X i)) / n) * X i k = back n X g D i k := by
  have e : ∑ l : Fin n, D i l * g l * hat n X i l = ri n X i * ∑ l : Fin n, X i l * (D i l * g l) := by
    rw [Finset.mul_sum]; exact Finset.sum_congr rfl fun l _ => by rw [hat]; ring
  have h : (n : ℝ) ≠ 0 := by exact_mod_cast hn.ne'
  rw [back, rowMean, e, hat, ri_pow]
  field_simp
  ring

theorem eps_lit : Ideal.ofBits .f32 0x358637BD#32 = ((eps : ℝ) : EReal) := by
  simp [Ideal.ofBits, Ideal.ieee, eps]
  rw [← EReal.coe_mul]
  norm_num

theorem half_lit : Ideal.ofBits .f32 0x3F000000#32 = (((1 / 2 : ℝ)) : EReal) := by simp [Ideal.ofBits, Ideal.ieee]; rw [← EReal.coe_mul]; norm_num
theorem neg_half_lit : Ideal.ofBits .f32 0xBF000000#32 = ((-(1 / 2) : ℝ) : EReal) := by simp [Ideal.ofBits, Ideal.ieee]; rw [← EReal.coe_mul]; norm_num
theorem two_lit : Ideal.ofBits .f32 0x40000000#32 = ((2 : ℝ) : EReal) := by simp [Ideal.ofBits, Ideal.ieee]; rw [← EReal.coe_mul]; norm_num
theorem one_lit : Ideal.ofBits .f32 0x3F800000#32 = ((1 : ℝ) : EReal) := by simp [Ideal.ofBits, Ideal.ieee]; rw [← EReal.coe_mul]; norm_num
theorem width_lit : Ideal.ofBits .f32 0x45000000#32 = (((2048 : ℕ) : ℝ) : EReal) := by simp [Ideal.ofBits, Ideal.ieee]; rw [← EReal.coe_mul]; norm_num
theorem inv_width_lit : Ideal.ofBits .f32 0x3A000000#32 = ((1 / 2048 : ℝ) : EReal) := by simp [Ideal.ofBits, Ideal.ieee]; rw [← EReal.coe_mul]; norm_num
theorem rank_lit : Ideal.ofBits .f32 0x44000000#32 = (((512 : ℕ) : ℝ) : EReal) := by simp [Ideal.ofBits, Ideal.ieee]; rw [← EReal.coe_mul]; norm_num

theorem div_nat {n : ℕ} (hn : 0 < n) (a : ℝ) : Ideal.div ((a : ℝ) : EReal) ((n : ℝ) : EReal) = ((a / n : ℝ) : EReal) := by
  rw [Ideal.div_coe (by exact_mod_cast hn.ne'), ← EReal.coe_mul]; congr 1; ring

/-- A row's sum of products of real entries. -/
theorem dot_of {n : ℕ} {f g : Fin n → EReal} {a b : Fin n → ℝ} (hf : ∀ k, f k = ((a k : ℝ) : EReal)) (hg : ∀ k, g k = ((b k : ℝ) : EReal)) :
    ∑ k, f k * g k = ((∑ k, a k * b k : ℝ) : EReal) :=
  (Finset.sum_congr rfl fun k _ => by rw [hf, hg]).trans (Finite.coe_dot a b)

/-- A row's mean square with the added number, from its real entries. -/
theorem ms_of {n : ℕ} (hn : 0 < n) {f : Fin n → EReal} {X : ℕ → ℕ → ℝ} {i : ℕ} (h : ∀ k, f k = ((X i k : ℝ) : EReal)) {w : EReal}
    (hw : w = ((n : ℝ) : EReal)) : Ideal.div (∑ k, f k * f k) w + Ideal.ofBits .f32 0x358637BD#32 = ((ms n X i : ℝ) : EReal) := by
  rw [hw, dot_of h h, div_nat hn, eps_lit, ← EReal.coe_add]
  rfl

theorem rsqrt_ms (n : ℕ) (X : ℕ → ℕ → ℝ) (i : ℕ) : Ideal.rsqrt ((ms n X i : ℝ) : EReal) = ((ri n X i : ℝ) : EReal) := by
  rw [Ideal.rsqrt_coe, if_neg (ms_pos n X i).le.not_gt, if_neg (ms_pos n X i).ne']; rfl

/-- The gradient of the norm, from the real entries of a row. -/
theorem back_of {n : ℕ} (hn : 0 < n) {X D : ℕ → ℕ → ℝ} {G : ℕ → ℝ} {i : ℕ} {r w : EReal} {d g h : Fin n → EReal} (hr : r = ((ri n X i : ℝ) : EReal))
    (hd : ∀ k, d k = ((D i k : ℝ) : EReal)) (hg : ∀ k, g k = ((G k : ℝ) : EReal)) (hh : ∀ k, h k = ((hat n X i k : ℝ) : EReal)) (hw : w = ((n : ℝ) : EReal)) (j : Fin n) :
    r * (d j * g j - h j * Ideal.div (∑ x, d x * g x * h x) w) = ((back n X G D i j : ℝ) : EReal) := by
  rw [dot_of (fun k => by rw [hd, hg, ← EReal.coe_mul]) hh, hw, div_nat hn, hr, hd, hg, hh, ← EReal.coe_mul, ← EReal.coe_mul, ← EReal.coe_sub, ← EReal.coe_mul]
  rfl

/-- A norm's entry, from the real entries of its row. -/
theorem normed_of {n : ℕ} {X : ℕ → ℕ → ℝ} {G : ℕ → ℝ} {i j : ℕ} {x r g : EReal} (hx : x = ((X i j : ℝ) : EReal)) (hr : r = ((ms n X i : ℝ) : EReal))
    (hg : g = ((G j : ℝ) : EReal)) : x * Ideal.rsqrt r * g = ((normed n X G i j : ℝ) : EReal) := by
  rw [hx, hr, rsqrt_ms, hg, ← EReal.coe_mul, ← EReal.coe_mul]
  rfl

/-- The sums that the 32 blocks of 256 rows add are the sum over all rows. -/
theorem blocks_sum (t : ℕ) (ht : t < 32) (f : ℕ → ℝ) :
    ∑ s : Fin 32, ((∑ i : Fin 256, f (256 * (32 * (t / 32) + s.val) + i) : ℝ) : EReal) = ((∑ i : Fin 8192, f i : ℝ) : EReal) := by
  rw [Finite.coe_sum]
  refine congrArg _ (Fin.sum_mul_add_congr (f := fun i : Fin 8192 => f i) fun s k hl => congrArg f ?_)
  rw [Nat.div_eq_of_lt ht]
  show 256 * (32 * 0 + s.val) + k.val = s.val * 256 + k.val
  omega

/-- A one-row block that is its array. -/
theorem row_of {n : ℕ} {f X : (⟨2, ![1, n]⟩ : Shape).Idx → EReal} {A : ℕ → ℕ → ℝ} (h : Holds X A) (e : ∀ (i : Fin 1) (j : Fin n), f (ix2 i j) = X (ix2 i j)) : Holds f A :=
  fun i j => (e i j).trans (h i j)

end Cert.Norm
-- ==== Proof.Rank.Real.lean ====
/- The two halves of a projection's first columns, over arrays of real numbers. -/
module

public import proofs.«01_k».proof.Proof.Norm.Real

@[expose] public section

noncomputable section

open Idealize.ShloMosaic Cert.Attn

namespace Cert.Norm

/-- The 512 columns from the b-th on. -/
def lanes (P : ℕ → ℕ → ℝ) (b i k : ℕ) : ℝ := P i (512 * b + k)

/-- One half of the projection's first columns. -/
theorem cols_of {f : (⟨2, ![256, 512]⟩ : Shape).Idx → EReal} {X : (⟨2, ![8192, 4224]⟩ : Shape).Idx → EReal} {P : ℕ → ℕ → ℝ} (h : Holds X P) (b : ℕ) (hb : b < 2) (t : ℕ) (ht : t < 32)
    (e : ∀ (i : Fin 256) (j : Fin 512), f (ix2 i j) = X (ix2 ⟨256 * t + i.val, by omega⟩ ⟨512 * b + j.val, by omega⟩)) : Holds f (fun i j => lanes P b (256 * t + i) j) :=
  fun i j => (e i j).trans (h _ _)

end Cert.Norm
-- ==== Proof.Rank.Cq.lean ====
/- What the backward call of the query columns' norm leaves, and its program's run. -/
module

public import proofs.«01_k».proof.Proof.Rank.Real
public import proofs.«01_k».proof.Proof.Gen.Kernel5Ideal.Frame
public import Idealize.ShloMosaic.Lib.KernelVsHost

@[expose] public section

set_option maxRecDepth 16384

noncomputable section

open Idealize.ShloMosaic Idealize.ShloMosaic.TcCoe Idealize.SL.Sem

namespace Cert.Kernel5Ideal.Value
open Cert.Kernel5Ideal Cert.Kernel5Ideal.Gen Cert.Attn Cert.Norm

section
variable {x : FVec Ideal S256x512 .bf16} {d : FVec Ideal S256x512 .f32} {g : FVec Ideal S1x512 .f32} {X D : ℕ → ℕ → ℝ} {G : ℕ → ℝ} (hx : @Holds 256 512 x X) (hd : @Holds 256 512 d D) (hg : @Holds 1 512 g fun _ => G)

include hx in
theorem p0_4 : @Holds 256 1 (k0_pay4 (F := Ideal) x) fun i _ => ri 512 X i := by
  intro i j
  pointwise [k0_pay4, k0_pay2]
  exact (congrArg Ideal.rsqrt (ms_of (by norm_num) (hx i) rank_lit)).trans (rsqrt_ms _ _ _)

include hx in
theorem p0_5 : @Holds 256 512 (k0_pay5 (F := Ideal) x) (hat 512 X) := by
  intro i j
  pointwise [k0_pay5, k0_pay2]
  rw [hx i j, p0_4 hx i 0, ← EReal.coe_mul]
  rfl

include hd in
theorem p0_3 : @Holds 256 512 (k0_pay3 (F := Ideal) d) D := by
  intro i j
  pointwise [k0_pay3]
  exact hd i j

include hx hd hg in
theorem p0_6 : @Holds 256 512 (k0_pay6 (F := Ideal) x d g) (back 512 X G D) := by
  intro i j
  pointwise [k0_pay6]
  exact back_of (by norm_num) (p0_4 hx i 0) (p0_3 hd i) (hg 0) (p0_5 hx i) rank_lit j

include hx hd in
/-- A block's part of the gains' gradient, added to what the blocks before left. -/
theorem p0_1 (a : FVec Ideal S1x512 .f32) (j : S1x512.Idx) :
    k0_pay1 (F := Ideal) a (k0_pay9 x d) j = a j + ((∑ i : Fin 256, D i (j 1).val * hat 512 X i (j 1).val : ℝ) : EReal) := by
  pointwise [k0_pay1, k0_pay9]
  exact congrArg _ (dot_of (fun i => p0_3 hd i (j 1)) (fun i => p0_5 hx i (j 1)))

theorem p0_7 (j : S1x512.Idx) : k0_pay7 (F := Ideal) j = 0 := by pointwise [k0_pay7]
theorem p0_8 (a : FVec Ideal S1x512 .f32) (j : S1x512.Idx) : k0_pay8 (F := Ideal) a j = a j := by pointwise [k0_pay8]
end

theorem row_in {r : FVec Ideal S1x512 .f32} {v : FVec Ideal S512 .f32} {G : ℕ → ℝ} (hv : Row v G) (e : r = shapeCast S1x512 v shapeCasts_S512_S1x512) :
    @Holds 1 512 r fun _ => G := by
  intro i j
  rw [e]
  pointwise
  exact hv j

theorem row_out {r : FVec Ideal S512 .f32} {v : FVec Ideal S1x512 .f32} {G : ℕ → ℝ} (hv : @Holds 1 512 v fun _ => G) (e : r = shapeCast S512 v shapeCasts_S1x512_S512) :
    Row r G := by
  intro j
  rw [e]
  pointwise
  exact hv 0 j

theorem idx0 : ∀ t : Fin cfg0.N, win0_0.index t = ![t.val, 0] ∧ win0_1.index t = ![0, 0] ∧ win0_2.index t = ![t.val, 0] ∧ win0_3.index t = ![t.val, 0] ∧ win0_4.index t = ![0, 0] :=
  (by decide +kernel : ∀ t : Fin grid0.N, _)

variable {m : (ℓ : Loc nD τ sig) → Buf (Elt Ideal) ℓ} {c : Dev nD} {P D : ℕ → ℕ → ℝ} {G : ℕ → ℝ}
  (hP : @Holds 8192 4224 (V m c main_arg0) P) (hG : @Holds 1 512 (V m c main_v0) fun _ => G) (hD : @Holds 8192 512 (V m c main_arg2) D)

include hP in
/-- The block of the query columns the call reads at a point. -/
theorem x_at (t : Fin cfg0.N) : @Holds 256 512 (X0_0 m c t) (fun i j => lanes P 0 (256 * t.val + i) j) :=
  cols_of hP 0 (by decide) t.val t.isLt (by
    intro i j
    unfold X0_0 Pipeline.Window.fill
    rw [dif_pos (moved0_0 t _)]
    blk_point [iblk, idx0 t])

include hG in
theorem g_at (t : Fin cfg0.N) : @Holds 1 512 (iblk m c 1 t) (fun _ => G) := row_of hG (by intro i j; blk_point [iblk, idx0 t])

include hD in
theorem d_at (t : Fin cfg0.N) : @Holds 256 512 (iblk m c 2 t) (fun i j => D (256 * t.val + i) j) := blk_of hD t.val t.isLt (by intro i j; blk_point [iblk, idx0 t])

include hP hG hD in
/-- The gradient of the query columns' norm in them. -/
theorem final_3 : @Holds 8192 512 ((dats m 0 c).arrAt 3 cfg0.N) (back 512 (lanes P 0) G D) := by
  refine Holds.of (congrFun ((dats m 0 c).arrAt_eq_of_covers 3 _ (by decide +kernel) fun t _ y => ?_))
  have e := (idx0 t).2.2.2.1
  blk_simp
  rw [after0_3]
  refine Eq.trans (b := k0_pay6 (F := Ideal) (X0_0 m c t) (iblk m c 2 t) (iblk m c 1 t) y) ?_ (((p0_6 (x_at hP t) (d_at hD t) (g_at hG t)).at y).trans ?_)
  · by_cases h : t.val % 32 = 0
    · rw [outsAt0_A m c t h]; frame_out
    · rw [outsAt0_B m c t h]; frame_out
  rw [e]
  simp only [Matrix.cons_val_zero, Matrix.cons_val_one, Nat.zero_mul, Nat.zero_add, Nat.mul_comm _ 256]
  rfl

include hP hD in
/-- The gradient of the query columns' norm in its gains. -/
theorem final_4 : @Holds 1 512 ((dats m 0 c).arrAt 4 cfg0.N) (fun _ => gain 512 (lanes P 0) D) := by
  refine Holds.of (congrFun ((dats m 0 c).arrAt_eq_of_covers 4 _ (by decide +kernel) fun t hf y => ?_))
  have part (t : Fin cfg0.N) (j : (⟨2, ![1, 512]⟩ : Shape).Idx) (a : FVec Ideal ⟨2, ![1, 512]⟩ .f32) : k0_pay1 (F := Ideal) a (k0_pay9 (X0_0 m c t) (iblk m c 2 t)) j = a j + ((∑ i : Fin 256, D (256 * t.val + i) (j 1).val * hat 512 (lanes P 0) (256 * t.val + i) (j 1).val : ℝ) : EReal) :=
    p0_1 (x_at hP t) (d_at hD t) a j
  have e := (idx0 t).2.2.2.2
  blk_simp
  rw [after0_4, Pipeline.eq_sum_fin_of_reset_step_apply_of_flush (fun n h => (outsAt0 m c n h).2) 32 (fun _ => (0 : EReal)) (fun t j => ((∑ i : Fin 256, D (256 * t.val + i) (j 1).val * hat 512 (lanes P 0) (256 * t.val + i) (j 1).val : ℝ) : EReal))
    (fun t h j => by rw [outsAt0_A m c t h]; frame_out; exact (part t j _).trans (congrArg (· + _) ((p0_8 _ j).trans (p0_7 j))))
    (fun t h j => by rw [outsAt0_B m c t h]; frame_out; exact (part t j _).trans (congrArg (· + _) (p0_8 _ j)))
    t ((flush0_4 t).mp hf) _, zero_add, e]
  simp only [Matrix.cons_val_zero, Matrix.cons_val_one, Nat.zero_mul, Nat.zero_add]
  exact blocks_sum t.val t.isLt fun i => D i (y 1).val * hat 512 (lanes P 0) i (y 1).val

/-- The program's run: its two results, with its arguments unchanged. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v2) = shapeCast S512 ((dats m 0 c).arrAt 4 cfg0.N) shapeCasts_S1x512_S512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 3, ((h.1 c).2 main_v2 (Pipeline.mem_restRefs_of main_v2 (by decide) (by decide))).trans (by
      unfold Pipeline.afterTail₀
      simp only [hostOps1, List.flatten_cons, List.flatten_nil, List.append_nil]
      after_results
      exact congrArg (fun v => shapeCast S512 v shapeCasts_S1x512_S512) (Pipeline.withArrays_arr spec0 winFacts0.arr_inj c (V0 m c) _ 4)), h.2 c⟩)
    (θ_run_and (run_main m ρ) (unchanged m ρ))

/-- The program's arguments hold real numbers. -/
structure Args (m : (ℓ : Loc nD τ sig) → Buf (Elt Ideal) ℓ) (c : Dev nD) (P : ℕ → ℕ → ℝ) (G : ℕ → ℝ) (D : ℕ → ℕ → ℝ) : Prop where
  p : @Holds 8192 4224 (m ((c.tc : Thread nD τ).loc main_arg0)) P
  g : Row (n := 512) (m ((c.tc : Thread nD τ).loc main_arg1)) G
  d : @Holds 8192 512 (m ((c.tc : Thread nD τ).loc main_arg2)) D

theorem out_x (H : Args m c P G D) : @Holds 8192 512 ((dats m 0 c).arrAt 3 cfg0.N) (back 512 (lanes P 0) G D) :=
  final_3 (holds_of_eq H.p (V_main_arg0 m c)) (row_in H.g (by show StableHlo.after _ _ _ = _; simp only [hostOps0, List.flatten_cons, List.flatten_nil, List.append_nil]; after_results; rfl)) (holds_of_eq H.d (V_main_arg2 m c))

theorem out_g (H : Args m c P G D) : Row (n := 512) (shapeCast S512 ((dats m 0 c).arrAt 4 cfg0.N) shapeCasts_S1x512_S512) (gain 512 (lanes P 0) D) :=
  row_out (final_4 (holds_of_eq H.p (V_main_arg0 m c)) (holds_of_eq H.d (V_main_arg2 m c))) rfl

end Cert.Kernel5Ideal.Value
-- ==== Proof.Rank.Ckv.lean ====
/- What the backward call of the key and value columns' norm leaves, and its program's run. -/
module

public import proofs.«01_k».proof.Proof.Rank.Cq
public import proofs.«01_k».proof.Proof.Gen.Kernel6Ideal.Frame

@[expose] public section

set_option maxRecDepth 16384

noncomputable section

open Idealize.ShloMosaic Idealize.ShloMosaic.TcCoe Idealize.SL.Sem

namespace Cert.Kernel6Ideal.Value
open Cert.Kernel6Ideal Cert.Kernel6Ideal.Gen Cert.Attn Cert.Norm

theorem idx0 : ∀ t : Fin cfg0.N, win0_0.index t = ![t.val, 1] ∧ win0_1.index t = ![0, 0] ∧ win0_2.index t = ![t.val, 0] ∧ win0_3.index t = ![t.val, 0] ∧ win0_4.index t = ![0, 0] :=
  (by decide +kernel : ∀ t : Fin grid0.N, _)

variable {m : (ℓ : Loc nD τ sig) → Buf (Elt Ideal) ℓ} {c : Dev nD} {P D : ℕ → ℕ → ℝ} {G : ℕ → ℝ}
  (hP : @Holds 8192 4224 (V m c main_arg0) P) (hG : @Holds 1 512 (V m c main_v0) fun _ => G) (hD : @Holds 8192 512 (V m c main_arg2) D)

include hP in
/-- The block of the key and value columns the call reads at a point. -/
theorem x_at (t : Fin cfg0.N) : @Holds 256 512 (X0_0 m c t) (fun i j => lanes P 1 (256 * t.val + i) j) :=
  cols_of hP 1 (by decide) t.val t.isLt (by
    intro i j
    unfold X0_0 Pipeline.Window.fill
    rw [dif_pos (moved0_0 t _)]
    blk_point [iblk, idx0 t])

include hG in
theorem g_at (t : Fin cfg0.N) : @Holds 1 512 (iblk m c 1 t) (fun _ => G) := row_of hG (by intro i j; blk_point [iblk, idx0 t])

include hD in
theorem d_at (t : Fin cfg0.N) : @Holds 256 512 (iblk m c 2 t) (fun i j => D (256 * t.val + i) j) := blk_of hD t.val t.isLt (by intro i j; blk_point [iblk, idx0 t])

include hP hG hD in
/-- The gradient of the key and value columns' norm in them. -/
theorem final_3 : @Holds 8192 512 ((dats m 0 c).arrAt 3 cfg0.N) (back 512 (lanes P 1) G D) := by
  refine Holds.of (congrFun ((dats m 0 c).arrAt_eq_of_covers 3 _ (by decide +kernel) fun t _ y => ?_))
  have e := (idx0 t).2.2.2.1
  blk_simp
  rw [after0_3]
  refine Eq.trans (b := k0_pay6 (F := Ideal) (X0_0 m c t) (iblk m c 2 t) (iblk m c 1 t) y) ?_ (((Cert.Kernel5Ideal.Value.p0_6 (x_at hP t) (d_at hD t) (g_at hG t)).at y).trans ?_)
  · by_cases h : t.val % 32 = 0
    · rw [outsAt0_A m c t h]; frame_out
    · rw [outsAt0_B m c t h]; frame_out
  rw [e]
  simp only [Matrix.cons_val_zero, Matrix.cons_val_one, Nat.zero_mul, Nat.zero_add, Nat.mul_comm _ 256]
  rfl

include hP hD in
/-- The gradient of the key and value columns' norm in its gains. -/
theorem final_4 : @Holds 1 512 ((dats m 0 c).arrAt 4 cfg0.N) (fun _ => gain 512 (lanes P 1) D) := by
  refine Holds.of (congrFun ((dats m 0 c).arrAt_eq_of_covers 4 _ (by decide +kernel) fun t hf y => ?_))
  have part (t : Fin cfg0.N) (j : (⟨2, ![1, 512]⟩ : Shape).Idx) (a : FVec Ideal ⟨2, ![1, 512]⟩ .f32) : k0_pay1 (F := Ideal) a (k0_pay9 (X0_0 m c t) (iblk m c 2 t)) j = a j + ((∑ i : Fin 256, D (256 * t.val + i) (j 1).val * hat 512 (lanes P 1) (256 * t.val + i) (j 1).val : ℝ) : EReal) :=
    Cert.Kernel5Ideal.Value.p0_1 (x_at hP t) (d_at hD t) a j
  have e := (idx0 t).2.2.2.2
  blk_simp
  rw [after0_4, Pipeline.eq_sum_fin_of_reset_step_apply_of_flush (fun n h => (outsAt0 m c n h).2) 32 (fun _ => (0 : EReal)) (fun t j => ((∑ i : Fin 256, D (256 * t.val + i) (j 1).val * hat 512 (lanes P 1) (256 * t.val + i) (j 1).val : ℝ) : EReal))
    (fun t h j => by rw [outsAt0_A m c t h]; frame_out; exact (part t j _).trans (congrArg (· + _) ((Cert.Kernel5Ideal.Value.p0_8 _ j).trans (Cert.Kernel5Ideal.Value.p0_7 j))))
    (fun t h j => by rw [outsAt0_B m c t h]; frame_out; exact (part t j _).trans (congrArg (· + _) (Cert.Kernel5Ideal.Value.p0_8 _ j)))
    t ((flush0_4 t).mp hf) _, zero_add, e]
  simp only [Matrix.cons_val_zero, Matrix.cons_val_one, Nat.zero_mul, Nat.zero_add]
  exact blocks_sum t.val t.isLt fun i => D i (y 1).val * hat 512 (lanes P 1) i (y 1).val

/-- The program's run: its two results, with its arguments unchanged. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v2) = shapeCast S512 ((dats m 0 c).arrAt 4 cfg0.N) shapeCasts_S1x512_S512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 3, ((h.1 c).2 main_v2 (Pipeline.mem_restRefs_of main_v2 (by decide) (by decide))).trans (by
      unfold Pipeline.afterTail₀
      simp only [hostOps1, List.flatten_cons, List.flatten_nil, List.append_nil]
      after_results
      exact congrArg (fun v => shapeCast S512 v shapeCasts_S1x512_S512) (Pipeline.withArrays_arr spec0 winFacts0.arr_inj c (V0 m c) _ 4)), h.2 c⟩)
    (θ_run_and (run_main m ρ) (unchanged m ρ))

/-- The program's arguments hold real numbers. -/
structure Args (m : (ℓ : Loc nD τ sig) → Buf (Elt Ideal) ℓ) (c : Dev nD) (P : ℕ → ℕ → ℝ) (G : ℕ → ℝ) (D : ℕ → ℕ → ℝ) : Prop where
  p : @Holds 8192 4224 (m ((c.tc : Thread nD τ).loc main_arg0)) P
  g : Row (n := 512) (m ((c.tc : Thread nD τ).loc main_arg1)) G
  d : @Holds 8192 512 (m ((c.tc : Thread nD τ).loc main_arg2)) D

theorem out_x (H : Args m c P G D) : @Holds 8192 512 ((dats m 0 c).arrAt 3 cfg0.N) (back 512 (lanes P 1) G D) :=
  final_3 (holds_of_eq H.p (V_main_arg0 m c)) (Cert.Kernel5Ideal.Value.row_in H.g (by show StableHlo.after _ _ _ = _; simp only [hostOps0, List.flatten_cons, List.flatten_nil, List.append_nil]; after_results; rfl)) (holds_of_eq H.d (V_main_arg2 m c))

theorem out_g (H : Args m c P G D) : Row (n := 512) (shapeCast S512 ((dats m 0 c).arrAt 4 cfg0.N) shapeCasts_S1x512_S512) (gain 512 (lanes P 1) D) :=
  Cert.Kernel5Ideal.Value.row_out (final_4 (holds_of_eq H.p (V_main_arg0 m c)) (holds_of_eq H.d (V_main_arg2 m c))) rfl

end Cert.Kernel6Ideal.Value
-- ==== Proof.Rank.Ref.lean ====
/- The reference's norms of the compressed columns and their derivatives, over arrays of real numbers. -/
module

public import proofs.«01_k».proof.Proof.Norm.Real
public import proofs.«01_k».proof.Proof.Gen.Reference5Ideal.Run
public import Idealize.ShloMosaic.Lib.KernelVsHost

@[expose] public section

set_option maxRecDepth 16384

noncomputable section

open Idealize.ShloMosaic Idealize.ShloMosaic.TcCoe Idealize.SL.Sem

namespace Cert.Reference5Ideal.Value
open Cert.Reference5Ideal Cert.Reference5Ideal.Gen Cert.Attn Cert.Norm

local notation "𝔸" => FVec Ideal S8192x512 FTy.f32

section
variable (x d : 𝔸) (g : FVec Ideal S512 .f32)
/-- The rows' sums. -/
def rowSum : FVec Ideal S8192 .f32 := Host.reduceAdd x (constant S_ .f32 0x00000000#32) reducesTo_S8192x512_S8192_d1 h_S_
/-- The rows' mean squares. -/
def hMs : FVec Ideal S8192x1 .f32 :=
  addf (Host.divf (broadcastInDim S8192x1 ![0] bcast_S8192_S8192x1_0 (rowSum (mulf x x))) (broadcastInDim S8192x1 ![] bcast_S_S8192x1 (constant S_ .f32 0x44000000#32))) (broadcastInDim S8192x1 ![] bcast_S_S8192x1 (constant S_ .f32 0x358637BD#32))
/-- One over their roots, on every entry. -/
def hRi : 𝔸 := broadcastInDim S8192x512 ![0, 1] bcast_S8192x1_S8192x512_0_1 (Host.rsqrt (hMs x))
/-- The gains, on every row. -/
def hG : 𝔸 := broadcastInDim S8192x512 ![0, 1] bcast_S1x512_S8192x512_0_1 (broadcastInDim S1x512 ![1] bcast_S512_S1x512_1 g)
/-- The sums of argument times gradient. -/
def hDot : FVec Ideal S8192x1 .f32 := shapeCast S8192x1 (rowSum (mulf x (mulf d (hG g)))) shapeCasts_S8192_S8192x1
/-- The derivative of the mean square, on every entry. -/
def hS : 𝔸 :=
  broadcastInDim S8192x512 ![0] bcast_S8192_S8192x512_0 (Host.reduceAdd (Host.divf (mulf (hDot x d g) (mulf (broadcastInDim S8192x1 ![] bcast_S_S8192x1 (constant S_ .f32 0xBF000000#32)) (Host.divf (Host.rsqrt (hMs x)) (hMs x)))) (broadcastInDim S8192x1 ![] bcast_S_S8192x1 (constant S_ .f32 0x44000000#32))) (constant S_ .f32 0x00000000#32) reducesTo_S8192x1_S8192_d1 h_S_)
/-- The norm's derivative. -/
def hBack : 𝔸 := addf (addf (mulf (mulf d (hG g)) (hRi x)) (mulf x (hS x d g))) (mulf (hS x d g) x)
/-- The derivative in the gains. -/
def hGain : FVec Ideal S512 .f32 :=
  Host.reduceAdd (shapeCast S1x512 (Host.reduceAdd (mulf (mulf x (hRi x)) d) (constant S_ .f32 0x00000000#32) reducesTo_S8192x512_S512_d0 h_S_) shapeCasts_S512_S1x512) (constant S_ .f32 0x00000000#32) reducesTo_S1x512_S512_d0 h_S_
end

variable {x d : 𝔸} {g : FVec Ideal S512 .f32} {X D : ℕ → ℕ → ℝ} {G : ℕ → ℝ}
  (hx : @Holds 8192 512 x X) (hd : @Holds 8192 512 d D) (hg : Row (n := 512) g G)

theorem rowSum_at (v : 𝔸) (i : Fin 8192) : rowSum v (ix1 i) = ∑ k : Fin 512, v (ix2 i k) := by
  pointwise [rowSum]

theorem g_at (i : Fin 8192) (j : Fin 512) : hG g (ix2 i j) = g (ix1 j) := by
  pointwise [hG]

include hx in
theorem ms_at (i : Fin 8192) : hMs x (ix2 i 0) = ((ms 512 X i : ℝ) : EReal) := by
  pointwise [hMs, rowSum]
  exact ms_of (by norm_num) (hx i) rank_lit

include hx in
theorem ri_at (i : Fin 8192) (j : Fin 512) : hRi x (ix2 i j) = ((ri 512 X i : ℝ) : EReal) := by
  pointwise [hRi]
  exact (congrArg Ideal.rsqrt (ms_at hx i)).trans (rsqrt_ms _ _ _)

include hx hd hg in
theorem s_at (i : Fin 8192) (j : Fin 512) :
    hS x d g (ix2 i j) = (((∑ l : Fin 512, X i l * (D i l * G l)) * (-(1 / 2) * (ri 512 X i / ms 512 X i)) / (512 : ℕ) : ℝ) : EReal) := by
  pointwise [hS, hDot, rowSum]
  refine (Fin.sum_univ_one _).trans ?_
  beta_reduce
  rw [ms_at hx i, rsqrt_ms, dot_of (hx i) (fun l => by rw [hd i l, g_at i l, hg l, ← EReal.coe_mul]), neg_half_lit, Ideal.div_coe (ms_pos _ _ _).ne', ← EReal.coe_mul, ← EReal.coe_mul, ← EReal.coe_mul, rank_lit, div_nat (by norm_num)]
  congr 2
  ring

include hx hd hg in
theorem back_at : @Holds 8192 512 (hBack x d g) (back 512 X G D) := by
  intro i j
  pointwise [hBack]
  rw [s_at hx hd hg i j, hx i j, ri_at hx i j, hd i j, g_at i j, hg j]
  simp only [← EReal.coe_mul, ← EReal.coe_add]
  exact congrArg _ (back_eq 512 (by norm_num) X G D i j)

include hx hd in
theorem gain_at : Row (n := 512) (hGain x d) (gain 512 X D) := by
  intro k
  pointwise [hGain]
  rw [Finset.sum_congr rfl fun (i : Fin 8192) _ => show x (ix2 i k) * hRi x (ix2 i k) * d (ix2 i k) = ((D i k * hat 512 X i k : ℝ) : EReal) by
    rw [hx i k, ri_at hx i k, hd i k, ← EReal.coe_mul, ← EReal.coe_mul, mul_comm]; rfl, Finite.coe_sum]
  exact Fin.sum_univ_one _

end Cert.Reference5Ideal.Value
-- ==== Proof.Rank.Pure.lean ====
/- The backward calls of the compressed columns' norms equal the reference's derivatives. -/
module

public import proofs.«01_k».proof.Proof.Rank.Ckv
public import proofs.«01_k».proof.Proof.Rank.Ref
public import proofs.«01_k».proof.Proof.Gen.Reference6Ideal.Run
public import proofs.«01_k».proof.Proof.Gen.Pre_rank_finite
public import proofs.«01_k».proof.Defs

@[expose] public section

set_option maxRecDepth 16384

noncomputable section

open Idealize.ShloMosaic Idealize.ShloMosaic.TcCoe Idealize.SL.Sem

namespace Cert.Reference5Ideal.Value
open Cert.Reference5Ideal Cert.Reference5Ideal.Gen Cert.Attn Cert.Norm

/-- The query's columns of the projection. -/
theorem cols_at {p : FVec Ideal S8192x4224 .bf16} {P : ℕ → ℕ → ℝ} (h : @Holds 8192 4224 p P) : @Holds 8192 512 (extf .f32 (extractStridedSlice S8192x512 ![0, 0] p slices_S8192x4224_S8192x512_0_0) bitsLt_bf16_f32) (lanes P 0) := fun i j =>
  Eq.trans (b := p (ix2 i ⟨512 * 0 + j.val, by omega⟩)) (by pointwise []) (h _ _)

end Cert.Reference5Ideal.Value

namespace Cert.Reference6Ideal.Value
open Cert.Reference6Ideal Cert.Reference6Ideal.Gen Cert.Attn Cert.Norm

/-- The key's and value's columns of the projection. -/
theorem cols_at {p : FVec Ideal S8192x4224 .bf16} {P : ℕ → ℕ → ℝ} (h : @Holds 8192 4224 p P) : @Holds 8192 512 (extf .f32 (extractStridedSlice S8192x512 ![0, 512] p slices_S8192x4224_S8192x512_0_512) bitsLt_bf16_f32) (lanes P 1) := fun i j =>
  Eq.trans (b := p (ix2 i ⟨512 * 1 + j.val, by omega⟩)) (by pointwise []) (h _ _)

end Cert.Reference6Ideal.Value

namespace Cert.Rank
open Cert.Attn Cert.Norm
local instance facts_Kernel5Ideal : Cert.Kernel5Ideal.Facts := Cert.Kernel5Ideal.Gen.facts
local instance facts_Reference5Ideal : Cert.Reference5Ideal.Facts := Cert.Reference5Ideal.Gen.facts
local instance facts_Kernel6Ideal : Cert.Kernel6Ideal.Facts := Cert.Kernel6Ideal.Gen.facts
local instance facts_Reference6Ideal : Cert.Reference6Ideal.Facts := Cert.Reference6Ideal.Gen.facts
local instance facts_Pre_rank_finite : Cert.Pre_rank_finite.Facts := Cert.Pre_rank_finite.Gen.facts

open Cert.Kernel5Ideal Cert.Kernel5Ideal.Value in
/-- Under the precondition every argument holds real numbers. -/
theorem reals5 {m : (ℓ : Loc nD τ sig) → Buf (Elt Ideal) ℓ} (hpre : Cert.Pre_Kernel5Ideal_rank_finite m) (c : Dev nD) : ∃ (P : ℕ → ℕ → ℝ) (G : ℕ → ℝ) (D : ℕ → ℕ → ℝ), Args m c P G D := by
  have h := hpre c
  dsimp only [Pre_rank_finite.fn] at h
  obtain ⟨h0, h1, h2⟩ := h
  obtain ⟨P, hP⟩ := exists_holds (Finite.reals_of_mask _ h0)
  obtain ⟨G, hG⟩ := exists_row (Finite.reals_of_mask_f32 _ h1)
  obtain ⟨D, hD⟩ := exists_holds (Finite.reals_of_mask_f32 _ h2)
  exact ⟨P, G, D, hP, hG, hD⟩

/-- The query's columns' gradient and their gains' equal the reference's. -/
theorem algebraic5 : Cert.algebraic_Kernel5Ideal_Reference5Ideal_pre_rank_finite := by
  pair_intro
  · run_from Cert.Kernel5Ideal.Value.run m g
  · run_from Cert.Reference5Ideal.Value.run m' g'
    all_goals
      obtain ⟨P, G, D, H⟩ := reals5 hpre c
      obtain ⟨e0, e1, e2⟩ := hagree c
    · exact holds_ext (Cert.Reference5Ideal.Value.back_at (Cert.Reference5Ideal.Value.cols_at (holds_of_eq H.p e0)) (holds_of_eq H.d e2) (row_of_eq H.g e1)) (Cert.Kernel5Ideal.Value.out_x H) fun _ _ => rfl
    · exact row_ext (Cert.Reference5Ideal.Value.gain_at (Cert.Reference5Ideal.Value.cols_at H.p) H.d) (Cert.Kernel5Ideal.Value.out_g H)

open Cert.Kernel6Ideal Cert.Kernel6Ideal.Value in
/-- Under the precondition every argument holds real numbers. -/
theorem reals6 {m : (ℓ : Loc nD τ sig) → Buf (Elt Ideal) ℓ} (hpre : Cert.Pre_Kernel6Ideal_rank_finite m) (c : Dev nD) : ∃ (P : ℕ → ℕ → ℝ) (G : ℕ → ℝ) (D : ℕ → ℕ → ℝ), Args m c P G D := by
  have h := hpre c
  dsimp only [Pre_rank_finite.fn] at h
  obtain ⟨h0, h1, h2⟩ := h
  obtain ⟨P, hP⟩ := exists_holds (Finite.reals_of_mask _ h0)
  obtain ⟨G, hG⟩ := exists_row (Finite.reals_of_mask_f32 _ h1)
  obtain ⟨D, hD⟩ := exists_holds (Finite.reals_of_mask_f32 _ h2)
  exact ⟨P, G, D, hP, hG, hD⟩

/-- The key's and value's columns' gradient and their gains' equal the reference's. -/
theorem algebraic6 : Cert.algebraic_Kernel6Ideal_Reference6Ideal_pre_rank_finite := by
  pair_intro
  · run_from Cert.Kernel6Ideal.Value.run m g
  · run_from Cert.Reference6Ideal.Value.run m' g'
    all_goals
      obtain ⟨P, G, D, H⟩ := reals6 hpre c
      obtain ⟨e0, e1, e2⟩ := hagree c
    · exact holds_ext (Cert.Reference5Ideal.Value.back_at (Cert.Reference6Ideal.Value.cols_at (holds_of_eq H.p e0)) (holds_of_eq H.d e2) (row_of_eq H.g e1)) (Cert.Kernel6Ideal.Value.out_x H) fun _ _ => rfl
    · exact row_ext (Cert.Reference5Ideal.Value.gain_at (Cert.Reference6Ideal.Value.cols_at H.p) H.d) (Cert.Kernel6Ideal.Value.out_g H)

end Cert.Rank
end
-- ==== Proof.Product.lean ====
/- The call of the pair of products equals the reference's two plain products. -/
module

public import proofs.«01_k».proof.Proof.Gen.Kernel9Ideal.Frame
public import proofs.«01_k».proof.Proof.Gen.Reference9Ideal.Run
public import Idealize.ShloMosaic.Lib.KernelVsHost
public import Idealize.ShloMosaic.Lib.Pipeline.ValueKit
public import proofs.«01_k».proof.Defs

@[expose] public section

set_option maxRecDepth 16384

noncomputable section

open Idealize.ShloMosaic Idealize.ShloMosaic.TcCoe Idealize.SL.Sem

namespace Cert.Kernel9Ideal.Value
open Cert.Kernel9Ideal Cert.Kernel9Ideal.Gen

/-- One slab's share of a row of one array times a row of another. -/
def share (x : FVec Ideal S8192x5632 .bf16) (w : FVec Ideal S2048x5632 .bf16) (i : Fin 8192) (j : Fin 2048) (s : Fin 4) : EReal :=
  ∑ q : Fin 1408, x (ix2 i ⟨s.val * 1408 + q.val, by omega⟩) * w (ix2 j ⟨s.val * 1408 + q.val, by omega⟩)

/-- The whole row times the whole row. -/
def rows (x : FVec Ideal S8192x5632 .bf16) (w : FVec Ideal S2048x5632 .bf16) (i : Fin 8192) (j : Fin 2048) : EReal :=
  ∑ k : Fin 5632, x (ix2 i k) * w (ix2 j k)

theorem shares (x : FVec Ideal S8192x5632 .bf16) (w : FVec Ideal S2048x5632 .bf16) (i : Fin 8192) (j : Fin 2048) : ∑ s : Fin 4, share x w i j s = rows x w i j :=
  Fin.sum_mul_add_congr (f := fun k : Fin 5632 => x (ix2 i k) * w (ix2 j k)) fun s q hl => rfl

/-- A weight laid out as slabs. -/
def slabs (w : FVec Ideal S2048x5632 .bf16) : FVec Ideal S4x2048x1408 .bf16 :=
  transpose S4x2048x1408 [1, 0, 2] (shapeCast S2048x4x1408 w shapeCasts_S2048x5632_S2048x4x1408) transposes_S2048x4x1408_S4x2048x1408_1_0_2

theorem slabs_at (w : FVec Ideal S2048x5632 .bf16) (s : Fin 4) (r : Fin 2048) (q : Fin 1408) :
    slabs w (ix3 s r q) = w (ix2 r ⟨s.val * 1408 + q.val, by omega⟩) := by
  pointwise [slabs]

theorem idx0 : ∀ t : Fin cfg0.N, win0_0.index t = ![t.val / 8, t.val % 4] ∧ win0_1.index t = ![t.val % 4, t.val / 4 % 2, 0] ∧ win0_2.index t = ![t.val / 8, t.val % 4]
    ∧ win0_3.index t = ![t.val % 4, t.val / 4 % 2, 0] ∧ win0_4.index t = ![t.val / 8, t.val / 4 % 2] :=
  (by decide +kernel : ∀ t : Fin grid0.N, _)

theorem zero_at (y : S1024x1024.Idx) : k0_pay1 (F := Ideal) y = 0 := by
  pointwise [k0_pay1]

theorem step_at (z : Vec Ideal S1024x1024 .f32) (a b : Vec Ideal S1024x1408 .bf16) (u v : Vec Ideal S1x1024x1408 .bf16) (y : S1024x1024.Idx) :
    k0_pay2 z a u b v y = z y + ((∑ q : Fin 1408, a (ix2 (y 0) q) * u (ix3 0 (y 1) q)) + ∑ q : Fin 1408, b (ix2 (y 0) q) * v (ix3 0 (y 1) q)) := by
  idx_vars y
  pointwise [k0_pay2]

variable (m : (ℓ : Loc nD τ sig) → Buf (Elt Ideal) ℓ) (c : Dev nD)

/-- The row, the column and the slab of a point's block. -/
def row (t : Fin cfg0.N) (a : Fin 1024) : Fin 8192 := ⟨t.val / 8 * 1024 + a.val, by have := t.isLt; simp only [show cfg0.N = 64 from rfl] at this; omega⟩
def col (t : Fin cfg0.N) (b : Fin 1024) : Fin 2048 := ⟨t.val / 4 % 2 * 1024 + b.val, by omega⟩
def sl (t : Fin cfg0.N) : Fin 4 := ⟨t.val % 4, by omega⟩

/-- An argument's array. -/
abbrev arg (b : Ref sig .tc) : Buf (Elt Ideal) ((c.tc : Thread nD τ).loc b) := m ((c.tc : Thread nD τ).loc b)

theorem v1_eq : V m c main_v1 = slabs (arg m c main_arg2) := by
  show StableHlo.after _ _ _ = _
  simp only [hostOps0]
  after_results
  rfl

theorem v3_eq : V m c main_v3 = slabs (arg m c main_arg3) := by
  show StableHlo.after _ _ _ = _
  simp only [hostOps0]
  after_results
  rfl

theorem g_at (t : Fin cfg0.N) (a : Fin 1024) (q : Fin 1408) : iblk m c 0 t (ix2 a q) = arg m c main_arg0 (ix2 (row t a) ⟨(sl t).val * 1408 + q.val, by omega⟩) := by
  refine Eq.trans ?_ (congrFun (V_main_arg0 m c) _)
  blk_point [iblk, idx0 t, row, sl]

theorem u_at (t : Fin cfg0.N) (a : Fin 1024) (q : Fin 1408) : iblk m c 2 t (ix2 a q) = arg m c main_arg1 (ix2 (row t a) ⟨(sl t).val * 1408 + q.val, by omega⟩) := by
  refine Eq.trans ?_ (congrFun (V_main_arg1 m c) _)
  blk_point [iblk, idx0 t, row, sl]

theorem wg_at (t : Fin cfg0.N) (b : Fin 1024) (q : Fin 1408) : iblk m c 1 t (ix3 0 b q) = arg m c main_arg2 (ix2 (col t b) ⟨(sl t).val * 1408 + q.val, by omega⟩) := by
  refine Eq.trans (b := V m c main_v1 (ix3 (sl t) (col t b) q)) (by blk_point [iblk, idx0 t, col, sl]) ?_
  rw [v1_eq, slabs_at]

theorem wu_at (t : Fin cfg0.N) (b : Fin 1024) (q : Fin 1408) : iblk m c 3 t (ix3 0 b q) = arg m c main_arg3 (ix2 (col t b) ⟨(sl t).val * 1408 + q.val, by omega⟩) := by
  refine Eq.trans (b := V m c main_v3 (ix3 (sl t) (col t b) q)) (by blk_point [iblk, idx0 t, col, sl]) ?_
  rw [v3_eq, slabs_at]

/-- What a point adds to its block. -/
def term (t : Fin cfg0.N) (y : S1024x1024.Idx) : EReal :=
  share (arg m c main_arg0) (arg m c main_arg2) (row t (y 0)) (col t (y 1)) (sl t)
    + share (arg m c main_arg1) (arg m c main_arg3) (row t (y 0)) (col t (y 1)) (sl t)

theorem step_term (z : Vec Ideal S1024x1024 .f32) (t : Fin cfg0.N) (y : S1024x1024.Idx) :
    k0_pay2 z (iblk m c 0 t) (iblk m c 1 t) (iblk m c 2 t) (iblk m c 3 t) y = z y + term m c t y := by
  rw [step_at]
  refine congrArg (z y + ·) (congrArg₂ (· + ·) (Finset.sum_congr rfl fun q _ => ?_) (Finset.sum_congr rfl fun q _ => ?_))
  · exact congrArg₂ (· * ·) (g_at m c t (y 0) q) (wg_at m c t (y 1) q)
  · exact congrArg₂ (· * ·) (u_at m c t (y 0) q) (wu_at m c t (y 1) q)

/-- The running sum after a block's first point, and after each later one. -/
theorem first (t : Fin cfg0.N) (h : t.val % 4 = 0) (y : S1024x1024.Idx) : (outsAt0 m c t.val t.isLt).2 y = 0 + term m c t y := by
  rw [outsAt0_A m c t h (by omega)]
  frame_out
  rw [step_term, zero_at]

theorem later (t : Fin cfg0.N) (h : ¬t.val % 4 = 0) (y : S1024x1024.Idx) : (outsAt0 m c t.val t.isLt).2 y
    = (outsAt0 m c (t.val - 1) (Nat.lt_of_le_of_lt (Nat.sub_le _ _) t.isLt)).2 y + term m c t y := by
  by_cases h3 : t.val % 4 = 3
  · rw [outsAt0_C m c t h h3]
    frame_out
    rw [step_term]
    exact congrArg (· + _) (congrFun ((Memref.isWhole_whole cc0_scratch0).read_unread _) y)
  · rw [outsAt0_B m c t h h3]
    frame_out
    rw [step_term]
    exact congrArg (· + _) (congrFun ((Memref.isWhole_whole cc0_scratch0).read_unread _) y)

theorem last (t : Fin cfg0.N) (h : t.val % 4 = 3) : (outsAt0 m c t.val t.isLt).1 = (outsAt0 m c t.val t.isLt).2 := by
  rw [outsAt0_C m c t (by omega) h]
  frame_out

/-- The sum of the two products of the cotangents with the weights' rows. -/
def both (i : Fin 8192) (j : Fin 2048) : EReal :=
  rows (arg m c main_arg0) (arg m c main_arg2) i j + rows (arg m c main_arg1) (arg m c main_arg3) i j

theorem final : (dats m 0 c).arrAt 4 cfg0.N = fun x : (⟨2, ![8192, 2048]⟩ : Shape).Idx => both m c (x 0) (x 1) := by
  refine (dats m 0 c).arrAt_eq_of_covers 4 _ (by decide +kernel) fun t hf y => ?_
  have h3 := (flush0_4 t).mp hf
  have e := (idx0 t).2.2.2.2
  blk_simp
  rw [after0_4, last m c t h3, Pipeline.eq_sum_fin_of_reset_step_apply_of_flush (fun n h => (outsAt0 m c n h).2) 4 (fun _ => (0 : EReal)) (term m c) (first m c) (later m c) t h3 y, zero_add]
  have ht : ∀ s : Fin 4, term m c ⟨4 * (t.val / 4) + s.val, Pipeline.run_point_lt_of_flush t h3 s⟩ y
      = share (arg m c main_arg0) (arg m c main_arg2) (row t (y 0)) (col t (y 1)) s
        + share (arg m c main_arg1) (arg m c main_arg3) (row t (y 0)) (col t (y 1)) s := by
    intro s
    have hr : row ⟨4 * (t.val / 4) + s.val, Pipeline.run_point_lt_of_flush t h3 s⟩ (y 0) = row t (y 0) := Fin.ext (by dsimp only [row]; omega)
    have hc : col ⟨4 * (t.val / 4) + s.val, Pipeline.run_point_lt_of_flush t h3 s⟩ (y 1) = col t (y 1) := Fin.ext (by dsimp only [col]; omega)
    have hs : sl ⟨4 * (t.val / 4) + s.val, Pipeline.run_point_lt_of_flush t h3 s⟩ = s := Fin.ext (by dsimp only [sl]; omega)
    unfold term
    rw [hr, hc, hs]
  rw [Finset.sum_congr rfl fun s _ => ht s, Finset.sum_add_distrib, shares, shares]
  refine Eq.trans (b := both m c (row t (y 0)) (col t (y 1))) rfl ?_
  refine congrArg₂ (both m c) (Fin.ext ?_) (Fin.ext ?_)
  all_goals
    blk_simp
    rw [e]
    simp only [row, col, Matrix.cons_val_zero, Matrix.cons_val_one]

/-- The program's run: its result, with its arguments unchanged. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v4) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4, h.2 c⟩) (θ_run_and (run_main m ρ) (unchanged m ρ))

end Cert.Kernel9Ideal.Value

namespace Cert.Product
local instance facts_Kernel9Ideal : Cert.Kernel9Ideal.Facts := Cert.Kernel9Ideal.Gen.facts
local instance facts_Reference9Ideal : Cert.Reference9Ideal.Facts := Cert.Reference9Ideal.Gen.facts

/-- The pair of products equals the reference's. -/
theorem algebraic : Cert.algebraic_Kernel9Ideal_Reference9Ideal := by
  pair_intro
  · run_from Cert.Kernel9Ideal.Value.run m g
  · run_from Cert.Reference9Ideal.Value.run m' g'
    refine Eq.trans ?_ (Cert.Kernel9Ideal.Value.final m c).symm
    funext y
    obtain ⟨i, j, rfl⟩ : ∃ (i : Fin 8192) (j : Fin 2048), y = ix2 i j := ⟨y 0, y 1, by funext a; fin_cases a <;> rfl⟩
    pointwise [Cert.Kernel9Ideal.Value.both, Cert.Kernel9Ideal.Value.rows]

end Cert.Product
end
-- ==== Proof.Step.lean ====
/- The optimiser's call and the sum of the gains' gradients equal the reference's. -/
module

public import proofs.«01_k».proof.Proof.Gen.Kernel10Ideal.Frame
public import proofs.«01_k».proof.Proof.Gen.Kernel11Ideal.Frame
public import proofs.«01_k».proof.Proof.Gen.Reference10Ideal.Run
public import proofs.«01_k».proof.Proof.Gen.Reference11Ideal.Run
public import Idealize.ShloMosaic.Lib.KernelVsHost
public import Idealize.ShloMosaic.Lib.Pipeline.ValueKit
public import proofs.«01_k».proof.Defs

@[expose] public section

set_option maxRecDepth 16384

noncomputable section

open Idealize.ShloMosaic Idealize.ShloMosaic.TcCoe Idealize.SL.Sem

namespace Cert.Kernel10Ideal.Value
open Cert.Kernel10Ideal Cert.Kernel10Ideal.Gen

/-- The first moment's new value. -/
def mom (g m : EReal) : EReal := Ideal.ofBits .f32 0x3F666666#32 * m + Ideal.ofBits .f32 0x3DCCCCCD#32 * g

/-- The second moment's new value. -/
def sec (g v : EReal) : EReal := Ideal.ofBits .f32 0x3F7FBE77#32 * v + Ideal.ofBits .f32 0x3A83126F#32 * (g * g)

/-- The weight's change. -/
def delta (w g m v : EReal) : EReal :=
  Ideal.ofBits .f32 0xBA83126F#32 * (Ideal.div (Ideal.div (mom g m) (Ideal.ofBits .f32 0x3F26BD02#32))
    (Ideal.sqrt (Ideal.div (sec g v) (Ideal.ofBits .f32 0x3C231ACC#32)) + Ideal.ofBits .f32 0x322BCC77#32) + Ideal.ofBits .f32 0x3C23D70A#32 * w)

theorem idx0 : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

theorem final_4 : (dats m 0 c).arrAt 4 cfg0.N = fun x : S8192x1408.Idx => delta (V m c main_arg0 x) (V m c main_arg1 x) (V m c main_arg2 x) (V m c main_arg3 x) := by
  refine (dats m 0 c).arrAt_eq_of_covers 4 _ (by decide +kernel) fun t _ y => ?_
  blk_simp
  rw [after0_4]
  frame_out
  pointwise [k0_pay3, k0_pay2, k0_pay1, delta, mom, sec]
  blk_point [iblk, idx0 t]

theorem final_5 : (dats m 0 c).arrAt 5 cfg0.N = fun x : S8192x1408.Idx => mom (V m c main_arg1 x) (V m c main_arg2 x) := by
  refine (dats m 0 c).arrAt_eq_of_covers 5 _ (by decide +kernel) fun t _ y => ?_
  blk_simp
  rw [after0_5]
  frame_out
  pointwise [k0_pay1, mom]
  blk_point [iblk, idx0 t]

theorem final_6 : (dats m 0 c).arrAt 6 cfg0.N = fun x : S8192x1408.Idx => sec (V m c main_arg1 x) (V m c main_arg3 x) := by
  refine (dats m 0 c).arrAt_eq_of_covers 6 _ (by decide +kernel) fun t _ y => ?_
  blk_simp
  rw [after0_6]
  frame_out
  pointwise [k0_pay2, sec]
  blk_point [iblk, idx0 t]

/-- The program's run: its results, with its arguments unchanged. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4, (h.1 c).1 5, (h.1 c).1 6, h.2 c⟩) (θ_run_and (run_main m ρ) (unchanged m ρ))

end Cert.Kernel10Ideal.Value

namespace Cert.Kernel11Ideal.Value
open Cert.Kernel11Ideal Cert.Kernel11Ideal.Gen

theorem idx0 : ∀ t : Fin cfg0.N, win0_0.index t = ![0, 0] ∧ win0_1.index t = ![0, 0] :=
  (by decide +kernel : ∀ t : Fin grid0.N, _)

variable (m : (ℓ : Loc nD τ sig) → Buf (Elt Ideal) ℓ) (c : Dev nD)

/-- The sum of the eight devices' rows. -/
def total (a : FVec Ideal S448x1024 .f32) : FVec Ideal S56x1024 .f32 := fun x =>
  ∑ k : Fin 8, a (ix2 ⟨k.val * 56 + (x 0).val, by have : (x 0).val < 56 := (x 0).isLt; omega⟩ (x 1))

theorem final : (dats m 0 c).arrAt 1 cfg0.N = total (V m c main_arg0) := by
  refine (dats m 0 c).arrAt_eq_of_covers 1 _ (by decide +kernel) fun t _ y => ?_
  blk_simp
  rw [after0_1]
  frame_out
  pointwise [k0_pay1, total, Fin.sum_univ_eight]
  blk_point [iblk, idx0 t]

/-- The program's run: its result, with its argument unchanged. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v0) = (dats m 0 c).arrAt 1 cfg0.N
      ∧ r.2.mem ((c.tc : Thread nD τ).loc main_arg0) = m ((c.tc : Thread nD τ).loc main_arg0)) :=
  (θ_run defs _ _).mono (fun r h c => ⟨(h.1 c).1 1, h.2 c⟩) (θ_run_and (run_main m ρ) (unchanged m ρ))

end Cert.Kernel11Ideal.Value

namespace Cert.Step
local instance facts_Kernel10Ideal : Cert.Kernel10Ideal.Facts := Cert.Kernel10Ideal.Gen.facts
local instance facts_Reference10Ideal : Cert.Reference10Ideal.Facts := Cert.Reference10Ideal.Gen.facts
local instance facts_Kernel11Ideal : Cert.Kernel11Ideal.Facts := Cert.Kernel11Ideal.Gen.facts
local instance facts_Reference11Ideal : Cert.Reference11Ideal.Facts := Cert.Reference11Ideal.Gen.facts
open Cert.Kernel10Ideal.Value in

/-- The optimiser's three results equal the reference's. -/
theorem algebraic10 : Cert.algebraic_Kernel10Ideal_Reference10Ideal := by
  pair_intro
  · run_from Cert.Kernel10Ideal.Value.run m g
  · run_from Cert.Reference10Ideal.Value.run m' g'
    · rw [final_4]
      funext y
      pointwise [delta, mom, sec]
    · rw [final_5]
      funext y
      pointwise [mom]
    · rw [final_6]
      funext y
      pointwise [sec]

open Cert.Reference11Ideal Cert.Reference11Ideal.Gen in
theorem sum_at (x : FVec Ideal S8x56x1024 .f32) (i : Fin 56) (j : Fin 1024) :
    Host.reduceAdd x (constant S_ .f32 0x00000000#32) reducesTo_S8x56x1024_S56x1024_d0 h_S_ (ix2 i j) = ∑ k : Fin 8, x (ix3 k i j) := by
  pointwise []

open Cert.Reference11Ideal Cert.Reference11Ideal.Gen in
theorem cast_at (x : FVec Ideal S448x1024 .f32) (k : Fin 8) (i : Fin 56) (j : Fin 1024) :
    shapeCast S8x56x1024 x shapeCasts_S448x1024_S8x56x1024 (ix3 k i j) = x (ix2 ⟨k.val * 56 + i.val, by omega⟩ j) := by
  pointwise []

/-- The sum of the gains' gradients equals the reference's. -/
theorem algebraic11 : Cert.algebraic_Kernel11Ideal_Reference11Ideal := by
  pair_intro
  · run_from Cert.Kernel11Ideal.Value.run m g
  · run_from Cert.Reference11Ideal.Value.run m' g'
    refine Eq.trans ?_ (Cert.Kernel11Ideal.Value.final m c).symm
    funext y
    obtain ⟨i, j, rfl⟩ : ∃ (i : Fin 56) (j : Fin 1024), y = ix2 i j := ⟨y 0, y 1, by funext a; fin_cases a <;> rfl⟩
    exact (sum_at _ i j).trans (Finset.sum_congr rfl fun k _ => cast_at _ k i j)

end Cert.Step
end
-- ==== Proof.Rank.FwdCq.lean ====
/- The forward call of the query's columns' norm equals the reference's. -/
module

public import proofs.«01_k».proof.Proof.Rank.Real
public import proofs.«01_k».proof.Proof.Gen.Kernel7Ideal.Frame
public import proofs.«01_k».proof.Proof.Gen.Reference7Ideal.Run
public import Idealize.ShloMosaic.Lib.KernelVsHost
public import proofs.«01_k».proof.Defs

@[expose] public section

set_option maxRecDepth 16384

noncomputable section

open Idealize.ShloMosaic Idealize.ShloMosaic.TcCoe Idealize.SL.Sem

namespace Cert.Rank

/-- An entry of a row of 512, normed by the row's mean square and scaled by its gain, over the extended reals. -/
def unit (x : Fin 512 → EReal) (g : EReal) (j : Fin 512) : EReal :=
  x j * Ideal.rsqrt (Ideal.div (∑ k : Fin 512, x k * x k) (Ideal.ofBits .f32 0x44000000#32) + Ideal.ofBits .f32 0x358637BD#32) * g

end Cert.Rank

namespace Cert.Kernel7Ideal.Value
open Cert.Kernel7Ideal Cert.Kernel7Ideal.Gen Cert.Attn Cert.Rank

theorem p0_1 (x : FVec Ideal S256x512 .bf16) (g : FVec Ideal S1x512 .f32) (i : Fin 256) (j : Fin 512) : k0_pay1 (F := Ideal) x g (ix2 i j) = unit (fun k => x (ix2 i k)) (g (ix2 0 j)) j := by
  pointwise [k0_pay1]
  rfl

theorem idx0 : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- What the call leaves at a row and column, of the projection and the gains. -/
def val (p : FVec Ideal ⟨2, ![8192, 4224]⟩ .bf16) (g : FVec Ideal ⟨1, ![512]⟩ .f32) (i : Fin 8192) (j : Fin 512) : EReal :=
  unit (fun k => p (ix2 i ⟨512 * 0 + k.val, by omega⟩)) (g (ix1 j)) j

theorem x_at (t : Fin cfg0.N) (i : Fin 256) (j : Fin 512) : X0_0 m c t (ix2 i j) = m ((c.tc : Thread nD τ).loc main_arg0) (ix2 ⟨256 * t.val + i.val, by have := t.isLt; simp only [show cfg0.N = 32 from rfl] at this; omega⟩ ⟨512 * 0 + j.val, by omega⟩) := by
  refine Eq.trans ?_ (congrFun (V_main_arg0 m c) _)
  unfold X0_0 Pipeline.Window.fill
  rw [dif_pos (moved0_0 t _)]
  blk_point [iblk, idx0 t]

theorem g_at (t : Fin cfg0.N) (j : Fin 512) : iblk m c 1 t (ix2 0 j) = m ((c.tc : Thread nD τ).loc main_arg1) (ix1 j) := by
  have e : V m c main_v0 = shapeCast S1x512 (m ((c.tc : Thread nD τ).loc main_arg1)) shapeCasts_S512_S1x512 := by
    show StableHlo.after _ _ _ = _
    simp only [hostOps0]
    after_results
    rfl
  refine Eq.trans (b := V m c main_v0 (ix2 0 j)) (by blk_point [iblk, idx0 t]) ?_
  rw [e]
  pointwise []

/-- The query's columns, normed. -/
theorem final_2 : (dats m 0 c).arrAt 2 cfg0.N = fun x : (⟨2, ![8192, 512]⟩ : Shape).Idx => val (m ((c.tc : Thread nD τ).loc main_arg0)) (m ((c.tc : Thread nD τ).loc main_arg1)) (x 0) (x 1) := by
  refine (dats m 0 c).arrAt_eq_of_covers 2 _ (by decide +kernel) fun t _ y => ?_
  have e := (idx0 t).2.2
  blk_simp
  rw [after0_2]
  refine Eq.trans (b := k0_pay1 (F := Ideal) (X0_0 m c t) (iblk m c 1 t) y) (by unfold outsAt0; frame_out) ?_
  obtain ⟨i, j, rfl⟩ : ∃ (i : Fin 256) (j : Fin 512), y = ix2 i j := ⟨y 0, y 1, by funext a; fin_cases a <;> rfl⟩
  refine (p0_1 _ _ i j).trans ?_
  simp only [x_at, g_at]
  refine Eq.trans (b := val (m ((c.tc : Thread nD τ).loc main_arg0)) (m ((c.tc : Thread nD τ).loc main_arg1)) ⟨256 * t.val + i.val, by have := t.isLt; simp only [show cfg0.N = 32 from rfl] at this; omega⟩ j) rfl ?_
  refine congrArg₂ (val _ _) (Fin.ext ?_) (Fin.ext ?_)
  all_goals
    blk_simp
    rw [e]
    simp only [Matrix.cons_val_zero, Matrix.cons_val_one, Nat.zero_mul, Nat.zero_add, Nat.mul_comm _ 256]

/-- The program's run: its result, with its arguments unchanged. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c).1 2, h.2 c⟩) (θ_run_and (run_main m ρ) (unchanged m ρ))

end Cert.Kernel7Ideal.Value

namespace Cert.Rank
open Cert.Attn
local instance facts_Kernel7Ideal : Cert.Kernel7Ideal.Facts := Cert.Kernel7Ideal.Gen.facts
local instance facts_Reference7Ideal : Cert.Reference7Ideal.Facts := Cert.Reference7Ideal.Gen.facts

/-- The query's normed columns equal the reference's. -/
theorem algebraic7 : Cert.algebraic_Kernel7Ideal_Reference7Ideal := by
  pair_intro
  · run_from Cert.Kernel7Ideal.Value.run m g
  · run_from Cert.Reference7Ideal.Value.run m' g'
    obtain ⟨e0, e1⟩ := hagree c
    refine Eq.trans ?_ (Cert.Kernel7Ideal.Value.final_2 m c).symm
    funext y
    obtain ⟨i, j, rfl⟩ : ∃ (i : Fin 8192) (j : Fin 512), y = ix2 i j := ⟨y 0, y 1, by funext a; fin_cases a <;> rfl⟩
    pointwise [Cert.Kernel7Ideal.Value.val, unit]

end Cert.Rank
end
-- ==== Proof.Rank.FwdCkv.lean ====
/- The forward call of the key's and value's columns' norm equals the reference's. -/
module

public import proofs.«01_k».proof.Proof.Rank.FwdCq
public import proofs.«01_k».proof.Proof.Gen.Kernel8Ideal.Frame
public import proofs.«01_k».proof.Proof.Gen.Reference8Ideal.Run

@[expose] public section

set_option maxRecDepth 16384

noncomputable section

open Idealize.ShloMosaic Idealize.ShloMosaic.TcCoe Idealize.SL.Sem

namespace Cert.Kernel8Ideal.Value
open Cert.Kernel8Ideal Cert.Kernel8Ideal.Gen Cert.Attn Cert.Rank

theorem idx0 : ∀ t : Fin cfg0.N, win0_0.index t = ![t.val, 1] ∧ win0_1.index t = ![0, 0] ∧ win0_2.index t = ![t.val, 0] :=
  (by decide +kernel : ∀ t : Fin grid0.N, _)

variable (m : (ℓ : Loc nD τ sig) → Buf (Elt Ideal) ℓ) (c : Dev nD)

/-- What the call leaves at a row and column, of the projection and the gains. -/
def val (p : FVec Ideal ⟨2, ![8192, 4224]⟩ .bf16) (g : FVec Ideal ⟨1, ![512]⟩ .f32) (i : Fin 8192) (j : Fin 512) : EReal :=
  unit (fun k => p (ix2 i ⟨512 * 1 + k.val, by omega⟩)) (g (ix1 j)) j

theorem x_at (t : Fin cfg0.N) (i : Fin 256) (j : Fin 512) : X0_0 m c t (ix2 i j) = m ((c.tc : Thread nD τ).loc main_arg0) (ix2 ⟨256 * t.val + i.val, by have := t.isLt; simp only [show cfg0.N = 32 from rfl] at this; omega⟩ ⟨512 * 1 + j.val, by omega⟩) := by
  refine Eq.trans ?_ (congrFun (V_main_arg0 m c) _)
  unfold X0_0 Pipeline.Window.fill
  rw [dif_pos (moved0_0 t _)]
  blk_point [iblk, idx0 t]

theorem g_at (t : Fin cfg0.N) (j : Fin 512) : iblk m c 1 t (ix2 0 j) = m ((c.tc : Thread nD τ).loc main_arg1) (ix1 j) := by
  have e : V m c main_v0 = shapeCast S1x512 (m ((c.tc : Thread nD τ).loc main_arg1)) shapeCasts_S512_S1x512 := by
    show StableHlo.after _ _ _ = _
    simp only [hostOps0]
    after_results
    rfl
  refine Eq.trans (b := V m c main_v0 (ix2 0 j)) (by blk_point [iblk, idx0 t]) ?_
  rw [e]
  pointwise []

/-- The key's and value's columns, normed. -/
theorem final_2 : (dats m 0 c).arrAt 2 cfg0.N = fun x : (⟨2, ![8192, 512]⟩ : Shape).Idx => val (m ((c.tc : Thread nD τ).loc main_arg0)) (m ((c.tc : Thread nD τ).loc main_arg1)) (x 0) (x 1) := by
  refine (dats m 0 c).arrAt_eq_of_covers 2 _ (by decide +kernel) fun t _ y => ?_
  have e := (idx0 t).2.2
  blk_simp
  rw [after0_2]
  refine Eq.trans (b := k0_pay1 (F := Ideal) (X0_0 m c t) (iblk m c 1 t) y) (by unfold outsAt0; frame_out) ?_
  obtain ⟨i, j, rfl⟩ : ∃ (i : Fin 256) (j : Fin 512), y = ix2 i j := ⟨y 0, y 1, by funext a; fin_cases a <;> rfl⟩
  refine (Cert.Kernel7Ideal.Value.p0_1 _ _ i j).trans ?_
  simp only [x_at, g_at]
  refine Eq.trans (b := val (m ((c.tc : Thread nD τ).loc main_arg0)) (m ((c.tc : Thread nD τ).loc main_arg1)) ⟨256 * t.val + i.val, by have := t.isLt; simp only [show cfg0.N = 32 from rfl] at this; omega⟩ j) rfl ?_
  refine congrArg₂ (val _ _) (Fin.ext ?_) (Fin.ext ?_)
  all_goals
    blk_simp
    rw [e]
    simp only [Matrix.cons_val_zero, Matrix.cons_val_one, Nat.zero_mul, Nat.zero_add, Nat.mul_comm _ 256]

/-- The program's run: its result, with its arguments unchanged. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c).1 2, h.2 c⟩) (θ_run_and (run_main m ρ) (unchanged m ρ))

end Cert.Kernel8Ideal.Value

namespace Cert.Rank
open Cert.Attn
local instance facts_Kernel8Ideal : Cert.Kernel8Ideal.Facts := Cert.Kernel8Ideal.Gen.facts
local instance facts_Reference8Ideal : Cert.Reference8Ideal.Facts := Cert.Reference8Ideal.Gen.facts

/-- The key's and value's normed columns equal the reference's. -/
theorem algebraic8 : Cert.algebraic_Kernel8Ideal_Reference8Ideal := by
  pair_intro
  · run_from Cert.Kernel8Ideal.Value.run m g
  · run_from Cert.Reference8Ideal.Value.run m' g'
    obtain ⟨e0, e1⟩ := hagree c
    refine Eq.trans ?_ (Cert.Kernel8Ideal.Value.final_2 m c).symm
    funext y
    obtain ⟨i, j, rfl⟩ : ∃ (i : Fin 8192) (j : Fin 512), y = ix2 i j := ⟨y 0, y 1, by funext a; fin_cases a <;> rfl⟩
    pointwise [Cert.Kernel8Ideal.Value.val, unit]

end Cert.Rank
end
-- ==== Proof.Gate.Run.lean ====
/- The run of the gate program: what every buffer of a device holds when @main returns. -/
module

public import proofs.«01_k».proof.Proof.Gen.Kernel3Ideal.Frame

@[expose] public section

set_option maxRecDepth 16384

noncomputable section

namespace Cert.Kernel3Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with the counters at zero the program ends, and every unscoped buffer of every device then holds
    the contents computed for it at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The program's run: its three results are the arrays the two pallas_calls leave, its arguments are unchanged. -/
theorem run : θ_run defs (onTc (τ := τ) (main (F := F))) ⟨m, fun _ => 0, ρ⟩ (fun r => ∀ c : Dev nD,
      r.2.mem ((c.tc : Thread nD τ).loc main_v4_2) = (dat0 (V1 m ρ) c).arrAt 5 cfg0.N
      ∧ r.2.mem ((c.tc : Thread nD τ).loc main_v5_0) = (dat1 (V2 m ρ) c).arrAt 4 cfg1.N
      ∧ r.2.mem ((c.tc : Thread nD τ).loc main_v5_1) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4_2 (by decide))).trans ((W3_of_ne m ρ c main_v4_2 (by decide)).trans (W2_arr m ρ c 5)),
     (h c _ (mem_uc main_v5_0 (by decide))).trans (W3_arr m ρ c 4),
     (h c _ (mem_uc main_v5_1 (by decide))).trans (W3_arr m ρ c 5),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel3Ideal.Value

end
-- ==== Proof.Gate.Value.lean ====
/- What the two pallas_calls of the gate program leave in their output arrays, as functions of the contents they are
   entered with. -/
module

public import proofs.«01_k».proof.Proof.Gen.Kernel3Ideal.Frame
public import Idealize.ShloMosaic.Lib.Pipeline.ValueKit

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

/-- The slab a column lies in, and its place there. -/
def slab (q : Fin 5632) : Fin 4 := ⟨q.val / 1408, by have := q.isLt; omega⟩
def place (q : Fin 5632) : Fin 1408 := ⟨q.val % 1408, Nat.mod_lt _ (by omega)⟩

/-- A product of the rows with the slabs of a weight: column `q` lies in slab `q / 1408`. -/
def slabDot (h : FVec Ideal S8192x2048 .bf16) (w : FVec Ideal S4x2048x1408 .bf16) : FVec Ideal S8192x5632 .bf16 := fun j =>
  ∑ k : Fin 2048, h (ix2 (j 0) k) * w (ix3 (slab (j 1)) k (place (j 1)))

/-- The gated product of two slab products. -/
def gated (h : FVec Ideal S8192x2048 .bf16) (wg wu : FVec Ideal S4x2048x1408 .bf16) : FVec Ideal S8192x5632 .bf16 := fun j =>
  slabDot h wg j * Ideal.logistic (slabDot h wg j) * slabDot h wu j

variable (V : (c : Dev nD) → (b : Ref sig .tc) → Buf (Elt Ideal) ((c : Thread nD τ).loc b))

theorem idx0 : ∀ t : Fin cfg0.N, win0_0.index t = ![t.val % 16, 0] ∧ win0_1.index t = ![t.val / 16, 0, 0] ∧ win0_2.index t = ![t.val / 16, 0, 0]
    ∧ win0_3.index t = ![t.val % 16, t.val / 16] ∧ win0_4.index t = ![t.val % 16, t.val / 16] ∧ win0_5.index t = ![t.val % 16, t.val / 16] :=
  (by decide +kernel : ∀ t : Fin grid0.N, _)

theorem point0_3 (c : Dev nD) (t : Fin cfg0.N) (y) : k0_pay3 (iblk0 V c 0 t) (iblk0 V c 1 t) y
    = slabDot (V c main_arg0) (V c main_v1) (((cfg0.win 3).blk t).view.emb y) := by
  pointwise [k0_pay3, k0_pay1, slabDot, slab, place]
  blk_point [iblk0, idx0 t]

theorem point0_4 (c : Dev nD) (t : Fin cfg0.N) (y) : k0_pay4 (iblk0 V c 0 t) (iblk0 V c 2 t) y
    = slabDot (V c main_arg0) (V c main_v3) (((cfg0.win 4).blk t).view.emb y) := by
  pointwise [k0_pay4, k0_pay2, slabDot, slab, place]
  blk_point [iblk0, idx0 t]

theorem point0_5 (c : Dev nD) (t : Fin cfg0.N) (y) : k0_pay5 (iblk0 V c 0 t) (iblk0 V c 1 t) (iblk0 V c 0 t) (iblk0 V c 2 t) y
    = gated (V c main_arg0) (V c main_v1) (V c main_v3) (((cfg0.win 5).blk t).view.emb y) := by
  pointwise [k0_pay5, k0_pay1, k0_pay2, gated, slabDot, slab, place]
  blk_point [iblk0, idx0 t]

/-- The first call leaves the gate's product in its first output array. -/
theorem final0_3 (c : Dev nD) : (dat0 V c).arrAt 3 cfg0.N = slabDot (V c main_arg0) (V c main_v1) := by
  refine (dat0 V c).arrAt_eq_of_covers 3 _ (by decide +kernel) fun t _ y => ?_
  blk_simp; rw [after0_3]; frame_out; exact point0_3 V c t y

/-- The first call leaves the other product in its second output array. -/
theorem final0_4 (c : Dev nD) : (dat0 V c).arrAt 4 cfg0.N = slabDot (V c main_arg0) (V c main_v3) := by
  refine (dat0 V c).arrAt_eq_of_covers 4 _ (by decide +kernel) fun t _ y => ?_
  blk_simp; rw [after0_4]; frame_out; exact point0_4 V c t y

/-- The first call leaves the gated product in its third output array. -/
theorem final0_5 (c : Dev nD) : (dat0 V c).arrAt 5 cfg0.N = gated (V c main_arg0) (V c main_v1) (V c main_v3) := by
  refine (dat0 V c).arrAt_eq_of_covers 5 _ (by decide +kernel) fun t _ y => ?_
  blk_simp; rw [after0_5]; frame_out; exact point0_5 V c t y

/-- The product of the cotangent's rows with the rows of the down weight. -/
def rowDot (dz : FVec Ideal S8192x2048 .bf16) (w : FVec Ideal S5632x2048 .bf16) : FVec Ideal S8192x5632 .bf16 := fun j =>
  ∑ k : Fin 2048, dz (ix2 (j 0) k) * w (ix2 (j 1) k)

/-- The gradient of the gate's argument, as the second call computes it. -/
def gateGrad (dz : FVec Ideal S8192x2048 .bf16) (w : FVec Ideal S5632x2048 .bf16) (g u : FVec Ideal S8192x5632 .bf16) :
    FVec Ideal S8192x5632 .bf16 := fun j =>
  rowDot dz w j * u j * (Ideal.logistic (g j) * (1 + g j * (1 - Ideal.logistic (g j))))

/-- The gradient of the other factor. -/
def upGrad (dz : FVec Ideal S8192x2048 .bf16) (w : FVec Ideal S5632x2048 .bf16) (g : FVec Ideal S8192x5632 .bf16) :
    FVec Ideal S8192x5632 .bf16 := fun j =>
  rowDot dz w j * (g j * Ideal.logistic (g j))

theorem idx1 : ∀ t : Fin cfg1.N, win1_0.index t = ![t.val / 11, 0] ∧ win1_1.index t = ![t.val % 11, 0] ∧ win1_2.index t = ![t.val / 11, t.val % 11]
    ∧ win1_3.index t = ![t.val / 11, t.val % 11] ∧ win1_4.index t = ![t.val / 11, t.val % 11] ∧ win1_5.index t = ![t.val / 11, t.val % 11] :=
  (by decide +kernel : ∀ t : Fin grid1.N, _)

theorem point1_5 (c : Dev nD) (t : Fin cfg1.N) (y) : k1_pay4 (iblk1 V c 0 t) (iblk1 V c 1 t) (iblk1 V c 2 t) y
    = upGrad (V c main_arg4) (V c main_arg3) (V c main_v4_0) (((cfg1.win 5).blk t).view.emb y) := by
  pointwise [k1_pay4, k1_pay1, k1_pay2, k1_pay3, upGrad, rowDot]
  blk_point [iblk1, idx1 t]

theorem point1_4 (c : Dev nD) (t : Fin cfg1.N) (y) : k1_pay5 (iblk1 V c 0 t) (iblk1 V c 1 t) (iblk1 V c 2 t) (iblk1 V c 3 t) y
    = gateGrad (V c main_arg4) (V c main_arg3) (V c main_v4_0) (V c main_v4_1) (((cfg1.win 4).blk t).view.emb y) := by
  pointwise [k1_pay5, k1_pay1, k1_pay2, k1_pay3, gateGrad, rowDot]
  blk_point [iblk1, idx1 t]

/-- The second call leaves the gradient of the gate's argument in its first output array. -/
theorem final1_4 (c : Dev nD) : (dat1 V c).arrAt 4 cfg1.N = gateGrad (V c main_arg4) (V c main_arg3) (V c main_v4_0) (V c main_v4_1) := by
  refine (dat1 V c).arrAt_eq_of_covers 4 _ (by decide +kernel) fun t _ y => ?_
  blk_simp; rw [after1_4]; frame_out; exact point1_4 V c t y

/-- The second call leaves the gradient of the other factor in its second output array. -/
theorem final1_5 (c : Dev nD) : (dat1 V c).arrAt 5 cfg1.N = upGrad (V c main_arg4) (V c main_arg3) (V c main_v4_0) := by
  refine (dat1 V c).arrAt_eq_of_covers 5 _ (by decide +kernel) fun t _ y => ?_
  blk_simp; rw [after1_5]; frame_out; exact point1_5 V c t y

end Cert.Kernel3Ideal.Value
end
-- ==== Proof.Gate.Pure.lean ====
/- The gate program's results against the reference's composed terms. -/
module

public import proofs.«01_k».proof.Defs
public import proofs.«01_k».proof.Proof.Gate.Run
public import proofs.«01_k».proof.Proof.Gate.Value
public import proofs.«01_k».proof.Proof.Gen.Reference3Ideal.Run
public import proofs.«01_k».proof.Proof.Gen.Pre_gate_finite
public import proofs.«01_k».proof.Proof.Finite

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

variable (m : (ℓ : Loc nD τ sig) → Buf (Elt Ideal) ℓ) (ρ : Dev nD → PrngReg)

/-- A weight laid out as slabs. -/
def slabs (w : FVec Ideal S2048x5632 .bf16) : FVec Ideal S4x2048x1408 .bf16 :=
  transpose S4x2048x1408 [1, 0, 2] (shapeCast S2048x4x1408 w shapeCasts_S2048x5632_S2048x4x1408) transposes_S2048x4x1408_S4x2048x1408_1_0_2

theorem V1_v1 (c : Dev nD) : V1 m ρ c main_v1 = slabs (m ((c.tc : Thread nD τ).loc main_arg1)) := by
  show W1 m ρ c main_v1 = _
  unfold W1
  after_results
  rfl

theorem V1_v3 (c : Dev nD) : V1 m ρ c main_v3 = slabs (m ((c.tc : Thread nD τ).loc main_arg2)) := by
  show W1 m ρ c main_v3 = _
  unfold W1
  after_results
  rfl

/-- The product with a weight's slabs is the product with the weight. -/
theorem slabDot_slabs (h : FVec Ideal S8192x2048 .bf16) (w : FVec Ideal S2048x5632 .bf16) (j : S8192x5632.Idx) :
    slabDot h (slabs w) j = ∑ k : Fin 2048, h (ix2 (j 0) k) * w (ix2 k (j 1)) := by
  idx_vars j
  unfold slabDot
  refine Finset.sum_congr rfl fun k _ => ?_
  pointwise [slabs, slab, place]

theorem V1_arg0 (c : Dev nD) : V1 m ρ c main_arg0 = m ((c.tc : Thread nD τ).loc main_arg0) := W1_args m ρ c main_arg0 (by decide)
theorem V2_arg3 (c : Dev nD) : V2 m ρ c main_arg3 = m ((c.tc : Thread nD τ).loc main_arg3) := W2_args m ρ c main_arg3 (by decide)
theorem V2_arg4 (c : Dev nD) : V2 m ρ c main_arg4 = m ((c.tc : Thread nD τ).loc main_arg4) := W2_args m ρ c main_arg4 (by decide)
theorem V2_v4_0 (c : Dev nD) : V2 m ρ c main_v4_0 = slabDot (m ((c.tc : Thread nD τ).loc main_arg0)) (slabs (m ((c.tc : Thread nD τ).loc main_arg1))) := by
  rw [← V1_arg0 m ρ c, ← V1_v1 m ρ c]; exact (W2_arr m ρ c 3).trans (final0_3 (V1 m ρ) c)
theorem V2_v4_1 (c : Dev nD) : V2 m ρ c main_v4_1 = slabDot (m ((c.tc : Thread nD τ).loc main_arg0)) (slabs (m ((c.tc : Thread nD τ).loc main_arg2))) := by
  rw [← V1_arg0 m ρ c, ← V1_v3 m ρ c]; exact (W2_arr m ρ c 4).trans (final0_4 (V1 m ρ) c)
end Cert.Kernel3Ideal.Value

namespace Cert.Gate
open Cert.Kernel3Ideal.Value
local instance : Cert.Kernel3Ideal.Facts := Cert.Kernel3Ideal.Gen.facts
local instance : Cert.Reference3Ideal.Facts := Cert.Reference3Ideal.Gen.facts
local instance : Cert.Pre_gate_finite.Facts := Cert.Pre_gate_finite.Gen.facts

/-- The derivative of `x · logistic x` in its two forms, scaled by a real number: the kernel's and the product rule's. -/
theorem silu_grad (d : ℝ) (g : EReal) :
    (d : EReal) * (Ideal.logistic g * (1 + g * (1 - Ideal.logistic g)))
      = (d : EReal) * Ideal.logistic g + g * (d : EReal) * (Ideal.logistic g * (1 - Ideal.logistic g)) := by
  induction g using EReal.rec with
  | bot => simp
  | top =>
    have h : (1 : EReal) - 1 = 0 := by rw [← EReal.coe_one, ← EReal.coe_sub, sub_self, EReal.coe_zero]
    simp [h]
  | coe r =>
    rw [Ideal.logistic_coe]
    norm_cast
    ring

/-- The same with the real number given as a product of two sums, and the logistic function written out on one side. -/
theorem gate_grad (G D U : EReal) (h : ∃ d : ℝ, D * U = (d : EReal)) :
    D * U * Ideal.div 1 (1 + Ideal.exp (-G)) + G * (D * U) * (Ideal.div 1 (1 + Ideal.exp (-G)) * (1 - Ideal.div 1 (1 + Ideal.exp (-G))))
      = D * U * (Ideal.logistic G * (1 + G * (1 - Ideal.logistic G))) := by
  obtain ⟨d, hd⟩ := h
  rw [hd]
  exact (silu_grad d G).symm

/-- The gate program's three results — the gated product and the gradients of its two factors — are the reference's. -/
theorem algebraic : Cert.algebraic_Kernel3Ideal_Reference3Ideal_pre_gate_finite := by
  pair_intro
  · run_from Cert.Kernel3Ideal.Value.run m g
  · run_from Cert.Reference3Ideal.Value.run m' g'
    · rw [final0_5, V1_arg0, V1_v1, V1_v3]
      funext j
      pointwise [gated, slabDot_slabs]
      rfl
    · rw [final1_4, V2_arg3, V2_arg4, V2_v4_0, V2_v4_1]
      have h := hpre c
      dsimp only [Pre_gate_finite.fn] at h
      obtain ⟨h0, h2, h3, h4⟩ := h
      obtain ⟨h, eh⟩ := Finite.reals_of_mask _ h0
      obtain ⟨u, eu⟩ := Finite.reals_of_mask _ h2
      obtain ⟨w, ew⟩ := Finite.reals_of_mask _ h3
      obtain ⟨z, ez⟩ := Finite.reals_of_mask _ h4
      funext j
      pointwise [gateGrad, rowDot, slabDot_slabs]
      refine gate_grad _ _ _ ?_
      rw [eh, eu, ew, ez]
      exact ⟨_, (congrArg₂ (· * ·) (Finite.coe_dot _ _) (Finite.coe_dot _ _)).trans (EReal.coe_mul _ _).symm⟩
    · rw [final1_5, V2_arg3, V2_arg4, V2_v4_0]
      funext j
      pointwise [upGrad, rowDot, slabDot_slabs]
      exact mul_comm _ _

end Cert.Gate
end
-- ==== Proof.Attn.Run.lean ====
/- The run of the latent attention's program: what every buffer of a device holds when @main returns. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with the counters at zero the program ends, and every unscoped buffer of every device then holds
    the contents computed for it at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz => h)

/-- The program's run: its three results are what the last host lines leave, its arguments are unchanged. -/
theorem run : θ_run defs (onTc (τ := τ) (main (F := F))) ⟨m, fun _ => 0, ρ⟩ (fun r => ∀ c : Dev nD,
      r.2.mem ((c.tc : Thread nD τ).loc main_v64) = W21 m ρ c main_v64
      ∧ r.2.mem ((c.tc : Thread nD τ).loc main_v61_0) = W21 m ρ c main_v61_0
      ∧ r.2.mem ((c.tc : Thread nD τ).loc main_v65) = W21 m ρ c main_v65
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v64 (by decide)), h c _ (mem_uc main_v61_0 (by decide)), h c _ (mem_uc main_v65 (by decide)),
     (h c _ (mem_uc main_arg0 (by decide))).trans (W21_main_arg0 m ρ c),
     (h c _ (mem_uc main_arg1 (by decide))).trans (W21_main_arg1 m ρ c),
     (h c _ (mem_uc main_arg2 (by decide))).trans (W21_main_arg2 m ρ c),
     (h c _ (mem_uc main_arg3 (by decide))).trans (W21_main_arg3 m ρ c),
     (h c _ (mem_uc main_arg4 (by decide))).trans (W21_main_arg4 m ρ c),
     (h c _ (mem_uc main_arg5 (by decide))).trans (W21_main_arg5 m ρ c)⟩) (run_all m ρ)

end Cert.KernelIdeal.Value

end
-- ==== Proof.Attn.Rot.lean ====
/- The rotary calls, the row sums and the gradient's packing of the latent attention, over arrays of real numbers. -/
module

public import proofs.«01_k».proof.Proof.Attn.Real
public import proofs.«01_k».proof.Proof.Gen.KernelIdeal.Frame
public import Idealize.ShloMosaic.Lib.KernelVsHost

@[expose] public section

set_option maxRecDepth 16384

noncomputable section

open Idealize.ShloMosaic Idealize.ShloMosaic.TcCoe Idealize.SL.Sem

namespace Cert.Attn

/-- A rotation of the columns of a real array. -/
theorem Holds.rot {m n : ℕ} {x : (⟨2, ![m, n]⟩ : Shape).Idx → EReal} {X : ℕ → ℕ → ℝ} (hx : Holds x X) (s : BitVec 32) (d : ℕ)
    (hs : s.toNat + d = n) (hd : 0 < d) (h : (⟨2, ![m, n]⟩ : Shape).Rotates 1 none) :
    Holds (dynamicRotate (1 : Fin 2) s none x h) (fun i j => X i ((j + d) % n)) := by
  intro i j
  have hj := j.isLt
  refine (dynamicRotate_apply 1 s x h (ix2 i j) (ix2 i ⟨(j.val + d) % n, Nat.mod_lt _ (by omega)⟩) fun b => ?_).trans (hx _ _)
  fin_cases b
  · simp [ix2]
  · simp only [Fin.mk_one, ix2, Matrix.cons_val_one, Matrix.cons_val_zero, if_true, Matrix.cons_val_fin_one]
    rw [Nat.mod_eq_of_lt (show s.toNat < n by omega), show j.val + n - s.toNat = j.val + d by omega]

/-- What a call's stores leave in a block where every store holds its part of one array. -/
theorem pieces_cons {m n k l : ℕ} {e : EltTy} (g : ℕ → ℕ → Elt Ideal e) {off : Fin 2 → ℕ} (a b : ℕ) (inb : ∀ j, off j + ![k, l] j ≤ ![m, n] j)
    (hoff : off = ![a, b]) (w : (⟨2, ![k, l]⟩ : Shape).Idx → Elt Ideal e) (hw : ∀ (i : Fin k) (j : Fin l), w (ix2 i j) = g (a + i.val) (b + j.val))
    {L : List (View.Piece (Elt Ideal) ⟨2, ![m, n]⟩ e)} (hL : ∀ y, View.AllAt L y (g (y 0).val (y 1).val)) (y : (⟨2, ![m, n]⟩ : Shape).Idx) :
    View.AllAt ((⟨Rect.unit (s := ⟨2, ![m, n]⟩) off ![k, l] inb, w⟩ : View.Piece (Elt Ideal) ⟨2, ![m, n]⟩ e) :: L) y (g (y 0).val (y 1).val) := by
  subst hoff
  refine View.allAt_cons_unit _ _ inb w L (fun x hx => ?_) (hL y)
  have h0 := hx 0
  have h1 := hx 1
  simp only [Matrix.cons_val_zero, Matrix.cons_val_one] at h0 h1
  rw [h0, h1]
  exact (congrArg w (by idx_ext)).trans (hw (x 0) (x 1))

end Cert.Attn

namespace Cert.KernelIdeal.Value
open Cert.KernelIdeal Cert.KernelIdeal.Gen Cert.Attn

/-- A row's rotation: the entry itself, the one 32 places before it and the one 32 places after it, each with its table. -/
def rotated (n : ℕ) (X A B C : ℕ → ℕ → ℝ) (i j : ℕ) : ℝ := X i j * A i j + X i ((j + (n - 32)) % n) * B i j + X i ((j + 32) % n) * C i j

theorem rot256 {x a b c : FVec Ideal S256x256 .f32} {X A B C : ℕ → ℕ → ℝ} (hx : @Holds 256 256 x X) (ha : @Holds 256 256 a A)
    (hb : @Holds 256 256 b B) (hc : @Holds 256 256 c C) :
    @Holds 256 256 (k0_pay1 (F := Ideal) x a b c) (rotated 256 X A B C) := by
  intro i j
  pointwise [k0_pay1]
  rw [hx, hx, hx, ha, hb, hc, ← EReal.coe_mul, ← EReal.coe_mul, ← EReal.coe_mul, ← EReal.coe_add, ← EReal.coe_add]
  simp only [rotated]
  rw [show j.val + 256 - 32 = j.val + (256 - 32) by omega, show j.val + 256 - 224 = j.val + 32 by omega]

/-- The same of a row of 128 entries stored in the shorter format. -/
theorem rot128 {x : FVec Ideal S256x128 .bf16} {a b c : FVec Ideal S256x128 .f32} {X A B C : ℕ → ℕ → ℝ} (hx : @Holds 256 128 x X) (ha : @Holds 256 128 a A)
    (hb : @Holds 256 128 b B) (hc : @Holds 256 128 c C) :
    @Holds 256 128 (k1_pay1 (F := Ideal) x a b c) (rotated 128 X A B C) := by
  intro i j
  pointwise [k1_pay1]
  rw [hx, hx, hx, ha, hb, hc, ← EReal.coe_mul, ← EReal.coe_mul, ← EReal.coe_mul, ← EReal.coe_add, ← EReal.coe_add]
  simp only [rotated]
  rw [show j.val + 128 - 32 = j.val + (128 - 32) by omega, show j.val + 128 - 96 = j.val + 32 by omega]

/-- A tile's row sums of products, in every column. -/
theorem sums128 {x y : FVec Ideal S256x128 .bf16} {X Y : ℕ → ℕ → ℝ} (hx : @Holds 256 128 x X) (hy : @Holds 256 128 y Y) :
    @Holds 256 128 (k3_pay3 (F := Ideal) x y) (fun i _ => ∑ d : Fin 128, X i d * Y i d) := by
  intro i j
  pointwise [k3_pay3]
  simp only [hx.at, hy.at, ← EReal.coe_mul, Finite.coe_sum]
  rfl

/-- The sum of eight tiles, rotated. -/
theorem sum_rot128 {x0 x1 x2 x3 x4 x5 x6 x7 a b c : FVec Ideal S256x128 .f32} {X : ℕ → ℕ → ℕ → ℝ} {A B C : ℕ → ℕ → ℝ}
    (h0 : @Holds 256 128 x0 (X 0)) (h1 : @Holds 256 128 x1 (X 1)) (h2 : @Holds 256 128 x2 (X 2)) (h3 : @Holds 256 128 x3 (X 3))
    (h4 : @Holds 256 128 x4 (X 4)) (h5 : @Holds 256 128 x5 (X 5)) (h6 : @Holds 256 128 x6 (X 6)) (h7 : @Holds 256 128 x7 (X 7))
    (ha : @Holds 256 128 a A) (hb : @Holds 256 128 b B) (hc : @Holds 256 128 c C) :
    @Holds 256 128 (k7_pay1 (F := Ideal) (k7_pay18 (k7_pay13 (k7_pay6 x0 x1) x2 x3 x4) x5 x6) x7 a b c) (rotated 128 (fun i j => ∑ h : Fin 8, X h i j) A B C) := by
  intro i j
  pointwise [k7_pay1, k7_pay18, k7_pay13, k7_pay6]
  rw [ha, hb, hc]
  simp only [h0.at, h1.at, h2.at, h3.at, h4.at, h5.at, h6.at, h7.at, ← EReal.coe_mul, ← EReal.coe_add]
  refine congrArg _ ?_
  have e : (j.val + (128 - 32)) % 128 = (j.val + 128 - 32) % 128 := by omega
  have e' : (j.val + 32) % 128 = (j.val + 128 - 96) % 128 := by omega
  simp only [rotated, Fin.sum_univ_eight]
  rw [e, e']
  rfl

/-- Every head's 256 entries rotated. -/
def headsRotated (X A B C : ℕ → ℕ → ℝ) (r j : ℕ) : ℝ := rotated 256 (fun r e => X r (256 * (j / 256) + e)) A B C r (j % 256)

theorem head_rot {v a b c : FVec Ideal S256x256 .f32} {X A B C : ℕ → ℕ → ℝ} (k : ℕ) (hv : @Holds 256 256 v fun i j => X (0 + i) (256 * k + j)) (ha : @Holds 256 256 a fun i j => A (0 + i) (0 + j))
    (hb : @Holds 256 256 b fun i j => B (0 + i) (0 + j)) (hc : @Holds 256 256 c fun i j => C (0 + i) (0 + j)) (i : Fin 256) (j : Fin 256) :
    k0_pay1 (F := Ideal) v a b c (ix2 i j) = ((headsRotated X A B C (0 + i.val) (256 * k + j.val) : ℝ) : EReal) := by
  have hj := j.isLt
  refine (rot256 hv ha hb hc i j).trans ?_
  simp only [headsRotated, rotated, Nat.zero_add]
  rw [show (256 * k + j.val) / 256 = k by omega, show (256 * k + j.val) % 256 = j.val by omega]

/-- What the rotary call of the queries leaves in a block. -/
theorem out0 {x : FVec Ideal S256x2048 .f32} {a b c : FVec Ideal S256x256 .f32} {X A B C : ℕ → ℕ → ℝ} (hx : @Holds 256 2048 x X) (ha : @Holds 256 256 a A)
    (hb : @Holds 256 256 b B) (hc : @Holds 256 256 c C) : @Holds 256 2048 (out0_4 (F := Ideal) x a b c) (headsRotated X A B C) := by
  refine Holds.of fun y => View.canon_eq_of_allAt _ y _ (cover0_4 _ _ _ _ _ _ _ _ y) ?_
  have ha' := ha.window (k := 256) (l := 256) 0 0 inb_S256x256_S256x256_0_0 rfl
  have hb' := hb.window (k := 256) (l := 256) 0 0 inb_S256x256_S256x256_0_0 rfl
  have hc' := hc.window (k := 256) (l := 256) 0 0 inb_S256x256_S256x256_0_0 rfl
  let g : ℕ → ℕ → Elt Ideal .bf16 := fun i j => ((headsRotated X A B C i j : ℝ) : EReal)
  refine pieces_cons g 0 1792 _ rfl _ (head_rot 7 (hx.window 0 1792 inb_S256x2048_S256x256_0_1792 rfl) ha' hb' hc')
    (pieces_cons g 0 1536 _ rfl _ (head_rot 6 (hx.window 0 1536 inb_S256x2048_S256x256_0_1536 rfl) ha' hb' hc')
    (pieces_cons g 0 1280 _ rfl _ (head_rot 5 (hx.window 0 1280 inb_S256x2048_S256x256_0_1280 rfl) ha' hb' hc')
    (pieces_cons g 0 1024 _ rfl _ (head_rot 4 (hx.window 0 1024 inb_S256x2048_S256x256_0_1024 rfl) ha' hb' hc')
    (pieces_cons g 0 768 _ rfl _ (head_rot 3 (hx.window 0 768 inb_S256x2048_S256x256_0_768 rfl) ha' hb' hc')
    (pieces_cons g 0 512 _ rfl _ (head_rot 2 (hx.window 0 512 inb_S256x2048_S256x256_0_512 rfl) ha' hb' hc')
    (pieces_cons g 0 256 _ rfl _ (head_rot 1 (hx.window 0 256 inb_S256x2048_S256x256_0_256 rfl) ha' hb' hc')
    (pieces_cons g 0 0 _ rfl _ (head_rot 0 (hx.window 0 0 inb_S256x2048_S256x256_0_0 rfl) ha' hb' hc')
    (fun y => View.allAt_nil y _)))))))) y

/-- The full keys: every head's own 128 entries, then the rotated ones, which all heads share. -/
def fullKeys (KV R : ℕ → ℕ → ℝ) (r j : ℕ) : ℝ := if j / 128 % 2 = 0 then KV r j else R r (j % 128)

theorem own_part {v : FVec Ideal S256x128 .bf16} {KV R : ℕ → ℕ → ℝ} (k : ℕ) (hv : @Holds 256 128 v fun i j => KV (0 + i) (256 * k + j)) (i : Fin 256) (j : Fin 128) :
    v (ix2 i j) = ((fullKeys KV R (0 + i.val) (256 * k + j.val) : ℝ) : EReal) := by
  have hj := j.isLt
  rw [hv i j, fullKeys, if_pos (by omega)]

theorem shared_part {v : FVec Ideal S256x128 .bf16} {KV R : ℕ → ℕ → ℝ} (k : ℕ) (hv : @Holds 256 128 v R) (i : Fin 256) (j : Fin 128) :
    v (ix2 i j) = ((fullKeys KV R (0 + i.val) (256 * k + 128 + j.val) : ℝ) : EReal) := by
  have hj := j.isLt
  rw [hv i j, fullKeys, if_neg (by omega), show (256 * k + 128 + j.val) % 128 = j.val by omega, Nat.zero_add]

/-- What the call that assembles the keys leaves in a block. -/
theorem out1 {kv : FVec Ideal S256x2048 .bf16} {x : FVec Ideal S256x128 .bf16} {a b c : FVec Ideal S256x128 .f32} {KV X A B C : ℕ → ℕ → ℝ}
    (hkv : @Holds 256 2048 kv KV) (hx : @Holds 256 128 x X) (ha : @Holds 256 128 a A)
    (hb : @Holds 256 128 b B) (hc : @Holds 256 128 c C) : @Holds 256 2048 (out1_5 (F := Ideal) kv x a b c) (fullKeys KV (rotated 128 X A B C)) := by
  refine Holds.of fun y => View.canon_eq_of_allAt _ y _ (cover1_5 _ _ _ _ _ _ _ _ _ _ _ _ _ _ _ _ y) ?_
  have hr : @Holds 256 128 (k1_pay1 (F := Ideal) (View.ld x r1_0) (View.ld a r1_0) (View.ld b r1_0) (View.ld c r1_0)) (rotated 128 X A B C) :=
    rot128 ((hx.window (k := 256) (l := 128) 0 0 inb_S256x128_S256x128_0_0 rfl).congr (by intro i _ j _; rw [Nat.zero_add, Nat.zero_add]))
      ((ha.window (k := 256) (l := 128) 0 0 inb_S256x128_S256x128_0_0 rfl).congr (by intro i _ j _; rw [Nat.zero_add, Nat.zero_add]))
      ((hb.window (k := 256) (l := 128) 0 0 inb_S256x128_S256x128_0_0 rfl).congr (by intro i _ j _; rw [Nat.zero_add, Nat.zero_add]))
      ((hc.window (k := 256) (l := 128) 0 0 inb_S256x128_S256x128_0_0 rfl).congr (by intro i _ j _; rw [Nat.zero_add, Nat.zero_add]))
  let g : ℕ → ℕ → Elt Ideal .bf16 := fun i j => ((fullKeys KV (rotated 128 X A B C) i j : ℝ) : EReal)
  refine pieces_cons g 0 1920 _ rfl _ (shared_part 7 hr)
    (pieces_cons g 0 1792 _ rfl _ (own_part 7 (hkv.window 0 1792 inb_S256x2048_S256x128_0_1792 rfl))
    (pieces_cons g 0 1664 _ rfl _ (shared_part 6 hr)
    (pieces_cons g 0 1536 _ rfl _ (own_part 6 (hkv.window 0 1536 inb_S256x2048_S256x128_0_1536 rfl))
    (pieces_cons g 0 1408 _ rfl _ (shared_part 5 hr)
    (pieces_cons g 0 1280 _ rfl _ (own_part 5 (hkv.window 0 1280 inb_S256x2048_S256x128_0_1280 rfl))
    (pieces_cons g 0 1152 _ rfl _ (shared_part 4 hr)
    (pieces_cons g 0 1024 _ rfl _ (own_part 4 (hkv.window 0 1024 inb_S256x2048_S256x128_0_1024 rfl))
    (pieces_cons g 0 896 _ rfl _ (shared_part 3 hr)
    (pieces_cons g 0 768 _ rfl _ (own_part 3 (hkv.window 0 768 inb_S256x2048_S256x128_0_768 rfl))
    (pieces_cons g 0 640 _ rfl _ (shared_part 2 hr)
    (pieces_cons g 0 512 _ rfl _ (own_part 2 (hkv.window 0 512 inb_S256x2048_S256x128_0_512 rfl))
    (pieces_cons g 0 384 _ rfl _ (shared_part 1 hr)
    (pieces_cons g 0 256 _ rfl _ (own_part 1 (hkv.window 0 256 inb_S256x2048_S256x128_0_256 rfl))
    (pieces_cons g 0 128 _ rfl _ (shared_part 0 hr)
    (pieces_cons g 0 0 _ rfl _ (own_part 0 (hkv.window 0 0 inb_S256x2048_S256x128_0_0 rfl))
    (fun y => View.allAt_nil y _)))))))))))))))) y

/-- The row sums of the products of two arrays over a head's 128 columns, in each of those columns. -/
def headSums (X Y : ℕ → ℕ → ℝ) (r j : ℕ) : ℝ := ∑ d : Fin 128, X r (128 * (j / 128) + d) * Y r (128 * (j / 128) + d)

theorem head_sum {v w : FVec Ideal S256x128 .bf16} {X Y : ℕ → ℕ → ℝ} (k : ℕ) (hv : @Holds 256 128 v fun i j => X (0 + i) (128 * k + j)) (hw : @Holds 256 128 w fun i j => Y (0 + i) (128 * k + j))
    (i : Fin 256) (j : Fin 128) : k3_pay3 (F := Ideal) v w (ix2 i j) = ((headSums X Y (0 + i.val) (128 * k + j.val) : ℝ) : EReal) := by
  have hj := j.isLt
  refine (sums128 hv hw i j).trans ?_
  simp only [headSums]
  rw [show (128 * k + j.val) / 128 = k by omega]

/-- What the call of the row sums leaves in a block. -/
theorem out3 {x y : FVec Ideal S256x1024 .bf16} {X Y : ℕ → ℕ → ℝ} (hx : @Holds 256 1024 x X) (hy : @Holds 256 1024 y Y) :
    @Holds 256 1024 (out3_2 (F := Ideal) x y) (headSums X Y) := by
  refine Holds.of fun z => View.canon_eq_of_allAt _ z _ (cover3_2 _ _ _ _ _ _ _ _ z) ?_
  let g : ℕ → ℕ → Elt Ideal .f32 := fun i j => ((headSums X Y i j : ℝ) : EReal)
  refine pieces_cons g 0 896 _ rfl _ (head_sum 7 (hx.window 0 896 inb_S256x1024_S256x128_0_896 rfl) (hy.window 0 896 inb_S256x1024_S256x128_0_896 rfl))
    (pieces_cons g 0 768 _ rfl _ (head_sum 6 (hx.window 0 768 inb_S256x1024_S256x128_0_768 rfl) (hy.window 0 768 inb_S256x1024_S256x128_0_768 rfl))
    (pieces_cons g 0 640 _ rfl _ (head_sum 5 (hx.window 0 640 inb_S256x1024_S256x128_0_640 rfl) (hy.window 0 640 inb_S256x1024_S256x128_0_640 rfl))
    (pieces_cons g 0 512 _ rfl _ (head_sum 4 (hx.window 0 512 inb_S256x1024_S256x128_0_512 rfl) (hy.window 0 512 inb_S256x1024_S256x128_0_512 rfl))
    (pieces_cons g 0 384 _ rfl _ (head_sum 3 (hx.window 0 384 inb_S256x1024_S256x128_0_384 rfl) (hy.window 0 384 inb_S256x1024_S256x128_0_384 rfl))
    (pieces_cons g 0 256 _ rfl _ (head_sum 2 (hx.window 0 256 inb_S256x1024_S256x128_0_256 rfl) (hy.window 0 256 inb_S256x1024_S256x128_0_256 rfl))
    (pieces_cons g 0 128 _ rfl _ (head_sum 1 (hx.window 0 128 inb_S256x1024_S256x128_0_128 rfl) (hy.window 0 128 inb_S256x1024_S256x128_0_128 rfl))
    (pieces_cons g 0 0 _ rfl _ (head_sum 0 (hx.window 0 0 inb_S256x1024_S256x128_0_0 rfl) (hy.window 0 0 inb_S256x1024_S256x128_0_0 rfl))
    (fun y => View.allAt_nil y _)))))))) z

/-- The gradient of keys and values, packed as the keys and values are. -/
def packed (DK DV : ℕ → ℕ → ℝ) (r j : ℕ) : ℝ := if j / 128 % 2 = 0 then DK r j else DV r (128 * (j / 256) + j % 128)

theorem key_part {v : FVec Ideal S256x128 .f32} {DK DV : ℕ → ℕ → ℝ} (k : ℕ) (hv : @Holds 256 128 v fun i j => DK (0 + i) (256 * k + j)) (i : Fin 256) (j : Fin 128) :
    k7_pay2 (F := Ideal) v (ix2 i j) = ((packed DK DV (0 + i.val) (256 * k + j.val) : ℝ) : EReal) := by
  have hj := j.isLt
  pointwise [k7_pay2]
  rw [hv i j, packed, if_pos (by omega)]
  simp only [Nat.zero_add]

theorem value_part {v : FVec Ideal S256x128 .f32} {DK DV : ℕ → ℕ → ℝ} (k : ℕ) (hv : @Holds 256 128 v fun i j => DV (0 + i) (128 * k + j)) (i : Fin 256) (j : Fin 128) :
    k7_pay2 (F := Ideal) v (ix2 i j) = ((packed DK DV (0 + i.val) (256 * k + 128 + j.val) : ℝ) : EReal) := by
  have hj := j.isLt
  pointwise [k7_pay2]
  rw [hv i j, packed, if_neg (by omega), show (256 * k + 128 + j.val) % 128 = j.val by omega, show (256 * k + 128 + j.val) / 256 = k by omega]
  simp only [Nat.zero_add]

/-- What the last call leaves in a block of the gradient of keys and values. -/
theorem out7_kv {x : FVec Ideal S256x2048 .f32} {y : FVec Ideal S256x1024 .f32} {a b c : FVec Ideal S256x128 .f32} {DK DV : ℕ → ℕ → ℝ}
    (hx : @Holds 256 2048 x DK) (hy : @Holds 256 1024 y DV) : @Holds 256 2048 (out7_5 (F := Ideal) x y a b c) (packed DK DV) := by
  refine Holds.of fun z => View.canon_eq_of_allAt _ z _ (cover7_5 _ _ _ _ _ _ _ _ _ _ _ _ _ _ _ _ z) ?_
  let g : ℕ → ℕ → Elt Ideal .bf16 := fun i j => ((packed DK DV i j : ℝ) : EReal)
  refine pieces_cons g 0 1920 _ rfl _ (value_part 7 (hy.window 0 896 inb_S256x1024_S256x128_0_896 rfl))
    (pieces_cons g 0 1792 _ rfl _ (key_part 7 (hx.window 0 1792 inb_S256x2048_S256x128_0_1792 rfl))
    (pieces_cons g 0 1664 _ rfl _ (value_part 6 (hy.window 0 768 inb_S256x1024_S256x128_0_768 rfl))
    (pieces_cons g 0 1536 _ rfl _ (key_part 6 (hx.window 0 1536 inb_S256x2048_S256x128_0_1536 rfl))
    (pieces_cons g 0 1408 _ rfl _ (value_part 5 (hy.window 0 640 inb_S256x1024_S256x128_0_640 rfl))
    (pieces_cons g 0 1280 _ rfl _ (key_part 5 (hx.window 0 1280 inb_S256x2048_S256x128_0_1280 rfl))
    (pieces_cons g 0 1152 _ rfl _ (value_part 4 (hy.window 0 512 inb_S256x1024_S256x128_0_512 rfl))
    (pieces_cons g 0 1024 _ rfl _ (key_part 4 (hx.window 0 1024 inb_S256x2048_S256x128_0_1024 rfl))
    (pieces_cons g 0 896 _ rfl _ (value_part 3 (hy.window 0 384 inb_S256x1024_S256x128_0_384 rfl))
    (pieces_cons g 0 768 _ rfl _ (key_part 3 (hx.window 0 768 inb_S256x2048_S256x128_0_768 rfl))
    (pieces_cons g 0 640 _ rfl _ (value_part 2 (hy.window 0 256 inb_S256x1024_S256x128_0_256 rfl))
    (pieces_cons g 0 512 _ rfl _ (key_part 2 (hx.window 0 512 inb_S256x2048_S256x128_0_512 rfl))
    (pieces_cons g 0 384 _ rfl _ (value_part 1 (hy.window 0 128 inb_S256x1024_S256x128_0_128 rfl))
    (pieces_cons g 0 256 _ rfl _ (key_part 1 (hx.window 0 256 inb_S256x2048_S256x128_0_256 rfl))
    (pieces_cons g 0 128 _ rfl _ (value_part 0 (hy.window 0 0 inb_S256x1024_S256x128_0_0 rfl))
    (pieces_cons g 0 0 _ rfl _ (key_part 0 (hx.window 0 0 inb_S256x2048_S256x128_0_0 rfl))
    (fun y => View.allAt_nil y _)))))))))))))))) z

/-- The sum over heads of the gradients of the shared part of the keys. -/
def sharedSum (DK : ℕ → ℕ → ℝ) (r j : ℕ) : ℝ := ∑ h : Fin 8, DK r (256 * h + 128 + j)

/-- What the last call leaves in a block of the gradient of the shared part of the keys. -/
theorem out7_rope {x : FVec Ideal S256x2048 .f32} {y : FVec Ideal S256x1024 .f32} {a b c : FVec Ideal S256x128 .f32} {DK A B C : ℕ → ℕ → ℝ}
    (hx : @Holds 256 2048 x DK) (ha : @Holds 256 128 a A) (hb : @Holds 256 128 b B) (hc : @Holds 256 128 c C) :
    @Holds 256 128 (out7_6 (F := Ideal) x y a b c) (rotated 128 (sharedSum DK) A B C) := by
  refine Holds.of fun z => View.canon_eq_of_allAt _ z _ (cover7_6 _ z) ?_
  have hr := sum_rot128 (X := fun h i j => DK (0 + i) (256 * h + 128 + j))
    (hx.window (k := 256) (l := 128) 0 128 inb_S256x2048_S256x128_0_128 rfl)
    (hx.window (k := 256) (l := 128) 0 384 inb_S256x2048_S256x128_0_384 rfl)
    (hx.window (k := 256) (l := 128) 0 640 inb_S256x2048_S256x128_0_640 rfl)
    (hx.window (k := 256) (l := 128) 0 896 inb_S256x2048_S256x128_0_896 rfl)
    (hx.window (k := 256) (l := 128) 0 1152 inb_S256x2048_S256x128_0_1152 rfl)
    (hx.window (k := 256) (l := 128) 0 1408 inb_S256x2048_S256x128_0_1408 rfl)
    (hx.window (k := 256) (l := 128) 0 1664 inb_S256x2048_S256x128_0_1664 rfl)
    (hx.window (k := 256) (l := 128) 0 1920 inb_S256x2048_S256x128_0_1920 rfl)
    ((ha.window (k := 256) (l := 128) 0 0 inb_S256x128_S256x128_0_0 rfl).congr (B := A) (by intro i _ j _; rw [Nat.zero_add, Nat.zero_add]))
    ((hb.window (k := 256) (l := 128) 0 0 inb_S256x128_S256x128_0_0 rfl).congr (B := B) (by intro i _ j _; rw [Nat.zero_add, Nat.zero_add]))
    ((hc.window (k := 256) (l := 128) 0 0 inb_S256x128_S256x128_0_0 rfl).congr (B := C) (by intro i _ j _; rw [Nat.zero_add, Nat.zero_add]))
  let g : ℕ → ℕ → Elt Ideal .bf16 := fun i j => ((rotated 128 (sharedSum DK) A B C i j : ℝ) : EReal)
  refine pieces_cons g 0 0 _ rfl _ (fun i j => (hr i j).trans ?_) (fun y => View.allAt_nil y _) z
  simp only [Nat.zero_add, g]
  rfl

variable (Z : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

/-- The rotary call of the queries, over whole arrays. -/
theorem final0 {c : Dev nD} {X A B C : ℕ → ℕ → ℝ} (hX : @Holds 8192 2048 (Z c main_v46) X) (hA : @Holds 8192 256 (Z c main_v2) A) (hB : @Holds 8192 256 (Z c main_v5) B) (hC : @Holds 8192 256 (Z c main_v9) C) :
    @Holds 8192 2048 ((dat0 Z c).arrAt 4 cfg0.N) (headsRotated X A B C) := by
  refine Holds.of (congrFun ((dat0 Z c).arrAt_eq_of_covers 4 _ (by decide +kernel) fun t _ y => ?_))
  blk_simp; rw [after0_4]
  refine ((out0 (blk_of hX t.val t.isLt (by intro i j; blk_point [iblk0, idx0 t])) (blk_of hA t.val t.isLt (by intro i j; blk_point [iblk0, idx0 t])) (blk_of hB t.val t.isLt (by intro i j; blk_point [iblk0, idx0 t])) (blk_of hC t.val t.isLt (by intro i j; blk_point [iblk0, idx0 t]))).at y).trans ?_
  have e := (idx0 t).2.2.2.2
  rw [e]
  simp [headsRotated, rotated, Nat.mul_comm]

theorem idx1 : ∀ t : Fin cfg1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] :=
  (by decide +kernel : ∀ t : Fin grid1.N, _)

/-- The call that assembles the keys, over whole arrays. -/
theorem final1 {c : Dev nD} {KV X A B C : ℕ → ℕ → ℝ} (hKV : @Holds 8192 2048 (Z c main_arg1) KV) (hX : @Holds 8192 128 (Z c main_v48) X) (hA : @Holds 8192 128 (Z c main_v24) A) (hB : @Holds 8192 128 (Z c main_v27) B) (hC : @Holds 8192 128 (Z c main_v31) C) :
    @Holds 8192 2048 ((dat1 Z c).arrAt 5 cfg1.N) (fullKeys KV (rotated 128 X A B C)) := by
  refine Holds.of (congrFun ((dat1 Z c).arrAt_eq_of_covers 5 _ (by decide +kernel) fun t _ y => ?_))
  blk_simp; rw [after1_5]
  refine ((out1 (blk_of hKV t.val t.isLt (by intro i j; blk_point [iblk1, idx1 t])) (blk_of hX t.val t.isLt (by intro i j; blk_point [iblk1, idx1 t])) (blk_of hA t.val t.isLt (by intro i j; blk_point [iblk1, idx1 t])) (blk_of hB t.val t.isLt (by intro i j; blk_point [iblk1, idx1 t])) (blk_of hC t.val t.isLt (by intro i j; blk_point [iblk1, idx1 t]))).at y).trans ?_
  have e := (idx1 t).2.2.2.2.2
  rw [e]
  simp [fullKeys, rotated, Nat.mul_comm]

theorem idx3 : ∀ t : Fin cfg3.N, win3_0.index t = ![t.val, 0] ∧ win3_1.index t = ![t.val, 0] ∧ win3_2.index t = ![t.val, 0] :=
  (by decide +kernel : ∀ t : Fin grid3.N, _)

/-- The call of the row sums, over whole arrays. -/
theorem final3 {c : Dev nD} {X Y : ℕ → ℕ → ℝ} (hX : @Holds 8192 1024 (Z c main_arg5) X) (hY : @Holds 8192 1024 (Z c main_v50_0) Y) :
    @Holds 8192 1024 ((dat3 Z c).arrAt 2 cfg3.N) (headSums X Y) := by
  refine Holds.of (congrFun ((dat3 Z c).arrAt_eq_of_covers 2 _ (by decide +kernel) fun t _ y => ?_))
  blk_simp; rw [after3_2]
  refine ((out3 (blk_of hX t.val t.isLt (by intro i j; blk_point [iblk3, idx3 t])) (blk_of hY t.val t.isLt (by intro i j; blk_point [iblk3, idx3 t]))).at y).trans ?_
  have e := (idx3 t).2.2
  rw [e]
  simp [headSums, Nat.mul_comm]

theorem idx6 : ∀ t : Fin cfg6.N, win6_0.index t = ![t.val, 0] ∧ win6_1.index t = ![t.val, 0] ∧ win6_2.index t = ![t.val, 0] ∧ win6_3.index t = ![t.val, 0] ∧ win6_4.index t = ![t.val, 0] :=
  (by decide +kernel : ∀ t : Fin grid6.N, _)

/-- The rotary call of the queries' gradient, over whole arrays. -/
theorem final6 {c : Dev nD} {X A B C : ℕ → ℕ → ℝ} (hX : @Holds 8192 2048 (Z c main_v52) X) (hA : @Holds 8192 256 (Z c main_v12) A) (hB : @Holds 8192 256 (Z c main_v20) B) (hC : @Holds 8192 256 (Z c main_v21) C) :
    @Holds 8192 2048 ((dat6 Z c).arrAt 4 cfg6.N) (headsRotated X A B C) := by
  refine Holds.of (congrFun ((dat6 Z c).arrAt_eq_of_covers 4 _ (by decide +kernel) fun t _ y => ?_))
  blk_simp; rw [after6_4]
  refine ((out0 (blk_of hX t.val t.isLt (by intro i j; blk_point [iblk6, idx6 t])) (blk_of hA t.val t.isLt (by intro i j; blk_point [iblk6, idx6 t])) (blk_of hB t.val t.isLt (by intro i j; blk_point [iblk6, idx6 t])) (blk_of hC t.val t.isLt (by intro i j; blk_point [iblk6, idx6 t]))).at y).trans ?_
  have e := (idx6 t).2.2.2.2
  rw [e]
  simp [headsRotated, rotated, Nat.mul_comm]

theorem idx7 : ∀ t : Fin cfg7.N, win7_0.index t = ![t.val, 0] ∧ win7_1.index t = ![t.val, 0] ∧ win7_2.index t = ![t.val, 0] ∧ win7_3.index t = ![t.val, 0] ∧ win7_4.index t = ![t.val, 0] ∧ win7_5.index t = ![t.val, 0] ∧ win7_6.index t = ![t.val, 0] :=
  (by decide +kernel : ∀ t : Fin grid7.N, _)

/-- The gradient of keys and values the last call leaves. -/
theorem final7_kv {c : Dev nD} {DK DV : ℕ → ℕ → ℝ} (hDK : @Holds 8192 2048 (Z c main_v59_0) DK) (hDV : @Holds 8192 1024 (Z c main_v59_1) DV) :
    @Holds 8192 2048 ((dat7 Z c).arrAt 5 cfg7.N) (packed DK DV) := by
  refine Holds.of (congrFun ((dat7 Z c).arrAt_eq_of_covers 5 _ (by decide +kernel) fun t _ y => ?_))
  blk_simp; rw [after7_5]
  refine ((out7_kv (blk_of hDK t.val t.isLt (by intro i j; blk_point [iblk7, idx7 t])) (blk_of hDV t.val t.isLt (by intro i j; blk_point [iblk7, idx7 t]))).at y).trans ?_
  have e := (idx7 t).2.2.2.2.2.1
  rw [e]
  simp [packed, Nat.mul_comm]

/-- The gradient of the shared part of the keys the last call leaves. -/
theorem final7_rope {c : Dev nD} {DK A B C : ℕ → ℕ → ℝ} (hDK : @Holds 8192 2048 (Z c main_v59_0) DK) (hA : @Holds 8192 128 (Z c main_v34) A) (hB : @Holds 8192 128 (Z c main_v42) B) (hC : @Holds 8192 128 (Z c main_v43) C) :
    @Holds 8192 128 ((dat7 Z c).arrAt 6 cfg7.N) (rotated 128 (sharedSum DK) A B C) := by
  refine Holds.of (congrFun ((dat7 Z c).arrAt_eq_of_covers 6 _ (by decide +kernel) fun t _ y => ?_))
  blk_simp; rw [after7_6]
  refine ((out7_rope (blk_of hDK t.val t.isLt (by intro i j; blk_point [iblk7, idx7 t])) (blk_of hA t.val t.isLt (by intro i j; blk_point [iblk7, idx7 t])) (blk_of hB t.val t.isLt (by intro i j; blk_point [iblk7, idx7 t])) (blk_of hC t.val t.isLt (by intro i j; blk_point [iblk7, idx7 t]))).at y).trans ?_
  have e := (idx7 t).2.2.2.2.2.2
  rw [e]
  simp [rotated, sharedSum, Nat.mul_comm]

end Cert.KernelIdeal.Value
end
-- ==== Proof.Attn.Host.lean ====
/- What the host lines of the latent attention's program leave, over arrays of real numbers. -/
module

public import proofs.«01_k».proof.Proof.Attn.Rot

@[expose] public section

set_option maxRecDepth 16384

noncomputable section

open Idealize.ShloMosaic Idealize.ShloMosaic.TcCoe Idealize.SL.Sem

namespace Cert.KernelIdeal.Value
open Cert.KernelIdeal Cert.KernelIdeal.Gen Cert.Attn

variable (m : (ℓ : Loc nD τ sig) → Buf (Elt Ideal) ℓ) (ρ : Dev nD → PrngReg) (c : Dev nD)

/-- The cosine table of a head of 256 columns. -/
def cosines256 (x : FVec Ideal S8192x32 .f32) : FVec Ideal S8192x256 .f32 :=
  concatenate S8192x256 1 [⟨S8192x128, broadcastInDim S8192x128 ![] bcast_S_S8192x128 (constant (F := Ideal) S_ .f32 1065353216#32)⟩, ⟨S8192x32, x⟩, ⟨S8192x32, x⟩, ⟨S8192x64, broadcastInDim S8192x64 ![] bcast_S_S8192x64 (constant (F := Ideal) S_ .f32 0#32)⟩] concatenates_S8192x128_S8192x32_S8192x32_S8192x64_S8192x256_d1

/-- Its entries. -/
def cos256 (X : ℕ → ℕ → ℝ) (i j : ℕ) : ℝ := if j < 128 then 1 else if j - 128 < 32 then X i (j - 128) else if j - 128 - 32 < 32 then X i (j - 128 - 32) else 0

theorem cosines256_holds {x : FVec Ideal S8192x32 .f32} {X : ℕ → ℕ → ℝ} (hx : @Holds 8192 32 x X) : @Holds 8192 256 (cosines256 x) (cos256 X) := by
  intro i j
  have hj := j.isLt
  pointwise [cosines256, cos256]
  simp only [hx.at]
  split_ifs <;> first | omega | rfl | simp

/-- The sine table of the entries 32 places before. -/
def up256 (x : FVec Ideal S8192x32 .f32) : FVec Ideal S8192x256 .f32 :=
  concatenate S8192x256 1 [⟨S8192x160, broadcastInDim S8192x160 ![] bcast_S_S8192x160 (constant (F := Ideal) S_ .f32 0#32)⟩, ⟨S8192x32, x⟩, ⟨S8192x64, broadcastInDim S8192x64 ![] bcast_S_S8192x64 (constant (F := Ideal) S_ .f32 0#32)⟩] concatenates_S8192x160_S8192x32_S8192x64_S8192x256_d1

/-- Its entries. -/
def sinUp256 (X : ℕ → ℕ → ℝ) (i j : ℕ) : ℝ := if j < 160 then 0 else if j - 160 < 32 then X i (j - 160) else 0

theorem up256_holds {x : FVec Ideal S8192x32 .f32} {X : ℕ → ℕ → ℝ} (hx : @Holds 8192 32 x X) : @Holds 8192 256 (up256 x) (sinUp256 X) := by
  intro i j
  have hj := j.isLt
  pointwise [up256, sinUp256]
  simp only [hx.at]
  split_ifs <;> first | omega | rfl | simp

/-- The sine table of the entries 32 places after. -/
def down256 (x : FVec Ideal S8192x32 .f32) : FVec Ideal S8192x256 .f32 :=
  concatenate S8192x256 1 [⟨S8192x128, broadcastInDim S8192x128 ![] bcast_S_S8192x128 (constant (F := Ideal) S_ .f32 0#32)⟩, ⟨S8192x32, negf x⟩, ⟨S8192x96, broadcastInDim S8192x96 ![] bcast_S_S8192x96 (constant (F := Ideal) S_ .f32 0#32)⟩] concatenates_S8192x128_S8192x32_S8192x96_S8192x256_d1

/-- Its entries. -/
def sinDown256 (X : ℕ → ℕ → ℝ) (i j : ℕ) : ℝ := if j < 128 then 0 else if j - 128 < 32 then -X i (j - 128) else 0

theorem down256_holds {x : FVec Ideal S8192x32 .f32} {X : ℕ → ℕ → ℝ} (hx : @Holds 8192 32 x X) : @Holds 8192 256 (down256 x) (sinDown256 X) := by
  intro i j
  have hj := j.isLt
  pointwise [down256, sinDown256]
  simp only [hx.at]
  split_ifs <;> first | omega | rfl | simp

/-- The cosine table of the shared 128 columns. -/
def cosines128 (x : FVec Ideal S8192x32 .f32) : FVec Ideal S8192x128 .f32 :=
  concatenate S8192x128 1 [⟨S8192x0, broadcastInDim S8192x0 ![] bcast_S_S8192x0 (constant (F := Ideal) S_ .f32 1065353216#32)⟩, ⟨S8192x32, x⟩, ⟨S8192x32, x⟩, ⟨S8192x64, broadcastInDim S8192x64 ![] bcast_S_S8192x64 (constant (F := Ideal) S_ .f32 1065353216#32)⟩] concatenates_S8192x0_S8192x32_S8192x32_S8192x64_S8192x128_d1

/-- Its entries. -/
def cos128 (X : ℕ → ℕ → ℝ) (i j : ℕ) : ℝ := if j < 32 then X i j else if j - 32 < 32 then X i (j - 32) else 1

theorem cosines128_holds {x : FVec Ideal S8192x32 .f32} {X : ℕ → ℕ → ℝ} (hx : @Holds 8192 32 x X) : @Holds 8192 128 (cosines128 x) (cos128 X) := by
  intro i j
  have hj := j.isLt
  pointwise [cosines128, cos128]
  simp only [hx.at]
  split_ifs <;> first | omega | rfl | simp

/-- The sine table there of the entries 32 places before. -/
def up128 (x : FVec Ideal S8192x32 .f32) : FVec Ideal S8192x128 .f32 :=
  concatenate S8192x128 1 [⟨S8192x32, broadcastInDim S8192x32 ![] bcast_S_S8192x32 (constant (F := Ideal) S_ .f32 0#32)⟩, ⟨S8192x32, x⟩, ⟨S8192x64, broadcastInDim S8192x64 ![] bcast_S_S8192x64 (constant (F := Ideal) S_ .f32 0#32)⟩] concatenates_S8192x32_S8192x32_S8192x64_S8192x128_d1

/-- Its entries. -/
def sinUp128 (X : ℕ → ℕ → ℝ) (i j : ℕ) : ℝ := if j < 32 then 0 else if j - 32 < 32 then X i (j - 32) else 0

theorem up128_holds {x : FVec Ideal S8192x32 .f32} {X : ℕ → ℕ → ℝ} (hx : @Holds 8192 32 x X) : @Holds 8192 128 (up128 x) (sinUp128 X) := by
  intro i j
  have hj := j.isLt
  pointwise [up128, sinUp128]
  simp only [hx.at]
  split_ifs <;> first | omega | rfl | simp

/-- The sine table there of the entries 32 places after. -/
def down128 (x : FVec Ideal S8192x32 .f32) : FVec Ideal S8192x128 .f32 :=
  concatenate S8192x128 1 [⟨S8192x0, broadcastInDim S8192x0 ![] bcast_S_S8192x0 (constant (F := Ideal) S_ .f32 0#32)⟩, ⟨S8192x32, negf x⟩, ⟨S8192x96, broadcastInDim S8192x96 ![] bcast_S_S8192x96 (constant (F := Ideal) S_ .f32 0#32)⟩] concatenates_S8192x0_S8192x32_S8192x96_S8192x128_d1

/-- Its entries. -/
def sinDown128 (X : ℕ → ℕ → ℝ) (i j : ℕ) : ℝ := if j < 32 then -X i j else 0

theorem down128_holds {x : FVec Ideal S8192x32 .f32} {X : ℕ → ℕ → ℝ} (hx : @Holds 8192 32 x X) : @Holds 8192 128 (down128 x) (sinDown128 X) := by
  intro i j
  have hj := j.isLt
  pointwise [down128, sinDown128]
  simp only [hx.at]
  split_ifs <;> first | omega | rfl | simp

/-- An array's columns moved 32 places on. -/
def forth256 (x : FVec Ideal S8192x256 .f32) : FVec Ideal S8192x256 .f32 :=
  concatenate S8192x256 1 [⟨S8192x32, extractStridedSlice S8192x32 ![0, 224] x slices_S8192x256_S8192x32_0_224⟩, ⟨S8192x224, extractStridedSlice S8192x224 ![0, 0] x slices_S8192x256_S8192x224_0_0⟩] concatenates_S8192x32_S8192x224_S8192x256_d1

theorem forth256_holds {x : FVec Ideal S8192x256 .f32} {X : ℕ → ℕ → ℝ} (hx : @Holds 8192 256 x X) : @Holds 8192 256 (forth256 x) (fun i j => X i ((j + 224) % 256)) := by
  intro i j
  have hj := j.isLt
  pointwise [forth256]
  split_ifs <;> (rw [hx]; congr 2; simp; omega)

/-- An array's columns moved 32 places back. -/
def back256 (x : FVec Ideal S8192x256 .f32) : FVec Ideal S8192x256 .f32 :=
  concatenate S8192x256 1 [⟨S8192x224, extractStridedSlice S8192x224 ![0, 32] x slices_S8192x256_S8192x224_0_32⟩, ⟨S8192x32, extractStridedSlice S8192x32 ![0, 0] x slices_S8192x256_S8192x32_0_0⟩] concatenates_S8192x224_S8192x32_S8192x256_d1

theorem back256_holds {x : FVec Ideal S8192x256 .f32} {X : ℕ → ℕ → ℝ} (hx : @Holds 8192 256 x X) : @Holds 8192 256 (back256 x) (fun i j => X i ((j + 32) % 256)) := by
  intro i j
  have hj := j.isLt
  pointwise [back256]
  split_ifs <;> (rw [hx]; congr 2; simp; omega)

/-- The same of 128 columns. -/
def forth128 (x : FVec Ideal S8192x128 .f32) : FVec Ideal S8192x128 .f32 :=
  concatenate S8192x128 1 [⟨S8192x32, extractStridedSlice S8192x32 ![0, 96] x slices_S8192x128_S8192x32_0_96⟩, ⟨S8192x96, extractStridedSlice S8192x96 ![0, 0] x slices_S8192x128_S8192x96_0_0⟩] concatenates_S8192x32_S8192x96_S8192x128_d1

theorem forth128_holds {x : FVec Ideal S8192x128 .f32} {X : ℕ → ℕ → ℝ} (hx : @Holds 8192 128 x X) : @Holds 8192 128 (forth128 x) (fun i j => X i ((j + 96) % 128)) := by
  intro i j
  have hj := j.isLt
  pointwise [forth128]
  split_ifs <;> (rw [hx]; congr 2; simp; omega)

/-- The same of 128 columns, back. -/
def back128 (x : FVec Ideal S8192x128 .f32) : FVec Ideal S8192x128 .f32 :=
  concatenate S8192x128 1 [⟨S8192x96, extractStridedSlice S8192x96 ![0, 32] x slices_S8192x128_S8192x96_0_32⟩, ⟨S8192x32, extractStridedSlice S8192x32 ![0, 0] x slices_S8192x128_S8192x32_0_0⟩] concatenates_S8192x96_S8192x32_S8192x128_d1

theorem back128_holds {x : FVec Ideal S8192x128 .f32} {X : ℕ → ℕ → ℝ} (hx : @Holds 8192 128 x X) : @Holds 8192 128 (back128 x) (fun i j => X i ((j + 32) % 128)) := by
  intro i j
  have hj := j.isLt
  pointwise [back128]
  split_ifs <;> (rw [hx]; congr 2; simp; omega)

end Cert.KernelIdeal.Value
end
-- ==== Proof.Attn.Dq.lean ====
/- The dq call of the latent attention: what a grid point's loop over the key tiles and its diagonal tile leave in the
   output block, and the whole array, over arrays of real numbers. -/
module

public import proofs.«01_k».proof.Proof.Attn.Real
public import proofs.«01_k».proof.Proof.Gen.KernelIdeal.Frame.Region4

@[expose] public section
set_option maxRecDepth 16384
noncomputable section
open Idealize.ShloMosaic Idealize.ShloMosaic.TcCoe Idealize.SL.Sem
namespace Cert.KernelIdeal.Value
open Cert.KernelIdeal Cert.KernelIdeal.Gen
theorem trips4 : ∀ i : grid4.Coords, (k4_t1_loop i).trips = (i 1).val := by decide +kernel
theorem off4_1 : ∀ (i : grid4.Coords) (k : Fin (k4_t1_loop i).trips), k4_off1 i k = ![512 * k.val, 0] := by decide +kernel
theorem off4_2 : ∀ (i : grid4.Coords) (k : Fin (k4_t1_loop i).trips), k4_off2 i k = ![512 * k.val, 0] := by decide +kernel
theorem off4_3 : ∀ (i : grid4.Coords) (k : Fin (k4_t1_loop i).trips), k4_off3 i k = ![512 * k.val, 256] := by decide +kernel
theorem off4_7 : ∀ (i : grid4.Coords), k4_off7 i = ![512 * (i 1).val, 0] := by decide +kernel
theorem off4_8 : ∀ (i : grid4.Coords), k4_off8 i = ![512 * (i 1).val, 0] := by decide +kernel
theorem off4_9 : ∀ (i : grid4.Coords), k4_off9 i = ![512 * (i 1).val, 256] := by decide +kernel

open Cert.Attn

theorem pay4_2 {K Q : ℕ → ℕ → ℝ} {L D : ℕ → ℝ} {G V A : ℕ → ℕ → ℝ} {v90 v92 : Vec Ideal S512x256 .bf16} {v97 : Vec Ideal S512x128 .f32} {v102 v104 : Vec Ideal S512x128 .bf16} {v106 : Vec Ideal S512x128 .f32} {v113 : Vec Ideal S512x256 .f32}
    (h90 : Holds v90 K) (h92 : Holds v92 Q) (h97 : Holds v97 fun i _ => L i) (h102 : Holds v102 G) (h104 : Holds v104 V) (h106 : Holds v106 fun i _ => D i) (h113 : Holds v113 A) :
    Holds (k4_pay2 v90 v92 v97 v102 v104 v106 v113) (fun a c => A a c + ∑ b : Fin 512, dsP (expP Q K L) G V D a b * K b c) := by
  intro a c
  pointwise [k4_pay2]
  simp only [h90 _ _, h92 _ _, h97 _ _, h102 _ _, h104 _ _, h106 _ _, h113 _ _, sigma_real, dite_eq_ite, ite_self, Finite.coe_dot, ← EReal.coe_mul, ← EReal.coe_sub, Ideal.exp_coe, Finite.coe_sum, ← EReal.coe_add]
  rfl

theorem pay4_3 {K : ℕ → ℕ → ℝ} {v : Vec Ideal S512x256 .bf16} (h : Holds v K) : Holds (k4_pay3 v) K := by
  intro a c
  pointwise [k4_pay3]
  exact h a c

theorem pay4_7 {K Q : ℕ → ℕ → ℝ} {L D : ℕ → ℝ} {G V A : ℕ → ℕ → ℝ} {v121 v122 : Vec Ideal S512x256 .bf16} {v127 : Vec Ideal S512x128 .f32} {v132 v134 : Vec Ideal S512x128 .bf16} {v136 : Vec Ideal S512x128 .f32} {v143 : Vec Ideal S512x256 .f32}
    (h121 : Holds v121 K) (h122 : Holds v122 Q) (h127 : Holds v127 fun i _ => L i) (h132 : Holds v132 G) (h134 : Holds v134 V) (h136 : Holds v136 fun i _ => D i) (h143 : Holds v143 A) :
    Holds (k4_pay7 v121 v122 v127 v132 v134 v136 v143) (fun a c => A a c + ∑ b : Fin 512, dsP (expP Q K L) G V D a b * K b c) := by
  intro a c
  pointwise [k4_pay7]
  simp only [h121 _ _, h122 _ _, h127 _ _, h132 _ _, h134 _ _, h136 _ _, h143 _ _, sigma_real, dite_eq_ite, ite_self, Finite.coe_dot, ← EReal.coe_mul, ← EReal.coe_sub, Ideal.exp_coe, Finite.coe_sum, ← EReal.coe_add]
  rfl

theorem mask_bot : Named.named (F := Ideal) κ (φ := .f32) "mask" 4048155338#32 = (⊥ : EReal) := by
  simp [Named.named, κ]

theorem pay4_10 {K Q : ℕ → ℕ → ℝ} {L : ℕ → ℝ} {v10 v12 : Vec Ideal S512x256 .bf16} {v26 : Vec Ideal S512x128 .f32}
    (h10 : Holds v10 K) (h12 : Holds v12 Q) (h26 : Holds v26 fun i _ => L i) :
    Holds (k4_pay10 v10 v12 v26) (fun a b => if b ≤ a then expP Q K L a b else 0) := by
  intro a c
  pointwise [k4_pay10, k4_pay9]
  simp only [h10 _ _, h12 _ _, h26 _ _, sigma_real, dite_eq_ite, ite_self, Finite.coe_dot, ← EReal.coe_mul, Finite.coe_sum, causal_select, mask_bot]
  split
  · simp only [← EReal.coe_sub, Ideal.exp_coe]; rfl
  · simp only [EReal.bot_sub, Ideal.exp_bot, EReal.coe_zero]

theorem pay4_11 {P K : ℕ → ℕ → ℝ} {D : ℕ → ℝ} {G V A : ℕ → ℕ → ℝ} {v11 : Vec Ideal S512x256 .bf16} {v30 : Vec Ideal S512x512 .f32} {v31 v33 : Vec Ideal S512x128 .bf16} {v35 : Vec Ideal S512x128 .f32} {v42 : Vec Ideal S512x256 .f32}
    (h11 : Holds v11 K) (h30 : Holds v30 P) (h31 : Holds v31 G) (h33 : Holds v33 V) (h35 : Holds v35 fun i _ => D i) (h42 : Holds v42 A) :
    Holds (k4_pay11 v11 v30 v31 v33 v35 v42) (fun a c => A a c + ∑ b : Fin 512, dsP P G V D a b * K b c) := by
  intro a c
  pointwise [k4_pay11]
  simp only [h11 _ _, h30 _ _, h31 _ _, h33 _ _, h35 _ _, h42 _ _, sigma_real, dite_eq_ite, ite_self, Finite.coe_dot, ← EReal.coe_mul, ← EReal.coe_sub, Ideal.exp_coe, Finite.coe_sum, ← EReal.coe_add]
  rfl

theorem pay4_1 {P K : ℕ → ℕ → ℝ} {D : ℕ → ℝ} {G V A : ℕ → ℕ → ℝ} {v50 : Vec Ideal S512x256 .bf16} {v69 : Vec Ideal S512x512 .f32} {v70 v72 : Vec Ideal S512x128 .bf16} {v74 : Vec Ideal S512x128 .f32} {v81 : Vec Ideal S512x256 .f32}
    (h50 : Holds v50 K) (h69 : Holds v69 P) (h70 : Holds v70 G) (h72 : Holds v72 V) (h74 : Holds v74 fun i _ => D i) (h81 : Holds v81 A) :
    Holds (k4_pay1 v50 v69 v70 v72 v74 v81) (fun a c => A a c + ∑ b : Fin 512, dsP P G V D a b * K b c) := by
  intro a c
  pointwise [k4_pay1]
  simp only [h50 _ _, h69 _ _, h70 _ _, h72 _ _, h74 _ _, h81 _ _, sigma_real, dite_eq_ite, ite_self, Finite.coe_dot, ← EReal.coe_mul, ← EReal.coe_sub, Ideal.exp_coe, Finite.coe_sum, ← EReal.coe_add]
  rfl

theorem pay4_9 {K : ℕ → ℕ → ℝ} {v : Vec Ideal S512x256 .bf16} (h : Holds v K) : Holds (k4_pay9 v) K := by
  intro a c
  pointwise [k4_pay9]
  exact h a c

theorem pay4_12 {K : ℕ → ℕ → ℝ} {v : Vec Ideal S512x256 .bf16} (h : Holds v K) : Holds (k4_pay12 v) K := by
  intro a c
  pointwise [k4_pay12]
  exact h a c

theorem pay4_13 {K Q : ℕ → ℕ → ℝ} {L : ℕ → ℝ} {v49 v51 : Vec Ideal S512x256 .bf16} {v65 : Vec Ideal S512x128 .f32}
    (h49 : Holds v49 K) (h51 : Holds v51 Q) (h65 : Holds v65 fun i _ => L i) :
    Holds (k4_pay13 v49 v51 v65) (fun a b => if b ≤ a then expP Q K L a b else 0) := by
  intro a c
  pointwise [k4_pay13, k4_pay12]
  simp only [h49 _ _, h51 _ _, h65 _ _, sigma_real, dite_eq_ite, ite_self, Finite.coe_dot, ← EReal.coe_mul, Finite.coe_sum, causal_select, mask_bot]
  split
  · simp only [← EReal.coe_sub, Ideal.exp_coe]; rfl
  · simp only [EReal.bot_sub, Ideal.exp_bot, EReal.coe_zero]

theorem pay4_6 : Holds (k4_pay6 (F := Ideal)) (fun _ _ => 0) := by
  intro a c
  pointwise [k4_pay6]
  simp

theorem trips4_2 : ∀ i : grid4.Coords, (k4_t2_loop i).trips = 0 := by decide +kernel

variable (c : Dev nD) (i : grid4.Coords) (arg2 : Memref sig .tc .vmem S512x512 .bf16) (harg2 : arg2.IsWhole) (arg3 : Memref sig .tc .vmem S8192x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x512 .f32) (harg9 : arg9.IsWhole)
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
  {Q K G : ℕ → ℕ → ℝ} {V : ℕ → ℕ → ℕ → ℝ} {L D A : ℕ → ℕ → ℝ}

theorem trip4 (𝒱 : Variants) (bd : Option 𝒱.V) (k : Fin (k4_t1_loop i).trips) (f : BufTy.Contents (Elt Ideal) arg9.view.ty)
    (h2 : Holds (arg2.view.read (Elt Ideal) X2) Q) (h3 : Holds (arg3.view.read (Elt Ideal) X3) K)
    (h4 : Holds (arg4.view.read (Elt Ideal) X4) (V 0)) (h5 : Holds (arg5.view.read (Elt Ideal) X5) (V 1)) (h6 : Holds (arg6.view.read (Elt Ideal) X6) G)
    (h7 : Holds (arg7.view.read (Elt Ideal) X7) fun a j => L a (j / 128)) (h8 : Holds (arg8.view.read (Elt Ideal) X8) fun a j => D a (j / 128))
    (hA : Holds (arg9.view.read (Elt Ideal) f) A) :
    Holds (arg9.view.read (Elt Ideal) (arg9.view.writes (Elt Ideal) f ((trip_k4_t1 𝒱 c bd i arg2 harg2 arg3 harg3 arg4 harg4 arg5 harg5 arg6 harg6 arg7 harg7 arg8 harg8 arg9 harg9 X2 X3 X4 X5 X6 X7 X8 k).1 f)))
      (fun a c => A a c + ∑ b : Fin 512, dsAt Q K G V L D (c / 256) a (512 * k.val + b) * K (512 * k.val + b) c) := by
  unfold trip_k4_t1
  dsimp only
  have p1 := Holds.write_cons arg9.view f [] 0 0 inb_S512x512_S512x256_0_0 rfl _ (pay4_2 (L := fun a => L a 0) (D := fun a => D a 0) (h3.window _ _ (k4_off1_inb i k) (off4_1 i k)) (h2.window 0 0 inb_S512x512_S512x256_0_0 rfl)
      ((h7.window 0 0 inb_S512x256_S512x128_0_0 rfl).congr (by intro a _ j hj; rw [Nat.zero_add, Nat.zero_add, Nat.div_eq_of_lt hj])) (h6.window 0 0 inb_S512x256_S512x128_0_0 rfl) (h4.window _ _ (k4_off2_inb i k) (off4_2 i k))
      ((h8.window 0 0 inb_S512x256_S512x128_0_0 rfl).congr (by intro a _ j hj; rw [Nat.zero_add, Nat.zero_add, Nat.div_eq_of_lt hj])) (hA.window 0 0 inb_S512x512_S512x256_0_0 rfl)) hA
  have p2 := Holds.write_cons arg9.view f _ 0 256 inb_S512x512_S512x256_0_256 rfl _ (pay4_7 (L := fun a => L a 1) (D := fun a => D a 1) (pay4_3 (h3.window _ _ (k4_off3_inb i k) (off4_3 i k))) (h2.window 0 256 inb_S512x512_S512x256_0_256 rfl)
      ((h7.window 0 128 inb_S512x256_S512x128_0_128 rfl).congr (by intro a _ j hj; rw [Nat.zero_add]; congr 1; omega)) (h6.window 0 128 inb_S512x256_S512x128_0_128 rfl) (h5.window _ _ (k4_off2_inb i k) (off4_2 i k))
      ((h8.window 0 128 inb_S512x256_S512x128_0_128 rfl).congr (by intro a _ j hj; rw [Nat.zero_add]; congr 1; omega)) (hA.window 0 256 inb_S512x512_S512x256_0_256 rfl)) p1
  refine Holds.congr p2 ?_
  intro a ha j hj
  by_cases h : 256 ≤ j
  · rw [if_pos ⟨by omega, by omega, h, by omega⟩, show j / 256 = 1 by omega, show 256 + (j - 256) = j by omega]
    simp only [dsAt, dsH, expH, dsP, expP, Nat.zero_add, Nat.mul_one, Nat.sub_zero]
  · rw [if_neg (by omega), if_pos ⟨by omega, by omega, by omega, by omega⟩, show j / 256 = 0 by omega]
    simp only [dsAt, dsH, expH, dsP, expP, Nat.zero_add, Nat.mul_zero, Nat.sub_zero]

theorem loop4 (𝒱 : Variants) (bd : Option 𝒱.V) (f : BufTy.Contents (Elt Ideal) arg9.view.ty)
    (h2 : Holds (arg2.view.read (Elt Ideal) X2) Q) (h3 : Holds (arg3.view.read (Elt Ideal) X3) K)
    (h4 : Holds (arg4.view.read (Elt Ideal) X4) (V 0)) (h5 : Holds (arg5.view.read (Elt Ideal) X5) (V 1)) (h6 : Holds (arg6.view.read (Elt Ideal) X6) G)
    (h7 : Holds (arg7.view.read (Elt Ideal) X7) fun a j => L a (j / 128)) (h8 : Holds (arg8.view.read (Elt Ideal) X8) fun a j => D a (j / 128))
    (hA : Holds (arg9.view.read (Elt Ideal) f) A) : ∀ n ≤ (k4_t1_loop i).trips,
    Holds (arg9.view.read (Elt Ideal) (arg9.view.writes (Elt Ideal) f (pb_k4_t1 𝒱 c bd i arg2 harg2 arg3 harg3 arg4 harg4 arg5 harg5 arg6 harg6 arg7 harg7 arg8 harg8 arg9 harg9 X2 X3 X4 X5 X6 X7 X8 f n)))
      (fun a c => A a c + ∑ t ∈ Finset.range (512 * n), dsAt Q K G V L D (c / 256) a t * K t c)
  | 0, _ => hA.congr (by intro a _ j _; simp)
  | n + 1, hn => by
    rw [pb_k4_t1_succ 𝒱 c bd i arg2 harg2 arg3 harg3 arg4 harg4 arg5 harg5 arg6 harg6 arg7 harg7 arg8 harg8 arg9 harg9 X2 X3 X4 X5 X6 X7 X8 f ⟨n, hn⟩, View.writes_append]
    refine (trip4 c i arg2 harg2 arg3 harg3 arg4 harg4 arg5 harg5 arg6 harg6 arg7 harg7 arg8 harg8 arg9 harg9 𝒱 bd ⟨n, hn⟩ _ h2 h3 h4 h5 h6 h7 h8 (loop4 𝒱 bd f h2 h3 h4 h5 h6 h7 h8 hA n (by omega))).congr ?_
    intro a _ j _
    rw [show 512 * (n + 1) = 512 * n + 512 by omega, Finset.sum_range_add, ← add_assoc, Finset.sum_range (n := 512)]

/-- A query tile's gradient after its last key tile: all the keys up to the diagonal tile, and there the keys not later than the query. -/
def tileDq (Q K G : ℕ → ℕ → ℝ) (V : ℕ → ℕ → ℕ → ℝ) (L D : ℕ → ℕ → ℝ) (n : ℕ) (a c : ℕ) : ℝ :=
  (∑ t ∈ Finset.range (512 * n), dsAt Q K G V L D (c / 256) a t * K t c)
    + ∑ b : Fin 512, (if b.val ≤ a then dsAt Q K G V L D (c / 256) a (512 * n + b.val) else 0) * K (512 * n + b.val) c

theorem run4 (x0 : Vec Ideal S512x512 .bf16) (x1 : Vec Ideal S8192x512 .bf16) (x2 x3 : Vec Ideal S8192x128 .bf16) (x4 : Vec Ideal S512x256 .bf16) (x5 x6 : Vec Ideal S512x256 .f32)
    (h2 : Holds x0 Q) (h3 : Holds x1 K) (h4 : Holds x2 (V 0)) (h5 : Holds x3 (V 1)) (h6 : Holds x4 G)
    (h7 : Holds x5 fun a j => L a (j / 128)) (h8 : Holds x6 fun a j => D a (j / 128)) :
    Holds (arg9.view.read (Elt Ideal) (arg9.view.writes (Elt Ideal) arg9.view.junk (kernelRun4_A c i arg2 harg2 arg3 harg3 arg4 harg4 arg5 harg5 arg6 harg6 arg7 harg7 arg8 harg8 arg9 harg9 x0 x1 x2 x3 x4 x5 x6).1))
      (tileDq Q K G V L D (i 1).val) := by
  have r2 : Holds (arg2.view.read (Elt Ideal) (harg2.unread x0)) Q := by rw [harg2.read_unread]; exact h2
  have r3 : Holds (arg3.view.read (Elt Ideal) (harg3.unread x1)) K := by rw [harg3.read_unread]; exact h3
  have r4 : Holds (arg4.view.read (Elt Ideal) (harg4.unread x2)) (V 0) := by rw [harg4.read_unread]; exact h4
  have r5 : Holds (arg5.view.read (Elt Ideal) (harg5.unread x3)) (V 1) := by rw [harg5.read_unread]; exact h5
  have r6 : Holds (arg6.view.read (Elt Ideal) (harg6.unread x4)) G := by rw [harg6.read_unread]; exact h6
  have r7 : Holds (arg7.view.read (Elt Ideal) (harg7.unread x5)) fun a j => L a (j / 128) := by rw [harg7.read_unread]; exact h7
  have r8 : Holds (arg8.view.read (Elt Ideal) (harg8.unread x6)) fun a j => D a (j / 128) := by rw [harg8.read_unread]; exact h8
  have l0 := (r7.window 0 0 inb_S512x256_S512x128_0_0 rfl).congr (B := fun a _ => L a 0) (by intro a _ j hj; rw [Nat.zero_add, Nat.zero_add, Nat.div_eq_of_lt hj])
  have d0 := (r8.window 0 0 inb_S512x256_S512x128_0_0 rfl).congr (B := fun a _ => D a 0) (by intro a _ j hj; rw [Nat.zero_add, Nat.zero_add, Nat.div_eq_of_lt hj])
  have l1 := (r7.window 0 128 inb_S512x256_S512x128_0_128 rfl).congr (B := fun a _ => L a 1) (by intro a _ j hj; rw [Nat.zero_add]; congr 1; omega)
  have d1 := (r8.window 0 128 inb_S512x256_S512x128_0_128 rfl).congr (B := fun a _ => D a 1) (by intro a _ j hj; rw [Nat.zero_add]; congr 1; omega)
  have z : Holds (arg9.view.read (Elt Ideal) (arg9.view.writes (Elt Ideal) arg9.view.junk kernelRun4_A.sl.H7_1)) (fun _ _ => 0) := by
    intro a c
    unfold kernelRun4_A.sl.H7_1
    refine (View.read_writes_cons_unit_of_mem arg9.view _ inb_S512x512_S512x512_0_0 _ _ (ix2 a c) (ix2 a c) rfl (by intro x; fin_cases x <;> simp)).trans ?_
    exact pay4_6 a c
  have pl := loop4 c i arg2 harg2 arg3 harg3 arg4 harg4 arg5 harg5 arg6 harg6 arg7 harg7 arg8 harg8 arg9 harg9 Variants.none none _ r2 r3 r4 r5 r6 r7 r8 z _ le_rfl
  unfold kernelRun4_A
  dsimp only
  unfold kernelRun4_A.sl.v81 kernelRun4_A.sl.H7_1_1 kernelRun4_A.sl.v42
  rw [show Scf.trips (k4_t2_loop i).lb (k4_t2_loop i).ub (k4_t2_loop i).st = 0 from trips4_2 i]
  rw [pb_k4_t2.eq_1, List.nil_append]
  rw [← View.writes_append] at pl
  generalize pb_k4_t1 (F := Ideal) Variants.none c none i arg2 harg2 arg3 harg3 arg4 harg4 arg5 harg5 arg6 harg6 arg7 harg7 arg8 harg8 arg9 harg9 (harg2.unread x0) (harg3.unread x1) (harg4.unread x2) (harg5.unread x3)
    (harg6.unread x4) (harg7.unread x5) (harg8.unread x6) (arg9.view.writes (Elt Ideal) arg9.view.junk kernelRun4_A.sl.H7_1) (k4_t1_loop i).trips = P at pl ⊢
  have p1 := Holds.write_cons arg9.view _ _ 0 0 inb_S512x512_S512x256_0_0 rfl _ (pay4_11 (D := fun a => D a 0) (pay4_9 (r3.window _ _ (k4_off7_inb i) (off4_7 i)))
      (pay4_10 (L := fun a => L a 0) (r3.window _ _ (k4_off7_inb i) (off4_7 i)) (r2.window 0 0 inb_S512x512_S512x256_0_0 rfl) l0)
      (r6.window 0 0 inb_S512x256_S512x128_0_0 rfl) (r4.window _ _ (k4_off8_inb i) (off4_8 i)) d0 (pl.window 0 0 inb_S512x512_S512x256_0_0 rfl)) pl
  have p2 := Holds.write_cons arg9.view _ _ 0 256 inb_S512x512_S512x256_0_256 rfl _ (pay4_1 (D := fun a => D a 1) (pay4_12 (r3.window _ _ (k4_off9_inb i) (off4_9 i)))
      (pay4_13 (L := fun a => L a 1) (r3.window _ _ (k4_off9_inb i) (off4_9 i)) (r2.window 0 256 inb_S512x512_S512x256_0_256 rfl) l1)
      (r6.window 0 128 inb_S512x256_S512x128_0_128 rfl) (r5.window _ _ (k4_off8_inb i) (off4_8 i)) d1 (p1.window 0 256 inb_S512x512_S512x256_0_256 rfl)) p1
  refine Holds.congr p2 ?_
  intro a ha j hj
  rw [trips4 i]
  by_cases h : 256 ≤ j
  · rw [if_pos ⟨by omega, by omega, h, by omega⟩, if_neg (by omega), tileDq, show j / 256 = 1 by omega, show 256 + (j - 256) = j by omega, show j / 256 = 1 by omega]
    simp only [dsAt, dsH, expH, dsP, expP, Nat.zero_add, Nat.mul_one, Nat.sub_zero, zero_add, ite_mul, zero_mul]
  · rw [if_neg (by omega), if_pos ⟨by omega, by omega, by omega, by omega⟩, tileDq, show (0 + (j - 0)) / 256 = 0 by omega, show j / 256 = 0 by omega]
    simp only [dsAt, dsH, expH, dsP, expP, Nat.zero_add, Nat.mul_zero, Nat.sub_zero, zero_add, ite_mul, zero_mul]

theorem out4 (x0 : Vec Ideal S512x512 .bf16) (x1 : Vec Ideal S8192x512 .bf16) (x2 x3 : Vec Ideal S8192x128 .bf16) (x4 : Vec Ideal S512x256 .bf16) (x5 x6 : Vec Ideal S512x256 .f32)
    (h2 : Holds x0 Q) (h3 : Holds x1 K) (h4 : Holds x2 (V 0)) (h5 : Holds x3 (V 1)) (h6 : Holds x4 G)
    (h7 : Holds x5 fun a j => L a (j / 128)) (h8 : Holds x6 fun a j => D a (j / 128)) :
    Holds (out4_A_7 c i arg2 harg2 arg3 harg3 arg4 harg4 arg5 harg5 arg6 harg6 arg7 harg7 arg8 harg8 arg9 harg9 x0 x1 x2 x3 x4 x5 x6) (tileDq Q K G V L D (i 1).val) := by
  have h := run4 c i arg2 harg2 arg3 harg3 arg4 harg4 arg5 harg5 arg6 harg6 arg7 harg7 arg8 harg8 arg9 harg9 x0 x1 x2 x3 x4 x5 x6 h2 h3 h4 h5 h6 h7 h8
  have cov := cover4_A_7 c i arg2 harg2 arg3 harg3 arg4 harg4 arg5 harg5 arg6 harg6 arg7 harg7 arg8 harg8 arg9 harg9 x0 x1 x2 x3 x4 x5 x6
  rw [View.read_writes_eq_canon _ _ _ cov] at h
  rw [out4_A_7, View.read_writes_eq_canon _ _ _ cov]
  exact h

variable (W : (c : Dev nD) → (b : Ref sig .tc) → Buf (Elt Ideal) ((c : Thread nD τ).loc b))

theorem idx4 : ∀ t : Fin cfg4.N, win4_0.index t = ![t.val % 16, t.val / 16] ∧ win4_1.index t = ![0, t.val / 16] ∧ win4_2.index t = ![0, 4 * (t.val / 16) + 1] ∧ win4_3.index t = ![0, 4 * (t.val / 16) + 3]
    ∧ win4_4.index t = ![t.val % 16, t.val / 16] ∧ win4_5.index t = ![t.val % 16, t.val / 16] ∧ win4_6.index t = ![t.val % 16, t.val / 16] ∧ win4_7.index t = ![t.val % 16, t.val / 16] :=
  (by decide +kernel : ∀ t : Fin grid4.N, _)

theorem coord4 : ∀ t : Fin cfg4.N, (grid4.coords t 1).val = t.val % 16 := (by decide +kernel : ∀ t : Fin grid4.N, _)

theorem blk4_0 {c : Dev nD} {A : ℕ → ℕ → ℝ} (h : @Holds 8192 2048 (W c main_v47) A) (t : Fin cfg4.N) :
    @Holds 512 512 (iblk4 W c 0 t) fun i j => A (512 * (t.val % 16) + i) (512 * (t.val / 16) + j) := fun i j => by
  have hN : t.val < 64 := t.isLt
  exact Eq.trans (b := (W c main_v47 : (⟨2, ![8192, 2048]⟩ : Shape).Idx → EReal) (ix2 ⟨512 * (t.val % 16) + i.val, by omega⟩ ⟨512 * (t.val / 16) + j.val, by omega⟩))
    (by blk_point [iblk4, idx4 t]) (h _ _)

theorem blk4_1 {c : Dev nD} {A : ℕ → ℕ → ℝ} (h : @Holds 8192 2048 (W c main_v49) A) (t : Fin cfg4.N) :
    @Holds 8192 512 (iblk4 W c 1 t) fun i j => A (8192 * (0) + i) (512 * (t.val / 16) + j) := fun i j => by
  have hN : t.val < 64 := t.isLt
  exact Eq.trans (b := (W c main_v49 : (⟨2, ![8192, 2048]⟩ : Shape).Idx → EReal) (ix2 ⟨8192 * (0) + i.val, by omega⟩ ⟨512 * (t.val / 16) + j.val, by omega⟩))
    (by blk_point [iblk4, idx4 t]) (h _ _)

theorem blk4_2 {c : Dev nD} {A : ℕ → ℕ → ℝ} (h : @Holds 8192 2048 (W c main_arg1) A) (t : Fin cfg4.N) :
    @Holds 8192 128 (iblk4 W c 2 t) fun i j => A (8192 * (0) + i) (128 * (4 * (t.val / 16) + 1) + j) := fun i j => by
  have hN : t.val < 64 := t.isLt
  exact Eq.trans (b := (W c main_arg1 : (⟨2, ![8192, 2048]⟩ : Shape).Idx → EReal) (ix2 ⟨8192 * (0) + i.val, by omega⟩ ⟨128 * (4 * (t.val / 16) + 1) + j.val, by omega⟩))
    (by blk_point [iblk4, idx4 t]) (h _ _)

theorem blk4_3 {c : Dev nD} {A : ℕ → ℕ → ℝ} (h : @Holds 8192 2048 (W c main_arg1) A) (t : Fin cfg4.N) :
    @Holds 8192 128 (iblk4 W c 3 t) fun i j => A (8192 * (0) + i) (128 * (4 * (t.val / 16) + 3) + j) := fun i j => by
  have hN : t.val < 64 := t.isLt
  exact Eq.trans (b := (W c main_arg1 : (⟨2, ![8192, 2048]⟩ : Shape).Idx → EReal) (ix2 ⟨8192 * (0) + i.val, by omega⟩ ⟨128 * (4 * (t.val / 16) + 3) + j.val, by omega⟩))
    (by blk_point [iblk4, idx4 t]) (h _ _)

theorem blk4_4 {c : Dev nD} {A : ℕ → ℕ → ℝ} (h : @Holds 8192 1024 (W c main_arg5) A) (t : Fin cfg4.N) :
    @Holds 512 256 (iblk4 W c 4 t) fun i j => A (512 * (t.val % 16) + i) (256 * (t.val / 16) + j) := fun i j => by
  have hN : t.val < 64 := t.isLt
  exact Eq.trans (b := (W c main_arg5 : (⟨2, ![8192, 1024]⟩ : Shape).Idx → EReal) (ix2 ⟨512 * (t.val % 16) + i.val, by omega⟩ ⟨256 * (t.val / 16) + j.val, by omega⟩))
    (by blk_point [iblk4, idx4 t]) (h _ _)

theorem blk4_5 {c : Dev nD} {A : ℕ → ℕ → ℝ} (h : @Holds 8192 1024 (W c main_v50_1) A) (t : Fin cfg4.N) :
    @Holds 512 256 (iblk4 W c 5 t) fun i j => A (512 * (t.val % 16) + i) (256 * (t.val / 16) + j) := fun i j => by
  have hN : t.val < 64 := t.isLt
  exact Eq.trans (b := (W c main_v50_1 : (⟨2, ![8192, 1024]⟩ : Shape).Idx → EReal) (ix2 ⟨512 * (t.val % 16) + i.val, by omega⟩ ⟨256 * (t.val / 16) + j.val, by omega⟩))
    (by blk_point [iblk4, idx4 t]) (h _ _)

theorem blk4_6 {c : Dev nD} {A : ℕ → ℕ → ℝ} (h : @Holds 8192 1024 (W c main_v51) A) (t : Fin cfg4.N) :
    @Holds 512 256 (iblk4 W c 6 t) fun i j => A (512 * (t.val % 16) + i) (256 * (t.val / 16) + j) := fun i j => by
  have hN : t.val < 64 := t.isLt
  exact Eq.trans (b := (W c main_v51 : (⟨2, ![8192, 1024]⟩ : Shape).Idx → EReal) (ix2 ⟨512 * (t.val % 16) + i.val, by omega⟩ ⟨256 * (t.val / 16) + j.val, by omega⟩))
    (by blk_point [iblk4, idx4 t]) (h _ _)

/-- The gradient of the query over whole arrays: every key not later than the query, at the column's head. -/
def causalDq (Q K G KV L D : ℕ → ℕ → ℝ) (r c : ℕ) : ℝ :=
  ∑ t ∈ Finset.range (r + 1), dsAt Q K G (fun h t d => KV t (256 * h + 128 + d)) L D (c / 256) r t * K t c

/-- A sum over whole tiles and the part of one tile up to an entry is one sum up to that entry. -/
theorem sum_diag (f : ℕ → ℝ) (n a : ℕ) (ha : a < 512) :
    ∑ t ∈ Finset.range (512 * n), f t + ∑ b : Fin 512, (if b.val ≤ a then f (512 * n + b.val) else 0) = ∑ t ∈ Finset.range (512 * n + a + 1), f t := by
  rw [add_assoc, Finset.sum_range_add, ← Finset.sum_range (n := 512) (f := fun b => if b ≤ a then f (512 * n + b) else 0), ← Finset.sum_filter]
  congr 2
  ext b
  simp only [Finset.mem_filter, Finset.mem_range]
  omega

/-- A tile's gradient is the whole arrays' at its rows and columns. -/
theorem tileDq_eq (Q K G KV L D : ℕ → ℕ → ℝ) (n p a c : ℕ) (ha : a < 512) :
    tileDq (fun i j => Q (512 * n + i) (512 * p + j)) (fun i j => K (8192 * 0 + i) (512 * p + j)) (fun i j => G (512 * n + i) (256 * p + j))
      (fun h t d => KV t (256 * (2 * p + h) + 128 + d)) (fun i h => L (512 * n + i) (2 * p + h)) (fun i h => D (512 * n + i) (2 * p + h)) n a c
      = causalDq Q K G KV L D (512 * n + a) (512 * p + c) := by
  have e : (512 * p + c) / 256 = 2 * p + c / 256 := by omega
  have e1 : ∀ h x, 512 * p + (256 * h + x) = 256 * (2 * p + h) + x := fun h x => by omega
  have e2 : ∀ h x, 256 * p + (128 * h + x) = 128 * (2 * p + h) + x := fun h x => by omega
  rw [causalDq, ← sum_diag _ n a ha, tileDq, e]
  simp only [dsAt, dsH, expH, dsP, expP, Nat.mul_zero, Nat.zero_add, ite_mul, zero_mul, e1, e2]

/-- The dq call leaves the causal gradient of the query in its output array. -/
theorem final4 {c : Dev nD} {Q K G KV L D : ℕ → ℕ → ℝ} (hQ : @Holds 8192 2048 (W c main_v47) Q) (hK : @Holds 8192 2048 (W c main_v49) K) (hKV : @Holds 8192 2048 (W c main_arg1) KV)
    (hG : @Holds 8192 1024 (W c main_arg5) G) (hL : @Holds 8192 1024 (W c main_v50_1) fun i j => L i (j / 128)) (hD : @Holds 8192 1024 (W c main_v51) fun i j => D i (j / 128)) :
    @Holds 8192 2048 ((dat4 W c).arrAt 7 cfg4.N) (causalDq Q K G KV L D) := by
  refine Holds.of (congrFun ((dat4 W c).arrAt_eq_of_covers 7 _ (by decide +kernel) fun t _ y => ?_))
  blk_simp; rw [after4_7]
  have hN : t.val < 64 := t.isLt
  refine ((out4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t)
    _ _ _ _ _ _ _ (blk4_0 W hQ t) (blk4_1 W hK t) (V := fun h s d => KV s (256 * (2 * (t.val / 16) + h) + 128 + d)) ((blk4_2 W hKV t).congr ?_) ((blk4_3 W hKV t).congr ?_) (blk4_4 W hG t)
    (L := fun i h => L (512 * (t.val % 16) + i) (2 * (t.val / 16) + h)) (D := fun i h => D (512 * (t.val % 16) + i) (2 * (t.val / 16) + h)) ((blk4_5 W hL t).congr ?_) ((blk4_6 W hD t).congr ?_)).at y).trans ?_
  · intro i _ j _; congr 1 <;> omega
  · intro i _ j _; congr 1 <;> omega
  · intro i _ j _; congr 1; omega
  · intro i _ j _; congr 1; omega
  · rw [coord4 t, tileDq_eq _ _ _ _ _ _ _ _ _ _ (y 0).isLt]
    obtain ⟨-, -, -, -, -, -, -, e⟩ := idx4 t
    rw [e]
    simp [Nat.mul_comm]

end Cert.KernelIdeal.Value
end
-- ==== Proof.Attn.Fwd.lean ====
/- The forward call of the latent attention: one step of its running row maximum and running sums, what a grid point's loop
   over the earlier key tiles and its diagonal tile leave, and the whole arrays, over arrays of real numbers. -/
module

public import proofs.«01_k».proof.Proof.Attn.Dq
public import proofs.«01_k».proof.Proof.Gen.KernelIdeal.Frame.Region2

@[expose] public section
set_option maxRecDepth 16384
noncomputable section
open Idealize.ShloMosaic Idealize.ShloMosaic.TcCoe Idealize.SL.Sem
namespace Cert.KernelIdeal.Value
open Cert.KernelIdeal Cert.KernelIdeal.Gen Cert.Attn

theorem trips2 : ∀ i : grid2.Coords, (k2_t1_loop i).trips = (i 1).val := by decide +kernel
theorem trips2_2 : ∀ i : grid2.Coords, (k2_t2_loop i).trips = 0 := by decide +kernel
theorem off2_1 : ∀ (i : grid2.Coords) (k : Fin (k2_t1_loop i).trips), k2_off1 i k = ![512 * k.val, 0] := by decide +kernel
theorem off2_2 : ∀ (i : grid2.Coords) (k : Fin (k2_t1_loop i).trips), k2_off2 i k = ![512 * k.val, 0] := by decide +kernel
theorem off2_3 : ∀ (i : grid2.Coords) (k : Fin (k2_t1_loop i).trips), k2_off3 i k = ![512 * k.val, 256] := by decide +kernel
theorem off2_7 : ∀ i : grid2.Coords, k2_off7 i = ![512 * (i 1).val, 0] := by decide +kernel
theorem off2_8 : ∀ i : grid2.Coords, k2_off8 i = ![512 * (i 1).val, 0] := by decide +kernel
theorem off2_9 : ∀ i : grid2.Coords, k2_off9 i = ![512 * (i 1).val, 256] := by decide +kernel

theorem mask_bot2 : Named.named (F := Ideal) κ (φ := .f32) "mask" 4048155338#32 = (⊥ : EReal) := by
  simp [Named.named, κ]

/-- The running row maximum after a tile `X` of scores. -/
def newMax (X : FVec Ideal S512x512 .f32) (m : Vec Ideal S1x512x128 .f32) : FVec Ideal S512x128 .f32 :=
  maximumf (shapeCast S512x128 m shapeCasts_S1x512x128_S512x128) (broadcastTo S512x128 (shapeCast S512x1 (shapeCast S512x1 (multiReduction .maximumf [1] S512 X 0xFF800000#32 reduces_S512x512_S512 (.inl rfl) rfl) shapeCasts_S512_S512x1) shapeCasts_S512x1_S512x1) broadcasts_S512x1_S512x128)

/-- The running sums after it. -/
def newAcc (v8 : FVec Ideal S512x128 .bf16) (X : FVec Ideal S512x512 .f32) (M : FVec Ideal S512x128 .f32) (m : Vec Ideal S1x512x128 .f32) (v : Vec Ideal S512x128 .bf16) (acc : Vec Ideal S1x512x256 .f32) : FVec Ideal S1x512x256 .f32 :=
  have e : FVec Ideal S512x128 .f32 := exp (subf (shapeCast S512x128 m shapeCasts_S1x512x128_S512x128) M)
  have p : FVec Ideal S512x512 .f32 := exp (subf X (concatenate S512x512 1 [⟨S512x128, M⟩, ⟨S512x128, M⟩, ⟨S512x128, M⟩, ⟨S512x128, M⟩] concatenates_S512x128_S512x128_S512x128_S512x128_S512x512_d1))
  have w : FVec Ideal S512x256 .bf16 := concatenate S512x256 1 [⟨S512x128, v⟩, ⟨S512x128, v8⟩] concatenates_S512x128_S512x128_S512x256_d1
  shapeCast S1x512x256 (addf (mulf (concatenate S512x256 1 [⟨S512x128, e⟩, ⟨S512x128, e⟩] concatenates_S512x128_S512x128_S512x256_d1) (shapeCast S512x256 acc shapeCasts_S1x512x256_S512x256))
    (matmul dot_S512x512_S512x256_S512x256_1_0_0_1_n_n none (truncf .bf16 p bitsLt_bf16_f32) w (constant S512x256 .f32 0x00000000#32))) shapeCasts_S512x256_S1x512x256

theorem eq2_9 (a b : Vec Ideal S512x256 .bf16) (m : Vec Ideal S1x512x128 .f32) : k2_pay9 a b m = newMax (k2_pay7 a b) m := rfl
theorem eq2_14 : k2_pay14 (F := Ideal) = k2_pay9 := rfl
theorem eq2_34 (s : FVec Ideal S512x512 .f32) (v30 : IVec S512x512 1) (x : EReal) (m : Vec Ideal S1x512x128 .f32) : k2_pay34 (F := Ideal) s v30 x m = newMax (k2_pay32 (F := Ideal) s v30 x) m := rfl
theorem eq2_40 (s : FVec Ideal S512x512 .f32) (m : Vec Ideal S1x512x128 .f32) : k2_pay40 (F := Ideal) s m = newMax (k2_pay38 (F := Ideal) s) m := rfl
theorem eq2_10 (v8 : FVec Ideal S512x128 .bf16) (a b : Vec Ideal S512x256 .bf16) (m : Vec Ideal S1x512x128 .f32) (v : Vec Ideal S512x128 .bf16) (acc : Vec Ideal S1x512x256 .f32) :
    k2_pay10 v8 a b m v acc = newAcc v8 (k2_pay7 a b) (k2_pay9 a b m) m v acc := rfl
theorem eq2_15 : k2_pay15 (F := Ideal) = k2_pay10 := rfl
theorem eq2_35 (v8 : FVec Ideal S512x128 .bf16) (s : FVec Ideal S512x512 .f32) (v30 : IVec S512x512 1) (x : EReal) (m : Vec Ideal S1x512x128 .f32) (v : Vec Ideal S512x128 .bf16) (acc : Vec Ideal S1x512x256 .f32) :
    k2_pay35 (F := Ideal) v8 s v30 x m v acc = newAcc v8 (k2_pay32 (F := Ideal) s v30 x) (newMax (k2_pay32 (F := Ideal) s v30 x) m) m v acc := rfl
theorem eq2_41 (v8 : FVec Ideal S512x128 .bf16) (s : FVec Ideal S512x512 .f32) (m : Vec Ideal S1x512x128 .f32) (v : Vec Ideal S512x128 .bf16) (acc : Vec Ideal S1x512x256 .f32) :
    k2_pay41 (F := Ideal) v8 s m v acc = newAcc v8 (k2_pay38 (F := Ideal) s) (newMax (k2_pay38 (F := Ideal) s) m) m v acc := rfl

theorem newMax_point (X : FVec Ideal S512x512 .f32) (m : Vec Ideal S1x512x128 .f32) (a : Fin 512) (j : Fin 128) :
    newMax X m (ix2 a j) = max (m (ix3 0 a j)) (Finset.fold max (⊥ : EReal) (fun b => X (ix2 a b)) Finset.univ) := by
  pointwise [newMax]
  rw [show Ideal.ofBits FTy.f32 4286578688#32 = (⊥ : EReal) by simp [Ideal.ofBits, Ideal.ieee]]

/-- A value row widened by ones, whose sums are the running sums of the weights. -/
def wide (V : ℕ → ℕ → ℝ) (t j : ℕ) : ℝ := if j < 128 then V t j else 1

theorem newAcc_point {v8 : FVec Ideal S512x128 .bf16} {X : FVec Ideal S512x512 .f32} {M : FVec Ideal S512x128 .f32} {m : Vec Ideal S1x512x128 .f32} {v : Vec Ideal S512x128 .bf16} {acc : Vec Ideal S1x512x256 .f32}
    {μ ε : ℕ → ℝ} {p A V : ℕ → ℕ → ℝ} (h8 : Holds v8 fun _ _ => 1) (hv : Holds v V) (hM : ∀ (a : Fin 512) (j : Fin 128), M (ix2 a j) = ((μ a.val : ℝ) : EReal))
    (hm : ∀ (a : Fin 512) (j : Fin 128), Ideal.exp (m (ix3 0 a j) - ((μ a.val : ℝ) : EReal)) = ((ε a.val : ℝ) : EReal))
    (hX : ∀ a b : Fin 512, Ideal.exp (X (ix2 a b) - ((μ a.val : ℝ) : EReal)) = ((p a.val b.val : ℝ) : EReal))
    (hA : ∀ (a : Fin 512) (j : Fin 256), acc (ix3 0 a j) = ((A a.val j.val : ℝ) : EReal)) (a : Fin 512) (j : Fin 256) :
    newAcc v8 X M m v acc (ix3 0 a j) = ((ε a.val * A a.val j.val + ∑ b : Fin 512, p a.val b.val * wide V b.val j.val : ℝ) : EReal) := by
  pointwise [newAcc]
  simp only [hM _ _, hA _ _, hv _ _, h8 _ _]
  simp only [dite_eq_ite, ite_self, hX]
  split
  · rename_i h
    simp only [hm a ⟨j.val, h⟩, wide, h, if_true, ← EReal.coe_mul, Finite.coe_sum, ← EReal.coe_add]
  · rename_i h
    simp only [hm a ⟨j.val - 128, by omega⟩, wide, h, if_false, ← EReal.coe_mul, Finite.coe_sum, ← EReal.coe_add]

/-- The largest of a row's entries, none `⊤` and one of them real, is real. -/
theorem fold_max_real (b : EReal) (hb : b ≠ ⊤) (f : Fin 512 → EReal) (h1 : ∀ i, f i ≠ ⊤) (i : Fin 512) (h2 : f i ≠ ⊥) :
    ∃ r : ℝ, max b (Finset.fold max (⊥ : EReal) f Finset.univ) = (r : EReal) := by
  have ht : max b (Finset.fold max (⊥ : EReal) f Finset.univ) ≠ ⊤ := by
    refine (max_lt (lt_top_iff_ne_top.mpr hb) ((Finset.fold_max_lt _).mpr ⟨bot_lt_top, fun x _ => lt_top_iff_ne_top.mpr (h1 x)⟩)).ne
  have hl : max b (Finset.fold max (⊥ : EReal) f Finset.univ) ≠ ⊥ := by
    refine (lt_max_of_lt_right ((Finset.lt_fold_max _).mpr (.inr ⟨i, Finset.mem_univ _, bot_lt_iff_ne_bot.mpr h2⟩))).ne'
  exact ⟨_, (EReal.coe_toReal ht hl).symm⟩

/-- A three-axis array holds the numbers `M`. -/
def HoldsE {p m n : ℕ} (X : (⟨3, ![p, m, n]⟩ : Shape).Idx → EReal) (M : ℕ → ℕ → ℕ → EReal) : Prop :=
  ∀ (h : Fin p) (i : Fin m) (j : Fin n), X (ix3 h i j) = M h.val i.val j.val

theorem HoldsE.congr {p m n : ℕ} {X : (⟨3, ![p, m, n]⟩ : Shape).Idx → EReal} {M N : ℕ → ℕ → ℕ → EReal} (h : HoldsE X M)
    (e : ∀ k < p, ∀ i < m, ∀ j < n, M k i j = N k i j) : HoldsE X N := fun k i j => by rw [h k i j, e _ k.isLt _ i.isLt _ j.isLt]

/-- One slice of it. -/
theorem HoldsE.window {p m n : ℕ} {X : (⟨3, ![p, m, n]⟩ : Shape).Idx → EReal} {M : ℕ → ℕ → ℕ → EReal} (h : HoldsE X M)
    (a : ℕ) (inb : ∀ j, ![a, 0, 0] j + ![1, m, n] j ≤ ![p, m, n] j) :
    HoldsE (p := 1) (m := m) (n := n) (fun x => X ((Rect.unit (s := ⟨3, ![p, m, n]⟩) ![a, 0, 0] ![1, m, n] inb).idx x)) (fun _ i j => M a i j) := by
  intro k i j
  have hk := k.isLt
  have h0 := inb 0
  simp only [Matrix.cons_val] at h0
  refine (congrArg X ?_).trans (h ⟨a, by omega⟩ i j)
  idx_ext

/-- The scores of the diagonal tile, `⊥` at the later keys. -/
theorem pay2_38 {S : FVec Ideal S512x512 .f32} {x : ℕ → ℕ → ℝ} (h : Holds S x) (a b : Fin 512) :
    k2_pay38 (F := Ideal) S (ix2 a b) = if b.val ≤ a.val then ((x a.val b.val : ℝ) : EReal) else ⊥ := by
  pointwise [k2_pay38]
  simp only [h _ _, causal_select, causal_select', mask_bot2]

theorem pay2_11 (M : FVec Ideal S512x128 .f32) (a : Fin 512) (j : Fin 128) : k2_pay11 (F := Ideal) M (ix3 0 a j) = M (ix2 a j) := by
  pointwise [k2_pay11]

/-- A slice is its entries at the one first coordinate. -/
theorem of_slice {m n : ℕ} {X : (⟨3, ![1, m, n]⟩ : Shape).Idx → EReal} {M : ℕ → ℕ → EReal} (h : ∀ (i : Fin m) (j : Fin n), X (ix3 0 i j) = M i.val j.val) :
    HoldsE X fun _ i j => M i j := fun k i j => by rw [show k = 0 from Fin.ext (by omega)]; exact h i j

section
variable {v8 : FVec Ideal S512x128 .bf16} {X : FVec Ideal S512x512 .f32} {m : Vec Ideal S1x512x128 .f32} {v : Vec Ideal S512x128 .bf16} {acc : Vec Ideal S1x512x256 .f32}
  {n : ℕ} {w : ℕ → ℕ → Prop} [∀ a b, Decidable (w a b)] {x s V V' : ℕ → ℕ → ℝ} {μ : ℕ → ℝ}

/-- One step of the running softmax: after a tile of scores, `⊥` where `w` fails, the maximum is again a real number and the sums
    are those of the old weights and the tile's, all against the new maximum. -/
theorem step2 (h8 : Holds v8 fun _ _ => 1) (hv : Holds v V') (hX : ∀ a b : Fin 512, X (ix2 a b) = if w a.val b.val then ((x a.val b.val : ℝ) : EReal) else ⊥)
    (hw : ∀ a : Fin 512, ∃ b : Fin 512, w a.val b.val) (hm : ∀ (a : Fin 512) (j : Fin 128), m (ix3 0 a j) = if n = 0 then ⊥ else ((μ a.val : ℝ) : EReal))
    (hA : ∀ (a : Fin 512) (j : Fin 256), acc (ix3 0 a j) = ((∑ t ∈ Finset.range n, Real.exp (s a.val t - μ a.val) * wide V t j.val : ℝ) : EReal)) :
    ∃ μ' : ℕ → ℝ, (∀ (a : Fin 512) (j : Fin 128), newMax X m (ix2 a j) = ((μ' a.val : ℝ) : EReal))
      ∧ ∀ (a : Fin 512) (j : Fin 256), newAcc v8 X (newMax X m) m v acc (ix3 0 a j)
        = ((∑ t ∈ Finset.range n, Real.exp (s a.val t - μ' a.val) * wide V t j.val + ∑ b : Fin 512, (if w a.val b.val then Real.exp (x a.val b.val - μ' a.val) else 0) * wide V' b.val j.val : ℝ) : EReal) := by
  have hr : ∀ a : Fin 512, ∃ r : ℝ, ∀ j : Fin 128, newMax X m (ix2 a j) = (r : EReal) := by
    intro a
    obtain ⟨b, hb⟩ := hw a
    obtain ⟨r, hr⟩ := fold_max_real (if n = 0 then ⊥ else ((μ a.val : ℝ) : EReal)) (by split <;> simp) (fun b => X (ix2 a b)) (fun i => by rw [hX]; split <;> simp) b (by rw [hX, if_pos hb]; simp)
    exact ⟨r, fun j => by rw [newMax_point, hm, hr]⟩
  choose g hg using hr
  obtain ⟨μ', hg'⟩ : ∃ μ' : ℕ → ℝ, ∀ (a : Fin 512) (j : Fin 128), newMax X m (ix2 a j) = ((μ' a.val : ℝ) : EReal) :=
    ⟨fun k => if h : k < 512 then g ⟨k, h⟩ else 0, fun a j => by rw [hg a j]; simp⟩
  refine ⟨μ', hg', fun a j => ?_⟩
  rw [newAcc_point (ε := fun a => if n = 0 then 0 else Real.exp (μ a - μ' a)) (p := fun a b => if w a b then Real.exp (x a b - μ' a) else 0) (A := fun a j => ∑ t ∈ Finset.range n, Real.exp (s a t - μ a) * wide V t j) h8 hv hg' ?_ ?_ hA a j]
  · congr 2
    rw [Finset.mul_sum]
    by_cases hn : n = 0
    · subst hn; simp
    · refine Finset.sum_congr rfl fun t _ => ?_
      rw [if_neg hn, ← mul_assoc, ← Real.exp_add]
      congr 2
      ring
  · intro a j
    rw [hm]
    by_cases hn : n = 0
    · simp [hn]
    · simp only [hn, if_false, ← EReal.coe_sub, Ideal.exp_coe]
  · intro a b
    rw [hX]
    split
    · rw [← EReal.coe_sub, Ideal.exp_coe]
    · simp

/-- The same of a tile all of whose scores count. -/
theorem step2_full (h8 : Holds v8 fun _ _ => 1) (hv : Holds v V') (hX : Holds X x) (hm : HoldsE (p := 1) (m := 512) (n := 128) m fun _ a _ => if n = 0 then ⊥ else ((μ a : ℝ) : EReal))
    (hA : HoldsE (p := 1) (m := 512) (n := 256) acc fun _ a j => ((∑ t ∈ Finset.range n, Real.exp (s a t - μ a) * wide V t j : ℝ) : EReal)) :
    ∃ μ' : ℕ → ℝ, HoldsE (p := 1) (m := 512) (n := 128) (k2_pay11 (F := Ideal) (newMax X m)) (fun _ a _ => ((μ' a : ℝ) : EReal))
      ∧ HoldsE (p := 1) (m := 512) (n := 256) (newAcc v8 X (newMax X m) m v acc)
        fun _ a j => ((∑ t ∈ Finset.range n, Real.exp (s a t - μ' a) * wide V t j + ∑ b : Fin 512, Real.exp (x a b.val - μ' a) * wide V' b.val j : ℝ) : EReal) := by
  obtain ⟨μ', h, h'⟩ := step2 (w := fun _ _ => True) h8 hv (fun a b => (hX a b).trans (if_pos trivial).symm) (fun a => ⟨a, trivial⟩) (hm 0) (hA 0)
  exact ⟨μ', of_slice fun a j => (pay2_11 _ a j).trans (h a j), of_slice fun a j => (h' a j).trans (by simp only [if_true])⟩

/-- The same of the tile on the diagonal. -/
theorem step2_diag {S : FVec Ideal S512x512 .f32} (h8 : Holds v8 fun _ _ => 1) (hv : Holds v V') (hX : Holds S x) (hm : HoldsE (p := 1) (m := 512) (n := 128) m fun _ a _ => if n = 0 then ⊥ else ((μ a : ℝ) : EReal))
    (hA : HoldsE (p := 1) (m := 512) (n := 256) acc fun _ a j => ((∑ t ∈ Finset.range n, Real.exp (s a t - μ a) * wide V t j : ℝ) : EReal)) :
    ∃ μ' : ℕ → ℝ, HoldsE (p := 1) (m := 512) (n := 128) (k2_pay11 (F := Ideal) (newMax (k2_pay38 (F := Ideal) S) m)) (fun _ a _ => ((μ' a : ℝ) : EReal))
      ∧ HoldsE (p := 1) (m := 512) (n := 256) (newAcc v8 (k2_pay38 (F := Ideal) S) (newMax (k2_pay38 (F := Ideal) S) m) m v acc)
        fun _ a j => ((∑ t ∈ Finset.range n, Real.exp (s a t - μ' a) * wide V t j + ∑ b : Fin 512, (if b.val ≤ a then Real.exp (x a b.val - μ' a) else 0) * wide V' b.val j : ℝ) : EReal) := by
  obtain ⟨μ', h, h'⟩ := step2 (w := fun a b => b ≤ a) h8 hv (pay2_38 hX) (fun a => ⟨a, le_rfl⟩) (hm 0) (hA 0)
  exact ⟨μ', of_slice fun a j => (pay2_11 _ a j).trans (h a j), of_slice h'⟩
end

/-- A stored slice: its own entries there, the array's elsewhere. -/
theorem HoldsE.write_cons {sig : RefSig} {κ : Kind} {sp : Space} {p m n : ℕ} (v : View sig κ sp ⟨3, ![p, m, n]⟩ .f32) (f : v.ty.Contents (Elt Ideal))
    (L : List (View.Piece (Elt Ideal) ⟨3, ![p, m, n]⟩ .f32)) (a : ℕ) (inb : ∀ j, ![a, 0, 0] j + ![1, m, n] j ≤ ![p, m, n] j)
    (w : (⟨3, ![1, m, n]⟩ : Shape).Idx → EReal) {M N : ℕ → ℕ → ℕ → EReal} (hw : HoldsE w N)
    (h : HoldsE (v.read (Elt Ideal) (v.writes (Elt Ideal) f L)) M) :
    HoldsE (v.read (Elt Ideal) (v.writes (Elt Ideal) f ((⟨Rect.unit (s := ⟨3, ![p, m, n]⟩) ![a, 0, 0] ![1, m, n] inb, w⟩ : View.Piece (Elt Ideal) ⟨3, ![p, m, n]⟩ .f32) :: L)))
      (fun k i j => if k = a then N 0 i j else M k i j) := by
  intro k i j
  rw [View.read_writes_cons_unit v f inb w L _ rfl]
  beta_reduce
  by_cases hc : k.val = a
  · rw [if_pos hc, dif_pos (by intro x; fin_cases x <;> simp [hc])]
    refine (congrArg w ?_).trans (hw 0 i j)
    funext x; apply Fin.ext; fin_cases x <;> simp [Rect.unitLocal_val, hc]
  · rw [if_neg hc, dif_neg (fun hx => hc (by have := hx 0; simp at this; omega))]
    exact h k i j

variable {Q K G A : ℕ → ℕ → ℝ}

/-- The scores of a tile. -/
theorem pay2_7 {a b : Vec Ideal S512x256 .bf16} (hQ : Holds a Q) (hK : Holds b K) :
    Holds (k2_pay7 (F := Ideal) a b) (fun i j => (∑ e : Fin 256, Q i e * K j e) * sigma) := by
  intro i j
  pointwise [k2_pay7]
  simp only [hQ _ _, hK _ _, sigma_real, Finite.coe_dot, ← EReal.coe_mul, Finite.coe_sum]

theorem pay2_29 : Holds (k2_pay29 (F := Ideal)) (fun _ _ => 1) := by
  intro i j
  pointwise [k2_pay29]
  simp [Ideal.ofBits, Ideal.ieee]

theorem eq2_32 (S : FVec Ideal S512x512 .f32) : k2_pay32 (F := Ideal) S (k2_pay31) (Named.named (F := Ideal) κ (φ := .f32) "mask" 4048155338#32) = k2_pay38 (F := Ideal) S := rfl

/-- The score of query `a` and key `t` at head `h` of the two a block holds. -/
def score2 (Q K : ℕ → ℕ → ℝ) (h a t : ℕ) : ℝ := (∑ e : Fin 256, Q a (256 * h + e) * K t (256 * h + e)) * sigma

/-- The running maxima and sums after the first `n` keys. -/
def Running (n : ℕ) (s V : ℕ → ℕ → ℕ → ℝ) (X8 : (⟨3, ![2, 512, 128]⟩ : Shape).Idx → EReal) (X9 : (⟨3, ![2, 512, 256]⟩ : Shape).Idx → EReal) : Prop :=
  ∃ μ : ℕ → ℕ → ℝ, HoldsE X8 (fun h a _ => if n = 0 then ⊥ else ((μ h a : ℝ) : EReal))
    ∧ HoldsE X9 (fun h a j => ((∑ t ∈ Finset.range n, Real.exp (s h a t - μ h a) * wide (V h) t j : ℝ) : EReal))

variable (c : Dev nD) (i : grid2.Coords) (arg2 : Memref sig .tc .vmem S512x512 .bf16) (harg2 : arg2.IsWhole) (arg3 : Memref sig .tc .vmem S8192x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S2x512x128 .f32) (harg8 : arg8.IsWhole) (arg9 : Memref sig .tc .vmem S2x512x256 .f32) (harg9 : arg9.IsWhole)
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty}
  {W : ℕ → ℕ → ℕ → ℝ}

/-- One earlier key tile. -/
theorem trip2 (𝒱 : Variants) (bd : Option 𝒱.V) (k : Fin (k2_t1_loop i).trips) (f : BufTy.Contents (Elt Ideal) arg8.view.ty) (g : BufTy.Contents (Elt Ideal) arg9.view.ty)
    (h2 : Holds (arg2.view.read (Elt Ideal) X2) Q) (h3 : Holds (arg3.view.read (Elt Ideal) X3) K)
    (h4 : Holds (arg4.view.read (Elt Ideal) X4) (W 0)) (h5 : Holds (arg5.view.read (Elt Ideal) X5) (W 1))
    (hs : Running (512 * k.val) (score2 Q K) W (arg8.view.read (Elt Ideal) f) (arg9.view.read (Elt Ideal) g)) :
    Running (512 * (k.val + 1)) (score2 Q K) W
      (arg8.view.read (Elt Ideal) (arg8.view.writes (Elt Ideal) f ((trip_k2_t1 𝒱 c bd i arg2 harg2 arg3 harg3 arg4 harg4 arg5 harg5 arg6 harg6 arg7 harg7 arg8 harg8 arg9 harg9 X2 X3 X4 X5 k).1 f g)))
      (arg9.view.read (Elt Ideal) (arg9.view.writes (Elt Ideal) g ((trip_k2_t1 𝒱 c bd i arg2 harg2 arg3 harg3 arg4 harg4 arg5 harg5 arg6 harg6 arg7 harg7 arg8 harg8 arg9 harg9 X2 X3 X4 X5 k).2.1 f g))) := by
  obtain ⟨μ, e8, e9⟩ := hs
  unfold trip_k2_t1
  dsimp only
  have q0 := h2.window 0 0 inb_S512x512_S512x256_0_0 rfl
  have q1 := h2.window 0 256 inb_S512x512_S512x256_0_256 rfl
  have k0 := h3.window _ _ (k2_off1_inb i k) (off2_1 i k)
  have k1 := h3.window _ _ (k2_off3_inb i k) (off2_3 i k)
  have v0 := h4.window _ _ (k2_off2_inb i k) (off2_2 i k)
  have v1 := h5.window _ _ (k2_off2_inb i k) (off2_2 i k)
  obtain ⟨μ0, m0, a0⟩ := step2_full (s := score2 Q K 0) pay2_29 v0 (pay2_7 q0 k0) (n := 512 * k.val) (V := W 0) (μ := μ 0) (e8.window 0 inb_S2x512x128_S1x512x128_0_0_0) (e9.window 0 inb_S2x512x256_S1x512x256_0_0_0)
  obtain ⟨μ1, m1, a1⟩ := step2_full (s := score2 Q K 1) pay2_29 v1 (pay2_7 q1 k1) (n := 512 * k.val) (V := W 1) (μ := μ 1) (e8.window 1 inb_S2x512x128_S1x512x128_1_0_0) (e9.window 1 inb_S2x512x256_S1x512x256_1_0_0)
  have p1 := HoldsE.write_cons arg9.view g [] 0 inb_S2x512x256_S1x512x256_0_0_0 _ a0 e9
  have p2 := HoldsE.write_cons arg9.view g _ 1 inb_S2x512x256_S1x512x256_1_0_0 _ a1 p1
  have r1 := HoldsE.write_cons arg8.view f [] 0 inb_S2x512x128_S1x512x128_0_0_0 _ m0 e8
  have r2 := HoldsE.write_cons arg8.view f _ 1 inb_S2x512x128_S1x512x128_1_0_0 _ m1 r1
  refine ⟨fun h => if h = 0 then μ0 else μ1, ?_, ?_⟩
  · refine HoldsE.congr r2 ?_
    intro h hh a _ j _
    rw [if_neg (show ¬ 512 * (k.val + 1) = 0 by omega)]
    interval_cases h <;> simp
  · refine HoldsE.congr p2 ?_
    intro h hh a _ j _
    rw [show 512 * (k.val + 1) = 512 * k.val + 512 by omega, Finset.sum_range_add, Finset.sum_range (n := 512)]
    interval_cases h <;> simp [score2, wide]

/-- The loop over the earlier key tiles. -/
theorem loop2 (𝒱 : Variants) (bd : Option 𝒱.V) (f : BufTy.Contents (Elt Ideal) arg8.view.ty) (g : BufTy.Contents (Elt Ideal) arg9.view.ty)
    (h2 : Holds (arg2.view.read (Elt Ideal) X2) Q) (h3 : Holds (arg3.view.read (Elt Ideal) X3) K)
    (h4 : Holds (arg4.view.read (Elt Ideal) X4) (W 0)) (h5 : Holds (arg5.view.read (Elt Ideal) X5) (W 1))
    (hs : Running 0 (score2 Q K) W (arg8.view.read (Elt Ideal) f) (arg9.view.read (Elt Ideal) g)) : ∀ n ≤ (k2_t1_loop i).trips,
    Running (512 * n) (score2 Q K) W
      (arg8.view.read (Elt Ideal) (arg8.view.writes (Elt Ideal) f (pb_k2_t1 𝒱 c bd i arg2 harg2 arg3 harg3 arg4 harg4 arg5 harg5 arg6 harg6 arg7 harg7 arg8 harg8 arg9 harg9 X2 X3 X4 X5 f g n).1))
      (arg9.view.read (Elt Ideal) (arg9.view.writes (Elt Ideal) g (pb_k2_t1 𝒱 c bd i arg2 harg2 arg3 harg3 arg4 harg4 arg5 harg5 arg6 harg6 arg7 harg7 arg8 harg8 arg9 harg9 X2 X3 X4 X5 f g n).2))
  | 0, _ => hs
  | n + 1, hn => by
    rw [pb_k2_t1_succ 𝒱 c bd i arg2 harg2 arg3 harg3 arg4 harg4 arg5 harg5 arg6 harg6 arg7 harg7 arg8 harg8 arg9 harg9 X2 X3 X4 X5 f g ⟨n, hn⟩, View.writes_append, View.writes_append]
    exact trip2 c i arg2 harg2 arg3 harg3 arg4 harg4 arg5 harg5 arg6 harg6 arg7 harg7 arg8 harg8 arg9 harg9 𝒱 bd ⟨n, hn⟩ _ _ h2 h3 h4 h5 (loop2 𝒱 bd f g h2 h3 h4 h5 hs n (by omega))

/-- The stores before the diagonal tile. -/
def stored2 (x0 : Vec Ideal S512x512 .bf16) (x1 : Vec Ideal S8192x512 .bf16) (x2 x3 : Vec Ideal S8192x128 .bf16) : List (View.Piece (Elt Ideal) S2x512x128 .f32) × List (View.Piece (Elt Ideal) S2x512x256 .f32) :=
  ((pb_k2_t1 Variants.none c none i arg2 harg2 arg3 harg3 arg4 harg4 arg5 harg5 arg6 harg6 arg7 harg7 arg8 harg8 arg9 harg9 (harg2.unread x0) (harg3.unread x1) (harg4.unread x2) (harg5.unread x3) (arg8.view.writes (Elt Ideal) arg8.view.junk kernelRun2_A.sl.HS0_1) (arg9.view.writes (Elt Ideal) arg9.view.junk kernelRun2_A.sl.HS1_1) (Scf.trips (k2_t1_loop i).lb (k2_t1_loop i).ub (k2_t1_loop i).st)).1 ++ kernelRun2_A.sl.HS0_1, (pb_k2_t1 Variants.none c none i arg2 harg2 arg3 harg3 arg4 harg4 arg5 harg5 arg6 harg6 arg7 harg7 arg8 harg8 arg9 harg9 (harg2.unread x0) (harg3.unread x1) (harg4.unread x2) (harg5.unread x3) (arg8.view.writes (Elt Ideal) arg8.view.junk kernelRun2_A.sl.HS0_1) (arg9.view.writes (Elt Ideal) arg9.view.junk kernelRun2_A.sl.HS1_1) (Scf.trips (k2_t1_loop i).lb (k2_t1_loop i).ub (k2_t1_loop i).st)).2 ++ kernelRun2_A.sl.HS1_1)

/-- The same with those of the empty loop after it. -/
def before2 (x0 : Vec Ideal S512x512 .bf16) (x1 : Vec Ideal S8192x512 .bf16) (x2 x3 : Vec Ideal S8192x128 .bf16) : List (View.Piece (Elt Ideal) S2x512x128 .f32) × List (View.Piece (Elt Ideal) S2x512x256 .f32) :=
  have d := stored2 c i arg2 harg2 arg3 harg3 arg4 harg4 arg5 harg5 arg6 harg6 arg7 harg7 arg8 harg8 arg9 harg9 x0 x1 x2 x3
  have r := pb_k2_t2 Variants.none c none i arg2 harg2 arg3 harg3 arg4 harg4 arg5 harg5 arg6 harg6 arg7 harg7 arg8 harg8 arg9 harg9 (kernelRun2_A.sl.v13 i) (harg2.unread x0) (harg3.unread x1) (harg4.unread x2) (harg5.unread x3) (arg8.view.writes (Elt Ideal) arg8.view.junk d.1) (arg9.view.writes (Elt Ideal) arg9.view.junk d.2) (Scf.trips (k2_t2_loop i).lb (k2_t2_loop i).ub (k2_t2_loop i).st)
  (r.1 ++ d.1, r.2 ++ d.2)

/-- What is held there. -/
theorem running2 (x0 : Vec Ideal S512x512 .bf16) (x1 : Vec Ideal S8192x512 .bf16) (x2 x3 : Vec Ideal S8192x128 .bf16)
    (h2 : Holds x0 Q) (h3 : Holds x1 K) (h4 : Holds x2 (W 0)) (h5 : Holds x3 (W 1)) :
    Running (512 * (i 1).val) (score2 Q K) W (arg8.view.read (Elt Ideal) (arg8.view.writes (Elt Ideal) arg8.view.junk (before2 c i arg2 harg2 arg3 harg3 arg4 harg4 arg5 harg5 arg6 harg6 arg7 harg7 arg8 harg8 arg9 harg9 x0 x1 x2 x3).1)) (arg9.view.read (Elt Ideal) (arg9.view.writes (Elt Ideal) arg9.view.junk (before2 c i arg2 harg2 arg3 harg3 arg4 harg4 arg5 harg5 arg6 harg6 arg7 harg7 arg8 harg8 arg9 harg9 x0 x1 x2 x3).2)) := by
  have r2 : Holds (arg2.view.read (Elt Ideal) (harg2.unread x0)) Q := by rw [harg2.read_unread]; exact h2
  have r3 : Holds (arg3.view.read (Elt Ideal) (harg3.unread x1)) K := by rw [harg3.read_unread]; exact h3
  have r4 : Holds (arg4.view.read (Elt Ideal) (harg4.unread x2)) (W 0) := by rw [harg4.read_unread]; exact h4
  have r5 : Holds (arg5.view.read (Elt Ideal) (harg5.unread x3)) (W 1) := by rw [harg5.read_unread]; exact h5
  have z8 : HoldsE (arg8.view.read (Elt Ideal) (arg8.view.writes (Elt Ideal) arg8.view.junk kernelRun2_A.sl.HS0_1)) (fun _ _ _ => ⊥) := by
    intro h a j
    unfold kernelRun2_A.sl.HS0_1
    refine (View.read_writes_cons_unit_of_mem arg8.view _ inb_S2x512x128_S2x512x128_0_0_0 _ _ (ix3 h a j) (ix3 h a j) rfl (by intro x; fin_cases x <;> simp)).trans ?_
    pointwise [k2_pay27]
    exact mask_bot2
  have z9 : HoldsE (arg9.view.read (Elt Ideal) (arg9.view.writes (Elt Ideal) arg9.view.junk kernelRun2_A.sl.HS1_1)) (fun _ _ _ => 0) := by
    intro h a j
    unfold kernelRun2_A.sl.HS1_1
    refine (View.read_writes_cons_unit_of_mem arg9.view _ inb_S2x512x256_S2x512x256_0_0_0 _ _ (ix3 h a j) (ix3 h a j) rfl (by intro x; fin_cases x <;> simp)).trans ?_
    pointwise [k2_pay28]
  have pl := loop2 c i arg2 harg2 arg3 harg3 arg4 harg4 arg5 harg5 arg6 harg6 arg7 harg7 arg8 harg8 arg9 harg9 Variants.none none _ _ r2 r3 r4 r5 ⟨fun _ _ => 0, z8.congr (by intro _ _ _ _ _ _; simp), z9.congr (by intro _ _ _ _ _ _; simp)⟩ _ le_rfl
  rw [← View.writes_append, ← View.writes_append, trips2 i] at pl
  unfold before2 stored2
  dsimp only
  rw [show Scf.trips (k2_t2_loop i).lb (k2_t2_loop i).ub (k2_t2_loop i).st = 0 from trips2_2 i]
  rw [show Scf.trips (k2_t1_loop i).lb (k2_t1_loop i).ub (k2_t1_loop i).st = (i 1).val from trips2 i]
  rw [pb_k2_t2.eq_1, List.nil_append, List.nil_append]
  exact pl

/-- What the sums are once the diagonal tile is in: a weighted sum over the keys not later than the query. -/
def sums2 (Q K : ℕ → ℕ → ℝ) (W : ℕ → ℕ → ℕ → ℝ) (μ : ℕ → ℕ → ℝ) (n h a j : ℕ) : ℝ :=
  ∑ t ∈ Finset.range (512 * n + a + 1), Real.exp (score2 Q K h a t - μ h a) * wide (W h) t j

theorem diag2 (x0 : Vec Ideal S512x512 .bf16) (x1 : Vec Ideal S8192x512 .bf16) (x2 x3 : Vec Ideal S8192x128 .bf16)
    (h2 : Holds x0 Q) (h3 : Holds x1 K) (h4 : Holds x2 (W 0)) (h5 : Holds x3 (W 1)) :
    ∃ μ : ℕ → ℕ → ℝ, HoldsE (arg8.view.read (Elt Ideal) (arg8.view.writes (Elt Ideal) arg8.view.junk (kernelRun2_A.sl.HS0_2 c i arg2 harg2 arg3 harg3 arg4 harg4 arg5 harg5 arg6 harg6 arg7 harg7 arg8 harg8 arg9 harg9 x0 x1 x2 x3))) (fun h a _ => ((μ h a : ℝ) : EReal))
      ∧ HoldsE (arg9.view.read (Elt Ideal) (arg9.view.writes (Elt Ideal) arg9.view.junk (kernelRun2_A.sl.HS1_2 c i arg2 harg2 arg3 harg3 arg4 harg4 arg5 harg5 arg6 harg6 arg7 harg7 arg8 harg8 arg9 harg9 x0 x1 x2 x3))) (fun h a j => ((sums2 Q K W μ (i 1).val h a j : ℝ) : EReal)) := by
  obtain ⟨μ, e8, e9⟩ := running2 c i arg2 harg2 arg3 harg3 arg4 harg4 arg5 harg5 arg6 harg6 arg7 harg7 arg8 harg8 arg9 harg9 x0 x1 x2 x3 h2 h3 h4 h5
  have r2 : Holds (arg2.view.read (Elt Ideal) (harg2.unread x0)) Q := by rw [harg2.read_unread]; exact h2
  have r3 : Holds (arg3.view.read (Elt Ideal) (harg3.unread x1)) K := by rw [harg3.read_unread]; exact h3
  have r4 : Holds (arg4.view.read (Elt Ideal) (harg4.unread x2)) (W 0) := by rw [harg4.read_unread]; exact h4
  have r5 : Holds (arg5.view.read (Elt Ideal) (harg5.unread x3)) (W 1) := by rw [harg5.read_unread]; exact h5
  have q0 := r2.window 0 0 inb_S512x512_S512x256_0_0 rfl
  have q1 := r2.window 0 256 inb_S512x512_S512x256_0_256 rfl
  have k0 := r3.window _ _ (k2_off7_inb i) (off2_7 i)
  have k1 := r3.window _ _ (k2_off9_inb i) (off2_9 i)
  have v0 := r4.window _ _ (k2_off8_inb i) (off2_8 i)
  have v1 := r5.window _ _ (k2_off8_inb i) (off2_8 i)
  obtain ⟨μ0, m0, a0⟩ := step2_diag (s := score2 Q K 0) pay2_29 v0 (pay2_7 q0 k0) (n := 512 * (i 1).val) (V := W 0) (μ := μ 0) (e8.window 0 inb_S2x512x128_S1x512x128_0_0_0) (e9.window 0 inb_S2x512x256_S1x512x256_0_0_0)
  have p1 := HoldsE.write_cons arg9.view _ _ 0 inb_S2x512x256_S1x512x256_0_0_0 _ a0 e9
  have s1 := HoldsE.write_cons arg8.view _ _ 0 inb_S2x512x128_S1x512x128_0_0_0 _ m0 e8
  obtain ⟨μ1, m1, a1⟩ := step2_diag (s := score2 Q K 1) pay2_29 v1 (pay2_7 q1 k1) (n := 512 * (i 1).val) (V := W 1) (μ := μ 1) ((s1.window 1 inb_S2x512x128_S1x512x128_1_0_0).congr (by intro _ _ _ _ _ _; simp)) ((p1.window 1 inb_S2x512x256_S1x512x256_1_0_0).congr (by intro _ _ _ _ _ _; simp))
  have p2 := HoldsE.write_cons arg9.view _ _ 1 inb_S2x512x256_S1x512x256_1_0_0 _ a1 p1
  have s2 := HoldsE.write_cons arg8.view _ _ 1 inb_S2x512x128_S1x512x128_1_0_0 _ m1 s1
  refine ⟨fun h => if h = 0 then μ0 else μ1, HoldsE.congr s2 ?_, HoldsE.congr p2 ?_⟩
  · intro h hh a _ j _
    interval_cases h <;> simp
  · intro h hh a ha j _
    unfold sums2
    rw [← sum_diag _ _ a ha]
    by_cases hj : j < 128 <;> interval_cases h <;> simp [score2, wide, ite_mul, hj]

/-- An entry of a block stored in two halves. -/
theorem split_point {sig : RefSig} {κ : Kind} {sp : Space} {e : EltTy} (v : View sig κ sp ⟨2, ![512, 256]⟩ e) (f : v.ty.Contents (Elt Ideal)) (w0 w1 : (⟨2, ![512, 128]⟩ : Shape).Idx → Elt Ideal e) (i : Fin 512) (j : Fin 256) :
    v.read (Elt Ideal) (v.writes (Elt Ideal) f [⟨Rect.unit ![0, 128] ![512, 128] inb_S512x256_S512x128_0_128, w1⟩, ⟨Rect.unit ![0, 0] ![512, 128] inb_S512x256_S512x128_0_0, w0⟩]) (ix2 i j)
      = if h : 128 ≤ j.val then w1 (ix2 i ⟨j.val - 128, by omega⟩) else w0 (ix2 i ⟨j.val, by omega⟩) := by
  by_cases h : 128 ≤ j.val
  · rw [dif_pos h]
    exact View.read_writes_cons_unit_of_mem v f inb_S512x256_S512x128_0_128 w1 _ (ix2 i j) (ix2 i ⟨j.val - 128, by omega⟩) rfl (by intro x; fin_cases x <;> simp; omega)
  · rw [dif_neg h, View.read_writes_cons_unit v f inb_S512x256_S512x128_0_128 w1 _ _ rfl, dif_neg (fun hx => h (by simpa using (hx 1).1))]
    exact View.read_writes_cons_unit_of_mem v f inb_S512x256_S512x128_0_0 w0 _ (ix2 i j) (ix2 i ⟨j.val, by omega⟩) rfl (by intro x; fin_cases x <;> simp)

theorem split_bf16 {sig : RefSig} {κ : Kind} {sp : Space} (v : View sig κ sp ⟨2, ![512, 256]⟩ .bf16) (f : v.ty.Contents (Elt Ideal)) {w0 w1 : (⟨2, ![512, 128]⟩ : Shape).Idx → EReal} {A B : ℕ → ℕ → ℝ} (h0 : Holds w0 A) (h1 : Holds w1 B) :
    Holds (v.read (Elt Ideal) (v.writes (Elt Ideal) f [⟨Rect.unit ![0, 128] ![512, 128] inb_S512x256_S512x128_0_128, w1⟩, ⟨Rect.unit ![0, 0] ![512, 128] inb_S512x256_S512x128_0_0, w0⟩]))
      (fun i j => if 128 ≤ j then B i (j - 128) else A i j) := fun i j => by
  refine (split_point v f w0 w1 i j).trans ?_
  beta_reduce
  by_cases h : 128 ≤ j.val
  · rw [dif_pos h, if_pos h]
    exact h1 i ⟨j.val - 128, by omega⟩
  · rw [dif_neg h, if_neg h]
    exact h0 i ⟨j.val, by omega⟩

theorem split_f32 {sig : RefSig} {κ : Kind} {sp : Space} (v : View sig κ sp ⟨2, ![512, 256]⟩ .f32) (f : v.ty.Contents (Elt Ideal)) {w0 w1 : (⟨2, ![512, 128]⟩ : Shape).Idx → EReal} {A B : ℕ → ℕ → ℝ} (h0 : Holds w0 A) (h1 : Holds w1 B) :
    Holds (v.read (Elt Ideal) (v.writes (Elt Ideal) f [⟨Rect.unit ![0, 128] ![512, 128] inb_S512x256_S512x128_0_128, w1⟩, ⟨Rect.unit ![0, 0] ![512, 128] inb_S512x256_S512x128_0_0, w0⟩]))
      (fun i j => if 128 ≤ j then B i (j - 128) else A i j) := fun i j => by
  refine (split_point v f w0 w1 i j).trans ?_
  beta_reduce
  by_cases h : 128 ≤ j.val
  · rw [dif_pos h, if_pos h]
    exact h1 i ⟨j.val - 128, by omega⟩
  · rw [dif_neg h, if_neg h]
    exact h0 i ⟨j.val, by omega⟩

theorem pay2_2 {x y : Vec Ideal S1x512x256 .f32} {B : ℕ → ℕ → ℝ} (hx : HoldsE (p := 1) (m := 512) (n := 256) x fun _ a j => ((B a j : ℝ) : EReal)) (hy : HoldsE (p := 1) (m := 512) (n := 256) y fun _ a j => ((B a j : ℝ) : EReal))
    (hB : ∀ a j, 128 ≤ j → 0 < B a j) : Holds (k2_pay2 (F := Ideal) x y) (fun a j => B a j / B a (128 + j)) := by
  intro a j
  pointwise [k2_pay2, k2_pay1]
  rw [hx 0 _ _, hy 0 _ _]
  have := hB a.val (128 + j.val) (by omega)
  simp only [Nat.zero_add]
  rw [Ideal.div_coe (by simpa [Nat.add_comm] using this.ne'), ← EReal.coe_mul]
  simp [Nat.add_comm, div_eq_mul_inv]

theorem pay2_3 {x : Vec Ideal S1x512x256 .f32} {m : Vec Ideal S1x512x128 .f32} {B : ℕ → ℕ → ℝ} {μ : ℕ → ℝ} (hx : HoldsE (p := 1) (m := 512) (n := 256) x fun _ a j => ((B a j : ℝ) : EReal)) (hm : HoldsE (p := 1) (m := 512) (n := 128) m fun _ a _ => ((μ a : ℝ) : EReal))
    (hB : ∀ a j, 128 ≤ j → 0 < B a j) : Holds (k2_pay3 (F := Ideal) x m) (fun a j => μ a + Real.log (B a (128 + j))) := by
  intro a j
  pointwise [k2_pay3, k2_pay1]
  rw [hx 0 _ _, hm 0 _ _]
  have := hB a.val (128 + j.val) (by omega)
  simp only [Nat.zero_add]
  rw [Ideal.log_coe, if_neg (by simpa [Nat.add_comm] using this), ← EReal.coe_add]

/-- The output of a grid point's block: the softmax-weighted mean of the values. -/
def tileOut (Q K : ℕ → ℕ → ℝ) (W : ℕ → ℕ → ℕ → ℝ) (n a c : ℕ) : ℝ :=
  (∑ t ∈ Finset.range (512 * n + a + 1), Real.exp (score2 Q K (c / 128) a t) * W (c / 128) t (c % 128)) / ∑ t ∈ Finset.range (512 * n + a + 1), Real.exp (score2 Q K (c / 128) a t)

/-- The logarithm of its row sums. -/
def tileLse (Q K : ℕ → ℕ → ℝ) (n a c : ℕ) : ℝ := Real.log (∑ t ∈ Finset.range (512 * n + a + 1), Real.exp (score2 Q K (c / 128) a t))

theorem sums2_low (μ : ℕ → ℕ → ℝ) (n h a j : ℕ) (hj : j < 128) :
    sums2 Q K W μ n h a j = Real.exp (-μ h a) * ∑ t ∈ Finset.range (512 * n + a + 1), Real.exp (score2 Q K h a t) * W h t j := by
  rw [sums2, Finset.mul_sum]
  refine Finset.sum_congr rfl fun t _ => ?_
  rw [wide, if_pos hj, ← mul_assoc, ← Real.exp_add, neg_add_eq_sub]

theorem sums2_high (μ : ℕ → ℕ → ℝ) (n h a j : ℕ) (hj : 128 ≤ j) :
    sums2 Q K W μ n h a j = Real.exp (-μ h a) * ∑ t ∈ Finset.range (512 * n + a + 1), Real.exp (score2 Q K h a t) := by
  rw [sums2, Finset.mul_sum]
  refine Finset.sum_congr rfl fun t _ => ?_
  rw [wide, if_neg (by omega), mul_one, ← Real.exp_add, neg_add_eq_sub]

theorem rowsum_pos (Q K : ℕ → ℕ → ℝ) (n h a : ℕ) : 0 < ∑ t ∈ Finset.range (512 * n + a + 1), Real.exp (score2 Q K h a t) :=
  Finset.sum_pos (fun _ _ => Real.exp_pos _) ⟨0, by simp⟩

theorem sums2_pos (μ : ℕ → ℕ → ℝ) (n h a j : ℕ) (hj : 128 ≤ j) : 0 < sums2 Q K W μ n h a j := by
  rw [sums2_high _ _ _ _ _ hj]
  exact mul_pos (Real.exp_pos _) (rowsum_pos Q K n h a)

theorem ratio2 (μ : ℕ → ℕ → ℝ) (n h a j : ℕ) (hj : j < 128) : sums2 Q K W μ n h a j / sums2 Q K W μ n h a (128 + j)
    = (∑ t ∈ Finset.range (512 * n + a + 1), Real.exp (score2 Q K h a t) * W h t j) / ∑ t ∈ Finset.range (512 * n + a + 1), Real.exp (score2 Q K h a t) := by
  rw [sums2_low _ _ _ _ _ hj, sums2_high _ _ _ _ _ (by omega), mul_div_mul_left _ _ (Real.exp_pos _).ne']

theorem log2 (μ : ℕ → ℕ → ℝ) (n h a j : ℕ) : μ h a + Real.log (sums2 Q K W μ n h a (128 + j)) = Real.log (∑ t ∈ Finset.range (512 * n + a + 1), Real.exp (score2 Q K h a t)) := by
  rw [sums2_high _ _ _ _ _ (by omega), Real.log_mul (Real.exp_pos _).ne' (rowsum_pos Q K n h a).ne', Real.log_exp]
  ring

theorem run2 (x0 : Vec Ideal S512x512 .bf16) (x1 : Vec Ideal S8192x512 .bf16) (x2 x3 : Vec Ideal S8192x128 .bf16)
    (h2 : Holds x0 Q) (h3 : Holds x1 K) (h4 : Holds x2 (W 0)) (h5 : Holds x3 (W 1)) :
    Holds (arg6.view.read (Elt Ideal) (arg6.view.writes (Elt Ideal) arg6.view.junk (kernelRun2_A c i arg2 harg2 arg3 harg3 arg4 harg4 arg5 harg5 arg6 harg6 arg7 harg7 arg8 harg8 arg9 harg9 x0 x1 x2 x3).1)) (tileOut Q K W (i 1).val)
    ∧ Holds (arg7.view.read (Elt Ideal) (arg7.view.writes (Elt Ideal) arg7.view.junk (kernelRun2_A c i arg2 harg2 arg3 harg3 arg4 harg4 arg5 harg5 arg6 harg6 arg7 harg7 arg8 harg8 arg9 harg9 x0 x1 x2 x3).2.1)) (tileLse Q K (i 1).val) := by
  obtain ⟨μ, e8, e9⟩ := diag2 c i arg2 harg2 arg3 harg3 arg4 harg4 arg5 harg5 arg6 harg6 arg7 harg7 arg8 harg8 arg9 harg9 x0 x1 x2 x3 h2 h3 h4 h5
  unfold kernelRun2_A
  dsimp only
  have a0 := e9.window 0 inb_S2x512x256_S1x512x256_0_0_0
  have a1 := e9.window 1 inb_S2x512x256_S1x512x256_1_0_0
  have m0 := e8.window 0 inb_S2x512x128_S1x512x128_0_0_0
  have m1 := e8.window 1 inb_S2x512x128_S1x512x128_1_0_0
  have g0 : ∀ a j, 128 ≤ j → 0 < sums2 Q K W μ (i 1).val 0 a j := fun a j hj => sums2_pos _ _ _ _ _ hj
  have g1 : ∀ a j, 128 ≤ j → 0 < sums2 Q K W μ (i 1).val 1 a j := fun a j hj => sums2_pos _ _ _ _ _ hj
  constructor
  · refine Holds.congr (split_bf16 arg6.view _ (pay2_2 a0 a0 g0) (pay2_2 a1 a1 g1)) ?_
    intro a _ j _
    by_cases h : 128 ≤ j
    · rw [if_pos h, ratio2 _ _ _ _ _ (by omega), tileOut, show j / 128 = 1 by omega, show j % 128 = j - 128 by omega]
    · rw [if_neg h, ratio2 _ _ _ _ _ (by omega), tileOut, show j / 128 = 0 by omega, show j % 128 = j by omega]
  · refine Holds.congr (split_f32 arg7.view _ (pay2_3 a0 m0 g0) (pay2_3 a1 m1 g1)) ?_
    intro a _ j _
    by_cases h : 128 ≤ j
    · rw [if_pos h, log2, tileLse, show j / 128 = 1 by omega]
    · rw [if_neg h, log2, tileLse, show j / 128 = 0 by omega]

theorem out2 (x0 : Vec Ideal S512x512 .bf16) (x1 : Vec Ideal S8192x512 .bf16) (x2 x3 : Vec Ideal S8192x128 .bf16)
    (h2 : Holds x0 Q) (h3 : Holds x1 K) (h4 : Holds x2 (W 0)) (h5 : Holds x3 (W 1)) :
    Holds (out2_A_4 c i arg2 harg2 arg3 harg3 arg4 harg4 arg5 harg5 arg6 harg6 arg7 harg7 arg8 harg8 arg9 harg9 x0 x1 x2 x3) (tileOut Q K W (i 1).val) ∧ Holds (out2_A_5 c i arg2 harg2 arg3 harg3 arg4 harg4 arg5 harg5 arg6 harg6 arg7 harg7 arg8 harg8 arg9 harg9 x0 x1 x2 x3) (tileLse Q K (i 1).val) := by
  have h := run2 c i arg2 harg2 arg3 harg3 arg4 harg4 arg5 harg5 arg6 harg6 arg7 harg7 arg8 harg8 arg9 harg9 x0 x1 x2 x3 h2 h3 h4 h5
  have cov := cover2_A_4 c i arg2 harg2 arg3 harg3 arg4 harg4 arg5 harg5 arg6 harg6 arg7 harg7 arg8 harg8 arg9 harg9 x0 x1 x2 x3
  have cov' := cover2_A_5 c i arg2 harg2 arg3 harg3 arg4 harg4 arg5 harg5 arg6 harg6 arg7 harg7 arg8 harg8 arg9 harg9 x0 x1 x2 x3
  rw [View.read_writes_eq_canon _ _ _ cov, View.read_writes_eq_canon _ _ _ cov'] at h
  rw [out2_A_4, View.read_writes_eq_canon _ _ _ cov, out2_A_5, View.read_writes_eq_canon _ _ _ cov']
  exact h

variable (Z : (c : Dev nD) → (b : Ref sig .tc) → Buf (Elt Ideal) ((c : Thread nD τ).loc b))

theorem idx2 : ∀ t : Fin cfg2.N, win2_0.index t = ![t.val % 16, t.val / 16] ∧ win2_1.index t = ![0, t.val / 16] ∧ win2_2.index t = ![0, 4 * (t.val / 16) + 1] ∧ win2_3.index t = ![0, 4 * (t.val / 16) + 3]
    ∧ win2_4.index t = ![t.val % 16, t.val / 16] ∧ win2_5.index t = ![t.val % 16, t.val / 16] :=
  (by decide +kernel : ∀ t : Fin grid2.N, _)

theorem coord2 : ∀ t : Fin cfg2.N, (grid2.coords t 1).val = t.val % 16 := (by decide +kernel : ∀ t : Fin grid2.N, _)

theorem blk2_0 {c : Dev nD} {A : ℕ → ℕ → ℝ} (h : @Holds 8192 2048 (Z c main_v47) A) (t : Fin cfg2.N) :
    @Holds 512 512 (iblk2 Z c 0 t) fun i j => A (512 * (t.val % 16) + i) (512 * (t.val / 16) + j) := fun i j => by
  have hN : t.val < 64 := t.isLt
  exact Eq.trans (b := (Z c main_v47 : (⟨2, ![8192, 2048]⟩ : Shape).Idx → EReal) (ix2 ⟨512 * (t.val % 16) + i.val, by omega⟩ ⟨512 * (t.val / 16) + j.val, by omega⟩))
    (by blk_point [iblk2, idx2 t]) (h _ _)

theorem blk2_1 {c : Dev nD} {A : ℕ → ℕ → ℝ} (h : @Holds 8192 2048 (Z c main_v49) A) (t : Fin cfg2.N) :
    @Holds 8192 512 (iblk2 Z c 1 t) fun i j => A (8192 * 0 + i) (512 * (t.val / 16) + j) := fun i j => by
  have hN : t.val < 64 := t.isLt
  exact Eq.trans (b := (Z c main_v49 : (⟨2, ![8192, 2048]⟩ : Shape).Idx → EReal) (ix2 ⟨8192 * 0 + i.val, by omega⟩ ⟨512 * (t.val / 16) + j.val, by omega⟩))
    (by blk_point [iblk2, idx2 t]) (h _ _)

theorem blk2_2 {c : Dev nD} {A : ℕ → ℕ → ℝ} (h : @Holds 8192 2048 (Z c main_arg1) A) (t : Fin cfg2.N) :
    @Holds 8192 128 (iblk2 Z c 2 t) fun i j => A (8192 * 0 + i) (128 * (4 * (t.val / 16) + 1) + j) := fun i j => by
  have hN : t.val < 64 := t.isLt
  exact Eq.trans (b := (Z c main_arg1 : (⟨2, ![8192, 2048]⟩ : Shape).Idx → EReal) (ix2 ⟨8192 * 0 + i.val, by omega⟩ ⟨128 * (4 * (t.val / 16) + 1) + j.val, by omega⟩))
    (by blk_point [iblk2, idx2 t]) (h _ _)

theorem blk2_3 {c : Dev nD} {A : ℕ → ℕ → ℝ} (h : @Holds 8192 2048 (Z c main_arg1) A) (t : Fin cfg2.N) :
    @Holds 8192 128 (iblk2 Z c 3 t) fun i j => A (8192 * 0 + i) (128 * (4 * (t.val / 16) + 3) + j) := fun i j => by
  have hN : t.val < 64 := t.isLt
  exact Eq.trans (b := (Z c main_arg1 : (⟨2, ![8192, 2048]⟩ : Shape).Idx → EReal) (ix2 ⟨8192 * 0 + i.val, by omega⟩ ⟨128 * (4 * (t.val / 16) + 3) + j.val, by omega⟩))
    (by blk_point [iblk2, idx2 t]) (h _ _)

/-- The output over whole arrays: at each head the softmax-weighted mean of the values not later than the row. -/
def causalOut (Q K KV : ℕ → ℕ → ℝ) (r c : ℕ) : ℝ :=
  (∑ t ∈ Finset.range (r + 1), Real.exp (score2 Q K (c / 128) r t) * KV t (256 * (c / 128) + 128 + c % 128)) / ∑ t ∈ Finset.range (r + 1), Real.exp (score2 Q K (c / 128) r t)

/-- The logarithm of the row sums at head `h`. -/
def causalLse (Q K : ℕ → ℕ → ℝ) (r h : ℕ) : ℝ := Real.log (∑ t ∈ Finset.range (r + 1), Real.exp (score2 Q K h r t))

theorem score2_block (Q K : ℕ → ℕ → ℝ) (n p h a t : ℕ) :
    score2 (fun i j => Q (512 * n + i) (512 * p + j)) (fun i j => K (8192 * 0 + i) (512 * p + j)) h a t = score2 Q K (2 * p + h) (512 * n + a) t := by
  have e1 : ∀ x, 512 * p + (256 * h + x) = 256 * (2 * p + h) + x := fun x => by omega
  simp only [score2, e1, Nat.mul_zero, Nat.zero_add]

variable {c : Dev nD} {Q K KV : ℕ → ℕ → ℝ} (hQ : @Holds 8192 2048 (Z c main_v47) Q) (hK : @Holds 8192 2048 (Z c main_v49) K) (hKV : @Holds 8192 2048 (Z c main_arg1) KV)
include hQ hK hKV

/-- A grid point's two blocks. -/
theorem point2 (t : Fin cfg2.N) : Holds (outsAt2 Z c t).1 (fun a x => causalOut Q K KV (512 * (t.val % 16) + a) (256 * (t.val / 16) + x))
    ∧ Holds (outsAt2 Z c t).2 (fun a x => causalLse Q K (512 * (t.val % 16) + a) ((256 * (t.val / 16) + x) / 128)) := by
  have hN : t.val < 64 := t.isLt
  unfold outsAt2
  dsimp only
  have h := out2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _)
    _ _ _ _ (blk2_0 Z hQ t) (blk2_1 Z hK t) (W := fun h s d => KV s (256 * (2 * (t.val / 16) + h) + 128 + d)) ((blk2_2 Z hKV t).congr (by intro i _ j _; congr 1 <;> omega)) ((blk2_3 Z hKV t).congr (by intro i _ j _; congr 1 <;> omega))
  rw [coord2 t] at h
  refine ⟨h.1.congr ?_, h.2.congr ?_⟩
  · intro a _ x _
    simp only [tileOut, causalOut, score2_block]
    rw [show (256 * (t.val / 16) + x) / 128 = 2 * (t.val / 16) + x / 128 by omega, show (256 * (t.val / 16) + x) % 128 = x % 128 by omega]
  · intro a _ x _
    simp only [tileLse, causalLse, score2_block]
    rw [show (256 * (t.val / 16) + x) / 128 = 2 * (t.val / 16) + x / 128 by omega]

/-- The forward call leaves the attention's output in its first array. -/
theorem final2_4 : @Holds 8192 1024 ((dat2 Z c).arrAt 4 cfg2.N) (causalOut Q K KV) := by
  refine Holds.of (congrFun ((dat2 Z c).arrAt_eq_of_covers 4 _ (by decide +kernel) fun t _ y => ?_))
  blk_simp; rw [after2_4]
  refine ((point2 Z hQ hK hKV t).1.at y).trans ?_
  obtain ⟨-, -, -, -, e, -⟩ := idx2 t
  rw [e]
  simp [Nat.mul_comm]

/-- And the logarithms of the row sums in its second. -/
theorem final2_5 : @Holds 8192 1024 ((dat2 Z c).arrAt 5 cfg2.N) (fun r x => causalLse Q K r (x / 128)) := by
  refine Holds.of (congrFun ((dat2 Z c).arrAt_eq_of_covers 5 _ (by decide +kernel) fun t _ y => ?_))
  blk_simp; rw [after2_5]
  refine ((point2 Z hQ hK hKV t).2.at y).trans ?_
  obtain ⟨-, -, -, -, -, e⟩ := idx2 t
  rw [e]
  simp [Nat.mul_comm]

end Cert.KernelIdeal.Value
end
-- ==== Proof.Attn.Dkv.lean ====
/- The dk, dv call of the latent attention: what a grid point's diagonal tile and its loop over the later query tiles leave
   in the two output blocks, and the whole arrays, over arrays of real numbers. -/
module

public import proofs.«01_k».proof.Proof.Attn.Real
public import proofs.«01_k».proof.Proof.Gen.KernelIdeal.Frame.Region5

@[expose] public section
set_option maxRecDepth 16384
noncomputable section
open Idealize.ShloMosaic Idealize.ShloMosaic.TcCoe Idealize.SL.Sem
namespace Cert.KernelIdeal.Value
open Cert.KernelIdeal Cert.KernelIdeal.Gen Cert.Attn

theorem trips5 : ∀ i : grid5.Coords, (k5_t1_loop i).trips = 15 - (i 1).val := by decide +kernel
theorem trips5_2 : ∀ i : grid5.Coords, (k5_t2_loop i).trips = 0 := by decide +kernel
theorem off5_1 : ∀ i : grid5.Coords, k5_off1 i = ![512 * (i 1).val, 0] := by decide +kernel
theorem off5_2 : ∀ i : grid5.Coords, k5_off2 i = ![512 * (i 1).val, 0] := by decide +kernel
theorem off5_3 : ∀ i : grid5.Coords, k5_off3 i = ![0, 0, 512 * (i 1).val] := by decide +kernel
theorem off5_4 : ∀ i : grid5.Coords, k5_off4 i = ![512 * (i 1).val, 256] := by decide +kernel
theorem off5_5 : ∀ i : grid5.Coords, k5_off5 i = ![512 * (i 1).val, 128] := by decide +kernel
theorem off5_6 : ∀ i : grid5.Coords, k5_off6 i = ![1, 0, 512 * (i 1).val] := by decide +kernel
theorem off5_7 : ∀ (i : grid5.Coords) (k : Fin (k5_t1_loop i).trips), k5_off7 i k = ![512 * ((i 1).val + 1 + k.val), 0] := by decide +kernel
theorem off5_8 : ∀ (i : grid5.Coords) (k : Fin (k5_t1_loop i).trips), k5_off8 i k = ![512 * ((i 1).val + 1 + k.val), 0] := by decide +kernel
theorem off5_9 : ∀ (i : grid5.Coords) (k : Fin (k5_t1_loop i).trips), k5_off9 i k = ![0, 0, 512 * ((i 1).val + 1 + k.val)] := by decide +kernel
theorem off5_10 : ∀ (i : grid5.Coords) (k : Fin (k5_t1_loop i).trips), k5_off10 i k = ![512 * ((i 1).val + 1 + k.val), 256] := by decide +kernel
theorem off5_11 : ∀ (i : grid5.Coords) (k : Fin (k5_t1_loop i).trips), k5_off11 i k = ![512 * ((i 1).val + 1 + k.val), 128] := by decide +kernel
theorem off5_12 : ∀ (i : grid5.Coords) (k : Fin (k5_t1_loop i).trips), k5_off12 i k = ![1, 0, 512 * ((i 1).val + 1 + k.val)] := by decide +kernel

theorem mask_bot5 : Named.named (F := Ideal) κ (φ := .f32) "mask" 4048155338#32 = (⊥ : EReal) := by
  simp [Named.named, κ]

variable {Q K G V A S : ℕ → ℕ → ℝ} {L D : ℕ → ℝ}

/-- A tile of weights, keys down the rows and queries along the columns. -/
theorem pay5_6 {v101 v105 : Vec Ideal S512x256 .bf16} {v111 : Vec Ideal S1x1x512 .f32} (hQ : Holds v101 Q) (hK : Holds v105 K) (hL : Holds3 v111 fun _ a => L a) :
    Holds (k5_pay6 (F := Ideal) v101 v105 v111) (fun b a => expP Q K L a b) := by
  intro b a
  pointwise [k5_pay6, k5_pay5]
  simp only [hQ _ _, hK _ _, hL 0 _, sigma_real, Finite.coe_dot, ← EReal.coe_mul, ← EReal.coe_sub, Ideal.exp_coe, Finite.coe_sum]
  simp only [expP, mul_comm (K _ _)]

/-- The tile on the diagonal: the weights of the queries not earlier than the key. -/
theorem pay5_28 {v7 v11 : Vec Ideal S512x256 .bf16} {v22 : Vec Ideal S1x1x512 .f32} (hQ : Holds v7 Q) (hK : Holds v11 K) (hL : Holds3 v22 fun _ a => L a) :
    Holds (k5_pay28 (F := Ideal) v7 v11 v22) (fun b a => if b ≤ a then expP Q K L a b else 0) := by
  intro b a
  pointwise [k5_pay28, k5_pay27]
  simp only [hQ _ _, hK _ _, hL 0 _, sigma_real, Finite.coe_dot, ← EReal.coe_mul, Finite.coe_sum, causal_select, causal_select', mask_bot5]
  split
  · simp only [← EReal.coe_sub, Ideal.exp_coe, expP, mul_comm (K _ _)]
  · simp only [EReal.bot_sub, Ideal.exp_bot, EReal.coe_zero]

theorem pay5_5 {v : Vec Ideal S512x256 .bf16} (h : Holds v Q) : Holds (k5_pay5 (F := Ideal) v) Q := by
  intro a c
  pointwise [k5_pay5]
  exact h a c

theorem pay5_9 {v : Vec Ideal S512x256 .f32} (h : Holds v A) : Holds (k5_pay9 (F := Ideal) v) A := by
  intro a c
  pointwise [k5_pay9]
  exact h a c

/-- What is added to the gradient of the values. -/
theorem pay5_1 {v53 : Vec Ideal S512x128 .bf16} {v69 : Vec Ideal S512x512 .f32} {v70 : Vec Ideal S512x128 .f32} (hG : Holds v53 G) (hS : Holds v69 S) (hA : Holds v70 A) :
    Holds (k5_pay1 (F := Ideal) v53 v69 v70) (fun b c => A b c + ∑ a : Fin 512, S b a * G a c) := by
  intro b c
  pointwise [k5_pay1]
  simp only [hG _ _, hS _ _, hA _ _, Finite.coe_dot, ← EReal.coe_add]

/-- What is added to the gradient of the keys. -/
theorem pay5_10 {v102 : Vec Ideal S512x256 .bf16} {v131 : Vec Ideal S512x512 .f32} {v133 : Vec Ideal S512x256 .f32} (hQ : Holds v102 Q) (hS : Holds v131 S) (hA : Holds v133 A) :
    Holds (k5_pay10 (F := Ideal) v102 v131 v133) (fun b c => A b c + ∑ a : Fin 512, S b a * Q a c) := by
  intro b c
  pointwise [k5_pay10]
  simp only [hQ _ _, hS _ _, hA _ _, Finite.coe_dot, ← EReal.coe_add]

/-- The gradient of a tile of scores. -/
theorem pay5_8 {v101 v105 : Vec Ideal S512x256 .bf16} {v104 v122 : Vec Ideal S512x128 .bf16} {v111 v125 : Vec Ideal S1x1x512 .f32} (hQ : Holds v101 Q) (hG : Holds v104 G) (hK : Holds v105 K)
    (hL : Holds3 v111 fun _ a => L a) (hV : Holds v122 V) (hD : Holds3 v125 fun _ a => D a) :
    Holds (k5_pay8 (F := Ideal) v101 v104 v105 v111 v122 v125) (fun b a => dsP (expP Q K L) G V D a b) := by
  intro b a
  have h6 := pay5_6 hQ hK hL b a
  pointwise [k5_pay8]
  simp only [h6, hG _ _, hV _ _, hD 0 _, sigma_real, Finite.coe_dot, ← EReal.coe_mul, ← EReal.coe_sub, Finite.coe_sum]
  simp only [dsP, mul_comm (V _ _)]

theorem pay5_2 {P : ℕ → ℕ → ℝ} {v51 : Vec Ideal S512x256 .bf16} {v53 v76 : Vec Ideal S512x128 .bf16} {v69 : Vec Ideal S512x512 .f32} {v79 : Vec Ideal S1x1x512 .f32} {v86 : Vec Ideal S512x256 .f32}
    (hQ : Holds v51 Q) (hG : Holds v53 G) (hP : Holds v69 fun b a => P a b) (hV : Holds v76 V) (hD : Holds3 v79 fun _ a => D a) (hA : Holds v86 A) :
    Holds (k5_pay2 (F := Ideal) v51 v53 v69 v76 v79 v86) (fun b c => A b c + ∑ a : Fin 512, dsP P G V D a b * Q a c) := by
  intro b c
  pointwise [k5_pay2]
  simp only [hQ _ _, hG _ _, hP _ _, hV _ _, hD 0 _, hA _ _, sigma_real, Finite.coe_dot, ← EReal.coe_mul, ← EReal.coe_sub, Finite.coe_sum, ← EReal.coe_add]
  simp only [dsP, mul_comm (V _ _)]

theorem pay5_0 {n : ℕ} : @Holds 512 n (fun _ => Ideal.ofBits .f32 0#32) (fun _ _ => 0) := by
  intro a c
  simp

theorem eq5_7 (a c : Vec Ideal S512x256 .bf16) (b : Vec Ideal S512x128 .bf16) (d : Vec Ideal S1x1x512 .f32) (e : Vec Ideal S512x128 .f32) : k5_pay7 a b c d e = k5_pay1 b (k5_pay6 a c d) e := rfl
theorem eq5_13 : k5_pay13 (F := Ideal) = k5_pay7 := rfl
theorem eq5_14 : k5_pay14 (F := Ideal) = k5_pay8 := rfl
theorem eq5_3 (a : Vec Ideal S512x256 .bf16) (b : Vec Ideal S512x512 .f32) (c : Vec Ideal S512x256 .f32) : k5_pay3 a b c = k5_pay10 a b (k5_pay9 c) := rfl
theorem eq5_29 (a c : Vec Ideal S512x256 .bf16) (b : Vec Ideal S512x128 .bf16) (d : Vec Ideal S1x1x512 .f32) (e : Vec Ideal S512x128 .f32) : k5_pay29 a b c d e = k5_pay1 b (k5_pay28 a c d) e := rfl
theorem eq5_30 : k5_pay30 (F := Ideal) = k5_pay2 := rfl
theorem eq5_32 : k5_pay32 (F := Ideal) = k5_pay28 := rfl

variable (c : Dev nD) (i : grid5.Coords) (arg2 : Memref sig .tc .vmem S8192x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S8192x256 .bf16) (harg6 : arg6.IsWhole) (arg7 : Memref sig .tc .vmem S2x1x8192 .f32) (harg7 : arg7.IsWhole) (arg8 : Memref sig .tc .vmem S2x1x8192 .f32) (harg8 : arg8.IsWhole) (arg9 : Memref sig .tc .vmem S512x512 .f32) (harg9 : arg9.IsWhole) (arg10 : Memref sig .tc .vmem S512x256 .f32) (harg10 : arg10.IsWhole) (v92 : BitVec 32)
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
  {W : ℕ → ℕ → ℕ → ℝ} {M E B : ℕ → ℕ → ℝ}

/-- One later query tile: what it adds to the gradients of the keys and of the values. -/
theorem trip5 (𝒱 : Variants) (bd : Option 𝒱.V) (k : Fin (k5_t1_loop i).trips) (f : BufTy.Contents (Elt Ideal) arg9.view.ty) (g : BufTy.Contents (Elt Ideal) arg10.view.ty)
    (h2 : Holds (arg2.view.read (Elt Ideal) X2) Q) (h3 : Holds (arg3.view.read (Elt Ideal) X3) K)
    (h4 : Holds (arg4.view.read (Elt Ideal) X4) (W 0)) (h5 : Holds (arg5.view.read (Elt Ideal) X5) (W 1)) (h6 : Holds (arg6.view.read (Elt Ideal) X6) G)
    (h7 : Holds3 (arg7.view.read (Elt Ideal) X7) fun h a => M a h) (h8 : Holds3 (arg8.view.read (Elt Ideal) X8) fun h a => E a h)
    (hA : Holds (arg9.view.read (Elt Ideal) f) A) (hB : Holds (arg10.view.read (Elt Ideal) g) B) :
    Holds (arg9.view.read (Elt Ideal) (arg9.view.writes (Elt Ideal) f ((trip_k5_t1 𝒱 c bd i arg2 harg2 arg3 harg3 arg4 harg4 arg5 harg5 arg6 harg6 arg7 harg7 arg8 harg8 arg9 harg9 arg10 harg10 v92 X2 X3 X4 X5 X6 X7 X8 k).1 f g)))
      (fun b c => A b c + ∑ a : Fin 512, dsAt Q K G W M E (c / 256) (512 * ((i 1).val + 1 + k.val) + a) b * Q (512 * ((i 1).val + 1 + k.val) + a) c)
    ∧ Holds (arg10.view.read (Elt Ideal) (arg10.view.writes (Elt Ideal) g ((trip_k5_t1 𝒱 c bd i arg2 harg2 arg3 harg3 arg4 harg4 arg5 harg5 arg6 harg6 arg7 harg7 arg8 harg8 arg9 harg9 arg10 harg10 v92 X2 X3 X4 X5 X6 X7 X8 k).2.1 f g)))
      (fun b c => B b c + ∑ a : Fin 512, expH Q K M (c / 128) (512 * ((i 1).val + 1 + k.val) + a) b * G (512 * ((i 1).val + 1 + k.val) + a) c) := by
  unfold trip_k5_t1
  dsimp only
  have q0 := h2.window _ _ (k5_off7_inb i k) (off5_7 i k)
  have q1 := h2.window _ _ (k5_off10_inb i k) (off5_10 i k)
  have g0 := h6.window _ _ (k5_off8_inb i k) (off5_8 i k)
  have g1 := h6.window _ _ (k5_off11_inb i k) (off5_11 i k)
  have k0 := h3.window 0 0 inb_S512x512_S512x256_0_0 rfl
  have k1 := h3.window 0 256 inb_S512x512_S512x256_0_256 rfl
  have l0 := (h7.window _ _ (k5_off9_inb i k) (off5_9 i k)).congr (B := fun _ a => M (512 * ((i 1).val + 1 + k.val) + a) 0) (by intro a ha j _; congr 1; omega)
  have l1 := (h7.window _ _ (k5_off12_inb i k) (off5_12 i k)).congr (B := fun _ a => M (512 * ((i 1).val + 1 + k.val) + a) 1) (by intro a ha j _; congr 1; omega)
  have d0 := (h8.window _ _ (k5_off9_inb i k) (off5_9 i k)).congr (B := fun _ a => E (512 * ((i 1).val + 1 + k.val) + a) 0) (by intro a ha j _; congr 1; omega)
  have d1 := (h8.window _ _ (k5_off12_inb i k) (off5_12 i k)).congr (B := fun _ a => E (512 * ((i 1).val + 1 + k.val) + a) 1) (by intro a ha j _; congr 1; omega)
  have v0 := h4.window 0 0 inb_S512x128_S512x128_0_0 rfl
  have v1 := h5.window 0 0 inb_S512x128_S512x128_0_0 rfl
  have p1 := Holds.write_cons arg9.view f [] 0 0 inb_S512x512_S512x256_0_0 rfl _ (pay5_10 (pay5_5 q0) (pay5_8 q0 g0 k0 l0 v0 d0) (pay5_9 (hA.window 0 0 inb_S512x512_S512x256_0_0 rfl))) hA
  have p2 := Holds.write_cons arg9.view f _ 0 256 inb_S512x512_S512x256_0_256 rfl _ (pay5_10 (pay5_5 q1) (pay5_8 q1 g1 k1 l1 v1 d1) (pay5_9 (hA.window 0 256 inb_S512x512_S512x256_0_256 rfl))) p1
  have r1 := Holds.write_cons arg10.view g [] 0 0 inb_S512x256_S512x128_0_0 rfl _ (pay5_1 g0 (pay5_6 q0 k0 l0) (hB.window 0 0 inb_S512x256_S512x128_0_0 rfl)) hB
  have r2 := Holds.write_cons arg10.view g _ 0 128 inb_S512x256_S512x128_0_128 rfl _ (pay5_1 g1 (pay5_6 q1 k1 l1) (hB.window 0 128 inb_S512x256_S512x128_0_128 rfl)) r1
  constructor
  · refine Holds.congr p2 ?_
    intro a ha j hj
    by_cases h : 256 ≤ j
    · rw [if_pos ⟨by omega, by omega, h, by omega⟩, show j / 256 = 1 by omega, show 256 + (j - 256) = j by omega]
      simp only [dsAt, dsH, expH, dsP, expP, Nat.zero_add, Nat.mul_one, Nat.sub_zero]
    · rw [if_neg (by omega), if_pos ⟨by omega, by omega, by omega, by omega⟩, show j / 256 = 0 by omega]
      simp only [dsAt, dsH, expH, dsP, expP, Nat.zero_add, Nat.mul_zero, Nat.sub_zero]
  · refine Holds.congr r2 ?_
    intro a ha j hj
    by_cases h : 128 ≤ j
    · rw [if_pos ⟨by omega, by omega, h, by omega⟩, show j / 128 = 1 by omega, show 128 + (j - 128) = j by omega]
      simp only [expH, expP, Nat.zero_add, Nat.mul_one, Nat.sub_zero]
    · rw [if_neg (by omega), if_pos ⟨by omega, by omega, by omega, by omega⟩, show j / 128 = 0 by omega]
      simp only [expH, expP, Nat.zero_add, Nat.mul_zero, Nat.sub_zero]

/-- What the loop over the later query tiles has added before trip `n`. -/
theorem loop5 (𝒱 : Variants) (bd : Option 𝒱.V) (f : BufTy.Contents (Elt Ideal) arg9.view.ty) (g : BufTy.Contents (Elt Ideal) arg10.view.ty)
    (h2 : Holds (arg2.view.read (Elt Ideal) X2) Q) (h3 : Holds (arg3.view.read (Elt Ideal) X3) K)
    (h4 : Holds (arg4.view.read (Elt Ideal) X4) (W 0)) (h5 : Holds (arg5.view.read (Elt Ideal) X5) (W 1)) (h6 : Holds (arg6.view.read (Elt Ideal) X6) G)
    (h7 : Holds3 (arg7.view.read (Elt Ideal) X7) fun h a => M a h) (h8 : Holds3 (arg8.view.read (Elt Ideal) X8) fun h a => E a h)
    (hA : Holds (arg9.view.read (Elt Ideal) f) A) (hB : Holds (arg10.view.read (Elt Ideal) g) B) : ∀ n ≤ (k5_t1_loop i).trips,
    Holds (arg9.view.read (Elt Ideal) (arg9.view.writes (Elt Ideal) f (pb_k5_t1 𝒱 c bd i arg2 harg2 arg3 harg3 arg4 harg4 arg5 harg5 arg6 harg6 arg7 harg7 arg8 harg8 arg9 harg9 arg10 harg10 v92 X2 X3 X4 X5 X6 X7 X8 f g n).1))
      (fun b c => A b c + ∑ r ∈ Finset.range (512 * n), dsAt Q K G W M E (c / 256) (512 * ((i 1).val + 1) + r) b * Q (512 * ((i 1).val + 1) + r) c)
    ∧ Holds (arg10.view.read (Elt Ideal) (arg10.view.writes (Elt Ideal) g (pb_k5_t1 𝒱 c bd i arg2 harg2 arg3 harg3 arg4 harg4 arg5 harg5 arg6 harg6 arg7 harg7 arg8 harg8 arg9 harg9 arg10 harg10 v92 X2 X3 X4 X5 X6 X7 X8 f g n).2))
      (fun b c => B b c + ∑ r ∈ Finset.range (512 * n), expH Q K M (c / 128) (512 * ((i 1).val + 1) + r) b * G (512 * ((i 1).val + 1) + r) c)
  | 0, _ => ⟨hA.congr (by intro a _ j _; simp), hB.congr (by intro a _ j _; simp)⟩
  | n + 1, hn => by
    rw [pb_k5_t1_succ 𝒱 c bd i arg2 harg2 arg3 harg3 arg4 harg4 arg5 harg5 arg6 harg6 arg7 harg7 arg8 harg8 arg9 harg9 arg10 harg10 v92 X2 X3 X4 X5 X6 X7 X8 f g ⟨n, hn⟩, View.writes_append, View.writes_append]
    have ih := loop5 𝒱 bd f g h2 h3 h4 h5 h6 h7 h8 hA hB n (by omega)
    obtain ⟨t1, t2⟩ := trip5 c i arg2 harg2 arg3 harg3 arg4 harg4 arg5 harg5 arg6 harg6 arg7 harg7 arg8 harg8 arg9 harg9 arg10 harg10 v92 𝒱 bd ⟨n, hn⟩ _ _ h2 h3 h4 h5 h6 h7 h8 ih.1 ih.2
    refine ⟨t1.congr ?_, t2.congr ?_⟩
    all_goals
      intro a _ j _
      rw [show 512 * (n + 1) = 512 * n + 512 by omega, Finset.sum_range_add, ← add_assoc, Finset.sum_range (n := 512)]
      simp only [Nat.mul_add, add_assoc]

/-- A key tile's gradient: the queries of its own tile that are not earlier, then all the later ones. -/
def tileDk (Q K G : ℕ → ℕ → ℝ) (W : ℕ → ℕ → ℕ → ℝ) (M E : ℕ → ℕ → ℝ) (n : ℕ) (b c : ℕ) : ℝ :=
  (∑ a : Fin 512, (if b ≤ a.val then dsAt Q K G W M E (c / 256) (512 * n + a.val) b else 0) * Q (512 * n + a.val) c)
    + ∑ r ∈ Finset.range (512 * (15 - n)), dsAt Q K G W M E (c / 256) (512 * (n + 1) + r) b * Q (512 * (n + 1) + r) c

/-- The same of the values. -/
def tileDv (Q K G : ℕ → ℕ → ℝ) (M : ℕ → ℕ → ℝ) (n : ℕ) (b c : ℕ) : ℝ :=
  (∑ a : Fin 512, (if b ≤ a.val then expH Q K M (c / 128) (512 * n + a.val) b else 0) * G (512 * n + a.val) c)
    + ∑ r ∈ Finset.range (512 * (15 - n)), expH Q K M (c / 128) (512 * (n + 1) + r) b * G (512 * (n + 1) + r) c

theorem run5 (x0 : Vec Ideal S8192x512 .bf16) (x1 : Vec Ideal S512x512 .bf16) (x2 x3 : Vec Ideal S512x128 .bf16) (x4 : Vec Ideal S8192x256 .bf16) (x5 x6 : Vec Ideal S2x1x8192 .f32)
    (h2 : Holds x0 Q) (h3 : Holds x1 K) (h4 : Holds x2 (W 0)) (h5 : Holds x3 (W 1)) (h6 : Holds x4 G)
    (h7 : Holds3 x5 fun h a => M a h) (h8 : Holds3 x6 fun h a => E a h) :
    Holds (arg9.view.read (Elt Ideal) (arg9.view.writes (Elt Ideal) arg9.view.junk (kernelRun5_A c i arg2 harg2 arg3 harg3 arg4 harg4 arg5 harg5 arg6 harg6 arg7 harg7 arg8 harg8 arg9 harg9 arg10 harg10 x0 x1 x2 x3 x4 x5 x6).1))
      (tileDk Q K G W M E (i 1).val)
    ∧ Holds (arg10.view.read (Elt Ideal) (arg10.view.writes (Elt Ideal) arg10.view.junk (kernelRun5_A c i arg2 harg2 arg3 harg3 arg4 harg4 arg5 harg5 arg6 harg6 arg7 harg7 arg8 harg8 arg9 harg9 arg10 harg10 x0 x1 x2 x3 x4 x5 x6).2.1))
      (tileDv Q K G M (i 1).val) := by
  have r2 : Holds (arg2.view.read (Elt Ideal) (harg2.unread x0)) Q := by rw [harg2.read_unread]; exact h2
  have r3 : Holds (arg3.view.read (Elt Ideal) (harg3.unread x1)) K := by rw [harg3.read_unread]; exact h3
  have r4 : Holds (arg4.view.read (Elt Ideal) (harg4.unread x2)) (W 0) := by rw [harg4.read_unread]; exact h4
  have r5 : Holds (arg5.view.read (Elt Ideal) (harg5.unread x3)) (W 1) := by rw [harg5.read_unread]; exact h5
  have r6 : Holds (arg6.view.read (Elt Ideal) (harg6.unread x4)) G := by rw [harg6.read_unread]; exact h6
  have r7 : Holds3 (arg7.view.read (Elt Ideal) (harg7.unread x5)) fun h a => M a h := by rw [harg7.read_unread]; exact h7
  have r8 : Holds3 (arg8.view.read (Elt Ideal) (harg8.unread x6)) fun h a => E a h := by rw [harg8.read_unread]; exact h8
  have q0 := r2.window _ _ (k5_off1_inb i) (off5_1 i)
  have q1 := r2.window _ _ (k5_off4_inb i) (off5_4 i)
  have g0 := r6.window _ _ (k5_off2_inb i) (off5_2 i)
  have g1 := r6.window _ _ (k5_off5_inb i) (off5_5 i)
  have k0 := r3.window 0 0 inb_S512x512_S512x256_0_0 rfl
  have k1 := r3.window 0 256 inb_S512x512_S512x256_0_256 rfl
  have l0 := (r7.window _ _ (k5_off3_inb i) (off5_3 i)).congr (B := fun _ a => M (512 * (i 1).val + a) 0) (by intro a ha j _; congr 1; omega)
  have l1 := (r7.window _ _ (k5_off6_inb i) (off5_6 i)).congr (B := fun _ a => M (512 * (i 1).val + a) 1) (by intro a ha j _; congr 1; omega)
  have d0 := (r8.window _ _ (k5_off3_inb i) (off5_3 i)).congr (B := fun _ a => E (512 * (i 1).val + a) 0) (by intro a ha j _; congr 1; omega)
  have d1 := (r8.window _ _ (k5_off6_inb i) (off5_6 i)).congr (B := fun _ a => E (512 * (i 1).val + a) 1) (by intro a ha j _; congr 1; omega)
  have v0 := r4.window 0 0 inb_S512x128_S512x128_0_0 rfl
  have v1 := r5.window 0 0 inb_S512x128_S512x128_0_0 rfl
  have z9 : Holds (arg9.view.read (Elt Ideal) (arg9.view.writes (Elt Ideal) arg9.view.junk kernelRun5_A.sl.H7_1)) (fun _ _ => 0) := by
    intro a c
    unfold kernelRun5_A.sl.H7_1
    exact (View.read_writes_cons_unit_of_mem arg9.view _ inb_S512x512_S512x512_0_0 _ _ (ix2 a c) (ix2 a c) rfl (by intro x; fin_cases x <;> simp)).trans (pay5_0 a c)
  have z10 : Holds (arg10.view.read (Elt Ideal) (arg10.view.writes (Elt Ideal) arg10.view.junk kernelRun5_A.sl.H8_1)) (fun _ _ => 0) := by
    intro a c
    unfold kernelRun5_A.sl.H8_1
    exact (View.read_writes_cons_unit_of_mem arg10.view _ inb_S512x256_S512x256_0_0 _ _ (ix2 a c) (ix2 a c) rfl (by intro x; fin_cases x <;> simp)).trans (pay5_0 a c)
  have s0 := pay5_28 q0 k0 l0
  have s1 := pay5_28 q1 k1 l1
  have e9 : Holds (arg9.view.read (Elt Ideal) (arg9.view.writes (Elt Ideal) arg9.view.junk (kernelRun5_A.sl.H7_3 c i arg2 harg2 arg3 harg3 arg4 harg4 arg5 harg5 arg6 harg6 arg7 harg7 arg8 harg8 arg9 x0 x1 x2 x3 x4 x5 x6)))
      (fun b c => ∑ a : Fin 512, (if b ≤ a.val then dsAt Q K G W M E (c / 256) (512 * (i 1).val + a.val) b else 0) * Q (512 * (i 1).val + a.val) c) := by
    have p1 := Holds.write_cons arg9.view _ _ 0 0 inb_S512x512_S512x256_0_0 rfl _ (pay5_2 (pay5_5 q0) g0 s0 v0 d0 (z9.window 0 0 inb_S512x512_S512x256_0_0 rfl)) z9
    have p2 := Holds.write_cons arg9.view _ _ 0 256 inb_S512x512_S512x256_0_256 rfl _ (pay5_2 (pay5_5 q1) g1 s1 v1 d1 (p1.window 0 256 inb_S512x512_S512x256_0_256 rfl)) p1
    refine Holds.congr p2 ?_
    intro a ha j hj
    by_cases h : 256 ≤ j
    · rw [if_pos ⟨by omega, by omega, h, by omega⟩, if_neg (by omega), show j / 256 = 1 by omega, show 256 + (j - 256) = j by omega]
      simp only [dsAt, dsH, expH, dsP, expP, Nat.zero_add, Nat.mul_one, Nat.sub_zero, zero_add, ite_mul, zero_mul]
    · rw [if_neg (by omega), if_pos ⟨by omega, by omega, by omega, by omega⟩, show j / 256 = 0 by omega]
      simp only [dsAt, dsH, expH, dsP, expP, Nat.zero_add, Nat.mul_zero, Nat.sub_zero, zero_add, ite_mul, zero_mul]
  have e10 : Holds (arg10.view.read (Elt Ideal) (arg10.view.writes (Elt Ideal) arg10.view.junk (kernelRun5_A.sl.H8_3 c i arg2 harg2 arg3 harg3 arg6 harg6 arg7 harg7 arg10 x0 x1 x4 x5)))
      (fun b c => ∑ a : Fin 512, (if b ≤ a.val then expH Q K M (c / 128) (512 * (i 1).val + a.val) b else 0) * G (512 * (i 1).val + a.val) c) := by
    have p1 := Holds.write_cons arg10.view _ _ 0 0 inb_S512x256_S512x128_0_0 rfl _ (pay5_1 g0 s0 (z10.window 0 0 inb_S512x256_S512x128_0_0 rfl)) z10
    have p2 := Holds.write_cons arg10.view _ _ 0 128 inb_S512x256_S512x128_0_128 rfl _ (pay5_1 g1 s1 (p1.window 0 128 inb_S512x256_S512x128_0_128 rfl)) p1
    refine Holds.congr p2 ?_
    intro a ha j hj
    by_cases h : 128 ≤ j
    · rw [if_pos ⟨by omega, by omega, h, by omega⟩, if_neg (by omega), show j / 128 = 1 by omega, show 128 + (j - 128) = j by omega]
      simp only [expH, expP, Nat.zero_add, Nat.mul_one, Nat.sub_zero, zero_add, ite_mul, zero_mul]
    · rw [if_neg (by omega), if_pos ⟨by omega, by omega, by omega, by omega⟩, show j / 128 = 0 by omega]
      simp only [expH, expP, Nat.zero_add, Nat.mul_zero, Nat.sub_zero, zero_add, ite_mul, zero_mul]
  have pl := loop5 c i arg2 harg2 arg3 harg3 arg4 harg4 arg5 harg5 arg6 harg6 arg7 harg7 arg8 harg8 arg9 harg9 arg10 harg10 (Scalar.addi (BitVec.ofNat 32 (i 1).val) 1#32) Variants.none none _ _ r2 r3 r4 r5 r6 r7 r8 e9 e10 _ le_rfl
  rw [← View.writes_append, ← View.writes_append, trips5 i] at pl
  unfold kernelRun5_A
  dsimp only
  rw [show Scf.trips (k5_t2_loop i).lb (k5_t2_loop i).ub (k5_t2_loop i).st = 0 from trips5_2 i]
  rw [show Scf.trips (k5_t1_loop i).lb (k5_t1_loop i).ub (k5_t1_loop i).st = 15 - (i 1).val from trips5 i]
  rw [pb_k5_t2.eq_1, List.nil_append, List.nil_append]
  exact pl

theorem out5 (x0 : Vec Ideal S8192x512 .bf16) (x1 : Vec Ideal S512x512 .bf16) (x2 x3 : Vec Ideal S512x128 .bf16) (x4 : Vec Ideal S8192x256 .bf16) (x5 x6 : Vec Ideal S2x1x8192 .f32)
    (h2 : Holds x0 Q) (h3 : Holds x1 K) (h4 : Holds x2 (W 0)) (h5 : Holds x3 (W 1)) (h6 : Holds x4 G)
    (h7 : Holds3 x5 fun h a => M a h) (h8 : Holds3 x6 fun h a => E a h) :
    Holds (out5_A_7 c i arg2 harg2 arg3 harg3 arg4 harg4 arg5 harg5 arg6 harg6 arg7 harg7 arg8 harg8 arg9 harg9 arg10 harg10 x0 x1 x2 x3 x4 x5 x6) (tileDk Q K G W M E (i 1).val)
    ∧ Holds (out5_A_8 c i arg2 harg2 arg3 harg3 arg4 harg4 arg5 harg5 arg6 harg6 arg7 harg7 arg8 harg8 arg9 harg9 arg10 harg10 x0 x1 x2 x3 x4 x5 x6) (tileDv Q K G M (i 1).val) := by
  have h := run5 c i arg2 harg2 arg3 harg3 arg4 harg4 arg5 harg5 arg6 harg6 arg7 harg7 arg8 harg8 arg9 harg9 arg10 harg10 x0 x1 x2 x3 x4 x5 x6 h2 h3 h4 h5 h6 h7 h8
  have cov := cover5_A_7 c i arg2 harg2 arg3 harg3 arg4 harg4 arg5 harg5 arg6 harg6 arg7 harg7 arg8 harg8 arg9 harg9 arg10 harg10 x0 x1 x2 x3 x4 x5 x6
  have cov' := cover5_A_8 c i arg2 harg2 arg3 harg3 arg4 harg4 arg5 harg5 arg6 harg6 arg7 harg7 arg8 harg8 arg9 harg9 arg10 harg10 x0 x1 x2 x3 x4 x5 x6
  rw [View.read_writes_eq_canon _ _ _ cov, View.read_writes_eq_canon _ _ _ cov'] at h
  rw [out5_A_7, View.read_writes_eq_canon _ _ _ cov, out5_A_8, View.read_writes_eq_canon _ _ _ cov']
  exact h

variable (Z : (c : Dev nD) → (b : Ref sig .tc) → Buf (Elt Ideal) ((c : Thread nD τ).loc b))

theorem idx5 : ∀ t : Fin cfg5.N, win5_0.index t = ![0, t.val / 16] ∧ win5_1.index t = ![t.val % 16, t.val / 16] ∧ win5_2.index t = ![t.val % 16, 4 * (t.val / 16) + 1] ∧ win5_3.index t = ![t.val % 16, 4 * (t.val / 16) + 3]
    ∧ win5_4.index t = ![0, t.val / 16] ∧ win5_5.index t = ![t.val / 16, 0, 0] ∧ win5_6.index t = ![t.val / 16, 0, 0] ∧ win5_7.index t = ![t.val % 16, t.val / 16] ∧ win5_8.index t = ![t.val % 16, t.val / 16] :=
  (by decide +kernel : ∀ t : Fin grid5.N, _)

theorem coord5 : ∀ t : Fin cfg5.N, (grid5.coords t 1).val = t.val % 16 := (by decide +kernel : ∀ t : Fin grid5.N, _)

theorem blk5_0 {c : Dev nD} {A : ℕ → ℕ → ℝ} (h : @Holds 8192 2048 (Z c main_v47) A) (t : Fin cfg5.N) :
    @Holds 8192 512 (iblk5 Z c 0 t) fun i j => A (8192 * (0) + i) (512 * (t.val / 16) + j) := fun i j => by
  have hN : t.val < 64 := t.isLt
  exact Eq.trans (b := (Z c main_v47 : (⟨2, ![8192, 2048]⟩ : Shape).Idx → EReal) (ix2 ⟨8192 * (0) + i.val, by omega⟩ ⟨512 * (t.val / 16) + j.val, by omega⟩))
    (by blk_point [iblk5, idx5 t]) (h _ _)

theorem blk5_1 {c : Dev nD} {A : ℕ → ℕ → ℝ} (h : @Holds 8192 2048 (Z c main_v49) A) (t : Fin cfg5.N) :
    @Holds 512 512 (iblk5 Z c 1 t) fun i j => A (512 * (t.val % 16) + i) (512 * (t.val / 16) + j) := fun i j => by
  have hN : t.val < 64 := t.isLt
  exact Eq.trans (b := (Z c main_v49 : (⟨2, ![8192, 2048]⟩ : Shape).Idx → EReal) (ix2 ⟨512 * (t.val % 16) + i.val, by omega⟩ ⟨512 * (t.val / 16) + j.val, by omega⟩))
    (by blk_point [iblk5, idx5 t]) (h _ _)

theorem blk5_2 {c : Dev nD} {A : ℕ → ℕ → ℝ} (h : @Holds 8192 2048 (Z c main_arg1) A) (t : Fin cfg5.N) :
    @Holds 512 128 (iblk5 Z c 2 t) fun i j => A (512 * (t.val % 16) + i) (128 * (4 * (t.val / 16) + 1) + j) := fun i j => by
  have hN : t.val < 64 := t.isLt
  exact Eq.trans (b := (Z c main_arg1 : (⟨2, ![8192, 2048]⟩ : Shape).Idx → EReal) (ix2 ⟨512 * (t.val % 16) + i.val, by omega⟩ ⟨128 * (4 * (t.val / 16) + 1) + j.val, by omega⟩))
    (by blk_point [iblk5, idx5 t]) (h _ _)

theorem blk5_3 {c : Dev nD} {A : ℕ → ℕ → ℝ} (h : @Holds 8192 2048 (Z c main_arg1) A) (t : Fin cfg5.N) :
    @Holds 512 128 (iblk5 Z c 3 t) fun i j => A (512 * (t.val % 16) + i) (128 * (4 * (t.val / 16) + 3) + j) := fun i j => by
  have hN : t.val < 64 := t.isLt
  exact Eq.trans (b := (Z c main_arg1 : (⟨2, ![8192, 2048]⟩ : Shape).Idx → EReal) (ix2 ⟨512 * (t.val % 16) + i.val, by omega⟩ ⟨128 * (4 * (t.val / 16) + 3) + j.val, by omega⟩))
    (by blk_point [iblk5, idx5 t]) (h _ _)

theorem blk5_4 {c : Dev nD} {A : ℕ → ℕ → ℝ} (h : @Holds 8192 1024 (Z c main_arg5) A) (t : Fin cfg5.N) :
    @Holds 8192 256 (iblk5 Z c 4 t) fun i j => A (8192 * (0) + i) (256 * (t.val / 16) + j) := fun i j => by
  have hN : t.val < 64 := t.isLt
  exact Eq.trans (b := (Z c main_arg5 : (⟨2, ![8192, 1024]⟩ : Shape).Idx → EReal) (ix2 ⟨8192 * (0) + i.val, by omega⟩ ⟨256 * (t.val / 16) + j.val, by omega⟩))
    (by blk_point [iblk5, idx5 t]) (h _ _)

theorem blk5_5 {c : Dev nD} {A : ℕ → ℕ → ℝ} (h : Holds3 (m := 8) (n := 8192) (Z c main_v55) A) (t : Fin cfg5.N) :
    Holds3 (m := 2) (n := 8192) (iblk5 Z c 5 t) fun i j => A (2 * (t.val / 16) + i) j := fun i j => by
  have hN : t.val < 64 := t.isLt
  exact Eq.trans (b := (Z c main_v55 : (⟨3, ![8, 1, 8192]⟩ : Shape).Idx → EReal) (ix3 ⟨2 * (t.val / 16) + i.val, by omega⟩ 0 j))
    (by blk_point [iblk5, idx5 t]) (h _ _)

theorem blk5_6 {c : Dev nD} {A : ℕ → ℕ → ℝ} (h : Holds3 (m := 8) (n := 8192) (Z c main_v58) A) (t : Fin cfg5.N) :
    Holds3 (m := 2) (n := 8192) (iblk5 Z c 6 t) fun i j => A (2 * (t.val / 16) + i) j := fun i j => by
  have hN : t.val < 64 := t.isLt
  exact Eq.trans (b := (Z c main_v58 : (⟨3, ![8, 1, 8192]⟩ : Shape).Idx → EReal) (ix3 ⟨2 * (t.val / 16) + i.val, by omega⟩ 0 j))
    (by blk_point [iblk5, idx5 t]) (h _ _)

/-- The gradient of the key over whole arrays: every query not earlier than the key, at the column's head. -/
def causalDk (Q K G KV L D : ℕ → ℕ → ℝ) (t c : ℕ) : ℝ :=
  ∑ r ∈ Finset.range 8192, if t ≤ r then dsAt Q K G (fun h t d => KV t (256 * h + 128 + d)) L D (c / 256) r t * Q r c else 0

/-- The gradient of the value over whole arrays. -/
def causalDv (Q K G L : ℕ → ℕ → ℝ) (t c : ℕ) : ℝ :=
  ∑ r ∈ Finset.range 8192, if t ≤ r then expH Q K L (c / 128) r t * G r c else 0

/-- The part of one tile from an entry on and all the later tiles are one sum from that entry on. -/
theorem sum_from (f : ℕ → ℝ) (n b : ℕ) (hn : n < 16) (hb : b < 512) :
    ∑ a : Fin 512, (if b ≤ a.val then f (512 * n + a.val) else 0) + ∑ r ∈ Finset.range (512 * (15 - n)), f (512 * (n + 1) + r)
      = ∑ r ∈ Finset.range 8192, if 512 * n + b ≤ r then f r else 0 := by
  have e : 8192 = 512 * n + (512 + 512 * (15 - n)) := by omega
  rw [e, Finset.sum_range_add, Finset.sum_range_add, Finset.sum_eq_zero (s := Finset.range (512 * n)), zero_add, ← Finset.sum_range (n := 512) (f := fun a => if b ≤ a then f (512 * n + a) else 0)]
  · congr 1
    · refine Finset.sum_congr rfl fun a _ => ?_
      simp
    · refine Finset.sum_congr rfl fun a _ => ?_
      rw [if_pos (by omega), show 512 * n + (512 + a) = 512 * (n + 1) + a by omega]
  · intro a ha
    rw [Finset.mem_range] at ha
    rw [if_neg (by omega)]

theorem tileDk_eq (Q K G KV L D : ℕ → ℕ → ℝ) (n p b c : ℕ) (hn : n < 16) (hb : b < 512) :
    tileDk (fun i j => Q (8192 * 0 + i) (512 * p + j)) (fun i j => K (512 * n + i) (512 * p + j)) (fun i j => G (8192 * 0 + i) (256 * p + j))
      (fun h t d => KV (512 * n + t) (256 * (2 * p + h) + 128 + d)) (fun i h => L i (2 * p + h)) (fun i h => D i (2 * p + h)) n b c
      = causalDk Q K G KV L D (512 * n + b) (512 * p + c) := by
  have e : (512 * p + c) / 256 = 2 * p + c / 256 := by omega
  have e1 : ∀ h x, 512 * p + (256 * h + x) = 256 * (2 * p + h) + x := fun h x => by omega
  have e2 : ∀ h x, 256 * p + (128 * h + x) = 128 * (2 * p + h) + x := fun h x => by omega
  rw [causalDk, ← sum_from _ n b hn hb, tileDk, e]
  simp only [dsAt, dsH, expH, dsP, expP, Nat.mul_zero, Nat.zero_add, ite_mul, zero_mul, e1, e2]

theorem tileDv_eq (Q K G L : ℕ → ℕ → ℝ) (n p b c : ℕ) (hn : n < 16) (hb : b < 512) :
    tileDv (fun i j => Q (8192 * 0 + i) (512 * p + j)) (fun i j => K (512 * n + i) (512 * p + j)) (fun i j => G (8192 * 0 + i) (256 * p + j)) (fun i h => L i (2 * p + h)) n b c
      = causalDv Q K G L (512 * n + b) (256 * p + c) := by
  have e : (256 * p + c) / 128 = 2 * p + c / 128 := by omega
  have e1 : ∀ h x, 512 * p + (256 * h + x) = 256 * (2 * p + h) + x := fun h x => by omega
  rw [causalDv, ← sum_from _ n b hn hb, tileDv, e]
  simp only [expH, expP, Nat.mul_zero, Nat.zero_add, ite_mul, zero_mul, e1]

variable {c : Dev nD} {Q K G KV L D : ℕ → ℕ → ℝ} (hQ : @Holds 8192 2048 (Z c main_v47) Q) (hK : @Holds 8192 2048 (Z c main_v49) K) (hKV : @Holds 8192 2048 (Z c main_arg1) KV)
  (hG : @Holds 8192 1024 (Z c main_arg5) G) (hL : Holds3 (m := 8) (n := 8192) (Z c main_v55) fun h i => L i h) (hD : Holds3 (m := 8) (n := 8192) (Z c main_v58) fun h i => D i h)
include hQ hK hKV hG hL hD

/-- A grid point's two blocks. -/
theorem point5 (t : Fin cfg5.N) : Holds (outsAt5 Z c t).1 (fun b x => causalDk Q K G KV L D (512 * (t.val % 16) + b) (512 * (t.val / 16) + x))
    ∧ Holds (outsAt5 Z c t).2 (fun b x => causalDv Q K G L (512 * (t.val % 16) + b) (256 * (t.val / 16) + x)) := by
  have hN : t.val < 64 := t.isLt
  unfold outsAt5
  dsimp only
  have h := out5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t)
    _ _ _ _ _ _ _ (blk5_0 Z hQ t) (blk5_1 Z hK t) (W := fun h s d => KV (512 * (t.val % 16) + s) (256 * (2 * (t.val / 16) + h) + 128 + d)) ((blk5_2 Z hKV t).congr (by intro i _ j _; congr 1; omega)) ((blk5_3 Z hKV t).congr (by intro i _ j _; congr 1; omega)) (blk5_4 Z hG t)
    (M := fun i h => L i (2 * (t.val / 16) + h)) (E := fun i h => D i (2 * (t.val / 16) + h)) (blk5_5 Z hL t) (blk5_6 Z hD t)
  rw [coord5 t] at h
  refine ⟨h.1.congr ?_, h.2.congr ?_⟩
  · intro b hb x _
    exact tileDk_eq Q K G KV L D (t.val % 16) (t.val / 16) b x (by omega) hb
  · intro b hb x _
    exact tileDv_eq Q K G L (t.val % 16) (t.val / 16) b x (by omega) hb

/-- The dk, dv call leaves the causal gradients of the keys and of the values in its output arrays. -/
theorem final5_7 : @Holds 8192 2048 ((dat5 Z c).arrAt 7 cfg5.N) (causalDk Q K G KV L D) := by
  refine Holds.of (congrFun ((dat5 Z c).arrAt_eq_of_covers 7 _ (by decide +kernel) fun t _ y => ?_))
  blk_simp; rw [after5_7]
  refine ((point5 Z hQ hK hKV hG hL hD t).1.at y).trans ?_
  obtain ⟨-, -, -, -, -, -, -, e, -⟩ := idx5 t
  rw [e]
  simp [Nat.mul_comm]

theorem final5_8 : @Holds 8192 1024 ((dat5 Z c).arrAt 8 cfg5.N) (causalDv Q K G L) := by
  refine Holds.of (congrFun ((dat5 Z c).arrAt_eq_of_covers 8 _ (by decide +kernel) fun t _ y => ?_))
  blk_simp; rw [after5_8]
  refine ((point5 Z hQ hK hKV hG hL hD t).2.at y).trans ?_
  obtain ⟨-, -, -, -, -, -, -, -, e⟩ := idx5 t
  rw [e]
  simp [Nat.mul_comm]

end Cert.KernelIdeal.Value
end
-- ==== Proof.Attn.Chain.lean ====
/- The latent attention's program over arrays of real numbers: its three results from its six arguments. -/
module

public import proofs.«01_k».proof.Proof.Attn.Host
public import proofs.«01_k».proof.Proof.Attn.Fwd
public import proofs.«01_k».proof.Proof.Attn.Dkv

@[expose] public section

set_option maxRecDepth 16384

noncomputable section

open Idealize.ShloMosaic Idealize.ShloMosaic.TcCoe Idealize.SL.Sem

namespace Cert.KernelIdeal.Value
open Cert.KernelIdeal Cert.KernelIdeal.Gen Cert.Attn

variable (m : (ℓ : Loc nD τ sig) → Buf (Elt Ideal) ℓ) (ρ : Dev nD → PrngReg) (c : Dev nD)

/-! ## The tables -/

theorem W1_v2 : W1 m ρ c main_v2 = cosines256 (m ((c.tc : Thread nD τ).loc main_arg3)) := by
  unfold W1
  after_results
  rfl

theorem W1_v5 : W1 m ρ c main_v5 = up256 (m ((c.tc : Thread nD τ).loc main_arg4)) := by
  unfold W1
  after_results
  rfl

theorem W1_v9 : W1 m ρ c main_v9 = down256 (m ((c.tc : Thread nD τ).loc main_arg4)) := by
  unfold W1
  after_results
  rfl

theorem W1_v12 : W1 m ρ c main_v12 = cosines256 (m ((c.tc : Thread nD τ).loc main_arg3)) := by
  unfold W1
  after_results
  rfl

theorem W1_v15 : W1 m ρ c main_v15 = up256 (m ((c.tc : Thread nD τ).loc main_arg4)) := by
  unfold W1
  after_results
  rfl

theorem W1_v19 : W1 m ρ c main_v19 = down256 (m ((c.tc : Thread nD τ).loc main_arg4)) := by
  unfold W1
  after_results
  rfl

theorem W2_v20 : W2 m ρ c main_v20 = forth256 (W1 m ρ c main_v19) := by
  show StableHlo.after hostOps0_1 (W1 m ρ c) main_v20 = _
  generalize W1 m ρ c = Y
  after_results
  rfl

theorem W3_v21 : W3 m ρ c main_v21 = back256 (W2 m ρ c main_v15) := by
  show StableHlo.after hostOps0_2 (W2 m ρ c) main_v21 = _
  generalize W2 m ρ c = Y
  after_results
  rfl

theorem W4_v24 : W4 m ρ c main_v24 = cosines128 (m ((c.tc : Thread nD τ).loc main_arg3)) := by
  rw [← W3_args m ρ c main_arg3 (by decide)]
  show StableHlo.after hostOps0_3 (W3 m ρ c) main_v24 = cosines128 (W3 m ρ c main_arg3)
  generalize W3 m ρ c = Y
  after_results
  rfl

theorem W4_v27 : W4 m ρ c main_v27 = up128 (m ((c.tc : Thread nD τ).loc main_arg4)) := by
  rw [← W3_args m ρ c main_arg4 (by decide)]
  show StableHlo.after hostOps0_3 (W3 m ρ c) main_v27 = up128 (W3 m ρ c main_arg4)
  generalize W3 m ρ c = Y
  after_results
  rfl

theorem W4_v31 : W4 m ρ c main_v31 = down128 (m ((c.tc : Thread nD τ).loc main_arg4)) := by
  rw [← W3_args m ρ c main_arg4 (by decide)]
  show StableHlo.after hostOps0_3 (W3 m ρ c) main_v31 = down128 (W3 m ρ c main_arg4)
  generalize W3 m ρ c = Y
  after_results
  rfl

theorem W4_v34 : W4 m ρ c main_v34 = cosines128 (m ((c.tc : Thread nD τ).loc main_arg3)) := by
  rw [← W3_args m ρ c main_arg3 (by decide)]
  show StableHlo.after hostOps0_3 (W3 m ρ c) main_v34 = cosines128 (W3 m ρ c main_arg3)
  generalize W3 m ρ c = Y
  after_results
  rfl

theorem W4_v37 : W4 m ρ c main_v37 = up128 (m ((c.tc : Thread nD τ).loc main_arg4)) := by
  rw [← W3_args m ρ c main_arg4 (by decide)]
  show StableHlo.after hostOps0_3 (W3 m ρ c) main_v37 = up128 (W3 m ρ c main_arg4)
  generalize W3 m ρ c = Y
  after_results
  rfl

theorem W4_v41 : W4 m ρ c main_v41 = down128 (m ((c.tc : Thread nD τ).loc main_arg4)) := by
  rw [← W3_args m ρ c main_arg4 (by decide)]
  show StableHlo.after hostOps0_3 (W3 m ρ c) main_v41 = down128 (W3 m ρ c main_arg4)
  generalize W3 m ρ c = Y
  after_results
  rfl

theorem W5_v42 : W5 m ρ c main_v42 = forth128 (W4 m ρ c main_v41) := by
  show StableHlo.after hostOps0_4 (W4 m ρ c) main_v42 = _
  generalize W4 m ρ c = Y
  after_results
  rfl

theorem W6_v43 : W6 m ρ c main_v43 = back128 (W5 m ρ c main_v37) := by
  show StableHlo.after hostOps0_5 (W5 m ρ c) main_v43 = _
  generalize W5 m ρ c = Y
  after_results
  rfl

/-! ## The padded queries and shared keys -/

/-- The queries with every head of 192 columns padded to 256. -/
def padded (q : FVec Ideal S8192x1536 .f32) : FVec Ideal S8192x2048 .f32 :=
  shapeCast S8192x2048 (pad S8192x8x256 ![0, 0, 0] ![0, 0, 64] ![0, 0, 0] (shapeCast S8192x8x192 q shapeCasts_S8192x1536_S8192x8x192)
    (sitofp (F := Ideal) .f32 (constantI S_ 32 0#32)) pads_S8192x8x192_S8192x8x256_000_000_0640 h_S_) shapeCasts_S8192x8x256_S8192x2048

/-- The shared key columns padded to 128. -/
def padded128 (k : FVec Ideal S8192x64 .bf16) : FVec Ideal S8192x128 .bf16 :=
  pad S8192x128 ![0, 0] ![0, 64] ![0, 0] k (sitofp (F := Ideal) .bf16 (constantI S_ 32 0#32)) pads_S8192x64_S8192x128_000_0640 h_S_

theorem W9_v46 : W9 m ρ c main_v46 = padded (m ((c.tc : Thread nD τ).loc main_arg0)) := by
  rw [← W6_args m ρ c main_arg0 (by decide)]
  show StableHlo.after hostOps0_8 (StableHlo.after hostOps0_7 (StableHlo.after hostOps0_6 (W6 m ρ c))) main_v46 = padded (W6 m ρ c main_arg0)
  generalize W6 m ρ c = Y
  after_results
  rfl

theorem W12_v48 : W12 m ρ c main_v48 = padded128 (m ((c.tc : Thread nD τ).loc main_arg2)) := by
  rw [← W10_args m ρ c main_arg2 (by decide)]
  show StableHlo.after hostOps1_1 (StableHlo.after hostOps1 (W10 m ρ c)) main_v48 = padded128 (W10 m ρ c main_arg2)
  generalize W10 m ρ c = Y
  after_results
  rfl

def padQ (Q : ℕ → ℕ → ℝ) (i j : ℕ) : ℝ := if j % 256 < 192 then Q i (192 * (j / 256) + j % 256) else 0
def padR (R : ℕ → ℕ → ℝ) (i j : ℕ) : ℝ := if j < 64 then R i j else 0

theorem padded_holds {q : FVec Ideal S8192x1536 .f32} {Q : ℕ → ℕ → ℝ} (hq : @Holds 8192 1536 q Q) : @Holds 8192 2048 (padded q) (padQ Q) := by
  intro i j
  have hj := j.isLt
  pointwise [padded, padQ]
  by_cases h : j.val % 256 < 192
  · rw [dif_pos ⟨by omega, h⟩, if_pos h, Nat.mul_comm 192, hq]
  · rw [dif_neg (fun h' => h h'.2), if_neg h]
    simp [FloatOps.sitofp]

theorem padded128_holds {k : FVec Ideal S8192x64 .bf16} {R : ℕ → ℕ → ℝ} (hk : @Holds 8192 64 k R) : @Holds 8192 128 (padded128 k) (padR R) := by
  intro i j
  have hj := j.isLt
  pointwise [padded128, padR]
  by_cases h : j.val < 64
  · rw [dif_pos h, if_pos h, hk]
  · rw [dif_neg h, if_neg h]
    simp [FloatOps.sitofp]

/-! ## The rows of the row sums -/

/-- One row per head: the head's first column. -/
def statRows (x : FVec Ideal S8192x1024 .f32) : FVec Ideal S8x1x8192 .f32 :=
  shapeCast S8x1x8192 (transpose S8x8192 [1, 0] (Host.slice S8192x8 ![0, 0] ![1, 128] x slicesBy_S8192x1024_S8192x8_0s1_0s128) transposes_S8192x8_S8x8192_1_0) shapeCasts_S8x8192_S8x1x8192

theorem statRows_holds {x : FVec Ideal S8192x1024 .f32} {D : ℕ → ℕ → ℝ} (hx : @Holds 8192 1024 x fun i j => D i (j / 128)) :
    Holds3 (m := 8) (n := 8192) (statRows x) fun h i => D i h := by
  intro h i
  have hh := h.isLt
  pointwise [statRows]
  rw [hx]
  simp

theorem W17_v55 : W17 m ρ c main_v55 = statRows (W16 m ρ c main_v50_1) := by
  show StableHlo.after hostOps5 (W16 m ρ c) main_v55 = _
  generalize W16 m ρ c = Y
  after_results
  rfl

theorem W17_v58 : W17 m ρ c main_v58 = statRows (W16 m ρ c main_v51) := by
  show StableHlo.after hostOps5 (W16 m ρ c) main_v58 = _
  generalize W16 m ρ c = Y
  after_results
  rfl

/-! ## The results' host lines -/

/-- The padding of every head dropped. -/
def unpadded (x : FVec Ideal S8192x2048 .bf16) : FVec Ideal S8192x1536 .bf16 :=
  shapeCast S8192x1536 (extractStridedSlice S8192x8x192 ![0, 0, 0] (shapeCast S8192x8x256 x shapeCasts_S8192x2048_S8192x8x256) slices_S8192x8x256_S8192x8x192_0_0_0) shapeCasts_S8192x8x192_S8192x1536

theorem unpadded_holds {x : FVec Ideal S8192x2048 .bf16} {X : ℕ → ℕ → ℝ} (hx : @Holds 8192 2048 x X) :
    @Holds 8192 1536 (unpadded x) fun i j => X i (256 * (j / 192) + j % 192) := by
  intro i j
  have hj := j.isLt
  pointwise [unpadded]
  rw [Nat.mul_comm 256, hx]

theorem W21_v64 : W21 m ρ c main_v64 = unpadded (W20 m ρ c main_v60) := by
  show StableHlo.after hostOps8 (W20 m ρ c) main_v64 = _
  generalize W20 m ρ c = Y
  after_results
  rfl

theorem W21_v65 : W21 m ρ c main_v65 = extractStridedSlice S8192x64 ![0, 0] (W20 m ρ c main_v61_1) slices_S8192x128_S8192x64_0_0 := by
  show StableHlo.after hostOps8 (W20 m ρ c) main_v65 = _
  generalize W20 m ρ c = Y
  after_results

theorem first_holds {x : FVec Ideal S8192x128 .bf16} {X : ℕ → ℕ → ℝ} (hx : @Holds 8192 128 x X) :
    @Holds 8192 64 (extractStridedSlice S8192x64 ![0, 0] x slices_S8192x128_S8192x64_0_0) X := by
  intro i j
  pointwise
  rw [hx]

/-! ## What the buffers keep -/

theorem W9_of_W1 (r : Ref sig .tc) (h : r ∉ hostOps0_1_W ++ hostOps0_2_W ++ hostOps0_3_W ++ hostOps0_4_W ++ hostOps0_5_W ++ hostOps0_6_W ++ hostOps0_7_W ++ hostOps0_8_W) :
    W9 m ρ c r = W1 m ρ c r := by
  simp only [List.mem_append, not_or] at h
  obtain ⟨⟨⟨⟨⟨⟨⟨h1, h2⟩, h3⟩, h4⟩, h5⟩, h6⟩, h7⟩, h8⟩ := h
  exact (W9_of m ρ c r h8).trans <| (W8_of m ρ c r h7).trans <| (W7_of m ρ c r h6).trans <| (W6_of m ρ c r h5).trans <| (W5_of m ρ c r h4).trans <|
    (W4_of m ρ c r h3).trans <| (W3_of m ρ c r h2).trans (W2_of m ρ c r h1)

theorem W9_of_W3 (r : Ref sig .tc) (h : r ∉ hostOps0_3_W ++ hostOps0_4_W ++ hostOps0_5_W ++ hostOps0_6_W ++ hostOps0_7_W ++ hostOps0_8_W) :
    W9 m ρ c r = W3 m ρ c r := by
  simp only [List.mem_append, not_or] at h
  obtain ⟨⟨⟨⟨⟨h3, h4⟩, h5⟩, h6⟩, h7⟩, h8⟩ := h
  exact (W9_of m ρ c r h8).trans <| (W8_of m ρ c r h7).trans <| (W7_of m ρ c r h6).trans <| (W6_of m ρ c r h5).trans <| (W5_of m ρ c r h4).trans (W4_of m ρ c r h3)

theorem W9_of_W4 (r : Ref sig .tc) (h : r ∉ hostOps0_4_W ++ hostOps0_5_W ++ hostOps0_6_W ++ hostOps0_7_W ++ hostOps0_8_W) :
    W9 m ρ c r = W4 m ρ c r := by
  simp only [List.mem_append, not_or] at h
  obtain ⟨⟨⟨⟨h4, h5⟩, h6⟩, h7⟩, h8⟩ := h
  exact (W9_of m ρ c r h8).trans <| (W8_of m ρ c r h7).trans <| (W7_of m ρ c r h6).trans <| (W6_of m ρ c r h5).trans (W5_of m ρ c r h4)

theorem W9_of_W6 (r : Ref sig .tc) (h : r ∉ hostOps0_6_W ++ hostOps0_7_W ++ hostOps0_8_W) : W9 m ρ c r = W6 m ρ c r := by
  simp only [List.mem_append, not_or] at h
  exact (W9_of m ρ c r h.2).trans <| (W8_of m ρ c r h.1.2).trans (W7_of m ρ c r h.1.1)

theorem W12_of_W9 (r : Ref sig .tc) (h : r ∉ hostOps1_W ++ hostOps1_1_W) (h0 : ∀ w, Pipeline.arrRef spec0 w = r → (cfg0.win w).isOut = false) : W12 m ρ c r = W9 m ρ c r := by
  rw [List.mem_append, not_or] at h
  exact (W12_of m ρ c r h.2).trans <| (W11_of m ρ c r h.1).trans (W10_of m ρ c r h0)

theorem W18_of_W12 (r : Ref sig .tc) (h : r ∉ hostOps5_W) (h1 : ∀ w, Pipeline.arrRef spec1 w = r → (cfg1.win w).isOut = false) (h2 : ∀ w, Pipeline.arrRef spec2 w = r → (cfg2.win w).isOut = false)
    (h3 : ∀ w, Pipeline.arrRef spec3 w = r → (cfg3.win w).isOut = false) (h4 : ∀ w, Pipeline.arrRef spec4 w = r → (cfg4.win w).isOut = false) (h5 : ∀ w, Pipeline.arrRef spec5 w = r → (cfg5.win w).isOut = false) :
    W18 m ρ c r = W12 m ρ c r :=
  (W18_of m ρ c r h5).trans <| (W17_of m ρ c r h).trans <| (W16_of m ρ c r h4).trans <| (W15_of m ρ c r h3).trans <| (W14_of m ρ c r h2).trans (W13_of m ρ c r h1)

/-! ## The arrays of the program, from the arguments' -/

section Arrays
variable (Q KV R C S G : ℕ → ℕ → ℝ)

/-- The rotated queries. -/
def qF : ℕ → ℕ → ℝ := headsRotated (padQ Q) (cos256 C) (sinUp256 S) (sinDown256 S)
/-- The keys, own and shared columns. -/
def kF : ℕ → ℕ → ℝ := fullKeys KV (rotated 128 (padR R) (cos128 C) (sinUp128 S) (sinDown128 S))
/-- The attention's output. -/
def oF : ℕ → ℕ → ℝ := causalOut (qF Q C S) (kF KV R C S) KV
/-- The logarithms of its row sums. -/
def lF : ℕ → ℕ → ℝ := causalLse (qF Q C S) (kF KV R C S)
/-- The row sums of cotangent times output. -/
def dF (r h : ℕ) : ℝ := ∑ d : Fin 128, G r (128 * h + d) * oF Q KV R C S r (128 * h + d)
/-- The gradient of the rotated queries. -/
def dqF : ℕ → ℕ → ℝ := causalDq (qF Q C S) (kF KV R C S) G KV (lF Q KV R C S) (dF Q KV R C S G)
/-- The gradient of the keys. -/
def dkF : ℕ → ℕ → ℝ := causalDk (qF Q C S) (kF KV R C S) G KV (lF Q KV R C S) (dF Q KV R C S G)
/-- The gradient of the values. -/
def dvF : ℕ → ℕ → ℝ := causalDv (qF Q C S) (kF KV R C S) G (lF Q KV R C S)
/-- The gradient of the queries. -/
def dQ (r j : ℕ) : ℝ := headsRotated (dqF Q KV R C S G) (cos256 C) (fun i j => sinDown256 S i ((j + 224) % 256)) (fun i j => sinUp256 S i ((j + 32) % 256)) r (256 * (j / 192) + j % 192)
/-- The gradient of keys and values. -/
def dKV : ℕ → ℕ → ℝ := packed (dkF Q KV R C S G) (dvF Q KV R C S G)
/-- The gradient of the shared key columns. -/
def dR : ℕ → ℕ → ℝ := rotated 128 (sharedSum (dkF Q KV R C S G)) (cos128 C) (fun i j => sinDown128 S i ((j + 96) % 128)) (fun i j => sinUp128 S i ((j + 32) % 128))

variable {m ρ c Q KV R C S G}
variable (hQ : @Holds 8192 1536 (m ((c.tc : Thread nD τ).loc main_arg0)) Q) (hKV : @Holds 8192 2048 (m ((c.tc : Thread nD τ).loc main_arg1)) KV)
  (hR : @Holds 8192 64 (m ((c.tc : Thread nD τ).loc main_arg2)) R) (hC : @Holds 8192 32 (m ((c.tc : Thread nD τ).loc main_arg3)) C)
  (hS : @Holds 8192 32 (m ((c.tc : Thread nD τ).loc main_arg4)) S) (hG : @Holds 8192 1024 (m ((c.tc : Thread nD τ).loc main_arg5)) G)

/-- An array that equals another holds what it holds. -/
theorem holds_of_eq {a b : ℕ} {X Y : (⟨2, ![a, b]⟩ : Shape).Idx → EReal} {A : ℕ → ℕ → ℝ} (h : Holds Y A) (e : X = Y) : Holds X A := e ▸ h

include hQ hC hS in
theorem at_v47 : @Holds 8192 2048 (W10 m ρ c main_v47) (qF Q C S) :=
  holds_of_eq (final0 (V9 m ρ) (holds_of_eq (padded_holds hQ) (W9_v46 m ρ c))
    (holds_of_eq (cosines256_holds hC) ((W9_of_W1 m ρ c main_v2 (by decide)).trans (W1_v2 m ρ c)))
    (holds_of_eq (up256_holds hS) ((W9_of_W1 m ρ c main_v5 (by decide)).trans (W1_v5 m ρ c)))
    (holds_of_eq (down256_holds hS) ((W9_of_W1 m ρ c main_v9 (by decide)).trans (W1_v9 m ρ c)))) (W10_arr m ρ c 4)

/-- A buffer written before the first call and by none after. -/
theorem W12_of_W4 (r : Ref sig .tc) (h : r ∉ hostOps0_4_W ++ hostOps0_5_W ++ hostOps0_6_W ++ hostOps0_7_W ++ hostOps0_8_W) (h' : r ∉ hostOps1_W ++ hostOps1_1_W)
    (h0 : ∀ w, Pipeline.arrRef spec0 w = r → (cfg0.win w).isOut = false) : W12 m ρ c r = W4 m ρ c r :=
  (W12_of_W9 m ρ c r h' h0).trans (W9_of_W4 m ρ c r h)

include hKV hR hC hS in
theorem at_v49 : @Holds 8192 2048 (W13 m ρ c main_v49) (kF KV R C S) :=
  holds_of_eq (final1 (V12 m ρ) (holds_of_eq hKV (W12_args m ρ c main_arg1 (by decide))) (holds_of_eq (padded128_holds hR) (W12_v48 m ρ c))
    (holds_of_eq (cosines128_holds hC) ((W12_of_W4 main_v24 (by decide) (by decide) (by decide)).trans (W4_v24 m ρ c)))
    (holds_of_eq (up128_holds hS) ((W12_of_W4 main_v27 (by decide) (by decide) (by decide)).trans (W4_v27 m ρ c)))
    (holds_of_eq (down128_holds hS) ((W12_of_W4 main_v31 (by decide) (by decide) (by decide)).trans (W4_v31 m ρ c)))) (W13_arr m ρ c 5)

include hQ hC hS in
theorem at13_v47 : @Holds 8192 2048 (W13 m ρ c main_v47) (qF Q C S) :=
  holds_of_eq (at_v47 hQ hC hS) ((W13_of m ρ c main_v47 (by decide)).trans <| (W12_of m ρ c main_v47 (by decide)).trans (W11_of m ρ c main_v47 (by decide)))

include hQ hKV hR hC hS in
theorem at_v50 : @Holds 8192 1024 (W14 m ρ c main_v50_0) (oF Q KV R C S) ∧ @Holds 8192 1024 (W14 m ρ c main_v50_1) (fun r x => lF Q KV R C S r (x / 128)) :=
  have h47 := at13_v47 (ρ := ρ) hQ hC hS
  have h49 := at_v49 (ρ := ρ) hKV hR hC hS
  have h1 := holds_of_eq hKV (W13_args m ρ c main_arg1 (by decide))
  ⟨holds_of_eq (final2_4 (V13 m ρ) h47 h49 h1) (W14_arr m ρ c 4), holds_of_eq (final2_5 (V13 m ρ) h47 h49 h1) (W14_arr m ρ c 5)⟩

include hQ hKV hR hC hS hG in
theorem at_v51 : @Holds 8192 1024 (W15 m ρ c main_v51) (fun r x => dF Q KV R C S G r (x / 128)) :=
  holds_of_eq (final3 (V14 m ρ) (holds_of_eq hG (W14_args m ρ c main_arg5 (by decide))) (at_v50 hQ hKV hR hC hS).1) (W15_arr m ρ c 2)

include hQ hC hS in
theorem at15_v47 : @Holds 8192 2048 (W15 m ρ c main_v47) (qF Q C S) :=
  holds_of_eq (at13_v47 hQ hC hS) ((W15_of m ρ c main_v47 (by decide)).trans (W14_of m ρ c main_v47 (by decide)))

include hKV hR hC hS in
theorem at15_v49 : @Holds 8192 2048 (W15 m ρ c main_v49) (kF KV R C S) :=
  holds_of_eq (at_v49 hKV hR hC hS) ((W15_of m ρ c main_v49 (by decide)).trans (W14_of m ρ c main_v49 (by decide)))

include hQ hKV hR hC hS in
theorem at15_v50 : @Holds 8192 1024 (W15 m ρ c main_v50_1) (fun r x => lF Q KV R C S r (x / 128)) :=
  holds_of_eq (at_v50 hQ hKV hR hC hS).2 (W15_of m ρ c main_v50_1 (by decide))

include hQ hKV hR hC hS hG in
theorem at_v52 : @Holds 8192 2048 (W16 m ρ c main_v52) (dqF Q KV R C S G) :=
  holds_of_eq (final4 (V15 m ρ) (at15_v47 hQ hC hS) (at15_v49 hKV hR hC hS) (holds_of_eq hKV (W15_args m ρ c main_arg1 (by decide)))
    (holds_of_eq hG (W15_args m ρ c main_arg5 (by decide))) (at15_v50 hQ hKV hR hC hS) (at_v51 hQ hKV hR hC hS hG)) (W16_arr m ρ c 7)

/-- An array of rows that equals another holds what it holds. -/
theorem holds3_of_eq {a b : ℕ} {X Y : (⟨3, ![a, 1, b]⟩ : Shape).Idx → EReal} {A : ℕ → ℕ → ℝ} (h : Holds3 Y A) (e : X = Y) : Holds3 X A := e ▸ h

include hQ hKV hR hC hS hG in
theorem at_v59 : @Holds 8192 2048 (W18 m ρ c main_v59_0) (dkF Q KV R C S G) ∧ @Holds 8192 1024 (W18 m ρ c main_v59_1) (dvF Q KV R C S G) :=
  have h47 := holds_of_eq (at15_v47 (ρ := ρ) hQ hC hS) ((W17_of m ρ c main_v47 (by decide)).trans (W16_of m ρ c main_v47 (by decide)))
  have h49 := holds_of_eq (at15_v49 (ρ := ρ) hKV hR hC hS) ((W17_of m ρ c main_v49 (by decide)).trans (W16_of m ρ c main_v49 (by decide)))
  have h1 := holds_of_eq hKV (W17_args m ρ c main_arg1 (by decide))
  have h5 := holds_of_eq hG (W17_args m ρ c main_arg5 (by decide))
  have hL := holds3_of_eq (statRows_holds (holds_of_eq (at15_v50 (ρ := ρ) hQ hKV hR hC hS) (W16_of m ρ c main_v50_1 (by decide)))) (W17_v55 m ρ c)
  have hD := holds3_of_eq (statRows_holds (holds_of_eq (at_v51 (ρ := ρ) hQ hKV hR hC hS hG) (W16_of m ρ c main_v51 (by decide)))) (W17_v58 m ρ c)
  ⟨holds_of_eq (final5_7 (V17 m ρ) h47 h49 h1 h5 hL hD) (W18_arr m ρ c 7), holds_of_eq (final5_8 (V17 m ρ) h47 h49 h1 h5 hL hD) (W18_arr m ρ c 8)⟩

include hQ hKV hR hC hS hG in
/-- The first result: the gradient of the queries. -/
theorem at_v64 : @Holds 8192 1536 (W21 m ρ c main_v64) (dQ Q KV R C S G) :=
  holds_of_eq (unpadded_holds (holds_of_eq (final6 (V18 m ρ)
    (holds_of_eq (at_v52 hQ hKV hR hC hS hG) ((W18_of m ρ c main_v52 (by decide)).trans (W17_of m ρ c main_v52 (by decide))))
    (holds_of_eq (cosines256_holds hC) ((W18_of_W12 m ρ c main_v12 (by decide) (by decide) (by decide) (by decide) (by decide) (by decide)).trans <|
      (W12_of_W9 m ρ c main_v12 (by decide) (by decide)).trans <| (W9_of_W1 m ρ c main_v12 (by decide)).trans (W1_v12 m ρ c)))
    (holds_of_eq (forth256_holds (holds_of_eq (down256_holds hS) (W1_v19 m ρ c))) ((W18_of_W12 m ρ c main_v20 (by decide) (by decide) (by decide) (by decide) (by decide) (by decide)).trans <|
      (W12_of_W9 m ρ c main_v20 (by decide) (by decide)).trans <| (W9_of_W3 m ρ c main_v20 (by decide)).trans <| (W3_of m ρ c main_v20 (by decide)).trans (W2_v20 m ρ c)))
    (holds_of_eq (back256_holds (holds_of_eq (up256_holds hS) ((W2_of m ρ c main_v15 (by decide)).trans (W1_v15 m ρ c)))) ((W18_of_W12 m ρ c main_v21 (by decide) (by decide) (by decide) (by decide) (by decide) (by decide)).trans <|
      (W12_of_W9 m ρ c main_v21 (by decide) (by decide)).trans <| (W9_of_W3 m ρ c main_v21 (by decide)).trans (W3_v21 m ρ c))))
    ((W20_of m ρ c main_v60 (by decide)).trans (W19_arr m ρ c 4)))) (W21_v64 m ρ c)

include hQ hKV hR hC hS hG in
theorem at19_v59 : @Holds 8192 2048 (W19 m ρ c main_v59_0) (dkF Q KV R C S G) ∧ @Holds 8192 1024 (W19 m ρ c main_v59_1) (dvF Q KV R C S G) :=
  ⟨holds_of_eq (at_v59 hQ hKV hR hC hS hG).1 (W19_of m ρ c main_v59_0 (by decide)), holds_of_eq (at_v59 hQ hKV hR hC hS hG).2 (W19_of m ρ c main_v59_1 (by decide))⟩

include hQ hKV hR hC hS hG in
/-- The second result: the gradient of keys and values. -/
theorem at_v61_0 : @Holds 8192 2048 (W21 m ρ c main_v61_0) (dKV Q KV R C S G) :=
  holds_of_eq (final7_kv (V19 m ρ) (at19_v59 hQ hKV hR hC hS hG).1 (at19_v59 hQ hKV hR hC hS hG).2) ((W21_of m ρ c main_v61_0 (by decide)).trans (W20_arr m ρ c 5))

/-- A buffer written before the first call and read by the last. -/
theorem W19_of_W9 (r : Ref sig .tc) (h : r ∉ hostOps5_W) (h' : r ∉ hostOps1_W ++ hostOps1_1_W) (h0 : ∀ w, Pipeline.arrRef spec0 w = r → (cfg0.win w).isOut = false)
    (h1 : ∀ w, Pipeline.arrRef spec1 w = r → (cfg1.win w).isOut = false) (h2 : ∀ w, Pipeline.arrRef spec2 w = r → (cfg2.win w).isOut = false)
    (h3 : ∀ w, Pipeline.arrRef spec3 w = r → (cfg3.win w).isOut = false) (h4 : ∀ w, Pipeline.arrRef spec4 w = r → (cfg4.win w).isOut = false) (h5 : ∀ w, Pipeline.arrRef spec5 w = r → (cfg5.win w).isOut = false)
    (h6 : ∀ w, Pipeline.arrRef spec6 w = r → (cfg6.win w).isOut = false) : W19 m ρ c r = W9 m ρ c r :=
  (W19_of m ρ c r h6).trans <| (W18_of_W12 m ρ c r h h1 h2 h3 h4 h5).trans (W12_of_W9 m ρ c r h' h0)

include hQ hKV hR hC hS hG in
/-- The third result: the gradient of the shared key columns. -/
theorem at_v65 : @Holds 8192 64 (W21 m ρ c main_v65) (dR Q KV R C S G) :=
  holds_of_eq (first_holds (holds_of_eq (final7_rope (V19 m ρ) (at19_v59 hQ hKV hR hC hS hG).1
    (holds_of_eq (cosines128_holds hC) ((W19_of_W9 main_v34 (by decide) (by decide) (by decide) (by decide) (by decide) (by decide) (by decide) (by decide) (by decide)).trans <|
      (W9_of_W4 m ρ c main_v34 (by decide)).trans (W4_v34 m ρ c)))
    (holds_of_eq (forth128_holds (holds_of_eq (down128_holds hS) (W4_v41 m ρ c))) ((W19_of_W9 main_v42 (by decide) (by decide) (by decide) (by decide) (by decide) (by decide) (by decide) (by decide) (by decide)).trans <|
      (W9_of_W6 m ρ c main_v42 (by decide)).trans <| (W6_of m ρ c main_v42 (by decide)).trans (W5_v42 m ρ c)))
    (holds_of_eq (back128_holds (holds_of_eq (up128_holds hS) ((W5_of m ρ c main_v37 (by decide)).trans (W4_v37 m ρ c)))) ((W19_of_W9 main_v43 (by decide) (by decide) (by decide) (by decide) (by decide) (by decide) (by decide) (by decide) (by decide)).trans <|
      (W9_of_W6 m ρ c main_v43 (by decide)).trans (W6_v43 m ρ c))))
    (W20_arr m ρ c 6))) (W21_v65 m ρ c)

end Arrays

end Cert.KernelIdeal.Value
end
-- ==== Proof.Attn.Ref.lean ====
/- The latent attention's reference over real arrays: its masked scores, their softmax and its derivative. -/
module

public import proofs.«01_k».proof.Proof.Attn.Real
public import proofs.«01_k».proof.Proof.Gen.ReferenceIdeal.Run

@[expose] public section

set_option maxRecDepth 16384

noncomputable section

open Idealize.ShloMosaic Idealize.ShloMosaic.TcCoe Cert.Attn

namespace Cert.ReferenceIdeal.Value
open Cert.ReferenceIdeal Cert.ReferenceIdeal.Gen

/-- A three-axis array holds the real numbers `A`. -/
def HoldsT {a b c : ℕ} (X : (⟨3, ![a, b, c]⟩ : Shape).Idx → EReal) (A : ℕ → ℕ → ℕ → ℝ) : Prop :=
  ∀ (i : Fin a) (j : Fin b) (k : Fin c), X (ix3 i j k) = ((A i.val j.val k.val : ℝ) : EReal)

theorem sum_holds {n : ℕ} {f : Fin n → EReal} {g : Fin n → ℝ} (h : ∀ x, f x = ((g x : ℝ) : EReal)) : ∑ x, f x = ((∑ x, g x : ℝ) : EReal) :=
  (Finset.sum_congr rfl fun x _ => h x).trans (Finite.coe_sum _ _)

/-- The rotation of a row's `64` entries from column `o`. -/
def roped (x : ℕ → ℝ) (C S : ℕ → ℝ) (e : ℕ) : ℝ :=
  if e < 32 then x e * C e - x (e + 32) * S e else x e * C (e - 32) + x (e - 32) * S (e - 32)

/-- The rotation backwards. -/
def back (x : ℕ → ℝ) (C S : ℕ → ℝ) (e : ℕ) : ℝ :=
  if e < 32 then x (e + 32) * S e + x e * C e else x e * C (e - 32) + -x (e - 32) * S (e - 32)

/-- The scaled score of query `r` and key `t` at head `h`. -/
def scoreR (Q KV R C S : ℕ → ℕ → ℝ) (h r t : ℕ) : ℝ :=
  ((∑ d : Fin 128, Q r (192 * h + d) * KV t (256 * h + d))
    + ∑ e : Fin 64, roped (R t) (C t) (S t) e * roped (fun e => Q r (192 * h + 128 + e)) (C r) (S r) e) * sigma

/-- The product of an output's cotangent and a value. -/
def gv (KV G : ℕ → ℕ → ℝ) (h r t : ℕ) : ℝ := ∑ d : Fin 128, G r (128 * h + d) * KV t (256 * h + 128 + d)

section
variable {V0 : Valuation τ sig (Elt Ideal)} {Q KV R C S G : ℕ → ℕ → ℝ}
variable (hQ : @Holds 8192 1536 (V0 (Proc.devRef .tc main_arg0)) Q) (hKV : @Holds 8192 2048 (V0 (Proc.devRef .tc main_arg1)) KV)
  (hR : @Holds 8192 64 (V0 (Proc.devRef .tc main_arg2)) R) (hC : @Holds 8192 32 (V0 (Proc.devRef .tc main_arg3)) C)
  (hS : @Holds 8192 32 (V0 (Proc.devRef .tc main_arg4)) S) (hG : @Holds 8192 1024 (V0 (Proc.devRef .tc main_arg5)) G)

include hQ in
theorem v4_holds : HoldsT (a := 8192) (b := 8) (c := 128) (res_main_v4 V0) fun r h d => Q r (192 * h + d) := by
  intro i j k
  pointwise [res_main_v4, res_main_v2]
  rw [Nat.mul_comm 192, hQ]

include hQ in
theorem v5_holds : HoldsT (a := 8192) (b := 8) (c := 64) (res_main_v5 V0) fun r h d => Q r (192 * h + 128 + d) := by
  intro i j k
  pointwise [res_main_v5, res_main_v2]
  rw [show 192 * j.val + 128 + k.val = j.val * 192 + (128 + k.val) by omega, hQ]

include hQ hC hS in
/-- The rotated query columns. -/
theorem v20_holds : HoldsT (a := 8192) (b := 8) (c := 64) (res_main_v20 V0) fun r h => roped (fun e => Q r (192 * h + 128 + e)) (C r) (S r) := by
  intro i j k
  have h5 := v5_holds hQ
  pointwise [res_main_v20, res_main_v8, res_main_v9, res_main_v6, res_main_v7]
  unfold roped
  split_ifs with h
  · rw [h5, h5, hC, hS, ← EReal.coe_mul, ← EReal.coe_mul, ← EReal.coe_sub]
    simp only [Nat.add_comm 32]
  · rw [h5, h5, hC, hS, ← EReal.coe_mul, ← EReal.coe_mul, ← EReal.coe_add]
    simp only [show 32 + (k.val - 32) = k.val by omega]
  · rename_i h'; exact absurd rfl h'

include hR hC hS in
/-- The rotated key columns. -/
theorem v29_holds : @Holds 8192 64 (res_main_v29 V0) fun t => roped (R t) (C t) (S t) := by
  intro i k
  pointwise [res_main_v29, res_main_v21, res_main_v22, res_main_v1]
  unfold roped
  split_ifs with h
  · rw [hR, hR, hC, hS, ← EReal.coe_mul, ← EReal.coe_mul, ← EReal.coe_sub]
    simp only [Nat.add_comm 32]
  · rw [hR, hR, hC, hS, ← EReal.coe_mul, ← EReal.coe_mul, ← EReal.coe_add]
    simp only [show 32 + (k.val - 32) = k.val by omega]
  · rename_i h'; exact absurd rfl h'

include hKV in
theorem v30_holds : HoldsT (a := 8192) (b := 8) (c := 128) (res_main_v30 V0) fun t h d => KV t (256 * h + d) := by
  intro i j k
  pointwise [res_main_v30, res_main_v3]
  rw [Nat.mul_comm 256, hKV]

include hKV in
theorem v31_holds : HoldsT (a := 8192) (b := 8) (c := 128) (res_main_v31 V0) fun t h d => KV t (256 * h + 128 + d) := by
  intro i j k
  pointwise [res_main_v31, res_main_v3]
  rw [show 256 * j.val + 128 + k.val = j.val * 256 + (128 + k.val) by omega, hKV]

include hG in
theorem v81_holds : HoldsT (a := 8) (b := 128) (c := 8192) (res_main_v81 V0) fun h d r => G r (128 * h + d) := by
  intro i j k
  pointwise [res_main_v81]
  rw [Nat.mul_comm 128, hG]

include hKV hG in
theorem v82_holds : HoldsT (a := 8) (b := 8192) (c := 8192) (res_main_v82 V0) (gv KV G) := by
  intro h r t
  have h81 := v81_holds hG
  have h31 := v31_holds hKV
  pointwise [res_main_v82]
  unfold gv
  rw [← Finite.coe_sum]
  refine Finset.sum_congr rfl fun x _ => ?_
  rw [h81, h31, EReal.coe_mul]

include hQ hKV hR hC hS in
/-- The masked scores. -/
theorem v47_at (h : Fin 8) (r t : Fin 8192) : res_main_v47 V0 (ix3 h r t) = if t.val ≤ r.val then ((scoreR Q KV R C S h r t : ℝ) : EReal) else ⊥ := by
  have h4 := v4_holds hQ
  have h30 := v30_holds hKV
  have h20 := v20_holds hQ hC hS
  have h29 := v29_holds hR hC hS
  pointwise [res_main_v47, res_main_v45, res_main_v38]
  rw [WordCmp.cmpi_sle_ofNat (by omega) (by omega), WordCmp.select_ofBool, sigma_real]
  by_cases ht : t.val ≤ r.val
  · rw [if_pos ht, decide_eq_true ht, if_pos rfl]
    unfold scoreR
    rw [EReal.coe_mul, EReal.coe_add, ← Finite.coe_sum, ← Finite.coe_sum]
    congr 2
    · exact Finset.sum_congr rfl fun x _ => by rw [h4, h30, EReal.coe_mul]
    · exact Finset.sum_congr rfl fun x _ => by rw [h29, h20, EReal.coe_mul]
  · rw [if_neg ht, decide_eq_false ht, if_neg (by decide)]
    simp [Ideal.ofBits, Ideal.ieee]

include hQ hKV hR hC hS in
/-- A row's largest score is a real number. -/
theorem v49_real (h : Fin 8) (r : Fin 8192) : ∃ M : ℝ, res_main_v49 V0 (ix2 h r) = (M : EReal) := by
  have hs := v47_at hQ hKV hR hC hS
  pointwise [res_main_v49]
  have hb : Ideal.ofBits .f32 4286578688#32 = (⊥ : EReal) := by simp [Ideal.ofBits, Ideal.ieee]
  rw [hb]
  have at' (x : S8x8192x8192.Idx) : res_main_v47 V0 x = if (x 2).val ≤ (x 1).val then ((scoreR Q KV R C S (x 0).val (x 1).val (x 2).val : ℝ) : EReal) else ⊥ := by
    have e : x = ix3 (x 0) (x 1) (x 2) := by idx_ext
    exact (congrArg _ e).trans (hs _ _ _)
  have ht : Finset.fold max (⊥ : EReal) (res_main_v47 V0) {i | reducesTo_S8x8192x8192_S8x8192_d2.drop i = ix2 h r} < ⊤ :=
    (Finset.fold_max_lt _).mpr ⟨bot_lt_top, fun x _ => by rw [at']; split <;> simp⟩
  have hl : ⊥ < Finset.fold max (⊥ : EReal) (res_main_v47 V0) {i | reducesTo_S8x8192x8192_S8x8192_d2.drop i = ix2 h r} := by
    refine (Finset.lt_fold_max _).mpr (.inr ⟨ix3 h r 0, ?_, by rw [hs, if_pos (show (0 : Fin 8192).val ≤ r.val from Nat.zero_le _)]; simp⟩)
    rw [Finset.mem_filter]
    refine ⟨Finset.mem_univ _, ?_⟩
    funext b
    fin_cases b
    · exact Fin.ext (Shape.ReducesTo.drop_apply_val_of_eq reducesTo_S8x8192x8192_S8x8192_d2 (ix3 h r 0) 0 0)
    · exact Fin.ext (Shape.ReducesTo.drop_apply_val_of_eq reducesTo_S8x8192x8192_S8x8192_d2 (ix3 h r 0) 1 1)
  exact ⟨_, (EReal.coe_toReal ht.ne hl.ne').symm⟩

/-- How often query `r` sees key `t`. -/
def seen (r t : Fin 8192) : ℝ := if t.val ≤ r.val then 1 else 0

theorem part_pos (s : Fin 8192 → Fin 8192 → ℝ) (r : Fin 8192) : 0 < part seen s r := by
  refine Finset.sum_pos' (fun t _ => mul_nonneg ?_ (Real.exp_pos _).le) ⟨0, Finset.mem_univ _, mul_pos ?_ (Real.exp_pos _)⟩
  · unfold seen; split_ifs <;> norm_num
  · rw [seen, if_pos (show (0 : Fin 8192).val ≤ r.val from Nat.zero_le _)]; norm_num

/-- Head `h`'s scores. -/
def scoreAt (Q KV R C S : ℕ → ℕ → ℝ) (h : ℕ) (r t : Fin 8192) : ℝ := scoreR Q KV R C S h r t

theorem exp_seen (r t : Fin 8192) (a b : ℝ) : Ideal.exp ((if t.val ≤ r.val then (a : EReal) else ⊥) - (b : EReal)) = ((seen r t * Real.exp (a - b) : ℝ) : EReal) := by
  unfold seen
  split_ifs with ht
  · rw [← EReal.coe_sub, Ideal.exp_coe, one_mul]
  · simp

variable {M : Fin 8 → Fin 8192 → ℝ} (hM : ∀ h r, res_main_v49 V0 (ix2 h r) = ((M h r : ℝ) : EReal))

/-- The exponentials of scores against a row's reference point. -/
def expAgainst (x : FVec Ideal S8x8192x8192 .f32) (y : FVec Ideal S8x8192 .f32) : FVec Ideal S8x8192x8192 .f32 :=
  Host.exp (subf x (broadcastInDim S8x8192x8192 ![0, 1, 2] bcast_S8x8192x1_S8x8192x8192_0_1_2 (broadcastInDim S8x8192x1 ![0, 1] bcast_S8x8192_S8x8192x1_0_1
    (maximumf (broadcastInDim S8x8192 ![] bcast_S_S8x8192 (constant S_ .f32 0xFF800000#32)) y))))

theorem expAgainst_at (x : FVec Ideal S8x8192x8192 .f32) (y : FVec Ideal S8x8192 .f32) (h : Fin 8) (r t : Fin 8192) :
    expAgainst x y (ix3 h r t) = Ideal.exp (x (ix3 h r t) - max (Ideal.ofBits .f32 4286578688#32) (y (ix2 h r))) := by
  pointwise [expAgainst]

theorem v69_eq : res_main_v69 V0 = expAgainst (res_main_v47 V0) (res_main_v49 V0) := by
  unfold res_main_v69 expAgainst
  rfl

include hQ hKV hR hC hS hM in
/-- The exponentials against the row's largest score. -/
theorem v69_at (h : Fin 8) (r t : Fin 8192) :
    res_main_v69 V0 (ix3 h r t) = ((seen r t * Real.exp (scoreAt Q KV R C S h r t - M h r) : ℝ) : EReal) := by
  have hb : Ideal.ofBits .f32 4286578688#32 = (⊥ : EReal) := by simp [Ideal.ofBits, Ideal.ieee]
  rw [v69_eq, expAgainst_at, v47_at hQ hKV hR hC hS, hM, hb, max_eq_right bot_le]
  exact exp_seen r t _ _

include hQ hKV hR hC hS hM in
/-- Their sum along a row. -/
theorem v71_at (h : Fin 8) (r : Fin 8192) :
    res_main_v71 V0 (ix3 h r 0) = ((part seen (scoreAt Q KV R C S h) r * Real.exp (-M h r) : ℝ) : EReal) := by
  have he := v69_at hQ hKV hR hC hS hM
  pointwise [res_main_v71]
  exact (sum_holds (he h r)).trans (congrArg _ (part_shift _ _ _ _))

include hQ hKV hR hC hS hM in
/-- The softmax. -/
theorem v73_at (h : Fin 8) (r t : Fin 8192) : res_main_v73 V0 (ix3 h r t) = ((prob seen (scoreAt Q KV R C S h) r t : ℝ) : EReal) := by
  have he := v69_at hQ hKV hR hC hS hM
  have hZ := v71_at hQ hKV hR hC hS hM
  pointwise [res_main_v73]
  have hp := part_pos (scoreAt Q KV R C S h) r
  rw [he, hZ, Ideal.div_coe (mul_pos hp (Real.exp_pos _)).ne', ← EReal.coe_mul, mul_one_div, prob_shift seen (scoreAt Q KV R C S h) _ r hp]

/-- The gradient of the scores, from the mask, the cotangent's products with the values, the exponentials and their sum. -/
def dsRef (b : IVec S8x8192x8192 1) (x e : FVec Ideal S8x8192x8192 .f32) (Z : FVec Ideal S8x8192x1 .f32) : FVec Ideal S8x8192x8192 .f32 :=
  mulf (select b (mulf (addf (Host.divf x (broadcastInDim S8x8192x8192 ![0, 1, 2] bcast_S8x8192x1_S8x8192x8192_0_1_2 Z)) (broadcastInDim S8x8192x8192 ![0, 1] bcast_S8x8192_S8x8192x8192_0_1 (Host.reduceAdd (Host.negf (shapeCast _ (Host.reduceAdd (mulf (mulf x (broadcastInDim S8x8192x8192 ![0, 1, 2] bcast_S8x8192x1_S8x8192x8192_0_1_2 (Host.divf (broadcastInDim S8x8192x1 ![] bcast_S_S8x8192x1 (constant S_ .f32 0x3F800000#32)) (mulf Z Z)))) e) (constant S_ .f32 0x00000000#32) reducesTo_S8x8192x8192_S8x8192_d2 h_S_) shapeCasts_S8x8192_S8x8192x1)) (constant S_ .f32 0x00000000#32) reducesTo_S8x8192x1_S8x8192_d2 h_S_))) e) (broadcastInDim S8x8192x8192 ![] bcast_S_S8x8192x8192 (constant S_ .f32 0x00000000#32))) (broadcastInDim S8x8192x8192 ![] bcast_S_S8x8192x8192 (constant S_ .f32 0x3D93CD3A#32))

theorem v100_eq : res_main_v100 V0 = dsRef (res_main_v45 V0) (res_main_v82 V0) (res_main_v69 V0) (res_main_v71 V0) := by
  unfold res_main_v100 dsRef
  rfl

theorem v45_at (h : Fin 8) (r t : Fin 8192) : res_main_v45 V0 (ix3 h r t) = BitVec.ofBool (decide (t.val ≤ r.val)) := by
  pointwise [res_main_v45, res_main_v38]
  rw [WordCmp.cmpi_sle_ofNat (by omega) (by omega)]

theorem dsRef_at (b : IVec S8x8192x8192 1) (x e : FVec Ideal S8x8192x8192 .f32) (Z : FVec Ideal S8x8192x1 .f32) (h : Fin 8) (r t : Fin 8192) :
    dsRef b x e Z (ix3 h r t) = Scalar.select (b (ix3 h r t)) ((Ideal.div (x (ix3 h r t)) (Z (ix3 h r 0))
      + ∑ _o : Fin 1, -∑ u : Fin 8192, x (ix3 h r u) * Ideal.div 1 (Z (ix3 h r 0) * Z (ix3 h r 0)) * e (ix3 h r u)) * e (ix3 h r t) * Ideal.ofBits .f32 1033096506#32) 0 := by
  pointwise [dsRef]

/-- The cotangents of head `h`'s outputs. -/
def gAt (G : ℕ → ℕ → ℝ) (h : ℕ) (r : Fin 8192) (d : Fin 128) : ℝ := G r (128 * h + d)
/-- Head `h`'s values. -/
def vAt (KV : ℕ → ℕ → ℝ) (h : ℕ) (t : Fin 8192) (d : Fin 128) : ℝ := KV t (256 * h + 128 + d)

include hQ hKV hR hC hS hG hM in
/-- The gradient of the scores. -/
theorem v100_at (h : Fin 8) (r t : Fin 8192) :
    res_main_v100 V0 (ix3 h r t) = ((dscore sigma seen (scoreAt Q KV R C S h) (vAt KV h) (gAt G h) r t : ℝ) : EReal) := by
  have he := v69_at hQ hKV hR hC hS hM
  have hZ := v71_at hQ hKV hR hC hS hM
  have hx := v82_holds hKV hG
  have hp := part_pos (scoreAt Q KV R C S h) r
  have hz := (mul_pos hp (Real.exp_pos (-M h r))).ne'
  rw [v100_eq, dsRef_at, v45_at, sigma_real, WordCmp.select_ofBool, Fin.sum_univ_one]
  simp only [he, hZ, hx _ _ _, ← EReal.coe_mul]
  rw [← EReal.coe_one, Ideal.div_coe hz, Ideal.div_coe (mul_ne_zero hz hz)]
  simp only [← EReal.coe_mul, Finite.coe_sum, ← EReal.coe_neg, ← EReal.coe_add]
  have hd := dscore_quotient seen (scoreAt Q KV R C S h) sigma (M h r) (vAt KV h) (gAt G h) r hp t
  by_cases ht : t.val ≤ r.val
  · rw [decide_eq_true ht, if_pos rfl, ← hd]
    simp only [one_mul, mul_one_div]
    rfl
  · rw [decide_eq_false ht, if_neg (by decide), dscore, prob, seen, if_neg ht]
    simp

/-- The gradient of the scores, of head, query and key numbers. -/
def dsR (Q KV R C S G : ℕ → ℕ → ℝ) (h : ℕ) (r t : Fin 8192) : ℝ := dscore sigma seen (scoreAt Q KV R C S h) (vAt KV h) (gAt G h) r t

include hQ hKV hR hC hS hG hM in
/-- The gradient of the rotated query columns. -/
theorem v102_at (r : Fin 8192) (h : Fin 8) (e : Fin 64) :
    res_main_v102 V0 (ix3 r h e) = ((∑ t : Fin 8192, dsR Q KV R C S G h r t * roped (R t) (C t) (S t) e : ℝ) : EReal) := by
  have hd := v100_at hQ hKV hR hC hS hG hM
  have h29 := v29_holds hR hC hS
  pointwise [res_main_v102, res_main_v101]
  exact sum_holds fun t => by rw [hd, h29, EReal.coe_mul]; rfl

include hQ hKV hR hC hS hG hM in
/-- The gradient of the rotated key columns. -/
theorem v103_at (t : Fin 8192) (e : Fin 64) :
    res_main_v103 V0 (ix2 t e) = ((∑ r : Fin 8192, ∑ h : Fin 8, dsR Q KV R C S G h r t * roped (fun e => Q r (192 * h + 128 + e)) (C r) (S r) e : ℝ) : EReal) := by
  have hd := v100_at hQ hKV hR hC hS hG hM
  have h20 := v20_holds hQ hC hS
  pointwise [res_main_v103, res_main_v101]
  exact sum_holds fun r => sum_holds fun h => by rw [hd, h20, EReal.coe_mul]; rfl

/-- The rotated columns' gradient turned back. -/
def ropeBack (V0 : Valuation τ sig (Elt Ideal)) : FVec Ideal S8192x8x64 .f32 :=
  concatenate S8192x8x64 2 [⟨S8192x8x32, (addf (mulf (res_main_v122 V0) (broadcastInDim S8192x8x32 ![0, 1, 2] bcast_S8192x1x32_S8192x8x32_0_1_2 (res_main_v7 V0))) (mulf (res_main_v121 V0) (broadcastInDim S8192x8x32 ![0, 1, 2] bcast_S8192x1x32_S8192x8x32_0_1_2 (res_main_v6 V0))))⟩, ⟨S8192x8x32, (addf (mulf (res_main_v122 V0) (broadcastInDim S8192x8x32 ![0, 1, 2] bcast_S8192x1x32_S8192x8x32_0_1_2 (res_main_v6 V0))) (mulf (Host.negf (res_main_v121 V0)) (broadcastInDim S8192x8x32 ![0, 1, 2] bcast_S8192x1x32_S8192x8x32_0_1_2 (res_main_v7 V0))))⟩] concatenates_S8192x8x32_S8192x8x32_S8192x8x64_d2

/-- The gradient of the queries' own columns. -/
def nopeGrad (V0 : Valuation τ sig (Elt Ideal)) : FVec Ideal S8192x8x128 .f32 :=
  transpose S8192x8x128 [1, 0, 2] (Host.dotGeneral (F := Ideal) (φ₁ := .f32) (φ₂ := .f32) dot_S8x8192x8192_S8192x8x128_S8x8192x128_2_0_1_2_0_1 none (res_main_v100 V0) (res_main_v30 V0)) transposes_S8x8192x128_S8192x8x128_1_0_2

/-- The gradient of the keys' own columns. -/
def keyGrad (V0 : Valuation τ sig (Elt Ideal)) : FVec Ideal S8192x8x128 .f32 :=
  transpose S8192x8x128 [1, 0, 2] (Host.dotGeneral (F := Ideal) (φ₁ := .f32) (φ₂ := .f32) dot_S8x8192x8192_S8192x8x128_S8x8192x128_1_0_2_2_0_1 none (res_main_v100 V0) (res_main_v4 V0)) transposes_S8x8192x128_S8192x8x128_1_0_2

/-- The gradient of the values. -/
def valueGrad (V0 : Valuation τ sig (Elt Ideal)) : FVec Ideal S8192x8x128 .f32 :=
  transpose S8192x8x128 [2, 0, 1] (Host.dotGeneral (F := Ideal) (φ₁ := .f32) (φ₂ := .f32) dot_S8x128x8192_S8x8192x8192_S8x128x8192_2_1_1_2_0_0 none (res_main_v81 V0) (res_main_v73 V0)) transposes_S8x128x8192_S8192x8x128_2_0_1

/-- Every head's own columns, then its rotated ones. -/
def queryColumns (A : FVec Ideal S8192x8x64 .f32) (B : FVec Ideal S8192x8x128 .f32) : FVec Ideal S8192x1536 .bf16 :=
  truncf .bf16 (shapeCast _ (addf (pad S8192x8x192 ![0, 0, 128] ![0, 0, 0] ![0, 0, 0] A (constant S_ .f32 0x00000000#32) pads_S8192x8x64_S8192x8x192_000_000_12800 h_S_) (pad S8192x8x192 ![0, 0, 0] ![0, 0, 64] ![0, 0, 0] B (constant S_ .f32 0x00000000#32) pads_S8192x8x128_S8192x8x192_000_000_0640 h_S_)) shapeCasts_S8192x8x192_S8192x1536) bitsLt_bf16_f32

/-- Every head's keys, then its values. -/
def keyColumns (A B : FVec Ideal S8192x8x128 .f32) : FVec Ideal S8192x2048 .bf16 :=
  truncf .bf16 (shapeCast _ (addf (pad S8192x8x256 ![0, 0, 128] ![0, 0, 0] ![0, 0, 0] A (constant S_ .f32 0x00000000#32) pads_S8192x8x128_S8192x8x256_000_000_12800 h_S_) (pad S8192x8x256 ![0, 0, 0] ![0, 0, 128] ![0, 0, 0] B (constant S_ .f32 0x00000000#32) pads_S8192x8x128_S8192x8x256_000_000_01280 h_S_)) shapeCasts_S8192x8x256_S8192x2048) bitsLt_bf16_f32

/-- The third result: the gradient of the shared key columns. -/
def result2 (V0 : Valuation τ sig (Elt Ideal)) : FVec Ideal S8192x64 .bf16 :=
  truncf .bf16 (concatenate S8192x64 1 [⟨S8192x32, (addf (mulf (res_main_v112 V0) (V0 (Proc.devRef .tc main_arg4))) (mulf (res_main_v111 V0) (V0 (Proc.devRef .tc main_arg3))))⟩, ⟨S8192x32, (addf (mulf (res_main_v112 V0) (V0 (Proc.devRef .tc main_arg3))) (mulf (Host.negf (res_main_v111 V0)) (V0 (Proc.devRef .tc main_arg4))))⟩] concatenates_S8192x32_S8192x32_S8192x64_d1) bitsLt_bf16_f32

include hC hS in
/-- The third result: the gradient of the rotated columns turned back. -/
theorem result2_holds {W : ℕ → ℕ → ℝ} (h103 : @Holds 8192 64 (res_main_v103 V0) W) :
    @Holds 8192 64 (result2 V0) fun t => back (W t) (C t) (S t) := by
  intro t e
  pointwise [result2, res_main_v111, res_main_v112]
  unfold back
  by_cases h : e.val < 32
  · rw [dif_pos h, if_pos h, h103, h103, hC, hS, ← EReal.coe_mul, ← EReal.coe_mul, ← EReal.coe_add]
    simp only [Nat.add_comm 32]
  · rw [dif_neg h, if_neg h, h103, h103, hC, hS, ← EReal.coe_neg, ← EReal.coe_mul, ← EReal.coe_mul, ← EReal.coe_add]
    simp only [show 32 + (e.val - 32) = e.val by omega]

theorem queryColumns_holds {A : FVec Ideal S8192x8x64 .f32} {B : FVec Ideal S8192x8x128 .f32} {X Y : ℕ → ℕ → ℕ → ℝ} (hA : HoldsT (a := 8192) (b := 8) (c := 64) A X)
    (hB : HoldsT (a := 8192) (b := 8) (c := 128) B Y) :
    @Holds 8192 1536 (queryColumns A B) fun r j => if 128 ≤ j % 192 then X r (j / 192) (j % 192 - 128) else Y r (j / 192) (j % 192) := by
  intro r j
  have hj := j.isLt
  pointwise [queryColumns]
  split_ifs with h1 h2 h3 h4 h5 h6
  all_goals first
    | (exfalso; omega)
    | (rw [add_zero, hA])
    | (rw [zero_add, hB])

theorem keyColumns_holds {A B : FVec Ideal S8192x8x128 .f32} {X Y : ℕ → ℕ → ℕ → ℝ} (hA : HoldsT (a := 8192) (b := 8) (c := 128) A X)
    (hB : HoldsT (a := 8192) (b := 8) (c := 128) B Y) :
    @Holds 8192 2048 (keyColumns A B) fun r j => if 128 ≤ j % 256 then X r (j / 256) (j % 256 - 128) else Y r (j / 256) (j % 256) := by
  intro r j
  have hj := j.isLt
  pointwise [keyColumns]
  split_ifs with h1 h2 h3 h4 h5 h6
  all_goals first
    | (exfalso; omega)
    | (rw [add_zero, hA])
    | (rw [zero_add, hB])

include hC hS in
theorem ropeBack_holds {W : ℕ → ℕ → ℕ → ℝ} (h102 : HoldsT (a := 8192) (b := 8) (c := 64) (res_main_v102 V0) W) :
    HoldsT (a := 8192) (b := 8) (c := 64) (ropeBack V0) fun r h => back (W r h) (C r) (S r) := by
  intro r h e
  pointwise [ropeBack, res_main_v121, res_main_v122, res_main_v6, res_main_v7]
  unfold back
  by_cases h : e.val < 32
  · rw [dif_pos h, if_pos h, h102, h102, hC, hS, ← EReal.coe_mul, ← EReal.coe_mul, ← EReal.coe_add]
    simp only [Nat.add_comm 32]
  · rw [dif_neg h, if_neg h, h102, h102, hC, hS, ← EReal.coe_neg, ← EReal.coe_mul, ← EReal.coe_mul, ← EReal.coe_add]
    simp only [show 32 + (e.val - 32) = e.val by omega]

include hQ hKV hR hC hS hG hM in
theorem nopeGrad_at (r : Fin 8192) (h : Fin 8) (d : Fin 128) :
    nopeGrad V0 (ix3 r h d) = ((∑ t : Fin 8192, dsR Q KV R C S G h r t * KV t (256 * h + d) : ℝ) : EReal) := by
  have hd := v100_at hQ hKV hR hC hS hG hM
  have h30 := v30_holds hKV
  pointwise [nopeGrad]
  exact sum_holds fun t => by rw [hd, h30, EReal.coe_mul]; rfl

include hQ hKV hR hC hS hG hM in
theorem keyGrad_at (t : Fin 8192) (h : Fin 8) (d : Fin 128) :
    keyGrad V0 (ix3 t h d) = ((∑ r : Fin 8192, dsR Q KV R C S G h r t * Q r (192 * h + d) : ℝ) : EReal) := by
  have hd := v100_at hQ hKV hR hC hS hG hM
  have h4 := v4_holds hQ
  pointwise [keyGrad]
  exact sum_holds fun r => by rw [hd, h4, EReal.coe_mul]; rfl

include hQ hKV hR hC hS hG hM in
theorem valueGrad_at (t : Fin 8192) (h : Fin 8) (d : Fin 128) :
    valueGrad V0 (ix3 t h d) = ((∑ r : Fin 8192, G r (128 * h + d) * prob seen (scoreAt Q KV R C S h) r t : ℝ) : EReal) := by
  have hp := v73_at hQ hKV hR hC hS hM
  have h81 := v81_holds hG
  pointwise [valueGrad]
  exact sum_holds fun r => by rw [h81, hp, EReal.coe_mul]

end

end Cert.ReferenceIdeal.Value
end
-- ==== Proof.Attn.Equal.lean ====
/- The kernels' real arrays and the reference's are the same. -/
module

public import proofs.«01_k».proof.Proof.Attn.Chain
public import proofs.«01_k».proof.Proof.Attn.Ref

@[expose] public section

set_option maxRecDepth 16384

noncomputable section

open Idealize.ShloMosaic Cert.KernelIdeal.Value Cert.ReferenceIdeal.Value

namespace Cert.Attn

variable (Q KV R C S G : ℕ → ℕ → ℝ)

theorem qF_own (r h d : ℕ) (hd : d < 128) : qF Q C S r (256 * h + d) = Q r (192 * h + d) := by
  have e1 : (256 * h + d) / 256 = h := by omega
  have e2 : (256 * h + d) % 256 = d := by omega
  have e3 : d % 256 = d := by omega
  simp only [qF, headsRotated, rotated, padQ, cos256, sinUp256, sinDown256, e1, e2, e3]
  rw [if_pos (show d < 192 by omega), if_pos hd, if_pos (show d < 160 by omega), if_pos hd]
  ring

theorem qF_rope (r h e : ℕ) (he : e < 64) : qF Q C S r (256 * h + (128 + e)) = roped (fun e => Q r (192 * h + 128 + e)) (C r) (S r) e := by
  have e1 : (256 * h + (128 + e)) / 256 = h := by omega
  have e2 : (256 * h + (128 + e)) % 256 = 128 + e := by omega
  have e4 : (256 * h + (128 + e + 32) % 256) / 256 = h := by omega
  have e5 : (256 * h + (128 + e + 32) % 256) % 256 = 128 + e + 32 := by omega
  have e6 : (256 * h + (128 + e + (256 - 32)) % 256) / 256 = h := by omega
  have e7 : (256 * h + (128 + e + (256 - 32)) % 256) % 256 = 96 + e := by omega
  simp only [qF, headsRotated, rotated, padQ, cos256, sinUp256, sinDown256, e1, e2, e4, e5, e6, e7, roped]
  by_cases h3 : e < 32
  · rw [if_pos (show 128 + e < 192 by omega), if_neg (show ¬ 128 + e < 128 by omega), if_pos (show 128 + e - 128 < 32 by omega), if_pos (show 128 + e < 160 by omega),
      if_pos (show 128 + e + 32 < 192 by omega), if_neg (show ¬ 128 + e < 128 by omega), if_pos (show 128 + e - 128 < 32 by omega), if_pos h3]
    simp only [show 128 + e - 128 = e by omega, Nat.add_assoc]
    ring
  · rw [if_pos (show 128 + e < 192 by omega), if_neg (show ¬ 128 + e < 128 by omega), if_neg (show ¬ 128 + e - 128 < 32 by omega), if_pos (show 128 + e - 128 - 32 < 32 by omega),
      if_neg (show ¬ 128 + e < 160 by omega), if_pos (show 96 + e < 192 by omega), if_pos (show 128 + e - 160 < 32 by omega), if_neg (show ¬ 128 + e < 128 by omega), if_neg (show ¬ 128 + e - 128 < 32 by omega), if_neg h3]
    simp only [show 128 + e - 128 - 32 = e - 32 by omega, show 128 + e - 160 = e - 32 by omega, show 192 * h + (96 + e) = 192 * h + (128 + (e - 32)) by omega, Nat.add_assoc]
    ring

theorem qF_pad (r h e : ℕ) (he : e < 64) : qF Q C S r (256 * h + (192 + e)) = 0 := by
  have e1 : (256 * h + (192 + e)) / 256 = h := by omega
  have e2 : (256 * h + (192 + e)) % 256 = 192 + e := by omega
  simp only [qF, headsRotated, rotated, cos256, sinUp256, sinDown256, e1, e2]
  rw [if_neg (show ¬ 192 + e < 128 by omega), if_neg (show ¬ 192 + e - 128 < 32 by omega), if_neg (show ¬ 192 + e - 128 - 32 < 32 by omega),
    if_neg (show ¬ 192 + e < 160 by omega), if_neg (show ¬ 192 + e - 160 < 32 by omega), if_neg (show ¬ 192 + e < 128 by omega), if_neg (show ¬ 192 + e - 128 < 32 by omega)]
  ring

theorem kF_own (t h d : ℕ) (hd : d < 128) : kF KV R C S t (256 * h + d) = KV t (256 * h + d) := by
  rw [kF, fullKeys, if_pos (by omega)]

theorem kF_rope (t h e : ℕ) (he : e < 64) : kF KV R C S t (256 * h + (128 + e)) = roped (R t) (C t) (S t) e := by
  have e2 : (256 * h + (128 + e)) % 128 = e := by omega
  have e3 : (e + 32) % 128 = e + 32 := by omega
  rw [kF, fullKeys, if_neg (by omega), e2]
  simp only [rotated, padR, cos128, sinUp128, sinDown128, roped, e3]
  by_cases h3 : e < 32
  · simp only [if_pos h3, if_pos he, if_pos (show e + 32 < 64 by omega)]
    ring
  · have e4 : (e + (128 - 32)) % 128 = e - 32 := by omega
    simp only [if_neg h3, if_pos he, if_pos (show e - 32 < 32 by omega), e4, if_pos (show e - 32 < 64 by omega)]
    ring

/-- The scores agree: a query's padding meets whatever the key holds there. -/
theorem score_eq (h r t : ℕ) : score2 (qF Q C S) (kF KV R C S) h r t = scoreR Q KV R C S h r t := by
  unfold score2 scoreR
  rw [← Finset.sum_range (n := 256) (f := fun e => qF Q C S r (256 * h + e) * kF KV R C S t (256 * h + e)), show 256 = 128 + (64 + 64) from rfl, Finset.sum_range_add, Finset.sum_range_add,
    ← Finset.sum_range (n := 128) (f := fun d => Q r (192 * h + d) * KV t (256 * h + d)),
    ← Finset.sum_range (n := 64) (f := fun e => roped (R t) (C t) (S t) e * roped (fun e => Q r (192 * h + 128 + e)) (C r) (S r) e)]
  congr 2
  · exact Finset.sum_congr rfl fun d hd => by rw [qF_own _ _ _ _ _ _ (Finset.mem_range.mp hd), kF_own _ _ _ _ _ _ _ (Finset.mem_range.mp hd)]
  · rw [Finset.sum_congr rfl fun e he => by rw [qF_rope _ _ _ _ _ _ (Finset.mem_range.mp he), kF_rope _ _ _ _ _ _ _ (Finset.mem_range.mp he)],
      Finset.sum_eq_zero (f := fun x => qF Q C S r (256 * h + (128 + (64 + x))) * kF KV R C S t (256 * h + (128 + (64 + x))))
        fun e he => by rw [show 128 + (64 + e) = 192 + e by omega, qF_pad _ _ _ _ _ _ (Finset.mem_range.mp he), zero_mul], add_zero]
    exact Finset.sum_congr rfl fun e _ => mul_comm _ _

/-- A sum over the keys a query sees. -/
theorem sum_seen (f : ℕ → ℝ) (r : Fin 8192) : ∑ t : Fin 8192, seen r t * f t = ∑ t ∈ Finset.range (r + 1), f t := by
  simp only [seen, ite_mul, one_mul, zero_mul]
  rw [← Finset.sum_range (n := 8192) (f := fun t => if t ≤ r.val then f t else 0), ← Finset.sum_filter]
  refine Finset.sum_congr ?_ fun _ _ => rfl
  ext t
  have := r.isLt
  simp only [Finset.mem_filter, Finset.mem_range]
  omega

/-- A sum over the queries that see a key. -/
theorem sum_seen' (f : ℕ → ℝ) (t : Fin 8192) : ∑ r : Fin 8192, seen r t * f r = ∑ r ∈ Finset.range 8192, if t.val ≤ r then f r else 0 := by
  simp only [seen, ite_mul, one_mul, zero_mul]
  rw [← Finset.sum_range (n := 8192) (f := fun r => if t.val ≤ r then f r else 0)]

theorem part_eq (h : ℕ) (r : Fin 8192) : ∑ t ∈ Finset.range (r + 1), Real.exp (score2 (qF Q C S) (kF KV R C S) h r t) = part seen (scoreAt Q KV R C S h) r := by
  rw [← sum_seen]
  exact Finset.sum_congr rfl fun t _ => by rw [score_eq]; rfl

theorem lF_eq (h : ℕ) (r : Fin 8192) : lF Q KV R C S r h = lse seen (scoreAt Q KV R C S h) r := congrArg Real.log (part_eq Q KV R C S h r)

theorem oF_eq (h : ℕ) (r : Fin 8192) (d : Fin 128) : oF Q KV R C S r (128 * h + d) = out seen (scoreAt Q KV R C S h) (vAt KV h) r d := by
  have e1 : (128 * h + d.val) / 128 = h := by omega
  have e2 : (128 * h + d.val) % 128 = d := by omega
  rw [oF, causalOut, e1, e2, part_eq, out, ← sum_seen]
  refine congrArg (· / _) (Finset.sum_congr rfl fun t _ => ?_)
  rw [score_eq, mul_assoc]
  rfl

theorem dF_eq (h : ℕ) (r : Fin 8192) : dF Q KV R C S G r h = rowSum seen (scoreAt Q KV R C S h) (vAt KV h) (gAt G h) r := by
  exact Finset.sum_congr rfl fun d _ => by rw [oF_eq]; rfl

theorem prob_eq' (h : ℕ) (r t : Fin 8192) : seen r t * expH (qF Q C S) (kF KV R C S) (lF Q KV R C S) h r t = prob seen (scoreAt Q KV R C S h) r t := by
  rw [prob, ← lF_eq]
  have := score_eq Q KV R C S h r t
  unfold score2 at this
  rw [expH, expP, this]
  rfl

theorem ds_eq (h : ℕ) (r t : Fin 8192) :
    seen r t * dsAt (qF Q C S) (kF KV R C S) G (fun h t d => KV t (256 * h + 128 + d)) (lF Q KV R C S) (dF Q KV R C S G) h r t = dsR Q KV R C S G h r t := by
  rw [dsR, dscore, ← prob_eq', ← dF_eq, dsAt, dsH, dsP]
  simp only [gAt, vAt]
  ring

theorem dqF_eq (h j : ℕ) (hj : j < 256) (r : Fin 8192) : dqF Q KV R C S G r (256 * h + j) = ∑ t : Fin 8192, dsR Q KV R C S G h r t * kF KV R C S t (256 * h + j) := by
  have e1 : (256 * h + j) / 256 = h := by omega
  rw [dqF, causalDq, e1, ← sum_seen]
  exact Finset.sum_congr rfl fun t _ => by rw [← mul_assoc, ds_eq]

theorem dkF_eq (h j : ℕ) (hj : j < 256) (t : Fin 8192) : dkF Q KV R C S G t (256 * h + j) = ∑ r : Fin 8192, dsR Q KV R C S G h r t * qF Q C S r (256 * h + j) := by
  have e1 : (256 * h + j) / 256 = h := by omega
  rw [dkF, causalDk, e1, ← sum_seen' (fun r => dsAt (qF Q C S) (kF KV R C S) G (fun h t d => KV t (256 * h + 128 + d)) (lF Q KV R C S) (dF Q KV R C S G) h r t * qF Q C S r (256 * h + j)) t]
  exact Finset.sum_congr rfl fun r _ => by rw [← mul_assoc, ds_eq]

theorem dvF_eq (h d : ℕ) (hd : d < 128) (t : Fin 8192) : dvF Q KV R C S G t (128 * h + d) = ∑ r : Fin 8192, G r (128 * h + d) * prob seen (scoreAt Q KV R C S h) r t := by
  have e1 : (128 * h + d) / 128 = h := by omega
  rw [dvF, causalDv, e1, ← sum_seen' (fun r => expH (qF Q C S) (kF KV R C S) (lF Q KV R C S) h r t * G r (128 * h + d)) t]
  exact Finset.sum_congr rfl fun r _ => by rw [← mul_assoc, prob_eq', mul_comm]

/-- The first result. -/
theorem dQ_eq (r : Fin 8192) (j : ℕ) : dQ Q KV R C S G r j = if 128 ≤ j % 192
    then back (fun e => ∑ t : Fin 8192, dsR Q KV R C S G (j / 192) r t * roped (R t) (C t) (S t) e) (C r) (S r) (j % 192 - 128)
    else ∑ t : Fin 8192, dsR Q KV R C S G (j / 192) r t * KV t (256 * (j / 192) + j % 192) := by
  have hj := Nat.mod_lt j (show 0 < 192 by omega)
  unfold dQ
  generalize j / 192 = h
  generalize j % 192 = e at *
  have e1 : (256 * h + e) / 256 = h := by omega
  have e2 : (256 * h + e) % 256 = e := by omega
  simp only [headsRotated, rotated, e1, e2]
  have hx (k : ℕ) (hk : k < 64) : dqF Q KV R C S G r (256 * h + (128 + k)) = ∑ t : Fin 8192, dsR Q KV R C S G h r t * roped (R t) (C t) (S t) k := by
    rw [dqF_eq _ _ _ _ _ _ _ _ (by omega)]
    exact Finset.sum_congr rfl fun t _ => by rw [kF_rope _ _ _ _ _ _ _ hk]
  by_cases h1 : 128 ≤ e
  · rw [if_pos h1]
    unfold back
    beta_reduce
    by_cases h2 : e - 128 < 32
    · have e3 : (e + 32) % 256 = 128 + (e - 128 + 32) := by omega
      have e4 : (e + 224) % 256 = e - 32 := by omega
      have e6 : 128 + (e - 128 + 32) - 160 = e - 128 := by omega
      rw [if_pos h2, e3, e4, hx _ (by omega), cos256, if_neg (by omega), if_pos h2, sinDown256, if_pos (by omega), sinUp256, if_neg (by omega), if_pos (by omega), e6, ← hx _ (show e - 128 < 64 by omega), show 128 + (e - 128) = e by omega]
      ring
    · have e3 : (e + 32) % 256 = e + 32 := by omega
      have e4 : (e + (256 - 32)) % 256 = 128 + (e - 128 - 32) := by omega
      have e6 : 128 + (e - 128 - 32) - 128 = e - 128 - 32 := by omega
      rw [if_neg h2, e3, e4, hx _ (by omega), cos256, if_neg (by omega), if_neg h2, if_pos (by omega), sinDown256, if_neg (by omega), if_pos (by omega), e6, sinUp256, if_neg (by omega), if_neg (by omega),
        ← hx _ (show e - 128 < 64 by omega), show 128 + (e - 128) = e by omega]
      ring
  · have e3 : (e + 32) % 256 = e + 32 := by omega
    have hs : sinDown256 S r ((e + 224) % 256) = 0 := by
      unfold sinDown256
      by_cases h3 : e < 32
      · rw [if_neg (by omega), if_neg (by omega)]
      · rw [if_pos (by omega)]
    rw [if_neg h1, e3, hs, cos256, if_pos (by omega), sinUp256, if_pos (by omega), dqF_eq _ _ _ _ _ _ _ _ (by omega), mul_zero, mul_zero, mul_one, add_zero, add_zero]
    exact Finset.sum_congr rfl fun t _ => by rw [kF_own _ _ _ _ _ _ _ (by omega)]

/-- The second result. -/
theorem dKV_eq (t : Fin 8192) (j : ℕ) : dKV Q KV R C S G t j = if 128 ≤ j % 256
    then ∑ r : Fin 8192, G r (128 * (j / 256) + (j % 256 - 128)) * prob seen (scoreAt Q KV R C S (j / 256)) r t
    else ∑ r : Fin 8192, dsR Q KV R C S G (j / 256) r t * Q r (192 * (j / 256) + j % 256) := by
  unfold dKV packed
  by_cases h1 : 128 ≤ j % 256
  · rw [if_pos h1, if_neg (by omega), show j % 128 = j % 256 - 128 by omega, dvF_eq _ _ _ _ _ _ _ _ (by omega)]
  · rw [if_neg h1, if_pos (by omega)]
    conv_lhs => rw [← Nat.div_add_mod j 256]
    rw [dkF_eq _ _ _ _ _ _ _ _ (by omega)]
    exact Finset.sum_congr rfl fun r _ => by rw [qF_own _ _ _ _ _ _ (by omega)]

/-- The third result. -/
theorem dR_eq (t : Fin 8192) (e : ℕ) (he : e < 64) : dR Q KV R C S G t e
    = back (fun e => ∑ r : Fin 8192, ∑ h : Fin 8, dsR Q KV R C S G h r t * roped (fun e => Q r (192 * h + 128 + e)) (C r) (S r) e) (C t) (S t) e := by
  have hx (k : ℕ) (hk : k < 64) : sharedSum (dkF Q KV R C S G) t k = ∑ r : Fin 8192, ∑ h : Fin 8, dsR Q KV R C S G h r t * roped (fun e => Q r (192 * h + 128 + e)) (C r) (S r) k := by
    rw [Finset.sum_comm]
    refine Finset.sum_congr rfl fun h _ => ?_
    rw [Nat.add_assoc, dkF_eq _ _ _ _ _ _ _ _ (by omega)]
    exact Finset.sum_congr rfl fun r _ => by rw [qF_rope _ _ _ _ _ _ hk]
  unfold dR rotated back
  beta_reduce
  by_cases h2 : e < 32
  · have e3 : (e + 32) % 128 = e + 32 := by omega
    have e4 : (e + 96) % 128 = e + 96 := by omega
    rw [if_pos h2, e3, e4, hx _ he, hx (e + 32) (by omega), cos128, if_pos h2, sinDown128, if_neg (by omega), sinUp128, if_neg (by omega), if_pos (by omega), show e + 32 - 32 = e by omega]
    ring
  · have e3 : (e + 32) % 128 = e + 32 := by omega
    have e4 : (e + 96) % 128 = e - 32 := by omega
    rw [if_neg h2, e3, e4, hx _ he, hx (e - 32) (by omega), cos128, if_neg h2, if_pos (by omega), sinDown128, if_pos (by omega), sinUp128, if_neg (by omega), if_neg (by omega)]
    ring

end Cert.Attn
end
-- ==== Proof.Attn.Pure.lean ====
/- The latent attention's three gradients are the derivative of the plain attention. -/
module

public import proofs.«01_k».proof.Defs
public import proofs.«01_k».proof.Proof.Attn.Run
public import proofs.«01_k».proof.Proof.Attn.Equal
public import proofs.«01_k».proof.Proof.Gen.Pre_mla_finite

@[expose] public section

set_option maxRecDepth 16384

noncomputable section

open Idealize.ShloMosaic Idealize.ShloMosaic.TcCoe Idealize.SL.Sem

namespace Cert.Attn
local instance : Cert.KernelIdeal.Facts := Cert.KernelIdeal.Gen.facts
local instance : Cert.ReferenceIdeal.Facts := Cert.ReferenceIdeal.Gen.facts
local instance : Cert.Pre_mla_finite.Facts := Cert.Pre_mla_finite.Gen.facts

section
open Cert.ReferenceIdeal Cert.ReferenceIdeal.Value
variable {V0 : Valuation τ sig (Elt Ideal)} {Q KV R C S G : ℕ → ℕ → ℝ}
variable (hQ : @Holds 8192 1536 (V0 (Proc.devRef .tc main_arg0)) Q) (hKV : @Holds 8192 2048 (V0 (Proc.devRef .tc main_arg1)) KV)
  (hR : @Holds 8192 64 (V0 (Proc.devRef .tc main_arg2)) R) (hC : @Holds 8192 32 (V0 (Proc.devRef .tc main_arg3)) C)
  (hS : @Holds 8192 32 (V0 (Proc.devRef .tc main_arg4)) S) (hG : @Holds 8192 1024 (V0 (Proc.devRef .tc main_arg5)) G)

include hQ hKV hR hC hS in
theorem exists_max : ∃ M : Fin 8 → Fin 8192 → ℝ, ∀ h r, res_main_v49 V0 (ix2 h r) = ((M h r : ℝ) : EReal) := by
  choose M hM using fun h r => v49_real hQ hKV hR hC hS h r
  exact ⟨M, hM⟩

include hQ hKV hR hC hS hG in
/-- The reference's gradient of the queries holds the kernels' numbers. -/
theorem ref_dQ : @Holds 8192 1536 (queryColumns (ropeBack V0) (nopeGrad V0)) (Cert.KernelIdeal.Value.dQ Q KV R C S G) := by
  obtain ⟨M, hM⟩ := exists_max hQ hKV hR hC hS
  have h102 : HoldsT (a := 8192) (b := 8) (c := 64) (res_main_v102 V0)
      fun r h e => if hr : r < 8192 then ∑ t : Fin 8192, dsR Q KV R C S G h ⟨r, hr⟩ t * roped (R t) (C t) (S t) e else 0 := fun r h e => by
    beta_reduce; rw [dif_pos r.isLt]; exact v102_at hQ hKV hR hC hS hG hM r h e
  have hn : HoldsT (a := 8192) (b := 8) (c := 128) (nopeGrad V0)
      fun r h d => if hr : r < 8192 then ∑ t : Fin 8192, dsR Q KV R C S G h ⟨r, hr⟩ t * KV t (256 * h + d) else 0 := fun r h d => by
    beta_reduce; rw [dif_pos r.isLt]; exact nopeGrad_at hQ hKV hR hC hS hG hM r h d
  intro r j
  rw [queryColumns_holds (ropeBack_holds hC hS h102) hn r j, dQ_eq]
  simp only [r.isLt, dite_true]

include hQ hKV hR hC hS hG in
/-- The reference's gradient of keys and values holds the kernels' numbers. -/
theorem ref_dKV : @Holds 8192 2048 (keyColumns (valueGrad V0) (keyGrad V0)) (Cert.KernelIdeal.Value.dKV Q KV R C S G) := by
  obtain ⟨M, hM⟩ := exists_max hQ hKV hR hC hS
  have hv : HoldsT (a := 8192) (b := 8) (c := 128) (valueGrad V0)
      fun t h d => if ht : t < 8192 then ∑ r : Fin 8192, G r (128 * h + d) * prob seen (scoreAt Q KV R C S h) r ⟨t, ht⟩ else 0 := fun t h d => by
    beta_reduce; rw [dif_pos t.isLt]; exact valueGrad_at hQ hKV hR hC hS hG hM t h d
  have hk : HoldsT (a := 8192) (b := 8) (c := 128) (keyGrad V0)
      fun t h d => if ht : t < 8192 then ∑ r : Fin 8192, dsR Q KV R C S G h r ⟨t, ht⟩ * Q r (192 * h + d) else 0 := fun t h d => by
    beta_reduce; rw [dif_pos t.isLt]; exact keyGrad_at hQ hKV hR hC hS hG hM t h d
  intro t j
  rw [keyColumns_holds hv hk t j, dKV_eq]
  simp only [t.isLt, dite_true]

include hQ hKV hR hC hS hG in
/-- The reference's gradient of the shared key columns holds the kernels' numbers. -/
theorem ref_dR : @Holds 8192 64 (result2 V0) (Cert.KernelIdeal.Value.dR Q KV R C S G) := by
  obtain ⟨M, hM⟩ := exists_max hQ hKV hR hC hS
  have h103 : @Holds 8192 64 (res_main_v103 V0)
      fun t e => if ht : t < 8192 then ∑ r : Fin 8192, ∑ h : Fin 8, dsR Q KV R C S G h r ⟨t, ht⟩ * roped (fun e => Q r (192 * h + 128 + e)) (C r) (S r) e else 0 := fun t e => by
    beta_reduce; rw [dif_pos t.isLt]; exact v103_at hQ hKV hR hC hS hG hM t e
  intro t e
  rw [result2_holds hC hS h103 t e, dR_eq _ _ _ _ _ _ _ _ e.isLt]
  simp only [t.isLt, dite_true]
end

section
open Cert.KernelIdeal Cert.KernelIdeal.Gen Cert.KernelIdeal.Value
variable {m : (ℓ : Loc nD τ sig) → Buf (Elt Ideal) ℓ} {ρ : Dev nD → PrngReg} {c : Dev nD}

/-- The arguments are arrays of real numbers. -/
theorem reals (hpre : Cert.Pre_KernelIdeal_mla_finite m) (c : Dev nD) : ∃ Q KV R C S G : ℕ → ℕ → ℝ,
    @Holds 8192 1536 (m ((c.tc : Thread nD τ).loc main_arg0)) Q ∧ @Holds 8192 2048 (m ((c.tc : Thread nD τ).loc main_arg1)) KV
    ∧ @Holds 8192 64 (m ((c.tc : Thread nD τ).loc main_arg2)) R ∧ @Holds 8192 32 (m ((c.tc : Thread nD τ).loc main_arg3)) C
    ∧ @Holds 8192 32 (m ((c.tc : Thread nD τ).loc main_arg4)) S ∧ @Holds 8192 1024 (m ((c.tc : Thread nD τ).loc main_arg5)) G := by
  have h := hpre c
  dsimp only [Pre_mla_finite.fn, Pre_mla_finite.fn_part1] at h
  obtain ⟨h0, h1, h2, h3, h4, h5⟩ := h
  obtain ⟨Q, hQ⟩ := exists_holds (Finite.reals_of_mask_f32 _ h0)
  obtain ⟨KV, hKV⟩ := exists_holds (Finite.reals_of_mask _ h1)
  obtain ⟨R, hR⟩ := exists_holds (Finite.reals_of_mask _ h2)
  obtain ⟨C, hC⟩ := exists_holds (Finite.reals_of_mask_f32 _ h3)
  obtain ⟨S, hS⟩ := exists_holds (Finite.reals_of_mask_f32 _ h4)
  obtain ⟨G, hG⟩ := exists_holds (Finite.reals_of_mask _ h5)
  exact ⟨Q, KV, R, C, S, G, hQ, hKV, hR, hC, hS, hG⟩
end

open Cert.KernelIdeal.Value Cert.KernelIdeal.Gen in
/-- The attention program's three results — the gradients of the queries, of keys and values, and of the key columns
    the heads share — are the reference's, at finite arguments. -/
theorem algebraic : Cert.algebraic_KernelIdeal_ReferenceIdeal_pre_mla_finite := by
  pair_intro
  · run_from Cert.KernelIdeal.Value.run m g
  · run_from Cert.ReferenceIdeal.Value.run m' g'
    all_goals
      obtain ⟨Q, KV, R, C, S, G, hQ, hKV, hR, hC, hS, hG⟩ := reals hpre c
      obtain ⟨e0, e1, e2, e3, e4, e5⟩ := hagree c
    · exact holds_ext (ref_dQ (holds_of_eq hQ e0) (holds_of_eq hKV e1) (holds_of_eq hR e2) (holds_of_eq hC e3) (holds_of_eq hS e4) (holds_of_eq hG e5))
        (holds_of_eq (at_v64 hQ hKV hR hC hS hG) (W21_v64 m g c).symm) fun _ _ => rfl
    · exact holds_ext (ref_dKV (holds_of_eq hQ e0) (holds_of_eq hKV e1) (holds_of_eq hR e2) (holds_of_eq hC e3) (holds_of_eq hS e4) (holds_of_eq hG e5))
        (holds_of_eq (at_v61_0 hQ hKV hR hC hS hG) (W21_of m g c Cert.KernelIdeal.main_v61_0 (by decide)).symm) fun _ _ => rfl
    · exact holds_ext (ref_dR (holds_of_eq hQ e0) (holds_of_eq hKV e1) (holds_of_eq hR e2) (holds_of_eq hC e3) (holds_of_eq hS e4) (holds_of_eq hG e5))
        (holds_of_eq (at_v65 hQ hKV hR hC hS hG) (W21_v65 m g c).symm) fun _ _ => rfl

end Cert.Attn
end
-- ==== Proof.Dil.Run.lean ====
/- The run of the dilated attention's program: what every buffer of a device holds when @main returns. -/
module

public import proofs.«01_k».proof.Proof.Gen.Kernel2Ideal.Frame

@[expose] public section

set_option maxRecDepth 16384

noncomputable section

namespace Cert.Kernel2Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with the counters at zero the program ends, and every unscoped buffer of every device then holds
    the contents computed for it at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W27 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h hz => h)

/-- The program's run: its four results are what the last host lines leave, its arguments are unchanged. -/
theorem run : θ_run defs (onTc (τ := τ) (main (F := F))) ⟨m, fun _ => 0, ρ⟩ (fun r => ∀ c : Dev nD,
      r.2.mem ((c.tc : Thread nD τ).loc main_v41_0) = W27 m ρ c main_v41_0
      ∧ r.2.mem ((c.tc : Thread nD τ).loc main_v79) = W27 m ρ c main_v79
      ∧ r.2.mem ((c.tc : Thread nD τ).loc main_v80) = W27 m ρ c main_v80
      ∧ r.2.mem ((c.tc : Thread nD τ).loc main_v81) = W27 m ρ c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v41_0 (by decide)), h c _ (mem_uc main_v79 (by decide)), h c _ (mem_uc main_v80 (by decide)), h c _ (mem_uc main_v81 (by decide)),
     (h c _ (mem_uc main_arg0 (by decide))).trans (W27_main_arg0 m ρ c),
     (h c _ (mem_uc main_arg1 (by decide))).trans (W27_main_arg1 m ρ c),
     (h c _ (mem_uc main_arg2 (by decide))).trans (W27_main_arg2 m ρ c),
     (h c _ (mem_uc main_arg3 (by decide))).trans (W27_main_arg3 m ρ c),
     (h c _ (mem_uc main_arg4 (by decide))).trans (W27_main_arg4 m ρ c),
     (h c _ (mem_uc main_arg5 (by decide))).trans (W27_main_arg5 m ρ c)⟩) (run_all m ρ)

end Cert.Kernel2Ideal.Value

end
-- ==== Proof.Dil.Block.lean ====
/- One head's block of the dilated attention, over arrays of real numbers: the output and the log-denominator of a block of
   queries, the gradients of the block's queries, and those of a block of keys and values. -/
module

public import proofs.«01_k».proof.Proof.Attn.Real
public import proofs.«01_k».proof.Proof.Gen.Kernel2Ideal.Skeleton

@[expose] public section

set_option maxRecDepth 16384

noncomputable section

open Idealize.ShloMosaic Idealize.ShloMosaic.TcCoe Idealize.SL.Sem

namespace Cert.Dil
open Cert.Attn

/-- The scaling constant of the dilated scores, as the real number it is. -/
def tau : ℝ := 11863283 * (2 ^ 27)⁻¹

theorem tau_real : Ideal.ofBits FTy.f32 1035273459#32 = (tau : EReal) := by
  rw [tau, EReal.coe_mul]; simp [Ideal.ofBits, Ideal.ieee]

/-- Two blocks of 128 rows, one after the other. -/
def pair (X Y : ℕ → ℕ → ℝ) (b e : ℕ) : ℝ := if b < 128 then X b e else Y (b - 128) e

/-- One where a choice holds, zero elsewhere. -/
def ind (w : Prop) [Decidable w] : ℝ := if w then 1 else 0

/-- An array of real numbers where a choice holds and of `⊥` elsewhere. -/
def Masked {m n : ℕ} (X : (⟨2, ![m, n]⟩ : Shape).Idx → EReal) (w : ℕ → ℕ → Prop) [∀ a b, Decidable (w a b)] (A : ℕ → ℕ → ℝ) : Prop :=
  ∀ (i : Fin m) (j : Fin n), X (ix2 i j) = if w i.val j.val then ((A i.val j.val : ℝ) : EReal) else ⊥

/-- The exponential of such an entry's difference to a real number. -/
theorem exp_masked (w : Prop) [Decidable w] (s m : ℝ) : Ideal.exp ((if w then (s : EReal) else ⊥) - (m : EReal)) = ((ind w * Real.exp (s - m) : ℝ) : EReal) := by
  unfold ind
  split_ifs
  · rw [← EReal.coe_sub, Ideal.exp_coe, one_mul]
  · rw [EReal.bot_sub, Ideal.exp_bot, zero_mul, EReal.coe_zero]

/-- The scores of a block's queries and the pair of blocks of keys. -/
def scores (Q K : ℕ → ℕ → ℝ) (a b : ℕ) : ℝ := (∑ e : Fin 128, Q a e * K b e) * tau

/-- The weights of the chosen keys, from a saved logarithm. -/
def expW (w : ℕ → ℕ → Prop) [∀ a b, Decidable (w a b)] (S M : ℕ → ℕ → ℝ) (a b : ℕ) : ℝ := ind (w a b) * Real.exp (S a b - M a b)

/-- The gradient of a score, its weight `P` given. -/
def dsW (P G V D : ℕ → ℕ → ℝ) (a b : ℕ) : ℝ := P a b * ((∑ d : Fin 128, G a d * V b d) - D a b) * tau

/-- The sum of the exponentials of the chosen scores of a row. -/
def zRow (w : ℕ → ℕ → Prop) [∀ a b, Decidable (w a b)] (S : ℕ → ℕ → ℝ) (a : ℕ) : ℝ := ∑ b : Fin 256, ind (w a b) * Real.exp (S a b)

/-- The weighted mean of the values a row chooses. -/
def outRow (w : ℕ → ℕ → Prop) [∀ a b, Decidable (w a b)] (S V : ℕ → ℕ → ℝ) (a e : ℕ) : ℝ :=
  (∑ b : Fin 256, ind (w a b) * Real.exp (S a b) * V b e) / zRow w S a

theorem ind_nonneg (w : Prop) [Decidable w] : 0 ≤ ind w := by unfold ind; split_ifs <;> norm_num

theorem ind_mul_exp_pos {ι : Type} (T : Finset ι) (w : ι → Prop) [∀ a, Decidable (w a)] (f : ι → ℝ) (i : ι) (hi : i ∈ T) (h : w i) :
    0 < ∑ b ∈ T, ind (w b) * Real.exp (f b) :=
  Finset.sum_pos' (fun b _ => mul_nonneg (ind_nonneg _) (Real.exp_pos _).le) ⟨i, hi, by rw [ind, if_pos h, one_mul]; exact Real.exp_pos _⟩

/-- A maximum of extended reals below `⊤`, one of which is above `⊥`, is a real number. -/
theorem fold_max_real {ι : Type} (T : Finset ι) (f : ι → EReal) (h1 : ∀ i, f i ≠ ⊤) (i : ι) (hi : i ∈ T) (h2 : f i ≠ ⊥) :
    ∃ r : ℝ, Finset.fold max (⊥ : EReal) f T = (r : EReal) := by
  have ht : Finset.fold max (⊥ : EReal) f T ≠ ⊤ :=
    ((Finset.fold_max_lt _).mpr ⟨bot_lt_top, fun x _ => lt_top_iff_ne_top.mpr (h1 x)⟩).ne
  have hl : Finset.fold max (⊥ : EReal) f T ≠ ⊥ :=
    ((Finset.lt_fold_max _).mpr (.inr ⟨i, hi, bot_lt_iff_ne_bot.mpr h2⟩)).ne'
  exact ⟨_, (EReal.coe_toReal ht hl).symm⟩

end Cert.Dil

namespace Cert.Kernel2Ideal.Value
open Cert.Kernel2Ideal Cert.Kernel2Ideal.Gen Cert.Attn Cert.Dil

theorem mask_bot : Named.named (F := Ideal) κ (φ := .f32) "mask" 4048155338#32 = (⊥ : EReal) := by simp [Named.named, κ]

theorem pair_holds {x y : FVec Ideal S128x128 .bf16} {X Y : ℕ → ℕ → ℝ} (hx : @Holds 128 128 x X) (hy : @Holds 128 128 y Y) :
    @Holds 256 128 (k9_pay7 (F := Ideal) x y) (pair X Y) := by
  intro i j
  pointwise [k9_pay7]
  unfold pair
  split_ifs with h
  · exact hx ⟨i.val, h⟩ j
  · exact hy ⟨i.val - 128, by omega⟩ j
  · rename_i h'; exact absurd rfl h'

/-- The masked scores of a block. -/
theorem scores_holds {k : IVec S128x256 1} {q x y : FVec Ideal S128x128 .bf16} {Q X Y : ℕ → ℕ → ℝ} {w : ℕ → ℕ → Prop} [∀ a b, Decidable (w a b)]
    (hk : ∀ (i : Fin 128) (j : Fin 256), k (ix2 i j) = BitVec.ofBool (decide (w i.val j.val)))
    (hq : @Holds 128 128 q Q) (hx : @Holds 128 128 x X) (hy : @Holds 128 128 y Y) :
    Masked (m := 128) (n := 256) (k9_pay9 (F := Ideal) k x y q) w (scores Q (pair X Y)) := by
  intro i j
  have hp := pair_holds hx hy
  generalize e : k9_pay7 (F := Ideal) x y = p at hp
  unfold k9_pay9
  rw [e]
  pointwise
  rw [hk, WordCmp.select_ofBool, mask_bot, tau_real]
  simp only [hq.at, hp.at]
  rw [Finite.coe_dot, ← EReal.coe_mul]
  simp only [decide_eq_true_eq]
  rfl

/-- A block's row values, once for every column of the pair of blocks. -/
theorem tile_holds {x : FVec Ideal S128x128 .f32} {X : ℕ → ℕ → ℝ} (hx : @Holds 128 128 x X) :
    @Holds 128 256 (k9_pay10 (F := Ideal) x) (fun a b => X a (b % 128)) := by
  intro i j
  have hj := j.isLt
  pointwise [k9_pay10]
  split_ifs with h
  · exact (hx i ⟨j.val, h⟩).trans (by rw [Nat.mod_eq_of_lt h])
  · exact (hx i ⟨j.val - 128, by omega⟩).trans (by rw [show j.val % 128 = j.val - 128 by omega])
  · rename_i h'; exact absurd rfl h'

/-- The gradient of a block's queries. -/
theorem dq_holds {u z : FVec Ideal S256x128 .bf16} {s t : FVec Ideal S128x256 .f32} {g : FVec Ideal S128x128 .bf16} {d : FVec Ideal S128x128 .f32}
    {K V S M G D : ℕ → ℕ → ℝ} {w : ℕ → ℕ → Prop} [∀ a b, Decidable (w a b)]
    (hu : @Holds 256 128 u K) (hz : @Holds 256 128 z V) (hs : Masked (m := 128) (n := 256) s w S)
    (ht : @Holds 128 256 t M) (hg : @Holds 128 128 g G) (hd : @Holds 128 128 d D) :
    @Holds 128 128 (k9_pay11 (F := Ideal) u z s t g d)
      (fun a e => ∑ b : Fin 256, dsW (expW w S M) G V (fun a b => D a (b % 128)) a b * K b e) := by
  intro i j
  have hd' := tile_holds hd
  unfold k9_pay10 at hd'
  dsimp only at hd'
  unfold k9_pay11
  generalize hT : concatenate S128x256 1 _ _ = T at hd' ⊢
  pointwise
  simp only [hs _ _, ht _ _, hg _ _, hz _ _, hu _ _]
  simp only [exp_masked, tau_real, hd' _ _, ← EReal.coe_mul, Finite.coe_sum, ← EReal.coe_sub]
  rfl

/-- The row maxima of a block's masked scores. -/
def rowMax (p : FVec Ideal S128x256 .f32) : FVec Ideal S128 .f32 :=
  multiReduction .maximumf [1] S128 p 0xFF800000#32 reduces_S128x256_S128 (.inl rfl) rfl

/-- The row maximum of a block's masked scores is a real number where every row chooses a key. -/
theorem max_real {p : FVec Ideal S128x256 .f32} {S : ℕ → ℕ → ℝ} {w : ℕ → ℕ → Prop} [∀ a b, Decidable (w a b)]
    (hw : ∀ a < 128, ∃ b < 256, w a b) (hs : Masked (m := 128) (n := 256) p w S) :
    ∃ μ : ℕ → ℝ, ∀ a : Fin 128, rowMax p (ix1 a) = ((μ a.val : ℝ) : EReal) := by
  have h : ∀ a : Fin 128, ∃ r : ℝ, rowMax p (ix1 a) = (r : EReal) := fun a => by
    obtain ⟨b, hb, hab⟩ := hw a.val a.isLt
    obtain ⟨r, hr⟩ := fold_max_real Finset.univ (fun b : Fin 256 => p (ix2 a b)) (fun b => by rw [hs]; split <;> simp) ⟨b, hb⟩
      (Finset.mem_univ _) (by rw [hs, if_pos hab]; simp)
    refine ⟨r, Eq.trans ?_ hr⟩
    unfold rowMax
    pointwise
    rw [show Ideal.ofBits .f32 4286578688#32 = ⊥ by simp [Ideal.ofBits, Ideal.ieee]]
  choose r hr using h
  exact ⟨fun a => if h : a < 128 then r ⟨a, h⟩ else 0, fun i => by rw [hr]; simp⟩

/-- A sum over two blocks of keys. -/
theorem sum256 (f : ℕ → ℝ) : ∑ b : Fin 256, f b = ∑ x : Fin 128, f x + ∑ x : Fin 128, f (128 + x) := by
  rw [← Finset.sum_range f, show 256 = 128 + 128 from rfl, Finset.sum_range_add, Finset.sum_range f, Finset.sum_range fun x => f (128 + x)]

/-- The exponentials of a head's scores, taken from the row maximum, against the keys' values (columns below 128) and against ones. -/
theorem pv_holds {k : IVec S128x256 1} {q x y u v : FVec Ideal S128x128 .bf16} {S V0 V1 : ℕ → ℕ → ℝ} {μ : ℕ → ℝ}
    {w : ℕ → ℕ → Prop} [∀ a b, Decidable (w a b)]
    (hs : Masked (m := 128) (n := 256) (k2_pay22 (F := Ideal) k x y q) w S) (hu : Holds u V0) (hv : Holds v V1)
    (hμ : ∀ a : Fin 128, rowMax (k2_pay22 (F := Ideal) k x y q) (ix1 a) = ((μ a.val : ℝ) : EReal)) :
    @Holds 128 256 (k2_pay24 (F := Ideal) k (k2_pay8 (F := Ideal)) x y u v q)
      (fun a e => ∑ b : Fin 256, expW w S (fun a _ => μ a) a b * if e < 128 then pair V0 V1 b e else 1) := fun i j => by
  generalize e : k2_pay22 (F := Ideal) k x y q = p at hs hμ
  unfold k2_pay24 k2_pay23
  rw [e]
  have hM : ∀ a : Fin 128, multiReduction .maximumf [1] S128 p 0xFF800000#32 reduces_S128x256_S128 (.inl rfl) rfl (ix1 a) = ((μ a.val : ℝ) : EReal) := hμ
  generalize multiReduction .maximumf [1] S128 p 0xFF800000#32 reduces_S128x256_S128 (.inl rfl) rfl = M at hM
  pointwise [k2_pay8]
  rw [sum256 fun b => expW w S (fun a _ => μ a) i.val b * if j.val < 128 then pair V0 V1 b j.val else 1]
  by_cases h : j.val < 128
  · simp only [h, dif_pos, if_true, hs _ _, hM _, hu _ _, hv _ _]
    simp only [exp_masked, ← EReal.coe_mul, Finite.coe_sum, ← EReal.coe_add, expW, pair, show ∀ x : Fin 128, ¬ (128 + x.val < 128) from fun x => by omega, if_false, Fin.isLt, if_true, Nat.add_sub_cancel_left]
  · simp only [h, dite_false, if_false, hs _ _, hM _]
    simp only [exp_masked, mul_one, Finite.coe_sum, ← EReal.coe_add, expW]

/-- The same for a pair of blocks loaded as they are. -/
theorem vpair_holds {x y : FVec Ideal S128x128 .bf16} {X Y : ℕ → ℕ → ℝ} (hx : @Holds 128 128 x X) (hy : @Holds 128 128 y Y) :
    @Holds 256 128 (k8_pay50 (F := Ideal) x y) (pair X Y) := by
  intro i j
  pointwise [k8_pay50]
  unfold pair
  split_ifs with h
  · exact hx ⟨i.val, h⟩ j
  · exact hy ⟨i.val - 128, by omega⟩ j
  · rename_i h'; exact absurd rfl h'

/-- The same for a pair of blocks of row values. -/
theorem dpair_holds {x y : FVec Ideal S128x128 .f32} {X Y : ℕ → ℕ → ℝ} (hx : @Holds 128 128 x X) (hy : @Holds 128 128 y Y) :
    @Holds 256 128 (k8_pay51 (F := Ideal) x y) (pair X Y) := by
  intro i j
  pointwise [k8_pay51]
  unfold pair
  split_ifs with h
  · exact hx ⟨i.val, h⟩ j
  · exact hy ⟨i.val - 128, by omega⟩ j
  · rename_i h'; exact absurd rfl h'

theorem z_pos {w : ℕ → ℕ → Prop} [∀ a b, Decidable (w a b)] (S : ℕ → ℕ → ℝ) (hw : ∀ a < 128, ∃ b < 256, w a b) (a : ℕ) (ha : a < 128) :
    0 < zRow w S a := by
  obtain ⟨b, hb, hab⟩ := hw a ha
  exact ind_mul_exp_pos Finset.univ (fun b : Fin 256 => w a b) (fun b : Fin 256 => S a b) ⟨b, hb⟩ (Finset.mem_univ _) hab

theorem expW_eq (w : ℕ → ℕ → Prop) [∀ a b, Decidable (w a b)] (S : ℕ → ℕ → ℝ) (μ : ℕ → ℝ) (a b : ℕ) :
    expW w S (fun a _ => μ a) a b = ind (w a b) * Real.exp (S a b) * Real.exp (-μ a) := by
  rw [expW, sub_eq_add_neg, Real.exp_add, mul_assoc]

theorem expW_sum (w : ℕ → ℕ → Prop) [∀ a b, Decidable (w a b)] (S : ℕ → ℕ → ℝ) (μ : ℕ → ℝ) (a : ℕ) :
    ∑ b : Fin 256, expW w S (fun a _ => μ a) a b = zRow w S a * Real.exp (-μ a) := by
  simp only [expW_eq, zRow, Finset.sum_mul]

/-- A head's output, where every row chooses a key. -/
theorem o_holds {k : IVec S128x256 1} {q x y u v : FVec Ideal S128x128 .bf16} {S V0 V1 : ℕ → ℕ → ℝ}
    {w : ℕ → ℕ → Prop} [∀ a b, Decidable (w a b)] (hw : ∀ a < 128, ∃ b < 256, w a b)
    (hs : Masked (m := 128) (n := 256) (k2_pay22 (F := Ideal) k x y q) w S) (hu : Holds u V0) (hv : Holds v V1) :
    @Holds 128 128 (k2_pay26 (F := Ideal) k (k2_pay8 (F := Ideal)) x y u v q) (outRow w S (pair V0 V1)) := fun i j => by
  obtain ⟨μ, hμ⟩ := max_real hw hs
  have hP := pv_holds hs hu hv hμ
  generalize e : k2_pay24 (F := Ideal) k (k2_pay8 (F := Ideal)) x y u v q = P at hP
  unfold k2_pay26 k2_pay25
  rw [e]
  pointwise
  have hi := z_pos S hw i.val i.isLt
  simp only [hP _ _, show ¬ (128 + j.val < 128) by omega, if_false, mul_one, Fin.isLt, if_true, expW_sum]
  have h0 : zRow w S i.val * Real.exp (-μ i.val) ≠ 0 := (mul_pos hi (Real.exp_pos _)).ne'
  rw [Ideal.div_coe h0, ← EReal.coe_mul]
  refine congrArg _ ?_
  simp only [expW_eq, outRow, mul_right_comm _ (Real.exp _) (pair _ _ _ _), ← Finset.sum_mul]
  rw [mul_one_div, mul_div_mul_right _ _ (Real.exp_pos _).ne']

/-- A head's row log-sum, where every row chooses a key. -/
theorem lse_holds {k : IVec S128x256 1} {q x y u v : FVec Ideal S128x128 .bf16} {S V0 V1 : ℕ → ℕ → ℝ}
    {w : ℕ → ℕ → Prop} [∀ a b, Decidable (w a b)] (hw : ∀ a < 128, ∃ b < 256, w a b)
    (hs : Masked (m := 128) (n := 256) (k2_pay22 (F := Ideal) k x y q) w S) (hu : Holds u V0) (hv : Holds v V1) :
    @Holds 128 128 (k2_pay27 (F := Ideal) (k2_pay23 (F := Ideal) k x y q) (k2_pay25 (F := Ideal) k (k2_pay8 (F := Ideal)) x y u v q))
      (fun a _ => Real.log (zRow w S a)) := fun i j => by
  obtain ⟨μ, hμ⟩ := max_real hw hs
  have hP := pv_holds hs hu hv hμ
  generalize e : k2_pay24 (F := Ideal) k (k2_pay8 (F := Ideal)) x y u v q = P at hP
  generalize e' : k2_pay22 (F := Ideal) k x y q = p at hμ
  have hM : ∀ a : Fin 128, multiReduction .maximumf [1] S128 p 0xFF800000#32 reduces_S128x256_S128 (.inl rfl) rfl (ix1 a) = ((μ a.val : ℝ) : EReal) := hμ
  unfold k2_pay27 k2_pay25 k2_pay23
  rw [e, e']
  generalize multiReduction .maximumf [1] S128 p 0xFF800000#32 reduces_S128x256_S128 (.inl rfl) rfl = M at hM
  pointwise
  have hi := z_pos S hw i.val i.isLt
  simp only [hP _ _, hM _, show ¬ (128 + j.val < 128) by omega, if_false, mul_one, expW_sum]
  rw [Ideal.log_coe, if_neg (not_le.mpr (mul_pos hi (Real.exp_pos _))), ← EReal.coe_add, Real.log_mul hi.ne' (Real.exp_pos _).ne', Real.log_exp]
  exact congrArg _ (by ring)

/-- The weights of the queries of a pair of blocks. -/
theorem p_holds {k : IVec S256x128 1} {q0 q1 x : FVec Ideal S128x128 .bf16} {m0 m1 : FVec Ideal S128x128 .f32} {Q0 Q1 X M0 M1 : ℕ → ℕ → ℝ}
    {w : ℕ → ℕ → Prop} [∀ a b, Decidable (w a b)]
    (hk : ∀ (i : Fin 256) (j : Fin 128), k (ix2 i j) = BitVec.ofBool (decide (w i.val j.val)))
    (h0 : Holds q0 Q0) (h1 : Holds q1 Q1) (hx : Holds x X) (g0 : Holds m0 M0) (g1 : Holds m1 M1) :
    @Holds 256 128 (k8_pay52 (F := Ideal) k q0 q1 m0 m1 x) (expW w (scores (pair Q0 Q1) X) (pair M0 M1)) := by
  intro i j
  have hp := pair_holds h0 h1
  have hm := dpair_holds g0 g1
  generalize e : k9_pay7 (F := Ideal) q0 q1 = p at hp
  unfold k8_pay51 at hm
  dsimp only at hm
  unfold k8_pay52
  have e1 : k8_pay49 (F := Ideal) q0 q1 = p := e
  rw [e1]
  generalize concatenate S256x128 0 [⟨S128x128, shapeCast S128x128 m0 _⟩, _] _ = n at hm ⊢
  pointwise
  rw [hk, WordCmp.select_ofBool, mask_bot, tau_real]
  simp only [hm _ _, hp _ _, hx _ _]
  rw [Finite.coe_dot, ← EReal.coe_mul]
  simp only [decide_eq_true_eq]
  exact exp_masked _ _ _

/-- The gradient of a block's values. -/
theorem dv_holds {k : IVec S256x128 1} {q0 q1 x g0 g1 : FVec Ideal S128x128 .bf16} {m0 m1 : FVec Ideal S128x128 .f32} {G0 G1 P : ℕ → ℕ → ℝ}
    (hp : @Holds 256 128 (k8_pay52 (F := Ideal) k q0 q1 m0 m1 x) P) (h0 : Holds g0 G0) (h1 : Holds g1 G1) :
    @Holds 128 128 (k8_pay53 (F := Ideal) k q0 q1 g0 g1 m0 m1 x) (fun b e => ∑ a : Fin 256, P a b * pair G0 G1 a e) := by
  intro i j
  have hg := vpair_holds h0 h1
  generalize e : k8_pay50 (F := Ideal) g0 g1 = g at hg
  generalize e' : k8_pay52 (F := Ideal) k q0 q1 m0 m1 x = p at hp
  unfold k8_pay53
  rw [e', e]
  pointwise
  simp only [hg _ _, hp _ _]
  exact Finite.coe_dot _ _

/-- The gradient of a block's keys. -/
theorem dk_holds {q g : FVec Ideal S256x128 .bf16} {d p : FVec Ideal S256x128 .f32} {v : FVec Ideal S128x128 .bf16} {Q G D P V : ℕ → ℕ → ℝ}
    (hq : @Holds 256 128 q Q) (hg : @Holds 256 128 g G) (hd : @Holds 256 128 d D)
    (hp : @Holds 256 128 p P) (hv : @Holds 128 128 v V) :
    @Holds 128 128 (k8_pay1 (F := Ideal) q g d p v) (fun b e => ∑ a : Fin 256, dsW P G V D a b * Q a e) := by
  intro i j
  unfold k8_pay1
  pointwise
  simp only [hg _ _, hp _ _, hd _ _, hq _ _, hv _ _]
  simp only [tau_real, ← EReal.coe_mul, Finite.coe_sum, ← EReal.coe_sub]
  rfl

end Cert.Kernel2Ideal.Value
end
-- ==== Proof.Dil.Head.lean ====
/- A block of all eight heads of the dilated attention: what each of its calls leaves for a block of tokens of one residue
   class, over arrays of real numbers. -/
module

public import proofs.«01_k».proof.Proof.Dil.Block
public import proofs.«01_k».proof.Proof.Attn.Rot
public import proofs.«01_k».proof.Proof.Gen.Kernel2Ideal.Frame.Region2
public import proofs.«01_k».proof.Proof.Gen.Kernel2Ideal.Frame.Region3
public import proofs.«01_k».proof.Proof.Gen.Kernel2Ideal.Frame.Region4
public import proofs.«01_k».proof.Proof.Gen.Kernel2Ideal.Frame.Region7
public import proofs.«01_k».proof.Proof.Gen.Kernel2Ideal.Frame.Region8
public import proofs.«01_k».proof.Proof.Gen.Kernel2Ideal.Frame.Region9
public import proofs.«01_k».proof.Proof.Gen.Kernel2Ideal.Frame.Region10
public import proofs.«01_k».proof.Proof.Gen.Kernel2Ideal.Frame.Region11
public import proofs.«01_k».proof.Proof.Gen.Kernel2Ideal.Frame.Region12

@[expose] public section

set_option maxRecDepth 65536

noncomputable section

open Idealize.ShloMosaic Idealize.ShloMosaic.TcCoe Idealize.SL.Sem

namespace Cert.Dil
open Cert.Attn

/-- Whether a query sees a key of the block before its own (below 128) or of its own. -/
def seen (first : Prop) (a b : ℕ) : Prop := (b < 128 ∧ a ≤ b) ∧ ¬ first ∨ 128 ≤ b ∧ b - 128 ≤ a
instance (first : Prop) [Decidable first] (a b : ℕ) : Decidable (seen first a b) := by unfold seen; infer_instance

/-- Whether a query of a key's own block (below 128) or of the next one sees the key. -/
def seenBy (last : Prop) (a b : ℕ) : Prop := a < 128 ∧ b ≤ a ∨ (128 ≤ a ∧ a - 128 ≤ b) ∧ ¬ last
instance (last : Prop) [Decidable last] (a b : ℕ) : Decidable (seenBy last a b) := by unfold seenBy; infer_instance

/-- One head's columns of a block. -/
def hd (A : ℕ → ℕ → ℝ) (h : ℕ) : ℕ → ℕ → ℝ := fun i j => A (0 + i) (128 * h + j)

/-- A block put together from its heads. -/
def byHead (F : ℕ → ℕ → ℕ → ℝ) (i j : ℕ) : ℝ := F (j / 128) i (j % 128)

section
variable (w : ℕ → ℕ → Prop) [∀ a b, Decidable (w a b)]

/-- A head's gradient of a block of queries. -/
def dqOf (q k0 k1 v0 v1 g m d : ℕ → ℕ → ℝ) (a e : ℕ) : ℝ :=
  ∑ b : Fin 256, dsW (expW w (scores q (pair k0 k1)) (fun a b => m a (b % 128))) g (pair v0 v1) (fun a b => d a (b % 128)) a b * pair k0 k1 b e

/-- A head's gradient of a block of values. -/
def dvOf (q0 q1 g0 g1 m0 m1 k : ℕ → ℕ → ℝ) (b e : ℕ) : ℝ :=
  ∑ a : Fin 256, expW w (scores (pair q0 q1) k) (pair m0 m1) a b * pair g0 g1 a e

/-- A head's gradient of a block of keys. -/
def dkOf (q0 q1 g0 g1 m0 m1 d0 d1 k v : ℕ → ℕ → ℝ) (b e : ℕ) : ℝ :=
  ∑ a : Fin 256, dsW (expW w (scores (pair q0 q1) k) (pair m0 m1)) (pair g0 g1) v (pair d0 d1) a b * pair q0 q1 a e
end

end Cert.Dil

namespace Cert.Kernel2Ideal.Value
open Cert.Kernel2Ideal Cert.Kernel2Ideal.Gen Cert.Attn Cert.Dil

/-- One head's columns of a block of numbers. -/
theorem _root_.Cert.Attn.Holds.head {X : (⟨2, ![128, 1024]⟩ : Shape).Idx → EReal} {A : ℕ → ℕ → ℝ} (h : @Holds 128 1024 X A) (b : ℕ)
    (hb : ∀ j, (![0, b] : Fin 2 → ℕ) j + ![128, 128] j ≤ ![128, 1024] j := by decide) :
    @Holds 128 128 (fun x => X ((Rect.unit (s := ⟨2, ![128, 1024]⟩) ![0, b] ![128, 128] hb).idx x)) (fun i j => A (0 + i) (b + j)) :=
  h.window 0 b hb rfl

theorem seen_word (n a b : ℕ) (hn : n < 64) (ha : a < 128) (hb : b < 256) :
    IntOp.ori (IntOp.andi (IntOp.andi (IntOp.cmpi .slt (BitVec.ofNat 32 b) 128#32) (IntOp.cmpi .sge (BitVec.ofNat 32 b) (BitVec.ofNat 32 a)))
          (Scalar.xori (Scalar.cmpi .eq (BitVec.ofNat 32 n) 0#32) 1#1))
        (IntOp.andi (IntOp.cmpi .sge (BitVec.ofNat 32 b) 128#32) (IntOp.cmpi .sle (IntOp.subi (BitVec.ofNat 32 b) 128#32) (BitVec.ofNat 32 a)))
      = BitVec.ofBool (decide (seen (n = 0) a b)) := by
  rw [WordCmp.cmpi_slt_ofNat (by omega) (by omega), WordCmp.cmpi_sge_ofNat (by omega) (by omega), WordCmp.cmpi_sge_ofNat (by omega) (by omega)]
  rw [show Scalar.cmpi .eq (BitVec.ofNat 32 n) 0#32 = _ from WordCmp.cmpi_eq_ofNat (a := n) (b := 0) (by omega) (by omega), show (1#1) = BitVec.ofBool true from rfl]
  rw [show Scalar.xori (BitVec.ofBool (decide (n = 0))) (BitVec.ofBool true) = BitVec.ofBool (decide (n = 0) ^^ true) from WordCmp.xori_ofBool _ _]
  rw [WordCmp.andi_ofBool, WordCmp.andi_ofBool]
  by_cases h : 128 ≤ b
  · rw [show IntOp.subi (BitVec.ofNat 32 b) 128#32 = BitVec.ofNat 32 (b - 128) by simp [IntOp.subi, ← BitVec.ofNat_sub_ofNat_of_le, h], WordCmp.cmpi_sle_ofNat (by omega) (by omega), WordCmp.andi_ofBool, WordCmp.ori_ofBool]
    congr 1
    simp [seen, h, show ¬ b < 128 by omega]
  · have : IntOp.andi (BitVec.ofBool (decide (128 ≤ b))) (IntOp.cmpi .sle (IntOp.subi (BitVec.ofNat 32 b) 128#32) (BitVec.ofNat 32 a)) = BitVec.ofBool false := by
      simp [IntOp.andi, h]
    rw [this, WordCmp.ori_ofBool]
    congr 1
    simp [seen, h, show b < 128 by omega]

theorem seenBy_word (n l a b : ℕ) (hn : n < 64) (hl : l < 64) (ha : a < 256) (hb : b < 128) :
    IntOp.ori (IntOp.andi (IntOp.cmpi .slt (BitVec.ofNat 32 a) 128#32) (IntOp.cmpi .sle (BitVec.ofNat 32 b) (BitVec.ofNat 32 a)))
        (IntOp.andi (IntOp.andi (IntOp.cmpi .sge (BitVec.ofNat 32 a) 128#32) (IntOp.cmpi .sge (BitVec.ofNat 32 b) (IntOp.subi (BitVec.ofNat 32 a) 128#32)))
          (Scalar.xori (Scalar.cmpi .eq (BitVec.ofNat 32 n) (BitVec.ofNat 32 l)) 1#1))
      = BitVec.ofBool (decide (seenBy (n = l) a b)) := by
  rw [WordCmp.cmpi_slt_ofNat (by omega) (by omega), WordCmp.cmpi_sle_ofNat (by omega) (by omega), WordCmp.cmpi_sge_ofNat (a := a) (b := 128) (by omega) (by omega)]
  rw [show Scalar.cmpi .eq (BitVec.ofNat 32 n) (BitVec.ofNat 32 l) = _ from WordCmp.cmpi_eq_ofNat (a := n) (b := l) (by omega) (by omega), show (1#1) = BitVec.ofBool true from rfl]
  rw [show Scalar.xori (BitVec.ofBool (decide (n = l))) (BitVec.ofBool true) = BitVec.ofBool (decide (n = l) ^^ true) from WordCmp.xori_ofBool _ _]
  rw [WordCmp.andi_ofBool]
  by_cases h : 128 ≤ a
  · rw [show IntOp.subi (BitVec.ofNat 32 a) 128#32 = BitVec.ofNat 32 (a - 128) by simp [IntOp.subi, ← BitVec.ofNat_sub_ofNat_of_le, h], WordCmp.cmpi_sge_ofNat (by omega) (by omega), WordCmp.andi_ofBool, WordCmp.andi_ofBool, WordCmp.ori_ofBool]
    congr 1
    simp [seenBy, h, show ¬ a < 128 by omega]
  · have : IntOp.andi (BitVec.ofBool (decide (128 ≤ a))) (IntOp.cmpi .sge (BitVec.ofNat 32 b) (IntOp.subi (BitVec.ofNat 32 a) 128#32)) = BitVec.ofBool false := by
      simp [IntOp.andi, h]
    rw [this, WordCmp.andi_ofBool, WordCmp.ori_ofBool]
    congr 1
    simp [seenBy, h, show a < 128 by omega]

theorem seen_holds2 (i : grid2.Coords) (a : Fin 128) (b : Fin 256) :
    k2_pay7 i (ix2 a b) = BitVec.ofBool (decide (seen ((i 1).val = 0) a.val b.val)) := by
  have h := (i 1).isLt
  pointwise [k2_pay7]
  exact seen_word _ _ _ (lt_of_lt_of_le h (by decide)) a.isLt b.isLt

theorem seen_holds3 (i : grid3.Coords) (a : Fin 128) (b : Fin 256) :
    k3_pay1 i (ix2 a b) = BitVec.ofBool (decide (seen ((i 1).val = 0) a.val b.val)) := by
  have h := (i 1).isLt
  pointwise [k3_pay1]
  exact seen_word _ _ _ (lt_of_lt_of_le h (by decide)) a.isLt b.isLt

theorem seen_holds4 (i : grid4.Coords) (a : Fin 128) (b : Fin 256) :
    k4_pay1 i (ix2 a b) = BitVec.ofBool (decide (seen ((i 1).val = 0) a.val b.val)) := by
  have h := (i 1).isLt
  pointwise [k4_pay1]
  exact seen_word _ _ _ (lt_of_lt_of_le h (by decide)) a.isLt b.isLt

theorem seen_holds7 (i : grid7.Coords) (a : Fin 128) (b : Fin 256) :
    k7_pay2 i (ix2 a b) = BitVec.ofBool (decide (seen ((i 1).val = 0) a.val b.val)) := by
  have h := (i 1).isLt
  pointwise [k7_pay2]
  exact seen_word _ _ _ (lt_of_lt_of_le h (by decide)) a.isLt b.isLt

theorem seen_holds9 (i : grid9.Coords) (a : Fin 128) (b : Fin 256) :
    k9_pay2 i (ix2 a b) = BitVec.ofBool (decide (seen ((i 1).val = 0) a.val b.val)) := by
  have h := (i 1).isLt
  pointwise [k9_pay2]
  exact seen_word _ _ _ (lt_of_lt_of_le h (by decide)) a.isLt b.isLt

theorem seen_holds11 (i : grid11.Coords) (a : Fin 128) (b : Fin 256) :
    k11_pay2 i (ix2 a b) = BitVec.ofBool (decide (seen ((i 1).val = 0) a.val b.val)) := by
  have h := (i 1).isLt
  pointwise [k11_pay2]
  exact seen_word _ _ _ (lt_of_lt_of_le h (by decide)) a.isLt b.isLt

theorem seenBy_holds8 (i : grid8.Coords) (a : Fin 256) (b : Fin 128) :
    k8_pay2 i (ix2 a b) = BitVec.ofBool (decide (seenBy ((i 1).val = 63) a.val b.val)) := by
  have h := (i 1).isLt
  pointwise [k8_pay2]
  exact seenBy_word _ 63 _ _ (lt_of_lt_of_le h (by decide)) (by omega) a.isLt b.isLt

theorem seenBy_holds10 (i : grid10.Coords) (a : Fin 256) (b : Fin 128) :
    k10_pay4 i (ix2 a b) = BitVec.ofBool (decide (seenBy ((i 1).val = 15) a.val b.val)) := by
  have h := (i 1).isLt
  pointwise [k10_pay4]
  exact seenBy_word _ 15 _ _ (lt_of_lt_of_le h (by decide)) (by omega) a.isLt b.isLt

theorem seenBy_holds12 (i : grid12.Coords) (a : Fin 256) (b : Fin 128) :
    k12_pay4 i (ix2 a b) = BitVec.ofBool (decide (seenBy ((i 1).val = 3) a.val b.val)) := by
  have h := (i 1).isLt
  pointwise [k12_pay4]
  exact seenBy_word _ 3 _ _ (lt_of_lt_of_le h (by decide)) (by omega) a.isLt b.isLt

theorem cast_holds {x : FVec Ideal S128x128 .bf16} {X : ℕ → ℕ → ℝ} (h : @Holds 128 128 x X) :
    @Holds 128 128 (shapeCast S128x128 x shapeCasts_S128x128_S128x128) X := by rw [shapeCast_self]; exact h

section
variable {F : ℕ → ℕ → ℕ → ℝ}

theorem head_at (h : ℕ) {v : (⟨2, ![128, 128]⟩ : Shape).Idx → EReal} (hv : Holds v (F h)) (i j : Fin 128) :
    v (ix2 i j) = ((byHead F (0 + i.val) (128 * h + j.val) : ℝ) : EReal) := by
  have hj := j.isLt
  rw [hv i j, byHead, show (128 * h + j.val) / 128 = h by omega, show (128 * h + j.val) % 128 = j.val by omega, Nat.zero_add]

/-- What eight stores, one for each head, leave in a block. -/
theorem eight {v0 v1 v2 v3 v4 v5 v6 v7 : Vec Ideal S128x128 .bf16} (h7 : @Holds 128 128 v7 (F 7)) (h6 : @Holds 128 128 v6 (F 6))
    (h5 : @Holds 128 128 v5 (F 5)) (h4 : @Holds 128 128 v4 (F 4)) (h3 : @Holds 128 128 v3 (F 3)) (h2 : @Holds 128 128 v2 (F 2))
    (h1 : @Holds 128 128 v1 (F 1)) (h0 : @Holds 128 128 v0 (F 0)) :
    @Holds 128 1024 (View.canon ([⟨r9_7, v7⟩, ⟨r9_6, v6⟩, ⟨r9_5, v5⟩, ⟨r9_4, v4⟩, ⟨r9_3, v3⟩, ⟨r9_2, v2⟩, ⟨r9_1, v1⟩, ⟨r9_0, v0⟩] : List (View.Piece (Elt Ideal) S128x1024 .bf16))) (byHead F) := by
  refine Holds.of fun y => View.canon_eq_of_allAt _ y _ (cover9_8 _ _ _ _ _ _ _ _ y) ?_
  let g : ℕ → ℕ → Elt Ideal .bf16 := fun i j => ((byHead F i j : ℝ) : EReal)
  exact pieces_cons g 0 896 _ rfl _ (head_at 7 h7) (pieces_cons g 0 768 _ rfl _ (head_at 6 h6) (pieces_cons g 0 640 _ rfl _ (head_at 5 h5)
    (pieces_cons g 0 512 _ rfl _ (head_at 4 h4) (pieces_cons g 0 384 _ rfl _ (head_at 3 h3) (pieces_cons g 0 256 _ rfl _ (head_at 2 h2)
    (pieces_cons g 0 128 _ rfl _ (head_at 1 h1) (pieces_cons g 0 0 _ rfl _ (head_at 0 h0) (fun y => View.allAt_nil y _)))))))) y

/-- The same for eight stores of row values. -/
theorem eight_rows {v0 v1 v2 v3 v4 v5 v6 v7 : Vec Ideal S128x128 .f32} (h7 : @Holds 128 128 v7 (F 7)) (h6 : @Holds 128 128 v6 (F 6))
    (h5 : @Holds 128 128 v5 (F 5)) (h4 : @Holds 128 128 v4 (F 4)) (h3 : @Holds 128 128 v3 (F 3)) (h2 : @Holds 128 128 v2 (F 2))
    (h1 : @Holds 128 128 v1 (F 1)) (h0 : @Holds 128 128 v0 (F 0)) :
    @Holds 128 1024 (View.canon ([⟨r2_7, v7⟩, ⟨r2_6, v6⟩, ⟨r2_5, v5⟩, ⟨r2_4, v4⟩, ⟨r2_3, v3⟩, ⟨r2_2, v2⟩, ⟨r2_1, v1⟩, ⟨r2_0, v0⟩] : List (View.Piece (Elt Ideal) S128x1024 .f32))) (byHead F) := by
  refine Holds.of fun y => View.canon_eq_of_allAt _ y _ (cover2_6 _ _ _ _ _ _ _ _ y) ?_
  let g : ℕ → ℕ → Elt Ideal .f32 := fun i j => ((byHead F i j : ℝ) : EReal)
  exact pieces_cons g 0 896 _ rfl _ (head_at 7 h7) (pieces_cons g 0 768 _ rfl _ (head_at 6 h6) (pieces_cons g 0 640 _ rfl _ (head_at 5 h5)
    (pieces_cons g 0 512 _ rfl _ (head_at 4 h4) (pieces_cons g 0 384 _ rfl _ (head_at 3 h3) (pieces_cons g 0 256 _ rfl _ (head_at 2 h2)
    (pieces_cons g 0 128 _ rfl _ (head_at 1 h1) (pieces_cons g 0 0 _ rfl _ (head_at 0 h0) (fun y => View.allAt_nil y _)))))))) y
end

section
variable {w : ℕ → ℕ → Prop} [∀ a b, Decidable (w a b)] {q k0 k1 v0 v1 g q0 q1 g0 g1 x v : FVec Ideal S128x128 .bf16} {m d m0 m1 d0 d1 : FVec Ideal S128x128 .f32}
  {Q K0 K1 V0 V1 G Q0 Q1 G0 G1 X V M D M0 M1 D0 D1 : ℕ → ℕ → ℝ}

/-- A head's gradient of a block of queries. -/
theorem dq_head {c : IVec S128x256 1} (hc : ∀ (i : Fin 128) (j : Fin 256), c (ix2 i j) = BitVec.ofBool (decide (w i.val j.val)))
    (hq : Holds q Q) (h0 : Holds k0 K0) (h1 : Holds k1 K1) (hv0 : Holds v0 V0) (hv1 : Holds v1 V1) (hg : Holds g G) (hm : Holds m M) (hd : Holds d D) :
    @Holds 128 128 (k9_pay11 (F := Ideal) (k9_pay7 k0 k1) (k8_pay50 v0 v1) (k9_pay9 c k0 k1 q) (k9_pay10 m) g d) (dqOf w Q K0 K1 V0 V1 G M D) :=
  dq_holds (pair_holds h0 h1) (vpair_holds hv0 hv1) (scores_holds hc hq h0 h1) (tile_holds hm) hg hd

/-- A head's gradient of a block of values. -/
theorem dv_head {c : IVec S256x128 1} (hc : ∀ (i : Fin 256) (j : Fin 128), c (ix2 i j) = BitVec.ofBool (decide (w i.val j.val)))
    (h0 : Holds q0 Q0) (h1 : Holds q1 Q1) (hg0 : Holds g0 G0) (hg1 : Holds g1 G1) (hm0 : Holds m0 M0) (hm1 : Holds m1 M1) (hx : Holds x X) :
    @Holds 128 128 (k8_pay53 (F := Ideal) c q0 q1 g0 g1 m0 m1 x) (dvOf w Q0 Q1 G0 G1 M0 M1 X) :=
  dv_holds (p_holds hc h0 h1 hx hm0 hm1) hg0 hg1

/-- A head's gradient of a block of keys. -/
theorem dk_head {c : IVec S256x128 1} (hc : ∀ (i : Fin 256) (j : Fin 128), c (ix2 i j) = BitVec.ofBool (decide (w i.val j.val)))
    (h0 : Holds q0 Q0) (h1 : Holds q1 Q1) (hg0 : Holds g0 G0) (hg1 : Holds g1 G1) (hm0 : Holds m0 M0) (hm1 : Holds m1 M1) (hd0 : Holds d0 D0) (hd1 : Holds d1 D1)
    (hx : Holds x X) (hv : Holds v V) :
    @Holds 128 128 (k8_pay1 (F := Ideal) (k8_pay49 q0 q1) (k8_pay50 g0 g1) (k8_pay51 d0 d1) (k8_pay52 c q0 q1 m0 m1 x) v) (dkOf w Q0 Q1 G0 G1 M0 M1 D0 D1 X V) :=
  dk_holds (pair_holds h0 h1) (vpair_holds hg0 hg1) (dpair_holds hd0 hd1) (p_holds hc h0 h1 hx hm0 hm1) hv

/-- A head's output of a block of queries. -/
theorem o_head {c : IVec S128x256 1} (hc : ∀ (i : Fin 128) (j : Fin 256), c (ix2 i j) = BitVec.ofBool (decide (w i.val j.val))) (hw : ∀ a < 128, ∃ b < 256, w a b)
    (hq : Holds q Q) (h0 : Holds k0 K0) (h1 : Holds k1 K1) (hv0 : Holds v0 V0) (hv1 : Holds v1 V1) :
    @Holds 128 128 (k2_pay26 (F := Ideal) c (k2_pay8 (F := Ideal)) k0 k1 v0 v1 q) (outRow w (scores Q (pair K0 K1)) (pair V0 V1)) :=
  o_holds hw (scores_holds hc hq h0 h1) hv0 hv1

/-- A head's log-denominators of a block of queries. -/
theorem lse_head {c : IVec S128x256 1} (hc : ∀ (i : Fin 128) (j : Fin 256), c (ix2 i j) = BitVec.ofBool (decide (w i.val j.val))) (hw : ∀ a < 128, ∃ b < 256, w a b)
    (hq : Holds q Q) (h0 : Holds k0 K0) (h1 : Holds k1 K1) (hv0 : Holds v0 V0) (hv1 : Holds v1 V1) :
    @Holds 128 128 (k2_pay27 (F := Ideal) (k2_pay23 (F := Ideal) c k0 k1 q) (k2_pay25 (F := Ideal) c (k2_pay8 (F := Ideal)) k0 k1 v0 v1 q))
      (fun a _ => Real.log (zRow w (scores Q (pair K0 K1)) a)) :=
  lse_holds hw (scores_holds hc hq h0 h1) hv0 hv1
/-- The key of a head's first block arrives already in its shape: the output is the same. -/
theorem o_head5 {c : IVec S128x256 1} (hc : ∀ (i : Fin 128) (j : Fin 256), c (ix2 i j) = BitVec.ofBool (decide (w i.val j.val))) (hw : ∀ a < 128, ∃ b < 256, w a b)
    (hq : Holds q Q) (h0 : Holds k0 K0) (h1 : Holds k1 K1) (hv0 : Holds v0 V0) (hv1 : Holds v1 V1) :
    @Holds 128 128 (k2_pay45 (F := Ideal) c (k2_pay8 (F := Ideal)) (k2_pay40 (F := Ideal) k0) k1 v0 v1 q) (outRow w (scores Q (pair K0 K1)) (pair V0 V1)) := by
  have h := o_head hc hw hq h0 h1 hv0 hv1
  unfold k2_pay26 k2_pay25 k2_pay24 k2_pay23 k2_pay22 at h
  unfold k2_pay45 k2_pay44 k2_pay43 k2_pay42 k2_pay41 k2_pay40
  exact h

/-- The same of its log-denominators. -/
theorem lse_head5 {c : IVec S128x256 1} (hc : ∀ (i : Fin 128) (j : Fin 256), c (ix2 i j) = BitVec.ofBool (decide (w i.val j.val))) (hw : ∀ a < 128, ∃ b < 256, w a b)
    (hq : Holds q Q) (h0 : Holds k0 K0) (h1 : Holds k1 K1) (hv0 : Holds v0 V0) (hv1 : Holds v1 V1) :
    @Holds 128 128 (k2_pay46 (F := Ideal) c (k2_pay8 (F := Ideal)) (k2_pay40 (F := Ideal) k0) k1 v0 v1 q)
      (fun a _ => Real.log (zRow w (scores Q (pair K0 K1)) a)) := by
  have h := lse_head hc hw hq h0 h1 hv0 hv1
  unfold k2_pay27 k2_pay25 k2_pay24 k2_pay23 k2_pay22 at h
  unfold k2_pay46 k2_pay44 k2_pay43 k2_pay42 k2_pay41 k2_pay40
  exact h

/-- The gradient of a block of queries where the cotangent is used as it arrives. -/
theorem dq_head7 {c : IVec S128x256 1} (hc : ∀ (i : Fin 128) (j : Fin 256), c (ix2 i j) = BitVec.ofBool (decide (w i.val j.val)))
    (hq : Holds q Q) (h0 : Holds k0 K0) (h1 : Holds k1 K1) (hv0 : Holds v0 V0) (hv1 : Holds v1 V1) (hg : Holds g G) (hm : Holds m M) (hd : Holds d D) :
    @Holds 128 128 (k7_pay1 (F := Ideal) (k7_pay31 k0 k1) (k7_pay32 c k0 k1 v0 v1 q m g d)) (dqOf w Q K0 K1 V0 V1 G M D) := by
  have h := dq_head hc hq h0 h1 hv0 hv1 hg hm hd
  unfold k9_pay11 k9_pay7 k8_pay50 k9_pay9 k9_pay10 at h
  rw [shapeCast_self g] at h
  unfold k7_pay1 k7_pay32 k7_pay31
  exact h

/-- The gradient of a block of values where the first block of denominators arrives already in its shape. -/
theorem dv_head1 {c : IVec S256x128 1} (hc : ∀ (i : Fin 256) (j : Fin 128), c (ix2 i j) = BitVec.ofBool (decide (w i.val j.val)))
    (h0 : Holds q0 Q0) (h1 : Holds q1 Q1) (hg0 : Holds g0 G0) (hg1 : Holds g1 G1) (hm0 : Holds m0 M0) (hm1 : Holds m1 M1) (hx : Holds x X) :
    @Holds 128 128 (k8_pay14 (F := Ideal) c (k8_pay10 q0 q1) (k8_pay11 g0 g1) (k8_pay12 (F := Ideal) m0) m1 x) (dvOf w Q0 Q1 G0 G1 M0 M1 X) := by
  have h := dv_head hc h0 h1 hg0 hg1 hm0 hm1 hx
  unfold k8_pay53 k8_pay52 k8_pay50 k8_pay49 at h
  unfold k8_pay14 k8_pay13 k8_pay12 k8_pay11 k8_pay10
  exact h

/-- The same of a block of keys. -/
theorem dk_head1 {c : IVec S256x128 1} (hc : ∀ (i : Fin 256) (j : Fin 128), c (ix2 i j) = BitVec.ofBool (decide (w i.val j.val)))
    (h0 : Holds q0 Q0) (h1 : Holds q1 Q1) (hg0 : Holds g0 G0) (hg1 : Holds g1 G1) (hm0 : Holds m0 M0) (hm1 : Holds m1 M1) (hd0 : Holds d0 D0) (hd1 : Holds d1 D1)
    (hx : Holds x X) (hv : Holds v V) :
    @Holds 128 128 (k8_pay15 (F := Ideal) c (k8_pay10 q0 q1) (k8_pay11 g0 g1) (k8_pay12 (F := Ideal) m0) m1 d0 d1 x v) (dkOf w Q0 Q1 G0 G1 M0 M1 D0 D1 X V) := by
  have h := dk_head hc h0 h1 hg0 hg1 hm0 hm1 hd0 hd1 hx hv
  unfold k8_pay1 k8_pay52 k8_pay51 k8_pay50 k8_pay49 at h
  unfold k8_pay15 k8_pay13 k8_pay12 k8_pay11 k8_pay10
  exact h

/-- The gradient of a block of values where the queries arrive already in their shape. -/
theorem dv_head2 {c : IVec S256x128 1} (hc : ∀ (i : Fin 256) (j : Fin 128), c (ix2 i j) = BitVec.ofBool (decide (w i.val j.val)))
    (h0 : Holds q0 Q0) (h1 : Holds q1 Q1) (hg0 : Holds g0 G0) (hg1 : Holds g1 G1) (hm0 : Holds m0 M0) (hm1 : Holds m1 M1) (hx : Holds x X) :
    @Holds 128 128 (k8_pay21 (F := Ideal) c (k8_pay16 q0) (k8_pay17 q1) g0 g1 m0 m1 x) (dvOf w Q0 Q1 G0 G1 M0 M1 X) := by
  have h := dv_head hc h0 h1 hg0 hg1 hm0 hm1 hx
  unfold k8_pay53 k8_pay52 k8_pay50 k8_pay49 at h
  unfold k8_pay21 k8_pay20 k8_pay19 k8_pay18 k8_pay17 k8_pay16
  exact h

/-- The same of a block of keys. -/
theorem dk_head2 {c : IVec S256x128 1} (hc : ∀ (i : Fin 256) (j : Fin 128), c (ix2 i j) = BitVec.ofBool (decide (w i.val j.val)))
    (h0 : Holds q0 Q0) (h1 : Holds q1 Q1) (hg0 : Holds g0 G0) (hg1 : Holds g1 G1) (hm0 : Holds m0 M0) (hm1 : Holds m1 M1) (hd0 : Holds d0 D0) (hd1 : Holds d1 D1)
    (hx : Holds x X) (hv : Holds v V) :
    @Holds 128 128 (k8_pay23 (F := Ideal) (k8_pay18 (k8_pay16 q0) (k8_pay17 q1)) (k8_pay22 c (k8_pay16 q0) (k8_pay17 q1) g0 g1 m0 m1 d0 d1 x v)
      (constant S128x128 .f32 0x00000000#32)) (dkOf w Q0 Q1 G0 G1 M0 M1 D0 D1 X V) := by
  have h := dk_head hc h0 h1 hg0 hg1 hm0 hm1 hd0 hd1 hx hv
  unfold k8_pay1 k8_pay52 k8_pay51 k8_pay50 k8_pay49 at h
  unfold k8_pay23 k8_pay22 k8_pay20 k8_pay19 k8_pay18 k8_pay17 k8_pay16
  exact h
end

theorem seen_some (first : Prop) : ∀ a < 128, ∃ b < 256, seen first a b := fun a ha => ⟨128 + a, by omega, .inr ⟨by omega, by omega⟩⟩

section
variable {x0 x1 x2 x3 x4 x5 : FVec Ideal S128x1024 .bf16} {y0 y1 y2 y3 : FVec Ideal S128x1024 .f32} {X0 X1 X2 X3 X4 X5 Y0 Y1 Y2 Y3 : ℕ → ℕ → ℝ}
  (h0 : @Holds 128 1024 x0 X0) (h1 : @Holds 128 1024 x1 X1) (h2 : @Holds 128 1024 x2 X2) (h3 : @Holds 128 1024 x3 X3)
  (h4 : @Holds 128 1024 x4 X4) (h5 : @Holds 128 1024 x5 X5)
  (g0 : @Holds 128 1024 y0 Y0) (g1 : @Holds 128 1024 y1 Y1) (g2 : @Holds 128 1024 y2 Y2) (g3 : @Holds 128 1024 y3 Y3)

include h0 h1 h2 h3 h4 in
/-- The output the forward call at dilation 1 leaves in a block. -/
theorem out2_o (i : grid2.Coords) : @Holds 128 1024 (out2_5 (F := Ideal) i x0 x1 x2 x3 x4)
    (byHead fun h => outRow (seen ((i 1).val = 0)) (scores (hd X0 h) (pair (hd X1 h) (hd X2 h))) (pair (hd X3 h) (hd X4 h))) := by
  have hc : ∀ (a : Fin 128) (b : Fin 256), k2_pay7 i (ix2 a b) = _ := seen_holds2 i
  have hw := seen_some ((i 1).val = 0)
  exact eight (F := fun h => outRow (seen ((i 1).val = 0)) (scores (hd X0 h) (pair (hd X1 h) (hd X2 h))) (pair (hd X3 h) (hd X4 h)))
    (o_head hc hw (h0.head 896) (h1.head 896) (h2.head 896) (h3.head 896) (h4.head 896))
    (o_head hc hw (h0.head 768) (h1.head 768) (h2.head 768) (h3.head 768) (h4.head 768))
    (o_head5 hc hw (h0.head 640) (h1.head 640) (h2.head 640) (h3.head 640) (h4.head 640))
    (o_head hc hw (h0.head 512) (h1.head 512) (h2.head 512) (h3.head 512) (h4.head 512))
    (o_head hc hw (h0.head 384) (h1.head 384) (h2.head 384) (h3.head 384) (h4.head 384))
    (o_head hc hw (h0.head 256) (h1.head 256) (h2.head 256) (h3.head 256) (h4.head 256))
    (o_head hc hw (h0.head 128) (h1.head 128) (h2.head 128) (h3.head 128) (h4.head 128))
    (o_head hc hw (h0.head 0) (h1.head 0) (h2.head 0) (h3.head 0) (h4.head 0))

include h0 h1 h2 h3 h4 in
/-- The log-denominators the forward call at dilation 1 leaves in a block. -/
theorem out2_lse (i : grid2.Coords) : @Holds 128 1024 (out2_6 (F := Ideal) i x0 x1 x2 x3 x4)
    (byHead fun h => fun a _ => Real.log (zRow (seen ((i 1).val = 0)) (scores (hd X0 h) (pair (hd X1 h) (hd X2 h))) a)) := by
  have hc : ∀ (a : Fin 128) (b : Fin 256), k2_pay7 i (ix2 a b) = _ := seen_holds2 i
  have hw := seen_some ((i 1).val = 0)
  exact eight_rows (F := fun h => fun a _ => Real.log (zRow (seen ((i 1).val = 0)) (scores (hd X0 h) (pair (hd X1 h) (hd X2 h))) a))
    (lse_head hc hw (h0.head 896) (h1.head 896) (h2.head 896) (h3.head 896) (h4.head 896))
    (lse_head hc hw (h0.head 768) (h1.head 768) (h2.head 768) (h3.head 768) (h4.head 768))
    (lse_head5 hc hw (h0.head 640) (h1.head 640) (h2.head 640) (h3.head 640) (h4.head 640))
    (lse_head hc hw (h0.head 512) (h1.head 512) (h2.head 512) (h3.head 512) (h4.head 512))
    (lse_head hc hw (h0.head 384) (h1.head 384) (h2.head 384) (h3.head 384) (h4.head 384))
    (lse_head hc hw (h0.head 256) (h1.head 256) (h2.head 256) (h3.head 256) (h4.head 256))
    (lse_head hc hw (h0.head 128) (h1.head 128) (h2.head 128) (h3.head 128) (h4.head 128))
    (lse_head hc hw (h0.head 0) (h1.head 0) (h2.head 0) (h3.head 0) (h4.head 0))

include h0 h1 h2 h3 h4 in
/-- The output the forward call at dilation 4 leaves in a block. -/
theorem out3_o (i : grid3.Coords) : @Holds 128 1024 (out3_5 (F := Ideal) i x0 x1 x2 x3 x4)
    (byHead fun h => outRow (seen ((i 1).val = 0)) (scores (hd X0 h) (pair (hd X1 h) (hd X2 h))) (pair (hd X3 h) (hd X4 h))) := by
  have hc : ∀ (a : Fin 128) (b : Fin 256), k3_pay1 i (ix2 a b) = _ := seen_holds3 i
  have hw := seen_some ((i 1).val = 0)
  exact eight (F := fun h => outRow (seen ((i 1).val = 0)) (scores (hd X0 h) (pair (hd X1 h) (hd X2 h))) (pair (hd X3 h) (hd X4 h)))
    (o_head hc hw (h0.head 896) (h1.head 896) (h2.head 896) (cast_holds (h3.head 896)) (cast_holds (h4.head 896)))
    (o_head hc hw (h0.head 768) (h1.head 768) (h2.head 768) (cast_holds (h3.head 768)) (cast_holds (h4.head 768)))
    (o_head hc hw (h0.head 640) (h1.head 640) (h2.head 640) (cast_holds (h3.head 640)) (cast_holds (h4.head 640)))
    (o_head hc hw (h0.head 512) (h1.head 512) (h2.head 512) (cast_holds (h3.head 512)) (cast_holds (h4.head 512)))
    (o_head hc hw (h0.head 384) (h1.head 384) (h2.head 384) (cast_holds (h3.head 384)) (cast_holds (h4.head 384)))
    (o_head hc hw (h0.head 256) (h1.head 256) (h2.head 256) (cast_holds (h3.head 256)) (cast_holds (h4.head 256)))
    (o_head hc hw (h0.head 128) (h1.head 128) (h2.head 128) (cast_holds (h3.head 128)) (cast_holds (h4.head 128)))
    (o_head hc hw (h0.head 0) (h1.head 0) (h2.head 0) (cast_holds (h3.head 0)) (cast_holds (h4.head 0)))

include h0 h1 h2 h3 h4 in
/-- The log-denominators the forward call at dilation 4 leaves in a block. -/
theorem out3_lse (i : grid3.Coords) : @Holds 128 1024 (out3_6 (F := Ideal) i x0 x1 x2 x3 x4)
    (byHead fun h => fun a _ => Real.log (zRow (seen ((i 1).val = 0)) (scores (hd X0 h) (pair (hd X1 h) (hd X2 h))) a)) := by
  have hc : ∀ (a : Fin 128) (b : Fin 256), k3_pay1 i (ix2 a b) = _ := seen_holds3 i
  have hw := seen_some ((i 1).val = 0)
  exact eight_rows (F := fun h => fun a _ => Real.log (zRow (seen ((i 1).val = 0)) (scores (hd X0 h) (pair (hd X1 h) (hd X2 h))) a))
    (lse_head hc hw (h0.head 896) (h1.head 896) (h2.head 896) (cast_holds (h3.head 896)) (cast_holds (h4.head 896)))
    (lse_head hc hw (h0.head 768) (h1.head 768) (h2.head 768) (cast_holds (h3.head 768)) (cast_holds (h4.head 768)))
    (lse_head hc hw (h0.head 640) (h1.head 640) (h2.head 640) (cast_holds (h3.head 640)) (cast_holds (h4.head 640)))
    (lse_head hc hw (h0.head 512) (h1.head 512) (h2.head 512) (cast_holds (h3.head 512)) (cast_holds (h4.head 512)))
    (lse_head hc hw (h0.head 384) (h1.head 384) (h2.head 384) (cast_holds (h3.head 384)) (cast_holds (h4.head 384)))
    (lse_head hc hw (h0.head 256) (h1.head 256) (h2.head 256) (cast_holds (h3.head 256)) (cast_holds (h4.head 256)))
    (lse_head hc hw (h0.head 128) (h1.head 128) (h2.head 128) (cast_holds (h3.head 128)) (cast_holds (h4.head 128)))
    (lse_head hc hw (h0.head 0) (h1.head 0) (h2.head 0) (cast_holds (h3.head 0)) (cast_holds (h4.head 0)))

include h0 h1 h2 h3 h4 in
/-- The output the forward call at dilation 16 leaves in a block. -/
theorem out4_o (i : grid4.Coords) : @Holds 128 1024 (out4_5 (F := Ideal) i x0 x1 x2 x3 x4)
    (byHead fun h => outRow (seen ((i 1).val = 0)) (scores (hd X0 h) (pair (hd X1 h) (hd X2 h))) (pair (hd X3 h) (hd X4 h))) := by
  have hc : ∀ (a : Fin 128) (b : Fin 256), k4_pay1 i (ix2 a b) = _ := seen_holds4 i
  have hw := seen_some ((i 1).val = 0)
  exact eight (F := fun h => outRow (seen ((i 1).val = 0)) (scores (hd X0 h) (pair (hd X1 h) (hd X2 h))) (pair (hd X3 h) (hd X4 h)))
    (o_head hc hw (h0.head 896) (h1.head 896) (h2.head 896) (cast_holds (h3.head 896)) (cast_holds (h4.head 896)))
    (o_head hc hw (h0.head 768) (h1.head 768) (h2.head 768) (cast_holds (h3.head 768)) (cast_holds (h4.head 768)))
    (o_head hc hw (h0.head 640) (h1.head 640) (h2.head 640) (cast_holds (h3.head 640)) (cast_holds (h4.head 640)))
    (o_head hc hw (h0.head 512) (h1.head 512) (h2.head 512) (cast_holds (h3.head 512)) (cast_holds (h4.head 512)))
    (o_head hc hw (h0.head 384) (h1.head 384) (h2.head 384) (cast_holds (h3.head 384)) (cast_holds (h4.head 384)))
    (o_head hc hw (h0.head 256) (h1.head 256) (h2.head 256) (cast_holds (h3.head 256)) (cast_holds (h4.head 256)))
    (o_head hc hw (h0.head 128) (h1.head 128) (h2.head 128) (cast_holds (h3.head 128)) (cast_holds (h4.head 128)))
    (o_head hc hw (h0.head 0) (h1.head 0) (h2.head 0) (cast_holds (h3.head 0)) (cast_holds (h4.head 0)))

include h0 h1 h2 h3 h4 in
/-- The log-denominators the forward call at dilation 16 leaves in a block. -/
theorem out4_lse (i : grid4.Coords) : @Holds 128 1024 (out4_6 (F := Ideal) i x0 x1 x2 x3 x4)
    (byHead fun h => fun a _ => Real.log (zRow (seen ((i 1).val = 0)) (scores (hd X0 h) (pair (hd X1 h) (hd X2 h))) a)) := by
  have hc : ∀ (a : Fin 128) (b : Fin 256), k4_pay1 i (ix2 a b) = _ := seen_holds4 i
  have hw := seen_some ((i 1).val = 0)
  exact eight_rows (F := fun h => fun a _ => Real.log (zRow (seen ((i 1).val = 0)) (scores (hd X0 h) (pair (hd X1 h) (hd X2 h))) a))
    (lse_head hc hw (h0.head 896) (h1.head 896) (h2.head 896) (cast_holds (h3.head 896)) (cast_holds (h4.head 896)))
    (lse_head hc hw (h0.head 768) (h1.head 768) (h2.head 768) (cast_holds (h3.head 768)) (cast_holds (h4.head 768)))
    (lse_head hc hw (h0.head 640) (h1.head 640) (h2.head 640) (cast_holds (h3.head 640)) (cast_holds (h4.head 640)))
    (lse_head hc hw (h0.head 512) (h1.head 512) (h2.head 512) (cast_holds (h3.head 512)) (cast_holds (h4.head 512)))
    (lse_head hc hw (h0.head 384) (h1.head 384) (h2.head 384) (cast_holds (h3.head 384)) (cast_holds (h4.head 384)))
    (lse_head hc hw (h0.head 256) (h1.head 256) (h2.head 256) (cast_holds (h3.head 256)) (cast_holds (h4.head 256)))
    (lse_head hc hw (h0.head 128) (h1.head 128) (h2.head 128) (cast_holds (h3.head 128)) (cast_holds (h4.head 128)))
    (lse_head hc hw (h0.head 0) (h1.head 0) (h2.head 0) (cast_holds (h3.head 0)) (cast_holds (h4.head 0)))

include h0 h1 h2 h3 h4 h5 g0 g1 in
/-- The gradient of the queries the backward call at dilation 1 leaves in a block. -/
theorem out7_dq (i : grid7.Coords) : @Holds 128 1024 (out7_8 (F := Ideal) i x0 x1 x2 x3 x4 x5 y0 y1)
    (byHead fun h => dqOf (seen ((i 1).val = 0)) (hd X0 h) (hd X1 h) (hd X2 h) (hd X3 h) (hd X4 h) (hd X5 h) (hd Y0 h) (hd Y1 h)) := by
  have hc : ∀ (a : Fin 128) (b : Fin 256), k7_pay2 i (ix2 a b) = _ := seen_holds7 i
  exact eight (F := fun h => dqOf (seen ((i 1).val = 0)) (hd X0 h) (hd X1 h) (hd X2 h) (hd X3 h) (hd X4 h) (hd X5 h) (hd Y0 h) (hd Y1 h))
    (dq_head7 hc (h0.head 896) (h1.head 896) (h2.head 896) (h3.head 896) (h4.head 896) (h5.head 896) (g0.head 896) (g1.head 896))
    (dq_head7 hc (h0.head 768) (h1.head 768) (h2.head 768) (h3.head 768) (h4.head 768) (h5.head 768) (g0.head 768) (g1.head 768))
    (dq_head7 hc (h0.head 640) (h1.head 640) (h2.head 640) (h3.head 640) (h4.head 640) (h5.head 640) (g0.head 640) (g1.head 640))
    (dq_head7 hc (h0.head 512) (h1.head 512) (h2.head 512) (h3.head 512) (h4.head 512) (h5.head 512) (g0.head 512) (g1.head 512))
    (dq_head7 hc (h0.head 384) (h1.head 384) (h2.head 384) (h3.head 384) (h4.head 384) (h5.head 384) (g0.head 384) (g1.head 384))
    (dq_head7 hc (h0.head 256) (h1.head 256) (h2.head 256) (h3.head 256) (h4.head 256) (h5.head 256) (g0.head 256) (g1.head 256))
    (dq_head7 hc (h0.head 128) (h1.head 128) (h2.head 128) (h3.head 128) (h4.head 128) (h5.head 128) (g0.head 128) (g1.head 128))
    (dq_head7 hc (h0.head 0) (h1.head 0) (h2.head 0) (h3.head 0) (h4.head 0) (h5.head 0) (g0.head 0) (g1.head 0))

include h0 h1 h2 h3 h4 h5 g0 g1 in
/-- The gradient of the queries the backward call at dilation 4 leaves in a block. -/
theorem out9_dq (i : grid9.Coords) : @Holds 128 1024 (out9_8 (F := Ideal) i x0 x1 x2 x3 x4 x5 y0 y1)
    (byHead fun h => dqOf (seen ((i 1).val = 0)) (hd X0 h) (hd X1 h) (hd X2 h) (hd X3 h) (hd X4 h) (hd X5 h) (hd Y0 h) (hd Y1 h)) := by
  have hc : ∀ (a : Fin 128) (b : Fin 256), k9_pay2 i (ix2 a b) = _ := seen_holds9 i
  exact eight (F := fun h => dqOf (seen ((i 1).val = 0)) (hd X0 h) (hd X1 h) (hd X2 h) (hd X3 h) (hd X4 h) (hd X5 h) (hd Y0 h) (hd Y1 h))
    (dq_head hc (h0.head 896) (h1.head 896) (h2.head 896) (cast_holds (h3.head 896)) (cast_holds (h4.head 896)) (h5.head 896) (g0.head 896) (g1.head 896))
    (dq_head hc (h0.head 768) (h1.head 768) (h2.head 768) (cast_holds (h3.head 768)) (cast_holds (h4.head 768)) (h5.head 768) (g0.head 768) (g1.head 768))
    (dq_head hc (h0.head 640) (h1.head 640) (h2.head 640) (cast_holds (h3.head 640)) (cast_holds (h4.head 640)) (h5.head 640) (g0.head 640) (g1.head 640))
    (dq_head hc (h0.head 512) (h1.head 512) (h2.head 512) (cast_holds (h3.head 512)) (cast_holds (h4.head 512)) (h5.head 512) (g0.head 512) (g1.head 512))
    (dq_head hc (h0.head 384) (h1.head 384) (h2.head 384) (cast_holds (h3.head 384)) (cast_holds (h4.head 384)) (h5.head 384) (g0.head 384) (g1.head 384))
    (dq_head hc (h0.head 256) (h1.head 256) (h2.head 256) (cast_holds (h3.head 256)) (cast_holds (h4.head 256)) (h5.head 256) (g0.head 256) (g1.head 256))
    (dq_head hc (h0.head 128) (h1.head 128) (h2.head 128) (cast_holds (h3.head 128)) (cast_holds (h4.head 128)) (h5.head 128) (g0.head 128) (g1.head 128))
    (dq_head hc (h0.head 0) (h1.head 0) (h2.head 0) (cast_holds (h3.head 0)) (cast_holds (h4.head 0)) (h5.head 0) (g0.head 0) (g1.head 0))

include h0 h1 h2 h3 h4 h5 g0 g1 in
/-- The gradient of the queries the backward call at dilation 16 leaves in a block. -/
theorem out11_dq (i : grid11.Coords) : @Holds 128 1024 (out11_8 (F := Ideal) i x0 x1 x2 x3 x4 x5 y0 y1)
    (byHead fun h => dqOf (seen ((i 1).val = 0)) (hd X0 h) (hd X1 h) (hd X2 h) (hd X3 h) (hd X4 h) (hd X5 h) (hd Y0 h) (hd Y1 h)) := by
  have hc : ∀ (a : Fin 128) (b : Fin 256), k11_pay2 i (ix2 a b) = _ := seen_holds11 i
  exact eight (F := fun h => dqOf (seen ((i 1).val = 0)) (hd X0 h) (hd X1 h) (hd X2 h) (hd X3 h) (hd X4 h) (hd X5 h) (hd Y0 h) (hd Y1 h))
    (dq_head hc (h0.head 896) (h1.head 896) (h2.head 896) (cast_holds (h3.head 896)) (cast_holds (h4.head 896)) (h5.head 896) (g0.head 896) (g1.head 896))
    (dq_head hc (h0.head 768) (h1.head 768) (h2.head 768) (cast_holds (h3.head 768)) (cast_holds (h4.head 768)) (h5.head 768) (g0.head 768) (g1.head 768))
    (dq_head hc (h0.head 640) (h1.head 640) (h2.head 640) (cast_holds (h3.head 640)) (cast_holds (h4.head 640)) (h5.head 640) (g0.head 640) (g1.head 640))
    (dq_head hc (h0.head 512) (h1.head 512) (h2.head 512) (cast_holds (h3.head 512)) (cast_holds (h4.head 512)) (h5.head 512) (g0.head 512) (g1.head 512))
    (dq_head hc (h0.head 384) (h1.head 384) (h2.head 384) (cast_holds (h3.head 384)) (cast_holds (h4.head 384)) (h5.head 384) (g0.head 384) (g1.head 384))
    (dq_head hc (h0.head 256) (h1.head 256) (h2.head 256) (cast_holds (h3.head 256)) (cast_holds (h4.head 256)) (h5.head 256) (g0.head 256) (g1.head 256))
    (dq_head hc (h0.head 128) (h1.head 128) (h2.head 128) (cast_holds (h3.head 128)) (cast_holds (h4.head 128)) (h5.head 128) (g0.head 128) (g1.head 128))
    (dq_head hc (h0.head 0) (h1.head 0) (h2.head 0) (cast_holds (h3.head 0)) (cast_holds (h4.head 0)) (h5.head 0) (g0.head 0) (g1.head 0))

include h0 h1 h2 h3 h4 h5 g0 g1 g2 g3 in
/-- The gradient of the keys the backward call at dilation 1 leaves in a block. -/
theorem out8_dk (i : grid8.Coords) : @Holds 128 1024 (out8_10 (F := Ideal) i x0 x1 x2 x3 x4 x5 y0 y1 y2 y3)
    (byHead fun h => dkOf (seenBy ((i 1).val = 63)) (hd X2 h) (hd X3 h) (hd X4 h) (hd X5 h) (hd Y0 h) (hd Y1 h) (hd Y2 h) (hd Y3 h) (hd X0 h) (hd X1 h)) := by
  have hc : ∀ (a : Fin 256) (b : Fin 128), k8_pay2 i (ix2 a b) = _ := seenBy_holds8 i
  exact eight (F := fun h => dkOf (seenBy ((i 1).val = 63)) (hd X2 h) (hd X3 h) (hd X4 h) (hd X5 h) (hd Y0 h) (hd Y1 h) (hd Y2 h) (hd Y3 h) (hd X0 h) (hd X1 h))
    (dk_head hc (h2.head 896) (h3.head 896) (h4.head 896) (h5.head 896) (g0.head 896) (g1.head 896) (g2.head 896) (g3.head 896) (h0.head 896) (h1.head 896))
    (dk_head hc (h2.head 768) (h3.head 768) (h4.head 768) (h5.head 768) (g0.head 768) (g1.head 768) (g2.head 768) (g3.head 768) (h0.head 768) (h1.head 768))
    (dk_head hc (h2.head 640) (h3.head 640) (h4.head 640) (h5.head 640) (g0.head 640) (g1.head 640) (g2.head 640) (g3.head 640) (h0.head 640) (h1.head 640))
    (dk_head hc (h2.head 512) (h3.head 512) (h4.head 512) (h5.head 512) (g0.head 512) (g1.head 512) (g2.head 512) (g3.head 512) (h0.head 512) (h1.head 512))
    (dk_head hc (h2.head 384) (h3.head 384) (h4.head 384) (h5.head 384) (g0.head 384) (g1.head 384) (g2.head 384) (g3.head 384) (h0.head 384) (h1.head 384))
    (dk_head2 hc (h2.head 256) (h3.head 256) (h4.head 256) (h5.head 256) (g0.head 256) (g1.head 256) (g2.head 256) (g3.head 256) (h0.head 256) (h1.head 256))
    (dk_head1 hc (h2.head 128) (h3.head 128) (h4.head 128) (h5.head 128) (g0.head 128) (g1.head 128) (g2.head 128) (g3.head 128) (h0.head 128) (h1.head 128))
    (dk_head hc (h2.head 0) (h3.head 0) (h4.head 0) (h5.head 0) (g0.head 0) (g1.head 0) (g2.head 0) (g3.head 0) (h0.head 0) (h1.head 0))

include h0 h1 h2 h3 h4 h5 g0 g1 g2 g3 in
/-- The gradient of the values the backward call at dilation 1 leaves in a block. -/
theorem out8_dv (i : grid8.Coords) : @Holds 128 1024 (out8_11 (F := Ideal) i x0 x1 x2 x3 x4 x5 y0 y1 y2 y3)
    (byHead fun h => dvOf (seenBy ((i 1).val = 63)) (hd X2 h) (hd X3 h) (hd X4 h) (hd X5 h) (hd Y0 h) (hd Y1 h) (hd X0 h)) := by
  have hc : ∀ (a : Fin 256) (b : Fin 128), k8_pay2 i (ix2 a b) = _ := seenBy_holds8 i
  exact eight (F := fun h => dvOf (seenBy ((i 1).val = 63)) (hd X2 h) (hd X3 h) (hd X4 h) (hd X5 h) (hd Y0 h) (hd Y1 h) (hd X0 h))
    (dv_head hc (h2.head 896) (h3.head 896) (h4.head 896) (h5.head 896) (g0.head 896) (g1.head 896) (h0.head 896))
    (dv_head hc (h2.head 768) (h3.head 768) (h4.head 768) (h5.head 768) (g0.head 768) (g1.head 768) (h0.head 768))
    (dv_head hc (h2.head 640) (h3.head 640) (h4.head 640) (h5.head 640) (g0.head 640) (g1.head 640) (h0.head 640))
    (dv_head hc (h2.head 512) (h3.head 512) (h4.head 512) (h5.head 512) (g0.head 512) (g1.head 512) (h0.head 512))
    (dv_head hc (h2.head 384) (h3.head 384) (h4.head 384) (h5.head 384) (g0.head 384) (g1.head 384) (h0.head 384))
    (dv_head2 hc (h2.head 256) (h3.head 256) (h4.head 256) (h5.head 256) (g0.head 256) (g1.head 256) (h0.head 256))
    (dv_head1 hc (h2.head 128) (h3.head 128) (h4.head 128) (h5.head 128) (g0.head 128) (g1.head 128) (h0.head 128))
    (dv_head hc (h2.head 0) (h3.head 0) (h4.head 0) (h5.head 0) (g0.head 0) (g1.head 0) (h0.head 0))

include h0 h1 h2 h3 h4 h5 g0 g1 g2 g3 in
/-- The gradient of the keys the backward call at dilation 4 leaves in a block. -/
theorem out10_dk (i : grid10.Coords) : @Holds 128 1024 (out10_10 (F := Ideal) i x0 x1 x2 x3 x4 x5 y0 y1 y2 y3)
    (byHead fun h => dkOf (seenBy ((i 1).val = 15)) (hd X2 h) (hd X3 h) (hd X4 h) (hd X5 h) (hd Y0 h) (hd Y1 h) (hd Y2 h) (hd Y3 h) (hd X0 h) (hd X1 h)) := by
  have hc : ∀ (a : Fin 256) (b : Fin 128), k10_pay4 i (ix2 a b) = _ := seenBy_holds10 i
  exact eight (F := fun h => dkOf (seenBy ((i 1).val = 15)) (hd X2 h) (hd X3 h) (hd X4 h) (hd X5 h) (hd Y0 h) (hd Y1 h) (hd Y2 h) (hd Y3 h) (hd X0 h) (hd X1 h))
    (dk_head hc (h2.head 896) (h3.head 896) (cast_holds (h4.head 896)) (cast_holds (h5.head 896)) (g0.head 896) (g1.head 896) (g2.head 896) (g3.head 896) (h0.head 896) (cast_holds (h1.head 896)))
    (dk_head hc (h2.head 768) (h3.head 768) (cast_holds (h4.head 768)) (cast_holds (h5.head 768)) (g0.head 768) (g1.head 768) (g2.head 768) (g3.head 768) (h0.head 768) (cast_holds (h1.head 768)))
    (dk_head hc (h2.head 640) (h3.head 640) (cast_holds (h4.head 640)) (cast_holds (h5.head 640)) (g0.head 640) (g1.head 640) (g2.head 640) (g3.head 640) (h0.head 640) (cast_holds (h1.head 640)))
    (dk_head hc (h2.head 512) (h3.head 512) (cast_holds (h4.head 512)) (cast_holds (h5.head 512)) (g0.head 512) (g1.head 512) (g2.head 512) (g3.head 512) (h0.head 512) (cast_holds (h1.head 512)))
    (dk_head hc (h2.head 384) (h3.head 384) (cast_holds (h4.head 384)) (cast_holds (h5.head 384)) (g0.head 384) (g1.head 384) (g2.head 384) (g3.head 384) (h0.head 384) (cast_holds (h1.head 384)))
    (dk_head hc (h2.head 256) (h3.head 256) (cast_holds (h4.head 256)) (cast_holds (h5.head 256)) (g0.head 256) (g1.head 256) (g2.head 256) (g3.head 256) (h0.head 256) (cast_holds (h1.head 256)))
    (dk_head hc (h2.head 128) (h3.head 128) (cast_holds (h4.head 128)) (cast_holds (h5.head 128)) (g0.head 128) (g1.head 128) (g2.head 128) (g3.head 128) (h0.head 128) (cast_holds (h1.head 128)))
    (dk_head hc (h2.head 0) (h3.head 0) (cast_holds (h4.head 0)) (cast_holds (h5.head 0)) (g0.head 0) (g1.head 0) (g2.head 0) (g3.head 0) (h0.head 0) (cast_holds (h1.head 0)))

include h0 h1 h2 h3 h4 h5 g0 g1 g2 g3 in
/-- The gradient of the values the backward call at dilation 4 leaves in a block. -/
theorem out10_dv (i : grid10.Coords) : @Holds 128 1024 (out10_11 (F := Ideal) i x0 x1 x2 x3 x4 x5 y0 y1 y2 y3)
    (byHead fun h => dvOf (seenBy ((i 1).val = 15)) (hd X2 h) (hd X3 h) (hd X4 h) (hd X5 h) (hd Y0 h) (hd Y1 h) (hd X0 h)) := by
  have hc : ∀ (a : Fin 256) (b : Fin 128), k10_pay4 i (ix2 a b) = _ := seenBy_holds10 i
  exact eight (F := fun h => dvOf (seenBy ((i 1).val = 15)) (hd X2 h) (hd X3 h) (hd X4 h) (hd X5 h) (hd Y0 h) (hd Y1 h) (hd X0 h))
    (dv_head hc (h2.head 896) (h3.head 896) (cast_holds (h4.head 896)) (cast_holds (h5.head 896)) (g0.head 896) (g1.head 896) (h0.head 896))
    (dv_head hc (h2.head 768) (h3.head 768) (cast_holds (h4.head 768)) (cast_holds (h5.head 768)) (g0.head 768) (g1.head 768) (h0.head 768))
    (dv_head hc (h2.head 640) (h3.head 640) (cast_holds (h4.head 640)) (cast_holds (h5.head 640)) (g0.head 640) (g1.head 640) (h0.head 640))
    (dv_head hc (h2.head 512) (h3.head 512) (cast_holds (h4.head 512)) (cast_holds (h5.head 512)) (g0.head 512) (g1.head 512) (h0.head 512))
    (dv_head hc (h2.head 384) (h3.head 384) (cast_holds (h4.head 384)) (cast_holds (h5.head 384)) (g0.head 384) (g1.head 384) (h0.head 384))
    (dv_head hc (h2.head 256) (h3.head 256) (cast_holds (h4.head 256)) (cast_holds (h5.head 256)) (g0.head 256) (g1.head 256) (h0.head 256))
    (dv_head hc (h2.head 128) (h3.head 128) (cast_holds (h4.head 128)) (cast_holds (h5.head 128)) (g0.head 128) (g1.head 128) (h0.head 128))
    (dv_head hc (h2.head 0) (h3.head 0) (cast_holds (h4.head 0)) (cast_holds (h5.head 0)) (g0.head 0) (g1.head 0) (h0.head 0))

include h0 h1 h2 h3 h4 h5 g0 g1 g2 g3 in
/-- The gradient of the keys the backward call at dilation 16 leaves in a block. -/
theorem out12_dk (i : grid12.Coords) : @Holds 128 1024 (out12_10 (F := Ideal) i x0 x1 x2 x3 x4 x5 y0 y1 y2 y3)
    (byHead fun h => dkOf (seenBy ((i 1).val = 3)) (hd X2 h) (hd X3 h) (hd X4 h) (hd X5 h) (hd Y0 h) (hd Y1 h) (hd Y2 h) (hd Y3 h) (hd X0 h) (hd X1 h)) := by
  have hc : ∀ (a : Fin 256) (b : Fin 128), k12_pay4 i (ix2 a b) = _ := seenBy_holds12 i
  exact eight (F := fun h => dkOf (seenBy ((i 1).val = 3)) (hd X2 h) (hd X3 h) (hd X4 h) (hd X5 h) (hd Y0 h) (hd Y1 h) (hd Y2 h) (hd Y3 h) (hd X0 h) (hd X1 h))
    (dk_head hc (h2.head 896) (h3.head 896) (cast_holds (h4.head 896)) (cast_holds (h5.head 896)) (g0.head 896) (g1.head 896) (g2.head 896) (g3.head 896) (h0.head 896) (cast_holds (h1.head 896)))
    (dk_head hc (h2.head 768) (h3.head 768) (cast_holds (h4.head 768)) (cast_holds (h5.head 768)) (g0.head 768) (g1.head 768) (g2.head 768) (g3.head 768) (h0.head 768) (cast_holds (h1.head 768)))
    (dk_head hc (h2.head 640) (h3.head 640) (cast_holds (h4.head 640)) (cast_holds (h5.head 640)) (g0.head 640) (g1.head 640) (g2.head 640) (g3.head 640) (h0.head 640) (cast_holds (h1.head 640)))
    (dk_head hc (h2.head 512) (h3.head 512) (cast_holds (h4.head 512)) (cast_holds (h5.head 512)) (g0.head 512) (g1.head 512) (g2.head 512) (g3.head 512) (h0.head 512) (cast_holds (h1.head 512)))
    (dk_head hc (h2.head 384) (h3.head 384) (cast_holds (h4.head 384)) (cast_holds (h5.head 384)) (g0.head 384) (g1.head 384) (g2.head 384) (g3.head 384) (h0.head 384) (cast_holds (h1.head 384)))
    (dk_head hc (h2.head 256) (h3.head 256) (cast_holds (h4.head 256)) (cast_holds (h5.head 256)) (g0.head 256) (g1.head 256) (g2.head 256) (g3.head 256) (h0.head 256) (cast_holds (h1.head 256)))
    (dk_head hc (h2.head 128) (h3.head 128) (cast_holds (h4.head 128)) (cast_holds (h5.head 128)) (g0.head 128) (g1.head 128) (g2.head 128) (g3.head 128) (h0.head 128) (cast_holds (h1.head 128)))
    (dk_head hc (h2.head 0) (h3.head 0) (cast_holds (h4.head 0)) (cast_holds (h5.head 0)) (g0.head 0) (g1.head 0) (g2.head 0) (g3.head 0) (h0.head 0) (cast_holds (h1.head 0)))

include h0 h1 h2 h3 h4 h5 g0 g1 g2 g3 in
/-- The gradient of the values the backward call at dilation 16 leaves in a block. -/
theorem out12_dv (i : grid12.Coords) : @Holds 128 1024 (out12_11 (F := Ideal) i x0 x1 x2 x3 x4 x5 y0 y1 y2 y3)
    (byHead fun h => dvOf (seenBy ((i 1).val = 3)) (hd X2 h) (hd X3 h) (hd X4 h) (hd X5 h) (hd Y0 h) (hd Y1 h) (hd X0 h)) := by
  have hc : ∀ (a : Fin 256) (b : Fin 128), k12_pay4 i (ix2 a b) = _ := seenBy_holds12 i
  exact eight (F := fun h => dvOf (seenBy ((i 1).val = 3)) (hd X2 h) (hd X3 h) (hd X4 h) (hd X5 h) (hd Y0 h) (hd Y1 h) (hd X0 h))
    (dv_head hc (h2.head 896) (h3.head 896) (cast_holds (h4.head 896)) (cast_holds (h5.head 896)) (g0.head 896) (g1.head 896) (h0.head 896))
    (dv_head hc (h2.head 768) (h3.head 768) (cast_holds (h4.head 768)) (cast_holds (h5.head 768)) (g0.head 768) (g1.head 768) (h0.head 768))
    (dv_head hc (h2.head 640) (h3.head 640) (cast_holds (h4.head 640)) (cast_holds (h5.head 640)) (g0.head 640) (g1.head 640) (h0.head 640))
    (dv_head hc (h2.head 512) (h3.head 512) (cast_holds (h4.head 512)) (cast_holds (h5.head 512)) (g0.head 512) (g1.head 512) (h0.head 512))
    (dv_head hc (h2.head 384) (h3.head 384) (cast_holds (h4.head 384)) (cast_holds (h5.head 384)) (g0.head 384) (g1.head 384) (h0.head 384))
    (dv_head hc (h2.head 256) (h3.head 256) (cast_holds (h4.head 256)) (cast_holds (h5.head 256)) (g0.head 256) (g1.head 256) (h0.head 256))
    (dv_head hc (h2.head 128) (h3.head 128) (cast_holds (h4.head 128)) (cast_holds (h5.head 128)) (g0.head 128) (g1.head 128) (h0.head 128))
    (dv_head hc (h2.head 0) (h3.head 0) (cast_holds (h4.head 0)) (cast_holds (h5.head 0)) (g0.head 0) (g1.head 0) (h0.head 0))
end

end Cert.Kernel2Ideal.Value
end
-- ==== Proof.Dil.Tok.lean ====
/- The dilated attention from blocks of one residue class to tokens: the keys a row of a block sees are the keys its token
   attends. -/
module

public import proofs.«01_k».proof.Proof.Dil.Head

@[expose] public section

noncomputable section

namespace Cert.Dil
open Cert.Attn

/-- Whether the pattern of dilation `d` lets a query attend a key. -/
def wt (d t k : ℕ) : Prop := k ≤ t ∧ t - k ≤ 128 * d ∧ (t - k) % d = 0
instance (d t k : ℕ) : Decidable (wt d t k) := by unfold wt; infer_instance

/-- The rows of a block: tokens of one residue class. -/
def blk (d r n : ℕ) (A : ℕ → ℕ → ℝ) (i c : ℕ) : ℝ := A ((128 * n + i) * d + r) c

/-- An array with one value for each head and token, repeated over the head's columns. -/
def rows (M : ℕ → ℕ → ℝ) (t c : ℕ) : ℝ := M (c / 128) t

section
variable (d : ℕ) (Q K V G : ℕ → ℕ → ℝ) (M D : ℕ → ℕ → ℝ) (h : ℕ)

/-- The scaled score of a head's query and key. -/
def tscore (t k : ℕ) : ℝ := (∑ e : Fin 128, Q t (128 * h + e) * K k (128 * h + e)) * tau

/-- The sum of the exponentials of the attended keys. -/
def zTok (t : ℕ) : ℝ := ∑ k : Fin 8192, ind (wt d t k) * Real.exp (tscore Q K h t k)

/-- The pattern's output. -/
def oTok (t e : ℕ) : ℝ := (∑ k : Fin 8192, ind (wt d t k) * (Real.exp (tscore Q K h t k) * V k (128 * h + e))) / zTok d Q K h t

/-- The weight of a key, from a saved logarithm. -/
def pTok (t k : ℕ) : ℝ := Real.exp (tscore Q K h t k - M h t)

/-- The gradient of a score, before the choice of the attended keys. -/
def dsTok (t k : ℕ) : ℝ := pTok Q K M h t k * ((∑ e : Fin 128, G t (128 * h + e) * V k (128 * h + e)) - D h t) * tau

/-- The pattern's share of the gradient of the queries. -/
def dqTok (t e : ℕ) : ℝ := ∑ k : Fin 8192, ind (wt d t k) * (dsTok Q K V G M D h t k * K k (128 * h + e))

/-- Its share of the gradient of the keys. -/
def dkTok (k e : ℕ) : ℝ := ∑ t : Fin 8192, ind (wt d t k) * (dsTok Q K V G M D h t k * Q t (128 * h + e))

/-- Its share of the gradient of the values. -/
def dvTok (k e : ℕ) : ℝ := ∑ t : Fin 8192, ind (wt d t k) * (pTok Q K M h t k * G t (128 * h + e))
end

theorem sum_ind {N : ℕ} (w : ℕ → Prop) [∀ a, Decidable (w a)] (f : ℕ → ℝ) :
    ∑ k : Fin N, ind (w k) * f k = ∑ k ∈ (Finset.range N).filter w, f k := by
  rw [Finset.sum_filter, ← Finset.sum_range (fun k => ind (w k) * f k)]
  exact Finset.sum_congr rfl fun k _ => by unfold ind; split_ifs <;> simp

section
variable {d r n : ℕ} (hd : d = 1 ∨ d = 4 ∨ d = 16) (hr : r < d) (hn : n < 64 / d)
include hd hr hn

/-- A sum over the keys a row sees, over the tokens. -/
theorem key_sum {a : ℕ} (ha : a < 128) (F f : ℕ → ℝ) (hF : ∀ b < 256, seen (n = 0) a b → F b = f ((128 * n + b - 128) * d + r)) :
    ∑ b : Fin 256, ind (seen (n = 0) a b) * F b = ∑ k : Fin 8192, ind (wt d ((128 * n + a) * d + r) k) * f k := by
  rw [sum_ind (fun b => seen (n = 0) a b) F, sum_ind (fun k => wt d ((128 * n + a) * d + r) k) f]
  refine Finset.sum_nbij' (fun b => (128 * n + b - 128) * d + r) (fun k => k / d + 128 - 128 * n) ?_ ?_ ?_ ?_ ?_
  · intro b hb
    rw [Finset.mem_filter, Finset.mem_range] at hb ⊢
    unfold seen at hb
    unfold wt
    rcases hd with rfl | rfl | rfl <;> omega
  · intro k hk
    rw [Finset.mem_filter, Finset.mem_range] at hk ⊢
    unfold wt at hk
    unfold seen
    rcases hd with rfl | rfl | rfl <;> omega
  · intro b hb
    rw [Finset.mem_filter, Finset.mem_range] at hb
    unfold seen at hb
    rcases hd with rfl | rfl | rfl <;> omega
  · intro k hk
    rw [Finset.mem_filter, Finset.mem_range] at hk
    unfold wt at hk
    rcases hd with rfl | rfl | rfl <;> omega
  · intro b hb
    rw [Finset.mem_filter, Finset.mem_range] at hb
    exact hF b hb.1 hb.2

/-- A sum over the queries that see a key, over the tokens. -/
theorem query_sum {b : ℕ} (hb : b < 128) (F f : ℕ → ℝ) (hF : ∀ a < 256, seenBy (n = 64 / d - 1) a b → F a = f ((128 * n + a) * d + r)) :
    ∑ a : Fin 256, ind (seenBy (n = 64 / d - 1) a b) * F a = ∑ t : Fin 8192, ind (wt d t ((128 * n + b) * d + r)) * f t := by
  rw [sum_ind (fun a => seenBy (n = 64 / d - 1) a b) F, sum_ind (fun t => wt d t ((128 * n + b) * d + r)) f]
  refine Finset.sum_nbij' (fun a => (128 * n + a) * d + r) (fun t => t / d - 128 * n) ?_ ?_ ?_ ?_ ?_
  · intro a ha
    rw [Finset.mem_filter, Finset.mem_range] at ha ⊢
    unfold seenBy at ha
    unfold wt
    rcases hd with rfl | rfl | rfl <;> omega
  · intro t ht
    rw [Finset.mem_filter, Finset.mem_range] at ht ⊢
    unfold wt at ht
    unfold seenBy
    rcases hd with rfl | rfl | rfl <;> omega
  · intro a ha
    rw [Finset.mem_filter, Finset.mem_range] at ha
    unfold seenBy at ha
    rcases hd with rfl | rfl | rfl <;> omega
  · intro t ht
    rw [Finset.mem_filter, Finset.mem_range] at ht
    unfold wt at ht
    rcases hd with rfl | rfl | rfl <;> omega
  · intro a ha
    rw [Finset.mem_filter, Finset.mem_range] at ha
    exact hF a ha.1 ha.2
end

/-- An entry of the two blocks of keys a row may see. -/
theorem pair_prev (d r n : ℕ) (A : ℕ → ℕ → ℝ) (h : ℕ) {a b : ℕ} (hs : seen (n = 0) a b) (e : ℕ) :
    pair (hd (blk d r (n - 1) A) h) (hd (blk d r n A) h) b e = A ((128 * n + b - 128) * d + r) (128 * h + e) := by
  unfold pair hd blk
  unfold seen at hs
  split_ifs
  · rw [show 128 * (n - 1) + (0 + b) = 128 * n + b - 128 by omega]
  · rw [show 128 * n + (0 + (b - 128)) = 128 * n + b - 128 by omega]

/-- An entry of the two blocks of queries that may see a key. -/
theorem pair_next (d r n l : ℕ) (A : ℕ → ℕ → ℝ) (h : ℕ) {a b : ℕ} (hs : seenBy (n = l) a b) (e : ℕ) :
    pair (hd (blk d r n A) h) (hd (blk d r (min (n + 1) l) A) h) a e = A ((128 * n + a) * d + r) (128 * h + e) ∨ l < n := by
  unfold pair hd blk
  unfold seenBy at hs
  by_cases hl : l < n
  · exact .inr hl
  · refine .inl ?_
    split_ifs
    · rw [show 128 * n + (0 + a) = 128 * n + a by omega]
    · rw [show 128 * min (n + 1) l + (0 + (a - 128)) = 128 * n + a by omega]

theorem rows_at (M : ℕ → ℕ → ℝ) (t h : ℕ) {e : ℕ} (he : e < 128) : rows M t (128 * h + e) = M h t := by
  rw [rows, show (128 * h + e) / 128 = h by omega]

section
variable {d r n : ℕ} (hdil : d = 1 ∨ d = 4 ∨ d = 16) (hr : r < d) (hn : n < 64 / d) (Q K V G : ℕ → ℕ → ℝ) (M D : ℕ → ℕ → ℝ) (h : ℕ)

theorem scores_prev {a b : ℕ} (hs : seen (n = 0) a b) :
    scores (hd (blk d r n Q) h) (pair (hd (blk d r (n - 1) K) h) (hd (blk d r n K) h)) a b
      = tscore Q K h ((128 * n + a) * d + r) ((128 * n + b - 128) * d + r) := by
  unfold scores tscore
  simp only [pair_prev d r n K h hs]
  simp only [hd, blk, Nat.zero_add]

include hdil hr hn

theorem zRow_tok {a : ℕ} (ha : a < 128) :
    zRow (seen (n = 0)) (scores (hd (blk d r n Q) h) (pair (hd (blk d r (n - 1) K) h) (hd (blk d r n K) h))) a
      = zTok d Q K h ((128 * n + a) * d + r) :=
  key_sum hdil hr hn ha (fun b => Real.exp (scores (hd (blk d r n Q) h) (pair (hd (blk d r (n - 1) K) h) (hd (blk d r n K) h)) a b))
    (fun k => Real.exp (tscore Q K h ((128 * n + a) * d + r) k)) fun b _ hs => by rw [scores_prev Q K h hs]

/-- A row's output is its token's. -/
theorem outRow_tok {a : ℕ} (ha : a < 128) (e : ℕ) :
    outRow (seen (n = 0)) (scores (hd (blk d r n Q) h) (pair (hd (blk d r (n - 1) K) h) (hd (blk d r n K) h))) (pair (hd (blk d r (n - 1) V) h) (hd (blk d r n V) h)) a e
      = oTok d Q K V h ((128 * n + a) * d + r) e := by
  unfold outRow oTok
  rw [zRow_tok hdil hr hn Q K h ha]
  simp only [mul_assoc]
  refine congrArg (· / _) ?_
  exact key_sum hdil hr hn ha (fun b => Real.exp (scores (hd (blk d r n Q) h) (pair (hd (blk d r (n - 1) K) h) (hd (blk d r n K) h)) a b) * pair (hd (blk d r (n - 1) V) h) (hd (blk d r n V) h) b e)
    (fun k => Real.exp (tscore Q K h ((128 * n + a) * d + r) k) * V k (128 * h + e)) fun b _ hs => by
      beta_reduce; rw [scores_prev Q K h hs, pair_prev d r n V h hs]

/-- A row's gradient of the query is its token's. -/
theorem dqOf_tok {a : ℕ} (ha : a < 128) (e : ℕ) :
    dqOf (seen (n = 0)) (hd (blk d r n Q) h) (hd (blk d r (n - 1) K) h) (hd (blk d r n K) h) (hd (blk d r (n - 1) V) h) (hd (blk d r n V) h)
      (hd (blk d r n G) h) (hd (blk d r n (rows M)) h) (hd (blk d r n (rows D)) h) a e
      = dqTok d Q K V G M D h ((128 * n + a) * d + r) e := by
  unfold dqOf dqTok dsW expW
  simp only [mul_assoc]
  refine key_sum hdil hr hn ha (fun b => Real.exp (scores (hd (blk d r n Q) h) (pair (hd (blk d r (n - 1) K) h) (hd (blk d r n K) h)) a b
      - hd (blk d r n (rows M)) h a (b % 128)) * (((∑ d' : Fin 128, hd (blk d r n G) h a d' * pair (hd (blk d r (n - 1) V) h) (hd (blk d r n V) h) b d')
      - hd (blk d r n (rows D)) h a (b % 128)) * (tau * pair (hd (blk d r (n - 1) K) h) (hd (blk d r n K) h) b e)))
    (fun k => dsTok Q K V G M D h ((128 * n + a) * d + r) k * K k (128 * h + e)) fun b _ hs => ?_
  beta_reduce
  rw [scores_prev Q K h hs]
  simp only [pair_prev d r n _ h hs]
  simp only [hd, blk, Nat.zero_add, rows_at _ _ h (Nat.mod_lt b (show 0 < 128 by decide)), dsTok, pTok, mul_assoc]

theorem scores_next {a b : ℕ} (hs : seenBy (n = 64 / d - 1) a b) :
    scores (pair (hd (blk d r n Q) h) (hd (blk d r (min (n + 1) (64 / d - 1)) Q) h)) (hd (blk d r n K) h) a b
      = tscore Q K h ((128 * n + a) * d + r) ((128 * n + b) * d + r) := by
  unfold scores tscore
  simp only [fun e => (pair_next d r n _ Q h hs e).resolve_right (by omega)]
  simp only [hd, blk, Nat.zero_add]

/-- A row's gradient of the value is its token's. -/
theorem dvOf_tok {b : ℕ} (hb : b < 128) (e : ℕ) :
    dvOf (seenBy (n = 64 / d - 1)) (hd (blk d r n Q) h) (hd (blk d r (min (n + 1) (64 / d - 1)) Q) h) (hd (blk d r n G) h) (hd (blk d r (min (n + 1) (64 / d - 1)) G) h)
      (hd (blk d r n (rows M)) h) (hd (blk d r (min (n + 1) (64 / d - 1)) (rows M)) h) (hd (blk d r n K) h) b e
      = dvTok d Q K G M h ((128 * n + b) * d + r) e := by
  unfold dvOf dvTok expW
  simp only [mul_assoc]
  refine query_sum hdil hr hn hb (fun a => Real.exp (scores (pair (hd (blk d r n Q) h) (hd (blk d r (min (n + 1) (64 / d - 1)) Q) h)) (hd (blk d r n K) h) a b
      - pair (hd (blk d r n (rows M)) h) (hd (blk d r (min (n + 1) (64 / d - 1)) (rows M)) h) a b) * pair (hd (blk d r n G) h) (hd (blk d r (min (n + 1) (64 / d - 1)) G) h) a e)
    (fun t => pTok Q K M h t ((128 * n + b) * d + r) * G t (128 * h + e)) fun a _ hs => ?_
  beta_reduce
  rw [scores_next hdil hr hn Q K h hs]
  simp only [fun A e => (pair_next d r n _ A h hs e).resolve_right (by omega), rows_at _ _ h hb, pTok]

/-- A row's gradient of the key is its token's. -/
theorem dkOf_tok {b : ℕ} (hb : b < 128) (e : ℕ) :
    dkOf (seenBy (n = 64 / d - 1)) (hd (blk d r n Q) h) (hd (blk d r (min (n + 1) (64 / d - 1)) Q) h) (hd (blk d r n G) h) (hd (blk d r (min (n + 1) (64 / d - 1)) G) h)
      (hd (blk d r n (rows M)) h) (hd (blk d r (min (n + 1) (64 / d - 1)) (rows M)) h) (hd (blk d r n (rows D)) h) (hd (blk d r (min (n + 1) (64 / d - 1)) (rows D)) h)
      (hd (blk d r n K) h) (hd (blk d r n V) h) b e
      = dkTok d Q K V G M D h ((128 * n + b) * d + r) e := by
  unfold dkOf dkTok dsW expW
  simp only [mul_assoc]
  refine query_sum hdil hr hn hb (fun a => Real.exp (scores (pair (hd (blk d r n Q) h) (hd (blk d r (min (n + 1) (64 / d - 1)) Q) h)) (hd (blk d r n K) h) a b
      - pair (hd (blk d r n (rows M)) h) (hd (blk d r (min (n + 1) (64 / d - 1)) (rows M)) h) a b)
      * (((∑ d' : Fin 128, pair (hd (blk d r n G) h) (hd (blk d r (min (n + 1) (64 / d - 1)) G) h) a d' * hd (blk d r n V) h b d')
        - pair (hd (blk d r n (rows D)) h) (hd (blk d r (min (n + 1) (64 / d - 1)) (rows D)) h) a b)
        * (tau * pair (hd (blk d r n Q) h) (hd (blk d r (min (n + 1) (64 / d - 1)) Q) h) a e)))
    (fun t => dsTok Q K V G M D h t ((128 * n + b) * d + r) * Q t (128 * h + e)) fun a _ hs => ?_
  beta_reduce
  rw [scores_next hdil hr hn Q K h hs]
  simp only [fun A e => (pair_next d r n _ A h hs e).resolve_right (by omega), rows_at _ _ h hb, dsTok, pTok, mul_assoc]
  simp only [hd, blk, Nat.zero_add]
end

end Cert.Dil
end
-- ==== Proof.Dil.Region.lean ====
/- The calls of the dilated attention's patterns over whole arrays of real numbers. -/
module

public import proofs.«01_k».proof.Proof.Dil.Tok
public import proofs.«01_k».proof.Proof.Gen.Kernel2Ideal.Frame

@[expose] public section

set_option maxRecDepth 16384

noncomputable section

open Idealize.ShloMosaic Idealize.ShloMosaic.TcCoe Idealize.SL.Sem

namespace Cert.Dil
open Cert.Attn

/-- An array of tokens seen with the residue classes of a dilation side by side. -/
def view (d : ℕ) (A : ℕ → ℕ → ℝ) (i c : ℕ) : ℝ := A (i * d + c / 1024) (c % 1024)

theorem view_at (d : ℕ) (A : ℕ → ℕ → ℝ) (n r i c : ℕ) (hc : c < 1024) : view d A (n * 128 + i) (r * 1024 + c) = A ((128 * n + i) * d + r) c := by
  rw [view, show (r * 1024 + c) / 1024 = r by omega, show (r * 1024 + c) % 1024 = c by omega, Nat.mul_comm n 128]

/-- A block of rows of a residue class. -/
theorem blk_of {d N M : ℕ} {f : (⟨2, ![128, 1024]⟩ : Shape).Idx → EReal} {X : (⟨2, ![N, M]⟩ : Shape).Idx → EReal} {A : ℕ → ℕ → ℝ} (h : Holds X (view d A)) (r n : ℕ)
    (hn : n * 128 + 128 ≤ N := by omega) (hr : r * 1024 + 1024 ≤ M := by omega)
    (e : ∀ (i : Fin 128) (j : Fin 1024), f (ix2 i j) = X (ix2 ⟨n * 128 + i.val, by omega⟩ ⟨r * 1024 + j.val, by omega⟩)) : Holds f (blk d r n A) :=
  fun i j => (e i j).trans ((h _ _).trans (congrArg _ (view_at d A n r i.val j.val j.isLt)))
section
variable {d r n a c : ℕ} (hdil : d = 1 ∨ d = 4 ∨ d = 16) (hr : r < d) (hn : n < 64 / d) (ha : a < 128) (hc : c < 1024) (Q K V G : ℕ → ℕ → ℝ) (M D : ℕ → ℕ → ℝ)
include hdil hr hn ha hc

theorem o_view : byHead (fun h => outRow (seen (n = 0)) (scores (hd (blk d r n Q) h) (pair (hd (blk d r (n - 1) K) h) (hd (blk d r n K) h))) (pair (hd (blk d r (n - 1) V) h) (hd (blk d r n V) h))) a c
    = view d (byHead (oTok d Q K V)) (n * 128 + a) (r * 1024 + c) :=
  (outRow_tok hdil hr hn Q K V (c / 128) ha (c % 128)).trans (view_at d (byHead (oTok d Q K V)) n r a c hc).symm

theorem lse_view : byHead (fun h => fun a _ => Real.log (zRow (seen (n = 0)) (scores (hd (blk d r n Q) h) (pair (hd (blk d r (n - 1) K) h) (hd (blk d r n K) h))) a)) a c
    = view d (rows fun h t => Real.log (zTok d Q K h t)) (n * 128 + a) (r * 1024 + c) :=
  (congrArg Real.log (zRow_tok hdil hr hn Q K (c / 128) ha)).trans (view_at d (rows fun h t => Real.log (zTok d Q K h t)) n r a c hc).symm

theorem dq_view : byHead (fun h => dqOf (seen (n = 0)) (hd (blk d r n Q) h) (hd (blk d r (n - 1) K) h) (hd (blk d r n K) h) (hd (blk d r (n - 1) V) h) (hd (blk d r n V) h)
      (hd (blk d r n G) h) (hd (blk d r n (rows M)) h) (hd (blk d r n (rows D)) h)) a c
    = view d (byHead (dqTok d Q K V G M D)) (n * 128 + a) (r * 1024 + c) :=
  (dqOf_tok hdil hr hn Q K V G M D (c / 128) ha (c % 128)).trans (view_at d (byHead (dqTok d Q K V G M D)) n r a c hc).symm

theorem dk_view : byHead (fun h => dkOf (seenBy (n = 64 / d - 1)) (hd (blk d r n Q) h) (hd (blk d r (min (n + 1) (64 / d - 1)) Q) h) (hd (blk d r n G) h) (hd (blk d r (min (n + 1) (64 / d - 1)) G) h)
      (hd (blk d r n (rows M)) h) (hd (blk d r (min (n + 1) (64 / d - 1)) (rows M)) h) (hd (blk d r n (rows D)) h) (hd (blk d r (min (n + 1) (64 / d - 1)) (rows D)) h)
      (hd (blk d r n K) h) (hd (blk d r n V) h)) a c
    = view d (byHead (dkTok d Q K V G M D)) (n * 128 + a) (r * 1024 + c) :=
  (dkOf_tok hdil hr hn Q K V G M D (c / 128) ha (c % 128)).trans (view_at d (byHead (dkTok d Q K V G M D)) n r a c hc).symm

theorem dv_view : byHead (fun h => dvOf (seenBy (n = 64 / d - 1)) (hd (blk d r n Q) h) (hd (blk d r (min (n + 1) (64 / d - 1)) Q) h) (hd (blk d r n G) h) (hd (blk d r (min (n + 1) (64 / d - 1)) G) h)
      (hd (blk d r n (rows M)) h) (hd (blk d r (min (n + 1) (64 / d - 1)) (rows M)) h) (hd (blk d r n K) h)) a c
    = view d (byHead (dvTok d Q K G M)) (n * 128 + a) (r * 1024 + c) :=
  (dvOf_tok hdil hr hn Q K G M (c / 128) ha (c % 128)).trans (view_at d (byHead (dvTok d Q K G M)) n r a c hc).symm
end

end Cert.Dil

namespace Cert.Kernel2Ideal.Value
open Cert.Kernel2Ideal Cert.Kernel2Ideal.Gen Cert.Attn Cert.Dil

variable (Z : (c : Dev nD) → (b : Ref sig .tc) → Buf (Elt Ideal) ((c : Thread nD τ).loc b)) {c : Dev nD} {Q K V G : ℕ → ℕ → ℝ} {M D : ℕ → ℕ → ℝ}

theorem idx2 : ∀ t : Fin cfg2.N, win2_0.index t = ![t.val % 64, t.val / 64] ∧ win2_1.index t = ![t.val % 64 - 1, t.val / 64] ∧ win2_2.index t = ![t.val % 64, t.val / 64] ∧ win2_3.index t = ![t.val % 64 - 1, t.val / 64] ∧ win2_4.index t = ![t.val % 64, t.val / 64] ∧ win2_5.index t = ![t.val % 64, t.val / 64] ∧ win2_6.index t = ![t.val % 64, t.val / 64] ∧ (grid2.coords t 1).val = t.val % 64 :=
  (by decide +kernel : ∀ t : Fin grid2.N, _)

/-- The output the call at dilation 1 leaves. -/
theorem final2_o (h0 : @Holds 8192 1024 (Z c main_v22) (view 1 Q)) (h1 : @Holds 8192 1024 (Z c main_v23) (view 1 K)) (h3 : @Holds 8192 1024 (Z c main_arg2) (view 1 V)) :
    @Holds 8192 1024 ((dat2 Z c).arrAt 5 cfg2.N) (view 1 (byHead (oTok 1 Q K V))) := by
  refine Holds.of (congrFun ((dat2 Z c).arrAt_eq_of_covers 5 _ (by decide +kernel) fun t _ y => ?_))
  blk_simp; rw [after2_5]
  have ht : t.val < 64 := t.isLt
  refine ((out2_o (blk_of h0 (t.val / 64) (t.val % 64) (e := by intro i j; blk_point [iblk2, idx2 t])) (blk_of h1 (t.val / 64) (t.val % 64 - 1) (e := by intro i j; blk_point [iblk2, idx2 t])) (blk_of h1 (t.val / 64) (t.val % 64) (e := by intro i j; blk_point [iblk2, idx2 t])) (blk_of h3 (t.val / 64) (t.val % 64 - 1) (e := by intro i j; blk_point [iblk2, idx2 t])) (blk_of h3 (t.val / 64) (t.val % 64) (e := by intro i j; blk_point [iblk2, idx2 t])) (grid2.coords t)).at y).trans ?_
  rw [(idx2 t).2.2.2.2.2.1, (idx2 t).2.2.2.2.2.2.2]
  exact congrArg _ (o_view (d := 1) (by decide) (by omega) (by omega) (y 0).isLt (y 1).isLt Q K V)

/-- The log-denominators the call at dilation 1 leaves. -/
theorem final2_lse (h0 : @Holds 8192 1024 (Z c main_v22) (view 1 Q)) (h1 : @Holds 8192 1024 (Z c main_v23) (view 1 K)) (h3 : @Holds 8192 1024 (Z c main_arg2) (view 1 V)) :
    @Holds 8192 1024 ((dat2 Z c).arrAt 6 cfg2.N) (view 1 (rows fun h t => Real.log (zTok 1 Q K h t))) := by
  refine Holds.of (congrFun ((dat2 Z c).arrAt_eq_of_covers 6 _ (by decide +kernel) fun t _ y => ?_))
  blk_simp; rw [after2_6]
  have ht : t.val < 64 := t.isLt
  refine ((out2_lse (blk_of h0 (t.val / 64) (t.val % 64) (e := by intro i j; blk_point [iblk2, idx2 t])) (blk_of h1 (t.val / 64) (t.val % 64 - 1) (e := by intro i j; blk_point [iblk2, idx2 t])) (blk_of h1 (t.val / 64) (t.val % 64) (e := by intro i j; blk_point [iblk2, idx2 t])) (blk_of h3 (t.val / 64) (t.val % 64 - 1) (e := by intro i j; blk_point [iblk2, idx2 t])) (blk_of h3 (t.val / 64) (t.val % 64) (e := by intro i j; blk_point [iblk2, idx2 t])) (grid2.coords t)).at y).trans ?_
  rw [(idx2 t).2.2.2.2.2.2.1, (idx2 t).2.2.2.2.2.2.2]
  exact congrArg _ (lse_view (d := 1) (by decide) (by omega) (by omega) (y 0).isLt (y 1).isLt Q K)

theorem idx3 : ∀ t : Fin cfg3.N, win3_0.index t = ![t.val % 16, t.val / 16] ∧ win3_1.index t = ![t.val % 16 - 1, t.val / 16] ∧ win3_2.index t = ![t.val % 16, t.val / 16] ∧ win3_3.index t = ![t.val % 16 - 1, t.val / 16] ∧ win3_4.index t = ![t.val % 16, t.val / 16] ∧ win3_5.index t = ![t.val % 16, t.val / 16] ∧ win3_6.index t = ![t.val % 16, t.val / 16] ∧ (grid3.coords t 1).val = t.val % 16 :=
  (by decide +kernel : ∀ t : Fin grid3.N, _)

/-- The output the call at dilation 4 leaves. -/
theorem final3_o (h0 : @Holds 2048 4096 (Z c main_v25) (view 4 Q)) (h1 : @Holds 2048 4096 (Z c main_v26) (view 4 K)) (h2 : @Holds 2048 4096 (Z c main_v27) (view 4 K)) (h3 : @Holds 2048 4096 (Z c main_v28) (view 4 V)) (h4 : @Holds 2048 4096 (Z c main_v29) (view 4 V)) :
    @Holds 2048 4096 ((dat3 Z c).arrAt 5 cfg3.N) (view 4 (byHead (oTok 4 Q K V))) := by
  refine Holds.of (congrFun ((dat3 Z c).arrAt_eq_of_covers 5 _ (by decide +kernel) fun t _ y => ?_))
  blk_simp; rw [after3_5]
  have ht : t.val < 64 := t.isLt
  refine ((out3_o (blk_of h0 (t.val / 16) (t.val % 16) (e := by intro i j; blk_point [iblk3, idx3 t])) (blk_of h1 (t.val / 16) (t.val % 16 - 1) (e := by intro i j; blk_point [iblk3, idx3 t])) (blk_of h2 (t.val / 16) (t.val % 16) (e := by intro i j; blk_point [iblk3, idx3 t])) (blk_of h3 (t.val / 16) (t.val % 16 - 1) (e := by intro i j; blk_point [iblk3, idx3 t])) (blk_of h4 (t.val / 16) (t.val % 16) (e := by intro i j; blk_point [iblk3, idx3 t])) (grid3.coords t)).at y).trans ?_
  rw [(idx3 t).2.2.2.2.2.1, (idx3 t).2.2.2.2.2.2.2]
  exact congrArg _ (o_view (d := 4) (by decide) (by omega) (by omega) (y 0).isLt (y 1).isLt Q K V)

/-- The log-denominators the call at dilation 4 leaves. -/
theorem final3_lse (h0 : @Holds 2048 4096 (Z c main_v25) (view 4 Q)) (h1 : @Holds 2048 4096 (Z c main_v26) (view 4 K)) (h2 : @Holds 2048 4096 (Z c main_v27) (view 4 K)) (h3 : @Holds 2048 4096 (Z c main_v28) (view 4 V)) (h4 : @Holds 2048 4096 (Z c main_v29) (view 4 V)) :
    @Holds 2048 4096 ((dat3 Z c).arrAt 6 cfg3.N) (view 4 (rows fun h t => Real.log (zTok 4 Q K h t))) := by
  refine Holds.of (congrFun ((dat3 Z c).arrAt_eq_of_covers 6 _ (by decide +kernel) fun t _ y => ?_))
  blk_simp; rw [after3_6]
  have ht : t.val < 64 := t.isLt
  refine ((out3_lse (blk_of h0 (t.val / 16) (t.val % 16) (e := by intro i j; blk_point [iblk3, idx3 t])) (blk_of h1 (t.val / 16) (t.val % 16 - 1) (e := by intro i j; blk_point [iblk3, idx3 t])) (blk_of h2 (t.val / 16) (t.val % 16) (e := by intro i j; blk_point [iblk3, idx3 t])) (blk_of h3 (t.val / 16) (t.val % 16 - 1) (e := by intro i j; blk_point [iblk3, idx3 t])) (blk_of h4 (t.val / 16) (t.val % 16) (e := by intro i j; blk_point [iblk3, idx3 t])) (grid3.coords t)).at y).trans ?_
  rw [(idx3 t).2.2.2.2.2.2.1, (idx3 t).2.2.2.2.2.2.2]
  exact congrArg _ (lse_view (d := 4) (by decide) (by omega) (by omega) (y 0).isLt (y 1).isLt Q K)

theorem idx4 : ∀ t : Fin cfg4.N, win4_0.index t = ![t.val % 4, t.val / 4] ∧ win4_1.index t = ![t.val % 4 - 1, t.val / 4] ∧ win4_2.index t = ![t.val % 4, t.val / 4] ∧ win4_3.index t = ![t.val % 4 - 1, t.val / 4] ∧ win4_4.index t = ![t.val % 4, t.val / 4] ∧ win4_5.index t = ![t.val % 4, t.val / 4] ∧ win4_6.index t = ![t.val % 4, t.val / 4] ∧ (grid4.coords t 1).val = t.val % 4 :=
  (by decide +kernel : ∀ t : Fin grid4.N, _)

/-- The output the call at dilation 16 leaves. -/
theorem final4_o (h0 : @Holds 512 16384 (Z c main_v33) (view 16 Q)) (h1 : @Holds 512 16384 (Z c main_v34) (view 16 K)) (h2 : @Holds 512 16384 (Z c main_v35) (view 16 K)) (h3 : @Holds 512 16384 (Z c main_v36) (view 16 V)) (h4 : @Holds 512 16384 (Z c main_v37) (view 16 V)) :
    @Holds 512 16384 ((dat4 Z c).arrAt 5 cfg4.N) (view 16 (byHead (oTok 16 Q K V))) := by
  refine Holds.of (congrFun ((dat4 Z c).arrAt_eq_of_covers 5 _ (by decide +kernel) fun t _ y => ?_))
  blk_simp; rw [after4_5]
  have ht : t.val < 64 := t.isLt
  refine ((out4_o (blk_of h0 (t.val / 4) (t.val % 4) (e := by intro i j; blk_point [iblk4, idx4 t])) (blk_of h1 (t.val / 4) (t.val % 4 - 1) (e := by intro i j; blk_point [iblk4, idx4 t])) (blk_of h2 (t.val / 4) (t.val % 4) (e := by intro i j; blk_point [iblk4, idx4 t])) (blk_of h3 (t.val / 4) (t.val % 4 - 1) (e := by intro i j; blk_point [iblk4, idx4 t])) (blk_of h4 (t.val / 4) (t.val % 4) (e := by intro i j; blk_point [iblk4, idx4 t])) (grid4.coords t)).at y).trans ?_
  rw [(idx4 t).2.2.2.2.2.1, (idx4 t).2.2.2.2.2.2.2]
  exact congrArg _ (o_view (d := 16) (by decide) (by omega) (by omega) (y 0).isLt (y 1).isLt Q K V)

/-- The log-denominators the call at dilation 16 leaves. -/
theorem final4_lse (h0 : @Holds 512 16384 (Z c main_v33) (view 16 Q)) (h1 : @Holds 512 16384 (Z c main_v34) (view 16 K)) (h2 : @Holds 512 16384 (Z c main_v35) (view 16 K)) (h3 : @Holds 512 16384 (Z c main_v36) (view 16 V)) (h4 : @Holds 512 16384 (Z c main_v37) (view 16 V)) :
    @Holds 512 16384 ((dat4 Z c).arrAt 6 cfg4.N) (view 16 (rows fun h t => Real.log (zTok 16 Q K h t))) := by
  refine Holds.of (congrFun ((dat4 Z c).arrAt_eq_of_covers 6 _ (by decide +kernel) fun t _ y => ?_))
  blk_simp; rw [after4_6]
  have ht : t.val < 64 := t.isLt
  refine ((out4_lse (blk_of h0 (t.val / 4) (t.val % 4) (e := by intro i j; blk_point [iblk4, idx4 t])) (blk_of h1 (t.val / 4) (t.val % 4 - 1) (e := by intro i j; blk_point [iblk4, idx4 t])) (blk_of h2 (t.val / 4) (t.val % 4) (e := by intro i j; blk_point [iblk4, idx4 t])) (blk_of h3 (t.val / 4) (t.val % 4 - 1) (e := by intro i j; blk_point [iblk4, idx4 t])) (blk_of h4 (t.val / 4) (t.val % 4) (e := by intro i j; blk_point [iblk4, idx4 t])) (grid4.coords t)).at y).trans ?_
  rw [(idx4 t).2.2.2.2.2.2.1, (idx4 t).2.2.2.2.2.2.2]
  exact congrArg _ (lse_view (d := 16) (by decide) (by omega) (by omega) (y 0).isLt (y 1).isLt Q K)

theorem idx7 : ∀ t : Fin cfg7.N, win7_0.index t = ![t.val % 64, t.val / 64] ∧ win7_1.index t = ![t.val % 64 - 1, t.val / 64] ∧ win7_2.index t = ![t.val % 64, t.val / 64] ∧ win7_3.index t = ![t.val % 64 - 1, t.val / 64] ∧ win7_4.index t = ![t.val % 64, t.val / 64] ∧ win7_5.index t = ![t.val % 64, t.val / 64] ∧ win7_6.index t = ![t.val % 64, t.val / 64] ∧ win7_7.index t = ![t.val % 64, t.val / 64] ∧ win7_8.index t = ![t.val % 64, t.val / 64] ∧ (grid7.coords t 1).val = t.val % 64 :=
  (by decide +kernel : ∀ t : Fin grid7.N, _)

/-- The gradient of the queries the call at dilation 1 leaves. -/
theorem final7_dq (h0 : @Holds 8192 1024 (Z c main_v22) (view 1 Q)) (h1 : @Holds 8192 1024 (Z c main_v23) (view 1 K)) (h3 : @Holds 8192 1024 (Z c main_arg2) (view 1 V)) (h5 : @Holds 8192 1024 (Z c main_arg5) (view 1 G)) (h6 : @Holds 8192 1024 (Z c main_v41_1) (view 1 (rows M))) (h7 : @Holds 8192 1024 (Z c main_v42) (view 1 (rows D))) :
    @Holds 8192 1024 ((dat7 Z c).arrAt 8 cfg7.N) (view 1 (byHead (dqTok 1 Q K V G M D))) := by
  refine Holds.of (congrFun ((dat7 Z c).arrAt_eq_of_covers 8 _ (by decide +kernel) fun t _ y => ?_))
  blk_simp; rw [after7_8]
  have ht : t.val < 64 := t.isLt
  refine ((out7_dq (blk_of h0 (t.val / 64) (t.val % 64) (e := by intro i j; blk_point [iblk7, idx7 t])) (blk_of h1 (t.val / 64) (t.val % 64 - 1) (e := by intro i j; blk_point [iblk7, idx7 t])) (blk_of h1 (t.val / 64) (t.val % 64) (e := by intro i j; blk_point [iblk7, idx7 t])) (blk_of h3 (t.val / 64) (t.val % 64 - 1) (e := by intro i j; blk_point [iblk7, idx7 t])) (blk_of h3 (t.val / 64) (t.val % 64) (e := by intro i j; blk_point [iblk7, idx7 t])) (blk_of h5 (t.val / 64) (t.val % 64) (e := by intro i j; blk_point [iblk7, idx7 t])) (blk_of h6 (t.val / 64) (t.val % 64) (e := by intro i j; blk_point [iblk7, idx7 t])) (blk_of h7 (t.val / 64) (t.val % 64) (e := by intro i j; blk_point [iblk7, idx7 t])) (grid7.coords t)).at y).trans ?_
  rw [(idx7 t).2.2.2.2.2.2.2.2.1, (idx7 t).2.2.2.2.2.2.2.2.2]
  exact congrArg _ (dq_view (d := 1) (by decide) (by omega) (by omega) (y 0).isLt (y 1).isLt Q K V G M D)

theorem idx9 : ∀ t : Fin cfg9.N, win9_0.index t = ![t.val % 16, t.val / 16] ∧ win9_1.index t = ![t.val % 16 - 1, t.val / 16] ∧ win9_2.index t = ![t.val % 16, t.val / 16] ∧ win9_3.index t = ![t.val % 16 - 1, t.val / 16] ∧ win9_4.index t = ![t.val % 16, t.val / 16] ∧ win9_5.index t = ![t.val % 16, t.val / 16] ∧ win9_6.index t = ![t.val % 16, t.val / 16] ∧ win9_7.index t = ![t.val % 16, t.val / 16] ∧ win9_8.index t = ![t.val % 16, t.val / 16] ∧ (grid9.coords t 1).val = t.val % 16 :=
  (by decide +kernel : ∀ t : Fin grid9.N, _)

/-- The gradient of the queries the call at dilation 4 leaves. -/
theorem final9_dq (h0 : @Holds 2048 4096 (Z c main_v47) (view 4 Q)) (h1 : @Holds 2048 4096 (Z c main_v45) (view 4 K)) (h3 : @Holds 2048 4096 (Z c main_v46) (view 4 V)) (h5 : @Holds 2048 4096 (Z c main_v48) (view 4 G)) (h6 : @Holds 2048 4096 (Z c main_v49) (view 4 (rows M))) (h7 : @Holds 2048 4096 (Z c main_v50) (view 4 (rows D))) :
    @Holds 2048 4096 ((dat9 Z c).arrAt 8 cfg9.N) (view 4 (byHead (dqTok 4 Q K V G M D))) := by
  refine Holds.of (congrFun ((dat9 Z c).arrAt_eq_of_covers 8 _ (by decide +kernel) fun t _ y => ?_))
  blk_simp; rw [after9_8]
  have ht : t.val < 64 := t.isLt
  refine ((out9_dq (blk_of h0 (t.val / 16) (t.val % 16) (e := by intro i j; blk_point [iblk9, idx9 t])) (blk_of h1 (t.val / 16) (t.val % 16 - 1) (e := by intro i j; blk_point [iblk9, idx9 t])) (blk_of h1 (t.val / 16) (t.val % 16) (e := by intro i j; blk_point [iblk9, idx9 t])) (blk_of h3 (t.val / 16) (t.val % 16 - 1) (e := by intro i j; blk_point [iblk9, idx9 t])) (blk_of h3 (t.val / 16) (t.val % 16) (e := by intro i j; blk_point [iblk9, idx9 t])) (blk_of h5 (t.val / 16) (t.val % 16) (e := by intro i j; blk_point [iblk9, idx9 t])) (blk_of h6 (t.val / 16) (t.val % 16) (e := by intro i j; blk_point [iblk9, idx9 t])) (blk_of h7 (t.val / 16) (t.val % 16) (e := by intro i j; blk_point [iblk9, idx9 t])) (grid9.coords t)).at y).trans ?_
  rw [(idx9 t).2.2.2.2.2.2.2.2.1, (idx9 t).2.2.2.2.2.2.2.2.2]
  exact congrArg _ (dq_view (d := 4) (by decide) (by omega) (by omega) (y 0).isLt (y 1).isLt Q K V G M D)

theorem idx11 : ∀ t : Fin cfg11.N, win11_0.index t = ![t.val % 4, t.val / 4] ∧ win11_1.index t = ![t.val % 4 - 1, t.val / 4] ∧ win11_2.index t = ![t.val % 4, t.val / 4] ∧ win11_3.index t = ![t.val % 4 - 1, t.val / 4] ∧ win11_4.index t = ![t.val % 4, t.val / 4] ∧ win11_5.index t = ![t.val % 4, t.val / 4] ∧ win11_6.index t = ![t.val % 4, t.val / 4] ∧ win11_7.index t = ![t.val % 4, t.val / 4] ∧ win11_8.index t = ![t.val % 4, t.val / 4] ∧ (grid11.coords t 1).val = t.val % 4 :=
  (by decide +kernel : ∀ t : Fin grid11.N, _)

/-- The gradient of the queries the call at dilation 16 leaves. -/
theorem final11_dq (h0 : @Holds 512 16384 (Z c main_v64) (view 16 Q)) (h1 : @Holds 512 16384 (Z c main_v62) (view 16 K)) (h3 : @Holds 512 16384 (Z c main_v63) (view 16 V)) (h5 : @Holds 512 16384 (Z c main_v65) (view 16 G)) (h6 : @Holds 512 16384 (Z c main_v66) (view 16 (rows M))) (h7 : @Holds 512 16384 (Z c main_v67) (view 16 (rows D))) :
    @Holds 512 16384 ((dat11 Z c).arrAt 8 cfg11.N) (view 16 (byHead (dqTok 16 Q K V G M D))) := by
  refine Holds.of (congrFun ((dat11 Z c).arrAt_eq_of_covers 8 _ (by decide +kernel) fun t _ y => ?_))
  blk_simp; rw [after11_8]
  have ht : t.val < 64 := t.isLt
  refine ((out11_dq (blk_of h0 (t.val / 4) (t.val % 4) (e := by intro i j; blk_point [iblk11, idx11 t])) (blk_of h1 (t.val / 4) (t.val % 4 - 1) (e := by intro i j; blk_point [iblk11, idx11 t])) (blk_of h1 (t.val / 4) (t.val % 4) (e := by intro i j; blk_point [iblk11, idx11 t])) (blk_of h3 (t.val / 4) (t.val % 4 - 1) (e := by intro i j; blk_point [iblk11, idx11 t])) (blk_of h3 (t.val / 4) (t.val % 4) (e := by intro i j; blk_point [iblk11, idx11 t])) (blk_of h5 (t.val / 4) (t.val % 4) (e := by intro i j; blk_point [iblk11, idx11 t])) (blk_of h6 (t.val / 4) (t.val % 4) (e := by intro i j; blk_point [iblk11, idx11 t])) (blk_of h7 (t.val / 4) (t.val % 4) (e := by intro i j; blk_point [iblk11, idx11 t])) (grid11.coords t)).at y).trans ?_
  rw [(idx11 t).2.2.2.2.2.2.2.2.1, (idx11 t).2.2.2.2.2.2.2.2.2]
  exact congrArg _ (dq_view (d := 16) (by decide) (by omega) (by omega) (y 0).isLt (y 1).isLt Q K V G M D)

theorem idx8 : ∀ t : Fin cfg8.N, win8_0.index t = ![t.val % 64, t.val / 64] ∧ win8_1.index t = ![t.val % 64, t.val / 64] ∧ win8_2.index t = ![t.val % 64, t.val / 64] ∧ win8_3.index t = ![min (t.val % 64 + 1) 63, t.val / 64] ∧ win8_4.index t = ![t.val % 64, t.val / 64] ∧ win8_5.index t = ![min (t.val % 64 + 1) 63, t.val / 64] ∧ win8_6.index t = ![t.val % 64, t.val / 64] ∧ win8_7.index t = ![min (t.val % 64 + 1) 63, t.val / 64] ∧ win8_8.index t = ![t.val % 64, t.val / 64] ∧ win8_9.index t = ![min (t.val % 64 + 1) 63, t.val / 64] ∧ win8_10.index t = ![t.val % 64, t.val / 64] ∧ win8_11.index t = ![t.val % 64, t.val / 64] ∧ (grid8.coords t 1).val = t.val % 64 :=
  (by decide +kernel : ∀ t : Fin grid8.N, _)

/-- The gradient of the keys the call at dilation 1 leaves. -/
theorem final8_dk (h0 : @Holds 8192 1024 (Z c main_v23) (view 1 K)) (h1 : @Holds 8192 1024 (Z c main_arg2) (view 1 V)) (h2 : @Holds 8192 1024 (Z c main_v22) (view 1 Q)) (h4 : @Holds 8192 1024 (Z c main_arg5) (view 1 G)) (h6 : @Holds 8192 1024 (Z c main_v41_1) (view 1 (rows M))) (h8 : @Holds 8192 1024 (Z c main_v42) (view 1 (rows D))) :
    @Holds 8192 1024 ((dat8 Z c).arrAt 10 cfg8.N) (view 1 (byHead (dkTok 1 Q K V G M D))) := by
  refine Holds.of (congrFun ((dat8 Z c).arrAt_eq_of_covers 10 _ (by decide +kernel) fun t _ y => ?_))
  blk_simp; rw [after8_10]
  have ht : t.val < 64 := t.isLt
  refine ((out8_dk (blk_of h0 (t.val / 64) (t.val % 64) (e := by intro i j; blk_point [iblk8, idx8 t])) (blk_of h1 (t.val / 64) (t.val % 64) (e := by intro i j; blk_point [iblk8, idx8 t])) (blk_of h2 (t.val / 64) (t.val % 64) (e := by intro i j; blk_point [iblk8, idx8 t])) (blk_of h2 (t.val / 64) (min (t.val % 64 + 1) 63) (e := by intro i j; blk_point [iblk8, idx8 t])) (blk_of h4 (t.val / 64) (t.val % 64) (e := by intro i j; blk_point [iblk8, idx8 t])) (blk_of h4 (t.val / 64) (min (t.val % 64 + 1) 63) (e := by intro i j; blk_point [iblk8, idx8 t])) (blk_of h6 (t.val / 64) (t.val % 64) (e := by intro i j; blk_point [iblk8, idx8 t])) (blk_of h6 (t.val / 64) (min (t.val % 64 + 1) 63) (e := by intro i j; blk_point [iblk8, idx8 t])) (blk_of h8 (t.val / 64) (t.val % 64) (e := by intro i j; blk_point [iblk8, idx8 t])) (blk_of h8 (t.val / 64) (min (t.val % 64 + 1) 63) (e := by intro i j; blk_point [iblk8, idx8 t])) (grid8.coords t)).at y).trans ?_
  rw [(idx8 t).2.2.2.2.2.2.2.2.2.2.1, (idx8 t).2.2.2.2.2.2.2.2.2.2.2.2]
  exact congrArg _ (dk_view (d := 1) (by decide) (by omega) (by omega) (y 0).isLt (y 1).isLt Q K V G M D)

/-- The gradient of the values the call at dilation 1 leaves. -/
theorem final8_dv (h0 : @Holds 8192 1024 (Z c main_v23) (view 1 K)) (h1 : @Holds 8192 1024 (Z c main_arg2) (view 1 V)) (h2 : @Holds 8192 1024 (Z c main_v22) (view 1 Q)) (h4 : @Holds 8192 1024 (Z c main_arg5) (view 1 G)) (h6 : @Holds 8192 1024 (Z c main_v41_1) (view 1 (rows M))) (h8 : @Holds 8192 1024 (Z c main_v42) (view 1 (rows D))) :
    @Holds 8192 1024 ((dat8 Z c).arrAt 11 cfg8.N) (view 1 (byHead (dvTok 1 Q K G M))) := by
  refine Holds.of (congrFun ((dat8 Z c).arrAt_eq_of_covers 11 _ (by decide +kernel) fun t _ y => ?_))
  blk_simp; rw [after8_11]
  have ht : t.val < 64 := t.isLt
  refine ((out8_dv (blk_of h0 (t.val / 64) (t.val % 64) (e := by intro i j; blk_point [iblk8, idx8 t])) (blk_of h1 (t.val / 64) (t.val % 64) (e := by intro i j; blk_point [iblk8, idx8 t])) (blk_of h2 (t.val / 64) (t.val % 64) (e := by intro i j; blk_point [iblk8, idx8 t])) (blk_of h2 (t.val / 64) (min (t.val % 64 + 1) 63) (e := by intro i j; blk_point [iblk8, idx8 t])) (blk_of h4 (t.val / 64) (t.val % 64) (e := by intro i j; blk_point [iblk8, idx8 t])) (blk_of h4 (t.val / 64) (min (t.val % 64 + 1) 63) (e := by intro i j; blk_point [iblk8, idx8 t])) (blk_of h6 (t.val / 64) (t.val % 64) (e := by intro i j; blk_point [iblk8, idx8 t])) (blk_of h6 (t.val / 64) (min (t.val % 64 + 1) 63) (e := by intro i j; blk_point [iblk8, idx8 t])) (blk_of h8 (t.val / 64) (t.val % 64) (e := by intro i j; blk_point [iblk8, idx8 t])) (blk_of h8 (t.val / 64) (min (t.val % 64 + 1) 63) (e := by intro i j; blk_point [iblk8, idx8 t])) (grid8.coords t)).at y).trans ?_
  rw [(idx8 t).2.2.2.2.2.2.2.2.2.2.2.1, (idx8 t).2.2.2.2.2.2.2.2.2.2.2.2]
  exact congrArg _ (dv_view (d := 1) (by decide) (by omega) (by omega) (y 0).isLt (y 1).isLt Q K G M)

theorem idx10 : ∀ t : Fin cfg10.N, win10_0.index t = ![t.val % 16, t.val / 16] ∧ win10_1.index t = ![t.val % 16, t.val / 16] ∧ win10_2.index t = ![t.val % 16, t.val / 16] ∧ win10_3.index t = ![min (t.val % 16 + 1) 15, t.val / 16] ∧ win10_4.index t = ![t.val % 16, t.val / 16] ∧ win10_5.index t = ![min (t.val % 16 + 1) 15, t.val / 16] ∧ win10_6.index t = ![t.val % 16, t.val / 16] ∧ win10_7.index t = ![min (t.val % 16 + 1) 15, t.val / 16] ∧ win10_8.index t = ![t.val % 16, t.val / 16] ∧ win10_9.index t = ![min (t.val % 16 + 1) 15, t.val / 16] ∧ win10_10.index t = ![t.val % 16, t.val / 16] ∧ win10_11.index t = ![t.val % 16, t.val / 16] ∧ (grid10.coords t 1).val = t.val % 16 :=
  (by decide +kernel : ∀ t : Fin grid10.N, _)

/-- The gradient of the keys the call at dilation 4 leaves. -/
theorem final10_dk (h0 : @Holds 2048 4096 (Z c main_v57) (view 4 K)) (h1 : @Holds 2048 4096 (Z c main_v58) (view 4 V)) (h2 : @Holds 2048 4096 (Z c main_v53) (view 4 Q)) (h4 : @Holds 2048 4096 (Z c main_v54) (view 4 G)) (h6 : @Holds 2048 4096 (Z c main_v55) (view 4 (rows M))) (h8 : @Holds 2048 4096 (Z c main_v56) (view 4 (rows D))) :
    @Holds 2048 4096 ((dat10 Z c).arrAt 10 cfg10.N) (view 4 (byHead (dkTok 4 Q K V G M D))) := by
  refine Holds.of (congrFun ((dat10 Z c).arrAt_eq_of_covers 10 _ (by decide +kernel) fun t _ y => ?_))
  blk_simp; rw [after10_10]
  have ht : t.val < 64 := t.isLt
  refine ((out10_dk (blk_of h0 (t.val / 16) (t.val % 16) (e := by intro i j; blk_point [iblk10, idx10 t])) (blk_of h1 (t.val / 16) (t.val % 16) (e := by intro i j; blk_point [iblk10, idx10 t])) (blk_of h2 (t.val / 16) (t.val % 16) (e := by intro i j; blk_point [iblk10, idx10 t])) (blk_of h2 (t.val / 16) (min (t.val % 16 + 1) 15) (e := by intro i j; blk_point [iblk10, idx10 t])) (blk_of h4 (t.val / 16) (t.val % 16) (e := by intro i j; blk_point [iblk10, idx10 t])) (blk_of h4 (t.val / 16) (min (t.val % 16 + 1) 15) (e := by intro i j; blk_point [iblk10, idx10 t])) (blk_of h6 (t.val / 16) (t.val % 16) (e := by intro i j; blk_point [iblk10, idx10 t])) (blk_of h6 (t.val / 16) (min (t.val % 16 + 1) 15) (e := by intro i j; blk_point [iblk10, idx10 t])) (blk_of h8 (t.val / 16) (t.val % 16) (e := by intro i j; blk_point [iblk10, idx10 t])) (blk_of h8 (t.val / 16) (min (t.val % 16 + 1) 15) (e := by intro i j; blk_point [iblk10, idx10 t])) (grid10.coords t)).at y).trans ?_
  rw [(idx10 t).2.2.2.2.2.2.2.2.2.2.1, (idx10 t).2.2.2.2.2.2.2.2.2.2.2.2]
  exact congrArg _ (dk_view (d := 4) (by decide) (by omega) (by omega) (y 0).isLt (y 1).isLt Q K V G M D)

/-- The gradient of the values the call at dilation 4 leaves. -/
theorem final10_dv (h0 : @Holds 2048 4096 (Z c main_v57) (view 4 K)) (h1 : @Holds 2048 4096 (Z c main_v58) (view 4 V)) (h2 : @Holds 2048 4096 (Z c main_v53) (view 4 Q)) (h4 : @Holds 2048 4096 (Z c main_v54) (view 4 G)) (h6 : @Holds 2048 4096 (Z c main_v55) (view 4 (rows M))) (h8 : @Holds 2048 4096 (Z c main_v56) (view 4 (rows D))) :
    @Holds 2048 4096 ((dat10 Z c).arrAt 11 cfg10.N) (view 4 (byHead (dvTok 4 Q K G M))) := by
  refine Holds.of (congrFun ((dat10 Z c).arrAt_eq_of_covers 11 _ (by decide +kernel) fun t _ y => ?_))
  blk_simp; rw [after10_11]
  have ht : t.val < 64 := t.isLt
  refine ((out10_dv (blk_of h0 (t.val / 16) (t.val % 16) (e := by intro i j; blk_point [iblk10, idx10 t])) (blk_of h1 (t.val / 16) (t.val % 16) (e := by intro i j; blk_point [iblk10, idx10 t])) (blk_of h2 (t.val / 16) (t.val % 16) (e := by intro i j; blk_point [iblk10, idx10 t])) (blk_of h2 (t.val / 16) (min (t.val % 16 + 1) 15) (e := by intro i j; blk_point [iblk10, idx10 t])) (blk_of h4 (t.val / 16) (t.val % 16) (e := by intro i j; blk_point [iblk10, idx10 t])) (blk_of h4 (t.val / 16) (min (t.val % 16 + 1) 15) (e := by intro i j; blk_point [iblk10, idx10 t])) (blk_of h6 (t.val / 16) (t.val % 16) (e := by intro i j; blk_point [iblk10, idx10 t])) (blk_of h6 (t.val / 16) (min (t.val % 16 + 1) 15) (e := by intro i j; blk_point [iblk10, idx10 t])) (blk_of h8 (t.val / 16) (t.val % 16) (e := by intro i j; blk_point [iblk10, idx10 t])) (blk_of h8 (t.val / 16) (min (t.val % 16 + 1) 15) (e := by intro i j; blk_point [iblk10, idx10 t])) (grid10.coords t)).at y).trans ?_
  rw [(idx10 t).2.2.2.2.2.2.2.2.2.2.2.1, (idx10 t).2.2.2.2.2.2.2.2.2.2.2.2]
  exact congrArg _ (dv_view (d := 4) (by decide) (by omega) (by omega) (y 0).isLt (y 1).isLt Q K G M)

theorem idx12 : ∀ t : Fin cfg12.N, win12_0.index t = ![t.val % 4, t.val / 4] ∧ win12_1.index t = ![t.val % 4, t.val / 4] ∧ win12_2.index t = ![t.val % 4, t.val / 4] ∧ win12_3.index t = ![min (t.val % 4 + 1) 3, t.val / 4] ∧ win12_4.index t = ![t.val % 4, t.val / 4] ∧ win12_5.index t = ![min (t.val % 4 + 1) 3, t.val / 4] ∧ win12_6.index t = ![t.val % 4, t.val / 4] ∧ win12_7.index t = ![min (t.val % 4 + 1) 3, t.val / 4] ∧ win12_8.index t = ![t.val % 4, t.val / 4] ∧ win12_9.index t = ![min (t.val % 4 + 1) 3, t.val / 4] ∧ win12_10.index t = ![t.val % 4, t.val / 4] ∧ win12_11.index t = ![t.val % 4, t.val / 4] ∧ (grid12.coords t 1).val = t.val % 4 :=
  (by decide +kernel : ∀ t : Fin grid12.N, _)

/-- The gradient of the keys the call at dilation 16 leaves. -/
theorem final12_dk (h0 : @Holds 512 16384 (Z c main_v74) (view 16 K)) (h1 : @Holds 512 16384 (Z c main_v75) (view 16 V)) (h2 : @Holds 512 16384 (Z c main_v70) (view 16 Q)) (h4 : @Holds 512 16384 (Z c main_v71) (view 16 G)) (h6 : @Holds 512 16384 (Z c main_v72) (view 16 (rows M))) (h8 : @Holds 512 16384 (Z c main_v73) (view 16 (rows D))) :
    @Holds 512 16384 ((dat12 Z c).arrAt 10 cfg12.N) (view 16 (byHead (dkTok 16 Q K V G M D))) := by
  refine Holds.of (congrFun ((dat12 Z c).arrAt_eq_of_covers 10 _ (by decide +kernel) fun t _ y => ?_))
  blk_simp; rw [after12_10]
  have ht : t.val < 64 := t.isLt
  refine ((out12_dk (blk_of h0 (t.val / 4) (t.val % 4) (e := by intro i j; blk_point [iblk12, idx12 t])) (blk_of h1 (t.val / 4) (t.val % 4) (e := by intro i j; blk_point [iblk12, idx12 t])) (blk_of h2 (t.val / 4) (t.val % 4) (e := by intro i j; blk_point [iblk12, idx12 t])) (blk_of h2 (t.val / 4) (min (t.val % 4 + 1) 3) (e := by intro i j; blk_point [iblk12, idx12 t])) (blk_of h4 (t.val / 4) (t.val % 4) (e := by intro i j; blk_point [iblk12, idx12 t])) (blk_of h4 (t.val / 4) (min (t.val % 4 + 1) 3) (e := by intro i j; blk_point [iblk12, idx12 t])) (blk_of h6 (t.val / 4) (t.val % 4) (e := by intro i j; blk_point [iblk12, idx12 t])) (blk_of h6 (t.val / 4) (min (t.val % 4 + 1) 3) (e := by intro i j; blk_point [iblk12, idx12 t])) (blk_of h8 (t.val / 4) (t.val % 4) (e := by intro i j; blk_point [iblk12, idx12 t])) (blk_of h8 (t.val / 4) (min (t.val % 4 + 1) 3) (e := by intro i j; blk_point [iblk12, idx12 t])) (grid12.coords t)).at y).trans ?_
  rw [(idx12 t).2.2.2.2.2.2.2.2.2.2.1, (idx12 t).2.2.2.2.2.2.2.2.2.2.2.2]
  exact congrArg _ (dk_view (d := 16) (by decide) (by omega) (by omega) (y 0).isLt (y 1).isLt Q K V G M D)

/-- The gradient of the values the call at dilation 16 leaves. -/
theorem final12_dv (h0 : @Holds 512 16384 (Z c main_v74) (view 16 K)) (h1 : @Holds 512 16384 (Z c main_v75) (view 16 V)) (h2 : @Holds 512 16384 (Z c main_v70) (view 16 Q)) (h4 : @Holds 512 16384 (Z c main_v71) (view 16 G)) (h6 : @Holds 512 16384 (Z c main_v72) (view 16 (rows M))) (h8 : @Holds 512 16384 (Z c main_v73) (view 16 (rows D))) :
    @Holds 512 16384 ((dat12 Z c).arrAt 11 cfg12.N) (view 16 (byHead (dvTok 16 Q K G M))) := by
  refine Holds.of (congrFun ((dat12 Z c).arrAt_eq_of_covers 11 _ (by decide +kernel) fun t _ y => ?_))
  blk_simp; rw [after12_11]
  have ht : t.val < 64 := t.isLt
  refine ((out12_dv (blk_of h0 (t.val / 4) (t.val % 4) (e := by intro i j; blk_point [iblk12, idx12 t])) (blk_of h1 (t.val / 4) (t.val % 4) (e := by intro i j; blk_point [iblk12, idx12 t])) (blk_of h2 (t.val / 4) (t.val % 4) (e := by intro i j; blk_point [iblk12, idx12 t])) (blk_of h2 (t.val / 4) (min (t.val % 4 + 1) 3) (e := by intro i j; blk_point [iblk12, idx12 t])) (blk_of h4 (t.val / 4) (t.val % 4) (e := by intro i j; blk_point [iblk12, idx12 t])) (blk_of h4 (t.val / 4) (min (t.val % 4 + 1) 3) (e := by intro i j; blk_point [iblk12, idx12 t])) (blk_of h6 (t.val / 4) (t.val % 4) (e := by intro i j; blk_point [iblk12, idx12 t])) (blk_of h6 (t.val / 4) (min (t.val % 4 + 1) 3) (e := by intro i j; blk_point [iblk12, idx12 t])) (blk_of h8 (t.val / 4) (t.val % 4) (e := by intro i j; blk_point [iblk12, idx12 t])) (blk_of h8 (t.val / 4) (min (t.val % 4 + 1) 3) (e := by intro i j; blk_point [iblk12, idx12 t])) (grid12.coords t)).at y).trans ?_
  rw [(idx12 t).2.2.2.2.2.2.2.2.2.2.2.1, (idx12 t).2.2.2.2.2.2.2.2.2.2.2.2]
  exact congrArg _ (dv_view (d := 16) (by decide) (by omega) (by omega) (y 0).isLt (y 1).isLt Q K G M)

end Cert.Kernel2Ideal.Value
end
-- ==== Proof.Dil.Rot.lean ====
/- The rotary calls of the dilated attention and the rotation of its summed gradients, over arrays of real numbers. -/
module

public import proofs.«01_k».proof.Proof.Attn.Rot
public import proofs.«01_k».proof.Proof.Gen.Kernel2Ideal.Frame

@[expose] public section

set_option maxRecDepth 16384

noncomputable section

open Idealize.ShloMosaic Idealize.ShloMosaic.TcCoe Idealize.SL.Sem

namespace Cert.Dil

/-- A row's rotation: the entry itself, the one 16 places before it and the one 16 places after it, each with its table. -/
def turned (X A B C : ℕ → ℕ → ℝ) (i j : ℕ) : ℝ := X i j * A i j + X i ((j + 112) % 128) * B i j + X i ((j + 16) % 128) * C i j

/-- Every head's 128 entries rotated. -/
def headsTurned (X A B C : ℕ → ℕ → ℝ) (r j : ℕ) : ℝ := turned (fun r e => X r (128 * (j / 128) + e)) A B C r (j % 128)

/-- The sum of three arrays. -/
def sum3 (X Y Z : ℕ → ℕ → ℝ) (i j : ℕ) : ℝ := X i j + Y i j + Z i j

theorem same_rows {x : FVec Ideal ⟨2, ![256, 128]⟩ .f32} {A : ℕ → ℕ → ℝ} (h : @Cert.Attn.Holds 256 128 x fun i j => A (0 + i) (0 + j)) : @Cert.Attn.Holds 256 128 x A :=
  h.congr (by intro i _ j _; rw [Nat.zero_add, Nat.zero_add])

end Cert.Dil

namespace Cert.Kernel2Ideal.Value
open Cert.Kernel2Ideal Cert.Kernel2Ideal.Gen Cert.Attn Cert.Dil

/-- The rotation of a tile. -/
theorem turn {x : FVec Ideal S256x128 .bf16} {a b c : FVec Ideal S256x128 .f32} {X A B C : ℕ → ℕ → ℝ} (hx : @Holds 256 128 x X) (ha : @Holds 256 128 a A)
    (hb : @Holds 256 128 b B) (hc : @Holds 256 128 c C) :
    @Holds 256 128 (k0_pay1 (F := Ideal) x a b c) (turned X A B C) := by
  intro i j
  pointwise [k0_pay1]
  rw [hx, hx, hx, ha, hb, hc, ← EReal.coe_mul, ← EReal.coe_mul, ← EReal.coe_mul, ← EReal.coe_add, ← EReal.coe_add]
  simp only [turned]
  rw [show j.val + 128 - 16 = j.val + 112 by omega, show j.val + 128 - 112 = j.val + 16 by omega]

/-- The rotation of the sum of three tiles. -/
theorem turn_sum {x y z : FVec Ideal S256x128 .bf16} {a b c : FVec Ideal S256x128 .f32} {X Y Z A B C : ℕ → ℕ → ℝ} (hx : @Holds 256 128 x X)
    (hy : @Holds 256 128 y Y) (hz : @Holds 256 128 z Z) (ha : @Holds 256 128 a A)
    (hb : @Holds 256 128 b B) (hc : @Holds 256 128 c C) :
    @Holds 256 128 (k13_pay1 (F := Ideal) x y z a b c) (turned (sum3 X Y Z) A B C) := by
  intro i j
  pointwise [k13_pay1]
  simp only [hx.at, hy.at, hz.at, ha.at, hb.at, hc.at, ← EReal.coe_mul, ← EReal.coe_add]
  refine congrArg _ ?_
  simp only [turned, sum3]
  rw [show j.val + 112 = j.val + 128 - 16 by omega, show j.val + 16 = j.val + 128 - 112 by omega]
  rfl

theorem head_turn {v a b c : _} {X A B C : ℕ → ℕ → ℝ} (k : ℕ) (hv : @Holds 256 128 v fun i j => X (0 + i) (128 * k + j)) (ha : @Holds 256 128 a A)
    (hb : @Holds 256 128 b B) (hc : @Holds 256 128 c C) (i : Fin 256) (j : Fin 128) :
    k0_pay1 (F := Ideal) v a b c (ix2 i j) = ((headsTurned X A B C (0 + i.val) (128 * k + j.val) : ℝ) : EReal) := by
  have hj := j.isLt
  refine (turn hv ha hb hc i j).trans ?_
  simp only [headsTurned, turned, Nat.zero_add]
  rw [show (128 * k + j.val) / 128 = k by omega, show (128 * k + j.val) % 128 = j.val by omega]

theorem head_turn_sum {x y z a b c : _} {X Y Z A B C : ℕ → ℕ → ℝ} (k : ℕ) (hx : @Holds 256 128 x fun i j => X (0 + i) (128 * k + j))
    (hy : @Holds 256 128 y fun i j => Y (0 + i) (128 * k + j)) (hz : @Holds 256 128 z fun i j => Z (0 + i) (128 * k + j)) (ha : @Holds 256 128 a A)
    (hb : @Holds 256 128 b B) (hc : @Holds 256 128 c C) (i : Fin 256) (j : Fin 128) :
    k13_pay1 (F := Ideal) x y z a b c (ix2 i j) = ((headsTurned (sum3 X Y Z) A B C (0 + i.val) (128 * k + j.val) : ℝ) : EReal) := by
  have hj := j.isLt
  refine (turn_sum hx hy hz ha hb hc i j).trans ?_
  simp only [headsTurned, turned, sum3, Nat.zero_add]
  rw [show (128 * k + j.val) / 128 = k by omega, show (128 * k + j.val) % 128 = j.val by omega]

/-- What a rotary call leaves in a block. -/
theorem out0 {x : FVec Ideal S256x1024 .bf16} {a b c : FVec Ideal S256x128 .f32} {X A B C : ℕ → ℕ → ℝ} (hx : @Holds 256 1024 x X) (ha : @Holds 256 128 a A) (hb : @Holds 256 128 b B) (hc : @Holds 256 128 c C) :
    @Holds 256 1024 (out0_4 (F := Ideal) x a b c) (headsTurned X A B C) := by
  refine Holds.of fun w => View.canon_eq_of_allAt _ w _ (cover0_4 _ _ _ _ _ _ _ _ w) ?_
  have ha' := same_rows (ha.window (k := 256) (l := 128) 0 0 inb_S256x128_S256x128_0_0 rfl)
  have hb' := same_rows (hb.window (k := 256) (l := 128) 0 0 inb_S256x128_S256x128_0_0 rfl)
  have hc' := same_rows (hc.window (k := 256) (l := 128) 0 0 inb_S256x128_S256x128_0_0 rfl)
  let g : ℕ → ℕ → Elt Ideal .bf16 := fun i j => ((headsTurned X A B C i j : ℝ) : EReal)
  refine pieces_cons g 0 896 _ rfl _ (head_turn 7 (hx.window 0 896 inb_S256x1024_S256x128_0_896 rfl) ha' hb' hc')
    (pieces_cons g 0 768 _ rfl _ (head_turn 6 (hx.window 0 768 inb_S256x1024_S256x128_0_768 rfl) ha' hb' hc')
    (pieces_cons g 0 640 _ rfl _ (head_turn 5 (hx.window 0 640 inb_S256x1024_S256x128_0_640 rfl) ha' hb' hc')
    (pieces_cons g 0 512 _ rfl _ (head_turn 4 (hx.window 0 512 inb_S256x1024_S256x128_0_512 rfl) ha' hb' hc')
    (pieces_cons g 0 384 _ rfl _ (head_turn 3 (hx.window 0 384 inb_S256x1024_S256x128_0_384 rfl) ha' hb' hc')
    (pieces_cons g 0 256 _ rfl _ (head_turn 2 (hx.window 0 256 inb_S256x1024_S256x128_0_256 rfl) ha' hb' hc')
    (pieces_cons g 0 128 _ rfl _ (head_turn 1 (hx.window 0 128 inb_S256x1024_S256x128_0_128 rfl) ha' hb' hc')
    (pieces_cons g 0 0 _ rfl _ (head_turn 0 (hx.window 0 0 inb_S256x1024_S256x128_0_0 rfl) ha' hb' hc')
    (fun y => View.allAt_nil y _)))))))) w

/-- What a call that sums three gradients and rotates the sum leaves in a block. -/
theorem out13 {x y z : FVec Ideal S256x1024 .bf16} {a b c : FVec Ideal S256x128 .f32} {X Y Z A B C : ℕ → ℕ → ℝ} (hx : @Holds 256 1024 x X) (hy : @Holds 256 1024 y Y) (hz : @Holds 256 1024 z Z) (ha : @Holds 256 128 a A) (hb : @Holds 256 128 b B) (hc : @Holds 256 128 c C) :
    @Holds 256 1024 (out13_6 (F := Ideal) x y z a b c) (headsTurned (sum3 X Y Z) A B C) := by
  refine Holds.of fun w => View.canon_eq_of_allAt _ w _ (cover13_6 _ _ _ _ _ _ _ _ w) ?_
  have ha' := same_rows (ha.window (k := 256) (l := 128) 0 0 inb_S256x128_S256x128_0_0 rfl)
  have hb' := same_rows (hb.window (k := 256) (l := 128) 0 0 inb_S256x128_S256x128_0_0 rfl)
  have hc' := same_rows (hc.window (k := 256) (l := 128) 0 0 inb_S256x128_S256x128_0_0 rfl)
  let g : ℕ → ℕ → Elt Ideal .bf16 := fun i j => ((headsTurned (sum3 X Y Z) A B C i j : ℝ) : EReal)
  refine pieces_cons g 0 896 _ rfl _ (head_turn_sum 7 (hx.window 0 896 inb_S256x1024_S256x128_0_896 rfl) (hy.window 0 896 inb_S256x1024_S256x128_0_896 rfl) (hz.window 0 896 inb_S256x1024_S256x128_0_896 rfl) ha' hb' hc')
    (pieces_cons g 0 768 _ rfl _ (head_turn_sum 6 (hx.window 0 768 inb_S256x1024_S256x128_0_768 rfl) (hy.window 0 768 inb_S256x1024_S256x128_0_768 rfl) (hz.window 0 768 inb_S256x1024_S256x128_0_768 rfl) ha' hb' hc')
    (pieces_cons g 0 640 _ rfl _ (head_turn_sum 5 (hx.window 0 640 inb_S256x1024_S256x128_0_640 rfl) (hy.window 0 640 inb_S256x1024_S256x128_0_640 rfl) (hz.window 0 640 inb_S256x1024_S256x128_0_640 rfl) ha' hb' hc')
    (pieces_cons g 0 512 _ rfl _ (head_turn_sum 4 (hx.window 0 512 inb_S256x1024_S256x128_0_512 rfl) (hy.window 0 512 inb_S256x1024_S256x128_0_512 rfl) (hz.window 0 512 inb_S256x1024_S256x128_0_512 rfl) ha' hb' hc')
    (pieces_cons g 0 384 _ rfl _ (head_turn_sum 3 (hx.window 0 384 inb_S256x1024_S256x128_0_384 rfl) (hy.window 0 384 inb_S256x1024_S256x128_0_384 rfl) (hz.window 0 384 inb_S256x1024_S256x128_0_384 rfl) ha' hb' hc')
    (pieces_cons g 0 256 _ rfl _ (head_turn_sum 2 (hx.window 0 256 inb_S256x1024_S256x128_0_256 rfl) (hy.window 0 256 inb_S256x1024_S256x128_0_256 rfl) (hz.window 0 256 inb_S256x1024_S256x128_0_256 rfl) ha' hb' hc')
    (pieces_cons g 0 128 _ rfl _ (head_turn_sum 1 (hx.window 0 128 inb_S256x1024_S256x128_0_128 rfl) (hy.window 0 128 inb_S256x1024_S256x128_0_128 rfl) (hz.window 0 128 inb_S256x1024_S256x128_0_128 rfl) ha' hb' hc')
    (pieces_cons g 0 0 _ rfl _ (head_turn_sum 0 (hx.window 0 0 inb_S256x1024_S256x128_0_0 rfl) (hy.window 0 0 inb_S256x1024_S256x128_0_0 rfl) (hz.window 0 0 inb_S256x1024_S256x128_0_0 rfl) ha' hb' hc')
    (fun y => View.allAt_nil y _)))))))) w

theorem out1_out0 (x : Vec Ideal S256x1024 .bf16) (a b c : Vec Ideal S256x128 .f32) : out1_4 (F := Ideal) x a b c = out0_4 (F := Ideal) x a b c := rfl

theorem out14_out13 (x y z : Vec Ideal S256x1024 .bf16) (a b c : Vec Ideal S256x128 .f32) : out14_6 (F := Ideal) x y z a b c = out13_6 (F := Ideal) x y z a b c := rfl

variable (Z : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

/-- The rotary call of the queries, over whole arrays. -/
theorem final0_4 {c : Dev nD} {X A B C : ℕ → ℕ → ℝ} (h0 : @Holds 8192 1024 (Z c main_arg0) X) (h1 : @Holds 8192 128 (Z c main_v2) A) (h2 : @Holds 8192 128 (Z c main_v5) B) (h3 : @Holds 8192 128 (Z c main_v9) C) :
    @Holds 8192 1024 ((dat0 Z c).arrAt 4 cfg0.N) (headsTurned X A B C) := by
  refine Holds.of (congrFun ((dat0 Z c).arrAt_eq_of_covers 4 _ (by decide +kernel) fun t _ y => ?_))
  blk_simp; rw [after0_4]
  refine ((out0 (blk_of h0 t.val t.isLt (by intro i j; blk_point [iblk0, idx0 t])) (blk_of h1 t.val t.isLt (by intro i j; blk_point [iblk0, idx0 t])) (blk_of h2 t.val t.isLt (by intro i j; blk_point [iblk0, idx0 t])) (blk_of h3 t.val t.isLt (by intro i j; blk_point [iblk0, idx0 t]))).at y).trans ?_
  have e := (idx0 t).2.2.2.2
  rw [e]
  simp [headsTurned, turned, Nat.mul_comm]

theorem idx1 : ∀ t : Fin cfg1.N, win1_0.index t = ![t.val, 0] ∧ win1_1.index t = ![t.val, 0] ∧ win1_2.index t = ![t.val, 0] ∧ win1_3.index t = ![t.val, 0] ∧ win1_4.index t = ![t.val, 0] :=
  (by decide +kernel : ∀ t : Fin grid1.N, _)

/-- The rotary call of the keys, over whole arrays. -/
theorem final1_4 {c : Dev nD} {X A B C : ℕ → ℕ → ℝ} (h0 : @Holds 8192 1024 (Z c main_arg1) X) (h1 : @Holds 8192 128 (Z c main_v2) A) (h2 : @Holds 8192 128 (Z c main_v5) B) (h3 : @Holds 8192 128 (Z c main_v9) C) :
    @Holds 8192 1024 ((dat1 Z c).arrAt 4 cfg1.N) (headsTurned X A B C) := by
  refine Holds.of (congrFun ((dat1 Z c).arrAt_eq_of_covers 4 _ (by decide +kernel) fun t _ y => ?_))
  blk_simp; rw [after1_4, out1_out0]
  refine ((out0 (blk_of h0 t.val t.isLt (by intro i j; blk_point [iblk1, idx1 t])) (blk_of h1 t.val t.isLt (by intro i j; blk_point [iblk1, idx1 t])) (blk_of h2 t.val t.isLt (by intro i j; blk_point [iblk1, idx1 t])) (blk_of h3 t.val t.isLt (by intro i j; blk_point [iblk1, idx1 t]))).at y).trans ?_
  have e := (idx1 t).2.2.2.2
  rw [e]
  simp [headsTurned, turned, Nat.mul_comm]

theorem idx13 : ∀ t : Fin cfg13.N, win13_0.index t = ![t.val, 0] ∧ win13_1.index t = ![t.val, 0] ∧ win13_2.index t = ![t.val, 0] ∧ win13_3.index t = ![t.val, 0] ∧ win13_4.index t = ![t.val, 0] ∧ win13_5.index t = ![t.val, 0] ∧ win13_6.index t = ![t.val, 0] :=
  (by decide +kernel : ∀ t : Fin grid13.N, _)

/-- The call that sums and rotates back the gradients of the queries, over whole arrays. -/
theorem final13_6 {c : Dev nD} {X Y U A B C : ℕ → ℕ → ℝ} (h0 : @Holds 8192 1024 (Z c main_v43) X) (h1 : @Holds 8192 1024 (Z c main_v52) Y) (h2 : @Holds 8192 1024 (Z c main_v69) U) (h3 : @Holds 8192 128 (Z c main_v12) A) (h4 : @Holds 8192 128 (Z c main_v20) B) (h5 : @Holds 8192 128 (Z c main_v21) C) :
    @Holds 8192 1024 ((dat13 Z c).arrAt 6 cfg13.N) (headsTurned (sum3 X Y U) A B C) := by
  refine Holds.of (congrFun ((dat13 Z c).arrAt_eq_of_covers 6 _ (by decide +kernel) fun t _ y => ?_))
  blk_simp; rw [after13_6]
  refine ((out13 (blk_of h0 t.val t.isLt (by intro i j; blk_point [iblk13, idx13 t])) (blk_of h1 t.val t.isLt (by intro i j; blk_point [iblk13, idx13 t])) (blk_of h2 t.val t.isLt (by intro i j; blk_point [iblk13, idx13 t])) (blk_of h3 t.val t.isLt (by intro i j; blk_point [iblk13, idx13 t])) (blk_of h4 t.val t.isLt (by intro i j; blk_point [iblk13, idx13 t])) (blk_of h5 t.val t.isLt (by intro i j; blk_point [iblk13, idx13 t]))).at y).trans ?_
  have e := (idx13 t).2.2.2.2.2.2
  rw [e]
  simp [headsTurned, turned, sum3, Nat.mul_comm]

theorem idx14 : ∀ t : Fin cfg14.N, win14_0.index t = ![t.val, 0] ∧ win14_1.index t = ![t.val, 0] ∧ win14_2.index t = ![t.val, 0] ∧ win14_3.index t = ![t.val, 0] ∧ win14_4.index t = ![t.val, 0] ∧ win14_5.index t = ![t.val, 0] ∧ win14_6.index t = ![t.val, 0] :=
  (by decide +kernel : ∀ t : Fin grid14.N, _)

/-- The call that sums and rotates back the gradients of the keys, over whole arrays. -/
theorem final14_6 {c : Dev nD} {X Y U A B C : ℕ → ℕ → ℝ} (h0 : @Holds 8192 1024 (Z c main_v44_0) X) (h1 : @Holds 8192 1024 (Z c main_v60) Y) (h2 : @Holds 8192 1024 (Z c main_v77) U) (h3 : @Holds 8192 128 (Z c main_v12) A) (h4 : @Holds 8192 128 (Z c main_v20) B) (h5 : @Holds 8192 128 (Z c main_v21) C) :
    @Holds 8192 1024 ((dat14 Z c).arrAt 6 cfg14.N) (headsTurned (sum3 X Y U) A B C) := by
  refine Holds.of (congrFun ((dat14 Z c).arrAt_eq_of_covers 6 _ (by decide +kernel) fun t _ y => ?_))
  blk_simp; rw [after14_6, out14_out13]
  refine ((out13 (blk_of h0 t.val t.isLt (by intro i j; blk_point [iblk14, idx14 t])) (blk_of h1 t.val t.isLt (by intro i j; blk_point [iblk14, idx14 t])) (blk_of h2 t.val t.isLt (by intro i j; blk_point [iblk14, idx14 t])) (blk_of h3 t.val t.isLt (by intro i j; blk_point [iblk14, idx14 t])) (blk_of h4 t.val t.isLt (by intro i j; blk_point [iblk14, idx14 t])) (blk_of h5 t.val t.isLt (by intro i j; blk_point [iblk14, idx14 t]))).at y).trans ?_
  have e := (idx14 t).2.2.2.2.2.2
  rw [e]
  simp [headsTurned, turned, sum3, Nat.mul_comm]

end Cert.Kernel2Ideal.Value
end
-- ==== Proof.Dil.Comb.lean ====
/- The mixture of the three patterns, its row sums and the sum of the gradients of the values, over arrays of real numbers. -/
module

public import proofs.«01_k».proof.Proof.Dil.Rot

@[expose] public section

set_option maxRecDepth 16384

noncomputable section

open Idealize.ShloMosaic Idealize.ShloMosaic.TcCoe Idealize.SL.Sem

namespace Cert.Dil

/-- The mixture of three outputs, each weighed by the exponential of its log-denominator. -/
def mixO (L L' L'' O O' O'' : ℕ → ℕ → ℝ) (i j : ℕ) : ℝ :=
  (Real.exp (L i j) * O i j + Real.exp (L' i j) * O' i j + Real.exp (L'' i j) * O'' i j) / (Real.exp (L i j) + Real.exp (L' i j) + Real.exp (L'' i j))

/-- The log-denominator of the mixture. -/
def mixM (L L' L'' : ℕ → ℕ → ℝ) (i j : ℕ) : ℝ := Real.log (Real.exp (L i j) + Real.exp (L' i j) + Real.exp (L'' i j))

theorem coe_max (a b : ℝ) : ((max a b : ℝ) : EReal) = max (a : EReal) (b : EReal) := EReal.coe_strictMono.monotone.map_max

theorem mix_shift (a b c m : ℝ) : Real.exp (a - m) + Real.exp (b - m) + Real.exp (c - m) = (Real.exp a + Real.exp b + Real.exp c) * Real.exp (-m) := by
  rw [sub_eq_add_neg, sub_eq_add_neg, sub_eq_add_neg, Real.exp_add, Real.exp_add, Real.exp_add]; ring

theorem log_shift (a b c m : ℝ) : m + Real.log (Real.exp (a - m) + Real.exp (b - m) + Real.exp (c - m)) = Real.log (Real.exp a + Real.exp b + Real.exp c) := by
  rw [mix_shift, Real.log_mul (by positivity) (by positivity), Real.log_exp]; ring

theorem out_shift3 (a b c m x y z : ℝ) :
    Real.exp (a - m) * (1 / (Real.exp (a - m) + Real.exp (b - m) + Real.exp (c - m))) * x + Real.exp (b - m) * (1 / (Real.exp (a - m) + Real.exp (b - m) + Real.exp (c - m))) * y
      + Real.exp (c - m) * (1 / (Real.exp (a - m) + Real.exp (b - m) + Real.exp (c - m))) * z
    = (Real.exp a * x + Real.exp b * y + Real.exp c * z) / (Real.exp a + Real.exp b + Real.exp c) := by
  have hm := (Real.exp_pos (-m)).ne'
  have hS : Real.exp a + Real.exp b + Real.exp c ≠ 0 := by positivity
  rw [mix_shift, sub_eq_add_neg, sub_eq_add_neg, sub_eq_add_neg, Real.exp_add, Real.exp_add, Real.exp_add]
  field_simp

end Cert.Dil

namespace Cert.Kernel2Ideal.Value
open Cert.Kernel2Ideal Cert.Kernel2Ideal.Gen Cert.Attn Cert.Dil

section
variable {a b c : FVec Ideal S256x1024 .f32} {L M N : ℕ → ℕ → ℝ} (ha : @Holds 256 1024 a L) (hb : @Holds 256 1024 b M) (hc : @Holds 256 1024 c N)
include ha hb hc

/-- The greatest of the three log-denominators. -/
theorem mix_max : @Holds 256 1024 (k5_pay4 (F := Ideal) a b c) fun i j => max (max (L i j) (M i j)) (N i j) := by
  intro i j
  pointwise [k5_pay4, k5_pay1, k5_pay2, k5_pay3]
  rw [ha, hb, hc, coe_max, coe_max]

theorem mix_e1 : @Holds 256 1024 (k5_pay5 (F := Ideal) a b c) fun i j => Real.exp (L i j - max (max (L i j) (M i j)) (N i j)) := by
  intro i j
  unfold k5_pay5
  have h := mix_max ha hb hc i j
  generalize k5_pay4 (F := Ideal) a b c = x at h ⊢
  pointwise [k5_pay1]
  rw [h, ha, ← EReal.coe_sub, Ideal.exp_coe]

theorem mix_e2 : @Holds 256 1024 (k5_pay6 (F := Ideal) a b c) fun i j => Real.exp (M i j - max (max (L i j) (M i j)) (N i j)) := by
  intro i j
  unfold k5_pay6
  have h := mix_max ha hb hc i j
  generalize k5_pay4 (F := Ideal) a b c = x at h ⊢
  pointwise [k5_pay2]
  rw [h, hb, ← EReal.coe_sub, Ideal.exp_coe]

theorem mix_e3 : @Holds 256 1024 (k5_pay7 (F := Ideal) a b c) fun i j => Real.exp (N i j - max (max (L i j) (M i j)) (N i j)) := by
  intro i j
  unfold k5_pay7
  have h := mix_max ha hb hc i j
  generalize k5_pay4 (F := Ideal) a b c = x at h ⊢
  pointwise [k5_pay3]
  rw [h, hc, ← EReal.coe_sub, Ideal.exp_coe]

/-- The sum of the three exponentials. -/
theorem mix_sum : @Holds 256 1024 (k5_pay8 (F := Ideal) a b c) fun i j => Real.exp (L i j - max (max (L i j) (M i j)) (N i j)) + Real.exp (M i j - max (max (L i j) (M i j)) (N i j)) + Real.exp (N i j - max (max (L i j) (M i j)) (N i j)) := by
  intro i j
  unfold k5_pay8
  have h1 := mix_e1 ha hb hc i j
  have h2 := mix_e2 ha hb hc i j
  have h3 := mix_e3 ha hb hc i j
  generalize k5_pay5 (F := Ideal) a b c = x1 at h1 ⊢
  generalize k5_pay6 (F := Ideal) a b c = x2 at h2 ⊢
  generalize k5_pay7 (F := Ideal) a b c = x3 at h3 ⊢
  pointwise
  rw [h1, h2, h3, ← EReal.coe_add, ← EReal.coe_add]

/-- The log-denominator of the mixture, in a tile. -/
theorem mix_log : @Holds 256 1024 (k5_pay10 (F := Ideal) a b c) (mixM L M N) := by
  intro i j
  unfold k5_pay10
  have h1 := mix_max ha hb hc i j
  have h2 := mix_sum ha hb hc i j
  generalize k5_pay4 (F := Ideal) a b c = x1 at h1 ⊢
  generalize k5_pay8 (F := Ideal) a b c = x2 at h2 ⊢
  pointwise
  rw [h1, h2, Ideal.log_coe, if_neg (not_le.mpr (by positivity)), ← EReal.coe_add, log_shift]
  rfl

/-- The mixture of the outputs, in a tile. -/
theorem mix_out {x y z : FVec Ideal S256x1024 .bf16} {X Y U : ℕ → ℕ → ℝ} (hx : @Holds 256 1024 x X) (hy : @Holds 256 1024 y Y) (hz : @Holds 256 1024 z U) :
    @Holds 256 1024 (k5_pay9 (F := Ideal) a b c x y z) (mixO L M N X Y U) := by
  intro i j
  unfold k5_pay9
  have h1 := mix_e1 ha hb hc i j
  have h2 := mix_e2 ha hb hc i j
  have h3 := mix_e3 ha hb hc i j
  have h4 := mix_sum ha hb hc i j
  generalize k5_pay5 (F := Ideal) a b c = x1 at h1 ⊢
  generalize k5_pay6 (F := Ideal) a b c = x2 at h2 ⊢
  generalize k5_pay7 (F := Ideal) a b c = x3 at h3 ⊢
  generalize k5_pay8 (F := Ideal) a b c = x4 at h4 ⊢
  pointwise
  have hS : Real.exp (L i j - max (max (L i j) (M i j)) (N i j)) + Real.exp (M i j - max (max (L i j) (M i j)) (N i j)) + Real.exp (N i j - max (max (L i j) (M i j)) (N i j)) ≠ 0 := by positivity
  rw [h1, h2, h3, h4, hx, hy, hz, Ideal.div_coe hS, Ideal.div_coe hS, Ideal.div_coe hS]
  simp only [← EReal.coe_mul, ← EReal.coe_add]
  rw [out_shift3]
  rfl

end

/-- A tile's row sums of products, in every column. -/
theorem sums128 {x y : FVec Ideal S256x128 .bf16} {X Y : ℕ → ℕ → ℝ} (hx : @Holds 256 128 x X) (hy : @Holds 256 128 y Y) :
    @Holds 256 128 (k6_pay2 (F := Ideal) x y) (fun i _ => ∑ d : Fin 128, X i d * Y i d) := by
  intro i j
  pointwise [k6_pay2]
  simp only [hx.at, hy.at, ← EReal.coe_mul, Finite.coe_sum]
  rfl

theorem head_sum {v w : FVec Ideal S256x128 .bf16} {X Y : ℕ → ℕ → ℝ} (k : ℕ) (hv : @Holds 256 128 v fun i j => X (0 + i) (128 * k + j)) (hw : @Holds 256 128 w fun i j => Y (0 + i) (128 * k + j))
    (i : Fin 256) (j : Fin 128) : k6_pay2 (F := Ideal) v w (ix2 i j) = ((Cert.KernelIdeal.Value.headSums X Y (0 + i.val) (128 * k + j.val) : ℝ) : EReal) := by
  have hj := j.isLt
  refine (sums128 hv hw i j).trans ?_
  simp only [Cert.KernelIdeal.Value.headSums]
  rw [show (128 * k + j.val) / 128 = k by omega]

/-- What the call of the row sums leaves in a block. -/
theorem out6 {x y : FVec Ideal S256x1024 .bf16} {X Y : ℕ → ℕ → ℝ} (hx : @Holds 256 1024 x X) (hy : @Holds 256 1024 y Y) :
    @Holds 256 1024 (out6_2 (F := Ideal) x y) (Cert.KernelIdeal.Value.headSums X Y) := by
  refine Holds.of fun w => View.canon_eq_of_allAt _ w _ (cover6_2 _ _ _ _ _ _ _ _ w) ?_
  let g : ℕ → ℕ → Elt Ideal .f32 := fun i j => ((Cert.KernelIdeal.Value.headSums X Y i j : ℝ) : EReal)
  refine pieces_cons g 0 896 _ rfl _ (head_sum 7 (hx.window 0 896 inb_S256x1024_S256x128_0_896 rfl) (hy.window 0 896 inb_S256x1024_S256x128_0_896 rfl))
    (pieces_cons g 0 768 _ rfl _ (head_sum 6 (hx.window 0 768 inb_S256x1024_S256x128_0_768 rfl) (hy.window 0 768 inb_S256x1024_S256x128_0_768 rfl))
    (pieces_cons g 0 640 _ rfl _ (head_sum 5 (hx.window 0 640 inb_S256x1024_S256x128_0_640 rfl) (hy.window 0 640 inb_S256x1024_S256x128_0_640 rfl))
    (pieces_cons g 0 512 _ rfl _ (head_sum 4 (hx.window 0 512 inb_S256x1024_S256x128_0_512 rfl) (hy.window 0 512 inb_S256x1024_S256x128_0_512 rfl))
    (pieces_cons g 0 384 _ rfl _ (head_sum 3 (hx.window 0 384 inb_S256x1024_S256x128_0_384 rfl) (hy.window 0 384 inb_S256x1024_S256x128_0_384 rfl))
    (pieces_cons g 0 256 _ rfl _ (head_sum 2 (hx.window 0 256 inb_S256x1024_S256x128_0_256 rfl) (hy.window 0 256 inb_S256x1024_S256x128_0_256 rfl))
    (pieces_cons g 0 128 _ rfl _ (head_sum 1 (hx.window 0 128 inb_S256x1024_S256x128_0_128 rfl) (hy.window 0 128 inb_S256x1024_S256x128_0_128 rfl))
    (pieces_cons g 0 0 _ rfl _ (head_sum 0 (hx.window 0 0 inb_S256x1024_S256x128_0_0 rfl) (hy.window 0 0 inb_S256x1024_S256x128_0_0 rfl))
    (fun y => View.allAt_nil y _)))))))) w

/-- The sum of three tiles. -/
theorem sum_tile {x y z : FVec Ideal S256x1024 .bf16} {X Y U : ℕ → ℕ → ℝ} (hx : @Holds 256 1024 x X) (hy : @Holds 256 1024 y Y) (hz : @Holds 256 1024 z U) :
    @Holds 256 1024 (k15_pay1 (F := Ideal) x y z) (sum3 X Y U) := by
  intro i j
  pointwise [k15_pay1]
  rw [hx, hy, hz, ← EReal.coe_add, ← EReal.coe_add]
  rfl

/-- A block loaded whole. -/
theorem whole {x : FVec Ideal S256x1024 .bf16} {A : ℕ → ℕ → ℝ} (h : @Holds 256 1024 x A) : @Holds 256 1024 (fun y => x ((Rect.unit (s := S256x1024) ![0, 0] S256x1024.size inb_S256x1024_S256x1024_0_0).idx y)) A :=
  (h.window (k := 256) (l := 1024) 0 0 inb_S256x1024_S256x1024_0_0 rfl).congr (by intro i _ j _; rw [Nat.zero_add, Nat.zero_add])

theorem whole32 {x : FVec Ideal S256x1024 .f32} {A : ℕ → ℕ → ℝ} (h : @Holds 256 1024 x A) : @Holds 256 1024 (fun y => x ((Rect.unit (s := S256x1024) ![0, 0] S256x1024.size inb_S256x1024_S256x1024_0_0).idx y)) A :=
  (h.window (k := 256) (l := 1024) 0 0 inb_S256x1024_S256x1024_0_0 rfl).congr (by intro i _ j _; rw [Nat.zero_add, Nat.zero_add])

theorem one_piece {e : EltTy} {v : (⟨2, ![256, 1024]⟩ : Shape).Idx → Elt Ideal e} (g : ℕ → ℕ → Elt Ideal e)
    (hv : ∀ (i : Fin 256) (j : Fin 1024), v (ix2 i j) = g i.val j.val) (w : (⟨2, ![256, 1024]⟩ : Shape).Idx) :
    View.AllAt [(⟨Rect.unit (s := S256x1024) ![0, 0] S256x1024.size inb_S256x1024_S256x1024_0_0, v⟩ : View.Piece (Elt Ideal) ⟨2, ![256, 1024]⟩ e)] w (g (w 0).val (w 1).val) :=
  pieces_cons g 0 0 _ rfl _ (fun i j => (hv i j).trans (by rw [Nat.zero_add, Nat.zero_add])) (fun y => View.allAt_nil y _) w

section
variable {x y z : FVec Ideal S256x1024 .bf16} {a b c : FVec Ideal S256x1024 .f32} {X Y U L M N : ℕ → ℕ → ℝ} (hx : @Holds 256 1024 x X) (hy : @Holds 256 1024 y Y) (hz : @Holds 256 1024 z U)
include hx hy hz

/-- The sum of the three gradients of the values, in a block. -/
theorem out15 : @Holds 256 1024 (out15_3 (F := Ideal) x y z) (sum3 X Y U) := by
  refine Holds.of fun w => View.canon_eq_of_allAt _ w _ (cover15_3 _ w) ?_
  refine one_piece (e := .bf16) (fun i j => ((sum3 X Y U i j : ℝ) : EReal)) (fun i j => ?_) w
  exact sum_tile (whole hx) (whole hy) (whole hz) i j

variable (ha : @Holds 256 1024 a L) (hb : @Holds 256 1024 b M) (hc : @Holds 256 1024 c N)
include ha hb hc

/-- The mixture of the outputs, in a block. -/
theorem out5_o : @Holds 256 1024 (out5_6 (F := Ideal) x y z a b c) (mixO L M N X Y U) := by
  refine Holds.of fun w => View.canon_eq_of_allAt _ w _ (cover5_6 _ w) ?_
  exact one_piece (e := .bf16) (fun i j => ((mixO L M N X Y U i j : ℝ) : EReal)) (mix_out (whole32 ha) (whole32 hb) (whole32 hc) (whole hx) (whole hy) (whole hz)) w

/-- The log-denominator of the mixture, in a block. -/
theorem out5_m : @Holds 256 1024 (out5_7 (F := Ideal) x y z a b c) (mixM L M N) := by
  refine Holds.of fun w => View.canon_eq_of_allAt _ w _ (cover5_7 _ w) ?_
  exact one_piece (e := .f32) (fun i j => ((mixM L M N i j : ℝ) : EReal)) (mix_log (whole32 ha) (whole32 hb) (whole32 hc)) w

end

variable (Z : (c : Dev nD) → (b : Ref sig .tc) → Buf (Elt Ideal) ((c : Thread nD τ).loc b))

theorem idx5 : ∀ t : Fin cfg5.N, win5_0.index t = ![t.val, 0] ∧ win5_1.index t = ![t.val, 0] ∧ win5_2.index t = ![t.val, 0] ∧ win5_3.index t = ![t.val, 0] ∧ win5_4.index t = ![t.val, 0] ∧ win5_5.index t = ![t.val, 0] ∧ win5_6.index t = ![t.val, 0] ∧ win5_7.index t = ![t.val, 0] :=
  (by decide +kernel : ∀ t : Fin grid5.N, _)

/-- The mixture of the three outputs, over whole arrays. -/
theorem final5_6 {c : Dev nD} {X Y U L M N : ℕ → ℕ → ℝ} (h0 : @Holds 8192 1024 (Z c main_v24_0) X) (h1 : @Holds 8192 1024 (Z c main_v31) Y) (h2 : @Holds 8192 1024 (Z c main_v39) U) (h3 : @Holds 8192 1024 (Z c main_v24_1) L) (h4 : @Holds 8192 1024 (Z c main_v32) M) (h5 : @Holds 8192 1024 (Z c main_v40) N) :
    @Holds 8192 1024 ((dat5 Z c).arrAt 6 cfg5.N) (mixO L M N X Y U) := by
  refine Holds.of (congrFun ((dat5 Z c).arrAt_eq_of_covers 6 _ (by decide +kernel) fun t _ y => ?_))
  blk_simp; rw [after5_6]
  refine ((out5_o (blk_of h0 t.val t.isLt (by intro i j; blk_point [iblk5, idx5 t])) (blk_of h1 t.val t.isLt (by intro i j; blk_point [iblk5, idx5 t])) (blk_of h2 t.val t.isLt (by intro i j; blk_point [iblk5, idx5 t])) (blk_of h3 t.val t.isLt (by intro i j; blk_point [iblk5, idx5 t])) (blk_of h4 t.val t.isLt (by intro i j; blk_point [iblk5, idx5 t])) (blk_of h5 t.val t.isLt (by intro i j; blk_point [iblk5, idx5 t]))).at y).trans ?_
  have e := (idx5 t).2.2.2.2.2.2.1
  rw [e]
  simp [mixO, Nat.mul_comm]

/-- The log-denominator of the mixture, over whole arrays. -/
theorem final5_7 {c : Dev nD} {X Y U L M N : ℕ → ℕ → ℝ} (h0 : @Holds 8192 1024 (Z c main_v24_0) X) (h1 : @Holds 8192 1024 (Z c main_v31) Y) (h2 : @Holds 8192 1024 (Z c main_v39) U) (h3 : @Holds 8192 1024 (Z c main_v24_1) L) (h4 : @Holds 8192 1024 (Z c main_v32) M) (h5 : @Holds 8192 1024 (Z c main_v40) N) :
    @Holds 8192 1024 ((dat5 Z c).arrAt 7 cfg5.N) (mixM L M N) := by
  refine Holds.of (congrFun ((dat5 Z c).arrAt_eq_of_covers 7 _ (by decide +kernel) fun t _ y => ?_))
  blk_simp; rw [after5_7]
  refine ((out5_m (blk_of h0 t.val t.isLt (by intro i j; blk_point [iblk5, idx5 t])) (blk_of h1 t.val t.isLt (by intro i j; blk_point [iblk5, idx5 t])) (blk_of h2 t.val t.isLt (by intro i j; blk_point [iblk5, idx5 t])) (blk_of h3 t.val t.isLt (by intro i j; blk_point [iblk5, idx5 t])) (blk_of h4 t.val t.isLt (by intro i j; blk_point [iblk5, idx5 t])) (blk_of h5 t.val t.isLt (by intro i j; blk_point [iblk5, idx5 t]))).at y).trans ?_
  have e := (idx5 t).2.2.2.2.2.2.2
  rw [e]
  simp [mixM, Nat.mul_comm]

theorem idx6 : ∀ t : Fin cfg6.N, win6_0.index t = ![t.val, 0] ∧ win6_1.index t = ![t.val, 0] ∧ win6_2.index t = ![t.val, 0] :=
  (by decide +kernel : ∀ t : Fin grid6.N, _)

/-- The call of the row sums, over whole arrays. -/
theorem final6_2 {c : Dev nD} {X Y : ℕ → ℕ → ℝ} (h0 : @Holds 8192 1024 (Z c main_arg5) X) (h1 : @Holds 8192 1024 (Z c main_v41_0) Y) :
    @Holds 8192 1024 ((dat6 Z c).arrAt 2 cfg6.N) (Cert.KernelIdeal.Value.headSums X Y) := by
  refine Holds.of (congrFun ((dat6 Z c).arrAt_eq_of_covers 2 _ (by decide +kernel) fun t _ y => ?_))
  blk_simp; rw [after6_2]
  refine ((out6 (blk_of h0 t.val t.isLt (by intro i j; blk_point [iblk6, idx6 t])) (blk_of h1 t.val t.isLt (by intro i j; blk_point [iblk6, idx6 t]))).at y).trans ?_
  have e := (idx6 t).2.2
  rw [e]
  simp [Cert.KernelIdeal.Value.headSums, Nat.mul_comm]

theorem idx15 : ∀ t : Fin cfg15.N, win15_0.index t = ![t.val, 0] ∧ win15_1.index t = ![t.val, 0] ∧ win15_2.index t = ![t.val, 0] ∧ win15_3.index t = ![t.val, 0] :=
  (by decide +kernel : ∀ t : Fin grid15.N, _)

/-- The sum of the three gradients of the values, over whole arrays. -/
theorem final15_3 {c : Dev nD} {X Y U : ℕ → ℕ → ℝ} (h0 : @Holds 8192 1024 (Z c main_v44_1) X) (h1 : @Holds 8192 1024 (Z c main_v61) Y) (h2 : @Holds 8192 1024 (Z c main_v78) U) :
    @Holds 8192 1024 ((dat15 Z c).arrAt 3 cfg15.N) (sum3 X Y U) := by
  refine Holds.of (congrFun ((dat15 Z c).arrAt_eq_of_covers 3 _ (by decide +kernel) fun t _ y => ?_))
  blk_simp; rw [after15_3]
  refine ((out15 (blk_of h0 t.val t.isLt (by intro i j; blk_point [iblk15, idx15 t])) (blk_of h1 t.val t.isLt (by intro i j; blk_point [iblk15, idx15 t])) (blk_of h2 t.val t.isLt (by intro i j; blk_point [iblk15, idx15 t]))).at y).trans ?_
  have e := (idx15 t).2.2.2
  rw [e]
  simp [sum3, Nat.mul_comm]

end Cert.Kernel2Ideal.Value
end
-- ==== Proof.Dil.Host.lean ====
/- What the host lines of the dilated attention's program compute, over arrays of real numbers. -/
module

public import proofs.«01_k».proof.Proof.Dil.Region
public import proofs.«01_k».proof.Proof.Dil.Comb

@[expose] public section

set_option maxRecDepth 16384

noncomputable section

open Idealize.ShloMosaic Idealize.ShloMosaic.TcCoe Idealize.SL.Sem

namespace Cert.Kernel2Ideal.Value
open Cert.Kernel2Ideal Cert.Kernel2Ideal.Gen Cert.Attn Cert.Dil

/-- The cosine table of a head of 128 columns, of which the first 32 are rotated. -/
def cosines (x : FVec Ideal S8192x16 .f32) : FVec Ideal S8192x128 .f32 :=
  concatenate S8192x128 1 [⟨S8192x0, broadcastInDim S8192x0 ![] bcast_S_S8192x0 (constant (F := Ideal) S_ .f32 1065353216#32)⟩, ⟨S8192x16, x⟩, ⟨S8192x16, x⟩, ⟨S8192x96, broadcastInDim S8192x96 ![] bcast_S_S8192x96 (constant (F := Ideal) S_ .f32 1065353216#32)⟩] concatenates_S8192x0_S8192x16_S8192x16_S8192x96_S8192x128_d1

/-- Its entries. -/
def cosT (X : ℕ → ℕ → ℝ) (i j : ℕ) : ℝ := if j < 16 then X i j else if j - 16 < 16 then X i (j - 16) else 1

theorem cosines_holds {x : FVec Ideal S8192x16 .f32} {X : ℕ → ℕ → ℝ} (hx : @Holds 8192 16 x X) : @Holds 8192 128 (cosines x) (cosT X) := by
  intro i j
  have hj := j.isLt
  pointwise [cosines, cosT]
  simp only [hx.at]
  split_ifs <;> first | omega | rfl | simp

/-- The sine table of the entries 16 places before. -/
def sinesUp (x : FVec Ideal S8192x16 .f32) : FVec Ideal S8192x128 .f32 :=
  concatenate S8192x128 1 [⟨S8192x16, broadcastInDim S8192x16 ![] bcast_S_S8192x16 (constant (F := Ideal) S_ .f32 0#32)⟩, ⟨S8192x16, x⟩, ⟨S8192x96, broadcastInDim S8192x96 ![] bcast_S_S8192x96 (constant (F := Ideal) S_ .f32 0#32)⟩] concatenates_S8192x16_S8192x16_S8192x96_S8192x128_d1

/-- Its entries. -/
def upT (X : ℕ → ℕ → ℝ) (i j : ℕ) : ℝ := if j < 16 then 0 else if j - 16 < 16 then X i (j - 16) else 0

theorem sinesUp_holds {x : FVec Ideal S8192x16 .f32} {X : ℕ → ℕ → ℝ} (hx : @Holds 8192 16 x X) : @Holds 8192 128 (sinesUp x) (upT X) := by
  intro i j
  have hj := j.isLt
  pointwise [sinesUp, upT]
  simp only [hx.at]
  split_ifs <;> first | omega | rfl | simp

/-- The sine table of the entries 16 places after. -/
def sinesDown (x : FVec Ideal S8192x16 .f32) : FVec Ideal S8192x128 .f32 :=
  concatenate S8192x128 1 [⟨S8192x0, broadcastInDim S8192x0 ![] bcast_S_S8192x0 (constant (F := Ideal) S_ .f32 0#32)⟩, ⟨S8192x16, negf x⟩, ⟨S8192x112, broadcastInDim S8192x112 ![] bcast_S_S8192x112 (constant (F := Ideal) S_ .f32 0#32)⟩] concatenates_S8192x0_S8192x16_S8192x112_S8192x128_d1

/-- Its entries. -/
def downT (X : ℕ → ℕ → ℝ) (i j : ℕ) : ℝ := if j < 16 then -X i j else 0

theorem sinesDown_holds {x : FVec Ideal S8192x16 .f32} {X : ℕ → ℕ → ℝ} (hx : @Holds 8192 16 x X) : @Holds 8192 128 (sinesDown x) (downT X) := by
  intro i j
  have hj := j.isLt
  pointwise [sinesDown, downT]
  simp only [hx.at]
  split_ifs <;> first | omega | rfl | simp

/-- The columns moved 16 places forth. -/
def forth (x : FVec Ideal S8192x128 .f32) : FVec Ideal S8192x128 .f32 :=
  concatenate S8192x128 1 [⟨S8192x16, extractStridedSlice S8192x16 ![0, 112] x slices_S8192x128_S8192x16_0_112⟩, ⟨S8192x112, extractStridedSlice S8192x112 ![0, 0] x slices_S8192x128_S8192x112_0_0⟩] concatenates_S8192x16_S8192x112_S8192x128_d1

theorem forth_holds {x : FVec Ideal S8192x128 .f32} {X : ℕ → ℕ → ℝ} (hx : @Holds 8192 128 x X) : @Holds 8192 128 (forth x) (fun i j => X i ((j + 112) % 128)) := by
  intro i j
  have hj := j.isLt
  pointwise [forth]
  split_ifs <;> (rw [hx]; congr 2; simp; omega)

/-- The columns moved 16 places back. -/
def back (x : FVec Ideal S8192x128 .f32) : FVec Ideal S8192x128 .f32 :=
  concatenate S8192x128 1 [⟨S8192x112, extractStridedSlice S8192x112 ![0, 16] x slices_S8192x128_S8192x112_0_16⟩, ⟨S8192x16, extractStridedSlice S8192x16 ![0, 0] x slices_S8192x128_S8192x16_0_0⟩] concatenates_S8192x112_S8192x16_S8192x128_d1

theorem back_holds {x : FVec Ideal S8192x128 .f32} {X : ℕ → ℕ → ℝ} (hx : @Holds 8192 128 x X) : @Holds 8192 128 (back x) (fun i j => X i ((j + 16) % 128)) := by
  intro i j
  have hj := j.isLt
  pointwise [back]
  split_ifs <;> (rw [hx]; congr 2; simp; omega)

/-! ## An array seen with a dilation's tokens side by side -/

theorem view_one {X : (⟨2, ![8192, 1024]⟩ : Shape).Idx → EReal} {A : ℕ → ℕ → ℝ} (h : Holds X A) : Holds X (view 1 A) :=
  h.congr (by intro i hi j hj; unfold view; rw [Nat.div_eq_of_lt hj, Nat.mod_eq_of_lt hj, Nat.mul_one, Nat.add_zero])

theorem of_view_one {X : (⟨2, ![8192, 1024]⟩ : Shape).Idx → EReal} {A : ℕ → ℕ → ℝ} (h : Holds X (view 1 A)) : Holds X A :=
  h.congr (by intro i hi j hj; unfold view; rw [Nat.div_eq_of_lt hj, Nat.mod_eq_of_lt hj, Nat.mul_one, Nat.add_zero])

theorem view4 {x : FVec Ideal S8192x1024 .bf16} {A : ℕ → ℕ → ℝ} (hx : @Holds 8192 1024 x A) : @Holds 2048 4096 (shapeCast S2048x4096 x shapeCasts_S8192x1024_S2048x4096 : FVec Ideal S2048x4096 .bf16) (view 4 A) := by
  intro i j
  have hi := i.isLt
  have hj := j.isLt
  pointwise [view]
  rw [hx]

theorem unview4 {x : FVec Ideal S2048x4096 .bf16} {A : ℕ → ℕ → ℝ} (hx : @Holds 2048 4096 x (view 4 A)) : @Holds 8192 1024 (shapeCast S8192x1024 x shapeCasts_S2048x4096_S8192x1024 : FVec Ideal S8192x1024 .bf16) A := by
  intro i j
  have hi := i.isLt
  have hj := j.isLt
  pointwise
  rw [hx]
  unfold view
  congr 2 <;> (simp only; omega)

theorem view4_f {x : FVec Ideal S8192x1024 .f32} {A : ℕ → ℕ → ℝ} (hx : @Holds 8192 1024 x A) : @Holds 2048 4096 (shapeCast S2048x4096 x shapeCasts_S8192x1024_S2048x4096 : FVec Ideal S2048x4096 .f32) (view 4 A) := by
  intro i j
  have hi := i.isLt
  have hj := j.isLt
  pointwise [view]
  rw [hx]

theorem unview4_f {x : FVec Ideal S2048x4096 .f32} {A : ℕ → ℕ → ℝ} (hx : @Holds 2048 4096 x (view 4 A)) : @Holds 8192 1024 (shapeCast S8192x1024 x shapeCasts_S2048x4096_S8192x1024 : FVec Ideal S8192x1024 .f32) A := by
  intro i j
  have hi := i.isLt
  have hj := j.isLt
  pointwise
  rw [hx]
  unfold view
  congr 2 <;> (simp only; omega)

theorem view16 {x : FVec Ideal S8192x1024 .bf16} {A : ℕ → ℕ → ℝ} (hx : @Holds 8192 1024 x A) : @Holds 512 16384 (shapeCast S512x16384 x shapeCasts_S8192x1024_S512x16384 : FVec Ideal S512x16384 .bf16) (view 16 A) := by
  intro i j
  have hi := i.isLt
  have hj := j.isLt
  pointwise [view]
  rw [hx]

theorem unview16 {x : FVec Ideal S512x16384 .bf16} {A : ℕ → ℕ → ℝ} (hx : @Holds 512 16384 x (view 16 A)) : @Holds 8192 1024 (shapeCast S8192x1024 x shapeCasts_S512x16384_S8192x1024 : FVec Ideal S8192x1024 .bf16) A := by
  intro i j
  have hi := i.isLt
  have hj := j.isLt
  pointwise
  rw [hx]
  unfold view
  congr 2 <;> (simp only; omega)

theorem view16_f {x : FVec Ideal S8192x1024 .f32} {A : ℕ → ℕ → ℝ} (hx : @Holds 8192 1024 x A) : @Holds 512 16384 (shapeCast S512x16384 x shapeCasts_S8192x1024_S512x16384 : FVec Ideal S512x16384 .f32) (view 16 A) := by
  intro i j
  have hi := i.isLt
  have hj := j.isLt
  pointwise [view]
  rw [hx]

theorem unview16_f {x : FVec Ideal S512x16384 .f32} {A : ℕ → ℕ → ℝ} (hx : @Holds 512 16384 x (view 16 A)) : @Holds 8192 1024 (shapeCast S8192x1024 x shapeCasts_S512x16384_S8192x1024 : FVec Ideal S8192x1024 .f32) A := by
  intro i j
  have hi := i.isLt
  have hj := j.isLt
  pointwise
  rw [hx]
  unfold view
  congr 2 <;> (simp only; omega)

end Cert.Kernel2Ideal.Value
end
-- ==== Proof.Dil.Chain.lean ====
/- The calls of the dilated attention composed: its four results, from the arguments' arrays. -/
module

public import proofs.«01_k».proof.Proof.Dil.Host

@[expose] public section

set_option maxRecDepth 16384

noncomputable section

open Idealize.ShloMosaic Idealize.ShloMosaic.TcCoe Idealize.SL.Sem

namespace Cert.Kernel2Ideal.Value
open Cert.Kernel2Ideal Cert.Kernel2Ideal.Gen Cert.Attn Cert.Dil

variable (m : (ℓ : Loc nD τ sig) → Buf (Elt Ideal) ℓ) (ρ : Dev nD → PrngReg) (c : Dev nD)

/-! ## The tables -/

theorem W1_v2 : W1 m ρ c main_v2 = cosines (m ((c.tc : Thread nD τ).loc main_arg3)) := by
  unfold W1
  after_results
  rfl

theorem W1_v5 : W1 m ρ c main_v5 = sinesUp (m ((c.tc : Thread nD τ).loc main_arg4)) := by
  unfold W1
  after_results
  rfl

theorem W1_v9 : W1 m ρ c main_v9 = sinesDown (m ((c.tc : Thread nD τ).loc main_arg4)) := by
  unfold W1
  after_results
  rfl

theorem W1_v12 : W1 m ρ c main_v12 = cosines (m ((c.tc : Thread nD τ).loc main_arg3)) := by
  unfold W1
  after_results
  rfl

theorem W1_v15 : W1 m ρ c main_v15 = sinesUp (m ((c.tc : Thread nD τ).loc main_arg4)) := by
  unfold W1
  after_results
  rfl

theorem W1_v19 : W1 m ρ c main_v19 = sinesDown (m ((c.tc : Thread nD τ).loc main_arg4)) := by
  unfold W1
  after_results
  rfl

theorem W2_v20 : W2 m ρ c main_v20 = forth (W1 m ρ c main_v19) := by
  show StableHlo.after hostOps0_1 (W1 m ρ c) main_v20 = _
  generalize W1 m ρ c = Y
  after_results
  rfl

theorem W3_v21 : W3 m ρ c main_v21 = back (W2 m ρ c main_v15) := by
  show StableHlo.after hostOps0_2 (W2 m ρ c) main_v21 = _
  generalize W2 m ρ c = Y
  after_results
  rfl

/-! ## The reshapes between the calls -/

theorem reshapes7 : W7 m ρ c main_v25 = shapeCast S2048x4096 (W6 m ρ c main_v22) shapeCasts_S8192x1024_S2048x4096
    ∧ W7 m ρ c main_v26 = shapeCast S2048x4096 (W6 m ρ c main_v23) shapeCasts_S8192x1024_S2048x4096
    ∧ W7 m ρ c main_v27 = shapeCast S2048x4096 (W6 m ρ c main_v23) shapeCasts_S8192x1024_S2048x4096
    ∧ W7 m ρ c main_v28 = shapeCast S2048x4096 (W6 m ρ c main_arg2) shapeCasts_S8192x1024_S2048x4096
    ∧ W7 m ρ c main_v29 = shapeCast S2048x4096 (W6 m ρ c main_arg2) shapeCasts_S8192x1024_S2048x4096 := by
  simp only [show W7 m ρ c = StableHlo.after hostOps3 (W6 m ρ c) from rfl]
  generalize W6 m ρ c = Y
  refine ⟨?_, ?_, ?_, ?_, ?_⟩ <;> (after_results; rfl)

theorem reshapes9 : W9 m ρ c main_v31 = shapeCast S8192x1024 (W8 m ρ c main_v30_0) shapeCasts_S2048x4096_S8192x1024
    ∧ W9 m ρ c main_v32 = shapeCast S8192x1024 (W8 m ρ c main_v30_1) shapeCasts_S2048x4096_S8192x1024
    ∧ W9 m ρ c main_v33 = shapeCast S512x16384 (W8 m ρ c main_v22) shapeCasts_S8192x1024_S512x16384
    ∧ W9 m ρ c main_v34 = shapeCast S512x16384 (W8 m ρ c main_v23) shapeCasts_S8192x1024_S512x16384
    ∧ W9 m ρ c main_v35 = shapeCast S512x16384 (W8 m ρ c main_v23) shapeCasts_S8192x1024_S512x16384
    ∧ W9 m ρ c main_v36 = shapeCast S512x16384 (W8 m ρ c main_arg2) shapeCasts_S8192x1024_S512x16384
    ∧ W9 m ρ c main_v37 = shapeCast S512x16384 (W8 m ρ c main_arg2) shapeCasts_S8192x1024_S512x16384 := by
  simp only [show W9 m ρ c = StableHlo.after hostOps4 (W8 m ρ c) from rfl]
  generalize W8 m ρ c = Y
  refine ⟨?_, ?_, ?_, ?_, ?_, ?_, ?_⟩ <;> (after_results; rfl)

theorem reshapes11 : W11 m ρ c main_v39 = shapeCast S8192x1024 (W10 m ρ c main_v38_0) shapeCasts_S512x16384_S8192x1024
    ∧ W11 m ρ c main_v40 = shapeCast S8192x1024 (W10 m ρ c main_v38_1) shapeCasts_S512x16384_S8192x1024 := by
  simp only [show W11 m ρ c = StableHlo.after hostOps5 (W10 m ρ c) from rfl]
  generalize W10 m ρ c = Y
  refine ⟨?_, ?_⟩ <;> (after_results; rfl)

theorem reshapes16 : W16 m ρ c main_v45 = shapeCast S2048x4096 (W15 m ρ c main_v23) shapeCasts_S8192x1024_S2048x4096
    ∧ W16 m ρ c main_v46 = shapeCast S2048x4096 (W15 m ρ c main_arg2) shapeCasts_S8192x1024_S2048x4096
    ∧ W16 m ρ c main_v47 = shapeCast S2048x4096 (W15 m ρ c main_v22) shapeCasts_S8192x1024_S2048x4096
    ∧ W16 m ρ c main_v48 = shapeCast S2048x4096 (W15 m ρ c main_arg5) shapeCasts_S8192x1024_S2048x4096
    ∧ W16 m ρ c main_v49 = shapeCast S2048x4096 (W15 m ρ c main_v41_1) shapeCasts_S8192x1024_S2048x4096
    ∧ W16 m ρ c main_v50 = shapeCast S2048x4096 (W15 m ρ c main_v42) shapeCasts_S8192x1024_S2048x4096 := by
  simp only [show W16 m ρ c = StableHlo.after hostOps9 (W15 m ρ c) from rfl]
  generalize W15 m ρ c = Y
  refine ⟨?_, ?_, ?_, ?_, ?_, ?_⟩ <;> (after_results; rfl)

theorem reshapes18 : W18 m ρ c main_v52 = shapeCast S8192x1024 (W17 m ρ c main_v51) shapeCasts_S2048x4096_S8192x1024
    ∧ W18 m ρ c main_v53 = shapeCast S2048x4096 (W17 m ρ c main_v22) shapeCasts_S8192x1024_S2048x4096
    ∧ W18 m ρ c main_v54 = shapeCast S2048x4096 (W17 m ρ c main_arg5) shapeCasts_S8192x1024_S2048x4096
    ∧ W18 m ρ c main_v55 = shapeCast S2048x4096 (W17 m ρ c main_v41_1) shapeCasts_S8192x1024_S2048x4096
    ∧ W18 m ρ c main_v56 = shapeCast S2048x4096 (W17 m ρ c main_v42) shapeCasts_S8192x1024_S2048x4096
    ∧ W18 m ρ c main_v57 = shapeCast S2048x4096 (W17 m ρ c main_v23) shapeCasts_S8192x1024_S2048x4096
    ∧ W18 m ρ c main_v58 = shapeCast S2048x4096 (W17 m ρ c main_arg2) shapeCasts_S8192x1024_S2048x4096 := by
  simp only [show W18 m ρ c = StableHlo.after hostOps10 (W17 m ρ c) from rfl]
  generalize W17 m ρ c = Y
  refine ⟨?_, ?_, ?_, ?_, ?_, ?_, ?_⟩ <;> (after_results; rfl)

theorem reshapes20 : W20 m ρ c main_v60 = shapeCast S8192x1024 (W19 m ρ c main_v59_0) shapeCasts_S2048x4096_S8192x1024
    ∧ W20 m ρ c main_v61 = shapeCast S8192x1024 (W19 m ρ c main_v59_1) shapeCasts_S2048x4096_S8192x1024
    ∧ W20 m ρ c main_v62 = shapeCast S512x16384 (W19 m ρ c main_v23) shapeCasts_S8192x1024_S512x16384
    ∧ W20 m ρ c main_v63 = shapeCast S512x16384 (W19 m ρ c main_arg2) shapeCasts_S8192x1024_S512x16384
    ∧ W20 m ρ c main_v64 = shapeCast S512x16384 (W19 m ρ c main_v22) shapeCasts_S8192x1024_S512x16384
    ∧ W20 m ρ c main_v65 = shapeCast S512x16384 (W19 m ρ c main_arg5) shapeCasts_S8192x1024_S512x16384
    ∧ W20 m ρ c main_v66 = shapeCast S512x16384 (W19 m ρ c main_v41_1) shapeCasts_S8192x1024_S512x16384
    ∧ W20 m ρ c main_v67 = shapeCast S512x16384 (W19 m ρ c main_v42) shapeCasts_S8192x1024_S512x16384 := by
  simp only [show W20 m ρ c = StableHlo.after hostOps11 (W19 m ρ c) from rfl]
  generalize W19 m ρ c = Y
  refine ⟨?_, ?_, ?_, ?_, ?_, ?_, ?_, ?_⟩ <;> (after_results; rfl)

theorem reshapes22 : W22 m ρ c main_v69 = shapeCast S8192x1024 (W21 m ρ c main_v68) shapeCasts_S512x16384_S8192x1024
    ∧ W22 m ρ c main_v70 = shapeCast S512x16384 (W21 m ρ c main_v22) shapeCasts_S8192x1024_S512x16384
    ∧ W22 m ρ c main_v71 = shapeCast S512x16384 (W21 m ρ c main_arg5) shapeCasts_S8192x1024_S512x16384
    ∧ W22 m ρ c main_v72 = shapeCast S512x16384 (W21 m ρ c main_v41_1) shapeCasts_S8192x1024_S512x16384
    ∧ W22 m ρ c main_v73 = shapeCast S512x16384 (W21 m ρ c main_v42) shapeCasts_S8192x1024_S512x16384
    ∧ W22 m ρ c main_v74 = shapeCast S512x16384 (W21 m ρ c main_v23) shapeCasts_S8192x1024_S512x16384
    ∧ W22 m ρ c main_v75 = shapeCast S512x16384 (W21 m ρ c main_arg2) shapeCasts_S8192x1024_S512x16384 := by
  simp only [show W22 m ρ c = StableHlo.after hostOps12 (W21 m ρ c) from rfl]
  generalize W21 m ρ c = Y
  refine ⟨?_, ?_, ?_, ?_, ?_, ?_, ?_⟩ <;> (after_results; rfl)

theorem reshapes24 : W24 m ρ c main_v77 = shapeCast S8192x1024 (W23 m ρ c main_v76_0) shapeCasts_S512x16384_S8192x1024
    ∧ W24 m ρ c main_v78 = shapeCast S8192x1024 (W23 m ρ c main_v76_1) shapeCasts_S512x16384_S8192x1024 := by
  simp only [show W24 m ρ c = StableHlo.after hostOps13 (W23 m ρ c) from rfl]
  generalize W23 m ρ c = Y
  refine ⟨?_, ?_⟩ <;> (after_results; rfl)

/-! ## The arrays of the program, from the arguments' -/

section Arrays
variable (Q K V C S G : ℕ → ℕ → ℝ)

/-- The rotated queries; the keys are rotated the same way. -/
def turnedBy (Q C S : ℕ → ℕ → ℝ) : ℕ → ℕ → ℝ := headsTurned Q (cosT C) (upT S) (downT S)
/-- A gradient rotated back. -/
def turnedBack (X C S : ℕ → ℕ → ℝ) : ℕ → ℕ → ℝ := headsTurned X (cosT C) (fun i j => downT S i ((j + 112) % 128)) (fun i j => upT S i ((j + 16) % 128))
/-- One pattern's output. -/
def oP (d : ℕ) : ℕ → ℕ → ℝ := byHead (oTok d (turnedBy Q C S) (turnedBy K C S) V)
/-- One pattern's log-denominators. -/
def lP (d : ℕ) : ℕ → ℕ → ℝ := rows fun h t => Real.log (zTok d (turnedBy Q C S) (turnedBy K C S) h t)
/-- The mixture. -/
def oF : ℕ → ℕ → ℝ := mixO (lP Q K C S 1) (lP Q K C S 4) (lP Q K C S 16) (oP Q K V C S 1) (oP Q K V C S 4) (oP Q K V C S 16)
/-- Its log-denominators, per head and token. -/
def mF (h t : ℕ) : ℝ := Real.log (Real.exp (Real.log (zTok 1 (turnedBy Q C S) (turnedBy K C S) h t)) + Real.exp (Real.log (zTok 4 (turnedBy Q C S) (turnedBy K C S) h t)) + Real.exp (Real.log (zTok 16 (turnedBy Q C S) (turnedBy K C S) h t)))
/-- The row sums of cotangent times output, per head and token. -/
def dF (h t : ℕ) : ℝ := ∑ e : Fin 128, G t (128 * h + e) * oF Q K V C S t (128 * h + e)
/-- One pattern's part of the gradient of the rotated queries. -/
def dqP (d : ℕ) : ℕ → ℕ → ℝ := byHead (dqTok d (turnedBy Q C S) (turnedBy K C S) V G (mF Q K C S) (dF Q K V C S G))
/-- One pattern's part of the gradient of the rotated keys. -/
def dkP (d : ℕ) : ℕ → ℕ → ℝ := byHead (dkTok d (turnedBy Q C S) (turnedBy K C S) V G (mF Q K C S) (dF Q K V C S G))
/-- One pattern's part of the gradient of the values. -/
def dvP (d : ℕ) : ℕ → ℕ → ℝ := byHead (dvTok d (turnedBy Q C S) (turnedBy K C S) G (mF Q K C S))
/-- The gradient of the queries. -/
def dQ : ℕ → ℕ → ℝ := turnedBack (sum3 (dqP Q K V C S G 1) (dqP Q K V C S G 4) (dqP Q K V C S G 16)) C S
/-- The gradient of the keys. -/
def dK : ℕ → ℕ → ℝ := turnedBack (sum3 (dkP Q K V C S G 1) (dkP Q K V C S G 4) (dkP Q K V C S G 16)) C S
/-- The gradient of the values. -/
def dV : ℕ → ℕ → ℝ := sum3 (dvP Q K C S G 1) (dvP Q K C S G 4) (dvP Q K C S G 16)

/-- The arguments' arrays of a device. -/
structure Args : Prop where
  q : @Holds 8192 1024 (m ((c.tc : Thread nD τ).loc main_arg0)) Q
  k : @Holds 8192 1024 (m ((c.tc : Thread nD τ).loc main_arg1)) K
  v : @Holds 8192 1024 (m ((c.tc : Thread nD τ).loc main_arg2)) V
  cs : @Holds 8192 16 (m ((c.tc : Thread nD τ).loc main_arg3)) C
  sn : @Holds 8192 16 (m ((c.tc : Thread nD τ).loc main_arg4)) S
  g : @Holds 8192 1024 (m ((c.tc : Thread nD τ).loc main_arg5)) G

/-- An array that equals another holds what it holds. -/
theorem holds_of_eq {a b : ℕ} {X Y : (⟨2, ![a, b]⟩ : Shape).Idx → EReal} {A : ℕ → ℕ → ℝ} (h : Holds Y A) (e : X = Y) : Holds X A := e ▸ h

variable {m c Q K V C S G} (H : Args m c Q K V C S G)
include H

theorem at1_v2 : @Holds 8192 128 (W1 m ρ c main_v2) (cosT C) :=
  holds_of_eq (cosines_holds H.cs) (W1_v2 m ρ c)

theorem at1_v5 : @Holds 8192 128 (W1 m ρ c main_v5) (upT S) :=
  holds_of_eq (sinesUp_holds H.sn) (W1_v5 m ρ c)

theorem at1_v9 : @Holds 8192 128 (W1 m ρ c main_v9) (downT S) :=
  holds_of_eq (sinesDown_holds H.sn) (W1_v9 m ρ c)

theorem at1_v12 : @Holds 8192 128 (W1 m ρ c main_v12) (cosT C) :=
  holds_of_eq (cosines_holds H.cs) (W1_v12 m ρ c)

theorem at1_v15 : @Holds 8192 128 (W1 m ρ c main_v15) (upT S) :=
  holds_of_eq (sinesUp_holds H.sn) (W1_v15 m ρ c)

theorem at1_v19 : @Holds 8192 128 (W1 m ρ c main_v19) (downT S) :=
  holds_of_eq (sinesDown_holds H.sn) (W1_v19 m ρ c)

theorem at2_v20 : @Holds 8192 128 (W2 m ρ c main_v20) (fun i j => downT S i ((j + 112) % 128)) :=
  holds_of_eq (forth_holds (at1_v19 ρ H)) (W2_v20 m ρ c)

theorem at2_v15 : @Holds 8192 128 (W2 m ρ c main_v15) (upT S) :=
  holds_of_eq (at1_v15 ρ H) (W2_of m ρ c main_v15 (by decide))

theorem at3_v21 : @Holds 8192 128 (W3 m ρ c main_v21) (fun i j => upT S i ((j + 16) % 128)) :=
  holds_of_eq (back_holds (at2_v15 ρ H)) (W3_v21 m ρ c)

theorem at3_v2 : @Holds 8192 128 (W3 m ρ c main_v2) (cosT C) :=
  holds_of_eq (at1_v2 ρ H) ((W3_of m ρ c main_v2 (by decide)).trans (W2_of m ρ c main_v2 (by decide)))

theorem at3_v5 : @Holds 8192 128 (W3 m ρ c main_v5) (upT S) :=
  holds_of_eq (at1_v5 ρ H) ((W3_of m ρ c main_v5 (by decide)).trans (W2_of m ρ c main_v5 (by decide)))

theorem at3_v9 : @Holds 8192 128 (W3 m ρ c main_v9) (downT S) :=
  holds_of_eq (at1_v9 ρ H) ((W3_of m ρ c main_v9 (by decide)).trans (W2_of m ρ c main_v9 (by decide)))

theorem at4_v22 : @Holds 8192 1024 (W4 m ρ c main_v22) (turnedBy Q C S) :=
  holds_of_eq (final0_4 (V3 m ρ) (holds_of_eq H.q (W3_args m ρ c main_arg0 (by decide))) (at3_v2 ρ H) (at3_v5 ρ H) (at3_v9 ρ H)) (W4_arr m ρ c 4)

theorem at4_v2 : @Holds 8192 128 (W4 m ρ c main_v2) (cosT C) :=
  holds_of_eq (at3_v2 ρ H) (W4_of m ρ c main_v2 (by decide))

theorem at4_v5 : @Holds 8192 128 (W4 m ρ c main_v5) (upT S) :=
  holds_of_eq (at3_v5 ρ H) (W4_of m ρ c main_v5 (by decide))

theorem at4_v9 : @Holds 8192 128 (W4 m ρ c main_v9) (downT S) :=
  holds_of_eq (at3_v9 ρ H) (W4_of m ρ c main_v9 (by decide))

theorem at5_v23 : @Holds 8192 1024 (W5 m ρ c main_v23) (turnedBy K C S) :=
  holds_of_eq (final1_4 (V4 m ρ) (holds_of_eq H.k (W4_args m ρ c main_arg1 (by decide))) (at4_v2 ρ H) (at4_v5 ρ H) (at4_v9 ρ H)) (W5_arr m ρ c 4)

theorem at5_v22 : @Holds 8192 1024 (W5 m ρ c main_v22) (turnedBy Q C S) :=
  holds_of_eq (at4_v22 ρ H) (W5_of m ρ c main_v22 (by decide))

theorem at6_v24_0 : @Holds 8192 1024 (W6 m ρ c main_v24_0) (oP Q K V C S 1) :=
  holds_of_eq (of_view_one (final2_o (V5 m ρ) (view_one (at5_v22 ρ H)) (view_one (at5_v23 ρ H)) (view_one (holds_of_eq H.v (W5_args m ρ c main_arg2 (by decide)))))) (W6_arr m ρ c 5)

theorem at6_v24_1 : @Holds 8192 1024 (W6 m ρ c main_v24_1) (lP Q K C S 1) :=
  holds_of_eq (of_view_one (final2_lse (V5 m ρ) (view_one (at5_v22 ρ H)) (view_one (at5_v23 ρ H)) (view_one (holds_of_eq H.v (W5_args m ρ c main_arg2 (by decide)))))) (W6_arr m ρ c 6)

theorem at6_v22 : @Holds 8192 1024 (W6 m ρ c main_v22) (turnedBy Q C S) :=
  holds_of_eq (at5_v22 ρ H) (W6_of m ρ c main_v22 (by decide))

theorem at7_v25 : @Holds 2048 4096 (W7 m ρ c main_v25) (view 4 (turnedBy Q C S)) :=
  holds_of_eq (view4 (at6_v22 ρ H)) (reshapes7 m ρ c).1

theorem at6_v23 : @Holds 8192 1024 (W6 m ρ c main_v23) (turnedBy K C S) :=
  holds_of_eq (at5_v23 ρ H) (W6_of m ρ c main_v23 (by decide))

theorem at7_v26 : @Holds 2048 4096 (W7 m ρ c main_v26) (view 4 (turnedBy K C S)) :=
  holds_of_eq (view4 (at6_v23 ρ H)) (reshapes7 m ρ c).2.1

theorem at7_v27 : @Holds 2048 4096 (W7 m ρ c main_v27) (view 4 (turnedBy K C S)) :=
  holds_of_eq (view4 (at6_v23 ρ H)) (reshapes7 m ρ c).2.2.1

theorem at7_v28 : @Holds 2048 4096 (W7 m ρ c main_v28) (view 4 (V)) :=
  holds_of_eq (view4 (holds_of_eq H.v (W6_args m ρ c main_arg2 (by decide)))) (reshapes7 m ρ c).2.2.2.1

theorem at7_v29 : @Holds 2048 4096 (W7 m ρ c main_v29) (view 4 (V)) :=
  holds_of_eq (view4 (holds_of_eq H.v (W6_args m ρ c main_arg2 (by decide)))) (reshapes7 m ρ c).2.2.2.2

theorem at8_v30_0 : @Holds 2048 4096 (W8 m ρ c main_v30_0) (view 4 (oP Q K V C S 4)) :=
  holds_of_eq (final3_o (V7 m ρ) (at7_v25 ρ H) (at7_v26 ρ H) (at7_v27 ρ H) (at7_v28 ρ H) (at7_v29 ρ H)) (W8_arr m ρ c 5)

theorem at8_v30_1 : @Holds 2048 4096 (W8 m ρ c main_v30_1) (view 4 (lP Q K C S 4)) :=
  holds_of_eq (final3_lse (V7 m ρ) (at7_v25 ρ H) (at7_v26 ρ H) (at7_v27 ρ H) (at7_v28 ρ H) (at7_v29 ρ H)) (W8_arr m ρ c 6)

theorem at9_v31 : @Holds 8192 1024 (W9 m ρ c main_v31) (oP Q K V C S 4) :=
  holds_of_eq (unview4 (at8_v30_0 ρ H)) (reshapes9 m ρ c).1

theorem at9_v32 : @Holds 8192 1024 (W9 m ρ c main_v32) (lP Q K C S 4) :=
  holds_of_eq (unview4_f (at8_v30_1 ρ H)) (reshapes9 m ρ c).2.1

theorem at8_v22 : @Holds 8192 1024 (W8 m ρ c main_v22) (turnedBy Q C S) :=
  holds_of_eq (at6_v22 ρ H) ((W8_of m ρ c main_v22 (by decide)).trans (W7_of m ρ c main_v22 (by decide)))

theorem at9_v33 : @Holds 512 16384 (W9 m ρ c main_v33) (view 16 (turnedBy Q C S)) :=
  holds_of_eq (view16 (at8_v22 ρ H)) (reshapes9 m ρ c).2.2.1

theorem at8_v23 : @Holds 8192 1024 (W8 m ρ c main_v23) (turnedBy K C S) :=
  holds_of_eq (at6_v23 ρ H) ((W8_of m ρ c main_v23 (by decide)).trans (W7_of m ρ c main_v23 (by decide)))

theorem at9_v34 : @Holds 512 16384 (W9 m ρ c main_v34) (view 16 (turnedBy K C S)) :=
  holds_of_eq (view16 (at8_v23 ρ H)) (reshapes9 m ρ c).2.2.2.1

theorem at9_v35 : @Holds 512 16384 (W9 m ρ c main_v35) (view 16 (turnedBy K C S)) :=
  holds_of_eq (view16 (at8_v23 ρ H)) (reshapes9 m ρ c).2.2.2.2.1

theorem at9_v36 : @Holds 512 16384 (W9 m ρ c main_v36) (view 16 (V)) :=
  holds_of_eq (view16 (holds_of_eq H.v (W8_args m ρ c main_arg2 (by decide)))) (reshapes9 m ρ c).2.2.2.2.2.1

theorem at9_v37 : @Holds 512 16384 (W9 m ρ c main_v37) (view 16 (V)) :=
  holds_of_eq (view16 (holds_of_eq H.v (W8_args m ρ c main_arg2 (by decide)))) (reshapes9 m ρ c).2.2.2.2.2.2

theorem at10_v38_0 : @Holds 512 16384 (W10 m ρ c main_v38_0) (view 16 (oP Q K V C S 16)) :=
  holds_of_eq (final4_o (V9 m ρ) (at9_v33 ρ H) (at9_v34 ρ H) (at9_v35 ρ H) (at9_v36 ρ H) (at9_v37 ρ H)) (W10_arr m ρ c 5)

theorem at10_v38_1 : @Holds 512 16384 (W10 m ρ c main_v38_1) (view 16 (lP Q K C S 16)) :=
  holds_of_eq (final4_lse (V9 m ρ) (at9_v33 ρ H) (at9_v34 ρ H) (at9_v35 ρ H) (at9_v36 ρ H) (at9_v37 ρ H)) (W10_arr m ρ c 6)

theorem at11_v39 : @Holds 8192 1024 (W11 m ρ c main_v39) (oP Q K V C S 16) :=
  holds_of_eq (unview16 (at10_v38_0 ρ H)) (reshapes11 m ρ c).1

theorem at11_v40 : @Holds 8192 1024 (W11 m ρ c main_v40) (lP Q K C S 16) :=
  holds_of_eq (unview16_f (at10_v38_1 ρ H)) (reshapes11 m ρ c).2

theorem at11_v24_0 : @Holds 8192 1024 (W11 m ρ c main_v24_0) (oP Q K V C S 1) :=
  holds_of_eq (at6_v24_0 ρ H) ((W11_of m ρ c main_v24_0 (by decide)).trans ((W10_of m ρ c main_v24_0 (by decide)).trans ((W9_of m ρ c main_v24_0 (by decide)).trans ((W8_of m ρ c main_v24_0 (by decide)).trans (W7_of m ρ c main_v24_0 (by decide))))))

theorem at11_v31 : @Holds 8192 1024 (W11 m ρ c main_v31) (oP Q K V C S 4) :=
  holds_of_eq (at9_v31 ρ H) ((W11_of m ρ c main_v31 (by decide)).trans (W10_of m ρ c main_v31 (by decide)))

theorem at11_v24_1 : @Holds 8192 1024 (W11 m ρ c main_v24_1) (lP Q K C S 1) :=
  holds_of_eq (at6_v24_1 ρ H) ((W11_of m ρ c main_v24_1 (by decide)).trans ((W10_of m ρ c main_v24_1 (by decide)).trans ((W9_of m ρ c main_v24_1 (by decide)).trans ((W8_of m ρ c main_v24_1 (by decide)).trans (W7_of m ρ c main_v24_1 (by decide))))))

theorem at11_v32 : @Holds 8192 1024 (W11 m ρ c main_v32) (lP Q K C S 4) :=
  holds_of_eq (at9_v32 ρ H) ((W11_of m ρ c main_v32 (by decide)).trans (W10_of m ρ c main_v32 (by decide)))

theorem at12_v41_0 : @Holds 8192 1024 (W12 m ρ c main_v41_0) (oF Q K V C S) :=
  holds_of_eq (final5_6 (V11 m ρ) (at11_v24_0 ρ H) (at11_v31 ρ H) (at11_v39 ρ H) (at11_v24_1 ρ H) (at11_v32 ρ H) (at11_v40 ρ H)) (W12_arr m ρ c 6)

theorem at12_v41_1 : @Holds 8192 1024 (W12 m ρ c main_v41_1) (rows (mF Q K C S)) :=
  holds_of_eq (final5_7 (V11 m ρ) (at11_v24_0 ρ H) (at11_v31 ρ H) (at11_v39 ρ H) (at11_v24_1 ρ H) (at11_v32 ρ H) (at11_v40 ρ H)) (W12_arr m ρ c 7)

theorem at13_v42 : @Holds 8192 1024 (W13 m ρ c main_v42) (rows (dF Q K V C S G)) :=
  holds_of_eq (final6_2 (V12 m ρ) (holds_of_eq H.g (W12_args m ρ c main_arg5 (by decide))) (at12_v41_0 ρ H)) (W13_arr m ρ c 2)

theorem at13_v22 : @Holds 8192 1024 (W13 m ρ c main_v22) (turnedBy Q C S) :=
  holds_of_eq (at8_v22 ρ H) ((W13_of m ρ c main_v22 (by decide)).trans ((W12_of m ρ c main_v22 (by decide)).trans ((W11_of m ρ c main_v22 (by decide)).trans ((W10_of m ρ c main_v22 (by decide)).trans (W9_of m ρ c main_v22 (by decide))))))

theorem at13_v23 : @Holds 8192 1024 (W13 m ρ c main_v23) (turnedBy K C S) :=
  holds_of_eq (at8_v23 ρ H) ((W13_of m ρ c main_v23 (by decide)).trans ((W12_of m ρ c main_v23 (by decide)).trans ((W11_of m ρ c main_v23 (by decide)).trans ((W10_of m ρ c main_v23 (by decide)).trans (W9_of m ρ c main_v23 (by decide))))))

theorem at13_v41_1 : @Holds 8192 1024 (W13 m ρ c main_v41_1) (rows (mF Q K C S)) :=
  holds_of_eq (at12_v41_1 ρ H) (W13_of m ρ c main_v41_1 (by decide))

theorem at14_v43 : @Holds 8192 1024 (W14 m ρ c main_v43) (dqP Q K V C S G 1) :=
  holds_of_eq (of_view_one (final7_dq (V13 m ρ) (view_one (at13_v22 ρ H)) (view_one (at13_v23 ρ H)) (view_one (holds_of_eq H.v (W13_args m ρ c main_arg2 (by decide)))) (view_one (holds_of_eq H.g (W13_args m ρ c main_arg5 (by decide)))) (view_one (at13_v41_1 ρ H)) (view_one (at13_v42 ρ H)))) (W14_arr m ρ c 8)

theorem at14_v23 : @Holds 8192 1024 (W14 m ρ c main_v23) (turnedBy K C S) :=
  holds_of_eq (at13_v23 ρ H) (W14_of m ρ c main_v23 (by decide))

theorem at14_v22 : @Holds 8192 1024 (W14 m ρ c main_v22) (turnedBy Q C S) :=
  holds_of_eq (at13_v22 ρ H) (W14_of m ρ c main_v22 (by decide))

theorem at14_v41_1 : @Holds 8192 1024 (W14 m ρ c main_v41_1) (rows (mF Q K C S)) :=
  holds_of_eq (at13_v41_1 ρ H) (W14_of m ρ c main_v41_1 (by decide))

theorem at14_v42 : @Holds 8192 1024 (W14 m ρ c main_v42) (rows (dF Q K V C S G)) :=
  holds_of_eq (at13_v42 ρ H) (W14_of m ρ c main_v42 (by decide))

theorem at15_v44_0 : @Holds 8192 1024 (W15 m ρ c main_v44_0) (dkP Q K V C S G 1) :=
  holds_of_eq (of_view_one (final8_dk (V14 m ρ) (view_one (at14_v23 ρ H)) (view_one (holds_of_eq H.v (W14_args m ρ c main_arg2 (by decide)))) (view_one (at14_v22 ρ H)) (view_one (holds_of_eq H.g (W14_args m ρ c main_arg5 (by decide)))) (view_one (at14_v41_1 ρ H)) (view_one (at14_v42 ρ H)))) (W15_arr m ρ c 10)

theorem at15_v44_1 : @Holds 8192 1024 (W15 m ρ c main_v44_1) (dvP Q K C S G 1) :=
  holds_of_eq (of_view_one (final8_dv (V14 m ρ) (view_one (at14_v23 ρ H)) (view_one (holds_of_eq H.v (W14_args m ρ c main_arg2 (by decide)))) (view_one (at14_v22 ρ H)) (view_one (holds_of_eq H.g (W14_args m ρ c main_arg5 (by decide)))) (view_one (at14_v41_1 ρ H)) (view_one (at14_v42 ρ H)))) (W15_arr m ρ c 11)

theorem at15_v23 : @Holds 8192 1024 (W15 m ρ c main_v23) (turnedBy K C S) :=
  holds_of_eq (at14_v23 ρ H) (W15_of m ρ c main_v23 (by decide))

theorem at16_v45 : @Holds 2048 4096 (W16 m ρ c main_v45) (view 4 (turnedBy K C S)) :=
  holds_of_eq (view4 (at15_v23 ρ H)) (reshapes16 m ρ c).1

theorem at16_v46 : @Holds 2048 4096 (W16 m ρ c main_v46) (view 4 (V)) :=
  holds_of_eq (view4 (holds_of_eq H.v (W15_args m ρ c main_arg2 (by decide)))) (reshapes16 m ρ c).2.1

theorem at15_v22 : @Holds 8192 1024 (W15 m ρ c main_v22) (turnedBy Q C S) :=
  holds_of_eq (at14_v22 ρ H) (W15_of m ρ c main_v22 (by decide))

theorem at16_v47 : @Holds 2048 4096 (W16 m ρ c main_v47) (view 4 (turnedBy Q C S)) :=
  holds_of_eq (view4 (at15_v22 ρ H)) (reshapes16 m ρ c).2.2.1

theorem at16_v48 : @Holds 2048 4096 (W16 m ρ c main_v48) (view 4 (G)) :=
  holds_of_eq (view4 (holds_of_eq H.g (W15_args m ρ c main_arg5 (by decide)))) (reshapes16 m ρ c).2.2.2.1

theorem at15_v41_1 : @Holds 8192 1024 (W15 m ρ c main_v41_1) (rows (mF Q K C S)) :=
  holds_of_eq (at14_v41_1 ρ H) (W15_of m ρ c main_v41_1 (by decide))

theorem at16_v49 : @Holds 2048 4096 (W16 m ρ c main_v49) (view 4 (rows (mF Q K C S))) :=
  holds_of_eq (view4_f (at15_v41_1 ρ H)) (reshapes16 m ρ c).2.2.2.2.1

theorem at15_v42 : @Holds 8192 1024 (W15 m ρ c main_v42) (rows (dF Q K V C S G)) :=
  holds_of_eq (at14_v42 ρ H) (W15_of m ρ c main_v42 (by decide))

theorem at16_v50 : @Holds 2048 4096 (W16 m ρ c main_v50) (view 4 (rows (dF Q K V C S G))) :=
  holds_of_eq (view4_f (at15_v42 ρ H)) (reshapes16 m ρ c).2.2.2.2.2

theorem at17_v51 : @Holds 2048 4096 (W17 m ρ c main_v51) (view 4 (dqP Q K V C S G 4)) :=
  holds_of_eq (final9_dq (V16 m ρ) (at16_v47 ρ H) (at16_v45 ρ H) (at16_v46 ρ H) (at16_v48 ρ H) (at16_v49 ρ H) (at16_v50 ρ H)) (W17_arr m ρ c 8)

theorem at18_v52 : @Holds 8192 1024 (W18 m ρ c main_v52) (dqP Q K V C S G 4) :=
  holds_of_eq (unview4 (at17_v51 ρ H)) (reshapes18 m ρ c).1

theorem at17_v22 : @Holds 8192 1024 (W17 m ρ c main_v22) (turnedBy Q C S) :=
  holds_of_eq (at15_v22 ρ H) ((W17_of m ρ c main_v22 (by decide)).trans (W16_of m ρ c main_v22 (by decide)))

theorem at18_v53 : @Holds 2048 4096 (W18 m ρ c main_v53) (view 4 (turnedBy Q C S)) :=
  holds_of_eq (view4 (at17_v22 ρ H)) (reshapes18 m ρ c).2.1

theorem at18_v54 : @Holds 2048 4096 (W18 m ρ c main_v54) (view 4 (G)) :=
  holds_of_eq (view4 (holds_of_eq H.g (W17_args m ρ c main_arg5 (by decide)))) (reshapes18 m ρ c).2.2.1

theorem at17_v41_1 : @Holds 8192 1024 (W17 m ρ c main_v41_1) (rows (mF Q K C S)) :=
  holds_of_eq (at15_v41_1 ρ H) ((W17_of m ρ c main_v41_1 (by decide)).trans (W16_of m ρ c main_v41_1 (by decide)))

theorem at18_v55 : @Holds 2048 4096 (W18 m ρ c main_v55) (view 4 (rows (mF Q K C S))) :=
  holds_of_eq (view4_f (at17_v41_1 ρ H)) (reshapes18 m ρ c).2.2.2.1

theorem at17_v42 : @Holds 8192 1024 (W17 m ρ c main_v42) (rows (dF Q K V C S G)) :=
  holds_of_eq (at15_v42 ρ H) ((W17_of m ρ c main_v42 (by decide)).trans (W16_of m ρ c main_v42 (by decide)))

theorem at18_v56 : @Holds 2048 4096 (W18 m ρ c main_v56) (view 4 (rows (dF Q K V C S G))) :=
  holds_of_eq (view4_f (at17_v42 ρ H)) (reshapes18 m ρ c).2.2.2.2.1

theorem at17_v23 : @Holds 8192 1024 (W17 m ρ c main_v23) (turnedBy K C S) :=
  holds_of_eq (at15_v23 ρ H) ((W17_of m ρ c main_v23 (by decide)).trans (W16_of m ρ c main_v23 (by decide)))

theorem at18_v57 : @Holds 2048 4096 (W18 m ρ c main_v57) (view 4 (turnedBy K C S)) :=
  holds_of_eq (view4 (at17_v23 ρ H)) (reshapes18 m ρ c).2.2.2.2.2.1

theorem at18_v58 : @Holds 2048 4096 (W18 m ρ c main_v58) (view 4 (V)) :=
  holds_of_eq (view4 (holds_of_eq H.v (W17_args m ρ c main_arg2 (by decide)))) (reshapes18 m ρ c).2.2.2.2.2.2

theorem at19_v59_0 : @Holds 2048 4096 (W19 m ρ c main_v59_0) (view 4 (dkP Q K V C S G 4)) :=
  holds_of_eq (final10_dk (V18 m ρ) (at18_v57 ρ H) (at18_v58 ρ H) (at18_v53 ρ H) (at18_v54 ρ H) (at18_v55 ρ H) (at18_v56 ρ H)) (W19_arr m ρ c 10)

theorem at19_v59_1 : @Holds 2048 4096 (W19 m ρ c main_v59_1) (view 4 (dvP Q K C S G 4)) :=
  holds_of_eq (final10_dv (V18 m ρ) (at18_v57 ρ H) (at18_v58 ρ H) (at18_v53 ρ H) (at18_v54 ρ H) (at18_v55 ρ H) (at18_v56 ρ H)) (W19_arr m ρ c 11)

theorem at20_v60 : @Holds 8192 1024 (W20 m ρ c main_v60) (dkP Q K V C S G 4) :=
  holds_of_eq (unview4 (at19_v59_0 ρ H)) (reshapes20 m ρ c).1

theorem at20_v61 : @Holds 8192 1024 (W20 m ρ c main_v61) (dvP Q K C S G 4) :=
  holds_of_eq (unview4 (at19_v59_1 ρ H)) (reshapes20 m ρ c).2.1

theorem at19_v23 : @Holds 8192 1024 (W19 m ρ c main_v23) (turnedBy K C S) :=
  holds_of_eq (at17_v23 ρ H) ((W19_of m ρ c main_v23 (by decide)).trans (W18_of m ρ c main_v23 (by decide)))

theorem at20_v62 : @Holds 512 16384 (W20 m ρ c main_v62) (view 16 (turnedBy K C S)) :=
  holds_of_eq (view16 (at19_v23 ρ H)) (reshapes20 m ρ c).2.2.1

theorem at20_v63 : @Holds 512 16384 (W20 m ρ c main_v63) (view 16 (V)) :=
  holds_of_eq (view16 (holds_of_eq H.v (W19_args m ρ c main_arg2 (by decide)))) (reshapes20 m ρ c).2.2.2.1

theorem at19_v22 : @Holds 8192 1024 (W19 m ρ c main_v22) (turnedBy Q C S) :=
  holds_of_eq (at17_v22 ρ H) ((W19_of m ρ c main_v22 (by decide)).trans (W18_of m ρ c main_v22 (by decide)))

theorem at20_v64 : @Holds 512 16384 (W20 m ρ c main_v64) (view 16 (turnedBy Q C S)) :=
  holds_of_eq (view16 (at19_v22 ρ H)) (reshapes20 m ρ c).2.2.2.2.1

theorem at20_v65 : @Holds 512 16384 (W20 m ρ c main_v65) (view 16 (G)) :=
  holds_of_eq (view16 (holds_of_eq H.g (W19_args m ρ c main_arg5 (by decide)))) (reshapes20 m ρ c).2.2.2.2.2.1

theorem at19_v41_1 : @Holds 8192 1024 (W19 m ρ c main_v41_1) (rows (mF Q K C S)) :=
  holds_of_eq (at17_v41_1 ρ H) ((W19_of m ρ c main_v41_1 (by decide)).trans (W18_of m ρ c main_v41_1 (by decide)))

theorem at20_v66 : @Holds 512 16384 (W20 m ρ c main_v66) (view 16 (rows (mF Q K C S))) :=
  holds_of_eq (view16_f (at19_v41_1 ρ H)) (reshapes20 m ρ c).2.2.2.2.2.2.1

theorem at19_v42 : @Holds 8192 1024 (W19 m ρ c main_v42) (rows (dF Q K V C S G)) :=
  holds_of_eq (at17_v42 ρ H) ((W19_of m ρ c main_v42 (by decide)).trans (W18_of m ρ c main_v42 (by decide)))

theorem at20_v67 : @Holds 512 16384 (W20 m ρ c main_v67) (view 16 (rows (dF Q K V C S G))) :=
  holds_of_eq (view16_f (at19_v42 ρ H)) (reshapes20 m ρ c).2.2.2.2.2.2.2

theorem at21_v68 : @Holds 512 16384 (W21 m ρ c main_v68) (view 16 (dqP Q K V C S G 16)) :=
  holds_of_eq (final11_dq (V20 m ρ) (at20_v64 ρ H) (at20_v62 ρ H) (at20_v63 ρ H) (at20_v65 ρ H) (at20_v66 ρ H) (at20_v67 ρ H)) (W21_arr m ρ c 8)

theorem at22_v69 : @Holds 8192 1024 (W22 m ρ c main_v69) (dqP Q K V C S G 16) :=
  holds_of_eq (unview16 (at21_v68 ρ H)) (reshapes22 m ρ c).1

theorem at21_v22 : @Holds 8192 1024 (W21 m ρ c main_v22) (turnedBy Q C S) :=
  holds_of_eq (at19_v22 ρ H) ((W21_of m ρ c main_v22 (by decide)).trans (W20_of m ρ c main_v22 (by decide)))

theorem at22_v70 : @Holds 512 16384 (W22 m ρ c main_v70) (view 16 (turnedBy Q C S)) :=
  holds_of_eq (view16 (at21_v22 ρ H)) (reshapes22 m ρ c).2.1

theorem at22_v71 : @Holds 512 16384 (W22 m ρ c main_v71) (view 16 (G)) :=
  holds_of_eq (view16 (holds_of_eq H.g (W21_args m ρ c main_arg5 (by decide)))) (reshapes22 m ρ c).2.2.1

theorem at21_v41_1 : @Holds 8192 1024 (W21 m ρ c main_v41_1) (rows (mF Q K C S)) :=
  holds_of_eq (at19_v41_1 ρ H) ((W21_of m ρ c main_v41_1 (by decide)).trans (W20_of m ρ c main_v41_1 (by decide)))

theorem at22_v72 : @Holds 512 16384 (W22 m ρ c main_v72) (view 16 (rows (mF Q K C S))) :=
  holds_of_eq (view16_f (at21_v41_1 ρ H)) (reshapes22 m ρ c).2.2.2.1

theorem at21_v42 : @Holds 8192 1024 (W21 m ρ c main_v42) (rows (dF Q K V C S G)) :=
  holds_of_eq (at19_v42 ρ H) ((W21_of m ρ c main_v42 (by decide)).trans (W20_of m ρ c main_v42 (by decide)))

theorem at22_v73 : @Holds 512 16384 (W22 m ρ c main_v73) (view 16 (rows (dF Q K V C S G))) :=
  holds_of_eq (view16_f (at21_v42 ρ H)) (reshapes22 m ρ c).2.2.2.2.1

theorem at21_v23 : @Holds 8192 1024 (W21 m ρ c main_v23) (turnedBy K C S) :=
  holds_of_eq (at19_v23 ρ H) ((W21_of m ρ c main_v23 (by decide)).trans (W20_of m ρ c main_v23 (by decide)))

theorem at22_v74 : @Holds 512 16384 (W22 m ρ c main_v74) (view 16 (turnedBy K C S)) :=
  holds_of_eq (view16 (at21_v23 ρ H)) (reshapes22 m ρ c).2.2.2.2.2.1

theorem at22_v75 : @Holds 512 16384 (W22 m ρ c main_v75) (view 16 (V)) :=
  holds_of_eq (view16 (holds_of_eq H.v (W21_args m ρ c main_arg2 (by decide)))) (reshapes22 m ρ c).2.2.2.2.2.2

theorem at23_v76_0 : @Holds 512 16384 (W23 m ρ c main_v76_0) (view 16 (dkP Q K V C S G 16)) :=
  holds_of_eq (final12_dk (V22 m ρ) (at22_v74 ρ H) (at22_v75 ρ H) (at22_v70 ρ H) (at22_v71 ρ H) (at22_v72 ρ H) (at22_v73 ρ H)) (W23_arr m ρ c 10)

theorem at23_v76_1 : @Holds 512 16384 (W23 m ρ c main_v76_1) (view 16 (dvP Q K C S G 16)) :=
  holds_of_eq (final12_dv (V22 m ρ) (at22_v74 ρ H) (at22_v75 ρ H) (at22_v70 ρ H) (at22_v71 ρ H) (at22_v72 ρ H) (at22_v73 ρ H)) (W23_arr m ρ c 11)

theorem at24_v77 : @Holds 8192 1024 (W24 m ρ c main_v77) (dkP Q K V C S G 16) :=
  holds_of_eq (unview16 (at23_v76_0 ρ H)) (reshapes24 m ρ c).1

theorem at24_v78 : @Holds 8192 1024 (W24 m ρ c main_v78) (dvP Q K C S G 16) :=
  holds_of_eq (unview16 (at23_v76_1 ρ H)) (reshapes24 m ρ c).2

theorem at24_v43 : @Holds 8192 1024 (W24 m ρ c main_v43) (dqP Q K V C S G 1) :=
  holds_of_eq (at14_v43 ρ H) ((W24_of m ρ c main_v43 (by decide)).trans ((W23_of m ρ c main_v43 (by decide)).trans ((W22_of m ρ c main_v43 (by decide)).trans ((W21_of m ρ c main_v43 (by decide)).trans ((W20_of m ρ c main_v43 (by decide)).trans ((W19_of m ρ c main_v43 (by decide)).trans ((W18_of m ρ c main_v43 (by decide)).trans ((W17_of m ρ c main_v43 (by decide)).trans ((W16_of m ρ c main_v43 (by decide)).trans (W15_of m ρ c main_v43 (by decide)))))))))))

theorem at24_v52 : @Holds 8192 1024 (W24 m ρ c main_v52) (dqP Q K V C S G 4) :=
  holds_of_eq (at18_v52 ρ H) ((W24_of m ρ c main_v52 (by decide)).trans ((W23_of m ρ c main_v52 (by decide)).trans ((W22_of m ρ c main_v52 (by decide)).trans ((W21_of m ρ c main_v52 (by decide)).trans ((W20_of m ρ c main_v52 (by decide)).trans (W19_of m ρ c main_v52 (by decide)))))))

theorem at24_v69 : @Holds 8192 1024 (W24 m ρ c main_v69) (dqP Q K V C S G 16) :=
  holds_of_eq (at22_v69 ρ H) ((W24_of m ρ c main_v69 (by decide)).trans (W23_of m ρ c main_v69 (by decide)))

theorem at24_v12 : @Holds 8192 128 (W24 m ρ c main_v12) (cosT C) :=
  holds_of_eq (at1_v12 ρ H) ((W24_of m ρ c main_v12 (by decide)).trans ((W23_of m ρ c main_v12 (by decide)).trans ((W22_of m ρ c main_v12 (by decide)).trans ((W21_of m ρ c main_v12 (by decide)).trans ((W20_of m ρ c main_v12 (by decide)).trans ((W19_of m ρ c main_v12 (by decide)).trans ((W18_of m ρ c main_v12 (by decide)).trans ((W17_of m ρ c main_v12 (by decide)).trans ((W16_of m ρ c main_v12 (by decide)).trans ((W15_of m ρ c main_v12 (by decide)).trans ((W14_of m ρ c main_v12 (by decide)).trans ((W13_of m ρ c main_v12 (by decide)).trans ((W12_of m ρ c main_v12 (by decide)).trans ((W11_of m ρ c main_v12 (by decide)).trans ((W10_of m ρ c main_v12 (by decide)).trans ((W9_of m ρ c main_v12 (by decide)).trans ((W8_of m ρ c main_v12 (by decide)).trans ((W7_of m ρ c main_v12 (by decide)).trans ((W6_of m ρ c main_v12 (by decide)).trans ((W5_of m ρ c main_v12 (by decide)).trans ((W4_of m ρ c main_v12 (by decide)).trans ((W3_of m ρ c main_v12 (by decide)).trans (W2_of m ρ c main_v12 (by decide))))))))))))))))))))))))

theorem at24_v20 : @Holds 8192 128 (W24 m ρ c main_v20) (fun i j => downT S i ((j + 112) % 128)) :=
  holds_of_eq (at2_v20 ρ H) ((W24_of m ρ c main_v20 (by decide)).trans ((W23_of m ρ c main_v20 (by decide)).trans ((W22_of m ρ c main_v20 (by decide)).trans ((W21_of m ρ c main_v20 (by decide)).trans ((W20_of m ρ c main_v20 (by decide)).trans ((W19_of m ρ c main_v20 (by decide)).trans ((W18_of m ρ c main_v20 (by decide)).trans ((W17_of m ρ c main_v20 (by decide)).trans ((W16_of m ρ c main_v20 (by decide)).trans ((W15_of m ρ c main_v20 (by decide)).trans ((W14_of m ρ c main_v20 (by decide)).trans ((W13_of m ρ c main_v20 (by decide)).trans ((W12_of m ρ c main_v20 (by decide)).trans ((W11_of m ρ c main_v20 (by decide)).trans ((W10_of m ρ c main_v20 (by decide)).trans ((W9_of m ρ c main_v20 (by decide)).trans ((W8_of m ρ c main_v20 (by decide)).trans ((W7_of m ρ c main_v20 (by decide)).trans ((W6_of m ρ c main_v20 (by decide)).trans ((W5_of m ρ c main_v20 (by decide)).trans ((W4_of m ρ c main_v20 (by decide)).trans (W3_of m ρ c main_v20 (by decide)))))))))))))))))))))))

theorem at24_v21 : @Holds 8192 128 (W24 m ρ c main_v21) (fun i j => upT S i ((j + 16) % 128)) :=
  holds_of_eq (at3_v21 ρ H) ((W24_of m ρ c main_v21 (by decide)).trans ((W23_of m ρ c main_v21 (by decide)).trans ((W22_of m ρ c main_v21 (by decide)).trans ((W21_of m ρ c main_v21 (by decide)).trans ((W20_of m ρ c main_v21 (by decide)).trans ((W19_of m ρ c main_v21 (by decide)).trans ((W18_of m ρ c main_v21 (by decide)).trans ((W17_of m ρ c main_v21 (by decide)).trans ((W16_of m ρ c main_v21 (by decide)).trans ((W15_of m ρ c main_v21 (by decide)).trans ((W14_of m ρ c main_v21 (by decide)).trans ((W13_of m ρ c main_v21 (by decide)).trans ((W12_of m ρ c main_v21 (by decide)).trans ((W11_of m ρ c main_v21 (by decide)).trans ((W10_of m ρ c main_v21 (by decide)).trans ((W9_of m ρ c main_v21 (by decide)).trans ((W8_of m ρ c main_v21 (by decide)).trans ((W7_of m ρ c main_v21 (by decide)).trans ((W6_of m ρ c main_v21 (by decide)).trans ((W5_of m ρ c main_v21 (by decide)).trans (W4_of m ρ c main_v21 (by decide))))))))))))))))))))))

set_option maxHeartbeats 1000000 in
theorem at25_v79 : @Holds 8192 1024 (W25 m ρ c main_v79) (headsTurned (sum3 (dqP Q K V C S G 1) (dqP Q K V C S G 4) (dqP Q K V C S G 16)) (cosT C) (fun i j => downT S i ((j + 112) % 128)) (fun i j => upT S i ((j + 16) % 128))) :=
  holds_of_eq (final13_6 (V24 m ρ) (at24_v43 ρ H) (at24_v52 ρ H) (at24_v69 ρ H) (at24_v12 ρ H) (at24_v20 ρ H) (at24_v21 ρ H)) (W25_arr m ρ c 6)

theorem at25_v44_0 : @Holds 8192 1024 (W25 m ρ c main_v44_0) (dkP Q K V C S G 1) :=
  holds_of_eq (at15_v44_0 ρ H) ((W25_of m ρ c main_v44_0 (by decide)).trans ((W24_of m ρ c main_v44_0 (by decide)).trans ((W23_of m ρ c main_v44_0 (by decide)).trans ((W22_of m ρ c main_v44_0 (by decide)).trans ((W21_of m ρ c main_v44_0 (by decide)).trans ((W20_of m ρ c main_v44_0 (by decide)).trans ((W19_of m ρ c main_v44_0 (by decide)).trans ((W18_of m ρ c main_v44_0 (by decide)).trans ((W17_of m ρ c main_v44_0 (by decide)).trans (W16_of m ρ c main_v44_0 (by decide)))))))))))

theorem at25_v60 : @Holds 8192 1024 (W25 m ρ c main_v60) (dkP Q K V C S G 4) :=
  holds_of_eq (at20_v60 ρ H) ((W25_of m ρ c main_v60 (by decide)).trans ((W24_of m ρ c main_v60 (by decide)).trans ((W23_of m ρ c main_v60 (by decide)).trans ((W22_of m ρ c main_v60 (by decide)).trans (W21_of m ρ c main_v60 (by decide))))))

theorem at25_v77 : @Holds 8192 1024 (W25 m ρ c main_v77) (dkP Q K V C S G 16) :=
  holds_of_eq (at24_v77 ρ H) (W25_of m ρ c main_v77 (by decide))

theorem at25_v12 : @Holds 8192 128 (W25 m ρ c main_v12) (cosT C) :=
  holds_of_eq (at24_v12 ρ H) (W25_of m ρ c main_v12 (by decide))

theorem at25_v20 : @Holds 8192 128 (W25 m ρ c main_v20) (fun i j => downT S i ((j + 112) % 128)) :=
  holds_of_eq (at24_v20 ρ H) (W25_of m ρ c main_v20 (by decide))

theorem at25_v21 : @Holds 8192 128 (W25 m ρ c main_v21) (fun i j => upT S i ((j + 16) % 128)) :=
  holds_of_eq (at24_v21 ρ H) (W25_of m ρ c main_v21 (by decide))

theorem at26_v80 : @Holds 8192 1024 (W26 m ρ c main_v80) (headsTurned (sum3 (dkP Q K V C S G 1) (dkP Q K V C S G 4) (dkP Q K V C S G 16)) (cosT C) (fun i j => downT S i ((j + 112) % 128)) (fun i j => upT S i ((j + 16) % 128))) :=
  holds_of_eq (final14_6 (V25 m ρ) (at25_v44_0 ρ H) (at25_v60 ρ H) (at25_v77 ρ H) (at25_v12 ρ H) (at25_v20 ρ H) (at25_v21 ρ H)) (W26_arr m ρ c 6)

theorem at26_v44_1 : @Holds 8192 1024 (W26 m ρ c main_v44_1) (dvP Q K C S G 1) :=
  holds_of_eq (at15_v44_1 ρ H) ((W26_of m ρ c main_v44_1 (by decide)).trans ((W25_of m ρ c main_v44_1 (by decide)).trans ((W24_of m ρ c main_v44_1 (by decide)).trans ((W23_of m ρ c main_v44_1 (by decide)).trans ((W22_of m ρ c main_v44_1 (by decide)).trans ((W21_of m ρ c main_v44_1 (by decide)).trans ((W20_of m ρ c main_v44_1 (by decide)).trans ((W19_of m ρ c main_v44_1 (by decide)).trans ((W18_of m ρ c main_v44_1 (by decide)).trans ((W17_of m ρ c main_v44_1 (by decide)).trans (W16_of m ρ c main_v44_1 (by decide))))))))))))

theorem at26_v61 : @Holds 8192 1024 (W26 m ρ c main_v61) (dvP Q K C S G 4) :=
  holds_of_eq (at20_v61 ρ H) ((W26_of m ρ c main_v61 (by decide)).trans ((W25_of m ρ c main_v61 (by decide)).trans ((W24_of m ρ c main_v61 (by decide)).trans ((W23_of m ρ c main_v61 (by decide)).trans ((W22_of m ρ c main_v61 (by decide)).trans (W21_of m ρ c main_v61 (by decide)))))))

theorem at26_v78 : @Holds 8192 1024 (W26 m ρ c main_v78) (dvP Q K C S G 16) :=
  holds_of_eq (at24_v78 ρ H) ((W26_of m ρ c main_v78 (by decide)).trans (W25_of m ρ c main_v78 (by decide)))

theorem at27_v81 : @Holds 8192 1024 (W27 m ρ c main_v81) (dV Q K C S G) :=
  holds_of_eq (final15_3 (V26 m ρ) (at26_v44_1 ρ H) (at26_v61 ρ H) (at26_v78 ρ H)) (W27_arr m ρ c 3)

theorem at27_v41_0 : @Holds 8192 1024 (W27 m ρ c main_v41_0) (oF Q K V C S) :=
  holds_of_eq (at12_v41_0 ρ H) ((W27_of m ρ c main_v41_0 (by decide)).trans ((W26_of m ρ c main_v41_0 (by decide)).trans ((W25_of m ρ c main_v41_0 (by decide)).trans ((W24_of m ρ c main_v41_0 (by decide)).trans ((W23_of m ρ c main_v41_0 (by decide)).trans ((W22_of m ρ c main_v41_0 (by decide)).trans ((W21_of m ρ c main_v41_0 (by decide)).trans ((W20_of m ρ c main_v41_0 (by decide)).trans ((W19_of m ρ c main_v41_0 (by decide)).trans ((W18_of m ρ c main_v41_0 (by decide)).trans ((W17_of m ρ c main_v41_0 (by decide)).trans ((W16_of m ρ c main_v41_0 (by decide)).trans ((W15_of m ρ c main_v41_0 (by decide)).trans ((W14_of m ρ c main_v41_0 (by decide)).trans (W13_of m ρ c main_v41_0 (by decide))))))))))))))))

theorem at27_v79 : @Holds 8192 1024 (W27 m ρ c main_v79) (headsTurned (sum3 (dqP Q K V C S G 1) (dqP Q K V C S G 4) (dqP Q K V C S G 16)) (cosT C) (fun i j => downT S i ((j + 112) % 128)) (fun i j => upT S i ((j + 16) % 128))) :=
  holds_of_eq (at25_v79 ρ H) ((W27_of m ρ c main_v79 (by decide)).trans (W26_of m ρ c main_v79 (by decide)))

theorem at27_v80 : @Holds 8192 1024 (W27 m ρ c main_v80) (headsTurned (sum3 (dkP Q K V C S G 1) (dkP Q K V C S G 4) (dkP Q K V C S G 16)) (cosT C) (fun i j => downT S i ((j + 112) % 128)) (fun i j => upT S i ((j + 16) % 128))) :=
  holds_of_eq (at26_v80 ρ H) (W27_of m ρ c main_v80 (by decide))

end Arrays

end Cert.Kernel2Ideal.Value
end
-- ==== Proof.Dil.Mix.lean ====
/- Real-number identities of the derivative of a mixture of softmaxes. -/
module

public import proofs.«01_k».proof.Proof.Dil.Tok

@[expose] public section

noncomputable section

namespace Cert.Dil

section
variable {P N : ℕ} (l B : Fin P → ℝ) (u : ℝ)

/-- A pattern's weight against a reference point. -/
def wA (p : Fin P) : ℝ := Real.exp (l p - u)
/-- The weights' sum. -/
def wT : ℝ := ∑ p, wA l u p

theorem wT_pos [NeZero P] : 0 < wT l u := Finset.sum_pos (fun p _ => Real.exp_pos _) ⟨0, Finset.mem_univ _⟩

/-- The reference point cancels in the weights' quotient. -/
theorem wA_div [NeZero P] (p : Fin P) : wA l u p / wT l u = Real.exp (l p) / ∑ q, Real.exp (l q) := by
  have hs : (∑ q, Real.exp (l q)) ≠ 0 := (Finset.sum_pos (fun q _ => Real.exp_pos _) ⟨0, Finset.mem_univ _⟩).ne'
  have he := (Real.exp_pos (-u)).ne'
  unfold wT wA
  simp only [sub_eq_add_neg, Real.exp_add, ← Finset.sum_mul]
  field_simp

/-- A score's gradient, as the derivative of the mixture's quotient and of the softmax's quotient gives it, is the weighted
probability times the distance of the value's share from the mixture's. -/
theorem ds_mix [NeZero P] (p : Fin P) (x y E Z : ℝ) (hZ : Z ≠ 0) (hy : y = wA l u p / wT l u * B p) :
    wA l u p / wT l u * x * (E / Z)
      + ((B p * (1 / wT l u) + -∑ q, B q * (1 / (wT l u * wT l u)) * wA l u q) * wA l u p + -y) * (1 / Z) * E
    = wA l u p / wT l u * (E / Z) * (x - ∑ q, wA l u q / wT l u * B q) := by
  have hT := (wT_pos l u).ne'
  have h1 : ∑ q, B q * (1 / (wT l u * wT l u)) * wA l u q = (∑ q, wA l u q * B q) / (wT l u * wT l u) := by
    rw [Finset.sum_div]; exact Finset.sum_congr rfl fun q _ => by ring
  have h2 : ∑ q, wA l u q / wT l u * B q = (∑ q, wA l u q * B q) / wT l u := by
    rw [Finset.sum_div]; exact Finset.sum_congr rfl fun q _ => by ring
  rw [h1, h2, hy]
  generalize ∑ q, wA l u q * B q = X
  field_simp
  ring

end
end Cert.Dil
end
-- ==== Proof.Dil.Ref.lean ====
/- The dilated attention's reference over real arrays: its masked scores, their three softmaxes, the mixture and its derivative. -/
module

public import proofs.«01_k».proof.Proof.Dil.Mix
public import proofs.«01_k».proof.Proof.Gen.Reference2Ideal.Run

@[expose] public section

set_option maxRecDepth 16384

noncomputable section

open Idealize.ShloMosaic Idealize.ShloMosaic.TcCoe Cert.Attn Cert.Dil

namespace Cert.Reference2Ideal.Value
open Cert.Reference2Ideal Cert.Reference2Ideal.Gen

/-- A sum of real numbers. -/
theorem sum_holds {n : ℕ} {f : Fin n → EReal} {g : Fin n → ℝ} (h : ∀ x, f x = ((g x : ℝ) : EReal)) : ∑ x, f x = ((∑ x, g x : ℝ) : EReal) :=
  (Finset.sum_congr rfl fun x _ => h x).trans (Finite.coe_sum _ _)

/-- The three dilations. -/
def dil : Fin 3 → ℕ := ![1, 4, 16]

section
variable {V0 : Valuation τ sig (Elt Ideal)}

theorem rem_ofNat (n d : ℕ) (hn : n < 8192) (h0 : 0 < d) (hd : d < 32) :
    IntOp.remsi .host (BitVec.ofNat 32 n) (BitVec.ofNat 32 d) = BitVec.ofNat 32 (n % d) := by
  have hx : (BitVec.ofNat 32 n).msb = false := by rw [BitVec.msb_eq_decide, BitVec.toNat_ofNat]; exact decide_eq_false (by omega)
  have hy : (BitVec.ofNat 32 d).msb = false := by rw [BitVec.msb_eq_decide, BitVec.toNat_ofNat]; exact decide_eq_false (by omega)
  have hc : ¬ IntOp.SDivCorner (BitVec.ofNat 32 n) (BitVec.ofNat 32 d) := by
    rintro (h | ⟨-, h⟩)
    · have := congrArg BitVec.toNat h; rw [BitVec.toNat_ofNat] at this; simp at this; omega
    · have := congrArg BitVec.toNat h; rw [BitVec.toNat_ofNat] at this; simp at this; omega
  rw [IntOp.remsi, if_neg hc, BitVec.srem_eq, hx, hy]
  refine BitVec.eq_of_toNat_eq ?_
  have := Nat.mod_lt n h0
  simp only [BitVec.toNat_umod, BitVec.toNat_ofNat]
  rw [Nat.mod_eq_of_lt (by omega : n < 2 ^ 32), Nat.mod_eq_of_lt (by omega : d < 2 ^ 32), Nat.mod_eq_of_lt (by omega : n % d < 2 ^ 32)]

theorem sub_ofNat (t k : ℕ) (ht : t < 8192) (h : k ≤ t) : IntOp.subi (BitVec.ofNat 32 t) (BitVec.ofNat 32 k) = BitVec.ofNat 32 (t - k) := by
  refine BitVec.eq_of_toNat_eq ?_
  rw [IntOp.subi, BitVec.toNat_sub, BitVec.toNat_ofNat, BitVec.toNat_ofNat, BitVec.toNat_ofNat]
  omega

/-- The mask the three comparisons make. -/
theorem mask_word (d t k : ℕ) (ht : t < 8192) (hk : k < 8192) (h0 : 0 < d) (hd : d < 32) :
    IntOp.andi (IntOp.andi (IntOp.cmpi .sge (IntOp.subi (BitVec.ofNat 32 t) (BitVec.ofNat 32 k)) 0#32)
      (IntOp.cmpi .sle (IntOp.subi (BitVec.ofNat 32 t) (BitVec.ofNat 32 k)) (BitVec.ofNat 32 (128 * d))))
      (IntOp.cmpi .eq (IntOp.remsi .host (IntOp.subi (BitVec.ofNat 32 t) (BitVec.ofNat 32 k)) (BitVec.ofNat 32 d)) 0#32)
    = BitVec.ofBool (decide (wt d t k)) := by
  by_cases h : k ≤ t
  · have := Nat.mod_lt (t - k) h0
    rw [sub_ofNat t k ht h, rem_ofNat _ _ (by omega) h0 hd, show (0#32 : BitVec 32) = BitVec.ofNat 32 0 from rfl,
      WordCmp.cmpi_sge_ofNat (by omega) (by omega), WordCmp.cmpi_sle_ofNat (by omega) (by omega), WordCmp.cmpi_eq_ofNat (by omega) (by omega),
      WordCmp.andi_ofBool, WordCmp.andi_ofBool]
    unfold wt
    congr 1
    by_cases h1 : t - k ≤ 128 * d <;> by_cases h2 : (t - k) % d = 0 <;> simp [h, h1, h2]
  · rw [WordCmp.cmpi_sge_zero, decide_eq_false, decide_eq_false (p := wt d t k) (fun hw => h hw.1)]
    · generalize IntOp.cmpi .sle _ _ = a
      generalize IntOp.cmpi .eq _ _ = b
      simp [IntOp.andi]
    · rw [IntOp.subi, BitVec.toNat_sub, BitVec.toNat_ofNat, BitVec.toNat_ofNat]
      omega

/-- The mask of a pattern, head, query and key. -/
theorem v69_at (p : Fin 3) (h : Fin 8) (t k : Fin 8192) : res_main_v69 V0 (ix4 p h t k) = BitVec.ofBool (decide (wt (dil p) t k)) := by
  pointwise [res_main_v69, res_main_v48]
  fin_cases p
  · exact mask_word 1 t k t.isLt k.isLt (by omega) (by omega)
  · exact mask_word 4 t k t.isLt k.isLt (by omega) (by omega)
  · exact mask_word 16 t k t.isLt k.isLt (by omega) (by omega)

variable {Q K V G : ℕ → ℕ → ℝ}
variable (hq : ∀ (h : Fin 8) (t : Fin 8192) (e : Fin 128), res_main_v25 V0 (ix3 h t e) = ((Q t (128 * h + e) : ℝ) : EReal))
  (hk : ∀ (h : Fin 8) (t : Fin 8192) (e : Fin 128), res_main_v42 V0 (ix3 h t e) = ((K t (128 * h + e) : ℝ) : EReal))
  (hV : @Holds 8192 1024 (V0 (Proc.devRef .tc main_arg2)) V) (hG : @Holds 8192 1024 (V0 (Proc.devRef .tc main_arg5)) G)

include hq hk in
/-- The masked scores. -/
theorem v71_at (p : Fin 3) (h : Fin 8) (t k : Fin 8192) :
    res_main_v71 V0 (ix4 p h t k) = if wt (dil p) t k then ((tscore Q K h t k : ℝ) : EReal) else ⊥ := by
  have hm := v69_at (V0 := V0) p h t k
  pointwise [res_main_v71]
  rw [hm, WordCmp.select_ofBool, tau_real]
  by_cases hw : wt (dil p) t k
  · rw [if_pos hw, decide_eq_true hw, if_pos rfl]
    unfold tscore
    rw [EReal.coe_mul]
    congr 1
    exact sum_holds fun e => by rw [hq, hk, EReal.coe_mul]
  · rw [if_neg hw, decide_eq_false hw, if_neg (by decide)]
    simp [Ideal.ofBits, Ideal.ieee]

theorem wt_self (d t : ℕ) : wt d t t := ⟨le_refl _, by omega, by simp⟩

include hq hk in
/-- A row's largest score is a real number. -/
theorem v73_real (p : Fin 3) (h : Fin 8) (t : Fin 8192) : ∃ M : ℝ, res_main_v73 V0 (ix3 p h t) = (M : EReal) := by
  have hs := v71_at hq hk
  pointwise [res_main_v73]
  have hb : Ideal.ofBits .f32 4286578688#32 = (⊥ : EReal) := by simp [Ideal.ofBits, Ideal.ieee]
  rw [hb]
  have at' (x : S3x8x8192x8192.Idx) : res_main_v71 V0 x = if wt (dil (x 0)) (x 2) (x 3) then ((tscore Q K (x 1).val (x 2).val (x 3).val : ℝ) : EReal) else ⊥ := by
    have e : x = ix4 (x 0) (x 1) (x 2) (x 3) := by idx_ext
    exact (congrArg _ e).trans (hs _ _ _ _)
  refine fold_max_real _ _ (fun x => by rw [at']; split <;> simp) (ix4 p h t t) ?_ (by rw [hs, if_pos (wt_self _ _)]; simp)
  rw [Finset.mem_filter]
  refine ⟨Finset.mem_univ _, ?_⟩
  funext b
  fin_cases b
  · exact Fin.ext (Shape.ReducesTo.drop_apply_val_of_eq reducesTo_S3x8x8192x8192_S3x8x8192_d3 (ix4 p h t t) 0 0)
  · exact Fin.ext (Shape.ReducesTo.drop_apply_val_of_eq reducesTo_S3x8x8192x8192_S3x8x8192_d3 (ix4 p h t t) 1 1)
  · exact Fin.ext (Shape.ReducesTo.drop_apply_val_of_eq reducesTo_S3x8x8192x8192_S3x8x8192_d3 (ix4 p h t t) 2 2)

variable {M : Fin 3 → Fin 8 → Fin 8192 → ℝ} (hM : ∀ p h t, res_main_v73 V0 (ix3 p h t) = ((M p h t : ℝ) : EReal))
variable {U : Fin 8 → Fin 8192 → ℝ} (hU : ∀ h t, res_main_v93 V0 (ix3 h t 0) = ((U h t : ℝ) : EReal))

theorem zTok_pos (d : ℕ) (Q K : ℕ → ℕ → ℝ) (h : ℕ) (t : Fin 8192) : 0 < zTok d Q K h t := by
  refine Finset.sum_pos' (fun k _ => mul_nonneg ?_ (Real.exp_pos _).le) ⟨t, Finset.mem_univ _, mul_pos ?_ (Real.exp_pos _)⟩
  · unfold ind; split_ifs <;> norm_num
  · rw [ind, if_pos (wt_self _ _)]; norm_num

theorem exp_ind (w : Prop) [Decidable w] (a b : ℝ) : Ideal.exp ((if w then (a : EReal) else ⊥) - (b : EReal)) = ((ind w * Real.exp (a - b) : ℝ) : EReal) := by
  unfold ind
  split_ifs with ht
  · rw [← EReal.coe_sub, Ideal.exp_coe, one_mul]
  · simp

/-- The exponentials against an array of reference points. -/
def expAgainst (x : FVec Ideal S3x8x8192x8192 .f32) (y : FVec Ideal S3x8x8192x1 .f32) : FVec Ideal S3x8x8192x8192 .f32 :=
  Host.exp (subf x (broadcastInDim S3x8x8192x8192 ![0, 1, 2, 3] bcast_S3x8x8192x1_S3x8x8192x8192_0_1_2_3 y))

theorem expAgainst_at (x : FVec Ideal S3x8x8192x8192 .f32) (y : FVec Ideal S3x8x8192x1 .f32) (p : Fin 3) (h : Fin 8) (t k : Fin 8192) :
    expAgainst x y (ix4 p h t k) = Ideal.exp (x (ix4 p h t k) - y (ix4 p h t 0)) := by
  pointwise [expAgainst]

theorem v82_eq : res_main_v82 V0 = expAgainst (res_main_v71 V0) (res_main_v79 V0) := by
  unfold res_main_v82 expAgainst
  rfl

theorem v89_eq : res_main_v89 V0 = expAgainst (res_main_v71 V0) (res_main_v86 V0) := by
  unfold res_main_v89 expAgainst
  rfl

/-- A three-axis array with a last axis of one. -/
def widen (y : FVec Ideal S3x8x8192 .f32) : FVec Ideal S3x8x8192x1 .f32 := broadcastInDim S3x8x8192x1 ![0, 1, 2] bcast_S3x8x8192_S3x8x8192x1_0_1_2 y

theorem widen_at (y : FVec Ideal S3x8x8192 .f32) (p : Fin 3) (h : Fin 8) (t : Fin 8192) : widen y (ix4 p h t 0) = y (ix3 p h t) := by
  pointwise [widen]

theorem v79_eq : res_main_v79 V0 = widen (res_main_v73 V0) := by
  unfold res_main_v79 widen
  rfl

include hq hk hM in
/-- The exponentials against the row's largest score. -/
theorem v82_at (p : Fin 3) (h : Fin 8) (t k : Fin 8192) :
    res_main_v82 V0 (ix4 p h t k) = ((ind (wt (dil p) t k) * Real.exp (tscore Q K h t k - M p h t) : ℝ) : EReal) := by
  rw [v82_eq, expAgainst_at, v71_at hq hk, v79_eq, widen_at, hM]
  exact exp_ind _ _ _

/-- The sum of a row. -/
def rowSums (x : FVec Ideal S3x8x8192x8192 .f32) : FVec Ideal S3x8x8192x1 .f32 :=
  widen (Host.reduceAdd x (constant S_ .f32 0x00000000#32) reducesTo_S3x8x8192x8192_S3x8x8192_d3 h_S_)

theorem rowSums_at (x : FVec Ideal S3x8x8192x8192 .f32) (p : Fin 3) (h : Fin 8) (t : Fin 8192) :
    rowSums x (ix4 p h t 0) = ∑ k : Fin 8192, x (ix4 p h t k) := by
  pointwise [rowSums, widen]

theorem v84_eq : res_main_v84 V0 = rowSums (res_main_v82 V0) := by
  unfold res_main_v84 rowSums widen
  rfl

include hq hk hM in
/-- Their sum along a row. -/
theorem v84_at (p : Fin 3) (h : Fin 8) (t : Fin 8192) :
    res_main_v84 V0 (ix4 p h t 0) = ((zTok (dil p) Q K h t * Real.exp (-M p h t) : ℝ) : EReal) := by
  rw [v84_eq, rowSums_at]
  refine (sum_holds (v82_at hq hk hM p h t)).trans (congrArg _ ?_)
  rw [zTok, Finset.sum_mul]
  exact Finset.sum_congr rfl fun k _ => by rw [sub_eq_add_neg, Real.exp_add]; ring

/-- The row's reference point plus the logarithm of its sum. -/
def addLog (x y : FVec Ideal S3x8x8192x1 .f32) : FVec Ideal S3x8x8192x1 .f32 := addf x (Host.log y)

theorem addLog_at (x y : FVec Ideal S3x8x8192x1 .f32) (p : Fin 3) (h : Fin 8) (t : Fin 8192) :
    addLog x y (ix4 p h t 0) = x (ix4 p h t 0) + Ideal.log (y (ix4 p h t 0)) := by
  pointwise [addLog]

include hq hk hM in
/-- The log-denominators. -/
theorem v86_at (p : Fin 3) (h : Fin 8) (t : Fin 8192) : res_main_v86 V0 (ix4 p h t 0) = ((Real.log (zTok (dil p) Q K h t) : ℝ) : EReal) := by
  have hp := zTok_pos (dil p) Q K h t
  have hx := Real.exp_pos (-M p h t)
  rw [show res_main_v86 V0 = addLog (res_main_v79 V0) (res_main_v84 V0) from rfl, addLog_at, v79_eq, widen_at, hM, v84_at hq hk hM,
    Ideal.log_coe, if_neg (not_le.mpr (mul_pos hp hx)), Real.log_mul hp.ne' hx.ne', Real.log_exp, ← EReal.coe_add]
  congr 1
  ring

/-- The probability of a key in its pattern. -/
def prP (d : ℕ) (Q K : ℕ → ℕ → ℝ) (h t k : ℕ) : ℝ := ind (wt d t k) * Real.exp (tscore Q K h t k - Real.log (zTok d Q K h t))

include hq hk hM in
/-- The probabilities. -/
theorem v89_at (p : Fin 3) (h : Fin 8) (t k : Fin 8192) : res_main_v89 V0 (ix4 p h t k) = ((prP (dil p) Q K h t k : ℝ) : EReal) := by
  rw [v89_eq, expAgainst_at, v71_at hq hk, v86_at hq hk hM]
  exact exp_ind _ _ _

include hV in
/-- The values, repeated over the patterns. -/
theorem v91_at (p : Fin 3) (h : Fin 8) (k : Fin 8192) (e : Fin 128) : res_main_v91 V0 (ix4 p h k e) = ((V k (128 * h + e) : ℝ) : EReal) := by
  pointwise [res_main_v91]
  rw [Nat.mul_comm 128, hV]

include hG in
/-- The cotangent, repeated over the patterns. -/
theorem v127_at (p : Fin 3) (h : Fin 8) (t : Fin 8192) (e : Fin 128) : res_main_v127 V0 (ix4 p h t e) = ((G t (128 * h + e) : ℝ) : EReal) := by
  pointwise [res_main_v127]
  rw [Nat.mul_comm 128, hG]

theorem oTok_prP (d : ℕ) (Q K V : ℕ → ℕ → ℝ) (h : ℕ) (t : Fin 8192) (e : ℕ) : ∑ k : Fin 8192, prP d Q K h t k * V k (128 * h + e) = oTok d Q K V h t e := by
  have hz := zTok_pos d Q K h t
  rw [oTok, Finset.sum_div]
  refine Finset.sum_congr rfl fun k _ => ?_
  rw [prP, Real.exp_sub, Real.exp_log hz]
  ring

include hq hk hM hV in
/-- The patterns' outputs. -/
theorem v92_at (p : Fin 3) (h : Fin 8) (t : Fin 8192) (e : Fin 128) : res_main_v92 V0 (ix4 p h t e) = ((oTok (dil p) Q K V h t e : ℝ) : EReal) := by
  have hp := v89_at hq hk hM
  have hv := v91_at hV
  pointwise [res_main_v92]
  rw [← oTok_prP]
  exact sum_holds fun k => by rw [hp, hv, EReal.coe_mul]

include hq hk hM in
/-- The largest of the three log-denominators is a real number. -/
theorem v93_real (h : Fin 8) (t : Fin 8192) : ∃ u : ℝ, res_main_v93 V0 (ix3 h t 0) = (u : EReal) := by
  have hs := v86_at hq hk hM
  pointwise [res_main_v93]
  have hb : Ideal.ofBits .f32 4286578688#32 = (⊥ : EReal) := by simp [Ideal.ofBits, Ideal.ieee]
  rw [hb]
  have at' (x : S3x8x8192x1.Idx) : res_main_v86 V0 x = ((Real.log (zTok (dil (x 0)) Q K (x 1).val (x 2).val) : ℝ) : EReal) := by
    have e : x = ix4 (x 0) (x 1) (x 2) 0 := by idx_ext
    exact (congrArg _ e).trans (hs _ _ _)
  refine fold_max_real _ _ (fun x => by rw [at']; simp) (ix4 0 h t 0) ?_ (by rw [hs]; simp)
  rw [Finset.mem_filter]
  refine ⟨Finset.mem_univ _, ?_⟩
  funext b
  fin_cases b
  · exact Fin.ext (Shape.ReducesTo.drop_apply_val_of_eq reducesTo_S3x8x8192x1_S8x8192x1_d0 (ix4 0 h t 0) 0 1)
  · exact Fin.ext (Shape.ReducesTo.drop_apply_val_of_eq reducesTo_S3x8x8192x1_S8x8192x1_d0 (ix4 0 h t 0) 1 2)
  · exact Fin.ext (Shape.ReducesTo.drop_apply_val_of_eq reducesTo_S3x8x8192x1_S8x8192x1_d0 (ix4 0 h t 0) 2 3)

/-- The log-denominators of a head and query, by pattern. -/
def lz (Q K : ℕ → ℕ → ℝ) (h : ℕ) (t : ℕ) (p : Fin 3) : ℝ := Real.log (zTok (dil p) Q K h t)

/-- The exponentials of the log-denominators against a reference point. -/
def expMix (x : FVec Ideal S3x8x8192x1 .f32) (y : FVec Ideal S8x8192x1 .f32) : FVec Ideal S3x8x8192x1 .f32 :=
  Host.exp (subf x (broadcastInDim S3x8x8192x1 ![0, 1, 2, 3] bcast_S1x8x8192x1_S3x8x8192x1_0_1_2_3 (broadcastInDim S1x8x8192x1 ![1, 2, 3] bcast_S8x8192x1_S1x8x8192x1_1_2_3
    (maximumf (broadcastInDim S8x8192x1 ![] bcast_S_S8x8192x1 (constant S_ .f32 0xFF800000#32)) y))))

theorem expMix_at (x : FVec Ideal S3x8x8192x1 .f32) (y : FVec Ideal S8x8192x1 .f32) (p : Fin 3) (h : Fin 8) (t : Fin 8192) :
    expMix x y (ix4 p h t 0) = Ideal.exp (x (ix4 p h t 0) - max (Ideal.ofBits .f32 4286578688#32) (y (ix3 h t 0))) := by
  pointwise [expMix]

theorem v113_eq : res_main_v113 V0 = expMix (res_main_v86 V0) (res_main_v93 V0) := by
  unfold res_main_v113 expMix
  rfl

include hq hk hM hU in
/-- The patterns' weights against the largest. -/
theorem v113_at (p : Fin 3) (h : Fin 8) (t : Fin 8192) : res_main_v113 V0 (ix4 p h t 0) = ((wA (lz Q K h t) (U h t) p : ℝ) : EReal) := by
  have hb : Ideal.ofBits .f32 4286578688#32 = (⊥ : EReal) := by simp [Ideal.ofBits, Ideal.ieee]
  rw [v113_eq, expMix_at, v86_at hq hk hM, hU, hb, max_eq_right bot_le, ← EReal.coe_sub, Ideal.exp_coe]
  rfl

/-- The sum over the patterns. -/
def overPatterns (x : FVec Ideal S3x8x8192x1 .f32) : FVec Ideal S1x8x8192x1 .f32 :=
  broadcastInDim S1x8x8192x1 ![1, 2, 3] bcast_S8x8192x1_S1x8x8192x1_1_2_3 (Host.reduceAdd x (constant S_ .f32 0x00000000#32) reducesTo_S3x8x8192x1_S8x8192x1_d0 h_S_)

theorem overPatterns_at (x : FVec Ideal S3x8x8192x1 .f32) (h : Fin 8) (t : Fin 8192) : overPatterns x (ix4 0 h t 0) = ∑ p : Fin 3, x (ix4 p h t 0) := by
  pointwise [overPatterns]

include hq hk hM hU in
/-- The weights' sum. -/
theorem v115_at (h : Fin 8) (t : Fin 8192) : res_main_v115 V0 (ix4 0 h t 0) = ((wT (lz Q K h t) (U h t) : ℝ) : EReal) := by
  rw [show res_main_v115 V0 = overPatterns (res_main_v113 V0) from rfl, overPatterns_at]
  exact sum_holds fun p => v113_at hq hk hM hU p h t

/-- A quotient by an array with one entry for all patterns. -/
def divAll (x : FVec Ideal S3x8x8192x1 .f32) (y : FVec Ideal S1x8x8192x1 .f32) : FVec Ideal S3x8x8192x1 .f32 :=
  Host.divf x (broadcastInDim S3x8x8192x1 ![0, 1, 2, 3] bcast_S1x8x8192x1_S3x8x8192x1_0_1_2_3 y)

theorem divAll_at (x : FVec Ideal S3x8x8192x1 .f32) (y : FVec Ideal S1x8x8192x1 .f32) (p : Fin 3) (h : Fin 8) (t : Fin 8192) :
    divAll x y (ix4 p h t 0) = Ideal.div (x (ix4 p h t 0)) (y (ix4 0 h t 0)) := by
  pointwise [divAll]

/-- A pattern's share of the mixture. -/
def share (Q K : ℕ → ℕ → ℝ) (U : Fin 8 → Fin 8192 → ℝ) (p : Fin 3) (h : Fin 8) (t : Fin 8192) : ℝ := wA (lz Q K h t) (U h t) p / wT (lz Q K h t) (U h t)

include hq hk hM hU in
/-- The patterns' shares. -/
theorem v117_at (p : Fin 3) (h : Fin 8) (t : Fin 8192) : res_main_v117 V0 (ix4 p h t 0) = ((share Q K U p h t : ℝ) : EReal) := by
  rw [show res_main_v117 V0 = divAll (res_main_v113 V0) (res_main_v115 V0) from rfl, divAll_at, v113_at hq hk hM hU, v115_at hq hk hM hU,
    Ideal.div_coe (wT_pos _ _).ne', ← EReal.coe_mul, mul_one_div]
  rfl

include hq hk hM hU hG in
/-- The cotangent times the share. -/
theorem v129_at (p : Fin 3) (h : Fin 8) (t : Fin 8192) (e : Fin 128) :
    res_main_v129 V0 (ix4 p h t e) = ((share Q K U p h t * G t (128 * h + e) : ℝ) : EReal) := by
  have h1 := v117_at hq hk hM hU p h t
  have h2 := v127_at hG p h t e
  pointwise [res_main_v129]
  rw [h2, EReal.coe_mul, ← h1]

/-- The product of a pattern's output and the cotangent. -/
def gOut (Q K V G : ℕ → ℕ → ℝ) (h t : ℕ) (p : Fin 3) : ℝ := ∑ e : Fin 128, G t (128 * h + e) * oTok (dil p) Q K V h t e

include hq hk hM hV hG in
/-- The products of the patterns' outputs and the cotangent. -/
theorem v132_at (p : Fin 3) (h : Fin 8) (t : Fin 8192) : res_main_v132 V0 (ix4 p h t 0) = ((gOut Q K V G h t p : ℝ) : EReal) := by
  have h1 := v92_at hq hk hV hM
  have h2 := v127_at hG
  pointwise [res_main_v132]
  exact sum_holds fun e => by rw [h1, h2, EReal.coe_mul]

/-- The product of a query's cotangent and a value. -/
def gVal (V G : ℕ → ℕ → ℝ) (h t k : ℕ) : ℝ := ∑ e : Fin 128, G t (128 * h + e) * V k (128 * h + e)

include hq hk hM hU hV hG in
/-- The probabilities times their cotangents. -/
theorem v152_at (p : Fin 3) (h : Fin 8) (t k : Fin 8192) :
    res_main_v152 V0 (ix4 p h t k) = ((share Q K U p h t * gVal V G h t k * prP (dil p) Q K h t k : ℝ) : EReal) := by
  have h1 := v129_at hq hk hG hM hU
  have h2 := v91_at hV
  have h3 := v89_at hq hk hM p h t k
  pointwise [res_main_v152]
  rw [h3, EReal.coe_mul]
  congr 1
  rw [gVal, Finset.mul_sum]
  exact sum_holds fun e => by rw [h1, h2, ← EReal.coe_mul, mul_assoc]

/-- The gradient of the log-denominators that comes from the shares. -/
def backMix (B A : FVec Ideal S3x8x8192x1 .f32) (T : FVec Ideal S1x8x8192x1 .f32) : FVec Ideal S3x8x8192x1 .f32 :=
  mulf (addf (Host.divf B (broadcastInDim S3x8x8192x1 ![0, 1, 2, 3] bcast_S1x8x8192x1_S3x8x8192x1_0_1_2_3 T)) (broadcastInDim S3x8x8192x1 ![1, 2, 3] bcast_S8x8192x1_S3x8x8192x1_1_2_3 (broadcastInDim S8x8192x1 ![0, 1] bcast_S8x8192_S8x8192x1_0_1 (Host.reduceAdd (Host.negf (shapeCast _ (Host.reduceAdd (mulf (mulf B (broadcastInDim S3x8x8192x1 ![0, 1, 2, 3] bcast_S1x8x8192x1_S3x8x8192x1_0_1_2_3 (Host.divf (broadcastInDim S1x8x8192x1 ![] bcast_S_S1x8x8192x1 (constant S_ .f32 0x3F800000#32)) (mulf T T)))) A) (constant S_ .f32 0x00000000#32) reducesTo_S3x8x8192x1_S8x8192x1_d0 h_S_) shapeCasts_S8x8192x1_S1x8x8192x1)) (constant S_ .f32 0x00000000#32) reducesTo_S1x8x8192x1_S8x8192_d0_3 h_S_)))) A

/-- The negated sums of rows. -/
def negRows (x : FVec Ideal S3x8x8192x8192 .f32) : FVec Ideal S3x8x8192x1 .f32 :=
  shapeCast _ (Host.reduceAdd (Host.negf x) (constant S_ .f32 0x00000000#32) reducesTo_S3x8x8192x8192_S3x8x8192_d3 h_S_) shapeCasts_S3x8x8192_S3x8x8192x1

/-- The gradient of a pattern's scores. -/
def dsOne (b : IVec S3x8x8192x8192 1) (x E : FVec Ideal S3x8x8192x8192 .f32) (m n Z : FVec Ideal S3x8x8192x1 .f32) : FVec Ideal S3x8x8192x8192 .f32 :=
  select b (addf x (mulf (broadcastInDim S3x8x8192x8192 ![0, 1, 2] bcast_S3x8x8192_S3x8x8192x8192_0_1_2 (Host.reduceAdd (Host.divf (addf m n) Z) (constant S_ .f32 0x00000000#32) reducesTo_S3x8x8192x1_S3x8x8192_d3 h_S_)) E)) (broadcastInDim S3x8x8192x8192 ![] bcast_S_S3x8x8192x8192 (constant S_ .f32 0x00000000#32))

/-- The scaled sum over the patterns. -/
def dsSum (x : FVec Ideal S3x8x8192x8192 .f32) : FVec Ideal S8x8192x8192 .f32 :=
  mulf (Host.reduceAdd (broadcastInDim S1x8x8192x8192 ![1, 2, 3] bcast_S8x8192x8192_S1x8x8192x8192_1_2_3 (Host.reduceAdd x (constant S_ .f32 0x00000000#32) reducesTo_S3x8x8192x8192_S8x8192x8192_d0 h_S_)) (constant S_ .f32 0x00000000#32) reducesTo_S1x8x8192x8192_S8x8192x8192_d0 h_S_) (broadcastInDim S8x8192x8192 ![] bcast_S_S8x8192x8192 (constant S_ .f32 0x3DB504F3#32))

theorem v168_eq : res_main_v168 V0 = dsSum (dsOne (res_main_v69 V0) (res_main_v152 V0) (res_main_v82 V0)
    (backMix (res_main_v132 V0) (res_main_v113 V0) (res_main_v115 V0)) (negRows (res_main_v152 V0)) (res_main_v84 V0)) := by
  unfold res_main_v168 dsSum dsOne backMix negRows
  rfl

theorem negRows_at (x : FVec Ideal S3x8x8192x8192 .f32) (p : Fin 3) (h : Fin 8) (t : Fin 8192) :
    negRows x (ix4 p h t 0) = ∑ k : Fin 8192, -x (ix4 p h t k) := by
  pointwise [negRows]

theorem dsOne_at (b : IVec S3x8x8192x8192 1) (x E : FVec Ideal S3x8x8192x8192 .f32) (m n Z : FVec Ideal S3x8x8192x1 .f32) (p : Fin 3) (h : Fin 8) (t k : Fin 8192) :
    dsOne b x E m n Z (ix4 p h t k) = Scalar.select (b (ix4 p h t k)) (x (ix4 p h t k) + (∑ o : Fin 1, Ideal.div (m (ix4 p h t o) + n (ix4 p h t o)) (Z (ix4 p h t o))) * E (ix4 p h t k)) 0 := by
  pointwise [dsOne]

theorem dsSum_at (x : FVec Ideal S3x8x8192x8192 .f32) (h : Fin 8) (t k : Fin 8192) :
    dsSum x (ix3 h t k) = (∑ _o : Fin 1, ∑ p : Fin 3, x (ix4 p h t k)) * Ideal.ofBits .f32 1035273459#32 := by
  pointwise [dsSum]

theorem reduce_ends (x : S1x8x8192x1.Idx → EReal) (h : Fin 8) (t : Fin 8192) :
    Ideal.hostReduceAdd reducesTo_S1x8x8192x1_S8x8192_d0_3 x 0 (ix2 h t) = x (ix4 0 h t 0) := by
  unfold Ideal.hostReduceAdd
  rw [zero_add]
  refine Finset.sum_eq_single_of_mem _ ?_ ?_
  · rw [Finset.mem_filter]
    refine ⟨Finset.mem_univ _, ?_⟩
    funext b
    fin_cases b
    · exact Fin.ext (Shape.ReducesTo.drop_apply_val_of_eq reducesTo_S1x8x8192x1_S8x8192_d0_3 (ix4 0 h t 0) 0 1)
    · exact Fin.ext (Shape.ReducesTo.drop_apply_val_of_eq reducesTo_S1x8x8192x1_S8x8192_d0_3 (ix4 0 h t 0) 1 2)
  · intro i hi hne
    rw [Finset.mem_filter] at hi
    refine absurd ?_ hne
    have h1 := (Shape.ReducesTo.drop_apply_val_of_eq reducesTo_S1x8x8192x1_S8x8192_d0_3 i 0 1).symm.trans (congrArg (fun j : S8x8192.Idx => (j 0).val) hi.2)
    have h2 := (Shape.ReducesTo.drop_apply_val_of_eq reducesTo_S1x8x8192x1_S8x8192_d0_3 i 1 2).symm.trans (congrArg (fun j : S8x8192.Idx => (j 1).val) hi.2)
    funext b
    fin_cases b
    · exact Fin.ext (Nat.lt_one_iff.mp (i 0).isLt)
    · exact Fin.ext h1
    · exact Fin.ext h2
    · exact Fin.ext (Nat.lt_one_iff.mp (i 3).isLt)

theorem backMix_at (B A : FVec Ideal S3x8x8192x1 .f32) (T : FVec Ideal S1x8x8192x1 .f32) (p : Fin 3) (h : Fin 8) (t : Fin 8192) :
    backMix B A T (ix4 p h t 0) = (Ideal.div (B (ix4 p h t 0)) (T (ix4 0 h t 0))
      + -∑ q : Fin 3, B (ix4 q h t 0) * Ideal.div 1 (T (ix4 0 h t 0) * T (ix4 0 h t 0)) * A (ix4 q h t 0)) * A (ix4 p h t 0) := by
  pointwise [backMix]
  rw [reduce_ends]
  pointwise []

/-- The gradient of a score before its scale. -/
def dsMix (Q K V G : ℕ → ℕ → ℝ) (U : Fin 8 → Fin 8192 → ℝ) (h : Fin 8) (t k : Fin 8192) (p : Fin 3) : ℝ :=
  share Q K U p h t * prP (dil p) Q K h t k * (gVal V G h t k - ∑ q : Fin 3, share Q K U q h t * gOut Q K V G h t q)

theorem gOut_prP (Q K V G : ℕ → ℕ → ℝ) (h : ℕ) (t : Fin 8192) (p : Fin 3) :
    ∑ k : Fin 8192, gVal V G h t k * prP (dil p) Q K h t k = gOut Q K V G h t p := by
  unfold gVal gOut
  simp only [Finset.sum_mul]
  rw [Finset.sum_comm]
  refine Finset.sum_congr rfl fun e _ => ?_
  rw [← oTok_prP, Finset.mul_sum]
  exact Finset.sum_congr rfl fun k _ => by ring

include hq hk hM hU hV hG in
/-- The gradient of the scores. -/
theorem v168_at (h : Fin 8) (t k : Fin 8192) :
    res_main_v168 V0 (ix3 h t k) = (((∑ p : Fin 3, dsMix Q K V G U h t k p) * tau : ℝ) : EReal) := by
  have h82 := v82_at hq hk hM
  have h84 := v84_at hq hk hM
  have h113 := v113_at hq hk hM hU
  have h115 := v115_at hq hk hM hU
  have h132 := v132_at hq hk hV hG hM
  have h152 := v152_at hq hk hV hG hM hU
  rw [v168_eq, dsSum_at, tau_real, Fin.sum_univ_one, EReal.coe_mul]
  congr 1
  refine sum_holds fun p => ?_
  have hT := (wT_pos (lz Q K h t) (U h t)).ne'
  have hz := (mul_pos (zTok_pos (dil p) Q K h t) (Real.exp_pos (-M p h t))).ne'
  rw [dsOne_at, v69_at, WordCmp.select_ofBool, Fin.sum_univ_one, backMix_at, negRows_at]
  simp only [h82, h84, h113, h115, h132, h152, ← EReal.coe_mul]
  rw [← EReal.coe_one, Ideal.div_coe hT, Ideal.div_coe (mul_ne_zero hT hT)]
  simp only [← EReal.coe_mul, Finite.coe_sum, ← EReal.coe_neg, ← EReal.coe_add]
  rw [Ideal.div_coe hz]
  simp only [← EReal.coe_mul, ← EReal.coe_add]
  have hP : prP (dil p) Q K h t k = ind (wt (dil p) t k) * Real.exp (tscore Q K h t k - M p h t) / (zTok (dil p) Q K h t * Real.exp (-M p h t)) := by
    have hz' := zTok_pos (dil p) Q K h t
    have he := (Real.exp_pos (-M p h t)).ne'
    rw [prP, Real.exp_sub, Real.exp_log hz', sub_eq_add_neg, Real.exp_add]
    field_simp
  by_cases hw : wt (dil p) t k
  · rw [decide_eq_true hw, if_pos rfl]
    refine congrArg _ ?_
    have hy : ∑ j : Fin 8192, share Q K U p h t * gVal V G h t j * prP (dil p) Q K h t j = wA (lz Q K h t) (U h t) p / wT (lz Q K h t) (U h t) * gOut Q K V G h t p := by
      rw [← gOut_prP, Finset.mul_sum]
      exact Finset.sum_congr rfl fun k _ => by rw [share]; ring
    have hm := ds_mix (lz Q K h t) (gOut Q K V G h t) (U h t) p (gVal V G h t k) _ (ind (wt (dil p) t k) * Real.exp (tscore Q K h t k - M p h t)) _ hz hy
    rw [← hP] at hm
    rw [Finset.sum_neg_distrib]
    simp only [one_mul]
    exact hm
  · rw [decide_eq_false hw, if_neg (by decide), dsMix, prP, ind, if_neg hw]
    simp

/-- A pattern's share of the mixture, with no reference point. -/
def shr (Q K : ℕ → ℕ → ℝ) (h t : ℕ) (p : Fin 3) : ℝ := Real.exp (lz Q K h t p) / ∑ q, Real.exp (lz Q K h t q)

theorem share_eq (Q K : ℕ → ℕ → ℝ) (U : Fin 8 → Fin 8192 → ℝ) (p : Fin 3) (h : Fin 8) (t : Fin 8192) : share Q K U p h t = shr Q K h t p := wA_div _ _ _

/-- The scaled gradient of a score. -/
def dsN (Q K V G : ℕ → ℕ → ℝ) (h t k : ℕ) : ℝ :=
  (∑ p : Fin 3, shr Q K h t p * prP (dil p) Q K h t k * (gVal V G h t k - ∑ q : Fin 3, shr Q K h t q * gOut Q K V G h t q)) * tau

include hq hk hM hU hV hG in
theorem v168_real (h : Fin 8) (t k : Fin 8192) : res_main_v168 V0 (ix3 h t k) = ((dsN Q K V G h t k : ℝ) : EReal) := by
  rw [v168_at hq hk hV hG hM hU]
  unfold dsMix dsN
  simp only [share_eq]

/-- A three-axis array holds the real numbers `A`. -/
def HoldsT {a b c : ℕ} (X : (⟨3, ![a, b, c]⟩ : Shape).Idx → EReal) (A : ℕ → ℕ → ℕ → ℝ) : Prop :=
  ∀ (i : Fin a) (j : Fin b) (k : Fin c), X (ix3 i j k) = ((A i.val j.val k.val : ℝ) : EReal)

include hq hk hM hU hV hG in
/-- The gradient of the rotated keys. -/
theorem v169_holds : HoldsT (a := 8) (b := 8192) (c := 128) (res_main_v169 V0) fun h k e => ∑ t : Fin 8192, dsN Q K V G h t k * Q t (128 * h + e) := by
  intro h k e
  have hd := v168_real hq hk hV hG hM hU
  pointwise [res_main_v169]
  exact sum_holds fun t => by rw [hd, hq, EReal.coe_mul]

include hq hk hM hU hV hG in
/-- The gradient of the rotated queries. -/
theorem v170_holds : HoldsT (a := 8) (b := 8192) (c := 128) (res_main_v170 V0) fun h t e => ∑ k : Fin 8192, dsN Q K V G h t k * K k (128 * h + e) := by
  intro h t e
  have hd := v168_real hq hk hV hG hM hU
  pointwise [res_main_v170]
  exact sum_holds fun k => by rw [hd, hk, EReal.coe_mul]

/-- Head-major rows to token-major rows. -/
def flat (X : FVec Ideal S8x8192x128 .f32) : FVec Ideal S8192x1024 .bf16 :=
  truncf .bf16 (shapeCast _ (transpose S8192x8x128 [1, 0, 2] X transposes_S8x8192x128_S8192x8x128_1_0_2) shapeCasts_S8192x8x128_S8192x1024) bitsLt_bf16_f32

theorem flat_holds {X : FVec Ideal S8x8192x128 .f32} {A : ℕ → ℕ → ℕ → ℝ} (hX : HoldsT (a := 8) (b := 8192) (c := 128) X A) :
    @Holds 8192 1024 (flat X) fun t j => A (j / 128) t (j % 128) := by
  intro t j
  pointwise [flat]
  rw [hX]

/-- The mixture, head-major. -/
def mixture (w : FVec Ideal S3x8x8192x1 .f32) (o : FVec Ideal S3x8x8192x128 .f32) : FVec Ideal S8x8192x128 .f32 :=
  Host.reduceAdd (mulf (broadcastInDim S3x8x8192x128 ![0, 1, 2, 3] bcast_S3x8x8192x1_S3x8x8192x128_0_1_2_3 w) o) (constant S_ .f32 0x00000000#32) reducesTo_S3x8x8192x128_S8x8192x128_d0 h_S_

theorem mixture_at (w : FVec Ideal S3x8x8192x1 .f32) (o : FVec Ideal S3x8x8192x128 .f32) (h : Fin 8) (t : Fin 8192) (e : Fin 128) :
    mixture w o (ix3 h t e) = ∑ p : Fin 3, w (ix4 p h t 0) * o (ix4 p h t e) := by
  pointwise [mixture]

include hq hk hM hU hV in
/-- The mixture of the three outputs. -/
theorem mixture_holds : HoldsT (a := 8) (b := 8192) (c := 128) (mixture (res_main_v117 V0) (res_main_v92 V0)) fun h t e => ∑ p : Fin 3, shr Q K h t p * oTok (dil p) Q K V h t e := by
  intro h t e
  rw [mixture_at]
  exact sum_holds fun p => by rw [v117_at hq hk hM hU, v92_at hq hk hV hM, share_eq, EReal.coe_mul]

/-- The gradient of the values, head-major. -/
def valueGrad (g : FVec Ideal S3x8x8192x128 .f32) (p : FVec Ideal S3x8x8192x8192 .f32) : FVec Ideal S8x8192x128 .f32 :=
  Host.reduceAdd (broadcastInDim S1x8x8192x128 ![1, 2, 3] bcast_S8x8192x128_S1x8x8192x128_1_2_3 (Host.reduceAdd (transpose S3x8x8192x128 [0, 1, 3, 2] (Host.dotGeneral (F := Ideal) (φ₁ := .f32) (φ₂ := .f32) dot_S3x8x8192x128_S3x8x8192x8192_S3x8x128x8192_2_2_3_3_01_01 none g p) transposes_S3x8x128x8192_S3x8x8192x128_0_1_3_2) (constant S_ .f32 0x00000000#32) reducesTo_S3x8x8192x128_S8x8192x128_d0 h_S_)) (constant S_ .f32 0x00000000#32) reducesTo_S1x8x8192x128_S8x8192x128_d0 h_S_

theorem valueGrad_at (g : FVec Ideal S3x8x8192x128 .f32) (p : FVec Ideal S3x8x8192x8192 .f32) (h : Fin 8) (k : Fin 8192) (e : Fin 128) :
    valueGrad g p (ix3 h k e) = ∑ _o : Fin 1, ∑ q : Fin 3, ∑ t : Fin 8192, g (ix4 q h t e) * p (ix4 q h t k) := by
  pointwise [valueGrad]

include hq hk hM hU hG in
/-- The gradient of the values. -/
theorem valueGrad_holds : HoldsT (a := 8) (b := 8192) (c := 128) (valueGrad (res_main_v129 V0) (res_main_v89 V0)) fun h k e =>
    ∑ p : Fin 3, ∑ t : Fin 8192, shr Q K h t p * G t (128 * h + e) * prP (dil p) Q K h t k := by
  intro h k e
  rw [valueGrad_at, Fin.sum_univ_one]
  exact sum_holds fun p => sum_holds fun t => by rw [v129_at hq hk hG hM hU, v89_at hq hk hM, share_eq, ← EReal.coe_mul]

end

/-- The rotation of a row's first `32` entries. -/
def roped (x : ℕ → ℝ) (C S : ℕ → ℝ) (e : ℕ) : ℝ :=
  if e < 16 then x e * C e - x (e + 16) * S e else if e < 32 then x e * C (e - 16) + x (e - 16) * S (e - 16) else x e

/-- The rotation backwards. -/
def back (x : ℕ → ℝ) (C S : ℕ → ℝ) (e : ℕ) : ℝ :=
  if e < 16 then x (e + 16) * S e + x e * C e else if e < 32 then x e * C (e - 16) + -x (e - 16) * S (e - 16) else x e

section
variable {V0 : Valuation τ sig (Elt Ideal)} {Q K C S : ℕ → ℕ → ℝ}
variable (hQ : @Holds 8192 1024 (V0 (Proc.devRef .tc main_arg0)) Q) (hK : @Holds 8192 1024 (V0 (Proc.devRef .tc main_arg1)) K)
  (hC : @Holds 8192 16 (V0 (Proc.devRef .tc main_arg3)) C) (hS : @Holds 8192 16 (V0 (Proc.devRef .tc main_arg4)) S)

include hQ in
theorem v2_holds : HoldsT (a := 8) (b := 8192) (c := 128) (res_main_v2 V0) fun h t e => Q t (128 * h + e) := by
  intro h t e
  pointwise [res_main_v2]
  rw [Nat.mul_comm 128, hQ]

include hK in
theorem v5_holds : HoldsT (a := 8) (b := 8192) (c := 128) (res_main_v5 V0) fun h t e => K t (128 * h + e) := by
  intro h t e
  pointwise [res_main_v5]
  rw [Nat.mul_comm 128, hK]

set_option maxHeartbeats 1000000 in
include hQ hC hS in
/-- The rotated queries. -/
theorem v25_holds : HoldsT (a := 8) (b := 8192) (c := 128) (res_main_v25 V0) fun h t e => roped (fun e => Q t (128 * h + e)) (C t) (S t) e := by
  intro h t e
  have h2 := v2_holds hQ
  pointwise [res_main_v25, res_main_v11, res_main_v12, res_main_v13, res_main_v9, res_main_v10]
  unfold roped
  by_cases h1 : e.val < 16
  · rw [dif_pos h1, if_pos h1, h2, h2, hC, hS, ← EReal.coe_mul, ← EReal.coe_mul, ← EReal.coe_sub]; simp only [Nat.add_comm 16]
  · rw [dif_neg h1, if_neg h1]
    by_cases h3 : e.val < 32
    · rw [dif_pos (show e.val - 16 < 16 by omega), if_pos h3, h2, h2, hC, hS, ← EReal.coe_mul, ← EReal.coe_mul, ← EReal.coe_add]; simp only [show 16 + (e.val - 16) = e.val by omega]
    · rw [dif_neg (show ¬ e.val - 16 < 16 by omega), if_neg h3, h2]; simp only [show 32 + (e.val - 16 - 16) = e.val by omega]

set_option maxHeartbeats 1000000 in
include hK hC hS in
/-- The rotated keys. -/
theorem v42_holds : HoldsT (a := 8) (b := 8192) (c := 128) (res_main_v42 V0) fun h t e => roped (fun e => K t (128 * h + e)) (C t) (S t) e := by
  intro h t e
  have h2 := v5_holds hK
  pointwise [res_main_v42, res_main_v28, res_main_v29, res_main_v30, res_main_v26, res_main_v27]
  unfold roped
  by_cases h1 : e.val < 16
  · rw [dif_pos h1, if_pos h1, h2, h2, hC, hS, ← EReal.coe_mul, ← EReal.coe_mul, ← EReal.coe_sub]; simp only [Nat.add_comm 16]
  · rw [dif_neg h1, if_neg h1]
    by_cases h3 : e.val < 32
    · rw [dif_pos (show e.val - 16 < 16 by omega), if_pos h3, h2, h2, hC, hS, ← EReal.coe_mul, ← EReal.coe_mul, ← EReal.coe_add]; simp only [show 16 + (e.val - 16) = e.val by omega]
    · rw [dif_neg (show ¬ e.val - 16 < 16 by omega), if_neg h3, h2]; simp only [show 32 + (e.val - 16 - 16) = e.val by omega]

/-- A gradient of rotated rows turned back. -/
def turnBack (X : FVec Ideal S8x8192x128 .f32) (c s : FVec Ideal S1x8192x16 .f32) : FVec Ideal S8x8192x128 .f32 :=
  addf (pad S8x8192x128 ![0, 0, 32] ![0, 0, 0] ![0, 0, 0] (extractStridedSlice S8x8192x96 ![0, 0, 32] X slices_S8x8192x128_S8x8192x96_0_0_32) (constant S_ .f32 0x00000000#32) pads_S8x8192x96_S8x8192x128_000_000_3200 h_S_) (pad S8x8192x128 ![0, 0, 0] ![0, 0, 96] ![0, 0, 0] (concatenate S8x8192x32 2 [⟨S8x8192x16, (addf (mulf (extractStridedSlice S8x8192x16 ![0, 0, 16] X slices_S8x8192x128_S8x8192x16_0_0_16) (broadcastInDim S8x8192x16 ![0, 1, 2] bcast_S1x8192x16_S8x8192x16_0_1_2 s)) (mulf (extractStridedSlice S8x8192x16 ![0, 0, 0] X slices_S8x8192x128_S8x8192x16_0_0_0) (broadcastInDim S8x8192x16 ![0, 1, 2] bcast_S1x8192x16_S8x8192x16_0_1_2 c)))⟩, ⟨S8x8192x16, (addf (mulf (extractStridedSlice S8x8192x16 ![0, 0, 16] X slices_S8x8192x128_S8x8192x16_0_0_16) (broadcastInDim S8x8192x16 ![0, 1, 2] bcast_S1x8192x16_S8x8192x16_0_1_2 c)) (mulf (Host.negf (extractStridedSlice S8x8192x16 ![0, 0, 0] X slices_S8x8192x128_S8x8192x16_0_0_0)) (broadcastInDim S8x8192x16 ![0, 1, 2] bcast_S1x8192x16_S8x8192x16_0_1_2 s)))⟩] concatenates_S8x8192x16_S8x8192x16_S8x8192x32_d2) (constant S_ .f32 0x00000000#32) pads_S8x8192x32_S8x8192x128_000_000_0960 h_S_)

include hC in
theorem v9_at (t : Fin 8192) (e : Fin 16) : res_main_v9 V0 (ix3 0 t e) = ((C t e : ℝ) : EReal) := by
  pointwise [res_main_v9]
  rw [hC]

include hS in
theorem v10_at (t : Fin 8192) (e : Fin 16) : res_main_v10 V0 (ix3 0 t e) = ((S t e : ℝ) : EReal) := by
  pointwise [res_main_v10]
  rw [hS]

set_option maxHeartbeats 1000000 in
theorem turnBack_holds {X : FVec Ideal S8x8192x128 .f32} {c s : FVec Ideal S1x8192x16 .f32} {A : ℕ → ℕ → ℕ → ℝ} (hX : HoldsT (a := 8) (b := 8192) (c := 128) X A)
    (hc : ∀ (t : Fin 8192) (e : Fin 16), c (ix3 0 t e) = ((C t e : ℝ) : EReal)) (hs : ∀ (t : Fin 8192) (e : Fin 16), s (ix3 0 t e) = ((S t e : ℝ) : EReal)) :
    HoldsT (a := 8) (b := 8192) (c := 128) (turnBack X c s) fun h t e => back (A h t) (C t) (S t) e := by
  intro h t e
  have he := e.isLt
  pointwise [turnBack]
  unfold back
  split_ifs with h1 h2 h3 h4 h5 h6 h7 h8
  all_goals first
    | (exfalso; omega)
    | (rw [zero_add, hX, hX, hc, hs, ← EReal.coe_mul, ← EReal.coe_mul, ← EReal.coe_add]; simp only [Nat.add_comm 16])
    | (rw [zero_add, hX, hX, hc, hs, ← EReal.coe_neg, ← EReal.coe_mul, ← EReal.coe_mul, ← EReal.coe_add]; simp only [show 16 + (e.val - 16) = e.val by omega])
    | (rw [add_zero, hX]; simp only [show 32 + (e.val - 32) = e.val by omega])

end
end Cert.Reference2Ideal.Value
end
-- ==== Proof.Dil.Equal.lean ====
/- The reference's arrays of the dilated attention are the kernels' arrays. -/
module

public import proofs.«01_k».proof.Proof.Dil.Chain
public import proofs.«01_k».proof.Proof.Dil.Ref

@[expose] public section

noncomputable section

namespace Cert.Dil
open Cert.Attn Cert.Kernel2Ideal.Value
open Cert.Reference2Ideal.Value (dil roped prP shr lz gVal gOut dsN oTok_prP zTok_pos)

theorem head_div (h e : ℕ) (he : e < 128) : (128 * h + e) / 128 = h := by omega
theorem head_mod (h e : ℕ) (he : e < 128) : (128 * h + e) % 128 = e := by omega

section
variable (X C S : ℕ → ℕ → ℝ) (t h e : ℕ) (he : e < 128)
include he

/-- The rotation by tables is the rotation of halves. -/
theorem turnedBy_eq : turnedBy X C S t (128 * h + e) = roped (fun e => X t (128 * h + e)) (C t) (S t) e := by
  unfold turnedBy headsTurned turned cosT upT downT roped
  rw [head_div h e he, head_mod h e he]
  by_cases h1 : e < 16
  · simp only [if_pos h1, show (e + 16) % 128 = e + 16 by omega]; ring
  · by_cases h2 : e < 32
    · simp only [if_neg h1, if_pos h2, if_pos (show e - 16 < 16 by omega), show (e + 112) % 128 = e - 16 by omega]; ring
    · simp only [if_neg h1, if_neg h2, if_neg (show ¬ e - 16 < 16 by omega)]; ring

/-- And backwards. -/
theorem turnedBack_eq : turnedBack X C S t (128 * h + e) = Cert.Reference2Ideal.Value.back (fun e => X t (128 * h + e)) (C t) (S t) e := by
  unfold turnedBack headsTurned turned cosT upT downT Cert.Reference2Ideal.Value.back
  rw [head_div h e he, head_mod h e he]
  by_cases h1 : e < 16
  · simp only [if_pos h1, show (e + 16) % 128 = e + 16 by omega, if_neg (show ¬ (e + 112) % 128 < 16 by omega), if_neg (show ¬ e + 16 < 16 by omega),
      if_pos (show e + 16 - 16 < 16 by omega), show e + 16 - 16 = e by omega]; ring
  · by_cases h2 : e < 32
    · simp only [if_neg h1, if_pos h2, if_pos (show e - 16 < 16 by omega), show (e + 112) % 128 = e - 16 by omega,
        if_neg (show ¬ (e + 16) % 128 < 16 by omega), if_neg (show ¬ (e + 16) % 128 - 16 < 16 by omega)]; ring
    · have h3 : ¬ (e + 112) % 128 < 16 := by omega
      have h4 : (e + 16) % 128 < 16 ∨ ¬ (e + 16) % 128 < 16 ∧ ¬ (e + 16) % 128 - 16 < 16 := by omega
      rcases h4 with h4 | ⟨h4, h5⟩
      · simp only [if_neg h1, if_neg h2, if_neg h3, if_neg (show ¬ e - 16 < 16 by omega), if_pos h4]; ring
      · simp only [if_neg h1, if_neg h2, if_neg h3, if_neg (show ¬ e - 16 < 16 by omega), if_neg h4, if_neg h5]; ring
end

/-- The rotation backwards reads a row's first `128` entries. -/
theorem back_congr {x y C S : ℕ → ℝ} {e : ℕ} (h : ∀ a < 128, x a = y a) (he : e < 128) :
    Cert.Reference2Ideal.Value.back x C S e = Cert.Reference2Ideal.Value.back y C S e := by
  unfold Cert.Reference2Ideal.Value.back
  split_ifs with h1 h2
  · rw [h _ he, h (e + 16) (by omega)]
  · rw [h _ he, h (e - 16) (by omega)]
  · rw [h _ he]

section
variable (Q K V C S G : ℕ → ℕ → ℝ)

/-- The reference's mixture is the kernels'. -/
theorem mix_eq (t j : ℕ) : ∑ p : Fin 3, shr (turnedBy Q C S) (turnedBy K C S) (j / 128) t p * oTok (dil p) (turnedBy Q C S) (turnedBy K C S) V (j / 128) t (j % 128)
    = oF Q K V C S t j := by
  unfold oF mixO shr lz lP oP rows byHead
  rw [Fin.sum_univ_three, Fin.sum_univ_three]
  show Real.exp (Real.log (zTok 1 _ _ _ _)) / (Real.exp (Real.log (zTok 1 _ _ _ _)) + Real.exp (Real.log (zTok 4 _ _ _ _)) + Real.exp (Real.log (zTok 16 _ _ _ _))) * oTok 1 _ _ _ _ _ _
    + Real.exp (Real.log (zTok 4 _ _ _ _)) / (Real.exp (Real.log (zTok 1 _ _ _ _)) + Real.exp (Real.log (zTok 4 _ _ _ _)) + Real.exp (Real.log (zTok 16 _ _ _ _))) * oTok 4 _ _ _ _ _ _
    + Real.exp (Real.log (zTok 16 _ _ _ _)) / (Real.exp (Real.log (zTok 1 _ _ _ _)) + Real.exp (Real.log (zTok 4 _ _ _ _)) + Real.exp (Real.log (zTok 16 _ _ _ _))) * oTok 16 _ _ _ _ _ _ = _
  ring

/-- The product of the mixture and the cotangent. -/
theorem dF_eq (h t : ℕ) : ∑ q : Fin 3, shr (turnedBy Q C S) (turnedBy K C S) h t q * gOut (turnedBy Q C S) (turnedBy K C S) V G h t q = dF Q K V C S G h t := by
  unfold dF gOut
  simp only [Finset.mul_sum]
  rw [Finset.sum_comm]
  refine Finset.sum_congr rfl fun e _ => ?_
  rw [← mix_eq, head_div h e e.isLt, head_mod h e e.isLt, Finset.mul_sum]
  exact Finset.sum_congr rfl fun q _ => by ring

/-- A share times a probability is the probability against the mixture's log-denominator. -/
theorem share_prob (h t k : ℕ) (p : Fin 3) : shr (turnedBy Q C S) (turnedBy K C S) h t p * prP (dil p) (turnedBy Q C S) (turnedBy K C S) h t k
    = ind (wt (dil p) t k) * pTok (turnedBy Q C S) (turnedBy K C S) (mF Q K C S) h t k := by
  unfold shr prP pTok mF
  rw [Fin.sum_univ_three]
  show _ / (Real.exp (Real.log (zTok 1 _ _ _ _)) + Real.exp (Real.log (zTok 4 _ _ _ _)) + Real.exp (Real.log (zTok 16 _ _ _ _))) * _ = _
  unfold lz
  have hz := (Real.exp_pos (Real.log (zTok (dil p) (turnedBy Q C S) (turnedBy K C S) h t))).ne'
  have hs : 0 < Real.exp (Real.log (zTok 1 (turnedBy Q C S) (turnedBy K C S) h t)) + Real.exp (Real.log (zTok 4 (turnedBy Q C S) (turnedBy K C S) h t))
    + Real.exp (Real.log (zTok 16 (turnedBy Q C S) (turnedBy K C S) h t)) := by positivity
  rw [Real.exp_sub, Real.exp_sub, Real.exp_log hs]
  field_simp

/-- The reference's gradient of a score is the sum of the kernels' three. -/
theorem ds_eq (h t k : ℕ) : dsN (turnedBy Q C S) (turnedBy K C S) V G h t k
    = ∑ p : Fin 3, ind (wt (dil p) t k) * dsTok (turnedBy Q C S) (turnedBy K C S) V G (mF Q K C S) (dF Q K V C S G) h t k := by
  unfold dsN
  rw [dF_eq, Finset.sum_mul]
  refine Finset.sum_congr rfl fun p _ => ?_
  rw [share_prob, dsTok, gVal]
  ring

/-- The gradient of the rotated queries. -/
theorem dq_eq (h t e : ℕ) (he : e < 128) : ∑ k : Fin 8192, dsN (turnedBy Q C S) (turnedBy K C S) V G h t k * turnedBy K C S k (128 * h + e)
    = sum3 (dqP Q K V C S G 1) (dqP Q K V C S G 4) (dqP Q K V C S G 16) t (128 * h + e) := by
  unfold sum3 dqP byHead
  rw [head_div h e he, head_mod h e he]
  refine Eq.trans ?_ (Fin.sum_univ_three fun p : Fin 3 => dqTok (dil p) (turnedBy Q C S) (turnedBy K C S) V G (mF Q K C S) (dF Q K V C S G) h t e)
  unfold dqTok
  rw [Finset.sum_comm]
  refine Finset.sum_congr rfl fun k _ => ?_
  rw [ds_eq, Finset.sum_mul]
  exact Finset.sum_congr rfl fun p _ => by ring

/-- The gradient of the rotated keys. -/
theorem dk_eq (h k e : ℕ) (he : e < 128) : ∑ t : Fin 8192, dsN (turnedBy Q C S) (turnedBy K C S) V G h t k * turnedBy Q C S t (128 * h + e)
    = sum3 (dkP Q K V C S G 1) (dkP Q K V C S G 4) (dkP Q K V C S G 16) k (128 * h + e) := by
  unfold sum3 dkP byHead
  rw [head_div h e he, head_mod h e he]
  refine Eq.trans ?_ (Fin.sum_univ_three fun p : Fin 3 => dkTok (dil p) (turnedBy Q C S) (turnedBy K C S) V G (mF Q K C S) (dF Q K V C S G) h k e)
  unfold dkTok
  rw [Finset.sum_comm]
  refine Finset.sum_congr rfl fun t _ => ?_
  rw [ds_eq, Finset.sum_mul]
  exact Finset.sum_congr rfl fun p _ => by ring

/-- The gradient of the values. -/
theorem dv_eq (k j : ℕ) : ∑ p : Fin 3, ∑ t : Fin 8192, shr (turnedBy Q C S) (turnedBy K C S) (j / 128) t p * G t (128 * (j / 128) + j % 128) * prP (dil p) (turnedBy Q C S) (turnedBy K C S) (j / 128) t k
    = dV Q K C S G k j := by
  unfold dV sum3 dvP byHead
  refine Eq.trans ?_ (Fin.sum_univ_three fun p : Fin 3 => dvTok (dil p) (turnedBy Q C S) (turnedBy K C S) G (mF Q K C S) (j / 128) k (j % 128))
  refine Finset.sum_congr rfl fun p _ => ?_
  unfold dvTok
  refine Finset.sum_congr rfl fun t _ => ?_
  have hs := share_prob Q K C S (j / 128) t k p
  linear_combination G t (128 * (j / 128) + j % 128) * hs

end
end Cert.Dil
end
-- ==== Proof.Dil.Pure.lean ====
/- The dilated attention's four results are the plain attention's and its derivative. -/
module

public import proofs.«01_k».proof.Proof.Attn.Pure
public import proofs.«01_k».proof.Proof.Dil.Run
public import proofs.«01_k».proof.Proof.Dil.Equal
public import proofs.«01_k».proof.Proof.Gen.Pre_dil_finite

@[expose] public section

set_option maxRecDepth 16384

noncomputable section

open Idealize.ShloMosaic Idealize.ShloMosaic.TcCoe Idealize.SL.Sem

namespace Cert.Dil
open Cert.Attn
local instance : Cert.Kernel2Ideal.Facts := Cert.Kernel2Ideal.Gen.facts
local instance : Cert.Reference2Ideal.Facts := Cert.Reference2Ideal.Gen.facts
local instance : Cert.Pre_dil_finite.Facts := Cert.Pre_dil_finite.Gen.facts

section
open Cert.Reference2Ideal Cert.Reference2Ideal.Value
open Cert.Kernel2Ideal.Value (turnedBy oF dQ dK dV)
variable {V0 : Valuation τ sig (Elt Ideal)} {Q K V C S G : ℕ → ℕ → ℝ}
variable (hQ : @Holds 8192 1024 (V0 (Proc.devRef .tc main_arg0)) Q) (hK : @Holds 8192 1024 (V0 (Proc.devRef .tc main_arg1)) K)
  (hV : @Holds 8192 1024 (V0 (Proc.devRef .tc main_arg2)) V)
  (hC : @Holds 8192 16 (V0 (Proc.devRef .tc main_arg3)) C) (hS : @Holds 8192 16 (V0 (Proc.devRef .tc main_arg4)) S)
  (hG : @Holds 8192 1024 (V0 (Proc.devRef .tc main_arg5)) G)

include hQ hC hS in
theorem queries_at (h : Fin 8) (t : Fin 8192) (e : Fin 128) : res_main_v25 V0 (ix3 h t e) = ((turnedBy Q C S t (128 * h + e) : ℝ) : EReal) := by
  rw [v25_holds hQ hC hS, turnedBy_eq _ _ _ _ _ _ e.isLt]

include hK hC hS in
theorem keys_at (h : Fin 8) (t : Fin 8192) (e : Fin 128) : res_main_v42 V0 (ix3 h t e) = ((turnedBy K C S t (128 * h + e) : ℝ) : EReal) := by
  rw [v42_holds hK hC hS, turnedBy_eq _ _ _ _ _ _ e.isLt]

include hQ hK hC hS in
theorem exists_max : ∃ M : Fin 3 → Fin 8 → Fin 8192 → ℝ, ∀ p h t, res_main_v73 V0 (ix3 p h t) = ((M p h t : ℝ) : EReal) := by
  choose M hM using fun p h t => v73_real (queries_at hQ hC hS) (keys_at hK hC hS) p h t
  exact ⟨M, hM⟩

include hQ hK hC hS in
theorem exists_top {M : Fin 3 → Fin 8 → Fin 8192 → ℝ} (hM : ∀ p h t, res_main_v73 V0 (ix3 p h t) = ((M p h t : ℝ) : EReal)) :
    ∃ U : Fin 8 → Fin 8192 → ℝ, ∀ h t, res_main_v93 V0 (ix3 h t 0) = ((U h t : ℝ) : EReal) := by
  choose U hU using fun h t => v93_real (queries_at hQ hC hS) (keys_at hK hC hS) hM h t
  exact ⟨U, hU⟩

include hQ hK hV hC hS in
/-- The reference's output holds the kernels' numbers. -/
theorem ref_o : @Holds 8192 1024 (flat (mixture (res_main_v117 V0) (res_main_v92 V0))) (oF Q K V C S) := by
  obtain ⟨M, hM⟩ := exists_max hQ hK hC hS
  obtain ⟨U, hU⟩ := exists_top hQ hK hC hS hM
  exact (flat_holds (mixture_holds (queries_at hQ hC hS) (keys_at hK hC hS) hV hM hU)).congr fun t _ j _ => mix_eq _ _ _ _ _ t j

include hQ hK hV hC hS hG in
/-- The reference's gradient of the queries holds the kernels' numbers. -/
theorem ref_dQ : @Holds 8192 1024 (flat (turnBack (res_main_v170 V0) (res_main_v9 V0) (res_main_v10 V0))) (dQ Q K V C S G) := by
  obtain ⟨M, hM⟩ := exists_max hQ hK hC hS
  obtain ⟨U, hU⟩ := exists_top hQ hK hC hS hM
  refine (flat_holds (turnBack_holds (v170_holds (queries_at hQ hC hS) (keys_at hK hC hS) hV hG hM hU) (v9_at hC) (v10_at hS))).congr fun t _ j hj => ?_
  have e : j = 128 * (j / 128) + j % 128 := by omega
  have he : j % 128 < 128 := Nat.mod_lt _ (by omega)
  rw [dQ]
  conv_rhs => rw [e]
  rw [turnedBack_eq _ _ _ _ _ _ he]
  refine back_congr (fun a ha => ?_) he
  exact dq_eq Q K V C S G (j / 128) t a ha

include hQ hK hV hC hS hG in
/-- The reference's gradient of the keys holds the kernels' numbers. -/
theorem ref_dK : @Holds 8192 1024 (flat (turnBack (res_main_v169 V0) (res_main_v26 V0) (res_main_v27 V0))) (dK Q K V C S G) := by
  obtain ⟨M, hM⟩ := exists_max hQ hK hC hS
  obtain ⟨U, hU⟩ := exists_top hQ hK hC hS hM
  refine (flat_holds (turnBack_holds (v169_holds (queries_at hQ hC hS) (keys_at hK hC hS) hV hG hM hU) (v9_at hC) (v10_at hS))).congr fun t _ j hj => ?_
  have e : j = 128 * (j / 128) + j % 128 := by omega
  have he : j % 128 < 128 := Nat.mod_lt _ (by omega)
  rw [dK]
  conv_rhs => rw [e]
  rw [turnedBack_eq _ _ _ _ _ _ he]
  refine back_congr (fun a ha => ?_) he
  exact dk_eq Q K V C S G (j / 128) t a ha

include hQ hK hV hC hS hG in
/-- The reference's gradient of the values holds the kernels' numbers. -/
theorem ref_dV : @Holds 8192 1024 (flat (valueGrad (res_main_v129 V0) (res_main_v89 V0))) (dV Q K C S G) := by
  obtain ⟨M, hM⟩ := exists_max hQ hK hC hS
  obtain ⟨U, hU⟩ := exists_top hQ hK hC hS hM
  exact (flat_holds (valueGrad_holds (queries_at hQ hC hS) (keys_at hK hC hS) hG hM hU)).congr fun k _ j _ => dv_eq _ _ _ _ _ k j
end

section
open Cert.Kernel2Ideal Cert.Kernel2Ideal.Gen Cert.Kernel2Ideal.Value
variable {m : (ℓ : Loc nD τ sig) → Buf (Elt Ideal) ℓ} {ρ : Dev nD → PrngReg} {c : Dev nD}

/-- The arguments are arrays of real numbers. -/
theorem reals (hpre : Cert.Pre_Kernel2Ideal_dil_finite m) (c : Dev nD) : ∃ Q K V C S G : ℕ → ℕ → ℝ, Args m c Q K V C S G := by
  have h := hpre c
  dsimp only [Pre_dil_finite.fn, Pre_dil_finite.fn_part1] at h
  obtain ⟨h0, h1, h2, h3, h4, h5⟩ := h
  obtain ⟨Q, hQ⟩ := exists_holds (Finite.reals_of_mask _ h0)
  obtain ⟨K, hK⟩ := exists_holds (Finite.reals_of_mask _ h1)
  obtain ⟨V, hV⟩ := exists_holds (Finite.reals_of_mask _ h2)
  obtain ⟨C, hC⟩ := exists_holds (Finite.reals_of_mask_f32 _ h3)
  obtain ⟨S, hS⟩ := exists_holds (Finite.reals_of_mask_f32 _ h4)
  obtain ⟨G, hG⟩ := exists_holds (Finite.reals_of_mask _ h5)
  exact ⟨Q, K, V, C, S, G, hQ, hK, hV, hC, hS, hG⟩
end

open Cert.Kernel2Ideal.Value Cert.Kernel2Ideal.Gen in
/-- The dilated attention's four results — the output and the gradients of queries, keys and values — are the reference's,
    at finite arguments. -/
theorem algebraic : Cert.algebraic_Kernel2Ideal_Reference2Ideal_pre_dil_finite := by
  pair_intro
  · run_from Cert.Kernel2Ideal.Value.run m g
  · run_from Cert.Reference2Ideal.Value.run m' g'
    all_goals
      obtain ⟨Q, K, V, C, S, G, H⟩ := reals hpre c
      obtain ⟨e0, e1, e2, e3, e4, e5⟩ := hagree c
    · exact holds_ext (ref_o (holds_of_eq H.q e0) (holds_of_eq H.k e1) (holds_of_eq H.v e2) (holds_of_eq H.cs e3) (holds_of_eq H.sn e4))
        (at27_v41_0 g H) fun _ _ => rfl
    · exact holds_ext (ref_dQ (holds_of_eq H.q e0) (holds_of_eq H.k e1) (holds_of_eq H.v e2) (holds_of_eq H.cs e3) (holds_of_eq H.sn e4) (holds_of_eq H.g e5))
        (at27_v79 g H) fun _ _ => rfl
    · exact holds_ext (ref_dK (holds_of_eq H.q e0) (holds_of_eq H.k e1) (holds_of_eq H.v e2) (holds_of_eq H.cs e3) (holds_of_eq H.sn e4) (holds_of_eq H.g e5))
        (at27_v80 g H) fun _ _ => rfl
    · exact holds_ext (ref_dV (holds_of_eq H.q e0) (holds_of_eq H.k e1) (holds_of_eq H.v e2) (holds_of_eq H.cs e3) (holds_of_eq H.sn e4) (holds_of_eq H.g e5))
        (at27_v81 g H) fun _ _ => rfl

end Cert.Dil
end
-- ==== Proof.Norm.Run.lean ====
/- The run of the program of the norms and the loss: what every buffer of a device holds when @main returns. -/
module

public import proofs.«01_k».proof.Proof.Gen.Kernel4Ideal.Frame

@[expose] public section

set_option maxRecDepth 16384

noncomputable section

namespace Cert.Kernel4Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with the counters at zero the program ends, and every unscoped buffer of every device then holds
    the contents computed for it at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

/-- The program's run: its results and arguments are what the last boundary computes. -/
theorem run : θ_run defs (onTc (τ := τ) (main (F := F))) ⟨m, fun _ => 0, ρ⟩ (fun r => ∀ c : Dev nD,
      r.2.mem ((c.tc : Thread nD τ).loc main_v14) = W11 m ρ c main_v14
      ∧ r.2.mem ((c.tc : Thread nD τ).loc main_v2_1) = W11 m ρ c main_v2_1
      ∧ r.2.mem ((c.tc : Thread nD τ).loc main_v9_0) = W11 m ρ c main_v9_0
      ∧ r.2.mem ((c.tc : Thread nD τ).loc main_v12_0) = W11 m ρ c main_v12_0
      ∧ r.2.mem ((c.tc : Thread nD τ).loc main_v6_0) = W11 m ρ c main_v6_0
      ∧ r.2.mem ((c.tc : Thread nD τ).loc main_v13) = W11 m ρ c main_v13
      ∧ r.2.mem ((c.tc : Thread nD τ).loc main_v10) = W11 m ρ c main_v10
      ∧ r.2.mem ((c.tc : Thread nD τ).loc main_v7) = W11 m ρ c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v14 (by decide)),
     h c _ (mem_uc main_v2_1 (by decide)),
     h c _ (mem_uc main_v9_0 (by decide)),
     h c _ (mem_uc main_v12_0 (by decide)),
     h c _ (mem_uc main_v6_0 (by decide)),
     h c _ (mem_uc main_v13 (by decide)),
     h c _ (mem_uc main_v10 (by decide)),
     h c _ (mem_uc main_v7 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c)⟩) (run_all m ρ)

end Cert.Kernel4Ideal.Value

end
-- ==== Proof.Norm.Pay.lean ====
/- What the calls of the norms and of the loss compute of a block, over arrays of real numbers. -/
module

public import proofs.«01_k».proof.Proof.Norm.Real
public import proofs.«01_k».proof.Proof.Gen.Kernel4Ideal.Frame
public import Idealize.ShloMosaic.Lib.KernelVsHost

@[expose] public section

set_option maxRecDepth 16384

noncomputable section

open Idealize.ShloMosaic Idealize.ShloMosaic.TcCoe Idealize.SL.Sem

namespace Cert.Kernel4Ideal.Value
open Cert.Kernel4Ideal Cert.Kernel4Ideal.Gen Cert.Attn Cert.Norm

variable {x z d t : FVec Ideal S256x2048 .f32} {g g' : FVec Ideal S1x2048 .f32} {X Z D T : ℕ → ℕ → ℝ} {G G' : ℕ → ℝ}

theorem p0_1 (hx : @Holds 256 2048 x X) (hz : @Holds 256 2048 z Z) (hg : @Holds 1 2048 g fun _ => G) :
    @Holds 256 2048 (k0_pay1 (F := Ideal) x z g) (mixed X Z G) := by
  intro i j
  pointwise [k0_pay1]
  rw [normed_of (hz i j) (ms_of (by norm_num) (hz i) width_lit) (hg 0 j), hx i j, ← EReal.coe_add]
  rfl

theorem p0_2 (hx : @Holds 256 2048 x X) (hz : @Holds 256 2048 z Z) (hg : @Holds 1 2048 g fun _ => G) (hg' : @Holds 1 2048 g' fun _ => G') :
    @Holds 256 2048 (k0_pay2 (F := Ideal) x z g g') (normed 2048 (mixed X Z G) G') := by
  intro i j
  pointwise [k0_pay2]
  exact normed_of (p0_1 hx hz hg i j) (ms_of (by norm_num) (p0_1 hx hz hg i) width_lit) (hg' 0 j)

theorem p1_2 (hx : @Holds 256 2048 x X) (hz : @Holds 256 2048 z Z) (hg : @Holds 1 2048 g fun _ => G) (ht : @Holds 256 2048 t T) :
    @Holds 256 2048 (k1_pay2 (F := Ideal) x z g t) (err X Z G T) := by
  intro i j
  pointwise [k1_pay2]
  rw [normed_of (hz i j) (ms_of (by norm_num) (hz i) width_lit) (hg 0 j), hx i j, ht i j, half_lit, ← EReal.coe_mul, ← EReal.coe_add, ← EReal.coe_sub]
  rfl

theorem p1_3 (hx : @Holds 256 2048 x X) (hz : @Holds 256 2048 z Z) (hg : @Holds 1 2048 g fun _ => G) (ht : @Holds 256 2048 t T) :
    @Holds 256 2048 (k1_pay3 (F := Ideal) x z g t) (fun i k => 1 / 2048 * err X Z G T i k) := by
  intro i j
  pointwise [k1_pay3]
  rw [p1_2 hx hz hg ht i j, inv_width_lit, ← EReal.coe_mul, mul_comm]

theorem p1_6 (hx : @Holds 256 2048 x X) (hz : @Holds 256 2048 z Z) (hg : @Holds 1 2048 g fun _ => G) (ht : @Holds 256 2048 t T) :
    @Holds 256 1 (k1_pay6 (F := Ideal) x z g t) (fun i _ => meanSq (err X Z G T) i) := by
  intro i j
  pointwise [k1_pay6]
  rw [dot_of (p1_2 hx hz hg ht i) (p1_2 hx hz hg ht i), width_lit, div_nat (by norm_num)]
  rfl

theorem p2_2 (hd : @Holds 256 2048 d D) : @Holds 256 2048 (k2_pay2 (F := Ideal) d) fun i k => 1 / 2 * D i k := by
  intro i j
  pointwise [k2_pay2]
  rw [hd i j, half_lit, ← EReal.coe_mul, mul_comm]

theorem p2_3 (hz : @Holds 256 2048 z Z) : @Holds 256 1 (k2_pay3 (F := Ideal) z) fun i _ => ri 2048 Z i := by
  intro i j
  pointwise [k2_pay3]
  exact (congrArg Ideal.rsqrt (ms_of (by norm_num) (hz i) width_lit)).trans (rsqrt_ms _ _ _)

theorem p2_4 (hz : @Holds 256 2048 z Z) : @Holds 256 2048 (k2_pay4 (F := Ideal) z) (hat 2048 Z) := by
  intro i j
  pointwise [k2_pay4]
  rw [hz i j, p2_3 hz i 0, ← EReal.coe_mul]
  rfl

theorem p2_5 (hz : @Holds 256 2048 z Z) (hd : @Holds 256 2048 d D) (hg : @Holds 1 2048 g fun _ => G) :
    @Holds 256 2048 (k2_pay5 (F := Ideal) z d g) (back 2048 Z G fun i k => 1 / 2 * D i k) := by
  intro i j
  pointwise [k2_pay5]
  exact back_of (D := fun i k => 1 / 2 * D i k) (by norm_num) (p2_3 hz i 0) (p2_2 hd i) (hg 0) (p2_4 hz i) width_lit j

theorem p2_8 (hz : @Holds 256 2048 z Z) (hd : @Holds 256 2048 d D) (k : Fin 2048) :
    k2_pay8 (F := Ideal) z d (ix1 k) = ((∑ i : Fin 256, 1 / 2 * D i k * hat 2048 Z i k : ℝ) : EReal) := by
  pointwise [k2_pay8]
  exact dot_of (fun i => p2_2 hd i k) (fun i => p2_4 hz i k)

theorem p4_2 (hd : @Holds 256 2048 d D) : @Holds 256 2048 (k4_pay2 (F := Ideal) d) D := by
  intro i j
  pointwise [k4_pay2]
  exact hd i j

theorem p4_5 (hz : @Holds 256 2048 z Z) (hd : @Holds 256 2048 d D) (hg : @Holds 1 2048 g fun _ => G) :
    @Holds 256 2048 (k4_pay5 (F := Ideal) z d g) (back 2048 Z G D) := by
  intro i j
  pointwise [k4_pay5]
  exact back_of (by norm_num) (p2_3 hz i 0) (p4_2 hd i) (hg 0) (p2_4 hz i) width_lit j

theorem p4_8 (hz : @Holds 256 2048 z Z) (hd : @Holds 256 2048 d D) (k : Fin 2048) :
    k4_pay8 (F := Ideal) z d (ix1 k) = ((∑ i : Fin 256, D i k * hat 2048 Z i k : ℝ) : EReal) := by
  pointwise [k4_pay8]
  exact dot_of (fun i => p4_2 hd i k) (fun i => p2_4 hz i k)

theorem p3_3 (hd : @Holds 256 2048 d D) : @Holds 256 2048 (k3_pay3 (F := Ideal) d) D := by
  intro i j
  pointwise [k3_pay3]
  exact hd i j

theorem p3_4 (hz : @Holds 256 2048 z Z) : @Holds 256 1 (k3_pay4 (F := Ideal) z) fun i _ => ri 2048 Z i := by
  intro i j
  pointwise [k3_pay4, k3_pay2]
  exact (congrArg Ideal.rsqrt (ms_of (by norm_num) (hz i) width_lit)).trans (rsqrt_ms _ _ _)

theorem p3_5 (hz : @Holds 256 2048 z Z) : @Holds 256 2048 (k3_pay5 (F := Ideal) z) (hat 2048 Z) := by
  intro i j
  pointwise [k3_pay5, k3_pay2]
  rw [hz i j, p3_4 hz i 0, ← EReal.coe_mul]
  rfl

/-- The gradient of the norm before a block, with the gradient that comes past the block. -/
theorem p3_6 (hz : @Holds 256 2048 z Z) (hd : @Holds 256 2048 d D) (hg : @Holds 1 2048 g fun _ => G) (ht : @Holds 256 2048 t T) :
    @Holds 256 2048 (k3_pay6 (F := Ideal) z d g t) (fun i k => T i k + back 2048 Z G D i k) := by
  intro i j
  pointwise [k3_pay6]
  rw [back_of (by norm_num) (p3_4 hz i 0) (p3_3 hd i) (hg 0) (p3_5 hz i) width_lit j, ht i j, ← EReal.coe_add, add_comm]

/-- A block's part of the gains' gradient, added to what the blocks before left. -/
theorem p2_1 (a : FVec Ideal S1x2048 .f32) (b : FVec Ideal S2048 .f32) (j : S1x2048.Idx) : k2_pay1 (F := Ideal) a b j = a j + b (ix1 (j 1)) := by pointwise [k2_pay1]
theorem p4_1 (a : FVec Ideal S1x2048 .f32) (b : FVec Ideal S2048 .f32) (j : S1x2048.Idx) : k4_pay1 (F := Ideal) a b j = a j + b (ix1 (j 1)) := by pointwise [k4_pay1]

theorem p3_1 (hz : @Holds 256 2048 z Z) (hd : @Holds 256 2048 d D) (a : FVec Ideal S1x2048 .f32) (j : S1x2048.Idx) :
    k3_pay1 (F := Ideal) (k3_pay3 d) (k3_pay5 z) a j = a j + ((∑ i : Fin 256, D i (j 1).val * hat 2048 Z i (j 1).val : ℝ) : EReal) := by
  pointwise [k3_pay1]
  rw [dot_of (fun i => p3_3 hd i (j 1)) (fun i => p3_5 hz i (j 1))]

theorem p1_1 {b : FVec Ideal S256x1 .f32} {B : ℕ → ℝ} (hb : @Holds 256 1 b fun i _ => B i) (a : FVec Ideal S1x1 .f32) (j : S1x1.Idx) :
    k1_pay1 (F := Ideal) a b j = a j + (((∑ i : Fin 256, B i) * (1 / 2) : ℝ) : EReal) := by
  pointwise [k1_pay1]
  rw [Finset.sum_congr rfl fun i _ => hb i 0, Finite.coe_sum, half_lit, ← EReal.coe_mul]

theorem p2_6 (j : S1x2048.Idx) : k2_pay6 (F := Ideal) j = 0 := by pointwise [k2_pay6]
theorem p2_7 (a : FVec Ideal S1x2048 .f32) (j : S1x2048.Idx) : k2_pay7 (F := Ideal) a j = a j := by pointwise [k2_pay7]
theorem p3_7 (j : S1x2048.Idx) : k3_pay7 (F := Ideal) j = 0 := by pointwise [k3_pay7]
theorem p4_6 (j : S1x2048.Idx) : k4_pay6 (F := Ideal) j = 0 := by pointwise [k4_pay6]
theorem p4_7 (a : FVec Ideal S1x2048 .f32) (j : S1x2048.Idx) : k4_pay7 (F := Ideal) a j = a j := by pointwise [k4_pay7]
theorem p1_4 (j : S1x1.Idx) : k1_pay4 (F := Ideal) j = 0 := by pointwise [k1_pay4]
theorem p1_5 (a : FVec Ideal S1x1 .f32) (j : S1x1.Idx) : k1_pay5 (F := Ideal) a j = a j := by pointwise [k1_pay5]

end Cert.Kernel4Ideal.Value
-- ==== Proof.Norm.Value.lean ====
/- What the calls of the norms and of the loss leave in their whole arrays. -/
module

public import proofs.«01_k».proof.Proof.Norm.Pay

@[expose] public section

set_option maxRecDepth 16384

noncomputable section

open Idealize.ShloMosaic Idealize.ShloMosaic.TcCoe Idealize.SL.Sem

namespace Cert.Kernel4Ideal.Value
open Cert.Kernel4Ideal Cert.Kernel4Ideal.Gen Cert.Attn Cert.Norm

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

section
variable {V} {c : Dev nD} {X Z : ℕ → ℕ → ℝ} {G G' : ℕ → ℝ} (hX : @Holds 8192 2048 (V c main_arg0) X) (hZ : @Holds 8192 2048 (V c main_arg1) Z)
  (hG : @Holds 1 2048 (V c main_v0) fun _ => G) (hG' : @Holds 1 2048 (V c main_v1) fun _ => G')

include hX hZ hG in
/-- The stream after the mixing, over all rows. -/
theorem final0_4 : @Holds 8192 2048 ((dat0 V c).arrAt 4 cfg0.N) (mixed X Z G) := by
  refine Holds.of (congrFun ((dat0 V c).arrAt_eq_of_covers 4 _ (by decide +kernel) fun t _ y => ?_))
  have b0 : @Holds 256 2048 (iblk0 V c 0 t) _ := blk_of hX t.val t.isLt (by intro i j; blk_point [iblk0, idx0 t])
  have b1 : @Holds 256 2048 (iblk0 V c 1 t) _ := blk_of hZ t.val t.isLt (by intro i j; blk_point [iblk0, idx0 t])
  have b2 : @Holds 1 2048 (iblk0 V c 2 t) _ := row_of hG (by intro i j; blk_point [iblk0, idx0 t])
  have e := (idx0 t).2.2.2.2.1
  blk_simp
  rw [after0_4]
  refine Eq.trans (b := k0_pay1 (F := Ideal) (iblk0 V c 0 t) (iblk0 V c 1 t) (iblk0 V c 2 t) y) ?_ (((p0_1 b0 b1 b2).at y).trans ?_)
  · frame_out
  rw [e]
  simp only [Matrix.cons_val_zero, Matrix.cons_val_one, Nat.zero_mul, Nat.zero_add, Nat.mul_comm _ 256]
  rfl

include hX hZ hG hG' in
/-- The norm before the last block, over all rows. -/
theorem final0_5 : @Holds 8192 2048 ((dat0 V c).arrAt 5 cfg0.N) (normed 2048 (mixed X Z G) G') := by
  refine Holds.of (congrFun ((dat0 V c).arrAt_eq_of_covers 5 _ (by decide +kernel) fun t _ y => ?_))
  have b0 : @Holds 256 2048 (iblk0 V c 0 t) _ := blk_of hX t.val t.isLt (by intro i j; blk_point [iblk0, idx0 t])
  have b1 : @Holds 256 2048 (iblk0 V c 1 t) _ := blk_of hZ t.val t.isLt (by intro i j; blk_point [iblk0, idx0 t])
  have b2 : @Holds 1 2048 (iblk0 V c 2 t) _ := row_of hG (by intro i j; blk_point [iblk0, idx0 t])
  have b3 : @Holds 1 2048 (iblk0 V c 3 t) _ := row_of hG' (by intro i j; blk_point [iblk0, idx0 t])
  have e := (idx0 t).2.2.2.2.2
  blk_simp
  rw [after0_5]
  refine Eq.trans (b := k0_pay2 (F := Ideal) (iblk0 V c 0 t) (iblk0 V c 1 t) (iblk0 V c 2 t) (iblk0 V c 3 t) y) ?_ (((p0_2 b0 b1 b2 b3).at y).trans ?_)
  · frame_out
  rw [e]
  simp only [Matrix.cons_val_zero, Matrix.cons_val_one, Nat.zero_mul, Nat.zero_add, Nat.mul_comm _ 256]
  rfl

end

theorem idx1 : ∀ t : Fin cfg1.N, win1_0.index t = ![t.val, 0] ∧ win1_1.index t = ![t.val, 0] ∧ win1_2.index t = ![0, 0] ∧ win1_3.index t = ![t.val, 0] ∧ win1_4.index t = ![t.val, 0] ∧ win1_5.index t = ![0, 0] :=
  (by decide +kernel : ∀ t : Fin grid1.N, _)

section
variable {V} {c : Dev nD} {X Z T : ℕ → ℕ → ℝ} {G : ℕ → ℝ} (hX : @Holds 8192 2048 (V c main_v2_0) X) (hZ : @Holds 8192 2048 (V c main_arg2) Z)
  (hG : @Holds 1 2048 (V c main_v3) fun _ => G) (hT : @Holds 8192 2048 (V c main_arg6) T)
include hX hZ hG hT

/-- The gradient of the loss in the step's output, over all rows. -/
theorem final1_4 : @Holds 8192 2048 ((dat1 V c).arrAt 4 cfg1.N) (fun i k => 1 / 2048 * err X Z G T i k) := by
  refine Holds.of (congrFun ((dat1 V c).arrAt_eq_of_covers 4 _ (by decide +kernel) fun t _ y => ?_))
  have b0 : @Holds 256 2048 (iblk1 V c 0 t) _ := blk_of hX t.val t.isLt (by intro i j; blk_point [iblk1, idx1 t])
  have b1 : @Holds 256 2048 (iblk1 V c 1 t) _ := blk_of hZ t.val t.isLt (by intro i j; blk_point [iblk1, idx1 t])
  have b2 : @Holds 1 2048 (iblk1 V c 2 t) _ := row_of hG (by intro i j; blk_point [iblk1, idx1 t])
  have b3 : @Holds 256 2048 (iblk1 V c 3 t) _ := blk_of hT t.val t.isLt (by intro i j; blk_point [iblk1, idx1 t])
  have e := (idx1 t).2.2.2.2.1
  blk_simp
  rw [after1_4]
  refine Eq.trans (b := k1_pay3 (F := Ideal) (iblk1 V c 0 t) (iblk1 V c 1 t) (iblk1 V c 2 t) (iblk1 V c 3 t) y) ?_ (((p1_3 b0 b1 b2 b3).at y).trans ?_)
  · by_cases h : t.val % 32 = 0
    · rw [outsAt1_A V c t h]; frame_out
    · rw [outsAt1_B V c t h]; frame_out
  rw [e]
  simp only [Matrix.cons_val_zero, Matrix.cons_val_one, Nat.zero_mul, Nat.zero_add, Nat.mul_comm _ 256]
  rfl

/-- The loss. -/
theorem final1_5 : @Holds 1 1 ((dat1 V c).arrAt 5 cfg1.N) (fun _ => fun k => ∑ i : Fin 8192, meanSq (err X Z G T) i * (1 / 2)) := by
  refine Holds.of (congrFun ((dat1 V c).arrAt_eq_of_covers 5 _ (by decide +kernel) fun t hf y => ?_))
  have part (t : Fin cfg1.N) (j : (⟨2, ![1, 1]⟩ : Shape).Idx) (a : FVec Ideal ⟨2, ![1, 1]⟩ .f32) : k1_pay1 (F := Ideal) a (k1_pay6 (iblk1 V c 0 t) (iblk1 V c 1 t) (iblk1 V c 2 t) (iblk1 V c 3 t)) j = a j + ((∑ i : Fin 256, meanSq (err X Z G T) (256 * t.val + i) * (1 / 2) : ℝ) : EReal) := by
    have b0 : @Holds 256 2048 (iblk1 V c 0 t) _ := blk_of hX t.val t.isLt (by intro i j; blk_point [iblk1, idx1 t])
    have b1 : @Holds 256 2048 (iblk1 V c 1 t) _ := blk_of hZ t.val t.isLt (by intro i j; blk_point [iblk1, idx1 t])
    have b2 : @Holds 1 2048 (iblk1 V c 2 t) _ := row_of hG (by intro i j; blk_point [iblk1, idx1 t])
    have b3 : @Holds 256 2048 (iblk1 V c 3 t) _ := blk_of hT t.val t.isLt (by intro i j; blk_point [iblk1, idx1 t])
    rw [p1_1 (p1_6 b0 b1 b2 b3), Finset.sum_mul]
    rfl
  blk_simp
  rw [after1_5, Pipeline.eq_sum_fin_of_reset_step_apply_of_flush (fun n h => (outsAt1 V c n h).2) 32 (fun _ => (0 : EReal)) (fun t j => ((∑ i : Fin 256, meanSq (err X Z G T) (256 * t.val + i) * (1 / 2) : ℝ) : EReal))
    (fun t h j => by rw [outsAt1_A V c t h]; frame_out; rw [part, p1_5, p1_4]) (fun t h j => by rw [outsAt1_B V c t h]; frame_out; rw [part, p1_5])
    t ((flush1_5 t).mp hf) _, zero_add]
  exact blocks_sum t.val t.isLt fun i => meanSq (err X Z G T) i * (1 / 2)

end

theorem idx2 : ∀ t : Fin cfg2.N, win2_0.index t = ![t.val, 0] ∧ win2_1.index t = ![0, 0] ∧ win2_2.index t = ![t.val, 0] ∧ win2_3.index t = ![t.val, 0] ∧ win2_4.index t = ![0, 0] :=
  (by decide +kernel : ∀ t : Fin grid2.N, _)

section
variable {V} {c : Dev nD} {Z D : ℕ → ℕ → ℝ} {G : ℕ → ℝ} (hZ : @Holds 8192 2048 (V c main_arg2) Z) (hD : @Holds 8192 2048 (V c main_v4_0) D)
  (hG : @Holds 1 2048 (V c main_v5) fun _ => G)

include hZ hD hG in
/-- The gradient of the last norm in its argument. -/
theorem final2_3 : @Holds 8192 2048 ((dat2 V c).arrAt 3 cfg2.N) (back 2048 Z G (fun i k => 1 / 2 * D i k)) := by
  refine Holds.of (congrFun ((dat2 V c).arrAt_eq_of_covers 3 _ (by decide +kernel) fun t _ y => ?_))
  have b0 : @Holds 256 2048 (iblk2 V c 0 t) _ := blk_of hZ t.val t.isLt (by intro i j; blk_point [iblk2, idx2 t])
  have b1 : @Holds 1 2048 (iblk2 V c 1 t) _ := row_of hG (by intro i j; blk_point [iblk2, idx2 t])
  have b2 : @Holds 256 2048 (iblk2 V c 2 t) _ := blk_of hD t.val t.isLt (by intro i j; blk_point [iblk2, idx2 t])
  have e := (idx2 t).2.2.2.1
  blk_simp
  rw [after2_3]
  refine Eq.trans (b := k2_pay5 (F := Ideal) (iblk2 V c 0 t) (iblk2 V c 2 t) (iblk2 V c 1 t) y) ?_ (((p2_5 b0 b2 b1).at y).trans ?_)
  · by_cases h : t.val % 32 = 0
    · rw [outsAt2_A V c t h]; frame_out
    · rw [outsAt2_B V c t h]; frame_out
  rw [e]
  simp only [Matrix.cons_val_zero, Matrix.cons_val_one, Nat.zero_mul, Nat.zero_add, Nat.mul_comm _ 256]
  rfl

include hZ hD in
/-- The gradient of the last norm in its gains. -/
theorem final2_4 : @Holds 1 2048 ((dat2 V c).arrAt 4 cfg2.N) (fun _ => fun k => ∑ i : Fin 8192, 1 / 2 * D i k * hat 2048 Z i k) := by
  refine Holds.of (congrFun ((dat2 V c).arrAt_eq_of_covers 4 _ (by decide +kernel) fun t hf y => ?_))
  have part (t : Fin cfg2.N) (j : (⟨2, ![1, 2048]⟩ : Shape).Idx) (a : FVec Ideal ⟨2, ![1, 2048]⟩ .f32) : k2_pay1 (F := Ideal) a (k2_pay8 (iblk2 V c 0 t) (iblk2 V c 2 t)) j = a j + ((∑ i : Fin 256, 1 / 2 * D (256 * t.val + i) (j 1).val * hat 2048 Z (256 * t.val + i) (j 1).val : ℝ) : EReal) := by
    have b0 : @Holds 256 2048 (iblk2 V c 0 t) _ := blk_of hZ t.val t.isLt (by intro i j; blk_point [iblk2, idx2 t])
    have b2 : @Holds 256 2048 (iblk2 V c 2 t) _ := blk_of hD t.val t.isLt (by intro i j; blk_point [iblk2, idx2 t])
    rw [p2_1]
    exact congrArg _ (p2_8 b0 b2 (j 1))
  have e := (idx2 t).2.2.2.2
  blk_simp
  rw [after2_4, Pipeline.eq_sum_fin_of_reset_step_apply_of_flush (fun n h => (outsAt2 V c n h).2) 32 (fun _ => (0 : EReal)) (fun t j => ((∑ i : Fin 256, 1 / 2 * D (256 * t.val + i) (j 1).val * hat 2048 Z (256 * t.val + i) (j 1).val : ℝ) : EReal))
    (fun t h j => by rw [outsAt2_A V c t h]; frame_out; rw [part, p2_7, p2_6]) (fun t h j => by rw [outsAt2_B V c t h]; frame_out; rw [part, p2_7])
    t ((flush2_4 t).mp hf) _, zero_add, e]
  simp only [Matrix.cons_val_zero, Matrix.cons_val_one, Nat.zero_mul, Nat.zero_add]
  exact blocks_sum t.val t.isLt fun i => 1 / 2 * D i (y 1).val * hat 2048 Z i (y 1).val

end

theorem idx3 : ∀ t : Fin cfg3.N, win3_0.index t = ![t.val, 0] ∧ win3_1.index t = ![0, 0] ∧ win3_2.index t = ![t.val, 0] ∧ win3_3.index t = ![t.val, 0] ∧ win3_4.index t = ![t.val, 0] ∧ win3_5.index t = ![0, 0] :=
  (by decide +kernel : ∀ t : Fin grid3.N, _)

section
variable {V} {c : Dev nD} {Z D T : ℕ → ℕ → ℝ} {G : ℕ → ℝ} (hZ : @Holds 8192 2048 (V c main_v2_0) Z) (hD : @Holds 8192 2048 (V c main_arg7) D)
  (hG : @Holds 1 2048 (V c main_v8) fun _ => G) (hT : @Holds 8192 2048 (V c main_v4_0) T)

include hZ hD hG hT in
/-- The gradient of the norm before the last block, with the gradient that comes past the block. -/
theorem final3_4 : @Holds 8192 2048 ((dat3 V c).arrAt 4 cfg3.N) (fun i k => T i k + back 2048 Z G D i k) := by
  refine Holds.of (congrFun ((dat3 V c).arrAt_eq_of_covers 4 _ (by decide +kernel) fun t _ y => ?_))
  have b0 : @Holds 256 2048 (iblk3 V c 0 t) _ := blk_of hZ t.val t.isLt (by intro i j; blk_point [iblk3, idx3 t])
  have b1 : @Holds 1 2048 (iblk3 V c 1 t) _ := row_of hG (by intro i j; blk_point [iblk3, idx3 t])
  have b2 : @Holds 256 2048 (iblk3 V c 2 t) _ := blk_of hD t.val t.isLt (by intro i j; blk_point [iblk3, idx3 t])
  have b3 : @Holds 256 2048 (iblk3 V c 3 t) _ := blk_of hT t.val t.isLt (by intro i j; blk_point [iblk3, idx3 t])
  have e := (idx3 t).2.2.2.2.1
  blk_simp
  rw [after3_4]
  refine Eq.trans (b := k3_pay6 (F := Ideal) (iblk3 V c 0 t) (iblk3 V c 2 t) (iblk3 V c 1 t) (iblk3 V c 3 t) y) ?_ (((p3_6 b0 b2 b1 b3).at y).trans ?_)
  · by_cases h : t.val % 32 = 0
    · rw [outsAt3_A V c t h]; frame_out
    · rw [outsAt3_B V c t h]; frame_out
  rw [e]
  simp only [Matrix.cons_val_zero, Matrix.cons_val_one, Nat.zero_mul, Nat.zero_add, Nat.mul_comm _ 256]
  rfl

include hZ hD in
/-- The gradient of the norm before the last block in its gains. -/
theorem final3_5 : @Holds 1 2048 ((dat3 V c).arrAt 5 cfg3.N) (fun _ => fun k => ∑ i : Fin 8192, D i k * hat 2048 Z i k) := by
  refine Holds.of (congrFun ((dat3 V c).arrAt_eq_of_covers 5 _ (by decide +kernel) fun t hf y => ?_))
  have part (t : Fin cfg3.N) (j : (⟨2, ![1, 2048]⟩ : Shape).Idx) (a : FVec Ideal ⟨2, ![1, 2048]⟩ .f32) : k3_pay1 (F := Ideal) (k3_pay3 (iblk3 V c 2 t)) (k3_pay5 (iblk3 V c 0 t)) a j = a j + ((∑ i : Fin 256, D (256 * t.val + i) (j 1).val * hat 2048 Z (256 * t.val + i) (j 1).val : ℝ) : EReal) := by
    have b0 : @Holds 256 2048 (iblk3 V c 0 t) _ := blk_of hZ t.val t.isLt (by intro i j; blk_point [iblk3, idx3 t])
    have b2 : @Holds 256 2048 (iblk3 V c 2 t) _ := blk_of hD t.val t.isLt (by intro i j; blk_point [iblk3, idx3 t])
    exact p3_1 b0 b2 a j
  have e := (idx3 t).2.2.2.2.2
  blk_simp
  rw [after3_5, Pipeline.eq_sum_fin_of_reset_step_apply_of_flush (fun n h => (outsAt3 V c n h).2) 32 (fun _ => (0 : EReal)) (fun t j => ((∑ i : Fin 256, D (256 * t.val + i) (j 1).val * hat 2048 Z (256 * t.val + i) (j 1).val : ℝ) : EReal))
    (fun t h j => by rw [outsAt3_A V c t h]; frame_out; rw [part, p3_7]) (fun t h j => by rw [outsAt3_B V c t h]; frame_out; rw [part])
    t ((flush3_5 t).mp hf) _, zero_add, e]
  simp only [Matrix.cons_val_zero, Matrix.cons_val_one, Nat.zero_mul, Nat.zero_add]
  exact blocks_sum t.val t.isLt fun i => D i (y 1).val * hat 2048 Z i (y 1).val

end

theorem idx4 : ∀ t : Fin cfg4.N, win4_0.index t = ![t.val, 0] ∧ win4_1.index t = ![0, 0] ∧ win4_2.index t = ![t.val, 0] ∧ win4_3.index t = ![t.val, 0] ∧ win4_4.index t = ![0, 0] :=
  (by decide +kernel : ∀ t : Fin grid4.N, _)

section
variable {V} {c : Dev nD} {Z D : ℕ → ℕ → ℝ} {G : ℕ → ℝ} (hZ : @Holds 8192 2048 (V c main_arg1) Z) (hD : @Holds 8192 2048 (V c main_v9_0) D)
  (hG : @Holds 1 2048 (V c main_v11) fun _ => G)

include hZ hD hG in
/-- The gradient of the norm after the mixing in its argument. -/
theorem final4_3 : @Holds 8192 2048 ((dat4 V c).arrAt 3 cfg4.N) (back 2048 Z G D) := by
  refine Holds.of (congrFun ((dat4 V c).arrAt_eq_of_covers 3 _ (by decide +kernel) fun t _ y => ?_))
  have b0 : @Holds 256 2048 (iblk4 V c 0 t) _ := blk_of hZ t.val t.isLt (by intro i j; blk_point [iblk4, idx4 t])
  have b1 : @Holds 1 2048 (iblk4 V c 1 t) _ := row_of hG (by intro i j; blk_point [iblk4, idx4 t])
  have b2 : @Holds 256 2048 (iblk4 V c 2 t) _ := blk_of hD t.val t.isLt (by intro i j; blk_point [iblk4, idx4 t])
  have e := (idx4 t).2.2.2.1
  blk_simp
  rw [after4_3]
  refine Eq.trans (b := k4_pay5 (F := Ideal) (iblk4 V c 0 t) (iblk4 V c 2 t) (iblk4 V c 1 t) y) ?_ (((p4_5 b0 b2 b1).at y).trans ?_)
  · by_cases h : t.val % 32 = 0
    · rw [outsAt4_A V c t h]; frame_out
    · rw [outsAt4_B V c t h]; frame_out
  rw [e]
  simp only [Matrix.cons_val_zero, Matrix.cons_val_one, Nat.zero_mul, Nat.zero_add, Nat.mul_comm _ 256]
  rfl

include hZ hD in
/-- The gradient of the norm after the mixing in its gains. -/
theorem final4_4 : @Holds 1 2048 ((dat4 V c).arrAt 4 cfg4.N) (fun _ => fun k => ∑ i : Fin 8192, D i k * hat 2048 Z i k) := by
  refine Holds.of (congrFun ((dat4 V c).arrAt_eq_of_covers 4 _ (by decide +kernel) fun t hf y => ?_))
  have part (t : Fin cfg4.N) (j : (⟨2, ![1, 2048]⟩ : Shape).Idx) (a : FVec Ideal ⟨2, ![1, 2048]⟩ .f32) : k4_pay1 (F := Ideal) a (k4_pay8 (iblk4 V c 0 t) (iblk4 V c 2 t)) j = a j + ((∑ i : Fin 256, D (256 * t.val + i) (j 1).val * hat 2048 Z (256 * t.val + i) (j 1).val : ℝ) : EReal) := by
    have b0 : @Holds 256 2048 (iblk4 V c 0 t) _ := blk_of hZ t.val t.isLt (by intro i j; blk_point [iblk4, idx4 t])
    have b2 : @Holds 256 2048 (iblk4 V c 2 t) _ := blk_of hD t.val t.isLt (by intro i j; blk_point [iblk4, idx4 t])
    rw [p4_1]
    exact congrArg _ (p4_8 b0 b2 (j 1))
  have e := (idx4 t).2.2.2.2
  blk_simp
  rw [after4_4, Pipeline.eq_sum_fin_of_reset_step_apply_of_flush (fun n h => (outsAt4 V c n h).2) 32 (fun _ => (0 : EReal)) (fun t j => ((∑ i : Fin 256, D (256 * t.val + i) (j 1).val * hat 2048 Z (256 * t.val + i) (j 1).val : ℝ) : EReal))
    (fun t h j => by rw [outsAt4_A V c t h]; frame_out; rw [part, p4_7, p4_6]) (fun t h j => by rw [outsAt4_B V c t h]; frame_out; rw [part, p4_7])
    t ((flush4_4 t).mp hf) _, zero_add, e]
  simp only [Matrix.cons_val_zero, Matrix.cons_val_one, Nat.zero_mul, Nat.zero_add]
  exact blocks_sum t.val t.isLt fun i => D i (y 1).val * hat 2048 Z i (y 1).val

end

end Cert.Kernel4Ideal.Value
-- ==== Proof.Norm.Ref.lean ====
/- The reference's norms, loss and derivatives, over arrays of real numbers. -/
module

public import proofs.«01_k».proof.Proof.Norm.Real
public import proofs.«01_k».proof.Proof.Gen.Reference4Ideal.Run
public import Idealize.ShloMosaic.Lib.KernelVsHost

@[expose] public section

set_option maxRecDepth 16384

noncomputable section

open Idealize.ShloMosaic Idealize.ShloMosaic.TcCoe Idealize.SL.Sem

namespace Cert.Reference4Ideal.Value
open Cert.Reference4Ideal Cert.Reference4Ideal.Gen Cert.Attn Cert.Norm

local notation "𝔸" => FVec Ideal S8192x2048 FTy.f32

section
variable (x y d t : 𝔸) (g : FVec Ideal S2048 .f32)
/-- The rows' sums. -/
def rowSum : FVec Ideal S8192 .f32 := Host.reduceAdd x (constant S_ .f32 0x00000000#32) reducesTo_S8192x2048_S8192_d1 h_S_
/-- The rows' mean squares. -/
def hMs : FVec Ideal S8192x1 .f32 :=
  addf (Host.divf (broadcastInDim S8192x1 ![0] bcast_S8192_S8192x1_0 (rowSum (mulf x x))) (broadcastInDim S8192x1 ![] bcast_S_S8192x1 (constant S_ .f32 0x45000000#32))) (broadcastInDim S8192x1 ![] bcast_S_S8192x1 (constant S_ .f32 0x358637BD#32))
/-- One over their roots, on every entry. -/
def hRi : 𝔸 := broadcastInDim S8192x2048 ![0, 1] bcast_S8192x1_S8192x2048_0_1 (Host.rsqrt (hMs x))
/-- The gains, on every row. -/
def hG : 𝔸 := broadcastInDim S8192x2048 ![0, 1] bcast_S1x2048_S8192x2048_0_1 (broadcastInDim S1x2048 ![1] bcast_S2048_S1x2048_1 g)
/-- The norm. -/
def hNorm : 𝔸 := mulf (mulf x (hRi x)) (hG g)
/-- The sums of argument times gradient. -/
def hDot : FVec Ideal S8192x1 .f32 := shapeCast S8192x1 (rowSum (mulf x (mulf d (hG g)))) shapeCasts_S8192_S8192x1
/-- The derivative of the mean square, on every entry. -/
def hS : 𝔸 :=
  broadcastInDim S8192x2048 ![0] bcast_S8192_S8192x2048_0 (Host.reduceAdd (Host.divf (mulf (hDot x d g) (mulf (broadcastInDim S8192x1 ![] bcast_S_S8192x1 (constant S_ .f32 0xBF000000#32)) (Host.divf (Host.rsqrt (hMs x)) (hMs x)))) (broadcastInDim S8192x1 ![] bcast_S_S8192x1 (constant S_ .f32 0x45000000#32))) (constant S_ .f32 0x00000000#32) reducesTo_S8192x1_S8192_d1 h_S_)
/-- The norm's derivative. -/
def hBack : 𝔸 := addf (addf (mulf (mulf d (hG g)) (hRi x)) (mulf x (hS x d g))) (mulf (hS x d g) x)
/-- The same, past another gradient. -/
def hBackRes : 𝔸 := addf (addf (addf t (mulf (mulf d (hG g)) (hRi x))) (mulf x (hS x d g))) (mulf (hS x d g) x)
/-- The derivative in the gains. -/
def hGain : FVec Ideal S2048 .f32 :=
  Host.reduceAdd (shapeCast S1x2048 (Host.reduceAdd (mulf (mulf x (hRi x)) d) (constant S_ .f32 0x00000000#32) reducesTo_S8192x2048_S2048_d0 h_S_) shapeCasts_S2048_S1x2048) (constant S_ .f32 0x00000000#32) reducesTo_S1x2048_S2048_d0 h_S_
/-- Half an array. -/
def hHalf : 𝔸 := mulf (broadcastInDim S8192x2048 ![] bcast_S_S8192x2048 (constant S_ .f32 0x3F000000#32)) x
/-- The step's output less its target. -/
def hErr : 𝔸 := subf (addf x (hHalf (hNorm y g))) t
/-- The loss's derivative. -/
def hDy : 𝔸 :=
  mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32))))
    (mulf (broadcastInDim S8192x2048 ![] bcast_S_S8192x2048 (constant S_ .f32 0x40000000#32)) x)
/-- The loss. -/
def hLoss : FVec Ideal S_ .f32 :=
  mulf (constant S_ .f32 0x3F000000#32) (Host.reduceAdd (Host.divf (rowSum (mulf x x)) (broadcastInDim S8192 ![] bcast_S_S8192 (constant S_ .f32 0x45000000#32))) (constant S_ .f32 0x00000000#32) reducesTo_S8192_S_d0 h_S_)
end

variable {x y d t : 𝔸} {g : FVec Ideal S2048 .f32} {X Y D T : ℕ → ℕ → ℝ} {G : ℕ → ℝ}
  (hx : @Holds 8192 2048 x X) (hy : @Holds 8192 2048 y Y) (hd : @Holds 8192 2048 d D)
  (ht : @Holds 8192 2048 t T) (hg : Row (n := 2048) g G)

theorem rowSum_at (v : 𝔸) (i : Fin 8192) : rowSum v (ix1 i) = ∑ k : Fin 2048, v (ix2 i k) := by
  pointwise [rowSum]

theorem g_at (i : Fin 8192) (j : Fin 2048) : hG g (ix2 i j) = g (ix1 j) := by
  pointwise [hG]

include hx in
theorem ms_at (i : Fin 8192) : hMs x (ix2 i 0) = ((ms 2048 X i : ℝ) : EReal) := by
  pointwise [hMs, rowSum]
  exact ms_of (by norm_num) (hx i) width_lit

include hx in
theorem ri_at (i : Fin 8192) (j : Fin 2048) : hRi x (ix2 i j) = ((ri 2048 X i : ℝ) : EReal) := by
  pointwise [hRi]
  exact (congrArg Ideal.rsqrt (ms_at hx i)).trans (rsqrt_ms _ _ _)

include hx hg in
theorem norm_at : @Holds 8192 2048 (hNorm x g) (normed 2048 X G) := by
  intro i j
  pointwise [hNorm]
  rw [hx i j, ri_at hx i j, g_at i j, hg j, ← EReal.coe_mul, ← EReal.coe_mul]
  rfl

include hx hy hg in
theorem mixed_at : @Holds 8192 2048 (addf x (hNorm y g)) (mixed X Y G) := by
  intro i j
  refine (show addf x (hNorm y g) (ix2 i j) = x (ix2 i j) + hNorm y g (ix2 i j) from rfl).trans ?_
  rw [hx i j, norm_at hy hg i j, ← EReal.coe_add]
  rfl

include hx hd hg in
theorem s_at (i : Fin 8192) (j : Fin 2048) :
    hS x d g (ix2 i j) = (((∑ l : Fin 2048, X i l * (D i l * G l)) * (-(1 / 2) * (ri 2048 X i / ms 2048 X i)) / (2048 : ℕ) : ℝ) : EReal) := by
  pointwise [hS, hDot, rowSum]
  refine (Fin.sum_univ_one _).trans ?_
  beta_reduce
  rw [ms_at hx i, rsqrt_ms, dot_of (hx i) (fun l => by rw [hd i l, g_at i l, hg l, ← EReal.coe_mul]), neg_half_lit, Ideal.div_coe (ms_pos _ _ _).ne', ← EReal.coe_mul, ← EReal.coe_mul, ← EReal.coe_mul, width_lit, div_nat (by norm_num)]
  congr 2
  ring

include hx hd hg in
theorem back_at : @Holds 8192 2048 (hBack x d g) (back 2048 X G D) := by
  intro i j
  pointwise [hBack]
  rw [s_at hx hd hg i j, hx i j, ri_at hx i j, hd i j, g_at i j, hg j]
  simp only [← EReal.coe_mul, ← EReal.coe_add]
  exact congrArg _ (back_eq 2048 (by norm_num) X G D i j)

include hx hd ht hg in
theorem back_res_at : @Holds 8192 2048 (hBackRes x d t g) (fun i j => T i j + back 2048 X G D i j) := by
  intro i j
  pointwise [hBackRes]
  rw [s_at hx hd hg i j, hx i j, ri_at hx i j, hd i j, ht i j, g_at i j, hg j]
  simp only [← EReal.coe_mul, ← EReal.coe_add]
  rw [← back_eq 2048 (by norm_num) X G D i j]
  exact congrArg _ (by ring)

include hx hd in
theorem gain_at : Row (n := 2048) (hGain x d) (gain 2048 X D) := by
  intro k
  pointwise [hGain]
  rw [Finset.sum_congr rfl fun (i : Fin 8192) _ => show x (ix2 i k) * hRi x (ix2 i k) * d (ix2 i k) = ((D i k * hat 2048 X i k : ℝ) : EReal) by
    rw [hx i k, ri_at hx i k, hd i k, ← EReal.coe_mul, ← EReal.coe_mul, mul_comm]; rfl, Finite.coe_sum]
  exact Fin.sum_univ_one _

include hx in
theorem half_at : @Holds 8192 2048 (hHalf x) (fun i j => 1 / 2 * X i j) := by
  intro i j
  pointwise [hHalf]
  rw [hx i j, half_lit, ← EReal.coe_mul]

include hx hy ht hg in
theorem err_at : @Holds 8192 2048 (hErr x y t g) (err X Y G T) := by
  intro i j
  pointwise [hErr]
  rw [hx i j, half_at (norm_at hy hg) i j, ht i j, ← EReal.coe_add, ← EReal.coe_sub]
  rfl

include hx in
theorem dy_at : @Holds 8192 2048 (hDy x) (fun i j => 1 / 2048 * X i j) := by
  intro i j
  pointwise [hDy]
  rw [hx i j, half_lit, width_lit, two_lit, div_nat (by norm_num), ← EReal.coe_mul, ← EReal.coe_mul]
  congr 1
  push_cast
  ring

include hx in
theorem loss_at : hLoss x = fun _ => ((∑ i : Fin 8192, meanSq X i * (1 / 2) : ℝ) : EReal) := by
  funext j
  pointwise [hLoss]
  rw [Finset.sum_congr rfl fun (i : Fin 8192) _ => show Ideal.div (rowSum (mulf x x) (ix1 i)) (Ideal.ofBits .f32 0x45000000#32) = ((meanSq X i : ℝ) : EReal) by
    pointwise [rowSum]; rw [dot_of (hx i) (hx i), width_lit, div_nat (by norm_num)]; rfl, Finite.coe_sum, half_lit, ← EReal.coe_mul, ← Finset.sum_mul, mul_comm]

end Cert.Reference4Ideal.Value
-- ==== Proof.Norm.Pure.lean ====
/- The norms', the loss's and their gradients' eight results are the reference's and its derivative. -/
module

public import proofs.«01_k».proof.Defs
public import proofs.«01_k».proof.Proof.Norm.Run
public import proofs.«01_k».proof.Proof.Norm.Value
public import proofs.«01_k».proof.Proof.Norm.Ref
public import proofs.«01_k».proof.Proof.Gen.Pre_norm_finite

@[expose] public section

set_option maxRecDepth 16384

noncomputable section

open Idealize.ShloMosaic Idealize.ShloMosaic.TcCoe Idealize.SL.Sem

namespace Cert.Kernel4Ideal.Value
open Cert.Kernel4Ideal Cert.Kernel4Ideal.Gen Cert.Attn Cert.Norm

/-- The program's arguments hold real numbers. -/
structure Args (m : (ℓ : Loc nD τ sig) → Buf (Elt Ideal) ℓ) (c : Dev nD) (X Y Z : ℕ → ℕ → ℝ) (G1 G2 G3 : ℕ → ℝ) (T D : ℕ → ℕ → ℝ) : Prop where
  x : @Holds 8192 2048 (m ((c.tc : Thread nD τ).loc main_arg0)) X
  y : @Holds 8192 2048 (m ((c.tc : Thread nD τ).loc main_arg1)) Y
  z : @Holds 8192 2048 (m ((c.tc : Thread nD τ).loc main_arg2)) Z
  g1 : Row (n := 2048) (m ((c.tc : Thread nD τ).loc main_arg3)) G1
  g2 : Row (n := 2048) (m ((c.tc : Thread nD τ).loc main_arg4)) G2
  g3 : Row (n := 2048) (m ((c.tc : Thread nD τ).loc main_arg5)) G3
  t : @Holds 8192 2048 (m ((c.tc : Thread nD τ).loc main_arg6)) T
  d : @Holds 8192 2048 (m ((c.tc : Thread nD τ).loc main_arg7)) D

theorem row_in {r : FVec Ideal S1x2048 .f32} {v : FVec Ideal S2048 .f32} {G : ℕ → ℝ} (hv : Row v G) (e : r = shapeCast S1x2048 v shapeCasts_S2048_S1x2048) :
    @Holds 1 2048 r fun _ => G := by
  intro i j
  rw [e]
  pointwise
  exact hv j

theorem row_out {r : FVec Ideal S2048 .f32} {v : FVec Ideal S1x2048 .f32} {G : ℕ → ℝ} (hv : @Holds 1 2048 v fun _ => G) (e : r = shapeCast S2048 v shapeCasts_S1x2048_S2048) :
    Row r G := by
  intro j
  rw [e]
  pointwise
  exact hv 0 j

variable {m : (ℓ : Loc nD τ sig) → Buf (Elt Ideal) ℓ} {ρ : Dev nD → PrngReg} {c : Dev nD} {X Y Z T D : ℕ → ℕ → ℝ} {G1 G2 G3 : ℕ → ℝ}

/-- A buffer a call and the host lines before it leave alone keeps its contents. -/
theorem keep4 (b : Ref sig .tc) (h : b ∉ hostOps1_W) (h' : ∀ w : Fin cfg1.W, Pipeline.arrRef spec1 w = b → (cfg1.win w).isOut = false) : W4 m ρ c b = W2 m ρ c b := (W4_of m ρ c b h').trans (W3_of m ρ c b h)
theorem keep6 (b : Ref sig .tc) (h : b ∉ hostOps2_W) (h' : ∀ w : Fin cfg2.W, Pipeline.arrRef spec2 w = b → (cfg2.win w).isOut = false) : W6 m ρ c b = W4 m ρ c b := (W6_of m ρ c b h').trans (W5_of m ρ c b h)
theorem keep8 (b : Ref sig .tc) (h : b ∉ hostOps3_W) (h' : ∀ w : Fin cfg3.W, Pipeline.arrRef spec3 w = b → (cfg3.win w).isOut = false) : W8 m ρ c b = W6 m ρ c b := (W8_of m ρ c b h').trans (W7_of m ρ c b h)
theorem keep10 (b : Ref sig .tc) (h : b ∉ hostOps4_W) (h' : ∀ w : Fin cfg4.W, Pipeline.arrRef spec4 w = b → (cfg4.win w).isOut = false) : W10 m ρ c b = W8 m ρ c b := (W10_of m ρ c b h').trans (W9_of m ρ c b h)

variable (H : Args m c X Y Z G1 G2 G3 T D)
include H

theorem in_v0 : @Holds 1 2048 (V1 m ρ c main_v0) fun _ => G1 :=
  row_in H.g1 (by show W1 m ρ c main_v0 = _; unfold W1; after_results; rfl)
theorem in_v1 : @Holds 1 2048 (V1 m ρ c main_v1) fun _ => G2 :=
  row_in H.g2 (by show W1 m ρ c main_v1 = _; unfold W1; after_results; rfl)
theorem in_v3 : @Holds 1 2048 (V3 m ρ c main_v3) fun _ => G3 :=
  row_in H.g3 (by show W3 m ρ c main_v3 = _; unfold W3; after_results; rw [show W2 m ρ c main_arg5 = _ from W2_args m ρ c main_arg5 (by decide)]; rfl)
theorem in_v5 : @Holds 1 2048 (V5 m ρ c main_v5) fun _ => G3 :=
  row_in H.g3 (by show W5 m ρ c main_v5 = _; unfold W5; after_results; rw [show W4 m ρ c main_arg5 = _ from W4_args m ρ c main_arg5 (by decide)]; rfl)
theorem in_v8 : @Holds 1 2048 (V7 m ρ c main_v8) fun _ => G2 :=
  row_in H.g2 (by show W7 m ρ c main_v8 = _; unfold W7; after_results; rw [show W6 m ρ c main_arg4 = _ from W6_args m ρ c main_arg4 (by decide)]; rfl)
theorem in_v11 : @Holds 1 2048 (V9 m ρ c main_v11) fun _ => G1 :=
  row_in H.g1 (by show W9 m ρ c main_v11 = _; unfold W9; after_results; rw [show W8 m ρ c main_arg3 = _ from W8_args m ρ c main_arg3 (by decide)]; rfl)

/-- The stream after the mixing. -/
theorem at2_x : @Holds 8192 2048 (W2 m ρ c main_v2_0) (mixed X Y G1) :=
  holds_of_eq (final0_4 (V := V1 m ρ) (holds_of_eq H.x (W1_args m ρ c main_arg0 (by decide))) (holds_of_eq H.y (W1_args m ρ c main_arg1 (by decide))) (in_v0 H)) (W2_arr m ρ c 4)

theorem at3_x : @Holds 8192 2048 (V3 m ρ c main_v2_0) (mixed X Y G1) := holds_of_eq (at2_x H) (W3_of m ρ c main_v2_0 (by decide))

theorem at7_x : @Holds 8192 2048 (V7 m ρ c main_v2_0) (mixed X Y G1) :=
  holds_of_eq (at2_x H) ((W7_of m ρ c main_v2_0 (by decide)).trans ((keep6 main_v2_0 (by decide) (by decide)).trans (keep4 main_v2_0 (by decide) (by decide))))

/-- The result `h`. -/
theorem out_h : @Holds 8192 2048 (W11 m ρ c main_v2_1) (normed 2048 (mixed X Y G1) G2) :=
  holds_of_eq (final0_5 (V := V1 m ρ) (holds_of_eq H.x (W1_args m ρ c main_arg0 (by decide))) (holds_of_eq H.y (W1_args m ρ c main_arg1 (by decide))) (in_v0 H) (in_v1 H))
    ((W11_of m ρ c main_v2_1 (by decide)).trans ((keep10 main_v2_1 (by decide) (by decide)).trans ((keep8 main_v2_1 (by decide) (by decide)).trans ((keep6 main_v2_1 (by decide) (by decide)).trans ((keep4 main_v2_1 (by decide) (by decide)).trans (W2_arr m ρ c 5))))))

theorem at4_dy : @Holds 8192 2048 (W4 m ρ c main_v4_0) (lossGrad (mixed X Y G1) Z G3 T) :=
  holds_of_eq (final1_4 (V := V3 m ρ) (at3_x H) (holds_of_eq H.z (W3_args m ρ c main_arg2 (by decide))) (in_v3 H) (holds_of_eq H.t (W3_args m ρ c main_arg6 (by decide)))) (W4_arr m ρ c 4)

/-- The loss. -/
theorem out_loss : W11 m ρ c main_v14 = fun _ : S_.Idx => ((loss (mixed X Y G1) Z G3 T : ℝ) : EReal) := by
  have h := holds_of_eq (final1_5 (V := V3 m ρ) (at3_x H) (holds_of_eq H.z (W3_args m ρ c main_arg2 (by decide))) (in_v3 H) (holds_of_eq H.t (W3_args m ρ c main_arg6 (by decide))))
    ((keep10 main_v4_1 (by decide) (by decide)).trans ((keep8 main_v4_1 (by decide) (by decide)).trans ((keep6 main_v4_1 (by decide) (by decide)).trans (W4_arr m ρ c 5))))
  have e : W11 m ρ c main_v14 = shapeCast S_ (W10 m ρ c main_v4_1) shapeCasts_S1x1_S_ := by unfold W11; after_results; rfl
  rw [e]
  funext x
  pointwise
  exact h 0 0

theorem at5_dy : @Holds 8192 2048 (V5 m ρ c main_v4_0) (lossGrad (mixed X Y G1) Z G3 T) := holds_of_eq (at4_dy H) (W5_of m ρ c main_v4_0 (by decide))

theorem at7_dy : @Holds 8192 2048 (V7 m ρ c main_v4_0) (lossGrad (mixed X Y G1) Z G3 T) :=
  holds_of_eq (at4_dy H) ((W7_of m ρ c main_v4_0 (by decide)).trans (keep6 main_v4_0 (by decide) (by decide)))

/-- The gradient in the last block's output. -/
theorem out_dz : @Holds 8192 2048 (W11 m ρ c main_v6_0) (back 2048 Z G3 fun i k => 1 / 2 * lossGrad (mixed X Y G1) Z G3 T i k) :=
  holds_of_eq (final2_3 (V := V5 m ρ) (holds_of_eq H.z (W5_args m ρ c main_arg2 (by decide))) (at5_dy H) (in_v5 H))
    ((W11_of m ρ c main_v6_0 (by decide)).trans ((keep10 main_v6_0 (by decide) (by decide)).trans ((keep8 main_v6_0 (by decide) (by decide)).trans (W6_arr m ρ c 3))))

/-- The gradient in the last norm's gains. -/
theorem out_g3 : Row (n := 2048) (W11 m ρ c main_v7) (gain 2048 Z fun i k => 1 / 2 * lossGrad (mixed X Y G1) Z G3 T i k) :=
  row_out (holds_of_eq (final2_4 (V := V5 m ρ) (holds_of_eq H.z (W5_args m ρ c main_arg2 (by decide))) (at5_dy H)) (W6_arr m ρ c 4))
    ((W11_of m ρ c main_v7 (by decide)).trans ((keep10 main_v7 (by decide) (by decide)).trans ((W8_of m ρ c main_v7 (by decide)).trans (by unfold W7; after_results; rfl))))

theorem at8_dx : @Holds 8192 2048 (W8 m ρ c main_v9_0) (streamGrad (mixed X Y G1) Z G2 G3 T D) :=
  holds_of_eq (final3_4 (V := V7 m ρ) (at7_x H) (holds_of_eq H.d (W7_args m ρ c main_arg7 (by decide))) (in_v8 H) (at7_dy H)) (W8_arr m ρ c 4)

theorem at9_dx : @Holds 8192 2048 (V9 m ρ c main_v9_0) (streamGrad (mixed X Y G1) Z G2 G3 T D) := holds_of_eq (at8_dx H) (W9_of m ρ c main_v9_0 (by decide))

/-- The gradient in the stream. -/
theorem out_dx : @Holds 8192 2048 (W11 m ρ c main_v9_0) (streamGrad (mixed X Y G1) Z G2 G3 T D) :=
  holds_of_eq (at8_dx H) ((W11_of m ρ c main_v9_0 (by decide)).trans (keep10 main_v9_0 (by decide) (by decide)))

/-- The gradient in the gains before the last block. -/
theorem out_g2 : Row (n := 2048) (W11 m ρ c main_v10) (gain 2048 (mixed X Y G1) D) :=
  row_out (holds_of_eq (final3_5 (V := V7 m ρ) (at7_x H) (holds_of_eq H.d (W7_args m ρ c main_arg7 (by decide)))) (W8_arr m ρ c 5))
    ((W11_of m ρ c main_v10 (by decide)).trans ((W10_of m ρ c main_v10 (by decide)).trans (by unfold W9; after_results; rfl)))

/-- The gradient in the mixing's output. -/
theorem out_dy : @Holds 8192 2048 (W11 m ρ c main_v12_0) (back 2048 Y G1 (streamGrad (mixed X Y G1) Z G2 G3 T D)) :=
  holds_of_eq (final4_3 (V := V9 m ρ) (holds_of_eq H.y (W9_args m ρ c main_arg1 (by decide))) (at9_dx H) (in_v11 H)) ((W11_of m ρ c main_v12_0 (by decide)).trans (W10_arr m ρ c 3))

/-- The gradient in the gains after the mixing. -/
theorem out_g1 : Row (n := 2048) (W11 m ρ c main_v13) (gain 2048 Y (streamGrad (mixed X Y G1) Z G2 G3 T D)) :=
  row_out (holds_of_eq (final4_4 (V := V9 m ρ) (holds_of_eq H.y (W9_args m ρ c main_arg1 (by decide))) (at9_dx H)) (W10_arr m ρ c 4)) (by unfold W11; after_results; rfl)

end Cert.Kernel4Ideal.Value

namespace Cert.Norm
open Cert.Attn
local instance : Cert.Kernel4Ideal.Facts := Cert.Kernel4Ideal.Gen.facts
local instance : Cert.Reference4Ideal.Facts := Cert.Reference4Ideal.Gen.facts
local instance : Cert.Pre_norm_finite.Facts := Cert.Pre_norm_finite.Gen.facts

open Cert.Kernel4Ideal Cert.Kernel4Ideal.Value in
/-- Under the precondition every argument holds real numbers. -/
theorem reals {m : (ℓ : Loc nD τ sig) → Buf (Elt Ideal) ℓ} (hpre : Cert.Pre_Kernel4Ideal_norm_finite m) (c : Dev nD) : ∃ (X Y Z : ℕ → ℕ → ℝ) (G1 G2 G3 : ℕ → ℝ) (T D : ℕ → ℕ → ℝ), Args m c X Y Z G1 G2 G3 T D := by
  have h := hpre c
  dsimp only [Pre_norm_finite.fn, Pre_norm_finite.fn_part1] at h
  obtain ⟨h0, h1, h2, h3, h4, h5, h6, h7⟩ := h
  obtain ⟨X, hX⟩ := exists_holds (Finite.reals_of_mask_f32 _ h0)
  obtain ⟨Y, hY⟩ := exists_holds (Finite.reals_of_mask_f32 _ h1)
  obtain ⟨Z, hZ⟩ := exists_holds (Finite.reals_of_mask_f32 _ h2)
  obtain ⟨G1, hG1⟩ := exists_row (Finite.reals_of_mask_f32 _ h3)
  obtain ⟨G2, hG2⟩ := exists_row (Finite.reals_of_mask_f32 _ h4)
  obtain ⟨G3, hG3⟩ := exists_row (Finite.reals_of_mask_f32 _ h5)
  obtain ⟨T, hT⟩ := exists_holds (Finite.reals_of_mask_f32 _ h6)
  obtain ⟨D, hD⟩ := exists_holds (Finite.reals_of_mask_f32 _ h7)
  exact ⟨X, Y, Z, G1, G2, G3, T, D, hX, hY, hZ, hG1, hG2, hG3, hT, hD⟩

set_option maxHeartbeats 1000000 in
open Cert.Kernel4Ideal.Value Cert.Reference4Ideal.Value in
/-- The norms, the loss and their gradients: all eight results equal the reference's. -/
theorem algebraic : Cert.algebraic_Kernel4Ideal_Reference4Ideal_pre_norm_finite := by
  pair_intro
  · run_from Cert.Kernel4Ideal.Value.run m g
  · run_from Cert.Reference4Ideal.Value.run m' g'
    all_goals
      obtain ⟨X, Y, Z, G1, G2, G3, T, D, H⟩ := reals hpre c
      obtain ⟨e0, e1, e2, e3, e4, e5, e6, e7⟩ := hagree c
      have mx := mixed_at H.x H.y H.g1
      have er := err_at mx H.z H.t H.g3
      have hy := holds_of_eq H.y e1
      have hz := holds_of_eq H.z e2
      have g1 := row_of_eq H.g1 e3
      have g3 := row_of_eq H.g3 e5
      have my := mixed_at (holds_of_eq H.x e0) hy g1
      have dy := dy_at (err_at my hz (holds_of_eq H.t e6) g3)
      have dx := back_res_at my (holds_of_eq H.d e7) dy (row_of_eq H.g2 e4)
    · exact (loss_at er).trans (out_loss H).symm
    · exact holds_ext (norm_at mx H.g2) (out_h H) fun _ _ => rfl
    · exact holds_ext dx (out_dx H) fun _ _ => rfl
    · exact holds_ext (back_at hy dx g1) (out_dy H) fun _ _ => rfl
    · exact holds_ext (back_at hz (half_at dy) g3) (out_dz H) fun _ _ => rfl
    · exact row_ext (gain_at hy dx) (out_g1 H)
    · exact row_ext (gain_at mx H.d) (out_g2 H)
    · exact row_ext (gain_at H.z (half_at (dy_at er))) (out_g3 H)

end Cert.Norm
end
-- ==== Proof.lean ====
module

public import proofs.«01_k».proof.Proof.Gen.Kernel.Frame
public import proofs.«01_k».proof.Proof.Gen.Kernel3.Frame
public import proofs.«01_k».proof.Proof.Gen.Kernel2.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Rank.Pure
public import proofs.«01_k».proof.Proof.Product
public import proofs.«01_k».proof.Proof.Step
public import proofs.«01_k».proof.Proof.Rank.FwdCkv
public import proofs.«01_k».proof.Proof.Gate.Pure
public import proofs.«01_k».proof.Proof.Dil.Pure
public import proofs.«01_k».proof.Proof.Norm.Pure

@[expose] public section

noncomputable section

namespace Cert.Proof

open Idealize.ShloMosaic Idealize.SL.Sem Cert.Kernel3

theorem frame_gate_reference : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

theorem frame_attention_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem frame_dilated_reference : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

theorem frame_norm_reference : Cert.quiescent_Reference4Ideal := fun m ρ _ =>
  (θ_run Cert.Reference4Ideal.defs _ _).mono (fun r h => ⟨fun c => (h c).2.2.2.2.2.2.2.2,
      Idealize.ShloMosaic.sem_eq_zero_of_no_sems (by decide) r.2⟩)
    (Cert.Reference4Ideal.Value.run (F := Ideal) m ρ)

theorem frame_rank_back_q_reference : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem frame_rank_back_kv_reference : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

theorem frame_rank_q_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem frame_rank_kv_reference : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem frame_product_reference : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem frame_adamw_reference : Cert.quiescent_Reference10Ideal := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)

theorem frame_sum_reference : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

theorem claim : Cert.Claim := ⟨Cert.Kernel3.Gen.facts, Cert.Kernel3Ideal.Gen.facts, Cert.Reference3Ideal.Gen.facts,
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_gate_finite.Gen.facts, Cert.Pre_mla_finite.Gen.facts, Cert.Pre_dil_finite.Gen.facts, Cert.Pre_norm_finite.Gen.facts, Cert.Pre_rank_finite.Gen.facts,
  fun m ρ _ => Cert.Kernel3.Gen.frame m ρ, fun m ρ _ => Cert.Kernel3Ideal.Gen.frame m ρ, fun m ρ _ => Cert.Kernel3Ideal.Gen.frame m ρ,
  fun m ρ _ => frame_gate_reference m ρ trivial, fun m ρ _ => frame_gate_reference m ρ trivial,
  fun m ρ _ => Cert.Kernel.Gen.frame m ρ, fun m ρ _ => Cert.KernelIdeal.Gen.frame m ρ, fun m ρ _ => Cert.KernelIdeal.Gen.frame m ρ,
  fun m ρ _ => frame_attention_reference m ρ trivial, fun m ρ _ => frame_attention_reference m ρ trivial,
  fun m ρ _ => Cert.Kernel2.Gen.frame m ρ, fun m ρ _ => Cert.Kernel2Ideal.Gen.frame m ρ, fun m ρ _ => Cert.Kernel2Ideal.Gen.frame m ρ,
  fun m ρ _ => frame_dilated_reference m ρ trivial, fun m ρ _ => frame_dilated_reference m ρ trivial,
  fun m ρ _ => Cert.Kernel4.Gen.frame m ρ, fun m ρ _ => Cert.Kernel4Ideal.Gen.frame m ρ, fun m ρ _ => Cert.Kernel4Ideal.Gen.frame m ρ,
  fun m ρ _ => frame_norm_reference m ρ trivial, fun m ρ _ => frame_norm_reference m ρ trivial,
  fun m ρ _ => Cert.Kernel5.Gen.frame m ρ, fun m ρ _ => Cert.Kernel5Ideal.Gen.frame m ρ, fun m ρ _ => Cert.Kernel5Ideal.Gen.frame m ρ,
  fun m ρ _ => frame_rank_back_q_reference m ρ trivial, fun m ρ _ => frame_rank_back_q_reference m ρ trivial,
  fun m ρ _ => Cert.Kernel6.Gen.frame m ρ, fun m ρ _ => Cert.Kernel6Ideal.Gen.frame m ρ, fun m ρ _ => Cert.Kernel6Ideal.Gen.frame m ρ,
  fun m ρ _ => frame_rank_back_kv_reference m ρ trivial, fun m ρ _ => frame_rank_back_kv_reference m ρ trivial,
  fun m ρ _ => Cert.Kernel7.Gen.frame m ρ, fun m ρ _ => Cert.Kernel7Ideal.Gen.frame m ρ, frame_rank_q_reference,
  fun m ρ _ => Cert.Kernel8.Gen.frame m ρ, fun m ρ _ => Cert.Kernel8Ideal.Gen.frame m ρ, frame_rank_kv_reference,
  fun m ρ _ => Cert.Kernel9.Gen.frame m ρ, fun m ρ _ => Cert.Kernel9Ideal.Gen.frame m ρ, frame_product_reference,
  fun m ρ _ => Cert.Kernel10.Gen.frame m ρ, fun m ρ _ => Cert.Kernel10Ideal.Gen.frame m ρ, frame_adamw_reference,
  fun m ρ _ => Cert.Kernel11.Gen.frame m ρ, fun m ρ _ => Cert.Kernel11Ideal.Gen.frame m ρ, frame_sum_reference,
  trivial, Cert.Gate.algebraic,
  IdealRules.named_const.statement Cert.KernelIdeal.κ "mask" .f32 0xF149F2CA#32 ⊥ rfl, Cert.Attn.algebraic,
  IdealRules.named_const.statement Cert.Kernel2Ideal.κ "mask" .f32 0xF149F2CA#32 ⊥ rfl, Cert.Dil.algebraic,
  trivial, Cert.Norm.algebraic,
  trivial, Cert.Rank.algebraic5, trivial, Cert.Rank.algebraic6, trivial, Cert.Rank.algebraic7, trivial, Cert.Rank.algebraic8,
  trivial, Cert.Product.algebraic, trivial, Cert.Step.algebraic10, trivial, Cert.Step.algebraic11⟩

end Cert.Proof

end
